-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)) (v3 : (c : Dev Cert.KernelIdeal.nD) → Buf (Elt Ideal) ((c.tc : Thread Cert.KernelIdeal.nD Cert.KernelIdeal.τ).loc Cert.KernelIdeal.main_v26_3)) (v4 : (c : Dev Cert.KernelIdeal.nD) → Buf (Elt Ideal) ((c.tc : Thread Cert.KernelIdeal.nD Cert.KernelIdeal.τ).loc Cert.KernelIdeal.main_v26_4)) (v5 : (c : Dev Cert.KernelIdeal.nD) → Buf (Elt Ideal) ((c.tc : Thread Cert.KernelIdeal.nD Cert.KernelIdeal.τ).loc Cert.KernelIdeal.main_v26_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_v26_3) = v3 c
          ∧ r.2.mem ((c.tc : Thread Cert.KernelIdeal.nD Cert.KernelIdeal.τ).loc Cert.KernelIdeal.main_v26_4) = v4 c
          ∧ r.2.mem ((c.tc : Thread Cert.KernelIdeal.nD Cert.KernelIdeal.τ).loc Cert.KernelIdeal.main_v26_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_v218) = v1 c
          ∧ r.2.mem ((c.tc : Thread Cert.ReferenceIdeal.nD Cert.ReferenceIdeal.τ).loc Cert.ReferenceIdeal.main_v219) = v2 c
          ∧ r.2.mem ((c.tc : Thread Cert.ReferenceIdeal.nD Cert.ReferenceIdeal.τ).loc Cert.ReferenceIdeal.main_v216) = v3 c
          ∧ r.2.mem ((c.tc : Thread Cert.ReferenceIdeal.nD Cert.ReferenceIdeal.τ).loc Cert.ReferenceIdeal.main_v189) = v4 c
          ∧ r.2.mem ((c.tc : Thread Cert.ReferenceIdeal.nD Cert.ReferenceIdeal.τ).loc Cert.ReferenceIdeal.main_v185) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)) (v2 : (c : Dev Cert.Kernel2Ideal.nD) → Buf (Elt Ideal) ((c.tc : Thread Cert.Kernel2Ideal.nD Cert.Kernel2Ideal.τ).loc Cert.Kernel2Ideal.main_v18_2)) (v3 : (c : Dev Cert.Kernel2Ideal.nD) → Buf (Elt Ideal) ((c.tc : Thread Cert.Kernel2Ideal.nD Cert.Kernel2Ideal.τ).loc Cert.Kernel2Ideal.main_v18_3)) (v4 : (c : Dev Cert.Kernel2Ideal.nD) → Buf (Elt Ideal) ((c.tc : Thread Cert.Kernel2Ideal.nD Cert.Kernel2Ideal.τ).loc Cert.Kernel2Ideal.main_v18_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_v18_2) = v2 c
          ∧ r.2.mem ((c.tc : Thread Cert.Kernel2Ideal.nD Cert.Kernel2Ideal.τ).loc Cert.Kernel2Ideal.main_v18_3) = v3 c
          ∧ r.2.mem ((c.tc : Thread Cert.Kernel2Ideal.nD Cert.Kernel2Ideal.τ).loc Cert.Kernel2Ideal.main_v18_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_v58) = v2 c
          ∧ r.2.mem ((c.tc : Thread Cert.Reference2Ideal.nD Cert.Reference2Ideal.τ).loc Cert.Reference2Ideal.main_v59) = v3 c
          ∧ r.2.mem ((c.tc : Thread Cert.Reference2Ideal.nD Cert.Reference2Ideal.τ).loc Cert.Reference2Ideal.main_v36) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)) (v3 : (c : Dev Cert.Kernel4Ideal.nD) → Buf (Elt Ideal) ((c.tc : Thread Cert.Kernel4Ideal.nD Cert.Kernel4Ideal.τ).loc Cert.Kernel4Ideal.main_v13_3)) (v4 : (c : Dev Cert.Kernel4Ideal.nD) → Buf (Elt Ideal) ((c.tc : Thread Cert.Kernel4Ideal.nD Cert.Kernel4Ideal.τ).loc Cert.Kernel4Ideal.main_v13_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_v13_3) = v3 c
          ∧ r.2.mem ((c.tc : Thread Cert.Kernel4Ideal.nD Cert.Kernel4Ideal.τ).loc Cert.Kernel4Ideal.main_v13_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_v22) = v3 c
          ∧ r.2.mem ((c.tc : Thread Cert.Reference4Ideal.nD Cert.Reference4Ideal.τ).loc Cert.Reference4Ideal.main_v38) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)) (v2 : (c : Dev Cert.Kernel6Ideal.nD) → Buf (Elt Ideal) ((c.tc : Thread Cert.Kernel6Ideal.nD Cert.Kernel6Ideal.τ).loc Cert.Kernel6Ideal.main_v13_2)) (v3 : (c : Dev Cert.Kernel6Ideal.nD) → Buf (Elt Ideal) ((c.tc : Thread Cert.Kernel6Ideal.nD Cert.Kernel6Ideal.τ).loc Cert.Kernel6Ideal.main_v13_3)) (v4 : (c : Dev Cert.Kernel6Ideal.nD) → Buf (Elt Ideal) ((c.tc : Thread Cert.Kernel6Ideal.nD Cert.Kernel6Ideal.τ).loc Cert.Kernel6Ideal.main_v13_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_v13_2) = v2 c
          ∧ r.2.mem ((c.tc : Thread Cert.Kernel6Ideal.nD Cert.Kernel6Ideal.τ).loc Cert.Kernel6Ideal.main_v13_3) = v3 c
          ∧ r.2.mem ((c.tc : Thread Cert.Kernel6Ideal.nD Cert.Kernel6Ideal.τ).loc Cert.Kernel6Ideal.main_v13_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_v40) = v2 c
          ∧ r.2.mem ((c.tc : Thread Cert.Reference6Ideal.nD Cert.Reference6Ideal.τ).loc Cert.Reference6Ideal.main_v41) = v3 c
          ∧ r.2.mem ((c.tc : Thread Cert.Reference6Ideal.nD Cert.Reference6Ideal.τ).loc Cert.Reference6Ideal.main_v42) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v13)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v41) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v13)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v13) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v46) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_v23) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S4096x2560 : Shape := ⟨2, ![4096, 2560]⟩
abbrev S4096x1024 : Shape := ⟨2, ![4096, 1024]⟩
abbrev S1x64 : Shape := ⟨2, ![1, 64]⟩
abbrev S12x192 : Shape := ⟨2, ![12, 192]⟩
abbrev S_ : Shape := ⟨0, ![]⟩

class Facts : Prop where
  bitsLt_bf16_f32 : FTy.bits .bf16 < FTy.bits .f32
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x64 : S_.BroadcastsInDim S1x64 (![] : Fin 0 → Fin S1x64.rank)
  reducesTo_S1x64_S_d0_1 : S1x64.ReducesTo [0, 1] S_
  bcast_S_S12x192 : S_.BroadcastsInDim S12x192 (![] : Fin 0 → Fin S12x192.rank)
  reducesTo_S12x192_S_d0_1 : S12x192.ReducesTo [0, 1] S_

variable [Facts]

def fn_part1 {F : FTy → Type} [FloatOps F] (main_arg4 : FVec F S12x192 .f32) (main_v15 : IVec S_ 1) (main_v16 : FVec F S1x64 .f32) (main_cst_4 : FVec F S_ .f32) : IVec S_ 1 :=
  let main_v17 : FVec F S1x64 .f32 := broadcastInDim S1x64 ![] bcast_S_S1x64 main_cst_4
  let main_v18 : IVec S1x64 1 := cmpf .olt main_v16 main_v17
  let main_c_5 : IVec S_ 1 := constantI S_ 1 1#1
  let main_v19 : IVec S_ 1 := (fun x v => Host.reduce IntOp.andi x v reducesTo_S1x64_S_d0_1 h_S_) main_v18 main_c_5
  let main_v20 : IVec S_ 1 := andi main_v15 main_v19
  let main_v21 : FVec F S12x192 .f32 := Host.absf main_arg4
  let main_cst_6 : FVec F S_ .f32 := constant S_ .f32 0x7F800000#32
  let main_v22 : FVec F S12x192 .f32 := broadcastInDim S12x192 ![] bcast_S_S12x192 main_cst_6
  let main_v23 : IVec S12x192 1 := cmpf .olt main_v21 main_v22
  let main_c_7 : IVec S_ 1 := constantI S_ 1 1#1
  let main_v24 : IVec S_ 1 := (fun x v => Host.reduce IntOp.andi x v reducesTo_S12x192_S_d0_1 h_S_) main_v23 main_c_7
  let main_v25 : IVec S_ 1 := andi main_v20 main_v24
  main_v25

def fn {F : FTy → Type} [FloatOps F] (main_arg0 : FVec F S4096x2560 .bf16) (main_arg1 : FVec F S4096x1024 .bf16) (main_arg2 : FVec F S1x64 .f32) (main_arg3 : FVec F S1x64 .f32) (main_arg4 : FVec F S12x192 .f32) : IVec S_ 1 :=
  let main_v0 : FVec F S4096x2560 .f32 := (extf .f32 · bitsLt_bf16_f32) main_arg0
  let main_v1 : FVec F S4096x2560 .f32 := Host.absf main_v0
  let main_cst : FVec F S_ .f32 := constant S_ .f32 0x7F800000#32
  let main_v2 : FVec F S4096x2560 .f32 := broadcastInDim S4096x2560 ![] bcast_S_S4096x2560 main_cst
  let main_v3 : IVec S4096x2560 1 := cmpf .olt main_v1 main_v2
  let main_c : IVec S_ 1 := constantI S_ 1 1#1
  let main_v4 : IVec S_ 1 := (fun x v => Host.reduce IntOp.andi x v reducesTo_S4096x2560_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S1x64 .f32 := Host.absf main_arg2
  let main_cst_2 : FVec F S_ .f32 := constant S_ .f32 0x7F800000#32
  let main_v12 : FVec F S1x64 .f32 := broadcastInDim S1x64 ![] bcast_S_S1x64 main_cst_2
  let main_v13 : IVec S1x64 1 := cmpf .olt main_v11 main_v12
  let main_c_3 : IVec S_ 1 := constantI S_ 1 1#1
  let main_v14 : IVec S_ 1 := (fun x v => Host.reduce IntOp.andi x v reducesTo_S1x64_S_d0_1 h_S_) main_v13 main_c_3
  let main_v15 : IVec S_ 1 := andi main_v10 main_v14
  let main_v16 : FVec F S1x64 .f32 := Host.absf main_arg3
  let main_cst_4 : FVec F S_ .f32 := constant S_ .f32 0x7F800000#32
  fn_part1 (F := F) main_arg4 main_v15 main_v16 main_cst_4
-- ==== Pre_finite2.lean ====
abbrev S4096x1024 : Shape := ⟨2, ![4096, 1024]⟩
abbrev S1x1024 : Shape := ⟨2, ![1, 1024]⟩
abbrev S2816x1024 : Shape := ⟨2, ![2816, 1024]⟩
abbrev S1024x1024 : Shape := ⟨2, ![1024, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v32 : IVec S_ 1) (main_v34 : FVec F S1024x1024 .f32) (main_cst_10 : FVec F S_ .f32) : IVec S_ 1 :=
  let main_v35 : FVec F S1024x1024 .f32 := broadcastInDim S1024x1024 ![] bcast_S_S1024x1024 main_cst_10
  let main_v36 : IVec S1024x1024 1 := cmpf .olt main_v34 main_v35
  let main_c_11 : IVec S_ 1 := constantI S_ 1 1#1
  let main_v37 : IVec S_ 1 := (fun x v => Host.reduce IntOp.andi x v reducesTo_S1024x1024_S_d0_1 h_S_) main_v36 main_c_11
  let main_v38 : IVec S_ 1 := andi main_v32 main_v37
  main_v38

def fn_part1 {F : FTy → Type} [FloatOps F] (main_arg4 : FVec F S2816x1024 .bf16) (main_arg5 : FVec F S2816x1024 .bf16) (main_arg6 : FVec F S1024x1024 .bf16) (main_v14 : IVec S_ 1) (main_v16 : FVec F S2816x1024 .f32) (main_cst_4 : FVec F S_ .f32) : IVec S_ 1 :=
  let main_v17 : FVec F S2816x1024 .f32 := broadcastInDim S2816x1024 ![] bcast_S_S2816x1024 main_cst_4
  let main_v18 : IVec S2816x1024 1 := cmpf .olt main_v16 main_v17
  let main_c_5 : IVec S_ 1 := constantI S_ 1 1#1
  let main_v19 : IVec S_ 1 := (fun x v => Host.reduce IntOp.andi x v reducesTo_S2816x1024_S_d0_1 h_S_) main_v18 main_c_5
  let main_v20 : IVec S_ 1 := andi main_v14 main_v19
  let main_v21 : FVec F S2816x1024 .f32 := (extf .f32 · bitsLt_bf16_f32) main_arg4
  let main_v22 : FVec F S2816x1024 .f32 := Host.absf main_v21
  let main_cst_6 : FVec F S_ .f32 := constant S_ .f32 0x7F800000#32
  let main_v23 : FVec F S2816x1024 .f32 := broadcastInDim S2816x1024 ![] bcast_S_S2816x1024 main_cst_6
  let main_v24 : IVec S2816x1024 1 := cmpf .olt main_v22 main_v23
  let main_c_7 : IVec S_ 1 := constantI S_ 1 1#1
  let main_v25 : IVec S_ 1 := (fun x v => Host.reduce IntOp.andi x v reducesTo_S2816x1024_S_d0_1 h_S_) main_v24 main_c_7
  let main_v26 : IVec S_ 1 := andi main_v20 main_v25
  let main_v27 : FVec F S2816x1024 .f32 := (extf .f32 · bitsLt_bf16_f32) main_arg5
  let main_v28 : FVec F S2816x1024 .f32 := Host.absf main_v27
  let main_cst_8 : FVec F S_ .f32 := constant S_ .f32 0x7F800000#32
  let main_v29 : FVec F S2816x1024 .f32 := broadcastInDim S2816x1024 ![] bcast_S_S2816x1024 main_cst_8
  let main_v30 : IVec S2816x1024 1 := cmpf .olt main_v28 main_v29
  let main_c_9 : IVec S_ 1 := constantI S_ 1 1#1
  let main_v31 : IVec S_ 1 := (fun x v => Host.reduce IntOp.andi x v reducesTo_S2816x1024_S_d0_1 h_S_) main_v30 main_c_9
  let main_v32 : IVec S_ 1 := andi main_v26 main_v31
  let main_v33 : FVec F S1024x1024 .f32 := (extf .f32 · bitsLt_bf16_f32) main_arg6
  let main_v34 : FVec F S1024x1024 .f32 := Host.absf main_v33
  let main_cst_10 : FVec F S_ .f32 := constant S_ .f32 0x7F800000#32
  fn_part2 (F := F) main_v32 main_v34 main_cst_10

def fn {F : FTy → Type} [FloatOps F] (main_arg0 : FVec F S4096x1024 .bf16) (main_arg1 : FVec F S4096x1024 .f32) (main_arg2 : FVec F S1x1024 .f32) (main_arg3 : FVec F S2816x1024 .bf16) (main_arg4 : FVec F S2816x1024 .bf16) (main_arg5 : FVec F S2816x1024 .bf16) (main_arg6 : FVec F S1024x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v4 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S2816x1024 .f32 := (extf .f32 · bitsLt_bf16_f32) main_arg3
  let main_v16 : FVec F S2816x1024 .f32 := Host.absf main_v15
  let main_cst_4 : FVec F S_ .f32 := constant S_ .f32 0x7F800000#32
  fn_part1 (F := F) main_arg4 main_arg5 main_arg6 main_v14 main_v16 main_cst_4
-- ==== Kernel.lean ====
abbrev S4096x2560 : Shape := ⟨2, ![4096, 2560]⟩
abbrev S4096x1024 : Shape := ⟨2, ![4096, 1024]⟩
abbrev S1x64 : Shape := ⟨2, ![1, 64]⟩
abbrev S12x192 : Shape := ⟨2, ![12, 192]⟩
abbrev S256x768 : Shape := ⟨2, ![256, 768]⟩
abbrev S_ : Shape := ⟨0, ![]⟩
abbrev S256x768x1 : Shape := ⟨3, ![256, 768, 1]⟩
abbrev S12x256x768 : Shape := ⟨3, ![12, 256, 768]⟩
abbrev S1x128 : Shape := ⟨2, ![1, 128]⟩
abbrev S4096x768 : Shape := ⟨2, ![4096, 768]⟩
abbrev S2048x128 : Shape := ⟨2, ![2048, 128]⟩
abbrev S2x256x768 : Shape := ⟨3, ![2, 256, 768]⟩
abbrev S2048 : Shape := ⟨1, ![2048]⟩
abbrev S2048x1 : Shape := ⟨2, ![2048, 1]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S1x256x512 : Shape := ⟨3, ![1, 256, 512]⟩
abbrev S768x128 : Shape := ⟨2, ![768, 128]⟩
abbrev S1x256x768 : Shape := ⟨3, ![1, 256, 768]⟩
abbrev S128 : Shape := ⟨1, ![128]⟩

abbrev nBuf : Space → Nat
  | .hbm => 57
  | .vmem => 27
  | .smem => 0
  | _ => 0

abbrev bufTy : (tb : Table) → Fin (tcTables nBuf tb) → BufTy
  | .hbm, ⟨0, _⟩ => ⟨S4096x2560, .bf16⟩
  | .hbm, ⟨1, _⟩ => ⟨S4096x1024, .bf16⟩
  | .hbm, ⟨2, _⟩ => ⟨S1x64, .f32⟩
  | .hbm, ⟨3, _⟩ => ⟨S1x64, .f32⟩
  | .hbm, ⟨4, _⟩ => ⟨S12x192, .f32⟩
  | .hbm, ⟨5, _⟩ => ⟨S256x768, .i32⟩
  | .hbm, ⟨6, _⟩ => ⟨S256x768, .i32⟩
  | .hbm, ⟨7, _⟩ => ⟨S_, .i32⟩
  | .hbm, ⟨8, _⟩ => ⟨S256x768, .i32⟩
  | .hbm, ⟨9, _⟩ => ⟨S256x768, .i32⟩
  | .hbm, ⟨10, _⟩ => ⟨S256x768, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S256x768, .i32⟩
  | .hbm, ⟨15, _⟩ => ⟨S256x768, .i32⟩
  | .hbm, ⟨16, _⟩ => ⟨S_, .i32⟩
  | .hbm, ⟨17, _⟩ => ⟨S256x768, .i32⟩
  | .hbm, ⟨18, _⟩ => ⟨S256x768, .i32⟩
  | .hbm, ⟨19, _⟩ => ⟨S_, .i32⟩
  | .hbm, ⟨20, _⟩ => ⟨S256x768, .i32⟩
  | .hbm, ⟨21, _⟩ => ⟨S256x768, .i32⟩
  | .hbm, ⟨22, _⟩ => ⟨S_, .i32⟩
  | .hbm, ⟨23, _⟩ => ⟨S256x768, .i32⟩
  | .hbm, ⟨24, _⟩ => ⟨S256x768, .i32⟩
  | .hbm, ⟨25, _⟩ => ⟨S_, .i32⟩
  | .hbm, ⟨26, _⟩ => ⟨S256x768, .i32⟩
  | .hbm, ⟨27, _⟩ => ⟨S256x768, .i32⟩
  | .hbm, ⟨28, _⟩ => ⟨S_, .i32⟩
  | .hbm, ⟨29, _⟩ => ⟨S256x768, .i32⟩
  | .hbm, ⟨30, _⟩ => ⟨S256x768, .i32⟩
  | .hbm, ⟨31, _⟩ => ⟨S_, .i32⟩
  | .hbm, ⟨32, _⟩ => ⟨S256x768, .i32⟩
  | .hbm, ⟨33, _⟩ => ⟨S256x768, .i32⟩
  | .hbm, ⟨34, _⟩ => ⟨S256x768, .i32⟩
  | .hbm, ⟨35, _⟩ => ⟨S_, .i32⟩
  | .hbm, ⟨36, _⟩ => ⟨S256x768, .i32⟩
  | .hbm, ⟨37, _⟩ => ⟨S256x768, .i1⟩
  | .hbm, ⟨38, _⟩ => ⟨S_, .i32⟩
  | .hbm, ⟨39, _⟩ => ⟨S256x768, .i32⟩
  | .hbm, ⟨40, _⟩ => ⟨S256x768, .i1⟩
  | .hbm, ⟨41, _⟩ => ⟨S256x768, .i1⟩
  | .hbm, ⟨42, _⟩ => ⟨S256x768x1, .i32⟩
  | .hbm, ⟨43, _⟩ => ⟨S12x256x768, .f32⟩
  | .hbm, ⟨44, _⟩ => ⟨S_, .f32⟩
  | .hbm, ⟨45, _⟩ => ⟨S_, .f32⟩
  | .hbm, ⟨46, _⟩ => ⟨S12x256x768, .i1⟩
  | .hbm, ⟨47, _⟩ => ⟨S12x256x768, .f32⟩
  | .hbm, ⟨48, _⟩ => ⟨S12x256x768, .f32⟩
  | .hbm, ⟨49, _⟩ => ⟨S1x128, .f32⟩
  | .hbm, ⟨50, _⟩ => ⟨S1x128, .f32⟩
  | .hbm, ⟨51, _⟩ => ⟨S4096x768, .bf16⟩
  | .hbm, ⟨52, _⟩ => ⟨S4096x768, .bf16⟩
  | .hbm, ⟨53, _⟩ => ⟨S4096x768, .bf16⟩
  | .hbm, ⟨54, _⟩ => ⟨S12x256x768, .f32⟩
  | .hbm, ⟨55, _⟩ => ⟨S1x128, .f32⟩
  | .hbm, ⟨56, _⟩ => ⟨S1x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x128, .f32⟩
  | .local _ .vmem, ⟨9, _⟩ => ⟨S1x128, .f32⟩
  | .local _ .vmem, ⟨10, _⟩ => ⟨S2x256x768, .f32⟩
  | .local _ .vmem, ⟨11, _⟩ => ⟨S2x256x768, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2x256x768, .f32⟩
  | .local _ .vmem, ⟨19, _⟩ => ⟨S2x256x768, .f32⟩
  | .local _ .vmem, ⟨20, _⟩ => ⟨S1x128, .f32⟩
  | .local _ .vmem, ⟨21, _⟩ => ⟨S1x128, .f32⟩
  | .local _ .vmem, ⟨22, _⟩ => ⟨S2048x128, .bf16⟩
  | .local _ .vmem, ⟨23, _⟩ => ⟨S2048x128, .bf16⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_v7 : Ref sig .tc := ⟨.hbm, 21, rfl⟩
abbrev main_c_3 : Ref sig .tc := ⟨.hbm, 22, rfl⟩
abbrev main_v8 : Ref sig .tc := ⟨.hbm, 23, rfl⟩
abbrev main_v9 : Ref sig .tc := ⟨.hbm, 24, rfl⟩
abbrev main_c_4 : Ref sig .tc := ⟨.hbm, 25, rfl⟩
abbrev main_v10 : Ref sig .tc := ⟨.hbm, 26, rfl⟩
abbrev main_v11 : Ref sig .tc := ⟨.hbm, 27, rfl⟩
abbrev main_c_5 : Ref sig .tc := ⟨.hbm, 28, rfl⟩
abbrev main_v12 : Ref sig .tc := ⟨.hbm, 29, rfl⟩
abbrev main_v13 : Ref sig .tc := ⟨.hbm, 30, rfl⟩
abbrev main_c_6 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_7 : Ref sig .tc := ⟨.hbm, 35, rfl⟩
abbrev main_v17 : Ref sig .tc := ⟨.hbm, 36, rfl⟩
abbrev main_v18 : Ref sig .tc := ⟨.hbm, 37, rfl⟩
abbrev main_c_8 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call1_v0 : Ref sig .tc := ⟨.hbm, 42, rfl⟩
abbrev main_v22 : Ref sig .tc := ⟨.hbm, 43, rfl⟩
abbrev main_cst : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26_0 : Ref sig .tc := ⟨.hbm, 51, rfl⟩
abbrev main_v26_1 : Ref sig .tc := ⟨.hbm, 52, rfl⟩
abbrev main_v26_2 : Ref sig .tc := ⟨.hbm, 53, rfl⟩
abbrev main_v26_3 : Ref sig .tc := ⟨.hbm, 54, rfl⟩
abbrev main_v26_4 : Ref sig .tc := ⟨.hbm, 55, rfl⟩
abbrev main_v26_5 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨2, ![6, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ReferenceIdeal.lean ====
abbrev S4096x2560 : Shape := ⟨2, ![4096, 2560]⟩
abbrev S4096x1024 : Shape := ⟨2, ![4096, 1024]⟩
abbrev S1x64 : Shape := ⟨2, ![1, 64]⟩
abbrev S12x192 : Shape := ⟨2, ![12, 192]⟩
abbrev S4096x768 : Shape := ⟨2, ![4096, 768]⟩
abbrev S2048x2048 : Shape := ⟨2, ![2048, 2048]⟩
abbrev S_ : Shape := ⟨0, ![]⟩
abbrev S2048x2048x1 : Shape := ⟨3, ![2048, 2048, 1]⟩
abbrev S12x2048x2048 : Shape := ⟨3, ![12, 2048, 2048]⟩
abbrev S1x128 : Shape := ⟨2, ![1, 128]⟩
abbrev S1x2x64 : Shape := ⟨3, ![1, 2, 64]⟩
abbrev S6x2x64 : Shape := ⟨3, ![6, 2, 64]⟩
abbrev S12x64 : Shape := ⟨2, ![12, 64]⟩
abbrev S4096x12x64 : Shape := ⟨3, ![4096, 12, 64]⟩
abbrev S4096x12 : Shape := ⟨2, ![4096, 12]⟩
abbrev S4096x12x1 : Shape := ⟨3, ![4096, 12, 1]⟩
abbrev S1x12x64 : Shape := ⟨3, ![1, 12, 64]⟩
abbrev S2x2048x12x64 : Shape := ⟨4, ![2, 2048, 12, 64]⟩
abbrev S2x12x2048x2048 : Shape := ⟨4, ![2, 12, 2048, 2048]⟩
abbrev S1x12x2048x2048 : Shape := ⟨4, ![1, 12, 2048, 2048]⟩
abbrev S2x12x2048 : Shape := ⟨3, ![2, 12, 2048]⟩
abbrev S2x12x2048x1 : Shape := ⟨4, ![2, 12, 2048, 1]⟩
abbrev S2x12x64x2048 : Shape := ⟨4, ![2, 12, 64, 2048]⟩
abbrev S2x12x2048x64 : Shape := ⟨4, ![2, 12, 2048, 64]⟩
abbrev S2x64 : Shape := ⟨2, ![2, 64]⟩
abbrev S12x2048x2560 : Shape := ⟨3, ![12, 2048, 2560]⟩
abbrev S12x8x256x2560 : Shape := ⟨4, ![12, 8, 256, 2560]⟩
abbrev S12x1x256x768 : Shape := ⟨4, ![12, 1, 256, 768]⟩
abbrev S12x256x768 : Shape := ⟨3, ![12, 256, 768]⟩

abbrev nBuf : Space → Nat
  | .hbm => 286
  | .vmem => 0
  | .smem => 0
  | _ => 0

abbrev hbmTy0_0 (i : Nat) : BufTy := match i % 128 with
  | 0 => ⟨S4096x2560, .bf16⟩
  | 1 => ⟨S4096x1024, .bf16⟩
  | 2 => ⟨S1x64, .f32⟩
  | 3 => ⟨S1x64, .f32⟩
  | 4 => ⟨S12x192, .f32⟩
  | 5 => ⟨S4096x2560, .f32⟩
  | 6 => ⟨S4096x768, .f32⟩
  | 7 => ⟨S4096x768, .f32⟩
  | 8 => ⟨S4096x768, .f32⟩
  | 9 => ⟨S4096x1024, .f32⟩
  | 10 => ⟨S4096x768, .f32⟩
  | 11 => ⟨S2048x2048, .i32⟩
  | 12 => ⟨S2048x2048, .i32⟩
  | 13 => ⟨S2048x2048, .i32⟩
  | 14 => ⟨S_, .i32⟩
  | 15 => ⟨S_, .i32⟩
  | 16 => ⟨S_, .i32⟩
  | 17 => ⟨S2048x2048, .i32⟩
  | 18 => ⟨S2048x2048, .i32⟩
  | 19 => ⟨S_, .i32⟩
  | 20 => ⟨S2048x2048, .i32⟩
  | 21 => ⟨S2048x2048, .i32⟩
  | 22 => ⟨S_, .i32⟩
  | 23 => ⟨S2048x2048, .i32⟩
  | 24 => ⟨S2048x2048, .i32⟩
  | 25 => ⟨S_, .i32⟩
  | 26 => ⟨S2048x2048, .i32⟩
  | 27 => ⟨S2048x2048, .i32⟩
  | 28 => ⟨S2048x2048x1, .i32⟩
  | 29 => ⟨S12x2048x2048, .f32⟩
  | 30 => ⟨S1x128, .f32⟩
  | 31 => ⟨S1x128, .f32⟩
  | 32 => ⟨S1x2x64, .f32⟩
  | 33 => ⟨S6x2x64, .f32⟩
  | 34 => ⟨S12x64, .f32⟩
  | 35 => ⟨S1x2x64, .f32⟩
  | 36 => ⟨S6x2x64, .f32⟩
  | 37 => ⟨S12x64, .f32⟩
  | 38 => ⟨S4096x12x64, .f32⟩
  | 39 => ⟨S4096x12x64, .f32⟩
  | 40 => ⟨S_, .f32⟩
  | 41 => ⟨S4096x12, .f32⟩
  | 42 => ⟨S4096x12x1, .f32⟩
  | 43 => ⟨S_, .f32⟩
  | 44 => ⟨S4096x12x1, .f32⟩
  | 45 => ⟨S4096x12x1, .f32⟩
  | 46 => ⟨S_, .f32⟩
  | 47 => ⟨S4096x12x1, .f32⟩
  | 48 => ⟨S4096x12x1, .f32⟩
  | 49 => ⟨S4096x12x1, .f32⟩
  | 50 => ⟨S4096x12x1, .f32⟩
  | 51 => ⟨S_, .f32⟩
  | 52 => ⟨S4096x12x1, .f32⟩
  | 53 => ⟨S4096x12x1, .f32⟩
  | 54 => ⟨S4096x12x64, .f32⟩
  | 55 => ⟨S4096x12x64, .f32⟩
  | 56 => ⟨S1x12x64, .f32⟩
  | 57 => ⟨S4096x12x64, .f32⟩
  | 58 => ⟨S4096x12x64, .f32⟩
  | 59 => ⟨S2x2048x12x64, .f32⟩
  | 60 => ⟨S4096x12x64, .f32⟩
  | 61 => ⟨S4096x12x64, .f32⟩
  | 62 => ⟨S_, .f32⟩
  | 63 => ⟨S4096x12, .f32⟩
  | 64 => ⟨S4096x12x1, .f32⟩
  | 65 => ⟨S_, .f32⟩
  | 66 => ⟨S4096x12x1, .f32⟩
  | 67 => ⟨S4096x12x1, .f32⟩
  | 68 => ⟨S_, .f32⟩
  | 69 => ⟨S4096x12x1, .f32⟩
  | 70 => ⟨S4096x12x1, .f32⟩
  | 71 => ⟨S4096x12x1, .f32⟩
  | 72 => ⟨S4096x12x1, .f32⟩
  | 73 => ⟨S_, .f32⟩
  | 74 => ⟨S4096x12x1, .f32⟩
  | 75 => ⟨S4096x12x1, .f32⟩
  | 76 => ⟨S4096x12x64, .f32⟩
  | 77 => ⟨S4096x12x64, .f32⟩
  | 78 => ⟨S1x12x64, .f32⟩
  | 79 => ⟨S4096x12x64, .f32⟩
  | 80 => ⟨S4096x12x64, .f32⟩
  | 81 => ⟨S2x2048x12x64, .f32⟩
  | 82 => ⟨S2x2048x12x64, .f32⟩
  | 83 => ⟨S2048x2048, .i32⟩
  | 84 => ⟨S2048x2048, .i32⟩
  | 85 => ⟨S_, .i32⟩
  | 86 => ⟨S2048x2048, .i32⟩
  | 87 => ⟨S2048x2048, .i32⟩
  | 88 => ⟨S_, .i32⟩
  | 89 => ⟨S2048x2048, .i32⟩
  | 90 => ⟨S2048x2048, .i32⟩
  | 91 => ⟨S2048x2048, .i32⟩
  | 92 => ⟨S2x12x2048x2048, .f32⟩
  | 93 => ⟨S_, .f32⟩
  | 94 => ⟨S2x12x2048x2048, .f32⟩
  | 95 => ⟨S2x12x2048x2048, .f32⟩
  | 96 => ⟨S1x12x2048x2048, .f32⟩
  | 97 => ⟨S2x12x2048x2048, .f32⟩
  | 98 => ⟨S2x12x2048x2048, .f32⟩
  | 99 => ⟨S_, .i32⟩
  | 100 => ⟨S2048x2048, .i32⟩
  | 101 => ⟨S2048x2048, .i1⟩
  | 102 => ⟨S_, .i32⟩
  | 103 => ⟨S2048x2048, .i32⟩
  | 104 => ⟨S2048x2048, .i1⟩
  | 105 => ⟨S2048x2048, .i1⟩
  | 106 => ⟨S_, .f32⟩
  | 107 => ⟨S_, .f32⟩
  | 108 => ⟨S2x12x2048x2048, .i1⟩
  | 109 => ⟨S2x12x2048x2048, .f32⟩
  | 110 => ⟨S2x12x2048x2048, .f32⟩
  | 111 => ⟨S_, .f32⟩
  | 112 => ⟨S2x12x2048x2048, .f32⟩
  | 113 => ⟨S_, .f32⟩
  | 114 => ⟨S2x12x2048, .f32⟩
  | 115 => ⟨S2x12x2048x1, .f32⟩
  | 116 => ⟨S2x12x2048x2048, .f32⟩
  | 117 => ⟨S2x12x2048x2048, .i1⟩
  | 118 => ⟨S2x12x2048x2048, .f32⟩
  | 119 => ⟨S_, .f32⟩
  | 120 => ⟨S2x12x2048, .f32⟩
  | 121 => ⟨S_, .f32⟩
  | 122 => ⟨S2x12x2048, .f32⟩
  | 123 => ⟨S2x12x2048, .f32⟩
  | 124 => ⟨S_, .f32⟩
  | 125 => ⟨S2x12x2048, .f32⟩
  | 126 => ⟨S2x12x2048, .i1⟩
  | 127 => ⟨S_, .f32⟩
  | _ => ⟨S4096x2560, .bf16⟩

abbrev hbmTy0_1 (i : Nat) : BufTy := match i % 128 with
  | 0 => ⟨S2x12x2048, .f32⟩
  | 1 => ⟨S2x12x2048, .i1⟩
  | 2 => ⟨S_, .f32⟩
  | 3 => ⟨S2x12x2048, .f32⟩
  | 4 => ⟨S_, .f32⟩
  | 5 => ⟨S2x12x2048, .f32⟩
  | 6 => ⟨S_, .f32⟩
  | 7 => ⟨S2x12x2048, .f32⟩
  | 8 => ⟨S2x12x2048, .f32⟩
  | 9 => ⟨S2x12x2048, .f32⟩
  | 10 => ⟨S2x12x2048x1, .f32⟩
  | 11 => ⟨S2x12x2048x2048, .f32⟩
  | 12 => ⟨S2x12x2048x2048, .f32⟩
  | 13 => ⟨S2x12x2048x2048, .f32⟩
  | 14 => ⟨S_, .f32⟩
  | 15 => ⟨S2x12x2048, .f32⟩
  | 16 => ⟨S2x12x2048x1, .f32⟩
  | 17 => ⟨S2x12x2048x2048, .f32⟩
  | 18 => ⟨S2x12x2048x2048, .f32⟩
  | 19 => ⟨S2x12x2048x1, .f32⟩
  | 20 => ⟨S_, .f32⟩
  | 21 => ⟨S2x12x2048x1, .f32⟩
  | 22 => ⟨S2x12x2048x1, .f32⟩
  | 23 => ⟨S2x12x64x2048, .f32⟩
  | 24 => ⟨S2x2048x12x64, .f32⟩
  | 25 => ⟨S4096x768, .f32⟩
  | 26 => ⟨S2x2048x12x64, .f32⟩
  | 27 => ⟨S2x12x64x2048, .f32⟩
  | 28 => ⟨S2x12x2048x2048, .f32⟩
  | 29 => ⟨S2x12x64x2048, .f32⟩
  | 30 => ⟨S2x2048x12x64, .f32⟩
  | 31 => ⟨S2x12x2048x2048, .f32⟩
  | 32 => ⟨S2x12x2048x2048, .f32⟩
  | 33 => ⟨S2x12x2048x2048, .f32⟩
  | 34 => ⟨S_, .f32⟩
  | 35 => ⟨S2x12x2048, .f32⟩
  | 36 => ⟨S2x12x2048x1, .f32⟩
  | 37 => ⟨S2x12x2048x1, .f32⟩
  | 38 => ⟨S2x12x2048x2048, .f32⟩
  | 39 => ⟨S2x12x2048x2048, .f32⟩
  | 40 => ⟨S_, .f32⟩
  | 41 => ⟨S2x12x2048, .f32⟩
  | 42 => ⟨S2x12x2048x2048, .f32⟩
  | 43 => ⟨S2x12x2048x2048, .f32⟩
  | 44 => ⟨S2x12x2048x2048, .f32⟩
  | 45 => ⟨S_, .f32⟩
  | 46 => ⟨S2x12x2048x2048, .f32⟩
  | 47 => ⟨S2x12x2048x2048, .f32⟩
  | 48 => ⟨S_, .f32⟩
  | 49 => ⟨S12x2048x2048, .f32⟩
  | 50 => ⟨S1x12x2048x2048, .f32⟩
  | 51 => ⟨S_, .f32⟩
  | 52 => ⟨S12x2048x2048, .f32⟩
  | 53 => ⟨S_, .f32⟩
  | 54 => ⟨S2x12x2048x2048, .f32⟩
  | 55 => ⟨S2x12x2048x2048, .f32⟩
  | 56 => ⟨S2x12x2048x64, .f32⟩
  | 57 => ⟨S2x2048x12x64, .f32⟩
  | 58 => ⟨S2x12x2048x64, .f32⟩
  | 59 => ⟨S2x2048x12x64, .f32⟩
  | 60 => ⟨S4096x768, .f32⟩
  | 61 => ⟨S4096x12x64, .f32⟩
  | 62 => ⟨S4096x12x64, .f32⟩
  | 63 => ⟨S_, .f32⟩
  | 64 => ⟨S12x64, .f32⟩
  | 65 => ⟨S1x12x64, .f32⟩
  | 66 => ⟨S4096x12x64, .f32⟩
  | 67 => ⟨S4096x12x64, .f32⟩
  | 68 => ⟨S_, .f32⟩
  | 69 => ⟨S12x64, .f32⟩
  | 70 => ⟨S4096x12x64, .f32⟩
  | 71 => ⟨S_, .f32⟩
  | 72 => ⟨S4096x12, .f32⟩
  | 73 => ⟨S4096x12x1, .f32⟩
  | 74 => ⟨S4096x12x64, .f32⟩
  | 75 => ⟨S4096x12x64, .f32⟩
  | 76 => ⟨S4096x12x1, .f32⟩
  | 77 => ⟨S_, .f32⟩
  | 78 => ⟨S4096x12x1, .f32⟩
  | 79 => ⟨S4096x12x1, .f32⟩
  | 80 => ⟨S_, .f32⟩
  | 81 => ⟨S4096x12, .f32⟩
  | 82 => ⟨S4096x12x64, .f32⟩
  | 83 => ⟨S4096x12x64, .f32⟩
  | 84 => ⟨S4096x12x64, .f32⟩
  | 85 => ⟨S4096x12x64, .f32⟩
  | 86 => ⟨S4096x12x64, .f32⟩
  | 87 => ⟨S4096x768, .f32⟩
  | 88 => ⟨S4096x12x64, .f32⟩
  | 89 => ⟨S4096x12x64, .f32⟩
  | 90 => ⟨S_, .f32⟩
  | 91 => ⟨S12x64, .f32⟩
  | 92 => ⟨S1x12x64, .f32⟩
  | 93 => ⟨S4096x12x64, .f32⟩
  | 94 => ⟨S4096x12x64, .f32⟩
  | 95 => ⟨S_, .f32⟩
  | 96 => ⟨S12x64, .f32⟩
  | 97 => ⟨S4096x12x64, .f32⟩
  | 98 => ⟨S_, .f32⟩
  | 99 => ⟨S4096x12, .f32⟩
  | 100 => ⟨S4096x12x1, .f32⟩
  | 101 => ⟨S4096x12x64, .f32⟩
  | 102 => ⟨S4096x12x64, .f32⟩
  | 103 => ⟨S4096x12x1, .f32⟩
  | 104 => ⟨S_, .f32⟩
  | 105 => ⟨S4096x12x1, .f32⟩
  | 106 => ⟨S4096x12x1, .f32⟩
  | 107 => ⟨S_, .f32⟩
  | 108 => ⟨S4096x12, .f32⟩
  | 109 => ⟨S4096x12x64, .f32⟩
  | 110 => ⟨S4096x12x64, .f32⟩
  | 111 => ⟨S4096x12x64, .f32⟩
  | 112 => ⟨S4096x12x64, .f32⟩
  | 113 => ⟨S4096x12x64, .f32⟩
  | 114 => ⟨S4096x768, .f32⟩
  | 115 => ⟨S6x2x64, .f32⟩
  | 116 => ⟨S_, .f32⟩
  | 117 => ⟨S2x64, .f32⟩
  | 118 => ⟨S1x2x64, .f32⟩
  | 119 => ⟨S1x128, .f32⟩
  | 120 => ⟨S6x2x64, .f32⟩
  | 121 => ⟨S_, .f32⟩
  | 122 => ⟨S2x64, .f32⟩
  | 123 => ⟨S1x2x64, .f32⟩
  | 124 => ⟨S1x128, .f32⟩
  | 125 => ⟨S_, .i32⟩
  | 126 => ⟨S_, .f32⟩
  | 127 => ⟨S12x2048x2560, .f32⟩
  | _ => ⟨S4096x2560, .bf16⟩

abbrev hbmTy0_2 (i : Nat) : BufTy := match i % 128 with
  | 0 => ⟨S12x8x256x2560, .f32⟩
  | 1 => ⟨S12x1x256x768, .f32⟩
  | 2 => ⟨S12x256x768, .f32⟩
  | 3 => ⟨S_, .f32⟩
  | 4 => ⟨S12x256x768, .f32⟩
  | 5 => ⟨S12x256x768, .f32⟩
  | 6 => ⟨S12x1x256x768, .f32⟩
  | 7 => ⟨S12x256x768, .f32⟩
  | 8 => ⟨S12x256x768, .f32⟩
  | 9 => ⟨S12x1x256x768, .f32⟩
  | 10 => ⟨S12x256x768, .f32⟩
  | 11 => ⟨S12x256x768, .f32⟩
  | 12 => ⟨S12x1x256x768, .f32⟩
  | 13 => ⟨S12x256x768, .f32⟩
  | 14 => ⟨S12x256x768, .f32⟩
  | 15 => ⟨S12x1x256x768, .f32⟩
  | 16 => ⟨S12x256x768, .f32⟩
  | 17 => ⟨S12x256x768, .f32⟩
  | 18 => ⟨S12x1x256x768, .f32⟩
  | 19 => ⟨S12x256x768, .f32⟩
  | 20 => ⟨S12x256x768, .f32⟩
  | 21 => ⟨S12x1x256x768, .f32⟩
  | 22 => ⟨S12x256x768, .f32⟩
  | 23 => ⟨S12x256x768, .f32⟩
  | 24 => ⟨S12x1x256x768, .f32⟩
  | 25 => ⟨S12x256x768, .f32⟩
  | 26 => ⟨S12x256x768, .f32⟩
  | 27 => ⟨S4096x768, .bf16⟩
  | 28 => ⟨S4096x768, .bf16⟩
  | 29 => ⟨S4096x768, .bf16⟩
  | _ => ⟨S4096x2560, .bf16⟩

abbrev hbmTy (i : Nat) : BufTy := match i / 128 with
  | 0 => hbmTy0_0 i
  | 1 => hbmTy0_1 i
  | 2 => hbmTy0_2 i
  | _ => ⟨S4096x2560, .bf16⟩

abbrev bufTy : (tb : Table) → Fin (tcTables nBuf tb) → BufTy
  | .hbm, ⟨i, _⟩ => hbmTy i
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_call1_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_10 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_12 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_13 : Ref sig .tc := ⟨.hbm, 99, rfl⟩
abbrev main_v73 : Ref sig .tc := ⟨.hbm, 100, rfl⟩
abbrev main_v74 : Ref sig .tc := ⟨.hbm, 101, rfl⟩
abbrev main_c_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_call2_v0 : Ref sig .tc := ⟨.hbm, 107, rfl⟩
abbrev main_v78_1 : Ref sig .tc := ⟨.hbm, 108, rfl⟩
abbrev main_call2_v2 : Ref sig .tc := ⟨.hbm, 109, rfl⟩
abbrev main_v78_0 : Ref sig .tc := ⟨.hbm, 110, rfl⟩
abbrev main_call2_cst : Ref sig .tc := ⟨.hbm, 111, rfl⟩
abbrev main_v78_2 : Ref sig .tc := ⟨.hbm, 112, rfl⟩
abbrev main_cst_16 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_17 : Ref sig .tc := ⟨.hbm, 119, rfl⟩
abbrev main_v84 : Ref sig .tc := ⟨.hbm, 120, rfl⟩
abbrev main_cst_18 : Ref sig .tc := ⟨.hbm, 121, rfl⟩
abbrev main_v85 : Ref sig .tc := ⟨.hbm, 122, rfl⟩
abbrev main_v86 : Ref sig .tc := ⟨.hbm, 123, rfl⟩
abbrev main_cst_19 : Ref sig .tc := ⟨.hbm, 124, rfl⟩
abbrev main_v87 : Ref sig .tc := ⟨.hbm, 125, rfl⟩
abbrev main_v88 : Ref sig .tc := ⟨.hbm, 126, rfl⟩
abbrev main_cst_20 : Ref sig .tc := ⟨.hbm, 127, rfl⟩
abbrev main_v89 : Ref sig .tc := ⟨.hbm, 128, rfl⟩
abbrev main_v90 : Ref sig .tc := ⟨.hbm, 129, rfl⟩
abbrev main_cst_21 : Ref sig .tc := ⟨.hbm, 130, rfl⟩
abbrev main_v91 : Ref sig .tc := ⟨.hbm, 131, rfl⟩
abbrev main_cst_22 : Ref sig .tc := ⟨.hbm, 132, rfl⟩
abbrev main_v92 : Ref sig .tc := ⟨.hbm, 133, rfl⟩
abbrev main_cst_23 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_24 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_25 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_26 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_27 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_call3_cst : Ref sig .tc := ⟨.hbm, 173, rfl⟩
abbrev main_call3_v0 : Ref sig .tc := ⟨.hbm, 174, rfl⟩
abbrev main_v127 : Ref sig .tc := ⟨.hbm, 175, rfl⟩
abbrev main_cst_28 : Ref sig .tc := ⟨.hbm, 176, rfl⟩
abbrev main_v128 : Ref sig .tc := ⟨.hbm, 177, rfl⟩
abbrev main_v129 : Ref sig .tc := ⟨.hbm, 178, rfl⟩
abbrev main_cst_29 : Ref sig .tc := ⟨.hbm, 179, rfl⟩
abbrev main_v130 : Ref sig .tc := ⟨.hbm, 180, rfl⟩
abbrev main_cst_30 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_cst_31 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_cst_32 : Ref sig .tc := ⟨.hbm, 196, rfl⟩
abbrev main_v144 : Ref sig .tc := ⟨.hbm, 197, rfl⟩
abbrev main_v145 : Ref sig .tc := ⟨.hbm, 198, rfl⟩
abbrev main_cst_33 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_cst_34 : Ref sig .tc := ⟨.hbm, 205, rfl⟩
abbrev main_v151 : Ref sig .tc := ⟨.hbm, 206, rfl⟩
abbrev main_v152 : Ref sig .tc := ⟨.hbm, 207, rfl⟩
abbrev main_cst_35 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_cst_36 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_cst_37 : Ref sig .tc := ⟨.hbm, 223, rfl⟩
abbrev main_v166 : Ref sig .tc := ⟨.hbm, 224, rfl⟩
abbrev main_v167 : Ref sig .tc := ⟨.hbm, 225, rfl⟩
abbrev main_cst_38 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_cst_39 : Ref sig .tc := ⟨.hbm, 232, rfl⟩
abbrev main_v173 : Ref sig .tc := ⟨.hbm, 233, rfl⟩
abbrev main_v174 : Ref sig .tc := ⟨.hbm, 234, rfl⟩
abbrev main_cst_40 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_cst_41 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_cst_42 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_c_43 : Ref sig .tc := ⟨.hbm, 253, rfl⟩
abbrev main_call4_v0 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_cst_44 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S2816x1024 : Shape := ⟨2, ![2816, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 33
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S1024x1024, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S2816x1024, .f32⟩
  | .hbm, ⟨23, _⟩ => ⟨S4096x2816, .f32⟩
  | .hbm, ⟨24, _⟩ => ⟨S4096x2816, .bf16⟩
  | .hbm, ⟨25, _⟩ => ⟨S2816x1024, .f32⟩
  | .hbm, ⟨26, _⟩ => ⟨S4096x2816, .f32⟩
  | .hbm, ⟨27, _⟩ => ⟨S4096x2816, .bf16⟩
  | .hbm, ⟨28, _⟩ => ⟨S4096x2816, .bf16⟩
  | .hbm, ⟨29, _⟩ => ⟨S4096x2816, .bf16⟩
  | .hbm, ⟨30, _⟩ => ⟨S4096x1024, .bf16⟩
  | .hbm, ⟨31, _⟩ => ⟨S4096x1024, .bf16⟩
  | .hbm, ⟨32, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S2816x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1024x1024, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev main_v18_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S4096x1024 : Shape := ⟨2, ![4096, 1024]⟩
abbrev S1x1024 : Shape := ⟨2, ![1, 1024]⟩
abbrev S2816x1024 : Shape := ⟨2, ![2816, 1024]⟩
abbrev S1024x1024 : Shape := ⟨2, ![1024, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S1024x1024, .bf16⟩
  | .hbm, ⟨7, _⟩ => ⟨S4096x1024, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S1024x2816, .f32⟩
  | .hbm, ⟨12, _⟩ => ⟨S2816x1024, .f32⟩
  | .hbm, ⟨13, _⟩ => ⟨S1024x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x1024, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x2816, .bf16⟩
  | .hbm, ⟨87, _⟩ => ⟨S4096x2816, .bf16⟩
  | .hbm, ⟨88, _⟩ => ⟨S4096x1024, .bf16⟩
  | .hbm, ⟨89, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v24_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v24_1 : Ref sig .tc := ⟨.hbm, 46, rfl⟩
abbrev main_v24_0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_3 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_4 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_5 : Ref sig .tc := ⟨.hbm, 73, rfl⟩
abbrev main_v45 : Ref sig .tc := ⟨.hbm, 74, rfl⟩
abbrev main_v46 : Ref sig .tc := ⟨.hbm, 75, rfl⟩
abbrev main_cst_6 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S4096x2816, .bf16⟩
  | .hbm, ⟨4, _⟩ => ⟨S4096x1024, .bf16⟩
  | .hbm, ⟨5, _⟩ => ⟨S2816x1024, .bf16⟩
  | .hbm, ⟨6, _⟩ => ⟨S2816x1024, .bf16⟩
  | .hbm, ⟨7, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x1024, .bf16⟩
  | .local _ .vmem, ⟨7, _⟩ => ⟨S4096x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S4096x2816, .bf16⟩
  | .hbm, ⟨4, _⟩ => ⟨S4096x1024, .bf16⟩
  | .hbm, ⟨5, _⟩ => ⟨S4096x1024, .f32⟩
  | .hbm, ⟨6, _⟩ => ⟨S4096x2816, .f32⟩
  | .hbm, ⟨7, _⟩ => ⟨S_, .f32⟩
  | .hbm, ⟨8, _⟩ => ⟨S2816x1024, .f32⟩
  | .hbm, ⟨9, _⟩ => ⟨S1024x2816, .f32⟩
  | .hbm, ⟨10, _⟩ => ⟨S4096x2816, .f32⟩
  | .hbm, ⟨11, _⟩ => ⟨S4096x2816, .f32⟩
  | .hbm, ⟨12, _⟩ => ⟨S2816x1024, .f32⟩
  | .hbm, ⟨13, _⟩ => ⟨S1024x2816, .f32⟩
  | .hbm, ⟨14, _⟩ => ⟨S2816x1024, .f32⟩
  | .hbm, ⟨15, _⟩ => ⟨S1024x2816, .f32⟩
  | .hbm, ⟨16, _⟩ => ⟨S4096x2816, .f32⟩
  | .hbm, ⟨17, _⟩ => ⟨S4096x2816, .f32⟩
  | .hbm, ⟨18, _⟩ => ⟨S2816x1024, .f32⟩
  | .hbm, ⟨19, _⟩ => ⟨S1024x2816, .f32⟩
  | .hbm, ⟨20, _⟩ => ⟨S2816x1024, .f32⟩
  | .hbm, ⟨21, _⟩ => ⟨S4096x1024, .f32⟩
  | .hbm, ⟨22, _⟩ => ⟨S4096x1024, .f32⟩
  | .hbm, ⟨23, _⟩ => ⟨S1024x2816, .f32⟩
  | .hbm, ⟨24, _⟩ => ⟨S2816x1024, .f32⟩
  | .hbm, ⟨25, _⟩ => ⟨S2816x1024, .bf16⟩
  | .hbm, ⟨26, _⟩ => ⟨S2816x1024, .bf16⟩
  | .hbm, ⟨27, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 27
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4096x2816, .bf16⟩
  | .hbm, ⟨23, _⟩ => ⟨S4096x2816, .bf16⟩
  | .hbm, ⟨24, _⟩ => ⟨S4096x2816, .bf16⟩
  | .hbm, ⟨25, _⟩ => ⟨S4096x1024, .f32⟩
  | .hbm, ⟨26, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S2816x1024, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S2816x1024, .f32⟩
  | .hbm, ⟨22, _⟩ => ⟨S1024x2816, .f32⟩
  | .hbm, ⟨23, _⟩ => ⟨S4096x2816, .f32⟩
  | .hbm, ⟨24, _⟩ => ⟨S2816x1024, .f32⟩
  | .hbm, ⟨25, _⟩ => ⟨S1024x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S2816x1024, .f32⟩
  | .hbm, ⟨38, _⟩ => ⟨S4096x1024, .f32⟩
  | .hbm, ⟨39, _⟩ => ⟨S4096x1024, .f32⟩
  | .hbm, ⟨40, _⟩ => ⟨S4096x2816, .bf16⟩
  | .hbm, ⟨41, _⟩ => ⟨S4096x2816, .bf16⟩
  | .hbm, ⟨42, _⟩ => ⟨S4096x2816, .bf16⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S8x128 : Shape := ⟨2, ![8, 128]⟩
abbrev S256x1024 : Shape := ⟨2, ![256, 1024]⟩
abbrev S256x2816 : Shape := ⟨2, ![256, 2816]⟩
abbrev S1024 : Shape := ⟨1, ![1024]⟩
abbrev S1 : Shape := ⟨1, ![1]⟩
abbrev S1x1 : Shape := ⟨2, ![1, 1]⟩

abbrev nBuf : Space → Nat
  | .hbm => 27
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4096x2816, .bf16⟩
  | .hbm, ⟨23, _⟩ => ⟨S4096x2816, .bf16⟩
  | .hbm, ⟨24, _⟩ => ⟨S4096x2816, .bf16⟩
  | .hbm, ⟨25, _⟩ => ⟨S4096x1024, .bf16⟩
  | .hbm, ⟨26, _⟩ => ⟨S8x128, .f32⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S2816x1024, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .bf16⟩
  | .local _ .vmem, ⟨16, _⟩ => ⟨S256x1024, .bf16⟩
  | .local _ .vmem, ⟨17, _⟩ => ⟨S8x128, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v42 : BitVec 1 := Scalar.cmpi .eq arg0 c15_i32
  let v43 : BitVec 32 := Scalar.extui v42
  let c0_i32_31 : BitVec 32 := 0#32
  let v44 : BitVec 1 := Scalar.cmpi .ne v43 c0_i32_31
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S8x128 : Shape := ⟨2, ![8, 128]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S2816x1024, .f32⟩
  | .hbm, ⟨22, _⟩ => ⟨S1024x2816, .f32⟩
  | .hbm, ⟨23, _⟩ => ⟨S4096x2816, .f32⟩
  | .hbm, ⟨24, _⟩ => ⟨S2816x1024, .f32⟩
  | .hbm, ⟨25, _⟩ => ⟨S1024x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S2816x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x2816, .bf16⟩
  | .hbm, ⟨64, _⟩ => ⟨S4096x2816, .bf16⟩
  | .hbm, ⟨65, _⟩ => ⟨S4096x2816, .bf16⟩
  | .hbm, ⟨66, _⟩ => ⟨S4096x1024, .bf16⟩
  | .hbm, ⟨67, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_cst_7 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S2560x1024 : Shape := ⟨2, ![2560, 1024]⟩
abbrev S_ : Shape := ⟨0, ![]⟩
abbrev S4096 : Shape := ⟨1, ![4096]⟩
abbrev S4096x1 : Shape := ⟨2, ![4096, 1]⟩
abbrev S4096x2560 : Shape := ⟨2, ![4096, 2560]⟩
abbrev S1024x1024 : Shape := ⟨2, ![1024, 1024]⟩
abbrev S1280x1024 : Shape := ⟨2, ![1280, 1024]⟩
abbrev S1024x1280 : Shape := ⟨2, ![1024, 1280]⟩

abbrev nBuf : Space → Nat
  | .hbm => 20
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2560x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1280, .bf16⟩
  | .local _ .vmem, ⟨5, _⟩ => ⟨S1024x1280, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S1x1024 : Shape := ⟨2, ![1, 1024]⟩
abbrev S2560x1024 : Shape := ⟨2, ![2560, 1024]⟩
abbrev S_ : Shape := ⟨0, ![]⟩
abbrev S4096 : Shape := ⟨1, ![4096]⟩
abbrev S4096x1 : Shape := ⟨2, ![4096, 1]⟩
abbrev S1024x2560 : Shape := ⟨2, ![1024, 2560]⟩
abbrev S4096x2560 : Shape := ⟨2, ![4096, 2560]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2560x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S2560x1024, .f32⟩
  | .hbm, ⟨19, _⟩ => ⟨S1024x2560, .f32⟩
  | .hbm, ⟨20, _⟩ => ⟨S4096x2560, .f32⟩
  | .hbm, ⟨21, _⟩ => ⟨S4096x2560, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel9.lean ====
abbrev S4096x768 : Shape := ⟨2, ![4096, 768]⟩
abbrev S4096x256 : Shape := ⟨2, ![4096, 256]⟩
abbrev S4096x1024 : Shape := ⟨2, ![4096, 1024]⟩
abbrev S2560x1024 : Shape := ⟨2, ![2560, 1024]⟩
abbrev S256x1024 : Shape := ⟨2, ![256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S4096x768, .bf16⟩
  | .hbm, ⟨3, _⟩ => ⟨S4096x256, .bf16⟩
  | .hbm, ⟨4, _⟩ => ⟨S4096x1024, .bf16⟩
  | .hbm, ⟨5, _⟩ => ⟨S2560x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x1024, .bf16⟩
  | .local _ .vmem, ⟨9, _⟩ => ⟨S256x1024, .bf16⟩
  | .local _ .vmem, ⟨10, _⟩ => ⟨S256x1024, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c3_i32 : BitVec 32 := 3#32
  let v1 : BitVec 1 := Scalar.cmpi .slt arg0 c3_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c3_i32_1 : BitVec 32 := 3#32
  let v5 : BitVec 1 := Scalar.cmpi .sge arg0 c3_i32_1
  let c6_i32 : BitVec 32 := 6#32
  let v6 : BitVec 1 := Scalar.cmpi .slt arg0 c6_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c6_i32_3 : BitVec 32 := 6#32
  let v10 : BitVec 1 := Scalar.cmpi .sge arg0 c6_i32_3
  let c9_i32 : BitVec 32 := 9#32
  let v11 : BitVec 1 := Scalar.cmpi .slt arg0 c9_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c9_i32_5 : BitVec 32 := 9#32
  let v15 : BitVec 1 := Scalar.cmpi .sge arg0 c9_i32_5
  let c10_i32 : BitVec 32 := 10#32
  let v16 : BitVec 1 := Scalar.cmpi .slt arg0 c10_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S4096x768 : Shape := ⟨2, ![4096, 768]⟩
abbrev S4096x256 : Shape := ⟨2, ![4096, 256]⟩
abbrev S4096x1024 : Shape := ⟨2, ![4096, 1024]⟩
abbrev S4096x2560 : Shape := ⟨2, ![4096, 2560]⟩
abbrev S_ : Shape := ⟨0, ![]⟩
abbrev S2560x1024 : Shape := ⟨2, ![2560, 1024]⟩
abbrev S1024x2560 : Shape := ⟨2, ![1024, 2560]⟩

abbrev nBuf : Space → Nat
  | .hbm => 16
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S4096x768, .bf16⟩
  | .hbm, ⟨3, _⟩ => ⟨S4096x256, .bf16⟩
  | .hbm, ⟨4, _⟩ => ⟨S4096x1024, .bf16⟩
  | .hbm, ⟨5, _⟩ => ⟨S4096x1024, .f32⟩
  | .hbm, ⟨6, _⟩ => ⟨S4096x2560, .bf16⟩
  | .hbm, ⟨7, _⟩ => ⟨S4096x2560, .f32⟩
  | .hbm, ⟨8, _⟩ => ⟨S_, .f32⟩
  | .hbm, ⟨9, _⟩ => ⟨S2560x1024, .f32⟩
  | .hbm, ⟨10, _⟩ => ⟨S1024x2560, .f32⟩
  | .hbm, ⟨11, _⟩ => ⟨S4096x2560, .f32⟩
  | .hbm, ⟨12, _⟩ => ⟨S2560x1024, .f32⟩
  | .hbm, ⟨13, _⟩ => ⟨S1024x2560, .f32⟩
  | .hbm, ⟨14, _⟩ => ⟨S2560x1024, .f32⟩
  | .hbm, ⟨15, _⟩ => ⟨S2560x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel10.lean ====
abbrev S4096x768 : Shape := ⟨2, ![4096, 768]⟩
abbrev S4096x256 : Shape := ⟨2, ![4096, 256]⟩
abbrev S2560x1024 : Shape := ⟨2, ![2560, 1024]⟩
abbrev S4096x1024 : Shape := ⟨2, ![4096, 1024]⟩
abbrev S1x1024 : Shape := ⟨2, ![1, 1024]⟩
abbrev S1x768 : Shape := ⟨2, ![1, 768]⟩
abbrev S512x768 : Shape := ⟨2, ![512, 768]⟩
abbrev S512x256 : Shape := ⟨2, ![512, 256]⟩
abbrev S512x1024 : Shape := ⟨2, ![512, 1024]⟩
abbrev S768 : Shape := ⟨1, ![768]⟩
abbrev S768x1024 : Shape := ⟨2, ![768, 1024]⟩
abbrev S256x1024 : Shape := ⟨2, ![256, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S4096x768, .bf16⟩
  | .hbm, ⟨3, _⟩ => ⟨S4096x256, .bf16⟩
  | .hbm, ⟨4, _⟩ => ⟨S2560x1024, .bf16⟩
  | .hbm, ⟨5, _⟩ => ⟨S4096x1024, .f32⟩
  | .hbm, ⟨6, _⟩ => ⟨S1x1024, .f32⟩
  | .hbm, ⟨7, _⟩ => ⟨S4096x1024, .bf16⟩
  | .hbm, ⟨8, _⟩ => ⟨S4096x1024, .f32⟩
  | .hbm, ⟨9, _⟩ => ⟨S1x1024, .f32⟩
  | .hbm, ⟨10, _⟩ => ⟨S1x768, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x256, .bf16⟩
  | .local _ .vmem, ⟨7, _⟩ => ⟨S512x256, .bf16⟩
  | .local _ .vmem, ⟨8, _⟩ => ⟨S2560x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x768, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2560x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference10Ideal.lean ====
abbrev S4096x768 : Shape := ⟨2, ![4096, 768]⟩
abbrev S4096x256 : Shape := ⟨2, ![4096, 256]⟩
abbrev S2560x1024 : Shape := ⟨2, ![2560, 1024]⟩
abbrev S4096x1024 : Shape := ⟨2, ![4096, 1024]⟩
abbrev S1x1024 : Shape := ⟨2, ![1, 1024]⟩
abbrev S1024x2560 : Shape := ⟨2, ![1024, 2560]⟩
abbrev S4096x2560 : Shape := ⟨2, ![4096, 2560]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S4096x768, .bf16⟩
  | .hbm, ⟨3, _⟩ => ⟨S4096x256, .bf16⟩
  | .hbm, ⟨4, _⟩ => ⟨S2560x1024, .bf16⟩
  | .hbm, ⟨5, _⟩ => ⟨S4096x1024, .f32⟩
  | .hbm, ⟨6, _⟩ => ⟨S1x1024, .f32⟩
  | .hbm, ⟨7, _⟩ => ⟨S4096x1024, .bf16⟩
  | .hbm, ⟨8, _⟩ => ⟨S2560x1024, .f32⟩
  | .hbm, ⟨9, _⟩ => ⟨S1024x2560, .f32⟩
  | .hbm, ⟨10, _⟩ => ⟨S4096x2560, .bf16⟩
  | .hbm, ⟨11, _⟩ => ⟨S4096x2560, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x2560, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S1792x1024 : Shape := ⟨2, ![1792, 1024]⟩
abbrev S1x1792 : Shape := ⟨2, ![1, 1792]⟩
abbrev S_ : Shape := ⟨0, ![]⟩
abbrev S4096 : Shape := ⟨1, ![4096]⟩
abbrev S4096x1 : Shape := ⟨2, ![4096, 1]⟩
abbrev S4096x1792 : Shape := ⟨2, ![4096, 1792]⟩
abbrev S1024x1024 : Shape := ⟨2, ![1024, 1024]⟩
abbrev S896x1024 : Shape := ⟨2, ![896, 1024]⟩
abbrev S1x896 : Shape := ⟨2, ![1, 896]⟩
abbrev S1024x896 : Shape := ⟨2, ![1024, 896]⟩

abbrev nBuf : Space → Nat
  | .hbm => 21
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1792x1024, .bf16⟩
  | .hbm, ⟨3, _⟩ => ⟨S1x1792, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1792, .bf16⟩
  | .local _ .vmem, ⟨0, _⟩ => ⟨S1024x1024, .bf16⟩
  | .local _ .vmem, ⟨1, _⟩ => ⟨S1024x1024, .bf16⟩
  | .local _ .vmem, ⟨2, _⟩ => ⟨S896x1024, .bf16⟩
  | .local _ .vmem, ⟨3, _⟩ => ⟨S896x1024, .bf16⟩
  | .local _ .vmem, ⟨4, _⟩ => ⟨S1x896, .f32⟩
  | .local _ .vmem, ⟨5, _⟩ => ⟨S1x896, .f32⟩
  | .local _ .vmem, ⟨6, _⟩ => ⟨S1024x896, .bf16⟩
  | .local _ .vmem, ⟨7, _⟩ => ⟨S1024x896, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S4096x1024 : Shape := ⟨2, ![4096, 1024]⟩
abbrev S1x1024 : Shape := ⟨2, ![1, 1024]⟩
abbrev S1792x1024 : Shape := ⟨2, ![1792, 1024]⟩
abbrev S1x1792 : Shape := ⟨2, ![1, 1792]⟩
abbrev S_ : Shape := ⟨0, ![]⟩
abbrev S4096 : Shape := ⟨1, ![4096]⟩
abbrev S4096x1 : Shape := ⟨2, ![4096, 1]⟩
abbrev S1024x1792 : Shape := ⟨2, ![1024, 1792]⟩
abbrev S4096x1792 : Shape := ⟨2, ![4096, 1792]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1792x1024, .bf16⟩
  | .hbm, ⟨3, _⟩ => ⟨S1x1792, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1792x1024, .f32⟩
  | .hbm, ⟨20, _⟩ => ⟨S1024x1792, .f32⟩
  | .hbm, ⟨21, _⟩ => ⟨S4096x1792, .f32⟩
  | .hbm, ⟨22, _⟩ => ⟨S4096x1792, .f32⟩
  | .hbm, ⟨23, _⟩ => ⟨S4096x1792, .f32⟩
  | .hbm, ⟨24, _⟩ => ⟨S4096x1792, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel12.lean ====
abbrev S4096x1792 : Shape := ⟨2, ![4096, 1792]⟩
abbrev S1792x1024 : Shape := ⟨2, ![1792, 1024]⟩
abbrev S4096x1024 : Shape := ⟨2, ![4096, 1024]⟩
abbrev S1x1024 : Shape := ⟨2, ![1, 1024]⟩
abbrev S1x1792 : Shape := ⟨2, ![1, 1792]⟩
abbrev S512x1792 : Shape := ⟨2, ![512, 1792]⟩
abbrev S512x1024 : Shape := ⟨2, ![512, 1024]⟩
abbrev S1792 : Shape := ⟨1, ![1792]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x1792, .bf16⟩
  | .hbm, ⟨1, _⟩ => ⟨S1792x1024, .bf16⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x1024, .bf16⟩
  | .hbm, ⟨6, _⟩ => ⟨S1x1024, .f32⟩
  | .hbm, ⟨7, _⟩ => ⟨S1x1792, .f32⟩
  | .local _ .vmem, ⟨0, _⟩ => ⟨S512x1792, .bf16⟩
  | .local _ .vmem, ⟨1, _⟩ => ⟨S512x1792, .bf16⟩
  | .local _ .vmem, ⟨2, _⟩ => ⟨S1792x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1792, .f32⟩
  | _, _ => ⟨S4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference12Ideal.lean ====
abbrev S4096x1792 : Shape := ⟨2, ![4096, 1792]⟩
abbrev S1792x1024 : Shape := ⟨2, ![1792, 1024]⟩
abbrev S4096x1024 : Shape := ⟨2, ![4096, 1024]⟩
abbrev S1x1024 : Shape := ⟨2, ![1, 1024]⟩
abbrev S1024x1792 : Shape := ⟨2, ![1024, 1792]⟩
abbrev S_ : Shape := ⟨0, ![]⟩
abbrev S4096 : Shape := ⟨1, ![4096]⟩
abbrev S4096x1 : Shape := ⟨2, ![4096, 1]⟩
abbrev S1x1792 : Shape := ⟨2, ![1, 1792]⟩
abbrev S1792 : Shape := ⟨1, ![1792]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x1792, .bf16⟩
  | .hbm, ⟨1, _⟩ => ⟨S1792x1024, .bf16⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1792x1024, .f32⟩
  | .hbm, ⟨6, _⟩ => ⟨S1024x1792, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1792, .f32⟩
  | .hbm, ⟨28, _⟩ => ⟨S4096x1792, .f32⟩
  | .hbm, ⟨29, _⟩ => ⟨S4096x1792, .f32⟩
  | .hbm, ⟨30, _⟩ => ⟨S4096x1792, .f32⟩
  | .hbm, ⟨31, _⟩ => ⟨S4096x1792, .f32⟩
  | .hbm, ⟨32, _⟩ => ⟨S_, .f32⟩
  | .hbm, ⟨33, _⟩ => ⟨S1792, .f32⟩
  | .hbm, ⟨34, _⟩ => ⟨S1x1792, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | _, _ => ⟨S4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel13.lean ====
abbrev S4096x1792 : Shape := ⟨2, ![4096, 1792]⟩
abbrev S4096x1024 : Shape := ⟨2, ![4096, 1024]⟩
abbrev S1792x1024 : Shape := ⟨2, ![1792, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1792, .bf16⟩
  | .hbm, ⟨1, _⟩ => ⟨S4096x1024, .bf16⟩
  | .hbm, ⟨2, _⟩ => ⟨S1792x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4096x1792 : Shape := ⟨2, ![4096, 1792]⟩
abbrev S4096x1024 : Shape := ⟨2, ![4096, 1024]⟩
abbrev S_ : Shape := ⟨0, ![]⟩
abbrev S1792x1024 : Shape := ⟨2, ![1792, 1024]⟩
abbrev S1024x1792 : Shape := ⟨2, ![1024, 1792]⟩

abbrev nBuf : Space → Nat
  | .hbm => 12
  | .vmem => 0
  | .smem => 0
  | _ => 0

abbrev bufTy : (tb : Table) → Fin (tcTables nBuf tb) → BufTy
  | .hbm, ⟨0, _⟩ => ⟨S4096x1792, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1792x1024, .f32⟩
  | .hbm, ⟨5, _⟩ => ⟨S1024x1792, .f32⟩
  | .hbm, ⟨6, _⟩ => ⟨S4096x1792, .f32⟩
  | .hbm, ⟨7, _⟩ => ⟨S4096x1792, .f32⟩
  | .hbm, ⟨8, _⟩ => ⟨S1792x1024, .f32⟩
  | .hbm, ⟨9, _⟩ => ⟨S1024x1792, .f32⟩
  | .hbm, ⟨10, _⟩ => ⟨S1792x1024, .f32⟩
  | .hbm, ⟨11, _⟩ => ⟨S1792x1024, .bf16⟩
  | _, _ => ⟨S4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Model.lean ====
/-
  The mathematics of the banded attention's backward pass, over the real numbers.

  One batch element is a sequence of rows of 768 columns, twelve heads of sixty-four columns each. The queries and keys are
  normalised per head, multiplied by a gain; a query attends to the keys of its own chunk of sixty-four rows and of the eight
  chunks before it. `Att` holds one batch element; the functions after it are the textbook gradient.
-/
module

public import Mathlib.Analysis.SpecialFunctions.Exp
public import Mathlib.Analysis.SpecialFunctions.Pow.Real
public import Mathlib.Algebra.BigOperators.Intervals

@[expose] public section

open scoped BigOperators
open Finset

namespace Att

noncomputable section

/-- The small constant added under the square root, `float32(1e-6)` as the rational that it is. -/
def eps : ℝ := 8796093 / 2 ^ 43

/-- One batch element: queries, keys, values, the result's cotangent (row, column), the gains, and the bias of a head at a
    query and a key. -/
structure Seq where
  q : ℕ → ℕ → ℝ
  k : ℕ → ℕ → ℝ
  v : ℕ → ℕ → ℝ
  o : ℕ → ℕ → ℝ
  gq : ℕ → ℝ
  gk : ℕ → ℝ
  bias : ℕ → ℕ → ℕ → ℝ

/-- Query row `i` may see key row `k`: the key's chunk is the query's own or one of the eight before it. -/
def Valid (i k : ℕ) : Prop := k / 64 ≤ i / 64 ∧ i / 64 ≤ k / 64 + 8

instance (i k : ℕ) : Decidable (Valid i k) := inferInstanceAs (Decidable (_ ∧ _))

/-- The sum of a row over the columns of the head that column `c` belongs to. -/
def gsum (f : ℕ → ℝ) (c : ℕ) : ℝ := ∑ d ∈ range 64, f (64 * (c / 64) + d)

/-- The reciprocal root mean square of a row over the head of column `c`. -/
def rr (x : ℕ → ℝ) (c : ℕ) : ℝ := (Real.sqrt (gsum (fun e => x e * x e) c * (1 / 64) + eps))⁻¹

/-- A row normalised per head. -/
def xhat (x : ℕ → ℝ) (c : ℕ) : ℝ := x c * rr x c

/-- A row normalised per head and multiplied by the gain. -/
def nrm (g : ℕ → ℝ) (x : ℕ → ℝ) (c : ℕ) : ℝ := xhat x c * g (c % 64)

/-- The gradient of `nrm` with respect to its row, at cotangent `dy`. -/
def nbwd (g x dy : ℕ → ℝ) (c : ℕ) : ℝ :=
  rr x c * (dy c * g (c % 64) - xhat x c * (gsum (fun e => dy e * g (e % 64) * xhat x e) c * (1 / 64)))

namespace Seq

variable (A : Seq)

/-- The normalised queries. -/
def qn (i c : ℕ) : ℝ := nrm A.gq (A.q i) c
/-- The normalised keys. -/
def kn (k c : ℕ) : ℝ := nrm A.gk (A.k k) c
/-- The score of a query and a key in head `h`. -/
def sc (h i k : ℕ) : ℝ := (∑ d ∈ range 64, A.qn i (64 * h + d) * A.kn k (64 * h + d)) * (1 / 8) + A.bias h i k
/-- The softmax's weight before it is divided by the row's total. -/
def wt (h i k : ℕ) : ℝ := if Valid i k then Real.exp (A.sc h i k) else 0
/-- The row's total. -/
def tot (h i : ℕ) : ℝ := ∑ k ∈ range 2048, A.wt h i k
/-- The probability that query `i` gives to key `k`. -/
def pr (h i k : ℕ) : ℝ := A.wt h i k / A.tot h i
/-- The gradient of the probabilities. -/
def dp (h i k : ℕ) : ℝ := ∑ d ∈ range 64, A.o i (64 * h + d) * A.v k (64 * h + d)
/-- The gradient of the scores. -/
def ds (h i k : ℕ) : ℝ := A.pr h i k * (A.dp h i k - ∑ k' ∈ range 2048, A.pr h i k' * A.dp h i k')
/-- The gradient of the values. -/
def dv (k c : ℕ) : ℝ := ∑ i ∈ range 2048, A.pr (c / 64) i k * A.o i c
/-- The gradient of the normalised queries. -/
def dqn (i c : ℕ) : ℝ := (∑ k ∈ range 2048, A.ds (c / 64) i k * A.kn k c) * (1 / 8)
/-- The gradient of the normalised keys. -/
def dkn (k c : ℕ) : ℝ := (∑ i ∈ range 2048, A.ds (c / 64) i k * A.qn i c) * (1 / 8)
/-- The gradient of the queries. -/
def dq (i c : ℕ) : ℝ := nbwd A.gq (A.q i) (A.dqn i) c
/-- The gradient of the keys. -/
def dk (k c : ℕ) : ℝ := nbwd A.gk (A.k k) (A.dkn k) c
/-- What column `c` adds to the query gain's gradient. -/
def dgq (c : ℕ) : ℝ := ∑ i ∈ range 2048, A.dqn i c * xhat (A.q i) c
/-- What column `c` adds to the key gain's gradient. -/
def dgk (c : ℕ) : ℝ := ∑ k ∈ range 2048, A.dkn k c * xhat (A.k k) c

theorem valid_self (i : ℕ) : Valid i i := ⟨le_refl _, by omega⟩

theorem wt_nonneg (h i k : ℕ) : 0 ≤ A.wt h i k := by
  unfold wt; split_ifs
  · exact (Real.exp_pos _).le
  · exact le_refl _

theorem tot_pos (h i : ℕ) (hi : i < 2048) : 0 < A.tot h i := by
  refine Finset.sum_pos' (fun k _ => A.wt_nonneg h i k) ⟨i, mem_range.2 hi, ?_⟩
  unfold wt; rw [if_pos (valid_self i)]; exact Real.exp_pos _

theorem wt_of_not (h i k : ℕ) (hv : ¬ Valid i k) : A.wt h i k = 0 := if_neg hv
theorem pr_of_not (h i k : ℕ) (hv : ¬ Valid i k) : A.pr h i k = 0 := by rw [pr, A.wt_of_not h i k hv, zero_div]
theorem ds_of_not (h i k : ℕ) (hv : ¬ Valid i k) : A.ds h i k = 0 := by rw [ds, A.pr_of_not h i k hv, zero_mul]

end Seq

/-- A sum over a window of the positions below `N` is the sum over all of them where the terms outside it are zero. -/
theorem sum_window (f : ℕ → ℝ) (k0 w N : ℕ) (hN : k0 + w ≤ N) (h0 : ∀ k < N, ¬ (k0 ≤ k ∧ k < k0 + w) → f k = 0) :
    ∑ c ∈ range w, f (k0 + c) = ∑ k ∈ range N, f k := by
  have e : ∑ c ∈ range w, f (k0 + c) = ∑ k ∈ Ico k0 (k0 + w), f k := by
    rw [Finset.sum_Ico_eq_sum_range]; simp
  rw [e]
  refine Finset.sum_subset (fun k hk => ?_) (fun k hk hn => h0 k (mem_range.1 hk) (by simpa using hn))
  have := mem_Ico.1 hk; exact mem_range.2 (by omega)

/-- A row's sum over 128 lanes with the lanes of one half kept is the sum over that half. -/
theorem sum_half (t : ℕ) (ht : t < 2) (f : ℕ → ℝ) :
    ∑ l ∈ range 128, (if l / 64 = t then f l else 0) = ∑ d ∈ range 64, f (64 * t + d) := by
  rw [← Finset.sum_filter]
  have e : (range 128).filter (fun l => l / 64 = t) = Ico (64 * t) (64 * t + 64) := by
    ext l; simp only [mem_filter, mem_range, mem_Ico]; omega
  rw [e, Finset.sum_Ico_eq_sum_range]; simp

end

end Att
-- ==== Proof.Prep.lean ====
/-
  The host lines that both programs share, read at an entry: the relative position's word and its table entry, the window's
  mask, and the gain laid out twice.
-/
module

public import Idealize.ShloMosaic.Lib.ValueIdx
public import Idealize.ShloMosaic.Lib.WordArith
public import Idealize.ShloMosaic.Lib.KernelVsHost
public import Idealize.ShloMosaic.PureOps

@[expose] public section

noncomputable section

namespace Att

/-- The bias table's column for query `i` and key `k`: the distance, between -63 and 128, counted from zero. -/
def rel (i k : ℕ) : ℕ := (max (-63) (min 128 ((i : ℤ) - k)) + 63).toNat

theorem rel_lt (i k : ℕ) : rel i k < 192 := by unfold rel; omega

end Att

namespace AttK

open Idealize.ShloMosaic Idealize.ShloMosaic.ValueIdx

/-! ## The words -/

/-- The table column's word, from the distance's word. -/
def relw (d : BitVec 32) : BitVec 32 :=
  IntOp.subi (IntOp.addi (IntOp.minsi 128#32 (IntOp.maxsi 4294967233#32 d)) 64#32) 1#32

theorem relw_toInt (d : BitVec 32) : (relw d).toInt = max (-63) (min 128 d.toInt) + 63 := by
  have a : (128#32 : BitVec 32).toInt = 128 := by decide
  have b : (4294967233#32 : BitVec 32).toInt = -63 := by decide
  have e : (IntOp.minsi 128#32 (IntOp.maxsi 4294967233#32 d)).toInt = max (-63) (min 128 d.toInt) := by
    unfold IntOp.minsi IntOp.maxsi BitVec.slt
    simp only [decide_eq_true_eq]
    split_ifs <;> simp_all <;> omega
  have e1 : (IntOp.addi (IntOp.minsi 128#32 (IntOp.maxsi 4294967233#32 d)) 64#32).toInt = max (-63) (min 128 d.toInt) + 64 := by
    show (_ + _ : BitVec 32).toInt = _
    have h : (64#32 : BitVec 32).toInt = 64 := by decide
    rw [BitVec.toInt_add, e, h]
    simp only [Int.bmod]; split_ifs <;> omega
  have h : (1#32 : BitVec 32).toInt = 1 := by decide
  show (_ - _ : BitVec 32).toInt = _
  rw [BitVec.toInt_sub, e1, h]
  simp only [Int.bmod]; split_ifs <;> omega

theorem relw_eq (d : BitVec 32) (i k : ℕ) (h : d.toInt = (i : ℤ) - k) : (relw d).toInt.toNat = Att.rel i k := by
  rw [relw_toInt, h]; rfl

theorem toInt_ofNat (n : ℕ) (h : n < 2 ^ 31) : (BitVec.ofNat 32 n).toInt = n := by
  rw [BitVec.toInt_eq_toNat_bmod, BitVec.toNat_ofNat]; simp only [Int.bmod]; split_ifs <;> omega

/-- A position's chunk. -/
theorem chunk_toInt (n : ℕ) (h : n < 2 ^ 31) : (IntOp.divsi .host (BitVec.ofNat 32 n) 64#32).toInt = (n / 64 : ℕ) := by
  have e : IntOp.divsi .host (BitVec.ofNat 32 n) 64#32 = (BitVec.ofNat 32 n).sdiv 64#32 := by
    unfold IntOp.divsi
    rw [if_neg]
    rintro (h0 | ⟨_, h1⟩)
    · exact absurd h0 (by decide)
    · exact absurd h1 (by decide)
  have h64 : (64#32 : BitVec 32).toInt = 64 := by decide
  rw [e, BitVec.toInt_sdiv_of_ne_or_ne _ _ (.inr (by decide)), toInt_ofNat n h, h64]
  rw [Int.tdiv_eq_ediv_of_nonneg (by omega)]
  omega

/-- Whether a chunk distance is between zero and eight, as a word. -/
def bandw (a : BitVec 32) : BitVec 1 := IntOp.andi (IntOp.cmpi .sge a 0#32) (IntOp.cmpi .sle a 8#32)

theorem bandw_eq (a : BitVec 32) (P : Prop) [Decidable P] (h : P ↔ 0 ≤ a.toInt ∧ a.toInt ≤ 8) :
    bandw a = if P then 1#1 else 0#1 := by
  have h0 : (0#32 : BitVec 32).toInt = 0 := by decide
  have h8 : (8#32 : BitVec 32).toInt = 8 := by decide
  have e : bandw a = (BitVec.ofBool (decide (0 ≤ a.toInt))) &&& (BitVec.ofBool (decide (a.toInt ≤ 8))) := by
    unfold bandw IntOp.andi IntOp.cmpi
    simp only [BitVec.sle, h0, h8]
  rw [e]
  by_cases h1 : 0 ≤ a.toInt <;> by_cases h2 : a.toInt ≤ 8
  · rw [if_pos (h.2 ⟨h1, h2⟩)]; simp [h1, h2]
  · rw [if_neg (fun x => h2 (h.1 x).2)]; simp [h1, h2]
  · rw [if_neg (fun x => h1 (h.1 x).1)]; simp [h1, h2]
  · rw [if_neg (fun x => h1 (h.1 x).1)]; simp [h1, h2]

/-! ## The table lookup -/

section Take
variable {α : Type}

/-- The dimension numbers of a lookup in every row of `[H, N]` at column indices `[R, C, 1]`. -/
abbrev rowsTake (H N R C : ℕ)
    (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

/-- The lookup at `(h, r, c)`: row `h` at the column that the index's word names, held inside the table. -/
theorem rowsTake_apply {H N R C w : ℕ} (hN : 0 < N)
    (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ w) (h : Fin H) (r : Fin R) (c : Fin C) :
    Host.gather (rowsTake H N R C wf) x idx (ix3 h r c)
      = x (ix2 h ⟨min (idx (ix3 r c ⟨0, Nat.one_pos⟩)).toInt.toNat (N - 1), by omega⟩) := by
  unfold Host.gather
  congr 1
  funext a
  refine Fin.ext ?_
  show (rowsTake H N R C wf).start (ix3 h r c) idx a + (rowsTake H N R C wf).batchCoord (ix3 h r c) a
      + (rowsTake H N R C wf).offCoord (ix3 h r c) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · have hs : (rowsTake H N R C wf).start (ix3 h r c) idx 0 = 0 := by
      unfold GatherDims.start
      rw [dif_neg (show (0 : Fin 2) ∉ (rowsTake H N R C wf).startIndexMap from fun h => by simp at h)]
    rw [hs, Nat.zero_add]
    unfold GatherDims.offCoord
    rw [dif_pos ((GatherDims.mem_sKept _ _).mpr ⟨fun h => by simp at h, List.not_mem_nil⟩)]
    rfl
  · rw [GatherDims.offCoord_eq_zero _ _ _ (fun h => ((GatherDims.mem_sKept _ _).mp h).1 (List.mem_singleton.mpr rfl)), Nat.add_zero]
    unfold GatherDims.start
    rw [dif_pos (show (1 : Fin 2) ∈ (rowsTake H N R C wf).startIndexMap from List.mem_singleton.mpr rfl)]
    have hsi : (rowsTake H N R C wf).siIdx (ix3 h r c) ⟨List.idxOf (1 : Fin 2) (rowsTake H N R C wf).startIndexMap,
        List.idxOf_lt_length_iff.2 (List.mem_singleton.mpr rfl)⟩ = ix3 r c ⟨0, Nat.one_pos⟩ := by
      funext b; refine Fin.ext ?_
      match b with
      | ⟨0, _⟩ => rfl
      | ⟨1, _⟩ => rfl
      | ⟨2, _⟩ => rfl
    rw [hsi]
    rfl

end Take

/-- A row laid out twice, at a lane. -/
theorem twice_apply {α : Type} (x : (⟨2, ![1, 64]⟩ : Shape).Idx → α) (h) (l : Fin 128) :
    concatenate (⟨2, ![1, 128]⟩ : Shape) 1 [⟨⟨2, ![1, 64]⟩, x⟩, ⟨⟨2, ![1, 64]⟩, x⟩] h (ix2 (0 : Fin 1) l)
      = x (ix2 (0 : Fin 1) (⟨l.val % 64, Nat.mod_lt _ (by norm_num)⟩ : Fin 64)) := by
  have hl := l.isLt
  by_cases h64 : l.val < 64
  · refine concatenate_pair_apply_left (t := ⟨2, ![1, 128]⟩) (s₁ := ⟨2, ![1, 64]⟩) (s₂ := ⟨2, ![1, 64]⟩) (1 : Fin 2) _ _ h _ rfl _ ?_
    intro b
    match b with
    | ⟨0, _⟩ => rfl
    | ⟨1, _⟩ => show l.val % 64 = l.val; omega
  · refine concatenate_pair_apply_right (t := ⟨2, ![1, 128]⟩) (s₁ := ⟨2, ![1, 64]⟩) (s₂ := ⟨2, ![1, 64]⟩) (1 : Fin 2) _ _ h _ rfl rfl _ ?_ ?_
    · intro b hb
      match b with
      | ⟨0, _⟩ => rfl
      | ⟨1, _⟩ => exact absurd rfl hb
    · show l.val % 64 + 64 = l.val; omega

end AttK
-- ==== Proof.Shift.lean ====
/-
  A pair of heads on its own: taking the pair's 128 columns out of a batch element commutes with the gradient.
-/
module

public import proofs.«01_k».proof.Proof.Model
public import proofs.«01_k».proof.Proof.Prep

@[expose] public section

noncomputable section

open scoped BigOperators
open Finset

namespace Att

/-- The columns and heads of pair `p`, counted from zero. -/
def Seq.loc (A : Seq) (p : ℕ) : Seq where
  q i l := A.q i (128 * p + l)
  k i l := A.k i (128 * p + l)
  v i l := A.v i (128 * p + l)
  o i l := A.o i (128 * p + l)
  gq := A.gq
  gk := A.gk
  bias t := A.bias (2 * p + t)

/-- The call's arrays as real numbers: the projections, the result's cotangent, the two gains and the bias table. -/
structure Arr where
  z : ℕ → ℕ → ℝ
  d : ℕ → ℕ → ℝ
  gq : ℕ → ℝ
  gk : ℕ → ℝ
  rb : ℕ → ℕ → ℝ

/-- Batch element `b`. -/
def Arr.seq (D : Arr) (b : ℕ) : Seq where
  q i c := D.z (2048 * b + i) c
  k i c := D.z (2048 * b + i) (768 + c)
  v i c := D.z (2048 * b + i) (1536 + c)
  o i c := D.d (2048 * b + i) c
  gq := D.gq
  gk := D.gk
  bias h i k := D.rb h (rel i k)

/-! ## The pair's columns -/

theorem col_div (p l : ℕ) : (128 * p + l) / 64 = 2 * p + l / 64 := by omega
theorem col_mod (p l : ℕ) : (128 * p + l) % 64 = l % 64 := by omega

theorem gsum_loc (f : ℕ → ℝ) (p l : ℕ) : gsum (fun e => f (128 * p + e)) l = gsum f (128 * p + l) := by
  unfold gsum
  refine Finset.sum_congr rfl fun d _ => congrArg f ?_
  omega

theorem rr_loc (x : ℕ → ℝ) (p l : ℕ) : rr (fun e => x (128 * p + e)) l = rr x (128 * p + l) := by
  unfold rr; rw [gsum_loc (fun e => x e * x e)]

theorem xhat_loc (x : ℕ → ℝ) (p l : ℕ) : xhat (fun e => x (128 * p + e)) l = xhat x (128 * p + l) := by
  unfold xhat; rw [rr_loc]

theorem nrm_loc (g x : ℕ → ℝ) (p l : ℕ) : nrm g (fun e => x (128 * p + e)) l = nrm g x (128 * p + l) := by
  unfold nrm; rw [xhat_loc, col_mod]

theorem nbwd_loc (g x dy : ℕ → ℝ) (p l : ℕ) :
    nbwd g (fun e => x (128 * p + e)) (fun e => dy (128 * p + e)) l = nbwd g x dy (128 * p + l) := by
  unfold nbwd
  rw [rr_loc, xhat_loc, col_mod, ← gsum_loc (fun e => dy e * g (e % 64) * xhat x e)]
  simp only [xhat_loc, col_mod]

namespace Seq

variable (A : Seq) (p : ℕ)

theorem qn_loc (i l : ℕ) : (A.loc p).qn i l = A.qn i (128 * p + l) := nrm_loc ..
theorem kn_loc (i l : ℕ) : (A.loc p).kn i l = A.kn i (128 * p + l) := nrm_loc ..

theorem hd (t d : ℕ) : 128 * p + (64 * t + d) = 64 * (2 * p + t) + d := by omega

theorem sc_loc (t i k : ℕ) : (A.loc p).sc t i k = A.sc (2 * p + t) i k := by
  unfold sc; simp only [qn_loc, kn_loc, hd]; rfl
theorem wt_loc (t i k : ℕ) : (A.loc p).wt t i k = A.wt (2 * p + t) i k := by
  unfold wt; rw [sc_loc]
theorem tot_loc (t i : ℕ) : (A.loc p).tot t i = A.tot (2 * p + t) i := by
  unfold tot; simp only [wt_loc]
theorem pr_loc (t i k : ℕ) : (A.loc p).pr t i k = A.pr (2 * p + t) i k := by
  unfold pr; rw [wt_loc, tot_loc]
theorem dp_loc (t i k : ℕ) : (A.loc p).dp t i k = A.dp (2 * p + t) i k := by
  unfold dp; simp only [loc, hd]
theorem ds_loc (t i k : ℕ) : (A.loc p).ds t i k = A.ds (2 * p + t) i k := by
  unfold ds; simp only [pr_loc, dp_loc]
theorem dv_loc (k l : ℕ) : (A.loc p).dv k l = A.dv k (128 * p + l) := by
  unfold dv; simp only [pr_loc, col_div]; rfl
theorem dqn_loc (i l : ℕ) : (A.loc p).dqn i l = A.dqn i (128 * p + l) := by
  unfold dqn; simp only [ds_loc, kn_loc, col_div]
theorem dkn_loc (k l : ℕ) : (A.loc p).dkn k l = A.dkn k (128 * p + l) := by
  unfold dkn; simp only [ds_loc, qn_loc, col_div]
theorem dq_loc (i l : ℕ) : (A.loc p).dq i l = A.dq i (128 * p + l) := by
  unfold dq
  rw [show (A.loc p).dqn i = fun e => A.dqn i (128 * p + e) from funext fun e => dqn_loc A p i e]
  exact nbwd_loc ..
theorem dk_loc (i l : ℕ) : (A.loc p).dk i l = A.dk i (128 * p + l) := by
  unfold dk
  rw [show (A.loc p).dkn i = fun e => A.dkn i (128 * p + e) from funext fun e => dkn_loc A p i e]
  exact nbwd_loc ..
theorem dgq_loc (l : ℕ) : (A.loc p).dgq l = A.dgq (128 * p + l) := by
  unfold dgq
  exact Finset.sum_congr rfl fun i _ => by rw [dqn_loc]; exact congrArg _ (xhat_loc ..)
theorem dgk_loc (l : ℕ) : (A.loc p).dgk l = A.dgk (128 * p + l) := by
  unfold dgk
  exact Finset.sum_congr rfl fun i _ => by rw [dkn_loc]; exact congrArg _ (xhat_loc ..)

end Seq

end Att
-- ==== Proof.Args.lean ====
/-
  The call's arguments as arrays of real numbers, for the kernel and the reference alike.
-/
module

public import proofs.«01_k».proof.Proof.Shift
public import Idealize.ShloMosaic.Lib.ValueIdx

@[expose] public section

noncomputable section

namespace AttK

open Idealize.ShloMosaic Idealize.ShloMosaic.ValueIdx

/-- The five arguments hold the real numbers of `D`. -/
structure Reads (D : Att.Arr) (x0 : FVec Ideal ⟨2, ![4096, 2560]⟩ .bf16) (x1 : FVec Ideal ⟨2, ![4096, 1024]⟩ .bf16)
    (x2 x3 : FVec Ideal ⟨2, ![1, 64]⟩ .f32) (x4 : FVec Ideal ⟨2, ![12, 192]⟩ .f32) : Prop where
  z : ∀ (i : Fin 4096) (l : Fin 2560), x0 (ix2 i l) = ((D.z i.val l.val : ℝ) : EReal)
  d : ∀ (i : Fin 4096) (l : Fin 1024), x1 (ix2 i l) = ((D.d i.val l.val : ℝ) : EReal)
  gq : ∀ l : Fin 64, x2 (ix2 0 l) = ((D.gq l.val : ℝ) : EReal)
  gk : ∀ l : Fin 64, x3 (ix2 0 l) = ((D.gk l.val : ℝ) : EReal)
  rb : ∀ (h : Fin 12) (e : Fin 192), x4 (ix2 h e) = ((D.rb h.val e.val : ℝ) : EReal)

end AttK
-- ==== Proof.Finite.lean ====
/-
  What the precondition gives: every entry of the five arguments is a real number.
-/
module

public import proofs.«01_k».proof.Pre_finite
public import proofs.«01_k».proof.Proof.Args
public import Idealize.ShloMosaic.Lib.ReduceAll
public import Idealize.ShloMosaic.Lib.Affine

@[expose] public section

noncomputable section

namespace AttP

open Idealize.ShloMosaic Idealize.ShloMosaic.ValueIdx Cert.Pre_finite

theorem litInf : (FloatOps.ofBits .f32 0x7F800000#32 : Ideal .f32) = (⊤ : EReal) := by
  simp [Ideal.ofBits, Ideal.ieee, -EReal.coe_mul]

/-- An extended real whose absolute value is below `⊤` is a real number. -/
theorem real_of_lt (a : EReal) (h : Ideal.cmp .olt (max a (-a)) (⊤ : EReal) = 1#1) : a = ((a.toReal : ℝ) : EReal) := by
  refine (EReal.coe_toReal ?_ ?_).symm
  · rintro rfl
    revert h; simp [Ideal.cmp]
  · rintro rfl
    revert h; simp [Ideal.cmp]

instance : Subsingleton S_.Idx := ⟨fun _ _ => funext fun a => a.elim0⟩

variable [Facts]

theorem entry {s : Shape} (x : FVec Ideal s .f32) (hb : S_.BroadcastsInDim s (![] : Fin 0 → Fin s.rank)) {axes : List (Fin s.rank)} (hr : s.ReducesTo axes S_)
    (j : S_.Idx) (h : Host.reduce IntOp.andi (cmpf .olt (Host.absf x) (broadcastInDim s ![] hb (constant S_ .f32 0x7F800000#32))) (constantI S_ 1 1#1) hr Facts.h_S_ j = 1#1)
    (i : s.Idx) : x i = (((x i : EReal).toReal : ℝ) : EReal) := by
  have e := Host.reduce_andi_all _ _ _ _ j h i
  refine real_of_lt (x i) ?_
  rw [← litInf]
  exact e

variable {x0 : FVec Ideal S4096x2560 .bf16} {x1 : FVec Ideal S4096x1024 .bf16} {x2 x3 : FVec Ideal S1x64 .f32} {x4 : FVec Ideal S12x192 .f32}

theorem split (h : fn (F := Ideal) x0 x1 x2 x3 x4 = fun _ => 1#1) :
    (∀ i, x0 i = (((x0 i : EReal).toReal : ℝ) : EReal)) ∧ (∀ i, x1 i = (((x1 i : EReal).toReal : ℝ) : EReal)) ∧ (∀ i, x2 i = (((x2 i : EReal).toReal : ℝ) : EReal))
      ∧ (∀ i, x3 i = (((x3 i : EReal).toReal : ℝ) : EReal)) ∧ ∀ i, x4 i = (((x4 i : EReal).toReal : ℝ) : EReal) := by
  have e := congrFun h (fun a => a.elim0)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨entry (extf .f32 x0 Facts.bitsLt_bf16_f32) _ _ _ e0, entry (extf .f32 x1 Facts.bitsLt_bf16_f32) _ _ _ e1, entry x2 _ _ _ e2, entry x3 _ _ _ e3, entry x4 _ _ _ e4⟩

/-- The real numbers that the arguments hold. -/
def arr (x0 : FVec Ideal S4096x2560 .bf16) (x1 : FVec Ideal S4096x1024 .bf16) (x2 x3 : FVec Ideal S1x64 .f32) (x4 : FVec Ideal S12x192 .f32) : Att.Arr where
  z i l := if h : i < 4096 ∧ l < 2560 then (x0 (ix2 (⟨i, h.1⟩ : Fin 4096) (⟨l, h.2⟩ : Fin 2560)) : EReal).toReal else 0
  d i l := if h : i < 4096 ∧ l < 1024 then (x1 (ix2 (⟨i, h.1⟩ : Fin 4096) (⟨l, h.2⟩ : Fin 1024)) : EReal).toReal else 0
  gq l := if h : l < 64 then (x2 (ix2 (0 : Fin 1) (⟨l, h⟩ : Fin 64)) : EReal).toReal else 0
  gk l := if h : l < 64 then (x3 (ix2 (0 : Fin 1) (⟨l, h⟩ : Fin 64)) : EReal).toReal else 0
  rb i l := if h : i < 12 ∧ l < 192 then (x4 (ix2 (⟨i, h.1⟩ : Fin 12) (⟨l, h.2⟩ : Fin 192)) : EReal).toReal else 0

theorem reads (h : fn (F := Ideal) x0 x1 x2 x3 x4 = fun _ => 1#1) : AttK.Reads (arr x0 x1 x2 x3 x4) x0 x1 x2 x3 x4 := by
  obtain ⟨h0, h1, h2, h3, h4⟩ := split h
  refine ⟨fun i l => ?_, fun i l => ?_, fun l => ?_, fun l => ?_, fun i l => ?_⟩
  · unfold arr; dsimp only; rw [dif_pos ⟨i.isLt, l.isLt⟩]; exact h0 _
  · unfold arr; dsimp only; rw [dif_pos ⟨i.isLt, l.isLt⟩]; exact h1 _
  · unfold arr; dsimp only; rw [dif_pos l.isLt]; exact h2 _
  · unfold arr; dsimp only; rw [dif_pos l.isLt]; exact h3 _
  · unfold arr; dsimp only; rw [dif_pos ⟨i.isLt, l.isLt⟩]; exact h4 _

end AttP
-- ==== Proof.Window.lean ====
/-
  One window of the attention's backward pass, as operations on whole vectors.

  A window is 256 query rows and `w` key rows of one pair of heads: 128 lanes, sixty-four per head. The functions here are the
  kernel's own operations on it, for any width `w` and over any float values.
-/
module

public import proofs.«01_k».proof.Proof.Gen.KernelIdeal.Skeleton
public import Idealize.ShloMosaic.Lib.Pipeline.FrameBody
public import Idealize.ShloMosaic.Lib.WholeRead
public import Idealize.ShloMosaic.Lib.Pipeline.Value

@[expose] public section

noncomputable section

namespace AttK

open Idealize.ShloMosaic Cert.KernelIdeal Cert.KernelIdeal.Gen

/-- A matrix shape. -/
abbrev M (n m : ℕ) : Shape := ⟨2, ![n, m]⟩
/-- A one-matrix stack's shape. -/
abbrev M1 (n m : ℕ) : Shape := ⟨3, ![1, n, m]⟩

theorem bRow (n m : ℕ) : (M 1 m).Broadcasts (M n m) :=
  ⟨le_refl 2, fun a => match a with
    | ⟨0, _⟩ => .inl rfl
    | ⟨1, _⟩ => .inr fun _ => rfl⟩

theorem bCol (n m : ℕ) : (M n 1).Broadcasts (M n m) :=
  ⟨le_refl 2, fun a => match a with
    | ⟨0, _⟩ => .inr fun _ => rfl
    | ⟨1, _⟩ => .inl rfl⟩

theorem red1 (n m : ℕ) : (M n m).Reduces [1] ⟨1, ![n]⟩ :=
  ⟨rfl, Nat.one_pos, fun b => match b with | ⟨0, _⟩ => rfl⟩

theorem cCol (n : ℕ) : (⟨1, ![n]⟩ : Shape).ShapeCasts (M n 1) := by
  simp [Shape.ShapeCasts, Shape.numel, Fin.prod_univ_succ]

theorem cDrop (n m : ℕ) : (M1 n m).ShapeCasts (M n m) := by
  simp [Shape.ShapeCasts, Shape.numel, Fin.prod_univ_succ]

theorem cAdd (n m : ℕ) : (M n m).ShapeCasts (M1 n m) := by
  simp [Shape.ShapeCasts, Shape.numel, Fin.prod_univ_succ]

/-- The product that contracts the first axis of both operands. -/
def tn (K M' N : ℕ) : DotDims (M K M') (M K N) (M M' N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section ops
variable {F : FTy → Type} [FloatOps F] [Facts]

/-- The lanes of the mask from `x`, the others from `y`. -/
def keep (n : ℕ) {α : Type} (mk : IVec S1x128 1) (x y : (M n 128).Idx → α) : (M n 128).Idx → α :=
  select (broadcastTo (M n 128) (shapeCast S1x128 mk shapeCasts_S1x128_S1x128) (bRow n 128)) x y

/-- The zero vector of the narrow format. -/
def zb (n : ℕ) : FVec F (M n 128) .bf16 := broadcast (M n 128) (Scalar.ofBits .bf16 0x0000#16)
/-- The zero vector. -/
def zf (n : ℕ) : FVec F (M n 128) .f32 := broadcast (M n 128) (Scalar.ofBits .f32 0x00000000#32)

/-- A row's total, as a column. -/
def rowsum (n m : ℕ) (x : FVec F (M n m) .f32) : FVec F (M n 1) .f32 :=
  shapeCast (M n 1) (multiReduction .add [1] ⟨1, ![n]⟩ x 0x00000000#32 (red1 n m) (.inl rfl) rfl) (cCol n)
/-- A row's greatest entry, as a column. -/
def rowmax (n m : ℕ) (x : FVec F (M n m) .f32) : FVec F (M n 1) .f32 :=
  shapeCast (M n 1) (multiReduction .maximumf [1] ⟨1, ![n]⟩ x 0xFF800000#32 (red1 n m) (.inl rfl) rfl) (cCol n)

/-- A product over the lanes of one head. -/
def dotl (w : ℕ) (mk : IVec S1x128 1) (x : FVec F (M 256 128) .bf16) (y : FVec F (M w 128) .bf16) : FVec F (M 256 w) .f32 :=
  matmul (DotDims.transposedRhs 256 128 w) none (keep 256 mk x (zb 256)) y (constant (M 256 w) .f32 0x00000000#32)

/-- The scores with their bias. -/
def score (w : ℕ) (mk : IVec S1x128 1) (qb : FVec F (M 256 128) .bf16) (kw : FVec F (M w 128) .bf16) (b : FVec F (M1 256 w) .f32) :
    FVec F (M 256 w) .f32 :=
  addf (dotl w mk qb kw) (shapeCast (M 256 w) b (cDrop 256 w))

/-- The exponential of a row less its greatest entry. -/
def expo (w : ℕ) (s : FVec F (M 256 w) .f32) : FVec F (M 256 w) .f32 :=
  exp (subf s (broadcastTo (M 256 w) (rowmax 256 w s) (bCol 256 w)))

/-- The softmax of each row. -/
def soft (w : ℕ) (s : FVec F (M 256 w) .f32) : FVec F (M 256 w) .f32 :=
  mulf (expo w s) (broadcastTo (M 256 w)
    (divf (broadcast (M 256 1) (Scalar.ofBits .f32 0x3F800000#32)) (rowsum 256 w (expo w s))) (bCol 256 w))

/-- The softmax's gradient. -/
def dsv (w : ℕ) (p dp : FVec F (M 256 w) .f32) : FVec F (M 256 w) .f32 :=
  mulf p (subf dp (broadcastTo (M 256 w) (rowsum 256 w (mulf p dp)) (bCol 256 w)))

/-- The bias block with one more window's gradient added. -/
def dbv (w : ℕ) (ds : FVec F (M 256 w) .f32) (old : FVec F (M1 256 w) .f32) : FVec F (M1 256 w) .f32 :=
  shapeCast (M1 256 w) (addf (shapeCast (M 256 w) old (cDrop 256 w)) ds) (cAdd 256 w)

/-- The normalised queries' gradient of a window, from both heads' score gradients. -/
def dqv (w : ℕ) (kw : FVec F (M w 128) .bf16) (d0 d1 : FVec F (M 256 w) .f32) : FVec F (M 256 128) .f32 :=
  shapeCast (M 256 128) (mulf (keep 256 k0_pay2
      (matmul (DotDims.plain 256 w 128) none (truncf .bf16 d1 bitsLt_bf16_f32) kw (constant (M 256 128) .f32 0x00000000#32))
      (keep 256 k0_pay1
        (matmul (DotDims.plain 256 w 128) none (truncf .bf16 d0 bitsLt_bf16_f32) kw (constant (M 256 128) .f32 0x00000000#32))
        (zf 256)))
    (broadcast (M 256 128) (Scalar.ofBits .f32 0x3E000000#32))) rfl

/-- `old` plus the product of both heads' `d` with the rows `x`, over the query rows. -/
def accv (w : ℕ) (x : FVec F (M 256 128) .bf16) (d0 d1 : FVec F (M 256 w) .f32) (old : FVec F (M w 128) .f32) : FVec F (M w 128) .f32 :=
  shapeCast (M w 128) (addf old (keep w k0_pay2
      (matmul (tn 256 w 128) none (truncf .bf16 d1 bitsLt_bf16_f32) x (constant (M w 128) .f32 0x00000000#32))
      (keep w k0_pay1
        (matmul (tn 256 w 128) none (truncf .bf16 d0 bitsLt_bf16_f32) x (constant (M w 128) .f32 0x00000000#32))
        (zf w)))) rfl

/-! ## The per-head normalisation -/

/-- A column on every lane. -/
def lanes (x : FVec F (M 2048 1) .f32) : FVec F (M 2048 128) .f32 :=
  broadcastTo (M 2048 128) (shapeCast (M 2048 1) x rfl) (bCol 2048 128)

/-- A row's sum over each head, on every lane of the head. -/
def gsumv (x : FVec F S2048x128 .f32) : FVec F S2048x128 .f32 :=
  keep 2048 k0_pay2 (lanes (rowsum 2048 128 (keep 2048 k0_pay2 x (zf 2048))))
    (keep 2048 k0_pay1 (lanes (rowsum 2048 128 (keep 2048 k0_pay1 x (zf 2048)))) (zf 2048))

/-- The reciprocal root mean square per head. -/
def rrv (x : FVec F S2048x128 .f32) : FVec F S2048x128 .f32 :=
  rsqrt (addf (mulf (gsumv (mulf x x)) (broadcast S2048x128 (Scalar.ofBits .f32 0x3C800000#32)))
    (broadcast S2048x128 (Scalar.ofBits .f32 0x358637BD#32)))

/-- The normalised rows. -/
def xhv (x : FVec F S2048x128 .f32) : FVec F S2048x128 .f32 := mulf x (rrv x)

/-- The normalised rows times the gain. -/
def nrmv (x : FVec F S2048x128 .f32) (g : FVec F S1x128 .f32) : FVec F S2048x128 .f32 :=
  mulf (xhv x) (broadcastTo S2048x128 g broadcasts_S1x128_S2048x128)

/-- The normalisation's gradient. -/
def nbwdv (x dy : FVec F S2048x128 .f32) (g : FVec F S1x128 .f32) : FVec F S2048x128 .f32 :=
  mulf (rrv x) (subf (mulf dy (broadcastTo S2048x128 g broadcasts_S1x128_S2048x128))
    (mulf (xhv x) (mulf (gsumv (mulf (mulf dy (broadcastTo S2048x128 g broadcasts_S1x128_S2048x128)) (xhv x)))
      (broadcast S2048x128 (Scalar.ofBits .f32 0x3C800000#32)))))

/-- The gain's gradient: the column sums of `dy` times the normalised rows. -/
def dgv (x dy : FVec F S2048x128 .f32) : FVec F S1x128 .f32 :=
  shapeCast S1x128 (multiReduction .add [0] S128 (mulf dy (xhv x)) 0x00000000#32 reduces_S2048x128_S128 (.inl rfl) rfl)
    shapeCasts_S128_S1x128

/-! ## The whole body at one grid point -/

/-- What a rectangle of an array holds. -/
def rd {s : Shape} {α : Type} (r : Rect s) (X : s.Idx → α) : r.shape.Idx → α := fun j => X (r.toLoadRect.idx j)

/-- `n` rows from row `o`. -/
def rows (n o : ℕ) (h : o + n ≤ 2048) : Rect S2048x128 :=
  Rect.unit ![o, 0] (M n 128).size (fun a => match a with | ⟨0, _⟩ => h | ⟨1, _⟩ => le_refl 128)

/-- The last `w` columns from column `c` of head `t`'s bias block. -/
def blk (t w c : ℕ) (ht : t < 2) (h : c + w ≤ 768) : Rect S2x256x768 :=
  Rect.unit ![t, 0, c] (M1 256 w).size (fun a => match a with | ⟨0, _⟩ => ht | ⟨1, _⟩ => le_refl 256 | ⟨2, _⟩ => h)

/-- A window: its first query row, first key row, number of key rows, and first column in the bias block. -/
structure Win where
  r0 : ℕ
  k0 : ℕ
  w : ℕ
  c0 : ℕ
  hr : r0 + 256 ≤ 2048
  hk : k0 + w ≤ 2048
  hc : c0 + w ≤ 768

/-- The arrays that the windows read. -/
structure Inp (F : FTy → Type) where
  /-- the normalised queries, scaled -/
  qs : FVec F S2048x128 .bf16
  /-- the normalised keys -/
  kn : FVec F S2048x128 .bf16
  /-- the values -/
  v : FVec F S2048x128 .bf16
  /-- the cotangent -/
  o : FVec F S2048x128 .bf16
  /-- the bias block -/
  b : FVec F S2x256x768 .f32

variable (I : Inp F) (W : Win)

/-- The probabilities of a window, in head `t` of the pair. -/
def prW (t : ℕ) (ht : t < 2) (mk : IVec S1x128 1) : FVec F (M 256 W.w) .f32 :=
  soft W.w (score W.w mk (rd (rows 256 W.r0 W.hr) I.qs) (rd (rows W.w W.k0 W.hk) I.kn) (rd (blk t W.w W.c0 ht W.hc) I.b))

/-- The score gradients of a window. -/
def dsW (t : ℕ) (ht : t < 2) (mk : IVec S1x128 1) : FVec F (M 256 W.w) .f32 :=
  dsv W.w (prW I W t ht mk) (dotl W.w mk (rd (rows 256 W.r0 W.hr) I.o) (rd (rows W.w W.k0 W.hk) I.v))

abbrev pr0 := prW I W 0 (by decide) k0_pay1
abbrev pr1 := prW I W 1 (by decide) k0_pay2
abbrev ds0 := dsW I W 0 (by decide) k0_pay1
abbrev ds1 := dsW I W 1 (by decide) k0_pay2

/-- The window's rows of the normalised queries' gradient are set. -/
def stepQ (old : FVec F S2048x128 .f32) : FVec F S2048x128 .f32 :=
  (rows 256 W.r0 W.hr).overlay old (dqv W.w (rd (rows W.w W.k0 W.hk) I.kn) (ds0 I W) (ds1 I W))
/-- The window's part is added to the normalised keys' gradient. -/
def stepK (old : FVec F S2048x128 .f32) : FVec F S2048x128 .f32 :=
  (rows W.w W.k0 W.hk).overlay old (accv W.w (rd (rows 256 W.r0 W.hr) I.qs) (ds0 I W) (ds1 I W) (rd (rows W.w W.k0 W.hk) old))
/-- The window's part is added to the values' gradient. -/
def stepV (old : FVec F S2048x128 .f32) : FVec F S2048x128 .f32 :=
  (rows W.w W.k0 W.hk).overlay old (accv W.w (rd (rows 256 W.r0 W.hr) I.o) (pr0 I W) (pr1 I W) (rd (rows W.w W.k0 W.hk) old))
/-- The window's part of head `0` is added to the bias block's gradient. -/
def stepB0 (old : FVec F S2x256x768 .f32) : FVec F S2x256x768 .f32 :=
  (blk 0 W.w W.c0 (by decide) W.hc).overlay old (dbv W.w (ds0 I W) (rd (blk 0 W.w W.c0 (by decide) W.hc) old))
/-- The window's part of head `1` is added to the bias block's gradient. -/
def stepB1 (old : FVec F S2x256x768 .f32) : FVec F S2x256x768 .f32 :=
  (blk 1 W.w W.c0 (by decide) W.hc).overlay old (dbv W.w (ds1 I W) (rd (blk 1 W.w W.c0 (by decide) W.hc) old))

end ops

/-- The eight windows. -/
def win0 : Win := ⟨0, 0, 256, 512, by decide, by decide, by decide⟩
def win1 : Win := ⟨256, 0, 512, 256, by decide, by decide, by decide⟩
def win2 : Win := ⟨512, 0, 768, 0, by decide, by decide, by decide⟩
def win3 : Win := ⟨768, 256, 768, 0, by decide, by decide, by decide⟩
def win4 : Win := ⟨1024, 512, 768, 0, by decide, by decide, by decide⟩
def win5 : Win := ⟨1280, 768, 768, 0, by decide, by decide, by decide⟩
def win6 : Win := ⟨1536, 1024, 768, 0, by decide, by decide, by decide⟩
def win7 : Win := ⟨1792, 1280, 768, 0, by decide, by decide, by decide⟩

/-- The windows in their order. -/
def wins : List Win := [win0, win1, win2, win3, win4, win5, win6, win7]

section body
variable {F : FTy → Type} [FloatOps F] [Facts]

/-- The normalised queries, scaled. -/
def qsOf (X0 : FVec F S2048x128 .bf16) (X4 : FVec F S1x128 .f32) : FVec F S2048x128 .bf16 :=
  shapeCast S2048x128 (truncf .bf16 (mulf (nrmv (extf .f32 X0 bitsLt_bf16_f32) (shapeCast S1x128 X4 rfl))
    (broadcast S2048x128 (Scalar.ofBits .f32 0x3E000000#32))) bitsLt_bf16_f32) rfl
/-- The normalised keys. -/
def knOf (X1 : FVec F S2048x128 .bf16) (X5 : FVec F S1x128 .f32) : FVec F S2048x128 .bf16 :=
  shapeCast S2048x128 (truncf .bf16 (nrmv (extf .f32 X1 bitsLt_bf16_f32) (shapeCast S1x128 X5 rfl)) bitsLt_bf16_f32) rfl

/-- The windows' inputs, from the point's blocks of queries, keys, values, cotangent, gains and bias. -/
def inp (X0 X1 X2 X3 : FVec F S2048x128 .bf16) (X4 X5 : FVec F S1x128 .f32) (X6 : FVec F S2x256x768 .f32) : Inp F where
  qs := qsOf X0 X4
  kn := knOf X1 X5
  v := X2
  o := X3
  b := X6

/-- The zero array that the keys' and the values' gradients start from. -/
def zero2048 : FVec F S2048x128 .f32 := shapeCast S2048x128 (broadcast S2048x128 (Scalar.ofBits .f32 0x00000000#32)) rfl

/-- The gradients after some of the windows, the first of the list first. -/
def allQ (I : Inp F) : List Win → FVec F S2048x128 .f32 → FVec F S2048x128 .f32 := fun L z => L.foldl (fun y W => stepQ I W y) z
def allK (I : Inp F) : List Win → FVec F S2048x128 .f32 → FVec F S2048x128 .f32 := fun L z => L.foldl (fun y W => stepK I W y) z
def allV (I : Inp F) : List Win → FVec F S2048x128 .f32 → FVec F S2048x128 .f32 := fun L z => L.foldl (fun y W => stepV I W y) z
def allB (I : Inp F) : List Win → FVec F S2x256x768 .f32 → FVec F S2x256x768 .f32 :=
  fun L z => L.foldl (fun y W => stepB1 I W (stepB0 I W y)) z

/-- What an array holds before any store: nothing in particular. -/
def unset : FVec F S2048x128 .f32 := View.canon ([] : List (View.Piece (Elt F) S2048x128 .f32))

/-- The zero bias block. -/
def zeroB : FVec F S2x256x768 .f32 := broadcast S2x256x768 (Scalar.ofBits .f32 0x00000000#32)
/-- The zero gain row. -/
def zeroG : FVec F S1x128 .f32 := broadcast S1x128 (Scalar.ofBits .f32 0x00000000#32)

/-- A point's queries' gradient, keys' gradient, values' gradient and gains' gradients. -/
def outQ (I : Inp F) (X0 : FVec F S2048x128 .bf16) (X4 : FVec F S1x128 .f32) (z : FVec F S2048x128 .f32) : FVec F S2048x128 .bf16 :=
  truncf .bf16 (nbwdv (extf .f32 X0 bitsLt_bf16_f32) (allQ I wins z) (shapeCast S1x128 X4 rfl)) bitsLt_bf16_f32
def outK (I : Inp F) (X1 : FVec F S2048x128 .bf16) (X5 : FVec F S1x128 .f32) : FVec F S2048x128 .bf16 :=
  truncf .bf16 (nbwdv (extf .f32 X1 bitsLt_bf16_f32) (allK I wins zero2048) (shapeCast S1x128 X5 rfl)) bitsLt_bf16_f32
def outV (I : Inp F) : FVec F S2048x128 .bf16 := truncf .bf16 (allV I wins zero2048) bitsLt_bf16_f32
def outGq (I : Inp F) (X0 : FVec F S2048x128 .bf16) (z : FVec F S2048x128 .f32) (old : FVec F S1x128 .f32) : FVec F S1x128 .f32 :=
  addf (shapeCast S1x128 old rfl) (dgv (extf .f32 X0 bitsLt_bf16_f32) (allQ I wins z))
def outGk (I : Inp F) (X1 : FVec F S2048x128 .bf16) (old : FVec F S1x128 .f32) : FVec F S1x128 .f32 :=
  addf (shapeCast S1x128 old rfl) (dgv (extf .f32 X1 bitsLt_bf16_f32) (allK I wins zero2048))

end body

/-! ## Reading what a run stored -/

section reading
variable {F : FTy → Type} [FloatOps F]

/-- A load from a whole memref held at `X` reads the rectangle's part of `X`. -/
theorem readAt_whole {s : Shape} {sig : RefSig} {κ : Kind} {sp : Space} {e : EltTy} (m : Memref sig κ sp s e) (h : m.IsWhole)
    (X : s.Idx → Elt F e) (r : Rect s) : View.readAt (Elt F) m.view r.toLoadRect (h.unread X) = rd r X :=
  funext fun j => Memref.IsWhole.readAt_unread h X r.toLoadRect j

/-- A load of what stores left reads the rectangle's part of it. -/
theorem readCov_rd {s : Shape} {sig : RefSig} {κ : Kind} {sp : Space} {e : EltTy} (v : View sig κ sp s e)
    (L : List (View.Piece (Elt F) s e)) (r : Rect s) : v.readCov L r.toLoadRect = rd r (View.canon L) :=
  View.readCov_eq_canon' v L r.toLoadRect

theorem zero2 : (![0, 0] : Fin 2 → ℕ) = fun _ => 0 := by funext a; fin_cases a <;> rfl
theorem zero3 : (![0, 0, 0] : Fin 3 → ℕ) = fun _ => 0 := by funext a; fin_cases a <;> rfl

/-- Reading through the whole rectangle reads everything. -/
theorem rd_whole2 {n m : ℕ} {α : Type} (h : ∀ a, (![0, 0] : Fin 2 → ℕ) a + (M n m).size a ≤ (M n m).size a)
    (X : (M n m).Idx → α) : rd (s := M n m) (Rect.unit ![0, 0] (M n m).size h) X = X :=
  funext fun j => congrArg X (funext fun a => Fin.ext (by
    show (![0, 0] : Fin 2 → ℕ) a + 1 * (j a).val = (j a).val
    have h0 : (![0, 0] : Fin 2 → ℕ) a = 0 := congrFun zero2 a
    omega))

theorem rd_2048 {α : Type} (h) (X : S2048x128.Idx → α) : rd (Rect.unit (s := S2048x128) ![0, 0] S2048x128.size h) X = X :=
  rd_whole2 (n := 2048) (m := 128) h X
theorem rd_1 {α : Type} (h) (X : S1x128.Idx → α) : rd (Rect.unit (s := S1x128) ![0, 0] S1x128.size h) X = X :=
  rd_whole2 (n := 1) (m := 128) h X

/-- A store of everything leaves what it stored. -/
theorem over_2048 {α : Type} (h) (w Y : S2048x128.Idx → α) :
    (Rect.unit (s := S2048x128) ![0, 0] S2048x128.size h).overlay Y w = w := by
  have e : ∀ x, (Rect.unit (s := S2048x128) ![0, 0] S2048x128.size h).emb x = x := fun x => funext fun a => Fin.ext (by
    show (![0, 0] : Fin 2 → ℕ) a + 1 * (x a).val = (x a).val
    have h0 : (![0, 0] : Fin 2 → ℕ) a = 0 := congrFun zero2 a
    omega)
  funext x
  have := Rect.overlay_emb (Rect.unit (s := S2048x128) ![0, 0] S2048x128.size h) Y w x
  rwa [e] at this
theorem over_block {α : Type} (h) (w Y : S2x256x768.Idx → α) :
    (Rect.unit (s := S2x256x768) ![0, 0, 0] S2x256x768.size h).overlay Y w = w := by
  have e : ∀ x, (Rect.unit (s := S2x256x768) ![0, 0, 0] S2x256x768.size h).emb x = x := fun x => funext fun a => Fin.ext (by
    show (![0, 0, 0] : Fin 3 → ℕ) a + 1 * (x a).val = (x a).val
    have h0 : (![0, 0, 0] : Fin 3 → ℕ) a = 0 := congrFun zero3 a
    omega)
  funext x
  have := Rect.overlay_emb (Rect.unit (s := S2x256x768) ![0, 0, 0] S2x256x768.size h) Y w x
  rwa [e] at this

theorem rd_2048' {α : Type} (h) (X : S2048x128.Idx → α) : rd (Rect.unit (s := S2048x128) ![0, 0] ![2048, 128] h) X = X :=
  rd_2048 h X
theorem over_1 {α : Type} (h) (w Y : S1x128.Idx → α) :
    (Rect.unit (s := S1x128) ![0, 0] ![1, 128] h).overlay Y w = w := by
  have e : ∀ x, (Rect.unit (s := S1x128) ![0, 0] ![1, 128] h).emb x = x := fun x => funext fun a => Fin.ext (by
    show (![0, 0] : Fin 2 → ℕ) a + 1 * (x a).val = (x a).val
    have h0 : (![0, 0] : Fin 2 → ℕ) a = 0 := congrFun zero2 a
    omega)
  funext x
  have := Rect.overlay_emb (Rect.unit (s := S1x128) ![0, 0] ![1, 128] h) Y w x
  rwa [e] at this
theorem rd_1' {α : Type} (h) (X : S1x128.Idx → α) : rd (Rect.unit (s := S1x128) ![0, 0] ![1, 128] h) X = X := rd_1 h X
theorem over_2048' {α : Type} (h) (w Y : S2048x128.Idx → α) :
    (Rect.unit (s := S2048x128) ![0, 0] ![2048, 128] h).overlay Y w = w := over_2048 h w Y
theorem over_block' {α : Type} (h) (w Y : S2x256x768.Idx → α) :
    (Rect.unit (s := S2x256x768) ![0, 0, 0] ![2, 256, 768] h).overlay Y w = w := over_block h w Y

/-- The contents `X` with stores over it, the last one first in the list. -/
@[irreducible] def over {s : Shape} {e : EltTy} (X : s.Idx → Elt F e) (L : List (View.Piece (Elt F) s e)) : s.Idx → Elt F e :=
  L.foldr (fun p Y => p.1.overlay Y p.2) X

theorem over_cons {s : Shape} {e : EltTy} (X : s.Idx → Elt F e) (p : View.Piece (Elt F) s e) (L : List (View.Piece (Elt F) s e)) :
    over X (p :: L) = p.1.overlay (over X L) p.2 := by unfold over; rfl
theorem over_nil {s : Shape} {e : EltTy} (X : s.Idx → Elt F e) : over X ([] : List (View.Piece (Elt F) s e)) = X := by unfold over; rfl

/-- Reading after stores over the contents `X`. -/
theorem read_over {s : Shape} {sig : RefSig} {κ : Kind} {sp : Space} {e : EltTy} (m : Memref sig κ sp s e) (h : m.IsWhole)
    (X : s.Idx → Elt F e) (L : List (View.Piece (Elt F) s e)) :
    m.view.read (Elt F) (m.view.writes (Elt F) (Memref.IsWhole.unread h X) L) = over X L := by
  induction L with
  | nil => rw [over_nil]; exact Memref.IsWhole.read_unread h X
  | cons p L ih =>
    obtain ⟨r, w⟩ := p
    rw [over_cons]
    funext y
    by_cases hy : y ∈ r.set
    · obtain ⟨x, -, rfl⟩ := Finset.mem_map.mp (by rw [Rect.map_emb_univ]; exact hy : y ∈ Finset.univ.map r.emb)
      rw [View.read_writes_cons_emb, Rect.overlay_emb]
    · rw [Rect.overlay_of_not_mem r _ _ hy, ← ih, View.writes_cons]
      exact View.read_slice_write_of_not_mem _ _ _ _ (by rw [Rect.map_emb_univ]; exact hy)

/-- A load after stores over the contents `X`. -/
theorem readAt_over {s : Shape} {sig : RefSig} {κ : Kind} {sp : Space} {e : EltTy} (m : Memref sig κ sp s e) (h : m.IsWhole)
    (X : s.Idx → Elt F e) (L : List (View.Piece (Elt F) s e)) (r : Rect s) :
    View.readAt (Elt F) m.view r.toLoadRect (m.view.writes (Elt F) (Memref.IsWhole.unread h X) L) = rd r (over X L) :=
  funext fun j => congrFun (read_over m h X L) _

/-- Where stores cover a place, what was there before does not matter. -/
theorem canon_over {s : Shape} {e : EltTy} (X : s.Idx → Elt F e) (L : List (View.Piece (Elt F) s e)) (y : s.Idx)
    (h : ∃ p ∈ L, y ∈ p.1.set) : View.canon L y = over X L y := by
  induction L with
  | nil => obtain ⟨p, hp, -⟩ := h; exact absurd hp (List.not_mem_nil)
  | cons p L ih =>
    rw [over_cons, View.canon_cons]
    by_cases hy : y ∈ p.1.set
    · obtain ⟨x, -, rfl⟩ := Finset.mem_map.mp (by rw [Rect.map_emb_univ]; exact hy : y ∈ Finset.univ.map p.1.emb)
      rw [Rect.overlay_emb, Rect.overlay_emb]
    · rw [Rect.overlay_of_not_mem _ _ _ hy, Rect.overlay_of_not_mem _ _ _ hy]
      obtain ⟨q, hq, hy'⟩ := h
      rcases List.mem_cons.mp hq with rfl | hq
      · exact absurd hy' hy
      · exact ih ⟨q, hq, hy'⟩

/-- Stores of both heads' whole blocks cover the bias block. -/
theorem heads_cover (h0 h1) (w0 w1 : S1x256x768.Idx → Elt F .f32) (L : List (View.Piece (Elt F) S2x256x768 .f32)) (y : S2x256x768.Idx) :
    ∃ p ∈ (⟨Rect.unit (s := S2x256x768) ![1, 0, 0] S1x256x768.size h1, w1⟩ : View.Piece (Elt F) S2x256x768 .f32) ::
      (⟨Rect.unit (s := S2x256x768) ![0, 0, 0] S1x256x768.size h0, w0⟩ : View.Piece (Elt F) S2x256x768 .f32) :: L, y ∈ p.1.set := by
  have b0 := (y 0).isLt; have b1 := (y 1).isLt; have b2 := (y 2).isLt
  change (y 0).val < 2 at b0; change (y 1).val < 256 at b1; change (y 2).val < 768 at b2
  by_cases hy : (y 0).val = 0
  · refine ⟨⟨Rect.unit (s := S2x256x768) ![0, 0, 0] S1x256x768.size h0, w0⟩, List.mem_cons_of_mem _ List.mem_cons_self,
      (Rect.mem_set_unit (inb := h0)).mpr fun a => ?_⟩
    fin_cases a
    · show 0 ≤ (y 0).val ∧ (y 0).val < 0 + 1; omega
    · show 0 ≤ (y 1).val ∧ (y 1).val < 0 + 256; omega
    · show 0 ≤ (y 2).val ∧ (y 2).val < 0 + 768; omega
  · refine ⟨⟨Rect.unit (s := S2x256x768) ![1, 0, 0] S1x256x768.size h1, w1⟩, List.mem_cons_self,
      (Rect.mem_set_unit (inb := h1)).mpr fun a => ?_⟩
    fin_cases a
    · show 1 ≤ (y 0).val ∧ (y 0).val < 1 + 1; omega
    · show 0 ≤ (y 1).val ∧ (y 1).val < 0 + 256; omega
    · show 0 ≤ (y 2).val ∧ (y 2).val < 0 + 768; omega

/-- What head `1` holds does not change when head `0` is stored. -/
theorem rd_head1 {α : Type} (w c : ℕ) (h : c + w ≤ 768) (X : S2x256x768.Idx → α) (G : (M1 256 w).Idx → α) :
    rd (blk 1 w c (by decide) h) ((blk 0 w c (by decide) h).overlay X G) = rd (blk 1 w c (by decide) h) X :=
  funext fun j => Rect.overlay_of_not_mem (blk 0 w c (by decide) h) X G fun hm => by
    have := (Rect.mem_set_unit.mp hm (0 : Fin 3)).2
    have e : ((blk 1 w c (by decide) h).toLoadRect.idx j (0 : Fin 3)).val = 1 + 1 * (j (0 : Fin 3)).val := rfl
    rw [e] at this
    change _ < 0 + 1 at this
    omega

theorem stepB1_stepB0 [Facts] (I : Inp F) (W : Win) (old : FVec F S2x256x768 .f32) : stepB1 I W (stepB0 I W old) =
    (blk 1 W.w W.c0 (by decide) W.hc).overlay (stepB0 I W old) (dbv W.w (ds1 I W) (rd (blk 1 W.w W.c0 (by decide) W.hc) old)) := by
  unfold stepB1
  rw [show rd (blk 1 W.w W.c0 (by decide) W.hc) (stepB0 I W old) = rd (blk 1 W.w W.c0 (by decide) W.hc) old from
    rd_head1 W.w W.c0 W.hc old _]

end reading

end AttK
-- ==== Proof.WindowRead.lean ====
/-
  What the vector operations of one window leave at an index, over the extended reals: where the operands are real numbers the
  results are the real numbers that the formulas name.
-/
module

public import proofs.«01_k».proof.Proof.Model
public import proofs.«01_k».proof.Proof.Window
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pointwise

@[expose] public section

noncomputable section

namespace AttK

open Idealize.ShloMosaic hiding ix0 ix1 ix2 ix3 ix4 ix5
open Idealize.ShloMosaic.ValueIdx Cert.KernelIdeal Cert.KernelIdeal.Gen
open scoped BigOperators
open Finset (range)

/-! ## Sums of real numbers among the extended reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_sum_fin (n : ℕ) (f : ℕ → ℝ) : ∑ i : Fin n, ((f i.val : ℝ) : EReal) = ((∑ i ∈ range n, f i : ℝ) : EReal) := by
  rw [coe_sum, Fin.sum_univ_eq_sum_range]

/-! ## Literals -/

theorem lit0 : (FloatOps.ofBits .f32 0x00000000#32 : Ideal .f32) = ((0 : ℝ) : EReal) := by
  simp [Ideal.ofBits, Ideal.ieee, -EReal.coe_mul]
theorem lit1 : (FloatOps.ofBits .f32 0x3F800000#32 : Ideal .f32) = ((1 : ℝ) : EReal) := by
  simp [Ideal.ofBits, Ideal.ieee, -EReal.coe_mul]; norm_num
theorem lit8 : (FloatOps.ofBits .f32 0x3E000000#32 : Ideal .f32) = ((1 / 8 : ℝ) : EReal) := by
  simp [Ideal.ofBits, Ideal.ieee, -EReal.coe_mul]; norm_num
theorem lit64 : (FloatOps.ofBits .f32 0x3C800000#32 : Ideal .f32) = ((1 / 64 : ℝ) : EReal) := by
  simp [Ideal.ofBits, Ideal.ieee, -EReal.coe_mul]; norm_num
theorem litEps : (FloatOps.ofBits .f32 0x358637BD#32 : Ideal .f32) = ((Att.eps : ℝ) : EReal) := by
  simp [Ideal.ofBits, Ideal.ieee, -EReal.coe_mul, Att.eps]; norm_num
theorem litB0 : (FloatOps.ofBits .bf16 0x0000#16 : Ideal .bf16) = ((0 : ℝ) : EReal) := by
  simp [Ideal.ofBits, Ideal.ieee, -EReal.coe_mul]
theorem litNegInf : (FloatOps.ofBits .f32 0xFF800000#32 : Ideal .f32) = (⊥ : EReal) := by
  simp [Ideal.ofBits, Ideal.ieee, -EReal.coe_mul]

/-! ## Broadcasts and masks -/

theorem bRow_apply {α : Type} (n m : ℕ) (h : (M 1 m).Broadcasts (M n m)) (x : (M 1 m).Idx → α) (i : Fin n) (l : Fin m) :
    broadcastTo (M n m) x h (ix2 i l) = x (ix2 0 l) := by
  refine congrArg x (funext fun a => ?_)
  match a with
  | ⟨0, _⟩ => exact Fin.ext (by simp [ix2])
  | ⟨1, _⟩ =>
    refine Fin.ext ?_
    by_cases h1 : m = 1
    · subst h1; simp
    · have : ¬ (M 1 m).size (1 : Fin 2) = 1 := h1
      exact (congrArg Fin.val (dif_neg this)).trans rfl

theorem bCol_apply {α : Type} (n m : ℕ) (h : (M n 1).Broadcasts (M n m)) (x : (M n 1).Idx → α) (i : Fin n) (l : Fin m) :
    broadcastTo (M n m) x h (ix2 i l) = x (ix2 i 0) := by
  refine congrArg x (funext fun a => ?_)
  match a with
  | ⟨1, _⟩ => exact Fin.ext (by simp [ix2])
  | ⟨0, _⟩ =>
    refine Fin.ext ?_
    by_cases h1 : n = 1
    · subst h1; simp
    · have : ¬ (M n 1).size (0 : Fin 2) = 1 := h1
      exact (congrArg Fin.val (dif_neg this)).trans rfl

/-- The mask `mk` marks the lanes of half `t`. -/
def Half (mk : IVec S1x128 1) (t : ℕ) : Prop := ∀ l : Fin 128, mk (ix2 0 l) = if l.val / 64 = t then 1#1 else 0#1

variable [Facts]

theorem half0 : Half k0_pay1 0 := by
  have : ∀ l : Fin 128, (k0_pay1 : IVec S1x128 1) (ix2 0 l) = if l.val / 64 = 0 then 1#1 else 0#1 := by
    intro l; unfold k0_pay1; revert l; decide
  exact this

theorem half1 : Half k0_pay2 1 := by
  have : ∀ l : Fin 128, (k0_pay2 : IVec S1x128 1) (ix2 0 l) = if l.val / 64 = 1 then 1#1 else 0#1 := by
    intro l; unfold k0_pay2; revert l; decide
  exact this

theorem keep_apply {α : Type} (n : ℕ) {mk : IVec S1x128 1} {t : ℕ} (hm : Half mk t) (x y : (M n 128).Idx → α) (i : Fin n) (l : Fin 128) :
    keep n mk x y (ix2 i l) = if l.val / 64 = t then x (ix2 i l) else y (ix2 i l) := by
  unfold keep
  rw [select_apply, bRow_apply, shapeCast_id, hm l]
  by_cases h : l.val / 64 = t
  · rw [if_pos h, if_pos h]; exact select_one _ _
  · rw [if_neg h, if_neg h]; exact select_zero _ _

/-- Both halves put together. -/
theorem keep2_apply {α : Type} (n : ℕ) (x1 x0 z : (M n 128).Idx → α) (i : Fin n) (l : Fin 128) :
    keep n k0_pay2 x1 (keep n k0_pay1 x0 z) (ix2 i l) = if l.val / 64 = 0 then x0 (ix2 i l) else x1 (ix2 i l) := by
  rw [keep_apply n half1, keep_apply n half0]
  have := l.isLt
  by_cases h : l.val / 64 = 0
  · rw [if_pos h, if_pos h, if_neg (by omega)]
  · rw [if_neg h, if_neg h, if_pos (by omega)]

theorem zb_apply (n : ℕ) (i : Fin n) (l : Fin 128) : (zb n : FVec Ideal (M n 128) .bf16) (ix2 i l) = ((0 : ℝ) : EReal) := by
  unfold zb; rw [broadcast_apply]; exact litB0
theorem zf_apply (n : ℕ) (i : Fin n) (l : Fin 128) : (zf n : FVec Ideal (M n 128) .f32) (ix2 i l) = ((0 : ℝ) : EReal) := by
  unfold zf; rw [broadcast_apply]; exact lit0

/-! ## Row totals and row maxima -/

theorem rowsum_apply (n m : ℕ) (x : FVec Ideal (M n m) .f32) (i : Fin n) (u : Fin 1) :
    rowsum n m x (ix2 i u) = ∑ c : Fin m, x (ix2 i c) := by
  unfold rowsum
  rw [shapeCast_a_a1_apply]
  exact Ideal.reduceAdd_r2_a1 (red1 n m) x (ix1 i)

theorem rowmax_apply (n m : ℕ) (x : FVec Ideal (M n m) .f32) (i : Fin n) (u : Fin 1) :
    rowmax n m x (ix2 i u) = (Finset.univ : Finset (Fin m)).sup (fun c => (x (ix2 i c) : EReal)) := by
  unfold rowmax
  rw [shapeCast_a_a1_apply]
  refine (multiReduction_maximumf_eq_fold (F := Ideal) x _ (red1 n m) _ _ (ix1 i)).trans ?_
  refine ((red1 n m).fold_fiber_r2_a1 (ix1 i) (max : EReal → EReal → EReal) _ x).trans ?_
  rw [litNegInf]; rfl

/-! ## Products -/

theorem const_zero (s : Shape) (i : s.Idx) : (constant s .f32 0x00000000#32 : FVec Ideal s .f32) i = (0 : EReal) := by
  rw [ValueIdx.constant_apply]; exact lit0

/-- A product over the lanes of half `t`. -/
theorem dotl_apply (w : ℕ) {mk : IVec S1x128 1} {t : ℕ} (ht : t < 2) (hm : Half mk t) {x : FVec Ideal (M 256 128) .bf16}
    {y : FVec Ideal (M w 128) .bf16} {X Y : ℕ → ℕ → ℝ} (hx : ∀ i l, x (ix2 i l) = ((X i.val l.val : ℝ) : EReal))
    (hy : ∀ i l, y (ix2 i l) = ((Y i.val l.val : ℝ) : EReal)) (i : Fin 256) (c : Fin w) :
    dotl w mk x y (ix2 i c) = ((∑ d ∈ range 64, X i.val (64 * t + d) * Y c.val (64 * t + d) : ℝ) : EReal) := by
  unfold dotl
  refine (Ideal.matmul_transposedRhs_apply _ _ _ _ _ _).trans ?_
  rw [const_zero, zero_add, ← Att.sum_half t ht (fun l => X i.val l * Y c.val l), ← coe_sum_fin]
  refine Finset.sum_congr rfl fun l _ => ?_
  rw [keep_apply 256 hm, hy, hx, zb_apply]
  split_ifs with h
  · rw [EReal.coe_mul]
  · rw [← EReal.coe_mul, zero_mul]

theorem plain_apply (w : ℕ) {x : FVec Ideal (M 256 w) .f32} {y : FVec Ideal (M w 128) .bf16} {X Y : ℕ → ℕ → ℝ}
    (hx : ∀ i l, x (ix2 i l) = ((X i.val l.val : ℝ) : EReal)) (hy : ∀ i l, y (ix2 i l) = ((Y i.val l.val : ℝ) : EReal))
    (i : Fin 256) (l : Fin 128) :
    matmul (DotDims.plain 256 w 128) none (truncf .bf16 x bitsLt_bf16_f32) y (constant (M 256 128) .f32 0x00000000#32) (ix2 i l)
      = ((∑ c ∈ range w, X i.val c * Y c l.val : ℝ) : EReal) := by
  refine (Ideal.matmul_plain_apply _ _ _ _ _ _).trans ?_
  rw [const_zero, zero_add, ← coe_sum_fin w (fun c => X i.val c * Y c l.val)]
  refine Finset.sum_congr rfl fun c _ => ?_
  rw [truncf_apply, hy, EReal.coe_mul]
  exact congrArg (· * _) (hx i c)

theorem tn_matmul_apply {K M' N : ℕ} {φ₁ φ₂ : FTy} (lhs : FVec Ideal (M K M') φ₁) (rhs : FVec Ideal (M K N) φ₂)
    (acc : FVec Ideal (M M' N) .f32) (r : Fin M') (c : Fin N) :
    FloatOps.matmul (tn K M' N) none lhs rhs acc (ix2 r c) = acc (ix2 r c) + ∑ k : Fin K, lhs (ix2 k r) * rhs (ix2 k c) := by
  have hr : (tn K M' N).contr.rank = 1 := rfl
  have hs : (tn K M' N).contr.size ⟨0, by rw [hr]; exact Nat.one_pos⟩ = K := rfl
  rw [Ideal.matmul_apply, ← Equiv.sum_comp (contrEquiv1 _ K hr hs).symm]
  refine congrArg (acc (ix2 r c) + ·) (Finset.sum_congr rfl fun k _ => ?_)
  have hk := contrEquiv1_symm_val _ K hr hs k
  have el : (tn K M' N).lhsIdx (ix2 r c) ((contrEquiv1 _ K hr hs).symm k) = ix2 k r := by
    funext a; apply Fin.ext
    match a with
    | ⟨0, _⟩ => exact hk
    | ⟨1, _⟩ => rfl
  have er : (tn K M' N).rhsIdx (ix2 r c) ((contrEquiv1 _ K hr hs).symm k) = ix2 k c := by
    funext a; apply Fin.ext
    match a with
    | ⟨0, _⟩ => exact hk
    | ⟨1, _⟩ => rfl
  rw [el, er]

theorem tn_apply (w : ℕ) {x : FVec Ideal (M 256 w) .f32} {y : FVec Ideal (M 256 128) .bf16} {X Y : ℕ → ℕ → ℝ}
    (hx : ∀ i l, x (ix2 i l) = ((X i.val l.val : ℝ) : EReal)) (hy : ∀ i l, y (ix2 i l) = ((Y i.val l.val : ℝ) : EReal))
    (c : Fin w) (l : Fin 128) :
    matmul (tn 256 w 128) none (truncf .bf16 x bitsLt_bf16_f32) y (constant (M w 128) .f32 0x00000000#32) (ix2 c l)
      = ((∑ i ∈ range 256, X i c.val * Y i l.val : ℝ) : EReal) := by
  refine (tn_matmul_apply _ _ _ _ _).trans ?_
  rw [const_zero, zero_add, ← coe_sum_fin 256 (fun i => X i c.val * Y i l.val)]
  refine Finset.sum_congr rfl fun i _ => ?_
  rw [truncf_apply, hy, EReal.coe_mul]
  exact congrArg (· * _) (hx i c)

/-! ## The softmax of a row with masked entries -/

/-- The greatest of finitely many numbers, some of them masked, at least one of them not, is a real number. -/
theorem sup_real {m : ℕ} (f : Fin m → EReal) (h : ∀ c, f c = ⊥ ∨ ∃ r : ℝ, f c = (r : EReal)) (c0 : Fin m) (r0 : ℝ) (h0 : f c0 = (r0 : EReal)) :
    ∃ r : ℝ, (Finset.univ : Finset (Fin m)).sup f = (r : EReal) := by
  have hb : (r0 : EReal) ≤ (Finset.univ : Finset (Fin m)).sup f := h0 ▸ Finset.le_sup (Finset.mem_univ c0)
  have ht : (Finset.univ : Finset (Fin m)).sup f < ⊤ := by
    refine (Finset.sup_lt_iff (bot_lt_top)).2 fun c _ => ?_
    rcases h c with e | ⟨r, e⟩ <;> rw [e]
    · exact bot_lt_top
    · exact EReal.coe_lt_top r
  have hb' : (Finset.univ : Finset (Fin m)).sup f ≠ ⊥ := fun e => by
    rw [e] at hb; exact absurd (lt_of_lt_of_le (EReal.bot_lt_coe r0) hb) (lt_irrefl _)
  exact ⟨_, (EReal.coe_toReal ht.ne hb').symm⟩

theorem expo_apply (w : ℕ) {s : FVec Ideal (M 256 w) .f32} {S : ℕ → ℕ → ℝ} {V : ℕ → ℕ → Prop} [∀ i c, Decidable (V i c)]
    (hs : ∀ i c, s (ix2 i c) = if V i.val c.val then ((S i.val c.val : ℝ) : EReal) else ⊥) (i : Fin 256) (c0 : Fin w) (h0 : V i.val c0.val) :
    ∃ r : ℝ, ∀ c, expo w s (ix2 i c) = (((if V i.val c.val then Real.exp (S i.val c.val) else 0) * Real.exp (-r) : ℝ) : EReal) := by
  obtain ⟨r, hr⟩ := sup_real (fun c : Fin w => (s (ix2 i c) : EReal)) (fun c => by
    show s (ix2 i c) = ⊥ ∨ ∃ r : ℝ, s (ix2 i c) = _
    rw [hs i c]; split_ifs
    · exact .inr ⟨_, rfl⟩
    · exact .inl rfl) c0 (S i.val c0.val) (by show s (ix2 i c0) = _; rw [hs, if_pos h0])
  refine ⟨r, fun c => ?_⟩
  unfold expo
  rw [exp_apply, subf_apply, bCol_apply, rowmax_apply, hr, hs]
  split_ifs
  · rw [← Real.exp_add]
    exact (congrArg Ideal.exp (EReal.coe_sub _ _).symm).trans rfl
  · rw [zero_mul]
    exact (congrArg Ideal.exp (EReal.bot_sub _)).trans rfl

theorem soft_apply (w : ℕ) {s : FVec Ideal (M 256 w) .f32} {S : ℕ → ℕ → ℝ} {V : ℕ → ℕ → Prop} [∀ i c, Decidable (V i c)]
    (hs : ∀ i c, s (ix2 i c) = if V i.val c.val then ((S i.val c.val : ℝ) : EReal) else ⊥) (i : Fin 256) (h0 : ∃ c0 : Fin w, V i.val c0.val)
    (c : Fin w) :
    soft w s (ix2 i c) = (((if V i.val c.val then Real.exp (S i.val c.val) else 0) /
      ∑ c ∈ range w, (if V i.val c then Real.exp (S i.val c) else 0) : ℝ) : EReal) := by
  obtain ⟨c0, h0⟩ := h0
  obtain ⟨r, hr⟩ := expo_apply w hs i c0 h0
  have hT : 0 < ∑ c ∈ range w, (if V i.val c then Real.exp (S i.val c) else 0) := by
    refine Finset.sum_pos' (fun k _ => ?_) ⟨c0.val, Finset.mem_range.2 c0.isLt, ?_⟩
    · split_ifs
      · exact (Real.exp_pos _).le
      · exact le_refl _
    · rw [if_pos h0]; exact Real.exp_pos _
  have hsum : rowsum 256 w (expo w s) (ix2 i 0) =
      (((∑ c ∈ range w, (if V i.val c then Real.exp (S i.val c) else 0)) * Real.exp (-r) : ℝ) : EReal) := by
    rw [rowsum_apply, Finset.sum_mul, ← coe_sum_fin w (fun c => (if V i.val c then Real.exp (S i.val c) else 0) * Real.exp (-r))]
    exact Finset.sum_congr rfl fun c _ => hr c
  unfold soft
  rw [mulf_apply, bCol_apply, divf_apply, hsum, broadcast_apply, hr c]
  have hne : (∑ c ∈ range w, (if V i.val c then Real.exp (S i.val c) else 0)) * Real.exp (-r) ≠ 0 :=
    (mul_pos hT (Real.exp_pos _)).ne'
  refine (congrArg (_ * ·) (Ideal.div_coe hne _)).trans ?_
  rw [show (Scalar.ofBits .f32 0x3F800000#32 : Ideal .f32) = ((1 : ℝ) : EReal) from lit1, ← EReal.coe_mul, ← EReal.coe_mul]
  refine congrArg _ ?_
  have := (Real.exp_pos (-r)).ne'
  have := hT.ne'
  field_simp

theorem dsv_apply (w : ℕ) {p d : FVec Ideal (M 256 w) .f32} {P D : ℕ → ℕ → ℝ} (hp : ∀ i c, p (ix2 i c) = ((P i.val c.val : ℝ) : EReal))
    (hd : ∀ i c, d (ix2 i c) = ((D i.val c.val : ℝ) : EReal)) (i : Fin 256) (c : Fin w) :
    dsv w p d (ix2 i c) = ((P i.val c.val * (D i.val c.val - ∑ c ∈ range w, P i.val c * D i.val c) : ℝ) : EReal) := by
  have hsum : rowsum 256 w (mulf p d) (ix2 i 0) = ((∑ c ∈ range w, P i.val c * D i.val c : ℝ) : EReal) := by
    rw [rowsum_apply, ← coe_sum_fin w (fun c => P i.val c * D i.val c)]
    exact Finset.sum_congr rfl fun c _ => by rw [mulf_apply, hp, hd, EReal.coe_mul]
  unfold dsv
  rw [mulf_apply, subf_apply, bCol_apply, hsum, hp, hd, EReal.coe_mul, EReal.coe_sub]

theorem dbv_apply (w : ℕ) (ds : FVec Ideal (M 256 w) .f32) (old : FVec Ideal (M1 256 w) .f32) (u : Fin 1) (i : Fin 256) (c : Fin w) :
    dbv w ds old (ix3 u i c) = old (ix3 0 i c) + ds (ix2 i c) := by
  unfold dbv
  rw [shapeCast_ab_1ab_apply, addf_apply, shapeCast_1ab_ab_apply]

theorem dqv_apply (w : ℕ) {kw : FVec Ideal (M w 128) .bf16} {d0 d1 : FVec Ideal (M 256 w) .f32} {K : ℕ → ℕ → ℝ} {D : ℕ → ℕ → ℕ → ℝ}
    (hk : ∀ i l, kw (ix2 i l) = ((K i.val l.val : ℝ) : EReal)) (h0 : ∀ i c, d0 (ix2 i c) = ((D 0 i.val c.val : ℝ) : EReal))
    (h1 : ∀ i c, d1 (ix2 i c) = ((D 1 i.val c.val : ℝ) : EReal)) (i : Fin 256) (l : Fin 128) :
    dqv w kw d0 d1 (ix2 i l) = (((∑ c ∈ range w, D (l.val / 64) i.val c * K c l.val) * (1 / 8) : ℝ) : EReal) := by
  unfold dqv
  rw [shapeCast_id, mulf_apply, broadcast_apply, keep2_apply, plain_apply w h0 hk, plain_apply w h1 hk,
    show (Scalar.ofBits .f32 0x3E000000#32 : Ideal .f32) = ((1 / 8 : ℝ) : EReal) from lit8]
  have := l.isLt
  split_ifs with h
  · rw [h, EReal.coe_mul]
  · rw [show l.val / 64 = 1 by omega, EReal.coe_mul]

theorem accv_apply (w : ℕ) {x : FVec Ideal (M 256 128) .bf16} {d0 d1 : FVec Ideal (M 256 w) .f32} {X : ℕ → ℕ → ℝ} {D : ℕ → ℕ → ℕ → ℝ}
    (hk : ∀ i l, x (ix2 i l) = ((X i.val l.val : ℝ) : EReal)) (h0 : ∀ i c, d0 (ix2 i c) = ((D 0 i.val c.val : ℝ) : EReal))
    (h1 : ∀ i c, d1 (ix2 i c) = ((D 1 i.val c.val : ℝ) : EReal)) (old : FVec Ideal (M w 128) .f32) (c : Fin w) (l : Fin 128) :
    accv w x d0 d1 old (ix2 c l) = old (ix2 c l) + ((∑ i ∈ range 256, D (l.val / 64) i c.val * X i l.val : ℝ) : EReal) := by
  unfold accv
  rw [shapeCast_id, addf_apply, keep2_apply, tn_apply w h0 hk, tn_apply w h1 hk]
  have := l.isLt
  split_ifs with h
  · rw [h]
  · rw [show l.val / 64 = 1 by omega]

end AttK
-- ==== Proof.FfnBase.lean ====
/-
  Products on the matrix unit and row blocks of an array, entry by entry, over the extended reals.
-/
module

public import proofs.«01_k».proof.Proof.WindowRead
public import Idealize.ShloMosaic.Lib.Pipeline.ValueKit.Acc

@[expose] public section

noncomputable section

namespace Ffn

open Idealize.ShloMosaic hiding ix0 ix1 ix2 ix3 ix4 ix5
open Idealize.ShloMosaic.ValueIdx
open AttK (M tn)
open scoped BigOperators

/-- Every index of a matrix is a row and a column. -/
theorem split2 {a b : ℕ} (i : (M a b).Idx) : i = ix2 (i 0) (i 1) := funext fun x => by
  match x with
  | ⟨0, _⟩ => rfl
  | ⟨1, _⟩ => rfl

variable {a b k : ℕ} {φ₁ φ₂ : FTy}

/-- Both operands contracted over their rows. -/
theorem tn_zero (x : FVec Ideal (M k a) φ₁) (y : FVec Ideal (M k b) φ₂) (r : Fin a) (c : Fin b) :
    matmul (tn k a b) none x y (constant (M a b) .f32 0x00000000#32) (ix2 r c) = ∑ j : Fin k, x (ix2 j r) * y (ix2 j c) :=
  (AttK.tn_matmul_apply _ _ _ _ _).trans (by rw [AttK.const_zero, zero_add])

/-- Both operands contracted over their columns. -/
theorem nt_zero (x : FVec Ideal (M a k) φ₁) (y : FVec Ideal (M b k) φ₂) (r : Fin a) (c : Fin b) :
    matmul (DotDims.transposedRhs a k b) none x y (constant (M a b) .f32 0x00000000#32) (ix2 r c) = ∑ j : Fin k, x (ix2 r j) * y (ix2 c j) :=
  (Ideal.matmul_transposedRhs_apply _ _ _ _ _ _).trans (by rw [AttK.const_zero, zero_add])

/-- The plain product. -/
theorem nn_zero (x : FVec Ideal (M a k) φ₁) (y : FVec Ideal (M k b) φ₂) (r : Fin a) (c : Fin b) :
    matmul (DotDims.plain a k b) none x y (constant (M a b) .f32 0x00000000#32) (ix2 r c) = ∑ j : Fin k, x (ix2 r j) * y (ix2 j c) :=
  (Ideal.matmul_plain_apply _ _ _ _ _ _).trans (by rw [AttK.const_zero, zero_add])

/-! ## The sigmoid -/

theorem litHalf : (FloatOps.ofBits .f32 0x3F000000#32 : Ideal .f32) = ((1 / 2 : ℝ) : EReal) := by
  simp [Ideal.ofBits, Ideal.ieee, -EReal.coe_mul]; norm_num
theorem lit1024 : (FloatOps.ofBits .f32 0x44800000#32 : Ideal .f32) = ((1024 : ℝ) : EReal) := by
  simp [Ideal.ofBits, Ideal.ieee, -EReal.coe_mul]; norm_num

/-- A real number's sigmoid, from the hyperbolic tangent of its half. -/
theorem sig_real (x : ℝ) : 1 / 2 * Real.tanh (1 / 2 * x) + 1 / 2 = (1 + Real.exp (-x))⁻¹ := by
  have e : Real.exp (-x) = Real.exp (-(1 / 2 * x)) * Real.exp (-(1 / 2 * x)) := by rw [← Real.exp_add]; congr 1; ring
  have p := Real.exp_pos (1 / 2 * x)
  have q := Real.exp_pos (-(1 / 2 * x))
  have h : Real.exp (1 / 2 * x) * Real.exp (-(1 / 2 * x)) = 1 := by rw [← Real.exp_add]; simp
  rw [Real.tanh_eq_sinh_div_cosh, Real.sinh_eq, Real.cosh_eq, e]
  generalize Real.exp (1 / 2 * x) = a at *
  generalize Real.exp (-(1 / 2 * x)) = b at *
  have ha : a ≠ 0 := p.ne'
  have hb : b = a⁻¹ := eq_inv_of_mul_eq_one_right h
  subst hb
  have h2 : a * a + 1 ≠ 0 := by positivity
  field_simp
  ring

/-- The same over the extended reals. -/
theorem sig (x : EReal) : ((1 / 2 : ℝ) : EReal) * Ideal.tanh (((1 / 2 : ℝ) : EReal) * x) + ((1 / 2 : ℝ) : EReal)
    = Ideal.div ((1 : ℝ) : EReal) (((1 : ℝ) : EReal) + Ideal.exp (-x)) := by
  refine Eq.trans ?_ (show Ideal.logistic x = _ by rw [EReal.coe_one]; rfl)
  induction x using EReal.rec with
  | bot =>
    rw [EReal.coe_mul_bot_of_pos (by norm_num), Ideal.tanh_bot, Ideal.logistic_bot, ← EReal.coe_one, ← EReal.coe_neg, ← EReal.coe_mul,
      ← EReal.coe_add, ← EReal.coe_zero]
    norm_num
  | coe r => rw [← EReal.coe_mul, Ideal.tanh_coe, ← EReal.coe_mul, ← EReal.coe_add, Ideal.logistic_coe, sig_real]
  | top =>
    rw [EReal.coe_mul_top_of_pos (by norm_num), Ideal.tanh_top, Ideal.logistic_top, ← EReal.coe_one, ← EReal.coe_mul, ← EReal.coe_add]
    norm_num

end Ffn
-- ==== Proof.NormRead.lean ====
/-
  What the normalisation per head and its gradient leave at an index, over the extended reals.
-/
module

public import proofs.«01_k».proof.Proof.WindowRead

@[expose] public section

noncomputable section

namespace Att

/-- A sum over a head depends on the row's columns of that head alone. -/
theorem gsum_congr {f g : ℕ → ℝ} {c : ℕ} (h : ∀ d < 64, f (64 * (c / 64) + d) = g (64 * (c / 64) + d)) : gsum f c = gsum g c :=
  Finset.sum_congr rfl fun d hd => h d (Finset.mem_range.1 hd)

theorem eps_pos : 0 < eps := by unfold eps; positivity

theorem arg_pos (x : ℕ → ℝ) (c : ℕ) : 0 < gsum (fun e => x e * x e) c * (1 / 64) + eps :=
  add_pos_of_nonneg_of_pos (mul_nonneg (Finset.sum_nonneg fun _ _ => mul_self_nonneg _) (by norm_num)) eps_pos

end Att

namespace AttK

open Idealize.ShloMosaic hiding ix0 ix1 ix2 ix3 ix4 ix5
open Idealize.ShloMosaic.ValueIdx Cert.KernelIdeal Cert.KernelIdeal.Gen
open scoped BigOperators
open Finset (range)
open Att (gsum rr xhat nrm nbwd)

variable [Facts]

/-- An array of 2048 rows and 128 lanes of real numbers. -/
def Is {φ : FTy} (x : FVec Ideal S2048x128 φ) (X : ℕ → ℕ → ℝ) : Prop :=
  ∀ (i : Fin 2048) (l : Fin 128), x (ix2 i l) = ((X i.val l.val : ℝ) : EReal)

theorem lanes_apply (x : FVec Ideal (M 2048 1) .f32) (i : Fin 2048) (l : Fin 128) : lanes x (ix2 i l) = x (ix2 i 0) := by
  unfold lanes; rw [bCol_apply, shapeCast_id]

theorem half_sum {mk : IVec S1x128 1} {t : ℕ} (ht : t < 2) (hm : Half mk t) {x : FVec Ideal S2048x128 .f32} {X : ℕ → ℕ → ℝ}
    (hx : Is x X) (i : Fin 2048) (l : Fin 128) :
    lanes (rowsum 2048 128 (keep 2048 mk x (zf 2048))) (ix2 i l) = ((∑ d ∈ range 64, X i.val (64 * t + d) : ℝ) : EReal) := by
  rw [lanes_apply, rowsum_apply, ← Att.sum_half t ht (X i.val), ← coe_sum_fin 128 (fun l => if l / 64 = t then X i.val l else 0)]
  refine Finset.sum_congr rfl fun c _ => ?_
  rw [keep_apply 2048 hm, zf_apply, hx]
  split_ifs <;> rfl

theorem gsumv_apply {x : FVec Ideal S2048x128 .f32} {X : ℕ → ℕ → ℝ} (hx : Is x X) : Is (gsumv x) (fun i l => gsum (X i) l) := by
  intro i l
  show gsumv x (ix2 i l) = _
  unfold gsumv
  rw [keep2_apply, half_sum (by decide) half0 hx, half_sum (by decide) half1 hx]
  have := l.isLt
  show _ = ((∑ d ∈ range 64, X i.val (64 * (l.val / 64) + d) : ℝ) : EReal)
  split_ifs with h
  · rw [h]
  · rw [show l.val / 64 = 1 by omega]

theorem mulf_is {x y : FVec Ideal S2048x128 .f32} {X Y : ℕ → ℕ → ℝ} (hx : Is x X) (hy : Is y Y) :
    Is (mulf x y) (fun i l => X i l * Y i l) := fun i l => by rw [mulf_apply, hx, hy, EReal.coe_mul]

theorem scale_is (w : BitVec 32) (r : ℝ) (hw : (FloatOps.ofBits .f32 w : Ideal .f32) = ((r : ℝ) : EReal)) {x : FVec Ideal S2048x128 .f32}
    {X : ℕ → ℕ → ℝ} (hx : Is x X) : Is (mulf x (broadcast S2048x128 (Scalar.ofBits .f32 w))) (fun i l => X i l * r) := fun i l => by
  rw [mulf_apply, hx, broadcast_apply, show (Scalar.ofBits .f32 w : Ideal .f32) = ((r : ℝ) : EReal) from hw, EReal.coe_mul]

theorem rrv_is {x : FVec Ideal S2048x128 .f32} {X : ℕ → ℕ → ℝ} (hx : Is x X) : Is (rrv x) (fun i l => rr (X i) l) := by
  intro i l
  show rrv x (ix2 i l) = _
  unfold rrv
  rw [rsqrt_apply, addf_apply, scale_is _ _ lit64 (gsumv_apply (mulf_is hx hx)) i l, broadcast_apply,
    show (Scalar.ofBits .f32 0x358637BD#32 : Ideal .f32) = ((Att.eps : ℝ) : EReal) from litEps]
  have h := Att.arg_pos (X i.val) l.val
  refine (congrArg Ideal.rsqrt (EReal.coe_add _ _).symm).trans ?_
  rw [Ideal.rsqrt_coe, if_neg (not_lt.2 h.le), if_neg h.ne']
  rfl

theorem xhv_is {x : FVec Ideal S2048x128 .f32} {X : ℕ → ℕ → ℝ} (hx : Is x X) : Is (xhv x) (fun i l => xhat (X i) l) :=
  mulf_is hx (rrv_is hx)

theorem gain_is {x : FVec Ideal S2048x128 .f32} {X : ℕ → ℕ → ℝ} (hx : Is x X) {g : FVec Ideal S1x128 .f32} {G : ℕ → ℝ}
    (hg : ∀ l : Fin 128, g (ix2 0 l) = ((G (l.val % 64) : ℝ) : EReal)) :
    Is (mulf x (broadcastTo S2048x128 g broadcasts_S1x128_S2048x128)) (fun i l => X i l * G (l % 64)) := fun i l => by
  rw [mulf_apply, hx, bRow_apply 2048 128, hg, EReal.coe_mul]

theorem nrmv_is {x : FVec Ideal S2048x128 .f32} {X : ℕ → ℕ → ℝ} (hx : Is x X) {g : FVec Ideal S1x128 .f32} {G : ℕ → ℝ}
    (hg : ∀ l : Fin 128, g (ix2 0 l) = ((G (l.val % 64) : ℝ) : EReal)) : Is (nrmv x g) (fun i l => nrm G (X i) l) :=
  gain_is (xhv_is hx) hg

theorem nbwdv_is {x dy : FVec Ideal S2048x128 .f32} {X DY : ℕ → ℕ → ℝ} (hx : Is x X) (hy : Is dy DY) {g : FVec Ideal S1x128 .f32}
    {G : ℕ → ℝ} (hg : ∀ l : Fin 128, g (ix2 0 l) = ((G (l.val % 64) : ℝ) : EReal)) :
    Is (nbwdv x dy g) (fun i l => nbwd G (X i) (DY i) l) := by
  refine mulf_is (rrv_is hx) fun i l => ?_
  rw [subf_apply, gain_is hy hg i l,
    mulf_is (xhv_is hx) (scale_is _ _ lit64 (gsumv_apply (mulf_is (gain_is hy hg) (xhv_is hx)))) i l, EReal.coe_sub]

theorem dgv_apply {x dy : FVec Ideal S2048x128 .f32} {X DY : ℕ → ℕ → ℝ} (hx : Is x X) (hy : Is dy DY) (u : Fin 1) (l : Fin 128) :
    dgv x dy (ix2 u l) = ((∑ i ∈ range 2048, DY i l.val * xhat (X i) l.val : ℝ) : EReal) := by
  unfold dgv
  rw [shapeCast_a_1a_apply]
  refine (Ideal.reduceAdd_r2_a0 reduces_S2048x128_S128 _ (ix1 l)).trans ?_
  rw [← coe_sum_fin 2048 (fun i => DY i l.val * xhat (X i) l.val)]
  exact Finset.sum_congr rfl fun i _ => mulf_is hy (xhv_is hx) i l

end AttK
-- ==== Proof.FfnModel.lean ====
/-
  The backward half of the feed-forward layer over the real numbers: from the stream's cotangent, the stream, the normalisation's gain
  and the four weights to the gradients, row by row.
-/
module

public import proofs.«01_k».proof.Proof.FfnBase
public import proofs.«01_k».proof.Proof.NormRead

@[expose] public section

noncomputable section

namespace FfnB

open Finset (range)

/-- The arguments: cotangent and stream (row, column), gain, and the weights. -/
structure Arr where
  C : ℕ → ℕ → ℝ
  X : ℕ → ℕ → ℝ
  g : ℕ → ℝ
  wg : ℕ → ℕ → ℝ
  wu : ℕ → ℕ → ℝ
  wd : ℕ → ℕ → ℝ
  wo : ℕ → ℕ → ℝ

namespace Arr
variable (A : Arr)

/-- The mean square of a row, with the small constant. -/
def arg (i : ℕ) : ℝ := (∑ k ∈ range 1024, A.X i k * A.X i k) * (1 / 1024) + Att.eps
def rr (i : ℕ) : ℝ := (Real.sqrt (A.arg i))⁻¹
def xh (i l : ℕ) : ℝ := A.X i l * A.rr i
def hh (i l : ℕ) : ℝ := A.xh i l * A.g l
def gate (i f : ℕ) : ℝ := ∑ k ∈ range 1024, A.hh i k * A.wg f k
def up (i f : ℕ) : ℝ := ∑ k ∈ range 1024, A.hh i k * A.wu f k
def sg (i f : ℕ) : ℝ := (1 + Real.exp (-A.gate i f))⁻¹
/-- The cotangent of the gated activation. -/
def dact (i f : ℕ) : ℝ := ∑ k ∈ range 1024, A.C i k * A.wd f k
def dgate (i f : ℕ) : ℝ := A.dact i f * A.up i f * A.sg i f * (1 + A.gate i f * (1 - A.sg i f))
def dup (i f : ℕ) : ℝ := A.dact i f * A.gate i f * A.sg i f
/-- The cotangent of the normalised stream. -/
def dh (i l : ℕ) : ℝ := ∑ f ∈ range 2816, A.dgate i f * A.wg f l + ∑ f ∈ range 2816, A.dup i f * A.wu f l
/-- The gain's gradient over the first rows. -/
def dgain (n l : ℕ) : ℝ := ∑ i ∈ range n, A.dh i l * A.xh i l
def dxh (i l : ℕ) : ℝ := A.dh i l * A.g l
def dx (i l : ℕ) : ℝ := A.C i l + A.rr i * (A.dxh i l - A.xh i l * ((∑ k ∈ range 1024, A.dxh i k * A.xh i k) * (1 / 1024)))
def dcat (i o : ℕ) : ℝ := ∑ l ∈ range 1024, A.dx i l * A.wo o l

/-- The rows from `s` on. -/
def shift (s : ℕ) : Arr := { A with C := fun i => A.C (s + i), X := fun i => A.X (s + i) }

theorem arg_pos (i : ℕ) : 0 < A.arg i :=
  add_pos_of_nonneg_of_pos (mul_nonneg (Finset.sum_nonneg fun _ _ => mul_self_nonneg _) (by norm_num)) Att.eps_pos

theorem rr_sq (i : ℕ) : 1 / A.arg i = A.rr i * A.rr i := by
  unfold rr; rw [← mul_inv, Real.mul_self_sqrt (A.arg_pos i).le, one_div]

theorem dgain_add (s n l : ℕ) : A.dgain (s + n) l = A.dgain s l + (A.shift s).dgain n l := Finset.sum_range_add _ s n

end Arr
end FfnB

namespace Ffn

open Idealize.ShloMosaic hiding ix0 ix1 ix2 ix3 ix4 ix5
open Idealize.ShloMosaic.ValueIdx
open AttK (M)
open Finset (range)

/-- The matrix holds the real numbers of `X`. -/
def Is {a b : ℕ} (x : (M a b).Idx → EReal) (X : ℕ → ℕ → ℝ) : Prop := ∀ i l, x (ix2 i l) = ((X i.val l.val : ℝ) : EReal)

variable {a b k : ℕ} {φ₁ φ₂ : FTy} {X Y : ℕ → ℕ → ℝ}

theorem nt_is {x : FVec Ideal (M a k) φ₁} {y : FVec Ideal (M b k) φ₂} (hx : Is x X) (hy : Is y Y) :
    Is (matmul (DotDims.transposedRhs a k b) none x y (constant (M a b) .f32 0x00000000#32)) (fun i l => ∑ j ∈ range k, X i j * Y l j) := fun i l => by
  rw [nt_zero, ← AttK.coe_sum_fin k (fun j => X i j * Y l j)]
  exact Finset.sum_congr rfl fun j _ => by rw [hx, hy, ← EReal.coe_mul]

theorem nn_is {x : FVec Ideal (M a k) φ₁} {y : FVec Ideal (M k b) φ₂} (hx : Is x X) (hy : Is y Y) :
    Is (matmul (DotDims.plain a k b) none x y (constant (M a b) .f32 0x00000000#32)) (fun i l => ∑ j ∈ range k, X i j * Y j l) := fun i l => by
  rw [nn_zero, ← AttK.coe_sum_fin k (fun j => X i j * Y j l)]
  exact Finset.sum_congr rfl fun j _ => by rw [hx, hy, ← EReal.coe_mul]

/-- The sum of each row. -/
theorem row_is {x : FVec Ideal (M 256 1024) .f32} (hx : Is x X) (r : Fin 256) (u : Fin 1) :
    AttK.rowsum 256 1024 x (ix2 r u) = ((∑ j ∈ range 1024, X r.val j : ℝ) : EReal) := by
  rw [AttK.rowsum_apply, ← AttK.coe_sum_fin 1024 (fun j => X r.val j)]
  exact Finset.sum_congr rfl fun j _ => hx r j

end Ffn
-- ==== Proof.RefBase.lean ====
/-
  Arrays of extended reals that hold real numbers, and what the host's operations make of them.
-/
module

public import proofs.«01_k».proof.Proof.WindowRead
public import proofs.«01_k».proof.Proof.Args
public import proofs.«01_k».proof.Proof.Gen.ReferenceIdeal.Read

@[expose] public section

noncomputable section

namespace AttR

open Idealize.ShloMosaic
open scoped BigOperators
open Finset (range)

/-- The array holds the real numbers of `f`. -/
def Re {s : Shape} (x : s.Idx → EReal) (f : s.Idx → ℝ) : Prop := ∀ i, x i = ((f i : ℝ) : EReal)

theorem lit64' : (FloatOps.ofBits .f32 0x42800000#32 : Ideal .f32) = ((64 : ℝ) : EReal) := by
  simp [Ideal.ofBits, Ideal.ieee, -EReal.coe_mul]; norm_num
theorem litHalf : (FloatOps.ofBits .f32 0xBF000000#32 : Ideal .f32) = ((-(1 / 2) : ℝ) : EReal) := by
  simp [Ideal.ofBits, Ideal.ieee, -EReal.coe_mul]; norm_num

variable {s t : Shape}

theorem Re.to {x : s.Idx → EReal} {f g : s.Idx → ℝ} (h : Re x f) (e : ∀ i, f i = g i) : Re x g :=
  fun i => (h i).trans (congrArg (fun r : ℝ => (r : EReal)) (e i))

/-- A layout operation. -/
theorem Re.lay {x : s.Idx → EReal} {f : s.Idx → ℝ} (h : Re x f) {y : t.Idx → EReal} {idx : t.Idx → s.Idx} (ha : ∀ i, y i = x (idx i))
    {g : t.Idx → ℝ} (e : ∀ i, f (idx i) = g i) : Re y g :=
  fun i => (ha i).trans ((h _).trans (congrArg (fun r : ℝ => (r : EReal)) (e i)))

variable {x y : s.Idx → EReal} {f g : s.Idx → ℝ}

theorem Re.mul (hx : Re x f) (hy : Re y g) : Re (fun i => x i * y i) (fun i => f i * g i) := fun i => by
  show x i * y i = _; rw [hx i, hy i, ← EReal.coe_mul]
theorem Re.add (hx : Re x f) (hy : Re y g) : Re (fun i => x i + y i) (fun i => f i + g i) := fun i => by
  show x i + y i = _; rw [hx i, hy i, ← EReal.coe_add]
theorem Re.neg (hx : Re x f) : Re (fun i => -x i) (fun i => -f i) := fun i => by
  show -x i = _; rw [hx i, ← EReal.coe_neg]
theorem Re.div (hx : Re x f) (hy : Re y g) (h : ∀ i, g i ≠ 0) : Re (fun i => Ideal.div (x i) (y i)) (fun i => f i * (1 / g i)) := fun i => by
  show Ideal.div (x i) (y i) = _; rw [hx i, hy i, Ideal.div_coe (h i), ← EReal.coe_mul]
theorem Re.rsqrt (hx : Re x f) (h : ∀ i, 0 < f i) : Re (fun i => Ideal.rsqrt (x i)) (fun i => (Real.sqrt (f i))⁻¹) := fun i => by
  show Ideal.rsqrt (x i) = _; rw [hx i, Ideal.rsqrt_coe, if_neg (not_lt.mpr (h i).le), if_neg (h i).ne']

/-- A sum over one axis. -/
theorem Re.sum {n : ℕ} (hx : Re x f) {y : t.Idx → EReal} {z : EReal} {idx : t.Idx → Fin n → s.Idx} (ha : ∀ i, y i = z + ∑ k : Fin n, x (idx i k))
    (hz : z = ((0 : ℝ) : EReal)) {G : t.Idx → ℕ → ℝ} (e : ∀ i (k : Fin n), f (idx i k) = G i k.val) :
    Re y (fun i => ∑ k ∈ range n, G i k) := fun i => by
  rw [ha i, hz, ← AttK.coe_sum_fin n (G i), EReal.coe_zero, zero_add]
  exact Finset.sum_congr rfl fun k _ => (hx _).trans (congrArg (fun r : ℝ => (r : EReal)) (e i k))

/-- A product over one contracted axis. -/
theorem Re.dot {n : ℕ} {u : Shape} {x : s.Idx → EReal} {f : s.Idx → ℝ} {w : u.Idx → EReal} {g : u.Idx → ℝ} (hx : Re x f) (hw : Re w g)
    {y : t.Idx → EReal} {lidx : t.Idx → Fin n → s.Idx} {ridx : t.Idx → Fin n → u.Idx}
    (ha : ∀ i, y i = ∑ k : Fin n, x (lidx i k) * w (ridx i k)) {G : t.Idx → ℕ → ℝ} (e : ∀ i (k : Fin n), f (lidx i k) * g (ridx i k) = G i k.val) :
    Re y (fun i => ∑ k ∈ range n, G i k) := fun i => by
  rw [ha i, ← AttK.coe_sum_fin n (G i)]
  exact Finset.sum_congr rfl fun k _ => by rw [hx, hw, ← EReal.coe_mul, e]

end AttR
-- ==== Proof.FfnRef.lean ====
/-
  The reference's backward half of the feed-forward layer, line by line, over arrays that hold real numbers.
-/
module

public import proofs.«01_k».proof.Proof.FfnModel
public import proofs.«01_k».proof.Proof.RefBase
public import proofs.«01_k».proof.Proof.Gen.Reference2Ideal.Read

@[expose] public section

noncomputable section

namespace FfnB

open Idealize.ShloMosaic hiding ix0 ix1 ix2 ix3 ix4 ix5
open Idealize.ShloMosaic.ValueIdx Cert.Reference2Ideal Cert.Reference2Ideal.Gen Cert.Reference2Ideal.Read
open scoped BigOperators
open Finset (range)
open AttR (Re)
open Ffn (Is)

/-- The arguments hold the real numbers of `A`. -/
structure Reads (A : Arr) (x0 : FVec Ideal S4096x1024 .bf16) (x1 : FVec Ideal S4096x1024 .f32) (x2 : FVec Ideal S1x1024 .f32)
    (x3 x4 x5 : FVec Ideal S2816x1024 .bf16) (x6 : FVec Ideal S1024x1024 .bf16) : Prop where
  C : Is x0 A.C
  X : Is x1 A.X
  g : ∀ l : Fin 1024, x2 (ix2 0 l) = ((A.g l.val : ℝ) : EReal)
  wg : Is x3 A.wg
  wu : Is x4 A.wu
  wd : Is x5 A.wd
  wo : Is x6 A.wo

theorem re_of_is {a b : ℕ} {x : (AttK.M a b).Idx → EReal} {X : ℕ → ℕ → ℝ} (h : Is x X) : Re x (fun i => X (i 0).val (i 1).val) := fun i => by
  rw [Ffn.split2 i]; exact h _ _

theorem re_exp {s : Shape} {x : s.Idx → EReal} {f : s.Idx → ℝ} (h : Re x f) : Re (fun i => Ideal.exp (x i)) (fun i => Real.exp (f i)) := fun i => by
  show Ideal.exp (x i) = _; rw [h i, Ideal.exp_coe]

theorem re_sub {s : Shape} {x y : s.Idx → EReal} {f g : s.Idx → ℝ} (hx : Re x f) (hy : Re y g) : Re (fun i => x i - y i) (fun i => f i - g i) := fun i => by
  show x i - y i = _; rw [hx i, hy i, ← EReal.coe_sub]

variable {A : Arr} {x0 : FVec Ideal S4096x1024 .bf16} {x1 : FVec Ideal S4096x1024 .f32} {x2 : FVec Ideal S1x1024 .f32}
  {x3 x4 x5 : FVec Ideal S2816x1024 .bf16} {x6 : FVec Ideal S1024x1024 .bf16} (R : Reads A x0 x1 x2 x3 x4 x5 x6)

section
include R

theorem r0 : Re (s := S4096x1024) (val_main_v0 (F := Ideal) x0) (fun i => A.C (i 0).val (i 1).val) := re_of_is R.C
theorem rX : Re (s := S4096x1024) x1 (fun i => A.X (i 0).val (i 1).val) := re_of_is R.X
theorem rg : Re (s := S1x1024) x2 (fun i => A.g (i 1).val) := fun i => by
  rw [show i = ix2 0 (i 1) from funext fun a => by match a with | ⟨0, _⟩ => exact Fin.ext (Nat.lt_one_iff.mp (i 0).isLt) | ⟨1, _⟩ => rfl]
  exact R.g _
theorem r1 : Re (s := S2816x1024) (val_main_v1 (F := Ideal) x3) (fun i => A.wg (i 0).val (i 1).val) := re_of_is R.wg
theorem r2 : Re (s := S1024x2816) (val_main_v2 (F := Ideal) x3) (fun i => A.wg (i 1).val (i 0).val) :=
  (r1 R).lay (idx := idx_main_v2) (val_main_v2_apply (F := Ideal) x3) fun _ => rfl
theorem r3 : Re (s := S2816x1024) (val_main_v3 (F := Ideal) x4) (fun i => A.wu (i 0).val (i 1).val) := re_of_is R.wu
theorem r4 : Re (s := S1024x2816) (val_main_v4 (F := Ideal) x4) (fun i => A.wu (i 1).val (i 0).val) :=
  (r3 R).lay (idx := idx_main_v4) (val_main_v4_apply (F := Ideal) x4) fun _ => rfl
theorem r5 : Re (s := S2816x1024) (val_main_v5 (F := Ideal) x5) (fun i => A.wd (i 0).val (i 1).val) := re_of_is R.wd
theorem r6 : Re (s := S1024x1024) (val_main_v6 (F := Ideal) x6) (fun i => A.wo (i 0).val (i 1).val) := re_of_is R.wo

/-! ## The normalised stream -/

theorem r8 : Re (s := S4096) (val_main_v8 (F := Ideal) x1) (fun i => ∑ k ∈ range 1024, A.X (i 0).val k * A.X (i 0).val k) :=
  ((rX R).mul (rX R)).sum (idx := idx_main_v8) (val_main_v8_apply x1) AttK.lit0 fun i k => rfl
theorem r9 : Re (s := S4096x1) (val_main_v9 (F := Ideal) x1) (fun i => ∑ k ∈ range 1024, A.X (i 0).val k * A.X (i 0).val k) :=
  (r8 R).lay (idx := idx_main_v9) (val_main_v9_apply (F := Ideal) x1) fun _ => rfl
omit R in
theorem r10 : Re (s := S4096x1) (val_main_v10 (F := Ideal)) (fun _ => 1024) := fun _ => Ffn.lit1024
omit R in
theorem r12 : Re (s := S4096x1) (val_main_v12 (F := Ideal)) (fun _ => Att.eps) := fun _ => AttK.litEps
omit R in
theorem r16 : Re (s := S4096x1) (val_main_v16 (F := Ideal)) (fun _ => -(1 / 2)) := fun _ => AttR.litHalf
theorem r13 : Re (s := S4096x1) (val_main_v13 (F := Ideal) x1) (fun i => A.arg (i 0).val) := ((r9 R).div r10 (fun _ => by norm_num)).add r12
theorem r14 : Re (s := S4096x1) (val_main_v14 (F := Ideal) x1) (fun i => A.rr (i 0).val) := (r13 R).rsqrt fun _ => A.arg_pos _
theorem r17 : Re (s := S4096x1) (val_main_v17 (F := Ideal) x1) (fun i => -(1 / 2) * (A.rr (i 0).val * (1 / A.arg (i 0).val))) :=
  r16.mul ((r14 R).div (r13 R) fun _ => (A.arg_pos _).ne')
theorem r18 : Re (s := S4096x1024) (val_main_v18 (F := Ideal) x1) (fun i => A.rr (i 0).val) :=
  (r14 R).lay (idx := idx_main_v18) (val_main_v18_apply (F := Ideal) x1) fun _ => rfl
theorem r19 : Re (s := S4096x1024) (val_main_v19 (F := Ideal) x1) (fun i => A.xh (i 0).val (i 1).val) := (rX R).mul (r18 R)
theorem r20 : Re (s := S4096x1024) (val_main_v20 (F := Ideal) x2) (fun i => A.g (i 1).val) :=
  (rg R).lay (idx := idx_main_v20) (val_main_v20_apply (F := Ideal) x2) fun _ => rfl
theorem r21 : Re (s := S4096x1024) (val_main_v21 (F := Ideal) x1 x2) (fun i => A.hh (i 0).val (i 1).val) := (r19 R).mul (r20 R)

/-! ## The gated activation -/

theorem r22 : Re (s := S4096x2816) (val_main_v22 (F := Ideal) x1 x2 x3) (fun i => A.gate (i 0).val (i 1).val) :=
  (r21 R).dot (r2 R) (lidx := lidx_main_v22) (ridx := ridx_main_v22) (val_main_v22_apply x1 x2 x3) fun i k => rfl
theorem r23 : Re (s := S4096x2816) (val_main_v23 (F := Ideal) x1 x2 x4) (fun i => A.up (i 0).val (i 1).val) :=
  (r21 R).dot (r4 R) (lidx := lidx_main_v23) (ridx := ridx_main_v23) (val_main_v23_apply x1 x2 x4) fun i k => rfl
omit R in
theorem rc2 : Re (s := S4096x2816) (val_main_call0_v2 (F := Ideal)) (fun _ => 1) := fun _ => AttK.lit1
omit R in
theorem rc4 : Re (s := S4096x2816) (val_main_call0_v4 (F := Ideal)) (fun _ => 1) := fun _ => AttK.lit1
omit R in
theorem rc6 : Re (s := S4096x2816) (val_main_call0_v6 (F := Ideal)) (fun _ => 1) := fun _ => AttK.lit1
theorem rc3 : Re (s := S4096x2816) (val_main_call0_v3 (F := Ideal) x1 x2 x3) (fun i => 1 + Real.exp (-A.gate (i 0).val (i 1).val)) :=
  rc2.add (re_exp (r22 R).neg)
theorem r24s : Re (s := S4096x2816) (val_main_v24_2 (F := Ideal) x1 x2 x3) (fun i => A.sg (i 0).val (i 1).val) :=
  (rc4.div (rc3 R) fun _ => (add_pos one_pos (Real.exp_pos _)).ne').to fun i => by rw [one_mul, one_div]; rfl
theorem r24d : Re (s := S4096x2816) (val_main_v24_1 (F := Ideal) x1 x2 x3) (fun i => A.sg (i 0).val (i 1).val * (1 - A.sg (i 0).val (i 1).val)) :=
  (r24s R).mul (re_sub rc6 (r24s R))
theorem r24a : Re (s := S4096x2816) (val_main_v24_0 (F := Ideal) x1 x2 x3) (fun i => A.gate (i 0).val (i 1).val * A.sg (i 0).val (i 1).val) :=
  (r22 R).mul (r24s R)
theorem r27 : Re (s := S4096x2816) (val_main_v27 (F := Ideal) x0 x5) (fun i => A.dact (i 0).val (i 1).val) :=
  (r0 R).dot (r5 R) (lidx := lidx_main_v27) (ridx := ridx_main_v27) (val_main_v27_apply x0 x5) fun i k => rfl
theorem r28 : Re (s := S4096x2816) (val_main_v28 (F := Ideal) x0 x1 x2 x3 x5) (fun i => A.dup (i 0).val (i 1).val) :=
  ((r24a R).mul (r27 R)).to fun i => by unfold Arr.dup; ring
theorem r29 : Re (s := S4096x2816) (val_main_v29 (F := Ideal) x0 x1 x2 x4 x5) (fun i => A.dact (i 0).val (i 1).val * A.up (i 0).val (i 1).val) :=
  (r27 R).mul (r23 R)
theorem r30 : Re (s := S4096x2816) (val_main_v30 (F := Ideal) x0 x1 x2 x3 x4 x5) (fun i => A.dgate (i 0).val (i 1).val) :=
  (((r29 R).mul (r24s R)).add (((r22 R).mul (r29 R)).mul (r24d R))).to fun i => by unfold Arr.dgate; ring

/-! ## Through the gate's and the up products, to the normalised stream -/

theorem r31 : Re (s := S4096x1024) (val_main_v31 (F := Ideal) x0 x1 x2 x3 x4 x5) (fun i => ∑ f ∈ range 2816, A.dup (i 0).val f * A.wu f (i 1).val) :=
  (r28 R).dot (r4 R) (lidx := lidx_main_v31) (ridx := ridx_main_v31) (val_main_v31_apply x0 x1 x2 x3 x4 x5) fun i k => rfl
theorem r32 : Re (s := S4096x1024) (val_main_v32 (F := Ideal) x0 x1 x2 x3 x4 x5) (fun i => ∑ f ∈ range 2816, A.dgate (i 0).val f * A.wg f (i 1).val) :=
  (r30 R).dot (r2 R) (lidx := lidx_main_v32) (ridx := ridx_main_v32) (val_main_v32_apply x0 x1 x2 x3 x4 x5) fun i k => rfl
theorem r33 : Re (s := S4096x1024) (val_main_v33 (F := Ideal) x0 x1 x2 x3 x4 x5) (fun i => A.dh (i 0).val (i 1).val) :=
  ((r31 R).add (r32 R)).to fun i => add_comm _ _
theorem r35 : Re (s := S1024) (val_main_v35 (F := Ideal) x0 x1 x2 x3 x4 x5) (fun i => A.dgain 4096 (i 0).val) :=
  (((r19 R).mul (r33 R)).sum (idx := idx_main_v35) (val_main_v35_apply x0 x1 x2 x3 x4 x5) AttK.lit0
    (G := fun i k => A.dh k (i 0).val * A.xh k (i 0).val) fun i k => mul_comm _ _).to fun _ => rfl
theorem r36 : Re (s := S1x1024) (val_main_v36 (F := Ideal) x0 x1 x2 x3 x4 x5) (fun i => A.dgain 4096 (i 1).val) :=
  (r35 R).lay (idx := idx_main_v36) (val_main_v36_apply (F := Ideal) x0 x1 x2 x3 x4 x5) fun i => by
    have h0 : (i 0).val < 1 := (i 0).isLt
    show A.dgain 4096 ((i 0).val * 1024 + (i 1).val) = _
    rw [show (i 0).val * 1024 + (i 1).val = (i 1).val by omega]

/-! ## Through the normalisation -/

theorem r37 : Re (s := S4096x1024) (val_main_v37 (F := Ideal) x2) (fun i => A.g (i 1).val) :=
  (rg R).lay (idx := idx_main_v37) (val_main_v37_apply (F := Ideal) x2) fun _ => rfl
theorem r38 : Re (s := S4096x1024) (val_main_v38 (F := Ideal) x0 x1 x2 x3 x4 x5) (fun i => A.dxh (i 0).val (i 1).val) := (r33 R).mul (r37 R)
theorem r40 : Re (s := S4096) (val_main_v40 (F := Ideal) x0 x1 x2 x3 x4 x5) (fun i => ∑ k ∈ range 1024, A.X (i 0).val k * A.dxh (i 0).val k) :=
  ((rX R).mul (r38 R)).sum (idx := idx_main_v40) (val_main_v40_apply x0 x1 x2 x3 x4 x5) AttK.lit0 fun i k => rfl
theorem r41 : Re (s := S4096x1) (val_main_v41 (F := Ideal) x0 x1 x2 x3 x4 x5) (fun i => ∑ k ∈ range 1024, A.X (i 0).val k * A.dxh (i 0).val k) :=
  (r40 R).lay (idx := idx_main_v41) (val_main_v41_apply (F := Ideal) x0 x1 x2 x3 x4 x5) fun i => by
    have h1 : (i 1).val < 1 := (i 1).isLt
    show ∑ k ∈ range 1024, A.X ((i 0).val * 1 + (i 1).val) k * A.dxh ((i 0).val * 1 + (i 1).val) k = _
    rw [show (i 0).val * 1 + (i 1).val = (i 0).val by omega]
theorem r42 : Re (s := S4096x1024) (val_main_v42 (F := Ideal) x1) (fun i => A.rr (i 0).val) :=
  (r14 R).lay (idx := idx_main_v42) (val_main_v42_apply (F := Ideal) x1) fun _ => rfl
omit R in
theorem r45 : Re (s := S4096x1) (val_main_v45 (F := Ideal)) (fun _ => 1024) := fun _ => Ffn.lit1024

end

/-- The gradient of the mean square, of a row. -/
def Arr.dms (A : Arr) (i : ℕ) : ℝ :=
  (∑ k ∈ range 1024, A.X i k * A.dxh i k) * (-(1 / 2) * (A.rr i * (1 / A.arg i))) * (1 / 1024)

/-- Differentiating the reciprocal root gives the normalisation's gradient. -/
theorem Arr.dx_eq (A : Arr) (i l : ℕ) : A.C i l + (A.dxh i l * A.rr i + A.X i l * A.dms i + A.dms i * A.X i l) = A.dx i l := by
  have e : ∑ k ∈ range 1024, A.dxh i k * A.xh i k = (∑ k ∈ range 1024, A.X i k * A.dxh i k) * A.rr i := by
    rw [Finset.sum_mul]
    refine Finset.sum_congr rfl fun k _ => ?_
    unfold Arr.xh; ring
  unfold Arr.dx Arr.dms
  rw [e, A.rr_sq]
  unfold Arr.xh
  ring

section
include R

theorem r46 : Re (s := S4096x1) (val_main_v46 (F := Ideal) x0 x1 x2 x3 x4 x5) (fun i => A.dms (i 0).val) :=
  ((r41 R).mul (r17 R)).div r45 (fun _ => by norm_num)
theorem r47 : Re (s := S4096) (val_main_v47 (F := Ideal) x0 x1 x2 x3 x4 x5) (fun i => A.dms (i 0).val) :=
  ((r46 R).sum (idx := idx_main_v47) (val_main_v47_apply x0 x1 x2 x3 x4 x5) AttK.lit0 (G := fun i _ => A.dms (i 0).val) fun i k => rfl).to
    fun i => Finset.sum_range_one _
theorem r48 : Re (s := S4096x1024) (val_main_v48 (F := Ideal) x0 x1 x2 x3 x4 x5) (fun i => A.dms (i 0).val) :=
  (r47 R).lay (idx := idx_main_v48) (val_main_v48_apply (F := Ideal) x0 x1 x2 x3 x4 x5) fun _ => rfl
theorem r53 : Re (s := S4096x1024) (val_main_v53 (F := Ideal) x0 x1 x2 x3 x4 x5) (fun i => A.dx (i 0).val (i 1).val) :=
  ((r0 R).add ((((r38 R).mul (r42 R)).add ((rX R).mul (r48 R))).add ((r48 R).mul (rX R)))).to fun _ => A.dx_eq _ _
theorem r55 : Re (s := S4096x1024) (val_main_v55 (F := Ideal) x0 x1 x2 x3 x4 x5 x6) (fun i => A.dcat (i 0).val (i 1).val) :=
  (r53 R).dot (r6 R) (lidx := lidx_main_v55) (ridx := ridx_main_v55) (val_main_v55_apply x0 x1 x2 x3 x4 x5 x6) fun i k => rfl

theorem r56 : Re (s := S4096x2816) (val_main_v56 (F := Ideal) x0 x1 x2 x3 x4 x5) (fun i => A.dgate (i 0).val (i 1).val) := r30 R
theorem r57 : Re (s := S4096x2816) (val_main_v57 (F := Ideal) x0 x1 x2 x3 x5) (fun i => A.dup (i 0).val (i 1).val) := r28 R
theorem r58 : Re (s := S4096x1024) (val_main_v58 (F := Ideal) x0 x1 x2 x3 x4 x5) (fun i => A.dx (i 0).val (i 1).val) := r53 R
theorem r59 : Re (s := S4096x1024) (val_main_v59 (F := Ideal) x0 x1 x2 x3 x4 x5 x6) (fun i => A.dcat (i 0).val (i 1).val) := r55 R

end

end FfnB
-- ==== Proof.FfnFinite.lean ====
/-
  What the second precondition gives: every entry of the seven arguments is a real number.
-/
module

public import proofs.«01_k».proof.Pre_finite2
public import proofs.«01_k».proof.Proof.Finite
public import proofs.«01_k».proof.Proof.FfnRef

@[expose] public section

noncomputable section

namespace FfnP

open Idealize.ShloMosaic hiding ix0 ix1 ix2 ix3 ix4 ix5
open Idealize.ShloMosaic.ValueIdx Cert.Pre_finite2

instance : Subsingleton S_.Idx := ⟨fun _ _ => funext fun a => a.elim0⟩

variable [Facts]

theorem entry {s : Shape} (x : FVec Ideal s .f32) (hb : S_.BroadcastsInDim s (![] : Fin 0 → Fin s.rank)) {axes : List (Fin s.rank)} (hr : s.ReducesTo axes S_)
    (j : S_.Idx) (h : Host.reduce IntOp.andi (cmpf .olt (Host.absf x) (broadcastInDim s ![] hb (constant S_ .f32 0x7F800000#32))) (constantI S_ 1 1#1) hr Facts.h_S_ j = 1#1)
    (i : s.Idx) : x i = (((x i : EReal).toReal : ℝ) : EReal) := by
  have e := Host.reduce_andi_all _ _ _ _ j h i
  refine AttP.real_of_lt (x i) ?_
  rw [← AttP.litInf]
  exact e

variable {x0 : FVec Ideal S4096x1024 .bf16} {x1 : FVec Ideal S4096x1024 .f32} {x2 : FVec Ideal S1x1024 .f32}
  {x3 x4 x5 : FVec Ideal S2816x1024 .bf16} {x6 : FVec Ideal S1024x1024 .bf16}

/-- The array's entries are real numbers. -/
def Reals {s : Shape} (x : s.Idx → EReal) : Prop := ∀ i, x i = ((x i).toReal : EReal)

theorem split (h : fn (F := Ideal) x0 x1 x2 x3 x4 x5 x6 = fun _ => 1#1) :
    Reals x0 ∧ Reals x1 ∧ Reals x2 ∧ Reals x3 ∧ Reals x4 ∧ Reals x5 ∧ Reals x6 := by
  have e := congrFun h (fun a => a.elim0)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨entry (extf .f32 x0 Facts.bitsLt_bf16_f32) _ _ _ e0, entry x1 _ _ _ e1, entry x2 _ _ _ e2, entry (extf .f32 x3 Facts.bitsLt_bf16_f32) _ _ _ e3,
    entry (extf .f32 x4 Facts.bitsLt_bf16_f32) _ _ _ e4, entry (extf .f32 x5 Facts.bitsLt_bf16_f32) _ _ _ e5, entry (extf .f32 x6 Facts.bitsLt_bf16_f32) _ _ _ e6⟩

/-- The real numbers that a matrix holds, and zero outside of it. -/
def real {a b : ℕ} (x : (AttK.M a b).Idx → EReal) (i l : ℕ) : ℝ :=
  if h : i < a ∧ l < b then (x (ix2 (⟨i, h.1⟩ : Fin a) (⟨l, h.2⟩ : Fin b))).toReal else 0

theorem real_is {a b : ℕ} {x : (AttK.M a b).Idx → EReal} (h : Reals x) : Ffn.Is x (real x) := fun i l => by
  unfold real; rw [dif_pos ⟨i.isLt, l.isLt⟩]; exact h _

/-- The real numbers that the arguments hold. -/
def arr (x0 : FVec Ideal S4096x1024 .bf16) (x1 : FVec Ideal S4096x1024 .f32) (x2 : FVec Ideal S1x1024 .f32)
    (x3 x4 x5 : FVec Ideal S2816x1024 .bf16) (x6 : FVec Ideal S1024x1024 .bf16) : FfnB.Arr where
  C := real x0
  X := real x1
  g := real x2 0
  wg := real x3
  wu := real x4
  wd := real x5
  wo := real x6

theorem reads (h : fn (F := Ideal) x0 x1 x2 x3 x4 x5 x6 = fun _ => 1#1) : FfnB.Reads (arr x0 x1 x2 x3 x4 x5 x6) x0 x1 x2 x3 x4 x5 x6 := by
  obtain ⟨h0, h1, h2, h3, h4, h5, h6⟩ := split h
  exact ⟨real_is h0, real_is h1, fun l => real_is h2 0 l, real_is h3, real_is h4, real_is h5, real_is h6⟩

end FfnP
-- ==== Proof.CaseA.lean ====
/-
  What the runs of the body leave in the scratch arrays, in the case A of its branches: the windows' steps, one after the other.
-/
module

public import proofs.«01_k».proof.Proof.Gen.KernelIdeal.Frame
public import proofs.«01_k».proof.Proof.Window

@[expose] public section

set_option maxRecDepth 16384

noncomputable section

namespace AttK.CaseA

open Idealize.ShloMosaic Cert.KernelIdeal Cert.KernelIdeal.Gen AttK kernelRun0_A.sl

variable {F : FTy → Type} [FloatOps F]
variable (c : Dev nD) (i : grid0.Coords)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .bf16) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S2x256x768 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S2x256x768 .f32) (harg12 : arg12.IsWhole)
  (arg13 : Memref sig .tc .vmem S1x128 .f32) (harg13 : arg13.IsWhole)
  (arg14 : Memref sig .tc .vmem S1x128 .f32) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S2048x128 .f32) (harg19 : arg19.IsWhole)
  (x0 : Vec F S2048x128 .bf16) (x1 : Vec F S2048x128 .bf16) (x2 : Vec F S2048x128 .bf16) (x3 : Vec F S2048x128 .bf16) (x4 : Vec F S1x128 .f32) (x5 : Vec F S1x128 .f32) (x6 : Vec F S2x256x768 .f32)

/-- The normalised queries, scaled. -/
theorem qs : View.canon (HS0_1 c arg2 harg2 arg6 harg6 x0 x4) =
    qsOf x0 x4 := by
  simp only [HS0_1, r_6, r, r_1, r_2, r_3, View.canon_cons, readCov_rd, readAt_whole, rd_2048', rd_1', over_2048']
  rfl

/-- The normalised keys. -/
theorem kn : View.canon (HS1_1 c arg3 harg3 arg7 harg7 x1 x5) =
    knOf x1 x5 := by
  simp only [HS1_1, r_7, r_8, r_9, cst_25, View.canon_cons, readCov_rd, readAt_whole, rd_2048', rd_1', over_2048']
  rfl

/-- The keys' gradient starts from zero. -/
theorem dk_0 : View.canon (HS3_1 (F := F)) =
    zero2048 := by
  simp only [HS3_1, View.canon_cons, readCov_rd, readAt_whole, over_2048']
  rfl

/-- The values' gradient starts from zero. -/
theorem dv_0 : View.canon (HS4_1 (F := F)) =
    zero2048 := by
  simp only [HS4_1, View.canon_cons, readCov_rd, readAt_whole, over_2048']
  rfl

/-- Window 0 adds to the keys' gradient. -/
theorem dk_1 : View.canon (HS3_2 c arg2 harg2 arg3 harg3 arg4 harg4 arg5 harg5 arg6 harg6 arg7 harg7 arg8 harg8 arg15 arg16 arg18 x0 x1 x2 x3 x4 x5 x6) =
    stepK (inp x0 x1 x2 x3 x4 x5 x6) win0 (View.canon (HS3_1 (F := F))) := by
  simp only [HS3_2, v109, r_17, r_16, r_12, v111, r_13, r_20, v221, View.canon_cons, readCov_rd, readAt_whole, qs, kn]
  rfl

/-- Window 0 adds to the values' gradient. -/
theorem dv_1 : View.canon (HS4_2 c arg2 harg2 arg3 harg3 arg5 harg5 arg6 harg6 arg7 harg7 arg8 harg8 arg15 arg16 arg19 x0 x1 x3 x4 x5 x6) =
    stepV (inp x0 x1 x2 x3 x4 x5 x6) win0 (View.canon (HS4_1 (F := F))) := by
  simp only [HS4_2, r_12, r_18, r_14, v109, v111, r_19, v226, View.canon_cons, readCov_rd, readAt_whole, qs, kn]
  rfl

/-- Window 0 adds to the bias of head 0. -/
theorem db_1 : View.canon (H10_2 c arg2 harg2 arg3 harg3 arg4 harg4 arg5 harg5 arg6 harg6 arg7 harg7 arg8 harg8 arg12 arg15 arg16 x0 x1 x2 x3 x4 x5 x6) =
    stepB0 (inp x0 x1 x2 x3 x4 x5 x6) win0 (View.canon (H10_1 (F := F))) := by
  simp only [H10_2, v109, r_12, v111, r_13, v146, View.canon_cons, readCov_rd, readAt_whole, qs, kn]
  rfl

/-- Window 0 adds to the bias of head 1. -/
theorem db_2 : View.canon (H10_3 c arg2 harg2 arg3 harg3 arg4 harg4 arg5 harg5 arg6 harg6 arg7 harg7 arg8 harg8 arg12 arg15 arg16 x0 x1 x2 x3 x4 x5 x6) =
    stepB1 (inp x0 x1 x2 x3 x4 x5 x6) win0 (View.canon (H10_2 c arg2 harg2 arg3 harg3 arg4 harg4 arg5 harg5 arg6 harg6 arg7 harg7 arg8 harg8 arg12 arg15 arg16 x0 x1 x2 x3 x4 x5 x6)) := by
  simp only [H10_3, r_21, v109, r_12, v111, r_13, v196, View.canon_cons, readCov_rd, readAt_whole, qs, kn]
  rfl

/-- Window 1 adds to the keys' gradient. -/
theorem dk_2 : View.canon (HS3_3 c arg2 harg2 arg3 harg3 arg4 harg4 arg5 harg5 arg6 harg6 arg7 harg7 arg8 harg8 arg15 arg16 arg18 x0 x1 x2 x3 x4 x5 x6) =
    stepK (inp x0 x1 x2 x3 x4 x5 x6) win1 (View.canon (HS3_2 c arg2 harg2 arg3 harg3 arg4 harg4 arg5 harg5 arg6 harg6 arg7 harg7 arg8 harg8 arg15 arg16 arg18 x0 x1 x2 x3 x4 x5 x6)) := by
  simp only [HS3_3, v231, r_27, r_25, r_22, v233, r_23, r_30, v343, View.canon_cons, readCov_rd, readAt_whole, qs, kn]
  rfl

/-- Window 1 adds to the values' gradient. -/
theorem dv_2 : View.canon (HS4_3 c arg2 harg2 arg3 harg3 arg5 harg5 arg6 harg6 arg7 harg7 arg8 harg8 arg15 arg16 arg19 x0 x1 x3 x4 x5 x6) =
    stepV (inp x0 x1 x2 x3 x4 x5 x6) win1 (View.canon (HS4_2 c arg2 harg2 arg3 harg3 arg5 harg5 arg6 harg6 arg7 harg7 arg8 harg8 arg15 arg16 arg19 x0 x1 x3 x4 x5 x6)) := by
  simp only [HS4_3, r_22, r_28, r_24, v231, v233, r_29, v348, View.canon_cons, readCov_rd, readAt_whole, qs, kn]
  rfl

/-- Window 1 adds to the bias of head 0. -/
theorem db_3 : View.canon (H10_4 c arg2 harg2 arg3 harg3 arg4 harg4 arg5 harg5 arg6 harg6 arg7 harg7 arg8 harg8 arg12 arg15 arg16 x0 x1 x2 x3 x4 x5 x6) =
    stepB0 (inp x0 x1 x2 x3 x4 x5 x6) win1 (View.canon (H10_3 c arg2 harg2 arg3 harg3 arg4 harg4 arg5 harg5 arg6 harg6 arg7 harg7 arg8 harg8 arg12 arg15 arg16 x0 x1 x2 x3 x4 x5 x6)) := by
  simp only [H10_4, v231, r_22, v233, r_23, v268, View.canon_cons, readCov_rd, readAt_whole, qs, kn]
  rfl

/-- Window 1 adds to the bias of head 1. -/
theorem db_4 : View.canon (H10_5 c arg2 harg2 arg3 harg3 arg4 harg4 arg5 harg5 arg6 harg6 arg7 harg7 arg8 harg8 arg12 arg15 arg16 x0 x1 x2 x3 x4 x5 x6) =
    stepB1 (inp x0 x1 x2 x3 x4 x5 x6) win1 (View.canon (H10_4 c arg2 harg2 arg3 harg3 arg4 harg4 arg5 harg5 arg6 harg6 arg7 harg7 arg8 harg8 arg12 arg15 arg16 x0 x1 x2 x3 x4 x5 x6)) := by
  simp only [H10_5, r_30, v231, r_22, v233, r_23, v318, View.canon_cons, readCov_rd, readAt_whole, qs, kn]
  rfl

/-- Window 2 adds to the keys' gradient. -/
theorem dk_3 : View.canon (HS3_4 c arg2 harg2 arg3 harg3 arg4 harg4 arg5 harg5 arg6 harg6 arg7 harg7 arg8 harg8 arg15 arg16 arg18 x0 x1 x2 x3 x4 x5 x6) =
    stepK (inp x0 x1 x2 x3 x4 x5 x6) win2 (View.canon (HS3_3 c arg2 harg2 arg3 harg3 arg4 harg4 arg5 harg5 arg6 harg6 arg7 harg7 arg8 harg8 arg15 arg16 arg18 x0 x1 x2 x3 x4 x5 x6)) := by
  simp only [HS3_4, v, r_36, r_34, v355, r_38, r_39, r_31, r_32, v465, View.canon_cons, readCov_rd, readAt_whole, qs, kn]
  rfl

/-- Window 2 adds to the values' gradient. -/
theorem dv_3 : View.canon (HS4_4 c arg2 harg2 arg3 harg3 arg5 harg5 arg6 harg6 arg7 harg7 arg8 harg8 arg15 arg16 arg19 x0 x1 x3 x4 x5 x6) =
    stepV (inp x0 x1 x2 x3 x4 x5 x6) win2 (View.canon (HS4_3 c arg2 harg2 arg3 harg3 arg5 harg5 arg6 harg6 arg7 harg7 arg8 harg8 arg15 arg16 arg19 x0 x1 x3 x4 x5 x6)) := by
  simp only [HS4_4, r_40, r_31, r_37, r_33, v, v355, r_38, v470, View.canon_cons, readCov_rd, readAt_whole, qs, kn]
  rfl

/-- Window 2 adds to the bias of head 0. -/
theorem db_5 : View.canon (H10_6 c arg2 harg2 arg3 harg3 arg4 harg4 arg5 harg5 arg6 harg6 arg7 harg7 arg8 harg8 arg12 arg15 arg16 x0 x1 x2 x3 x4 x5 x6) =
    stepB0 (inp x0 x1 x2 x3 x4 x5 x6) win2 (View.canon (H10_5 c arg2 harg2 arg3 harg3 arg4 harg4 arg5 harg5 arg6 harg6 arg7 harg7 arg8 harg8 arg12 arg15 arg16 x0 x1 x2 x3 x4 x5 x6)) := by
  simp only [H10_6, r_34, v, v355, v390, View.canon_cons, readCov_rd, readAt_whole, qs, kn]
  rfl

/-- Window 2 adds to the bias of head 1. -/
theorem db_6 : View.canon (H10_7 c arg2 harg2 arg3 harg3 arg4 harg4 arg5 harg5 arg6 harg6 arg7 harg7 arg8 harg8 arg12 arg15 arg16 x0 x1 x2 x3 x4 x5 x6) =
    stepB1 (inp x0 x1 x2 x3 x4 x5 x6) win2 (View.canon (H10_6 c arg2 harg2 arg3 harg3 arg4 harg4 arg5 harg5 arg6 harg6 arg7 harg7 arg8 harg8 arg12 arg15 arg16 x0 x1 x2 x3 x4 x5 x6)) := by
  simp only [H10_7, r_38, v, v355, r_39, r_31, r_32, v440, View.canon_cons, readCov_rd, readAt_whole, qs, kn]
  rfl

/-- Window 3 adds to the keys' gradient. -/
theorem dk_4 : View.canon (HS3_5 c arg2 harg2 arg3 harg3 arg4 harg4 arg5 harg5 arg6 harg6 arg7 harg7 arg8 harg8 arg15 arg16 arg18 x0 x1 x2 x3 x4 x5 x6) =
    stepK (inp x0 x1 x2 x3 x4 x5 x6) win3 (View.canon (HS3_4 c arg2 harg2 arg3 harg3 arg4 harg4 arg5 harg5 arg6 harg6 arg7 harg7 arg8 harg8 arg15 arg16 arg18 x0 x1 x2 x3 x4 x5 x6)) := by
  simp only [HS3_5, r_52, v475, r_42, r_47, r_43, v477, r_44, r_45, r_49, r_41, r_50, v587, View.canon_cons, readCov_rd, readAt_whole, qs, kn]
  rfl

/-- Window 3 adds to the values' gradient. -/
theorem dv_4 : View.canon (HS4_5 c arg2 harg2 arg3 harg3 arg5 harg5 arg6 harg6 arg7 harg7 arg8 harg8 arg15 arg16 arg19 x0 x1 x3 x4 x5 x6) =
    stepV (inp x0 x1 x2 x3 x4 x5 x6) win3 (View.canon (HS4_4 c arg2 harg2 arg3 harg3 arg5 harg5 arg6 harg6 arg7 harg7 arg8 harg8 arg15 arg16 arg19 x0 x1 x3 x4 x5 x6)) := by
  simp only [HS4_5, r_51, r_41, r_48, r_43, v475, v477, r_50, v592, View.canon_cons, readCov_rd, readAt_whole, qs, kn]
  rfl

/-- Window 3 adds to the bias of head 0. -/
theorem db_7 : View.canon (H10_8 c arg2 harg2 arg3 harg3 arg4 harg4 arg5 harg5 arg6 harg6 arg7 harg7 arg8 harg8 arg12 arg15 arg16 x0 x1 x2 x3 x4 x5 x6) =
    stepB0 (inp x0 x1 x2 x3 x4 x5 x6) win3 (View.canon (H10_7 c arg2 harg2 arg3 harg3 arg4 harg4 arg5 harg5 arg6 harg6 arg7 harg7 arg8 harg8 arg12 arg15 arg16 x0 x1 x2 x3 x4 x5 x6)) := by
  simp only [H10_8, r_43, v475, v477, r_44, r_45, v512, View.canon_cons, readCov_rd, readAt_whole, qs, kn]
  rfl

/-- Window 3 adds to the bias of head 1. -/
theorem db_8 : View.canon (H10_9 c arg2 harg2 arg3 harg3 arg4 harg4 arg5 harg5 arg6 harg6 arg7 harg7 arg8 harg8 arg12 arg15 arg16 x0 x1 x2 x3 x4 x5 x6) =
    stepB1 (inp x0 x1 x2 x3 x4 x5 x6) win3 (View.canon (H10_8 c arg2 harg2 arg3 harg3 arg4 harg4 arg5 harg5 arg6 harg6 arg7 harg7 arg8 harg8 arg12 arg15 arg16 x0 x1 x2 x3 x4 x5 x6)) := by
  simp only [H10_9, r_42, r_49, r_41, r_50, v475, v477, v562, View.canon_cons, readCov_rd, readAt_whole, qs, kn]
  rfl

/-- Window 4 adds to the keys' gradient. -/
theorem dk_5 : View.canon (HS3_6 c arg2 harg2 arg3 harg3 arg4 harg4 arg5 harg5 arg6 harg6 arg7 harg7 arg8 harg8 arg15 arg16 arg18 x0 x1 x2 x3 x4 x5 x6) =
    stepK (inp x0 x1 x2 x3 x4 x5 x6) win4 (View.canon (HS3_5 c arg2 harg2 arg3 harg3 arg4 harg4 arg5 harg5 arg6 harg6 arg7 harg7 arg8 harg8 arg15 arg16 arg18 x0 x1 x2 x3 x4 x5 x6)) := by
  simp only [HS3_6, r_64, v597, r_54, r_59, r_55, r_56, v599, r_57, r_61, r_53, r_62, r_63, v709, View.canon_cons, readCov_rd, readAt_whole, qs, kn]
  rfl

/-- Window 4 adds to the values' gradient. -/
theorem dv_5 : View.canon (HS4_6 c arg2 harg2 arg3 harg3 arg5 harg5 arg6 harg6 arg7 harg7 arg8 harg8 arg15 arg16 arg19 x0 x1 x3 x4 x5 x6) =
    stepV (inp x0 x1 x2 x3 x4 x5 x6) win4 (View.canon (HS4_5 c arg2 harg2 arg3 harg3 arg5 harg5 arg6 harg6 arg7 harg7 arg8 harg8 arg15 arg16 arg19 x0 x1 x3 x4 x5 x6)) := by
  simp only [HS4_6, r_65, r_53, r_60, r_56, v597, v599, r_57, r_62, r_63, v714, View.canon_cons, readCov_rd, readAt_whole, qs, kn]
  rfl

/-- Window 4 adds to the bias of head 0. -/
theorem db_9 : View.canon (H10_10 c arg2 harg2 arg3 harg3 arg4 harg4 arg5 harg5 arg6 harg6 arg7 harg7 arg8 harg8 arg12 arg15 arg16 x0 x1 x2 x3 x4 x5 x6) =
    stepB0 (inp x0 x1 x2 x3 x4 x5 x6) win4 (View.canon (H10_9 c arg2 harg2 arg3 harg3 arg4 harg4 arg5 harg5 arg6 harg6 arg7 harg7 arg8 harg8 arg12 arg15 arg16 x0 x1 x2 x3 x4 x5 x6)) := by
  simp only [H10_10, r_54, r_55, r_56, v597, v599, r_57, v634, View.canon_cons, readCov_rd, readAt_whole, qs, kn]
  rfl

/-- Window 4 adds to the bias of head 1. -/
theorem db_10 : View.canon (H10_11 c arg2 harg2 arg3 harg3 arg4 harg4 arg5 harg5 arg6 harg6 arg7 harg7 arg8 harg8 arg12 arg15 arg16 x0 x1 x2 x3 x4 x5 x6) =
    stepB1 (inp x0 x1 x2 x3 x4 x5 x6) win4 (View.canon (H10_10 c arg2 harg2 arg3 harg3 arg4 harg4 arg5 harg5 arg6 harg6 arg7 harg7 arg8 harg8 arg12 arg15 arg16 x0 x1 x2 x3 x4 x5 x6)) := by
  simp only [H10_11, r_54, r_61, r_53, r_62, v597, v599, r_63, v684, View.canon_cons, readCov_rd, readAt_whole, qs, kn]
  rfl

/-- Window 5 adds to the keys' gradient. -/
theorem dk_6 : View.canon (HS3_7 c arg2 harg2 arg3 harg3 arg4 harg4 arg5 harg5 arg6 harg6 arg7 harg7 arg8 harg8 arg15 arg16 arg18 x0 x1 x2 x3 x4 x5 x6) =
    stepK (inp x0 x1 x2 x3 x4 x5 x6) win5 (View.canon (HS3_6 c arg2 harg2 arg3 harg3 arg4 harg4 arg5 harg5 arg6 harg6 arg7 harg7 arg8 harg8 arg15 arg16 arg18 x0 x1 x2 x3 x4 x5 x6)) := by
  simp only [HS3_7, r_76, v719, r_67, v721, r_68, r_72, r_69, r_70, r_74, v831, View.canon_cons, readCov_rd, readAt_whole, qs, kn]
  rfl

/-- Window 5 adds to the values' gradient. -/
theorem dv_6 : View.canon (HS4_7 c arg2 harg2 arg3 harg3 arg5 harg5 arg6 harg6 arg7 harg7 arg8 harg8 arg15 arg16 arg19 x0 x1 x3 x4 x5 x6) =
    stepV (inp x0 x1 x2 x3 x4 x5 x6) win5 (View.canon (HS4_6 c arg2 harg2 arg3 harg3 arg5 harg5 arg6 harg6 arg7 harg7 arg8 harg8 arg15 arg16 arg19 x0 x1 x3 x4 x5 x6)) := by
  simp only [HS4_7, r_67, r_73, r_70, v719, v721, r_77, r_74, cst_391, v836, View.canon_cons, readCov_rd, readAt_whole, qs, kn]
  rfl

/-- Window 5 adds to the bias of head 0. -/
theorem db_11 : View.canon (H10_12 c arg2 harg2 arg3 harg3 arg4 harg4 arg5 harg5 arg6 harg6 arg7 harg7 arg8 harg8 arg12 arg15 arg16 x0 x1 x2 x3 x4 x5 x6) =
    stepB0 (inp x0 x1 x2 x3 x4 x5 x6) win5 (View.canon (H10_11 c arg2 harg2 arg3 harg3 arg4 harg4 arg5 harg5 arg6 harg6 arg7 harg7 arg8 harg8 arg12 arg15 arg16 x0 x1 x2 x3 x4 x5 x6)) := by
  simp only [H10_12, r_68, r_69, r_70, v719, v721, v756, View.canon_cons, readCov_rd, readAt_whole, qs, kn]
  rfl

/-- Window 5 adds to the bias of head 1. -/
theorem db_12 : View.canon (H10_13 c arg2 harg2 arg3 harg3 arg4 harg4 arg5 harg5 arg6 harg6 arg7 harg7 arg8 harg8 arg12 arg15 arg16 x0 x1 x2 x3 x4 x5 x6) =
    stepB1 (inp x0 x1 x2 x3 x4 x5 x6) win5 (View.canon (H10_12 c arg2 harg2 arg3 harg3 arg4 harg4 arg5 harg5 arg6 harg6 arg7 harg7 arg8 harg8 arg12 arg15 arg16 x0 x1 x2 x3 x4 x5 x6)) := by
  simp only [H10_13, r_67, v721, r_68, r_74, v719, v806, View.canon_cons, readCov_rd, readAt_whole, qs, kn]
  rfl

/-- Window 6 adds to the keys' gradient. -/
theorem dk_7 : View.canon (HS3_8 c arg2 harg2 arg3 harg3 arg4 harg4 arg5 harg5 arg6 harg6 arg7 harg7 arg8 harg8 arg15 arg16 arg18 x0 x1 x2 x3 x4 x5 x6) =
    stepK (inp x0 x1 x2 x3 x4 x5 x6) win6 (View.canon (HS3_7 c arg2 harg2 arg3 harg3 arg4 harg4 arg5 harg5 arg6 harg6 arg7 harg7 arg8 harg8 arg15 arg16 arg18 x0 x1 x2 x3 x4 x5 x6)) := by
  simp only [HS3_8, v841, r_82, r_78, v843, r_79, r_80, r_86, v953, View.canon_cons, readCov_rd, readAt_whole, qs, kn]
  rfl

/-- Window 6 adds to the values' gradient. -/
theorem dv_7 : View.canon (HS4_8 c arg2 harg2 arg3 harg3 arg5 harg5 arg6 harg6 arg7 harg7 arg8 harg8 arg15 arg16 arg19 x0 x1 x3 x4 x5 x6) =
    stepV (inp x0 x1 x2 x3 x4 x5 x6) win6 (View.canon (HS4_7 c arg2 harg2 arg3 harg3 arg5 harg5 arg6 harg6 arg7 harg7 arg8 harg8 arg15 arg16 arg19 x0 x1 x3 x4 x5 x6)) := by
  simp only [HS4_8, r_78, r_84, r_83, v843, r_80, v841, r_85, v958, View.canon_cons, readCov_rd, readAt_whole, qs, kn]
  rfl

/-- Window 6 adds to the bias of head 0. -/
theorem db_13 : View.canon (H10_14 c arg2 harg2 arg3 harg3 arg4 harg4 arg5 harg5 arg6 harg6 arg7 harg7 arg8 harg8 arg12 arg15 arg16 x0 x1 x2 x3 x4 x5 x6) =
    stepB0 (inp x0 x1 x2 x3 x4 x5 x6) win6 (View.canon (H10_13 c arg2 harg2 arg3 harg3 arg4 harg4 arg5 harg5 arg6 harg6 arg7 harg7 arg8 harg8 arg12 arg15 arg16 x0 x1 x2 x3 x4 x5 x6)) := by
  simp only [H10_14, r_78, v843, r_79, r_80, v841, v878, View.canon_cons, readCov_rd, readAt_whole, qs, kn]
  rfl

/-- Window 6 adds to the bias of head 1. -/
theorem db_14 : View.canon (H10_15 c arg2 harg2 arg3 harg3 arg4 harg4 arg5 harg5 arg6 harg6 arg7 harg7 arg8 harg8 arg12 arg15 arg16 x0 x1 x2 x3 x4 x5 x6) =
    stepB1 (inp x0 x1 x2 x3 x4 x5 x6) win6 (View.canon (H10_14 c arg2 harg2 arg3 harg3 arg4 harg4 arg5 harg5 arg6 harg6 arg7 harg7 arg8 harg8 arg12 arg15 arg16 x0 x1 x2 x3 x4 x5 x6)) := by
  simp only [H10_15, v841, r_78, v843, r_79, v928, View.canon_cons, readCov_rd, readAt_whole, qs, kn]
  rfl

/-- Window 7 adds to the keys' gradient. -/
theorem dk_8 : View.canon (HS3_9 c arg2 harg2 arg3 harg3 arg4 harg4 arg5 harg5 arg6 harg6 arg7 harg7 arg8 harg8 arg15 arg16 arg18 x0 x1 x2 x3 x4 x5 x6) =
    stepK (inp x0 x1 x2 x3 x4 x5 x6) win7 (View.canon (HS3_8 c arg2 harg2 arg3 harg3 arg4 harg4 arg5 harg5 arg6 harg6 arg7 harg7 arg8 harg8 arg15 arg16 arg18 x0 x1 x2 x3 x4 x5 x6)) := by
  simp only [HS3_9, v963, r_93, r_91, r_88, v965, r_89, r_96, v1075, View.canon_cons, readCov_rd, readAt_whole, qs, kn]
  rfl

/-- Window 7 adds to the values' gradient. -/
theorem dv_8 : View.canon (HS4_9 c arg2 harg2 arg3 harg3 arg5 harg5 arg6 harg6 arg7 harg7 arg8 harg8 arg15 arg16 arg19 x0 x1 x3 x4 x5 x6) =
    stepV (inp x0 x1 x2 x3 x4 x5 x6) win7 (View.canon (HS4_8 c arg2 harg2 arg3 harg3 arg5 harg5 arg6 harg6 arg7 harg7 arg8 harg8 arg15 arg16 arg19 x0 x1 x3 x4 x5 x6)) := by
  simp only [HS4_9, r_88, r_94, r_90, v963, v965, r_95, v1080, View.canon_cons, readCov_rd, readAt_whole, qs, kn]
  rfl

/-- Window 7 adds to the bias of head 0. -/
theorem db_15 : View.canon (H10_16 c arg2 harg2 arg3 harg3 arg4 harg4 arg5 harg5 arg6 harg6 arg7 harg7 arg8 harg8 arg12 arg15 arg16 x0 x1 x2 x3 x4 x5 x6) =
    stepB0 (inp x0 x1 x2 x3 x4 x5 x6) win7 (View.canon (H10_15 c arg2 harg2 arg3 harg3 arg4 harg4 arg5 harg5 arg6 harg6 arg7 harg7 arg8 harg8 arg12 arg15 arg16 x0 x1 x2 x3 x4 x5 x6)) := by
  simp only [H10_16, v963, r_88, v965, r_89, v1000, View.canon_cons, readCov_rd, readAt_whole, qs, kn]
  rfl

/-- The bias starts from zero. -/
theorem db_0 : View.canon (H10_1 (F := F)) =
    zeroB := by
  simp only [H10_1, View.canon_cons, readCov_rd, readAt_whole, over_block']
  rfl

/-- The queries' gradient. -/
theorem dq : View.canon (HS2_8 c arg2 harg2 arg3 harg3 arg4 harg4 arg5 harg5 arg6 harg6 arg7 harg7 arg8 harg8 arg15 arg16 x0 x1 x2 x3 x4 x5 x6) =
    allQ (inp x0 x1 x2 x3 x4 x5 x6) wins unset := by
  simp only [HS2_8, v965, r_92, v963, r_88, r_89, r_96, r_81, r_78, v843, r_79, r_80, v841, r_87, r_75, r_67, v721, r_68, r_71, r_69, r_70, v719, r_74, r_66, v599, r_54, r_58, r_55, r_56, v597, r_57, r_61, r_53, r_62, r_63, v477, r_42, r_46, r_43, v475, r_44, r_45, r_49, r_41, r_50, v355, r_35, r_34, v, r_38, r_39, r_31, r_32, v233, r_26, r_25, v231, r_22, r_23, r_30, v111, r_15, v109, r_12, r_13, r_20, View.canon_cons, readCov_rd, readAt_whole, qs, kn]
  rfl

/-- The keys' gradient after all windows. -/
theorem dk_all : View.canon (HS3_9 c arg2 harg2 arg3 harg3 arg4 harg4 arg5 harg5 arg6 harg6 arg7 harg7 arg8 harg8 arg15 arg16 arg18 x0 x1 x2 x3 x4 x5 x6) =
    allK (inp x0 x1 x2 x3 x4 x5 x6) wins zero2048 := by
  rw [dk_8, dk_7, dk_6, dk_5, dk_4, dk_3, dk_2, dk_1, dk_0]; rfl

/-- The values' gradient after all windows. -/
theorem dv_all : View.canon (HS4_9 c arg2 harg2 arg3 harg3 arg5 harg5 arg6 harg6 arg7 harg7 arg8 harg8 arg15 arg16 arg19 x0 x1 x3 x4 x5 x6) =
    allV (inp x0 x1 x2 x3 x4 x5 x6) wins zero2048 := by
  rw [dv_8 (x2 := x2), dv_7 (x2 := x2), dv_6 (x2 := x2), dv_5 (x2 := x2), dv_4 (x2 := x2), dv_3 (x2 := x2), dv_2 (x2 := x2), dv_1 (x2 := x2), dv_0]; rfl

/-- What the case leaves of the queries' gradient. -/
theorem out7 (hc0 : cond0_0 i) (hc1 : cond0_1 i) : out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 =
    outQ (inp x0 x1 x2 x3 x4 x5 x6) x0 x4 unset := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).1 = [⟨Rect.unit ![0, 0] S2048x128.size inb_S2048x128_S2048x128_0_0, k0_pay205 (r_101 c arg2 harg2 arg3 harg3 arg4 harg4 arg5 harg5 arg6 harg6 arg7 harg7 arg8 harg8 arg15 arg16 arg17 x0 x1 x2 x3 x4 x5 x6)⟩] := rfl
  unfold out0_A_7
  rw [View.read_writes_junk_eq_canon, e]
  simp only [r_101, r_4, r_2, r_3, r_5, r, v1085, r_98, View.canon_cons, readCov_rd, readAt_whole, rd_2048', rd_1', over_2048', over_1, qs, kn, dq, dk_all, dv_all (x2 := x2)]
  rfl

/-- What the case leaves of the keys' gradient. -/
theorem out8 (hc0 : cond0_0 i) (hc1 : cond0_1 i) : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 =
    outK (inp x0 x1 x2 x3 x4 x5 x6) x1 x5 := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.1 = [⟨Rect.unit ![0, 0] S2048x128.size inb_S2048x128_S2048x128_0_0, k0_pay206 k0_pay1 k0_pay2 (r_10 c arg3 harg3 x1) (r_11 c arg3 harg3 x1) (r_103 c arg2 harg2 arg3 harg3 arg4 harg4 arg5 harg5 arg6 harg6 arg7 harg7 arg8 harg8 arg15 arg16 arg18 x0 x1 x2 x3 x4 x5 x6) (r_104 c arg2 harg2 arg3 harg3 arg4 harg4 arg5 harg5 arg6 harg6 arg7 harg7 arg8 harg8 arg15 arg16 arg18 x0 x1 x2 x3 x4 x5 x6) k0_pay203 (r_105 c arg2 harg2 arg3 harg3 arg4 harg4 arg5 harg5 arg6 harg6 arg7 harg7 arg8 harg8 arg15 arg16 arg18 x0 x1 x2 x3 x4 x5 x6)⟩] := rfl
  unfold out0_A_8
  rw [View.read_writes_junk_eq_canon, e]
  simp only [r_10, r_9, cst_25, r_11, r_7, r_103, v1122, r_104, r_105, View.canon_cons, readCov_rd, readAt_whole, rd_2048', rd_1', over_2048', over_1, qs, kn, dq, dk_all, dv_all (x2 := x2)]
  rfl

/-- What the case leaves of the values' gradient. -/
theorem out9 (hc0 : cond0_0 i) (hc1 : cond0_1 i) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 =
    outV (inp x0 x1 x2 x3 x4 x5 x6) := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.1 = [⟨Rect.unit ![0, 0] S2048x128.size inb_S2048x128_S2048x128_0_0, k0_pay207 (v1163 c arg2 harg2 arg3 harg3 arg5 harg5 arg6 harg6 arg7 harg7 arg8 harg8 arg15 arg16 arg19 x0 x1 x3 x4 x5 x6)⟩] := rfl
  unfold out0_A_9
  rw [View.read_writes_junk_eq_canon, e]
  simp only [v1163, View.canon_cons, readCov_rd, readAt_whole, rd_2048', rd_1', over_2048', over_1, qs, kn, dq, dk_all, dv_all (x2 := x2)]
  rfl

/-- What the case leaves of the query gain's gradient. -/
theorem out11 (hc0 : cond0_0 i) (hc1 : cond0_1 i) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 =
    outGq (inp x0 x1 x2 x3 x4 x5 x6) x0 unset zeroG := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.1 = ⟨Rect.unit ![0, 0] S1x128.size inb_S1x128_S1x128_0_0, k0_pay208 (r_100 c arg2 harg2 arg3 harg3 arg4 harg4 arg5 harg5 arg6 harg6 arg7 harg7 arg8 harg8 arg15 arg16 arg17 x0 x1 x2 x3 x4 x5 x6) (v1166 c arg13)⟩ :: H11_1 := rfl
  unfold out0_A_11
  rw [View.read_writes_junk_eq_canon, e]
  simp only [r_100, r_99, r_5, r, r_2, r_3, v1085, v1166, H11_1, View.canon_cons, readCov_rd, readAt_whole, rd_2048', rd_1', over_2048', over_1, qs, kn, dq, dk_all, dv_all (x2 := x2)]
  rfl

/-- What the case leaves of the key gain's gradient. -/
theorem out12 (hc0 : cond0_0 i) (hc1 : cond0_1 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 =
    outGk (inp x0 x1 x2 x3 x4 x5 x6) x1 zeroG := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.1 = ⟨Rect.unit ![0, 0] S1x128.size inb_S1x128_S1x128_0_0, r_106 c arg2 harg2 arg3 harg3 arg4 harg4 arg5 harg5 arg6 harg6 arg7 harg7 arg8 harg8 arg14 arg15 arg16 arg18 x0 x1 x2 x3 x4 x5 x6⟩ :: H12_1 := rfl
  unfold out0_A_12
  rw [View.read_writes_junk_eq_canon, e]
  simp only [r_106, r_102, r_11, r_7, r_9, cst_25, v1122, v1170, H12_1, View.canon_cons, readCov_rd, readAt_whole, rd_2048', rd_1', over_2048', over_1, qs, kn, dq, dk_all, dv_all (x2 := x2)]
  rfl

/-- What the case leaves of the bias gradient. -/
theorem out10 (hc0 : cond0_0 i) (hc1 : cond0_1 i) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 =
    allB (inp x0 x1 x2 x3 x4 x5 x6) wins zeroB := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.1 = ⟨Rect.unit ![1, 0, 0] S1x256x768.size inb_S2x256x768_S1x256x768_1_0_0, k0_pay191 (r_97 c arg2 harg2 arg3 harg3 arg4 harg4 arg5 harg5 arg6 harg6 arg7 harg7 arg8 harg8 arg12 arg15 arg16 x0 x1 x2 x3 x4 x5 x6)⟩ :: H10_16 c arg2 harg2 arg3 harg3 arg4 harg4 arg5 harg5 arg6 harg6 arg7 harg7 arg8 harg8 arg12 arg15 arg16 x0 x1 x2 x3 x4 x5 x6 := rfl
  unfold out0_A_10
  rw [View.read_writes_junk_eq_canon, e]
  refine Eq.trans (b := stepB1 (inp x0 x1 x2 x3 x4 x5 x6) win7 (View.canon (H10_16 c arg2 harg2 arg3 harg3 arg4 harg4 arg5 harg5 arg6 harg6 arg7 harg7 arg8 harg8 arg12 arg15 arg16 x0 x1 x2 x3 x4 x5 x6))) (by simp only [r_97, v963, r_88, v965, r_89, v1050, View.canon_cons, readCov_rd, readAt_whole, qs, kn]; rfl) ?_
  rw [db_15, db_14, db_13, db_12, db_11, db_10, db_9, db_8, db_7, db_6, db_5, db_4, db_3, db_2, db_1, db_0]; rfl

end AttK.CaseA
-- ==== Proof.CaseB.lean ====
/-
  What the runs of the body leave in the scratch arrays, in the case B of its branches: the windows' steps, one after the other.
-/
module

public import proofs.«01_k».proof.Proof.Gen.KernelIdeal.Frame
public import proofs.«01_k».proof.Proof.Window

@[expose] public section

set_option maxRecDepth 16384

noncomputable section

namespace AttK.CaseB

open Idealize.ShloMosaic Cert.KernelIdeal Cert.KernelIdeal.Gen AttK kernelRun0_B.sl

variable {F : FTy → Type} [FloatOps F]
variable (c : Dev nD) (i : grid0.Coords)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .bf16) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S2x256x768 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S2x256x768 .f32) (harg12 : arg12.IsWhole)
  (arg13 : Memref sig .tc .vmem S1x128 .f32) (harg13 : arg13.IsWhole)
  (arg14 : Memref sig .tc .vmem S1x128 .f32) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S2048x128 .f32) (harg19 : arg19.IsWhole)
  (x0 : Vec F S2048x128 .bf16) (x1 : Vec F S2048x128 .bf16) (x2 : Vec F S2048x128 .bf16) (x3 : Vec F S2048x128 .bf16) (x4 : Vec F S1x128 .f32) (x5 : Vec F S1x128 .f32) (x6 : Vec F S2x256x768 .f32)
  (xo10 : Vec F S2x256x768 .f32)
  (xo11 : Vec F S1x128 .f32)
  (xo12 : Vec F S1x128 .f32)

/-- The normalised queries, scaled. -/
theorem qs : View.canon (HS0_1 c arg2 harg2 arg6 harg6 x0 x4) =
    qsOf x0 x4 := by
  simp only [HS0_1, r_6, r, r_1, r_2, r_3, View.canon_cons, readCov_rd, readAt_whole, rd_2048', rd_1', over_2048']
  rfl

/-- The normalised keys. -/
theorem kn : View.canon (HS1_1 c arg3 harg3 arg7 harg7 x1 x5) =
    knOf x1 x5 := by
  simp only [HS1_1, r_7, r_8, r_9, cst_25, View.canon_cons, readCov_rd, readAt_whole, rd_2048', rd_1', over_2048']
  rfl

/-- The keys' gradient starts from zero. -/
theorem dk_0 : View.canon (HS3_1 (F := F)) =
    zero2048 := by
  simp only [HS3_1, View.canon_cons, readCov_rd, readAt_whole, over_2048']
  rfl

/-- The values' gradient starts from zero. -/
theorem dv_0 : View.canon (HS4_1 (F := F)) =
    zero2048 := by
  simp only [HS4_1, View.canon_cons, readCov_rd, readAt_whole, over_2048']
  rfl

/-- Window 0 adds to the keys' gradient. -/
theorem dk_1 : View.canon (HS3_2 c arg2 harg2 arg3 harg3 arg4 harg4 arg5 harg5 arg6 harg6 arg7 harg7 arg8 harg8 arg15 arg16 arg18 x0 x1 x2 x3 x4 x5 x6) =
    stepK (inp x0 x1 x2 x3 x4 x5 x6) win0 (View.canon (HS3_1 (F := F))) := by
  simp only [HS3_2, v109, r_17, r_16, r_12, v111, r_13, r_20, v221, View.canon_cons, readCov_rd, readAt_whole, qs, kn]
  rfl

/-- Window 0 adds to the values' gradient. -/
theorem dv_1 : View.canon (HS4_2 c arg2 harg2 arg3 harg3 arg5 harg5 arg6 harg6 arg7 harg7 arg8 harg8 arg15 arg16 arg19 x0 x1 x3 x4 x5 x6) =
    stepV (inp x0 x1 x2 x3 x4 x5 x6) win0 (View.canon (HS4_1 (F := F))) := by
  simp only [HS4_2, r_12, r_18, r_14, v109, v111, r_19, v226, View.canon_cons, readCov_rd, readAt_whole, qs, kn]
  rfl

/-- Window 1 adds to the keys' gradient. -/
theorem dk_2 : View.canon (HS3_3 c arg2 harg2 arg3 harg3 arg4 harg4 arg5 harg5 arg6 harg6 arg7 harg7 arg8 harg8 arg15 arg16 arg18 x0 x1 x2 x3 x4 x5 x6) =
    stepK (inp x0 x1 x2 x3 x4 x5 x6) win1 (View.canon (HS3_2 c arg2 harg2 arg3 harg3 arg4 harg4 arg5 harg5 arg6 harg6 arg7 harg7 arg8 harg8 arg15 arg16 arg18 x0 x1 x2 x3 x4 x5 x6)) := by
  simp only [HS3_3, v231, r_27, r_25, r_22, v233, r_23, r_30, v343, View.canon_cons, readCov_rd, readAt_whole, qs, kn]
  rfl

/-- Window 1 adds to the values' gradient. -/
theorem dv_2 : View.canon (HS4_3 c arg2 harg2 arg3 harg3 arg5 harg5 arg6 harg6 arg7 harg7 arg8 harg8 arg15 arg16 arg19 x0 x1 x3 x4 x5 x6) =
    stepV (inp x0 x1 x2 x3 x4 x5 x6) win1 (View.canon (HS4_2 c arg2 harg2 arg3 harg3 arg5 harg5 arg6 harg6 arg7 harg7 arg8 harg8 arg15 arg16 arg19 x0 x1 x3 x4 x5 x6)) := by
  simp only [HS4_3, r_22, r_28, r_24, v231, v233, r_29, v348, View.canon_cons, readCov_rd, readAt_whole, qs, kn]
  rfl

/-- Window 2 adds to the keys' gradient. -/
theorem dk_3 : View.canon (HS3_4 c arg2 harg2 arg3 harg3 arg4 harg4 arg5 harg5 arg6 harg6 arg7 harg7 arg8 harg8 arg15 arg16 arg18 x0 x1 x2 x3 x4 x5 x6) =
    stepK (inp x0 x1 x2 x3 x4 x5 x6) win2 (View.canon (HS3_3 c arg2 harg2 arg3 harg3 arg4 harg4 arg5 harg5 arg6 harg6 arg7 harg7 arg8 harg8 arg15 arg16 arg18 x0 x1 x2 x3 x4 x5 x6)) := by
  simp only [HS3_4, v, r_36, r_34, v355, r_38, r_39, r_31, r_32, v465, View.canon_cons, readCov_rd, readAt_whole, qs, kn]
  rfl

/-- Window 2 adds to the values' gradient. -/
theorem dv_3 : View.canon (HS4_4 c arg2 harg2 arg3 harg3 arg5 harg5 arg6 harg6 arg7 harg7 arg8 harg8 arg15 arg16 arg19 x0 x1 x3 x4 x5 x6) =
    stepV (inp x0 x1 x2 x3 x4 x5 x6) win2 (View.canon (HS4_3 c arg2 harg2 arg3 harg3 arg5 harg5 arg6 harg6 arg7 harg7 arg8 harg8 arg15 arg16 arg19 x0 x1 x3 x4 x5 x6)) := by
  simp only [HS4_4, r_40, r_31, r_37, r_33, v, v355, r_38, v470, View.canon_cons, readCov_rd, readAt_whole, qs, kn]
  rfl

/-- Window 3 adds to the keys' gradient. -/
theorem dk_4 : View.canon (HS3_5 c arg2 harg2 arg3 harg3 arg4 harg4 arg5 harg5 arg6 harg6 arg7 harg7 arg8 harg8 arg15 arg16 arg18 x0 x1 x2 x3 x4 x5 x6) =
    stepK (inp x0 x1 x2 x3 x4 x5 x6) win3 (View.canon (HS3_4 c arg2 harg2 arg3 harg3 arg4 harg4 arg5 harg5 arg6 harg6 arg7 harg7 arg8 harg8 arg15 arg16 arg18 x0 x1 x2 x3 x4 x5 x6)) := by
  simp only [HS3_5, r_52, v475, r_42, r_47, r_43, v477, r_44, r_45, r_49, r_41, r_50, v587, View.canon_cons, readCov_rd, readAt_whole, qs, kn]
  rfl

/-- Window 3 adds to the values' gradient. -/
theorem dv_4 : View.canon (HS4_5 c arg2 harg2 arg3 harg3 arg5 harg5 arg6 harg6 arg7 harg7 arg8 harg8 arg15 arg16 arg19 x0 x1 x3 x4 x5 x6) =
    stepV (inp x0 x1 x2 x3 x4 x5 x6) win3 (View.canon (HS4_4 c arg2 harg2 arg3 harg3 arg5 harg5 arg6 harg6 arg7 harg7 arg8 harg8 arg15 arg16 arg19 x0 x1 x3 x4 x5 x6)) := by
  simp only [HS4_5, r_51, r_41, r_48, r_43, v475, v477, r_50, v592, View.canon_cons, readCov_rd, readAt_whole, qs, kn]
  rfl

/-- Window 4 adds to the keys' gradient. -/
theorem dk_5 : View.canon (HS3_6 c arg2 harg2 arg3 harg3 arg4 harg4 arg5 harg5 arg6 harg6 arg7 harg7 arg8 harg8 arg15 arg16 arg18 x0 x1 x2 x3 x4 x5 x6) =
    stepK (inp x0 x1 x2 x3 x4 x5 x6) win4 (View.canon (HS3_5 c arg2 harg2 arg3 harg3 arg4 harg4 arg5 harg5 arg6 harg6 arg7 harg7 arg8 harg8 arg15 arg16 arg18 x0 x1 x2 x3 x4 x5 x6)) := by
  simp only [HS3_6, r_64, v597, r_54, r_59, r_55, r_56, v599, r_57, r_61, r_53, r_62, r_63, v709, View.canon_cons, readCov_rd, readAt_whole, qs, kn]
  rfl

/-- Window 4 adds to the values' gradient. -/
theorem dv_5 : View.canon (HS4_6 c arg2 harg2 arg3 harg3 arg5 harg5 arg6 harg6 arg7 harg7 arg8 harg8 arg15 arg16 arg19 x0 x1 x3 x4 x5 x6) =
    stepV (inp x0 x1 x2 x3 x4 x5 x6) win4 (View.canon (HS4_5 c arg2 harg2 arg3 harg3 arg5 harg5 arg6 harg6 arg7 harg7 arg8 harg8 arg15 arg16 arg19 x0 x1 x3 x4 x5 x6)) := by
  simp only [HS4_6, r_65, r_53, r_60, r_56, v597, v599, r_57, r_62, r_63, v714, View.canon_cons, readCov_rd, readAt_whole, qs, kn]
  rfl

/-- Window 5 adds to the keys' gradient. -/
theorem dk_6 : View.canon (HS3_7 c arg2 harg2 arg3 harg3 arg4 harg4 arg5 harg5 arg6 harg6 arg7 harg7 arg8 harg8 arg15 arg16 arg18 x0 x1 x2 x3 x4 x5 x6) =
    stepK (inp x0 x1 x2 x3 x4 x5 x6) win5 (View.canon (HS3_6 c arg2 harg2 arg3 harg3 arg4 harg4 arg5 harg5 arg6 harg6 arg7 harg7 arg8 harg8 arg15 arg16 arg18 x0 x1 x2 x3 x4 x5 x6)) := by
  simp only [HS3_7, r_76, v719, r_67, v721, r_68, r_72, r_69, r_70, r_74, v831, View.canon_cons, readCov_rd, readAt_whole, qs, kn]
  rfl

/-- Window 5 adds to the values' gradient. -/
theorem dv_6 : View.canon (HS4_7 c arg2 harg2 arg3 harg3 arg5 harg5 arg6 harg6 arg7 harg7 arg8 harg8 arg15 arg16 arg19 x0 x1 x3 x4 x5 x6) =
    stepV (inp x0 x1 x2 x3 x4 x5 x6) win5 (View.canon (HS4_6 c arg2 harg2 arg3 harg3 arg5 harg5 arg6 harg6 arg7 harg7 arg8 harg8 arg15 arg16 arg19 x0 x1 x3 x4 x5 x6)) := by
  simp only [HS4_7, r_67, r_73, r_70, v719, v721, r_77, r_74, cst_391, v836, View.canon_cons, readCov_rd, readAt_whole, qs, kn]
  rfl

/-- Window 6 adds to the keys' gradient. -/
theorem dk_7 : View.canon (HS3_8 c arg2 harg2 arg3 harg3 arg4 harg4 arg5 harg5 arg6 harg6 arg7 harg7 arg8 harg8 arg15 arg16 arg18 x0 x1 x2 x3 x4 x5 x6) =
    stepK (inp x0 x1 x2 x3 x4 x5 x6) win6 (View.canon (HS3_7 c arg2 harg2 arg3 harg3 arg4 harg4 arg5 harg5 arg6 harg6 arg7 harg7 arg8 harg8 arg15 arg16 arg18 x0 x1 x2 x3 x4 x5 x6)) := by
  simp only [HS3_8, v841, r_82, r_78, v843, r_79, r_80, r_86, v953, View.canon_cons, readCov_rd, readAt_whole, qs, kn]
  rfl

/-- Window 6 adds to the values' gradient. -/
theorem dv_7 : View.canon (HS4_8 c arg2 harg2 arg3 harg3 arg5 harg5 arg6 harg6 arg7 harg7 arg8 harg8 arg15 arg16 arg19 x0 x1 x3 x4 x5 x6) =
    stepV (inp x0 x1 x2 x3 x4 x5 x6) win6 (View.canon (HS4_7 c arg2 harg2 arg3 harg3 arg5 harg5 arg6 harg6 arg7 harg7 arg8 harg8 arg15 arg16 arg19 x0 x1 x3 x4 x5 x6)) := by
  simp only [HS4_8, r_78, r_84, r_83, v843, r_80, v841, r_85, v958, View.canon_cons, readCov_rd, readAt_whole, qs, kn]
  rfl

/-- Window 7 adds to the keys' gradient. -/
theorem dk_8 : View.canon (HS3_9 c arg2 harg2 arg3 harg3 arg4 harg4 arg5 harg5 arg6 harg6 arg7 harg7 arg8 harg8 arg15 arg16 arg18 x0 x1 x2 x3 x4 x5 x6) =
    stepK (inp x0 x1 x2 x3 x4 x5 x6) win7 (View.canon (HS3_8 c arg2 harg2 arg3 harg3 arg4 harg4 arg5 harg5 arg6 harg6 arg7 harg7 arg8 harg8 arg15 arg16 arg18 x0 x1 x2 x3 x4 x5 x6)) := by
  simp only [HS3_9, v963, r_93, r_91, r_88, v965, r_89, r_96, v1075, View.canon_cons, readCov_rd, readAt_whole, qs, kn]
  rfl

/-- Window 7 adds to the values' gradient. -/
theorem dv_8 : View.canon (HS4_9 c arg2 harg2 arg3 harg3 arg5 harg5 arg6 harg6 arg7 harg7 arg8 harg8 arg15 arg16 arg19 x0 x1 x3 x4 x5 x6) =
    stepV (inp x0 x1 x2 x3 x4 x5 x6) win7 (View.canon (HS4_8 c arg2 harg2 arg3 harg3 arg5 harg5 arg6 harg6 arg7 harg7 arg8 harg8 arg15 arg16 arg19 x0 x1 x3 x4 x5 x6)) := by
  simp only [HS4_9, r_88, r_94, r_90, v963, v965, r_95, v1080, View.canon_cons, readCov_rd, readAt_whole, qs, kn]
  rfl

/-- The queries' gradient. -/
theorem dq : View.canon (HS2_8 c arg2 harg2 arg3 harg3 arg4 harg4 arg5 harg5 arg6 harg6 arg7 harg7 arg8 harg8 arg15 arg16 x0 x1 x2 x3 x4 x5 x6) =
    allQ (inp x0 x1 x2 x3 x4 x5 x6) wins unset := by
  simp only [HS2_8, v965, r_92, v963, r_88, r_89, r_96, r_81, r_78, v843, r_79, r_80, v841, r_87, r_75, r_67, v721, r_68, r_71, r_69, r_70, v719, r_74, r_66, v599, r_54, r_58, r_55, r_56, v597, r_57, r_61, r_53, r_62, r_63, v477, r_42, r_46, r_43, v475, r_44, r_45, r_49, r_41, r_50, v355, r_35, r_34, v, r_38, r_39, r_31, r_32, v233, r_26, r_25, v231, r_22, r_23, r_30, v111, r_15, v109, r_12, r_13, r_20, View.canon_cons, readCov_rd, readAt_whole, qs, kn]
  rfl

/-- The keys' gradient after all windows. -/
theorem dk_all : View.canon (HS3_9 c arg2 harg2 arg3 harg3 arg4 harg4 arg5 harg5 arg6 harg6 arg7 harg7 arg8 harg8 arg15 arg16 arg18 x0 x1 x2 x3 x4 x5 x6) =
    allK (inp x0 x1 x2 x3 x4 x5 x6) wins zero2048 := by
  rw [dk_8, dk_7, dk_6, dk_5, dk_4, dk_3, dk_2, dk_1, dk_0]; rfl

/-- The values' gradient after all windows. -/
theorem dv_all : View.canon (HS4_9 c arg2 harg2 arg3 harg3 arg5 harg5 arg6 harg6 arg7 harg7 arg8 harg8 arg15 arg16 arg19 x0 x1 x3 x4 x5 x6) =
    allV (inp x0 x1 x2 x3 x4 x5 x6) wins zero2048 := by
  rw [dv_8 (x2 := x2), dv_7 (x2 := x2), dv_6 (x2 := x2), dv_5 (x2 := x2), dv_4 (x2 := x2), dv_3 (x2 := x2), dv_2 (x2 := x2), dv_1 (x2 := x2), dv_0]; rfl

/-- Window 0 adds to the bias. -/
theorem db_2 : over xo10 (H10_2 c arg2 harg2 arg3 harg3 arg4 harg4 arg5 harg5 arg6 harg6 arg7 harg7 arg8 harg8 arg12 harg12 arg15 arg16 x0 x1 x2 x3 x4 x5 x6 xo10) =
    stepB1 (inp x0 x1 x2 x3 x4 x5 x6) win0 (stepB0 (inp x0 x1 x2 x3 x4 x5 x6) win0 xo10) := by
  simp only [H10_2, r_21, v109, r_12, v111, r_13, v196, View.canon_cons, readCov_rd, readAt_whole, over_cons, over_nil, readAt_over, qs, kn]
  rw [stepB1_stepB0]; rfl

/-- Window 1 adds to the bias of head 0. -/
theorem db_3 : over xo10 (H10_3 c arg2 harg2 arg3 harg3 arg4 harg4 arg5 harg5 arg6 harg6 arg7 harg7 arg8 harg8 arg12 harg12 arg15 arg16 x0 x1 x2 x3 x4 x5 x6 xo10) =
    stepB0 (inp x0 x1 x2 x3 x4 x5 x6) win1 (over xo10 (H10_2 c arg2 harg2 arg3 harg3 arg4 harg4 arg5 harg5 arg6 harg6 arg7 harg7 arg8 harg8 arg12 harg12 arg15 arg16 x0 x1 x2 x3 x4 x5 x6 xo10)) := by
  simp only [H10_3, v231, r_22, v233, r_23, v268, View.canon_cons, readCov_rd, readAt_whole, over_cons, readAt_over, qs, kn]
  rfl

/-- Window 1 adds to the bias of head 1. -/
theorem db_4 : over xo10 (H10_4 c arg2 harg2 arg3 harg3 arg4 harg4 arg5 harg5 arg6 harg6 arg7 harg7 arg8 harg8 arg12 harg12 arg15 arg16 x0 x1 x2 x3 x4 x5 x6 xo10) =
    stepB1 (inp x0 x1 x2 x3 x4 x5 x6) win1 (over xo10 (H10_3 c arg2 harg2 arg3 harg3 arg4 harg4 arg5 harg5 arg6 harg6 arg7 harg7 arg8 harg8 arg12 harg12 arg15 arg16 x0 x1 x2 x3 x4 x5 x6 xo10)) := by
  simp only [H10_4, r_30, v231, r_22, v233, r_23, v318, View.canon_cons, readCov_rd, readAt_whole, over_cons, readAt_over, qs, kn]
  rfl

/-- Window 2 adds to the bias of head 0. -/
theorem db_5 : over xo10 (H10_5 c arg2 harg2 arg3 harg3 arg4 harg4 arg5 harg5 arg6 harg6 arg7 harg7 arg8 harg8 arg12 harg12 arg15 arg16 x0 x1 x2 x3 x4 x5 x6 xo10) =
    stepB0 (inp x0 x1 x2 x3 x4 x5 x6) win2 (over xo10 (H10_4 c arg2 harg2 arg3 harg3 arg4 harg4 arg5 harg5 arg6 harg6 arg7 harg7 arg8 harg8 arg12 harg12 arg15 arg16 x0 x1 x2 x3 x4 x5 x6 xo10)) := by
  simp only [H10_5, r_34, v, v355, v390, View.canon_cons, readCov_rd, readAt_whole, over_cons, readAt_over, qs, kn]
  rfl

/-- Window 2 adds to the bias of head 1. -/
theorem db_6 : over xo10 (H10_6 c arg2 harg2 arg3 harg3 arg4 harg4 arg5 harg5 arg6 harg6 arg7 harg7 arg8 harg8 arg12 harg12 arg15 arg16 x0 x1 x2 x3 x4 x5 x6 xo10) =
    stepB1 (inp x0 x1 x2 x3 x4 x5 x6) win2 (over xo10 (H10_5 c arg2 harg2 arg3 harg3 arg4 harg4 arg5 harg5 arg6 harg6 arg7 harg7 arg8 harg8 arg12 harg12 arg15 arg16 x0 x1 x2 x3 x4 x5 x6 xo10)) := by
  simp only [H10_6, r_38, v, v355, r_39, r_31, r_32, v440, View.canon_cons, readCov_rd, readAt_whole, over_cons, readAt_over, qs, kn]
  rfl

/-- Both heads are whole after window 2. -/
theorem db_all : View.canon (H10_6 c arg2 harg2 arg3 harg3 arg4 harg4 arg5 harg5 arg6 harg6 arg7 harg7 arg8 harg8 arg12 harg12 arg15 arg16 x0 x1 x2 x3 x4 x5 x6 xo10) =
    over xo10 (H10_6 c arg2 harg2 arg3 harg3 arg4 harg4 arg5 harg5 arg6 harg6 arg7 harg7 arg8 harg8 arg12 harg12 arg15 arg16 x0 x1 x2 x3 x4 x5 x6 xo10) := by
  exact funext fun y => canon_over xo10 _ y (heads_cover _ _ _ _ _ y)

/-- Window 3 adds to the bias of head 0. -/
theorem db_7 : View.canon (H10_7 c arg2 harg2 arg3 harg3 arg4 harg4 arg5 harg5 arg6 harg6 arg7 harg7 arg8 harg8 arg12 harg12 arg15 arg16 x0 x1 x2 x3 x4 x5 x6 xo10) =
    stepB0 (inp x0 x1 x2 x3 x4 x5 x6) win3 (View.canon (H10_6 c arg2 harg2 arg3 harg3 arg4 harg4 arg5 harg5 arg6 harg6 arg7 harg7 arg8 harg8 arg12 harg12 arg15 arg16 x0 x1 x2 x3 x4 x5 x6 xo10)) := by
  simp only [H10_7, r_43, v475, v477, r_44, r_45, v512, View.canon_cons, readCov_rd, readAt_whole, qs, kn]
  rfl

/-- Window 3 adds to the bias of head 1. -/
theorem db_8 : View.canon (H10_8 c arg2 harg2 arg3 harg3 arg4 harg4 arg5 harg5 arg6 harg6 arg7 harg7 arg8 harg8 arg12 harg12 arg15 arg16 x0 x1 x2 x3 x4 x5 x6 xo10) =
    stepB1 (inp x0 x1 x2 x3 x4 x5 x6) win3 (View.canon (H10_7 c arg2 harg2 arg3 harg3 arg4 harg4 arg5 harg5 arg6 harg6 arg7 harg7 arg8 harg8 arg12 harg12 arg15 arg16 x0 x1 x2 x3 x4 x5 x6 xo10)) := by
  simp only [H10_8, r_42, r_49, r_41, r_50, v475, v477, v562, View.canon_cons, readCov_rd, readAt_whole, qs, kn]
  rfl

/-- Window 4 adds to the bias of head 0. -/
theorem db_9 : View.canon (H10_9 c arg2 harg2 arg3 harg3 arg4 harg4 arg5 harg5 arg6 harg6 arg7 harg7 arg8 harg8 arg12 harg12 arg15 arg16 x0 x1 x2 x3 x4 x5 x6 xo10) =
    stepB0 (inp x0 x1 x2 x3 x4 x5 x6) win4 (View.canon (H10_8 c arg2 harg2 arg3 harg3 arg4 harg4 arg5 harg5 arg6 harg6 arg7 harg7 arg8 harg8 arg12 harg12 arg15 arg16 x0 x1 x2 x3 x4 x5 x6 xo10)) := by
  simp only [H10_9, r_54, r_55, r_56, v597, v599, r_57, v634, View.canon_cons, readCov_rd, readAt_whole, qs, kn]
  rfl

/-- Window 4 adds to the bias of head 1. -/
theorem db_10 : View.canon (H10_10 c arg2 harg2 arg3 harg3 arg4 harg4 arg5 harg5 arg6 harg6 arg7 harg7 arg8 harg8 arg12 harg12 arg15 arg16 x0 x1 x2 x3 x4 x5 x6 xo10) =
    stepB1 (inp x0 x1 x2 x3 x4 x5 x6) win4 (View.canon (H10_9 c arg2 harg2 arg3 harg3 arg4 harg4 arg5 harg5 arg6 harg6 arg7 harg7 arg8 harg8 arg12 harg12 arg15 arg16 x0 x1 x2 x3 x4 x5 x6 xo10)) := by
  simp only [H10_10, r_54, r_61, r_53, r_62, v597, v599, r_63, v684, View.canon_cons, readCov_rd, readAt_whole, qs, kn]
  rfl

/-- Window 5 adds to the bias of head 0. -/
theorem db_11 : View.canon (H10_11 c arg2 harg2 arg3 harg3 arg4 harg4 arg5 harg5 arg6 harg6 arg7 harg7 arg8 harg8 arg12 harg12 arg15 arg16 x0 x1 x2 x3 x4 x5 x6 xo10) =
    stepB0 (inp x0 x1 x2 x3 x4 x5 x6) win5 (View.canon (H10_10 c arg2 harg2 arg3 harg3 arg4 harg4 arg5 harg5 arg6 harg6 arg7 harg7 arg8 harg8 arg12 harg12 arg15 arg16 x0 x1 x2 x3 x4 x5 x6 xo10)) := by
  simp only [H10_11, r_68, r_69, r_70, v719, v721, v756, View.canon_cons, readCov_rd, readAt_whole, qs, kn]
  rfl

/-- Window 5 adds to the bias of head 1. -/
theorem db_12 : View.canon (H10_12 c arg2 harg2 arg3 harg3 arg4 harg4 arg5 harg5 arg6 harg6 arg7 harg7 arg8 harg8 arg12 harg12 arg15 arg16 x0 x1 x2 x3 x4 x5 x6 xo10) =
    stepB1 (inp x0 x1 x2 x3 x4 x5 x6) win5 (View.canon (H10_11 c arg2 harg2 arg3 harg3 arg4 harg4 arg5 harg5 arg6 harg6 arg7 harg7 arg8 harg8 arg12 harg12 arg15 arg16 x0 x1 x2 x3 x4 x5 x6 xo10)) := by
  simp only [H10_12, r_67, v721, r_68, r_74, v719, v806, View.canon_cons, readCov_rd, readAt_whole, qs, kn]
  rfl

/-- Window 6 adds to the bias of head 0. -/
theorem db_13 : View.canon (H10_13 c arg2 harg2 arg3 harg3 arg4 harg4 arg5 harg5 arg6 harg6 arg7 harg7 arg8 harg8 arg12 harg12 arg15 arg16 x0 x1 x2 x3 x4 x5 x6 xo10) =
    stepB0 (inp x0 x1 x2 x3 x4 x5 x6) win6 (View.canon (H10_12 c arg2 harg2 arg3 harg3 arg4 harg4 arg5 harg5 arg6 harg6 arg7 harg7 arg8 harg8 arg12 harg12 arg15 arg16 x0 x1 x2 x3 x4 x5 x6 xo10)) := by
  simp only [H10_13, r_78, v843, r_79, r_80, v841, v878, View.canon_cons, readCov_rd, readAt_whole, qs, kn]
  rfl

/-- Window 6 adds to the bias of head 1. -/
theorem db_14 : View.canon (H10_14 c arg2 harg2 arg3 harg3 arg4 harg4 arg5 harg5 arg6 harg6 arg7 harg7 arg8 harg8 arg12 harg12 arg15 arg16 x0 x1 x2 x3 x4 x5 x6 xo10) =
    stepB1 (inp x0 x1 x2 x3 x4 x5 x6) win6 (View.canon (H10_13 c arg2 harg2 arg3 harg3 arg4 harg4 arg5 harg5 arg6 harg6 arg7 harg7 arg8 harg8 arg12 harg12 arg15 arg16 x0 x1 x2 x3 x4 x5 x6 xo10)) := by
  simp only [H10_14, v841, r_78, v843, r_79, v928, View.canon_cons, readCov_rd, readAt_whole, qs, kn]
  rfl

/-- Window 7 adds to the bias of head 0. -/
theorem db_15 : View.canon (H10_15 c arg2 harg2 arg3 harg3 arg4 harg4 arg5 harg5 arg6 harg6 arg7 harg7 arg8 harg8 arg12 harg12 arg15 arg16 x0 x1 x2 x3 x4 x5 x6 xo10) =
    stepB0 (inp x0 x1 x2 x3 x4 x5 x6) win7 (View.canon (H10_14 c arg2 harg2 arg3 harg3 arg4 harg4 arg5 harg5 arg6 harg6 arg7 harg7 arg8 harg8 arg12 harg12 arg15 arg16 x0 x1 x2 x3 x4 x5 x6 xo10)) := by
  simp only [H10_15, v963, r_88, v965, r_89, v1000, View.canon_cons, readCov_rd, readAt_whole, qs, kn]
  rfl

/-- What the case leaves of the queries' gradient. -/
theorem out7 (hc0 : ¬cond0_0 i) (hc1 : ¬cond0_1 i) : out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo10 xo11 xo12 =
    outQ (inp x0 x1 x2 x3 x4 x5 x6) x0 x4 unset := by
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo10 xo11 xo12).1 = [⟨Rect.unit ![0, 0] S2048x128.size inb_S2048x128_S2048x128_0_0, k0_pay205 (r_101 c arg2 harg2 arg3 harg3 arg4 harg4 arg5 harg5 arg6 harg6 arg7 harg7 arg8 harg8 arg15 arg16 arg17 x0 x1 x2 x3 x4 x5 x6)⟩] := rfl
  unfold out0_B_7
  rw [View.read_writes_junk_eq_canon, e]
  simp only [r_101, r_4, r_2, r_3, r_5, r, v1085, r_98, View.canon_cons, readCov_rd, readAt_whole, rd_2048', rd_1', over_2048', over_1, qs, kn, dq, dk_all, dv_all (x2 := x2)]
  rfl

/-- What the case leaves of the keys' gradient. -/
theorem out8 (hc0 : ¬cond0_0 i) (hc1 : ¬cond0_1 i) : out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo10 xo11 xo12 =
    outK (inp x0 x1 x2 x3 x4 x5 x6) x1 x5 := by
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo10 xo11 xo12).2.1 = [⟨Rect.unit ![0, 0] S2048x128.size inb_S2048x128_S2048x128_0_0, k0_pay206 k0_pay1 k0_pay2 (r_10 c arg3 harg3 x1) (r_11 c arg3 harg3 x1) (r_103 c arg2 harg2 arg3 harg3 arg4 harg4 arg5 harg5 arg6 harg6 arg7 harg7 arg8 harg8 arg15 arg16 arg18 x0 x1 x2 x3 x4 x5 x6) (r_104 c arg2 harg2 arg3 harg3 arg4 harg4 arg5 harg5 arg6 harg6 arg7 harg7 arg8 harg8 arg15 arg16 arg18 x0 x1 x2 x3 x4 x5 x6) k0_pay203 (r_105 c arg2 harg2 arg3 harg3 arg4 harg4 arg5 harg5 arg6 harg6 arg7 harg7 arg8 harg8 arg15 arg16 arg18 x0 x1 x2 x3 x4 x5 x6)⟩] := rfl
  unfold out0_B_8
  rw [View.read_writes_junk_eq_canon, e]
  simp only [r_10, r_9, cst_25, r_11, r_7, r_103, v1122, r_104, r_105, View.canon_cons, readCov_rd, readAt_whole, rd_2048', rd_1', over_2048', over_1, qs, kn, dq, dk_all, dv_all (x2 := x2)]
  rfl

/-- What the case leaves of the values' gradient. -/
theorem out9 (hc0 : ¬cond0_0 i) (hc1 : ¬cond0_1 i) : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo10 xo11 xo12 =
    outV (inp x0 x1 x2 x3 x4 x5 x6) := by
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo10 xo11 xo12).2.2.1 = [⟨Rect.unit ![0, 0] S2048x128.size inb_S2048x128_S2048x128_0_0, k0_pay207 (v1163 c arg2 harg2 arg3 harg3 arg5 harg5 arg6 harg6 arg7 harg7 arg8 harg8 arg15 arg16 arg19 x0 x1 x3 x4 x5 x6)⟩] := rfl
  unfold out0_B_9
  rw [View.read_writes_junk_eq_canon, e]
  simp only [v1163, View.canon_cons, readCov_rd, readAt_whole, rd_2048', rd_1', over_2048', over_1, qs, kn, dq, dk_all, dv_all (x2 := x2)]
  rfl

/-- What the case leaves of the query gain's gradient. -/
theorem out11 (hc0 : ¬cond0_0 i) (hc1 : ¬cond0_1 i) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo10 xo11 xo12 =
    outGq (inp x0 x1 x2 x3 x4 x5 x6) x0 unset xo11 := by
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo10 xo11 xo12).2.2.2.2.1 = ⟨Rect.unit ![0, 0] S1x128.size inb_S1x128_S1x128_0_0, k0_pay208 (r_100 c arg2 harg2 arg3 harg3 arg4 harg4 arg5 harg5 arg6 harg6 arg7 harg7 arg8 harg8 arg15 arg16 arg17 x0 x1 x2 x3 x4 x5 x6) (View.readAt (Elt F) arg13.view (Rect.unit ![0, 0] S1x128.size inb_S1x128_S1x128_0_0).toLoadRect (harg13.unread xo11))⟩ :: [] := rfl
  unfold out0_B_11
  rw [View.read_writes_junk_eq_canon, e]
  simp only [r_100, r_99, r_5, r, r_2, r_3, v1085, View.canon_cons, readCov_rd, readAt_whole, rd_2048', rd_1', over_2048', over_1, qs, kn, dq, dk_all, dv_all (x2 := x2)]
  rfl

/-- What the case leaves of the key gain's gradient. -/
theorem out12 (hc0 : ¬cond0_0 i) (hc1 : ¬cond0_1 i) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo10 xo11 xo12 =
    outGk (inp x0 x1 x2 x3 x4 x5 x6) x1 xo12 := by
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo10 xo11 xo12).2.2.2.2.2.1 = ⟨Rect.unit ![0, 0] S1x128.size inb_S1x128_S1x128_0_0, r_106 c arg2 harg2 arg3 harg3 arg4 harg4 arg5 harg5 arg6 harg6 arg7 harg7 arg8 harg8 arg14 harg14 arg15 arg16 arg18 x0 x1 x2 x3 x4 x5 x6 xo12⟩ :: [] := rfl
  unfold out0_B_12
  rw [View.read_writes_junk_eq_canon, e]
  simp only [r_106, r_102, r_11, r_7, r_9, cst_25, v1122, View.canon_cons, readCov_rd, readAt_whole, rd_2048', rd_1', over_2048', over_1, qs, kn, dq, dk_all, dv_all (x2 := x2)]
  rfl

/-- What the case leaves of the bias gradient. -/
theorem out10 (hc0 : ¬cond0_0 i) (hc1 : ¬cond0_1 i) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo10 xo11 xo12 =
    allB (inp x0 x1 x2 x3 x4 x5 x6) wins xo10 := by
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo10 xo11 xo12).2.2.2.1 = ⟨Rect.unit ![1, 0, 0] S1x256x768.size inb_S2x256x768_S1x256x768_1_0_0, k0_pay191 (r_97 c arg2 harg2 arg3 harg3 arg4 harg4 arg5 harg5 arg6 harg6 arg7 harg7 arg8 harg8 arg12 harg12 arg15 arg16 x0 x1 x2 x3 x4 x5 x6 xo10)⟩ :: H10_15 c arg2 harg2 arg3 harg3 arg4 harg4 arg5 harg5 arg6 harg6 arg7 harg7 arg8 harg8 arg12 harg12 arg15 arg16 x0 x1 x2 x3 x4 x5 x6 xo10 := rfl
  unfold out0_B_10
  rw [View.read_writes_junk_eq_canon, e]
  refine Eq.trans (b := stepB1 (inp x0 x1 x2 x3 x4 x5 x6) win7 (View.canon (H10_15 c arg2 harg2 arg3 harg3 arg4 harg4 arg5 harg5 arg6 harg6 arg7 harg7 arg8 harg8 arg12 harg12 arg15 arg16 x0 x1 x2 x3 x4 x5 x6 xo10))) (by simp only [r_97, v963, r_88, v965, r_89, v1050, View.canon_cons, readCov_rd, readAt_whole, qs, kn]; rfl) ?_
  rw [db_15, db_14, db_13, db_12, db_11, db_10, db_9, db_8, db_7, db_all, db_6, db_5, db_4, db_3, db_2]; rfl

end AttK.CaseB
-- ==== Proof.CaseC.lean ====
/-
  What the runs of the body leave in the scratch arrays, in the case C of its branches: the windows' steps, one after the other.
-/
module

public import proofs.«01_k».proof.Proof.Gen.KernelIdeal.Frame
public import proofs.«01_k».proof.Proof.Window

@[expose] public section

set_option maxRecDepth 16384

noncomputable section

namespace AttK.CaseC

open Idealize.ShloMosaic Cert.KernelIdeal Cert.KernelIdeal.Gen AttK kernelRun0_C.sl

variable {F : FTy → Type} [FloatOps F]
variable (c : Dev nD) (i : grid0.Coords)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .bf16) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S2x256x768 .f32) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S2x256x768 .f32) (harg12 : arg12.IsWhole)
  (arg13 : Memref sig .tc .vmem S1x128 .f32) (harg13 : arg13.IsWhole)
  (arg14 : Memref sig .tc .vmem S1x128 .f32) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S2048x128 .f32) (harg19 : arg19.IsWhole)
  (x0 : Vec F S2048x128 .bf16) (x1 : Vec F S2048x128 .bf16) (x2 : Vec F S2048x128 .bf16) (x3 : Vec F S2048x128 .bf16) (x4 : Vec F S1x128 .f32) (x5 : Vec F S1x128 .f32) (x6 : Vec F S2x256x768 .f32)
  (xo11 : Vec F S1x128 .f32)
  (xo12 : Vec F S1x128 .f32)

/-- The normalised queries, scaled. -/
theorem qs : View.canon (HS0_1 c arg2 harg2 arg6 harg6 x0 x4) =
    qsOf x0 x4 := by
  simp only [HS0_1, r_6, r, r_1, r_2, r_3, View.canon_cons, readCov_rd, readAt_whole, rd_2048', rd_1', over_2048']
  rfl

/-- The normalised keys. -/
theorem kn : View.canon (HS1_1 c arg3 harg3 arg7 harg7 x1 x5) =
    knOf x1 x5 := by
  simp only [HS1_1, r_7, r_8, r_9, cst_25, View.canon_cons, readCov_rd, readAt_whole, rd_2048', rd_1', over_2048']
  rfl

/-- The keys' gradient starts from zero. -/
theorem dk_0 : View.canon (HS3_1 (F := F)) =
    zero2048 := by
  simp only [HS3_1, View.canon_cons, readCov_rd, readAt_whole, over_2048']
  rfl

/-- The values' gradient starts from zero. -/
theorem dv_0 : View.canon (HS4_1 (F := F)) =
    zero2048 := by
  simp only [HS4_1, View.canon_cons, readCov_rd, readAt_whole, over_2048']
  rfl

/-- Window 0 adds to the keys' gradient. -/
theorem dk_1 : View.canon (HS3_2 c arg2 harg2 arg3 harg3 arg4 harg4 arg5 harg5 arg6 harg6 arg7 harg7 arg8 harg8 arg15 arg16 arg18 x0 x1 x2 x3 x4 x5 x6) =
    stepK (inp x0 x1 x2 x3 x4 x5 x6) win0 (View.canon (HS3_1 (F := F))) := by
  simp only [HS3_2, v109, r_17, r_16, r_12, v111, r_13, r_20, v221, View.canon_cons, readCov_rd, readAt_whole, qs, kn]
  rfl

/-- Window 0 adds to the values' gradient. -/
theorem dv_1 : View.canon (HS4_2 c arg2 harg2 arg3 harg3 arg5 harg5 arg6 harg6 arg7 harg7 arg8 harg8 arg15 arg16 arg19 x0 x1 x3 x4 x5 x6) =
    stepV (inp x0 x1 x2 x3 x4 x5 x6) win0 (View.canon (HS4_1 (F := F))) := by
  simp only [HS4_2, r_12, r_18, r_14, v109, v111, r_19, v226, View.canon_cons, readCov_rd, readAt_whole, qs, kn]
  rfl

/-- Window 0 adds to the bias of head 0. -/
theorem db_1 : View.canon (H10_2 c arg2 harg2 arg3 harg3 arg4 harg4 arg5 harg5 arg6 harg6 arg7 harg7 arg8 harg8 arg12 arg15 arg16 x0 x1 x2 x3 x4 x5 x6) =
    stepB0 (inp x0 x1 x2 x3 x4 x5 x6) win0 (View.canon (H10_1 (F := F))) := by
  simp only [H10_2, v109, r_12, v111, r_13, v146, View.canon_cons, readCov_rd, readAt_whole, qs, kn]
  rfl

/-- Window 0 adds to the bias of head 1. -/
theorem db_2 : View.canon (H10_3 c arg2 harg2 arg3 harg3 arg4 harg4 arg5 harg5 arg6 harg6 arg7 harg7 arg8 harg8 arg12 arg15 arg16 x0 x1 x2 x3 x4 x5 x6) =
    stepB1 (inp x0 x1 x2 x3 x4 x5 x6) win0 (View.canon (H10_2 c arg2 harg2 arg3 harg3 arg4 harg4 arg5 harg5 arg6 harg6 arg7 harg7 arg8 harg8 arg12 arg15 arg16 x0 x1 x2 x3 x4 x5 x6)) := by
  simp only [H10_3, r_21, v109, r_12, v111, r_13, v196, View.canon_cons, readCov_rd, readAt_whole, qs, kn]
  rfl

/-- Window 1 adds to the keys' gradient. -/
theorem dk_2 : View.canon (HS3_3 c arg2 harg2 arg3 harg3 arg4 harg4 arg5 harg5 arg6 harg6 arg7 harg7 arg8 harg8 arg15 arg16 arg18 x0 x1 x2 x3 x4 x5 x6) =
    stepK (inp x0 x1 x2 x3 x4 x5 x6) win1 (View.canon (HS3_2 c arg2 harg2 arg3 harg3 arg4 harg4 arg5 harg5 arg6 harg6 arg7 harg7 arg8 harg8 arg15 arg16 arg18 x0 x1 x2 x3 x4 x5 x6)) := by
  simp only [HS3_3, v231, r_27, r_25, r_22, v233, r_23, r_30, v343, View.canon_cons, readCov_rd, readAt_whole, qs, kn]
  rfl

/-- Window 1 adds to the values' gradient. -/
theorem dv_2 : View.canon (HS4_3 c arg2 harg2 arg3 harg3 arg5 harg5 arg6 harg6 arg7 harg7 arg8 harg8 arg15 arg16 arg19 x0 x1 x3 x4 x5 x6) =
    stepV (inp x0 x1 x2 x3 x4 x5 x6) win1 (View.canon (HS4_2 c arg2 harg2 arg3 harg3 arg5 harg5 arg6 harg6 arg7 harg7 arg8 harg8 arg15 arg16 arg19 x0 x1 x3 x4 x5 x6)) := by
  simp only [HS4_3, r_22, r_28, r_24, v231, v233, r_29, v348, View.canon_cons, readCov_rd, readAt_whole, qs, kn]
  rfl

/-- Window 1 adds to the bias of head 0. -/
theorem db_3 : View.canon (H10_4 c arg2 harg2 arg3 harg3 arg4 harg4 arg5 harg5 arg6 harg6 arg7 harg7 arg8 harg8 arg12 arg15 arg16 x0 x1 x2 x3 x4 x5 x6) =
    stepB0 (inp x0 x1 x2 x3 x4 x5 x6) win1 (View.canon (H10_3 c arg2 harg2 arg3 harg3 arg4 harg4 arg5 harg5 arg6 harg6 arg7 harg7 arg8 harg8 arg12 arg15 arg16 x0 x1 x2 x3 x4 x5 x6)) := by
  simp only [H10_4, v231, r_22, v233, r_23, v268, View.canon_cons, readCov_rd, readAt_whole, qs, kn]
  rfl

/-- Window 1 adds to the bias of head 1. -/
theorem db_4 : View.canon (H10_5 c arg2 harg2 arg3 harg3 arg4 harg4 arg5 harg5 arg6 harg6 arg7 harg7 arg8 harg8 arg12 arg15 arg16 x0 x1 x2 x3 x4 x5 x6) =
    stepB1 (inp x0 x1 x2 x3 x4 x5 x6) win1 (View.canon (H10_4 c arg2 harg2 arg3 harg3 arg4 harg4 arg5 harg5 arg6 harg6 arg7 harg7 arg8 harg8 arg12 arg15 arg16 x0 x1 x2 x3 x4 x5 x6)) := by
  simp only [H10_5, r_30, v231, r_22, v233, r_23, v318, View.canon_cons, readCov_rd, readAt_whole, qs, kn]
  rfl

/-- Window 2 adds to the keys' gradient. -/
theorem dk_3 : View.canon (HS3_4 c arg2 harg2 arg3 harg3 arg4 harg4 arg5 harg5 arg6 harg6 arg7 harg7 arg8 harg8 arg15 arg16 arg18 x0 x1 x2 x3 x4 x5 x6) =
    stepK (inp x0 x1 x2 x3 x4 x5 x6) win2 (View.canon (HS3_3 c arg2 harg2 arg3 harg3 arg4 harg4 arg5 harg5 arg6 harg6 arg7 harg7 arg8 harg8 arg15 arg16 arg18 x0 x1 x2 x3 x4 x5 x6)) := by
  simp only [HS3_4, v, r_36, r_34, v355, r_38, r_39, r_31, r_32, v465, View.canon_cons, readCov_rd, readAt_whole, qs, kn]
  rfl

/-- Window 2 adds to the values' gradient. -/
theorem dv_3 : View.canon (HS4_4 c arg2 harg2 arg3 harg3 arg5 harg5 arg6 harg6 arg7 harg7 arg8 harg8 arg15 arg16 arg19 x0 x1 x3 x4 x5 x6) =
    stepV (inp x0 x1 x2 x3 x4 x5 x6) win2 (View.canon (HS4_3 c arg2 harg2 arg3 harg3 arg5 harg5 arg6 harg6 arg7 harg7 arg8 harg8 arg15 arg16 arg19 x0 x1 x3 x4 x5 x6)) := by
  simp only [HS4_4, r_40, r_31, r_37, r_33, v, v355, r_38, v470, View.canon_cons, readCov_rd, readAt_whole, qs, kn]
  rfl

/-- Window 2 adds to the bias of head 0. -/
theorem db_5 : View.canon (H10_6 c arg2 harg2 arg3 harg3 arg4 harg4 arg5 harg5 arg6 harg6 arg7 harg7 arg8 harg8 arg12 arg15 arg16 x0 x1 x2 x3 x4 x5 x6) =
    stepB0 (inp x0 x1 x2 x3 x4 x5 x6) win2 (View.canon (H10_5 c arg2 harg2 arg3 harg3 arg4 harg4 arg5 harg5 arg6 harg6 arg7 harg7 arg8 harg8 arg12 arg15 arg16 x0 x1 x2 x3 x4 x5 x6)) := by
  simp only [H10_6, r_34, v, v355, v390, View.canon_cons, readCov_rd, readAt_whole, qs, kn]
  rfl

/-- Window 2 adds to the bias of head 1. -/
theorem db_6 : View.canon (H10_7 c arg2 harg2 arg3 harg3 arg4 harg4 arg5 harg5 arg6 harg6 arg7 harg7 arg8 harg8 arg12 arg15 arg16 x0 x1 x2 x3 x4 x5 x6) =
    stepB1 (inp x0 x1 x2 x3 x4 x5 x6) win2 (View.canon (H10_6 c arg2 harg2 arg3 harg3 arg4 harg4 arg5 harg5 arg6 harg6 arg7 harg7 arg8 harg8 arg12 arg15 arg16 x0 x1 x2 x3 x4 x5 x6)) := by
  simp only [H10_7, r_38, v, v355, r_39, r_31, r_32, v440, View.canon_cons, readCov_rd, readAt_whole, qs, kn]
  rfl

/-- Window 3 adds to the keys' gradient. -/
theorem dk_4 : View.canon (HS3_5 c arg2 harg2 arg3 harg3 arg4 harg4 arg5 harg5 arg6 harg6 arg7 harg7 arg8 harg8 arg15 arg16 arg18 x0 x1 x2 x3 x4 x5 x6) =
    stepK (inp x0 x1 x2 x3 x4 x5 x6) win3 (View.canon (HS3_4 c arg2 harg2 arg3 harg3 arg4 harg4 arg5 harg5 arg6 harg6 arg7 harg7 arg8 harg8 arg15 arg16 arg18 x0 x1 x2 x3 x4 x5 x6)) := by
  simp only [HS3_5, r_52, v475, r_42, r_47, r_43, v477, r_44, r_45, r_49, r_41, r_50, v587, View.canon_cons, readCov_rd, readAt_whole, qs, kn]
  rfl

/-- Window 3 adds to the values' gradient. -/
theorem dv_4 : View.canon (HS4_5 c arg2 harg2 arg3 harg3 arg5 harg5 arg6 harg6 arg7 harg7 arg8 harg8 arg15 arg16 arg19 x0 x1 x3 x4 x5 x6) =
    stepV (inp x0 x1 x2 x3 x4 x5 x6) win3 (View.canon (HS4_4 c arg2 harg2 arg3 harg3 arg5 harg5 arg6 harg6 arg7 harg7 arg8 harg8 arg15 arg16 arg19 x0 x1 x3 x4 x5 x6)) := by
  simp only [HS4_5, r_51, r_41, r_48, r_43, v475, v477, r_50, v592, View.canon_cons, readCov_rd, readAt_whole, qs, kn]
  rfl

/-- Window 3 adds to the bias of head 0. -/
theorem db_7 : View.canon (H10_8 c arg2 harg2 arg3 harg3 arg4 harg4 arg5 harg5 arg6 harg6 arg7 harg7 arg8 harg8 arg12 arg15 arg16 x0 x1 x2 x3 x4 x5 x6) =
    stepB0 (inp x0 x1 x2 x3 x4 x5 x6) win3 (View.canon (H10_7 c arg2 harg2 arg3 harg3 arg4 harg4 arg5 harg5 arg6 harg6 arg7 harg7 arg8 harg8 arg12 arg15 arg16 x0 x1 x2 x3 x4 x5 x6)) := by
  simp only [H10_8, r_43, v475, v477, r_44, r_45, v512, View.canon_cons, readCov_rd, readAt_whole, qs, kn]
  rfl

/-- Window 3 adds to the bias of head 1. -/
theorem db_8 : View.canon (H10_9 c arg2 harg2 arg3 harg3 arg4 harg4 arg5 harg5 arg6 harg6 arg7 harg7 arg8 harg8 arg12 arg15 arg16 x0 x1 x2 x3 x4 x5 x6) =
    stepB1 (inp x0 x1 x2 x3 x4 x5 x6) win3 (View.canon (H10_8 c arg2 harg2 arg3 harg3 arg4 harg4 arg5 harg5 arg6 harg6 arg7 harg7 arg8 harg8 arg12 arg15 arg16 x0 x1 x2 x3 x4 x5 x6)) := by
  simp only [H10_9, r_42, r_49, r_41, r_50, v475, v477, v562, View.canon_cons, readCov_rd, readAt_whole, qs, kn]
  rfl

/-- Window 4 adds to the keys' gradient. -/
theorem dk_5 : View.canon (HS3_6 c arg2 harg2 arg3 harg3 arg4 harg4 arg5 harg5 arg6 harg6 arg7 harg7 arg8 harg8 arg15 arg16 arg18 x0 x1 x2 x3 x4 x5 x6) =
    stepK (inp x0 x1 x2 x3 x4 x5 x6) win4 (View.canon (HS3_5 c arg2 harg2 arg3 harg3 arg4 harg4 arg5 harg5 arg6 harg6 arg7 harg7 arg8 harg8 arg15 arg16 arg18 x0 x1 x2 x3 x4 x5 x6)) := by
  simp only [HS3_6, r_64, v597, r_54, r_59, r_55, r_56, v599, r_57, r_61, r_53, r_62, r_63, v709, View.canon_cons, readCov_rd, readAt_whole, qs, kn]
  rfl

/-- Window 4 adds to the values' gradient. -/
theorem dv_5 : View.canon (HS4_6 c arg2 harg2 arg3 harg3 arg5 harg5 arg6 harg6 arg7 harg7 arg8 harg8 arg15 arg16 arg19 x0 x1 x3 x4 x5 x6) =
    stepV (inp x0 x1 x2 x3 x4 x5 x6) win4 (View.canon (HS4_5 c arg2 harg2 arg3 harg3 arg5 harg5 arg6 harg6 arg7 harg7 arg8 harg8 arg15 arg16 arg19 x0 x1 x3 x4 x5 x6)) := by
  simp only [HS4_6, r_65, r_53, r_60, r_56, v597, v599, r_57, r_62, r_63, v714, View.canon_cons, readCov_rd, readAt_whole, qs, kn]
  rfl

/-- Window 4 adds to the bias of head 0. -/
theorem db_9 : View.canon (H10_10 c arg2 harg2 arg3 harg3 arg4 harg4 arg5 harg5 arg6 harg6 arg7 harg7 arg8 harg8 arg12 arg15 arg16 x0 x1 x2 x3 x4 x5 x6) =
    stepB0 (inp x0 x1 x2 x3 x4 x5 x6) win4 (View.canon (H10_9 c arg2 harg2 arg3 harg3 arg4 harg4 arg5 harg5 arg6 harg6 arg7 harg7 arg8 harg8 arg12 arg15 arg16 x0 x1 x2 x3 x4 x5 x6)) := by
  simp only [H10_10, r_54, r_55, r_56, v597, v599, r_57, v634, View.canon_cons, readCov_rd, readAt_whole, qs, kn]
  rfl

/-- Window 4 adds to the bias of head 1. -/
theorem db_10 : View.canon (H10_11 c arg2 harg2 arg3 harg3 arg4 harg4 arg5 harg5 arg6 harg6 arg7 harg7 arg8 harg8 arg12 arg15 arg16 x0 x1 x2 x3 x4 x5 x6) =
    stepB1 (inp x0 x1 x2 x3 x4 x5 x6) win4 (View.canon (H10_10 c arg2 harg2 arg3 harg3 arg4 harg4 arg5 harg5 arg6 harg6 arg7 harg7 arg8 harg8 arg12 arg15 arg16 x0 x1 x2 x3 x4 x5 x6)) := by
  simp only [H10_11, r_54, r_61, r_53, r_62, v597, v599, r_63, v684, View.canon_cons, readCov_rd, readAt_whole, qs, kn]
  rfl

/-- Window 5 adds to the keys' gradient. -/
theorem dk_6 : View.canon (HS3_7 c arg2 harg2 arg3 harg3 arg4 harg4 arg5 harg5 arg6 harg6 arg7 harg7 arg8 harg8 arg15 arg16 arg18 x0 x1 x2 x3 x4 x5 x6) =
    stepK (inp x0 x1 x2 x3 x4 x5 x6) win5 (View.canon (HS3_6 c arg2 harg2 arg3 harg3 arg4 harg4 arg5 harg5 arg6 harg6 arg7 harg7 arg8 harg8 arg15 arg16 arg18 x0 x1 x2 x3 x4 x5 x6)) := by
  simp only [HS3_7, r_76, v719, r_67, v721, r_68, r_72, r_69, r_70, r_74, v831, View.canon_cons, readCov_rd, readAt_whole, qs, kn]
  rfl

/-- Window 5 adds to the values' gradient. -/
theorem dv_6 : View.canon (HS4_7 c arg2 harg2 arg3 harg3 arg5 harg5 arg6 harg6 arg7 harg7 arg8 harg8 arg15 arg16 arg19 x0 x1 x3 x4 x5 x6) =
    stepV (inp x0 x1 x2 x3 x4 x5 x6) win5 (View.canon (HS4_6 c arg2 harg2 arg3 harg3 arg5 harg5 arg6 harg6 arg7 harg7 arg8 harg8 arg15 arg16 arg19 x0 x1 x3 x4 x5 x6)) := by
  simp only [HS4_7, r_67, r_73, r_70, v719, v721, r_77, r_74, cst_391, v836, View.canon_cons, readCov_rd, readAt_whole, qs, kn]
  rfl

/-- Window 5 adds to the bias of head 0. -/
theorem db_11 : View.canon (H10_12 c arg2 harg2 arg3 harg3 arg4 harg4 arg5 harg5 arg6 harg6 arg7 harg7 arg8 harg8 arg12 arg15 arg16 x0 x1 x2 x3 x4 x5 x6) =
    stepB0 (inp x0 x1 x2 x3 x4 x5 x6) win5 (View.canon (H10_11 c arg2 harg2 arg3 harg3 arg4 harg4 arg5 harg5 arg6 harg6 arg7 harg7 arg8 harg8 arg12 arg15 arg16 x0 x1 x2 x3 x4 x5 x6)) := by
  simp only [H10_12, r_68, r_69, r_70, v719, v721, v756, View.canon_cons, readCov_rd, readAt_whole, qs, kn]
  rfl

/-- Window 5 adds to the bias of head 1. -/
theorem db_12 : View.canon (H10_13 c arg2 harg2 arg3 harg3 arg4 harg4 arg5 harg5 arg6 harg6 arg7 harg7 arg8 harg8 arg12 arg15 arg16 x0 x1 x2 x3 x4 x5 x6) =
    stepB1 (inp x0 x1 x2 x3 x4 x5 x6) win5 (View.canon (H10_12 c arg2 harg2 arg3 harg3 arg4 harg4 arg5 harg5 arg6 harg6 arg7 harg7 arg8 harg8 arg12 arg15 arg16 x0 x1 x2 x3 x4 x5 x6)) := by
  simp only [H10_13, r_67, v721, r_68, r_74, v719, v806, View.canon_cons, readCov_rd, readAt_whole, qs, kn]
  rfl

/-- Window 6 adds to the keys' gradient. -/
theorem dk_7 : View.canon (HS3_8 c arg2 harg2 arg3 harg3 arg4 harg4 arg5 harg5 arg6 harg6 arg7 harg7 arg8 harg8 arg15 arg16 arg18 x0 x1 x2 x3 x4 x5 x6) =
    stepK (inp x0 x1 x2 x3 x4 x5 x6) win6 (View.canon (HS3_7 c arg2 harg2 arg3 harg3 arg4 harg4 arg5 harg5 arg6 harg6 arg7 harg7 arg8 harg8 arg15 arg16 arg18 x0 x1 x2 x3 x4 x5 x6)) := by
  simp only [HS3_8, v841, r_82, r_78, v843, r_79, r_80, r_86, v953, View.canon_cons, readCov_rd, readAt_whole, qs, kn]
  rfl

/-- Window 6 adds to the values' gradient. -/
theorem dv_7 : View.canon (HS4_8 c arg2 harg2 arg3 harg3 arg5 harg5 arg6 harg6 arg7 harg7 arg8 harg8 arg15 arg16 arg19 x0 x1 x3 x4 x5 x6) =
    stepV (inp x0 x1 x2 x3 x4 x5 x6) win6 (View.canon (HS4_7 c arg2 harg2 arg3 harg3 arg5 harg5 arg6 harg6 arg7 harg7 arg8 harg8 arg15 arg16 arg19 x0 x1 x3 x4 x5 x6)) := by
  simp only [HS4_8, r_78, r_84, r_83, v843, r_80, v841, r_85, v958, View.canon_cons, readCov_rd, readAt_whole, qs, kn]
  rfl

/-- Window 6 adds to the bias of head 0. -/
theorem db_13 : View.canon (H10_14 c arg2 harg2 arg3 harg3 arg4 harg4 arg5 harg5 arg6 harg6 arg7 harg7 arg8 harg8 arg12 arg15 arg16 x0 x1 x2 x3 x4 x5 x6) =
    stepB0 (inp x0 x1 x2 x3 x4 x5 x6) win6 (View.canon (H10_13 c arg2 harg2 arg3 harg3 arg4 harg4 arg5 harg5 arg6 harg6 arg7 harg7 arg8 harg8 arg12 arg15 arg16 x0 x1 x2 x3 x4 x5 x6)) := by
  simp only [H10_14, r_78, v843, r_79, r_80, v841, v878, View.canon_cons, readCov_rd, readAt_whole, qs, kn]
  rfl

/-- Window 6 adds to the bias of head 1. -/
theorem db_14 : View.canon (H10_15 c arg2 harg2 arg3 harg3 arg4 harg4 arg5 harg5 arg6 harg6 arg7 harg7 arg8 harg8 arg12 arg15 arg16 x0 x1 x2 x3 x4 x5 x6) =
    stepB1 (inp x0 x1 x2 x3 x4 x5 x6) win6 (View.canon (H10_14 c arg2 harg2 arg3 harg3 arg4 harg4 arg5 harg5 arg6 harg6 arg7 harg7 arg8 harg8 arg12 arg15 arg16 x0 x1 x2 x3 x4 x5 x6)) := by
  simp only [H10_15, v841, r_78, v843, r_79, v928, View.canon_cons, readCov_rd, readAt_whole, qs, kn]
  rfl

/-- Window 7 adds to the keys' gradient. -/
theorem dk_8 : View.canon (HS3_9 c arg2 harg2 arg3 harg3 arg4 harg4 arg5 harg5 arg6 harg6 arg7 harg7 arg8 harg8 arg15 arg16 arg18 x0 x1 x2 x3 x4 x5 x6) =
    stepK (inp x0 x1 x2 x3 x4 x5 x6) win7 (View.canon (HS3_8 c arg2 harg2 arg3 harg3 arg4 harg4 arg5 harg5 arg6 harg6 arg7 harg7 arg8 harg8 arg15 arg16 arg18 x0 x1 x2 x3 x4 x5 x6)) := by
  simp only [HS3_9, v963, r_93, r_91, r_88, v965, r_89, r_96, v1075, View.canon_cons, readCov_rd, readAt_whole, qs, kn]
  rfl

/-- Window 7 adds to the values' gradient. -/
theorem dv_8 : View.canon (HS4_9 c arg2 harg2 arg3 harg3 arg5 harg5 arg6 harg6 arg7 harg7 arg8 harg8 arg15 arg16 arg19 x0 x1 x3 x4 x5 x6) =
    stepV (inp x0 x1 x2 x3 x4 x5 x6) win7 (View.canon (HS4_8 c arg2 harg2 arg3 harg3 arg5 harg5 arg6 harg6 arg7 harg7 arg8 harg8 arg15 arg16 arg19 x0 x1 x3 x4 x5 x6)) := by
  simp only [HS4_9, r_88, r_94, r_90, v963, v965, r_95, v1080, View.canon_cons, readCov_rd, readAt_whole, qs, kn]
  rfl

/-- Window 7 adds to the bias of head 0. -/
theorem db_15 : View.canon (H10_16 c arg2 harg2 arg3 harg3 arg4 harg4 arg5 harg5 arg6 harg6 arg7 harg7 arg8 harg8 arg12 arg15 arg16 x0 x1 x2 x3 x4 x5 x6) =
    stepB0 (inp x0 x1 x2 x3 x4 x5 x6) win7 (View.canon (H10_15 c arg2 harg2 arg3 harg3 arg4 harg4 arg5 harg5 arg6 harg6 arg7 harg7 arg8 harg8 arg12 arg15 arg16 x0 x1 x2 x3 x4 x5 x6)) := by
  simp only [H10_16, v963, r_88, v965, r_89, v1000, View.canon_cons, readCov_rd, readAt_whole, qs, kn]
  rfl

/-- The bias starts from zero. -/
theorem db_0 : View.canon (H10_1 (F := F)) =
    zeroB := by
  simp only [H10_1, View.canon_cons, readCov_rd, readAt_whole, over_block']
  rfl

/-- The queries' gradient. -/
theorem dq : View.canon (HS2_8 c arg2 harg2 arg3 harg3 arg4 harg4 arg5 harg5 arg6 harg6 arg7 harg7 arg8 harg8 arg15 arg16 x0 x1 x2 x3 x4 x5 x6) =
    allQ (inp x0 x1 x2 x3 x4 x5 x6) wins unset := by
  simp only [HS2_8, v965, r_92, v963, r_88, r_89, r_96, r_81, r_78, v843, r_79, r_80, v841, r_87, r_75, r_67, v721, r_68, r_71, r_69, r_70, v719, r_74, r_66, v599, r_54, r_58, r_55, r_56, v597, r_57, r_61, r_53, r_62, r_63, v477, r_42, r_46, r_43, v475, r_44, r_45, r_49, r_41, r_50, v355, r_35, r_34, v, r_38, r_39, r_31, r_32, v233, r_26, r_25, v231, r_22, r_23, r_30, v111, r_15, v109, r_12, r_13, r_20, View.canon_cons, readCov_rd, readAt_whole, qs, kn]
  rfl

/-- The keys' gradient after all windows. -/
theorem dk_all : View.canon (HS3_9 c arg2 harg2 arg3 harg3 arg4 harg4 arg5 harg5 arg6 harg6 arg7 harg7 arg8 harg8 arg15 arg16 arg18 x0 x1 x2 x3 x4 x5 x6) =
    allK (inp x0 x1 x2 x3 x4 x5 x6) wins zero2048 := by
  rw [dk_8, dk_7, dk_6, dk_5, dk_4, dk_3, dk_2, dk_1, dk_0]; rfl

/-- The values' gradient after all windows. -/
theorem dv_all : View.canon (HS4_9 c arg2 harg2 arg3 harg3 arg5 harg5 arg6 harg6 arg7 harg7 arg8 harg8 arg15 arg16 arg19 x0 x1 x3 x4 x5 x6) =
    allV (inp x0 x1 x2 x3 x4 x5 x6) wins zero2048 := by
  rw [dv_8 (x2 := x2), dv_7 (x2 := x2), dv_6 (x2 := x2), dv_5 (x2 := x2), dv_4 (x2 := x2), dv_3 (x2 := x2), dv_2 (x2 := x2), dv_1 (x2 := x2), dv_0]; rfl

/-- What the case leaves of the queries' gradient. -/
theorem out7 (hc0 : cond0_0 i) (hc1 : ¬cond0_1 i) : out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo11 xo12 =
    outQ (inp x0 x1 x2 x3 x4 x5 x6) x0 x4 unset := by
  have e : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo11 xo12).1 = [⟨Rect.unit ![0, 0] S2048x128.size inb_S2048x128_S2048x128_0_0, k0_pay205 (r_101 c arg2 harg2 arg3 harg3 arg4 harg4 arg5 harg5 arg6 harg6 arg7 harg7 arg8 harg8 arg15 arg16 arg17 x0 x1 x2 x3 x4 x5 x6)⟩] := rfl
  unfold out0_C_7
  rw [View.read_writes_junk_eq_canon, e]
  simp only [r_101, r_4, r_2, r_3, r_5, r, v1085, r_98, View.canon_cons, readCov_rd, readAt_whole, rd_2048', rd_1', over_2048', over_1, qs, kn, dq, dk_all, dv_all (x2 := x2)]
  rfl

/-- What the case leaves of the keys' gradient. -/
theorem out8 (hc0 : cond0_0 i) (hc1 : ¬cond0_1 i) : out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo11 xo12 =
    outK (inp x0 x1 x2 x3 x4 x5 x6) x1 x5 := by
  have e : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo11 xo12).2.1 = [⟨Rect.unit ![0, 0] S2048x128.size inb_S2048x128_S2048x128_0_0, k0_pay206 k0_pay1 k0_pay2 (r_10 c arg3 harg3 x1) (r_11 c arg3 harg3 x1) (r_103 c arg2 harg2 arg3 harg3 arg4 harg4 arg5 harg5 arg6 harg6 arg7 harg7 arg8 harg8 arg15 arg16 arg18 x0 x1 x2 x3 x4 x5 x6) (r_104 c arg2 harg2 arg3 harg3 arg4 harg4 arg5 harg5 arg6 harg6 arg7 harg7 arg8 harg8 arg15 arg16 arg18 x0 x1 x2 x3 x4 x5 x6) k0_pay203 (r_105 c arg2 harg2 arg3 harg3 arg4 harg4 arg5 harg5 arg6 harg6 arg7 harg7 arg8 harg8 arg15 arg16 arg18 x0 x1 x2 x3 x4 x5 x6)⟩] := rfl
  unfold out0_C_8
  rw [View.read_writes_junk_eq_canon, e]
  simp only [r_10, r_9, cst_25, r_11, r_7, r_103, v1122, r_104, r_105, View.canon_cons, readCov_rd, readAt_whole, rd_2048', rd_1', over_2048', over_1, qs, kn, dq, dk_all, dv_all (x2 := x2)]
  rfl

/-- What the case leaves of the values' gradient. -/
theorem out9 (hc0 : cond0_0 i) (hc1 : ¬cond0_1 i) : out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo11 xo12 =
    outV (inp x0 x1 x2 x3 x4 x5 x6) := by
  have e : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo11 xo12).2.2.1 = [⟨Rect.unit ![0, 0] S2048x128.size inb_S2048x128_S2048x128_0_0, k0_pay207 (v1163 c arg2 harg2 arg3 harg3 arg5 harg5 arg6 harg6 arg7 harg7 arg8 harg8 arg15 arg16 arg19 x0 x1 x3 x4 x5 x6)⟩] := rfl
  unfold out0_C_9
  rw [View.read_writes_junk_eq_canon, e]
  simp only [v1163, View.canon_cons, readCov_rd, readAt_whole, rd_2048', rd_1', over_2048', over_1, qs, kn, dq, dk_all, dv_all (x2 := x2)]
  rfl

/-- What the case leaves of the query gain's gradient. -/
theorem out11 (hc0 : cond0_0 i) (hc1 : ¬cond0_1 i) : out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo11 xo12 =
    outGq (inp x0 x1 x2 x3 x4 x5 x6) x0 unset xo11 := by
  have e : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo11 xo12).2.2.2.2.1 = ⟨Rect.unit ![0, 0] S1x128.size inb_S1x128_S1x128_0_0, k0_pay208 (r_100 c arg2 harg2 arg3 harg3 arg4 harg4 arg5 harg5 arg6 harg6 arg7 harg7 arg8 harg8 arg15 arg16 arg17 x0 x1 x2 x3 x4 x5 x6) (View.readAt (Elt F) arg13.view (Rect.unit ![0, 0] S1x128.size inb_S1x128_S1x128_0_0).toLoadRect (harg13.unread xo11))⟩ :: [] := rfl
  unfold out0_C_11
  rw [View.read_writes_junk_eq_canon, e]
  simp only [r_100, r_99, r_5, r, r_2, r_3, v1085, View.canon_cons, readCov_rd, readAt_whole, rd_2048', rd_1', over_2048', over_1, qs, kn, dq, dk_all, dv_all (x2 := x2)]
  rfl

/-- What the case leaves of the key gain's gradient. -/
theorem out12 (hc0 : cond0_0 i) (hc1 : ¬cond0_1 i) : out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo11 xo12 =
    outGk (inp x0 x1 x2 x3 x4 x5 x6) x1 xo12 := by
  have e : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo11 xo12).2.2.2.2.2.1 = ⟨Rect.unit ![0, 0] S1x128.size inb_S1x128_S1x128_0_0, r_106 c arg2 harg2 arg3 harg3 arg4 harg4 arg5 harg5 arg6 harg6 arg7 harg7 arg8 harg8 arg14 harg14 arg15 arg16 arg18 x0 x1 x2 x3 x4 x5 x6 xo12⟩ :: [] := rfl
  unfold out0_C_12
  rw [View.read_writes_junk_eq_canon, e]
  simp only [r_106, r_102, r_11, r_7, r_9, cst_25, v1122, View.canon_cons, readCov_rd, readAt_whole, rd_2048', rd_1', over_2048', over_1, qs, kn, dq, dk_all, dv_all (x2 := x2)]
  rfl

/-- What the case leaves of the bias gradient. -/
theorem out10 (hc0 : cond0_0 i) (hc1 : ¬cond0_1 i) : out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo11 xo12 =
    allB (inp x0 x1 x2 x3 x4 x5 x6) wins zeroB := by
  have e : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo11 xo12).2.2.2.1 = ⟨Rect.unit ![1, 0, 0] S1x256x768.size inb_S2x256x768_S1x256x768_1_0_0, k0_pay191 (r_97 c arg2 harg2 arg3 harg3 arg4 harg4 arg5 harg5 arg6 harg6 arg7 harg7 arg8 harg8 arg12 arg15 arg16 x0 x1 x2 x3 x4 x5 x6)⟩ :: H10_16 c arg2 harg2 arg3 harg3 arg4 harg4 arg5 harg5 arg6 harg6 arg7 harg7 arg8 harg8 arg12 arg15 arg16 x0 x1 x2 x3 x4 x5 x6 := rfl
  unfold out0_C_10
  rw [View.read_writes_junk_eq_canon, e]
  refine Eq.trans (b := stepB1 (inp x0 x1 x2 x3 x4 x5 x6) win7 (View.canon (H10_16 c arg2 harg2 arg3 harg3 arg4 harg4 arg5 harg5 arg6 harg6 arg7 harg7 arg8 harg8 arg12 arg15 arg16 x0 x1 x2 x3 x4 x5 x6))) (by simp only [r_97, v963, r_88, v965, r_89, v1050, View.canon_cons, readCov_rd, readAt_whole, qs, kn]; rfl) ?_
  rw [db_15, db_14, db_13, db_12, db_11, db_10, db_9, db_8, db_7, db_6, db_5, db_4, db_3, db_2, db_1, db_0]; rfl

end AttK.CaseC
-- ==== Proof.Blocks.lean ====
/-
  What each grid point leaves in the output windows, as the windows' fold at the point's input blocks.

  A point is one pair of heads and one batch element. The three first outputs are written whole at every point; the bias
  gradient is started at each pair's first point and added to at its second; the gains' gradients are started at the very first
  point and added to at every other.
-/
module

public import proofs.«01_k».proof.Proof.CaseA
public import proofs.«01_k».proof.Proof.CaseB
public import proofs.«01_k».proof.Proof.CaseC
public import proofs.«01_k».proof.Proof.Gen.KernelIdeal.Value

@[expose] public section

noncomputable section

namespace AttK

open Idealize.ShloMosaic Cert.KernelIdeal Cert.KernelIdeal.Gen

variable {F : FTy → Type} [FloatOps F]
variable (m : (ℓ : Loc nD τ sig) → Buf (Elt F) ℓ) (c : Dev nD)

/-- The input blocks of point `t`, at their shapes. -/
def bq (t : Fin cfg0.N) : FVec F S2048x128 .bf16 := iblk m c 0 t
def bk (t : Fin cfg0.N) : FVec F S2048x128 .bf16 := iblk m c 1 t
def bv (t : Fin cfg0.N) : FVec F S2048x128 .bf16 := iblk m c 2 t
def bo (t : Fin cfg0.N) : FVec F S2048x128 .bf16 := iblk m c 3 t
def bgq (t : Fin cfg0.N) : FVec F S1x128 .f32 := iblk m c 4 t
def bgk (t : Fin cfg0.N) : FVec F S1x128 .f32 := iblk m c 5 t
def bb (t : Fin cfg0.N) : FVec F S2x256x768 .f32 := iblk m c 6 t

/-- The input of point `t`. -/
def pin (t : Fin cfg0.N) := inp (bq m c t) (bk m c t) (bv m c t) (bo m c t) (bgq m c t) (bgk m c t) (bb m c t)

theorem out_q (t : Fin cfg0.N) : (outsAt0 m c t.val t.isLt).1 = outQ (pin m c t) (bq m c t) (bgq m c t) unset := by
  by_cases h0 : t.val % 2 = 0
  · by_cases h1 : t.val % 12 = 0
    · rw [outsAt0_A m c t h0 h1]; dsimp only; exact CaseA.out7 ..
    · rw [outsAt0_C m c t h0 h1]; dsimp only; exact CaseC.out7 ..
  · have h1 : ¬ t.val % 12 = 0 := fun h => h0 (by omega)
    rw [outsAt0_B m c t h0 h1]; dsimp only; exact CaseB.out7 ..

theorem out_k (t : Fin cfg0.N) : (outsAt0 m c t.val t.isLt).2.1 = outK (pin m c t) (bk m c t) (bgk m c t) := by
  by_cases h0 : t.val % 2 = 0
  · by_cases h1 : t.val % 12 = 0
    · rw [outsAt0_A m c t h0 h1]; dsimp only; exact CaseA.out8 ..
    · rw [outsAt0_C m c t h0 h1]; dsimp only; exact CaseC.out8 ..
  · have h1 : ¬ t.val % 12 = 0 := fun h => h0 (by omega)
    rw [outsAt0_B m c t h0 h1]; dsimp only; exact CaseB.out8 ..

theorem out_v (t : Fin cfg0.N) : (outsAt0 m c t.val t.isLt).2.2.1 = outV (pin m c t) := by
  by_cases h0 : t.val % 2 = 0
  · by_cases h1 : t.val % 12 = 0
    · rw [outsAt0_A m c t h0 h1]; dsimp only; exact CaseA.out9 ..
    · rw [outsAt0_C m c t h0 h1]; dsimp only; exact CaseC.out9 ..
  · have h1 : ¬ t.val % 12 = 0 := fun h => h0 (by omega)
    rw [outsAt0_B m c t h0 h1]; dsimp only; exact CaseB.out9 ..

/-- The point before `t`. -/
theorem prev_lt (t : Fin cfg0.N) : t.val - 1 < cfg0.N := Nat.lt_of_le_of_lt (Nat.sub_le _ _) t.isLt

theorem out_b_even (t : Fin cfg0.N) (h0 : t.val % 2 = 0) :
    (outsAt0 m c t.val t.isLt).2.2.2.1 = allB (pin m c t) wins zeroB := by
  by_cases h1 : t.val % 12 = 0
  · rw [outsAt0_A m c t h0 h1]; dsimp only; exact CaseA.out10 ..
  · rw [outsAt0_C m c t h0 h1]; dsimp only; exact CaseC.out10 ..

theorem out_b_odd (t : Fin cfg0.N) (h0 : ¬ t.val % 2 = 0) :
    (outsAt0 m c t.val t.isLt).2.2.2.1 = allB (pin m c t) wins (outsAt0 m c (t.val - 1) (prev_lt t)).2.2.2.1 := by
  have h1 : ¬ t.val % 12 = 0 := fun h => h0 (by omega)
  rw [outsAt0_B m c t h0 h1]; dsimp only; exact CaseB.out10 ..

theorem out_gq_zero (t : Fin cfg0.N) (h : t.val = 0) :
    (outsAt0 m c t.val t.isLt).2.2.2.2.1 = outGq (pin m c t) (bq m c t) unset zeroG := by
  have h0 : t.val % 2 = 0 := by omega
  have h1 : t.val % 12 = 0 := by omega
  rw [outsAt0_A m c t h0 h1]; dsimp only; exact CaseA.out11 ..

theorem out_gq_pos (t : Fin cfg0.N) (h : ¬ t.val = 0) : (outsAt0 m c t.val t.isLt).2.2.2.2.1
    = outGq (pin m c t) (bq m c t) unset (outsAt0 m c (t.val - 1) (prev_lt t)).2.2.2.2.1 := by
  have hN : t.val < 12 := lt_of_lt_of_eq t.isLt (show cfg0.N = 12 from N_0)
  have h1 : ¬ t.val % 12 = 0 := by omega
  by_cases h0 : t.val % 2 = 0
  · rw [outsAt0_C m c t h0 h1]; dsimp only; exact CaseC.out11 ..
  · rw [outsAt0_B m c t h0 h1]; dsimp only; exact CaseB.out11 ..

theorem out_gk_zero (t : Fin cfg0.N) (h : t.val = 0) :
    (outsAt0 m c t.val t.isLt).2.2.2.2.2 = outGk (pin m c t) (bk m c t) zeroG := by
  have h0 : t.val % 2 = 0 := by omega
  have h1 : t.val % 12 = 0 := by omega
  rw [outsAt0_A m c t h0 h1]; dsimp only; exact CaseA.out12 ..

theorem out_gk_pos (t : Fin cfg0.N) (h : ¬ t.val = 0) : (outsAt0 m c t.val t.isLt).2.2.2.2.2
    = outGk (pin m c t) (bk m c t) (outsAt0 m c (t.val - 1) (prev_lt t)).2.2.2.2.2 := by
  have hN : t.val < 12 := lt_of_lt_of_eq t.isLt (show cfg0.N = 12 from N_0)
  have h1 : ¬ t.val % 12 = 0 := by omega
  by_cases h0 : t.val % 2 = 0
  · rw [outsAt0_C m c t h0 h1]; dsimp only; exact CaseC.out12 ..
  · rw [outsAt0_B m c t h0 h1]; dsimp only; exact CaseB.out12 ..

end AttK
-- ==== Proof.Host.lean ====
/-
  What the kernel's host lines leave in the three arrays they prepare: the gains laid out twice, and the window's bias.
-/
module

public import proofs.«01_k».proof.Proof.Model
public import proofs.«01_k».proof.Proof.Prep
public import proofs.«01_k».proof.Proof.Gen.KernelIdeal.Frame
public import Idealize.ShloMosaic.Lib.StableHlo.RunRead

@[expose] public section

noncomputable section

namespace AttK

open Idealize.ShloMosaic
open Idealize.ShloMosaic.ValueIdx Idealize.ShloMosaic.TcCoe Cert.KernelIdeal Cert.KernelIdeal.Gen

variable {F : FTy → Type} [FloatOps F]
variable (m : (ℓ : Loc nD τ sig) → Buf (Elt F) ℓ) (c : Dev nD)

/-- The window's bias, as the host lines compute it from the table. -/
def hostBias (x4 : FVec F S12x192 .f32) : FVec F S12x256x768 .f32 :=
  let row : IVec S256x768 32 := iotaInDim S256x768 32 0
  let col : IVec S256x768 32 := iotaInDim S256x768 32 1
  let all (w : BitVec 32) : IVec S256x768 32 := broadcastInDim S256x768 ![] bcast_S_S256x768 (constantI S_ 32 w)
  let rel := subi (addi (minsi (all 128#32) (maxsi (all 4294967233#32) (subi (addi row (all 512#32)) col))) (all 64#32)) (all 1#32)
  let ahead := subi (addi (Host.divsi row (all 64#32)) (all 8#32)) (Host.divsi col (all 64#32))
  let mask := andi (cmpi .sge ahead (all 0#32)) (cmpi .sle ahead (all 8#32))
  select (broadcastInDim S12x256x768 ![1, 2] bcast_S256x768_S12x256x768_1_2 mask)
    (Host.gather gather_S12x192_S256x768x1_S12x256x768_0_1_n_n_1_2_121 x4
      (broadcastInDim S256x768x1 ![0, 1] bcast_S256x768_S256x768x1_0_1 rel))
    (broadcastInDim S12x256x768 ![] bcast_S_S12x256x768 (constant S_ .f32 0xFF800000#32))

theorem V_bias : V m c main_v23 = hostBias (m ((c : Thread nD τ).loc main_arg4)) := by
  unfold V
  simp only [hostOps0, hostOps0_1, hostOps0_2, hostOps0_3, hostOps0_4, hostOps0_5, hostOps0_6, List.flatten_cons, List.flatten_nil,
    List.cons_append, List.nil_append]
  after_results_simp
  simp -implicitDefEqProofs only [StableHlo.TRef.toBuf, StableHlo.TRef.ofBuf, cast_cast, cast_eq, id_eq]
  rfl

theorem V_gq : V m c main_v24 = concatenate S1x128 1 [⟨S1x64, m ((c : Thread nD τ).loc main_arg2)⟩, ⟨S1x64, m ((c : Thread nD τ).loc main_arg2)⟩]
    concatenates_S1x64_S1x64_S1x128_d1 := by
  unfold V
  simp only [hostOps0, hostOps0_1, hostOps0_2, hostOps0_3, hostOps0_4, hostOps0_5, hostOps0_6, List.flatten_cons, List.flatten_nil,
    List.cons_append, List.nil_append]
  after_results_simp
  rfl

theorem V_gk : V m c main_v25 = concatenate S1x128 1 [⟨S1x64, m ((c : Thread nD τ).loc main_arg3)⟩, ⟨S1x64, m ((c : Thread nD τ).loc main_arg3)⟩]
    concatenates_S1x64_S1x64_S1x128_d1 := by
  unfold V
  simp only [hostOps0, hostOps0_1, hostOps0_2, hostOps0_3, hostOps0_4, hostOps0_5, hostOps0_6, List.flatten_cons, List.flatten_nil,
    List.cons_append, List.nil_append]
  after_results_simp
  rfl

/-- The bias at a head, a query row of the window and a key column of it. -/
theorem hostBias_apply (x4 : FVec F S12x192 .f32) (h : Fin 12) (r : Fin 256) (cc : Fin 768) :
    hostBias x4 (ix3 h r cc) = if Att.Valid (r.val + 512) cc.val
      then x4 (ix2 h ⟨Att.rel (r.val + 512) cc.val, Att.rel_lt _ _⟩) else FloatOps.ofBits .f32 0xFF800000#32 := by
  have hr := r.isLt
  have hc := cc.isLt
  unfold hostBias
  rw [select_apply]
  rw [broadcastInDim_apply (s := S256x768) (t := S12x256x768) ![1, 2] bcast_S256x768_S12x256x768_1_2 _ (ix3 h r cc) (ix2 r cc) (fun a => match a with
    | ⟨0, _⟩ => by show r.val = if (256 : Nat) = 1 then 0 else r.val; rw [if_neg (by decide)]
    | ⟨1, _⟩ => by show cc.val = if (768 : Nat) = 1 then 0 else cc.val; rw [if_neg (by decide)])]
  have em : (andi (cmpi .sge (subi (addi (Host.divsi (iotaInDim S256x768 32 0) (broadcastInDim S256x768 ![] bcast_S_S256x768 (constantI S_ 32 64#32)))
        (broadcastInDim S256x768 ![] bcast_S_S256x768 (constantI S_ 32 8#32))) (Host.divsi (iotaInDim S256x768 32 1)
        (broadcastInDim S256x768 ![] bcast_S_S256x768 (constantI S_ 32 64#32)))) (broadcastInDim S256x768 ![] bcast_S_S256x768 (constantI S_ 32 0#32)))
      (cmpi .sle (subi (addi (Host.divsi (iotaInDim S256x768 32 0) (broadcastInDim S256x768 ![] bcast_S_S256x768 (constantI S_ 32 64#32)))
        (broadcastInDim S256x768 ![] bcast_S_S256x768 (constantI S_ 32 8#32))) (Host.divsi (iotaInDim S256x768 32 1)
        (broadcastInDim S256x768 ![] bcast_S_S256x768 (constantI S_ 32 64#32)))) (broadcastInDim S256x768 ![] bcast_S_S256x768 (constantI S_ 32 8#32)))
      : IVec S256x768 1) (ix2 r cc) = if Att.Valid (r.val + 512) cc.val then 1#1 else 0#1 := by
    refine bandw_eq (IntOp.subi (IntOp.addi (IntOp.divsi .host (BitVec.ofNat 32 r.val) 64#32) 8#32)
      (IntOp.divsi .host (BitVec.ofNat 32 cc.val) 64#32)) _ ?_
    have e1 := chunk_toInt r.val (by omega)
    have e2 := chunk_toInt cc.val (by omega)
    have e8 : (8#32 : BitVec 32).toInt = 8 := by decide
    have e3 : (IntOp.addi (IntOp.divsi .host (BitVec.ofNat 32 r.val) 64#32) 8#32).toInt = (r.val / 64 : ℕ) + 8 := by
      show (_ + _ : BitVec 32).toInt = _
      rw [BitVec.toInt_add, e1, e8]; simp only [Int.bmod]; split_ifs <;> omega
    have e4 : (IntOp.subi (IntOp.addi (IntOp.divsi .host (BitVec.ofNat 32 r.val) 64#32) 8#32)
        (IntOp.divsi .host (BitVec.ofNat 32 cc.val) 64#32)).toInt = (r.val / 64 : ℕ) + 8 - (cc.val / 64 : ℕ) := by
      show (_ - _ : BitVec 32).toInt = _
      rw [BitVec.toInt_sub, e3, e2]; simp only [Int.bmod]; split_ifs <;> omega
    rw [e4]; unfold Att.Valid; omega
  rw [em]
  by_cases hv : Att.Valid (r.val + 512) cc.val
  swap
  · rw [if_neg hv, if_neg hv]; rfl
  · rw [if_pos hv, if_pos hv]
    show Host.gather _ _ _ _ = _
    refine (rowsTake_apply (H := 12) (N := 192) (R := 256) (C := 768) (by decide) _ x4 _ h r cc).trans (congrArg x4 ?_)
    refine congrArg (ix2 h) (Fin.ext ?_)
    show min _ (192 - 1) = _
    have el := Att.rel_lt (r.val + 512) cc.val
    rw [broadcastInDim_apply (s := S256x768) (t := S256x768x1) ![0, 1] bcast_S256x768_S256x768x1_0_1 _ _ (ix2 r cc) (fun a => match a with
      | ⟨0, _⟩ => by show r.val = if (256 : Nat) = 1 then 0 else r.val; rw [if_neg (by decide)]
      | ⟨1, _⟩ => by show cc.val = if (768 : Nat) = 1 then 0 else cc.val; rw [if_neg (by decide)])]
    have er := relw_eq (IntOp.subi (IntOp.addi (BitVec.ofNat 32 r.val) 512#32) (BitVec.ofNat 32 cc.val)) (r.val + 512) cc.val (by
      have e5 : (512#32 : BitVec 32).toInt = 512 := by decide
      have e3 : (IntOp.addi (BitVec.ofNat 32 r.val) 512#32).toInt = r.val + 512 := by
        show (_ + _ : BitVec 32).toInt = _
        rw [BitVec.toInt_add, toInt_ofNat _ (by omega), e5]; simp only [Int.bmod]; split_ifs <;> omega
      show (_ - _ : BitVec 32).toInt = _
      rw [BitVec.toInt_sub, e3, toInt_ofNat _ (by omega)]; simp only [Int.bmod]; split_ifs <;> omega)
    exact (congrArg (min · 191) er).trans (min_eq_left (Nat.le_of_lt_succ el))

end AttK
-- ==== Proof.BlockRead.lean ====
/-
  The blocks that a grid point reads, entry by entry, from the call's arguments.
-/
module

public import proofs.«01_k».proof.Proof.Blocks
public import proofs.«01_k».proof.Proof.Host

@[expose] public section

noncomputable section

namespace AttK

open Idealize.ShloMosaic Idealize.ShloMosaic.ValueIdx
open Idealize.ShloMosaic.TcCoe Cert.KernelIdeal Cert.KernelIdeal.Gen

variable {F : FTy → Type} [FloatOps F]
variable (m : (ℓ : Loc nD τ sig) → Buf (Elt F) ℓ) (c : Dev nD)

theorem lt12 (t : Fin cfg0.N) : t.val < 12 := lt_of_lt_of_eq t.isLt (show cfg0.N = 12 from N_0)

/-- Row `i` of the point's batch element. -/
def srow (t : Fin cfg0.N) (i : Fin 2048) : Fin 4096 := ⟨2048 * (t.val % 2) + i.val, by have := i.isLt; omega⟩

/-- Column `l` of the point's pair, `off` blocks of columns further on. -/
def scol (t : Fin cfg0.N) (l : Fin 128) (off n : ℕ) (h : 128 * (off + 6) ≤ n) : Fin n :=
  ⟨128 * off + (128 * (t.val / 2) + l.val), by have := lt12 t; have := l.isLt; omega⟩

theorem bq_apply (t : Fin cfg0.N) (i : Fin 2048) (l : Fin 128) : bq m c t (ix2 i l)
    = m ((c : Thread nD τ).loc main_arg0) (ix2 (srow t i) (scol t l 0 2560 (by decide))) := by
  have hi : win0_0.index t 0 = t.val % 2 ∧ win0_0.index t 1 = t.val / 2 + 0 := by
    rcases fin_N0 t with rfl | rfl | rfl | rfl | rfl | rfl | rfl | rfl | rfl | rfl | rfl | rfl <;> decide
  unfold bq iblk
  rw [View.read_apply]
  show V m c main_arg0 _ = m ((c : Thread nD τ).loc main_arg0) _
  rw [V_main_arg0]
  congr 1
  funext a
  apply Fin.ext
  match a with
  | ⟨0, _⟩ =>
    show win0_0.index t 0 * 2048 + 1 * i.val = 2048 * (t.val % 2) + i.val
    rw [hi.1]; omega
  | ⟨1, _⟩ =>
    show win0_0.index t 1 * 128 + 1 * l.val = 128 * 0 + (128 * (t.val / 2) + l.val)
    rw [hi.2]; omega

theorem bk_apply (t : Fin cfg0.N) (i : Fin 2048) (l : Fin 128) : bk m c t (ix2 i l)
    = m ((c : Thread nD τ).loc main_arg0) (ix2 (srow t i) (scol t l 6 2560 (by decide))) := by
  have hi : win0_1.index t 0 = t.val % 2 ∧ win0_1.index t 1 = t.val / 2 + 6 := by
    rcases fin_N0 t with rfl | rfl | rfl | rfl | rfl | rfl | rfl | rfl | rfl | rfl | rfl | rfl <;> decide
  unfold bk iblk
  rw [View.read_apply]
  show V m c main_arg0 _ = m ((c : Thread nD τ).loc main_arg0) _
  rw [V_main_arg0]
  congr 1
  funext a
  apply Fin.ext
  match a with
  | ⟨0, _⟩ =>
    show win0_1.index t 0 * 2048 + 1 * i.val = 2048 * (t.val % 2) + i.val
    rw [hi.1]; omega
  | ⟨1, _⟩ =>
    show win0_1.index t 1 * 128 + 1 * l.val = 128 * 6 + (128 * (t.val / 2) + l.val)
    rw [hi.2]; omega

theorem bv_apply (t : Fin cfg0.N) (i : Fin 2048) (l : Fin 128) : bv m c t (ix2 i l)
    = m ((c : Thread nD τ).loc main_arg0) (ix2 (srow t i) (scol t l 12 2560 (by decide))) := by
  have hi : win0_2.index t 0 = t.val % 2 ∧ win0_2.index t 1 = t.val / 2 + 12 := by
    rcases fin_N0 t with rfl | rfl | rfl | rfl | rfl | rfl | rfl | rfl | rfl | rfl | rfl | rfl <;> decide
  unfold bv iblk
  rw [View.read_apply]
  show V m c main_arg0 _ = m ((c : Thread nD τ).loc main_arg0) _
  rw [V_main_arg0]
  congr 1
  funext a
  apply Fin.ext
  match a with
  | ⟨0, _⟩ =>
    show win0_2.index t 0 * 2048 + 1 * i.val = 2048 * (t.val % 2) + i.val
    rw [hi.1]; omega
  | ⟨1, _⟩ =>
    show win0_2.index t 1 * 128 + 1 * l.val = 128 * 12 + (128 * (t.val / 2) + l.val)
    rw [hi.2]; omega

theorem bo_apply (t : Fin cfg0.N) (i : Fin 2048) (l : Fin 128) : bo m c t (ix2 i l)
    = m ((c : Thread nD τ).loc main_arg1) (ix2 (srow t i) (scol t l 0 1024 (by decide))) := by
  have hi : win0_3.index t 0 = t.val % 2 ∧ win0_3.index t 1 = t.val / 2 + 0 := by
    rcases fin_N0 t with rfl | rfl | rfl | rfl | rfl | rfl | rfl | rfl | rfl | rfl | rfl | rfl <;> decide
  unfold bo iblk
  rw [View.read_apply]
  show V m c main_arg1 _ = m ((c : Thread nD τ).loc main_arg1) _
  rw [V_main_arg1]
  congr 1
  funext a
  apply Fin.ext
  match a with
  | ⟨0, _⟩ =>
    show win0_3.index t 0 * 2048 + 1 * i.val = 2048 * (t.val % 2) + i.val
    rw [hi.1]; omega
  | ⟨1, _⟩ =>
    show win0_3.index t 1 * 128 + 1 * l.val = 128 * 0 + (128 * (t.val / 2) + l.val)
    rw [hi.2]; omega

theorem bgq_apply (t : Fin cfg0.N) (l : Fin 128) : bgq m c t (ix2 0 l)
    = m ((c : Thread nD τ).loc main_arg2) (ix2 0 ⟨l.val % 64, Nat.mod_lt _ (by decide)⟩) := by
  have hi : win0_4.index t 0 = 0 ∧ win0_4.index t 1 = 0 := by
    rcases fin_N0 t with rfl | rfl | rfl | rfl | rfl | rfl | rfl | rfl | rfl | rfl | rfl | rfl <;> decide
  have e : bgq m c t (ix2 0 l) = V m c main_v24 (ix2 0 l) := by
    unfold bgq iblk
    rw [View.read_apply]
    show V m c main_v24 _ = V m c main_v24 _
    congr 1
    funext a
    apply Fin.ext
    match a with
    | ⟨0, _⟩ => show win0_4.index t 0 * 1 + 1 * 0 = 0; rw [hi.1]
    | ⟨1, _⟩ => show win0_4.index t 1 * 128 + 1 * l.val = l.val; rw [hi.2]; omega
  rw [e, V_gq]
  exact twice_apply _ _ l

theorem bgk_apply (t : Fin cfg0.N) (l : Fin 128) : bgk m c t (ix2 0 l)
    = m ((c : Thread nD τ).loc main_arg3) (ix2 0 ⟨l.val % 64, Nat.mod_lt _ (by decide)⟩) := by
  have hi : win0_5.index t 0 = 0 ∧ win0_5.index t 1 = 0 := by
    rcases fin_N0 t with rfl | rfl | rfl | rfl | rfl | rfl | rfl | rfl | rfl | rfl | rfl | rfl <;> decide
  have e : bgk m c t (ix2 0 l) = V m c main_v25 (ix2 0 l) := by
    unfold bgk iblk
    rw [View.read_apply]
    show V m c main_v25 _ = V m c main_v25 _
    congr 1
    funext a
    apply Fin.ext
    match a with
    | ⟨0, _⟩ => show win0_5.index t 0 * 1 + 1 * 0 = 0; rw [hi.1]
    | ⟨1, _⟩ => show win0_5.index t 1 * 128 + 1 * l.val = l.val; rw [hi.2]; omega
  rw [e, V_gk]
  exact twice_apply _ _ l

theorem bb_apply (t : Fin cfg0.N) (u : Fin 2) (r : Fin 256) (cc : Fin 768) : bb m c t (ix3 u r cc)
    = hostBias (m ((c : Thread nD τ).loc main_arg4)) (ix3 ⟨2 * (t.val / 2) + u.val, by have := lt12 t; have := u.isLt; omega⟩ r cc) := by
  have hi : win0_6.index t 0 = t.val / 2 ∧ win0_6.index t 1 = 0 ∧ win0_6.index t 2 = 0 := by
    rcases fin_N0 t with rfl | rfl | rfl | rfl | rfl | rfl | rfl | rfl | rfl | rfl | rfl | rfl <;> decide
  rw [← V_bias]
  unfold bb iblk
  rw [View.read_apply]
  show V m c main_v23 _ = V m c main_v23 _
  congr 1
  funext a
  apply Fin.ext
  match a with
  | ⟨0, _⟩ => show win0_6.index t 0 * 2 + 1 * u.val = 2 * (t.val / 2) + u.val; rw [hi.1]; omega
  | ⟨1, _⟩ => show win0_6.index t 1 * 256 + 1 * r.val = r.val; rw [hi.2.1]; omega
  | ⟨2, _⟩ => show win0_6.index t 2 * 768 + 1 * cc.val = cc.val; rw [hi.2.2]; omega

end AttK
-- ==== Proof.Final.lean ====
/-
  The result arrays after the run, entry by entry, as what the grid point that writes an entry last left in its window.
-/
module

public import proofs.«01_k».proof.Proof.BlockRead

@[expose] public section

noncomputable section

namespace AttK

open Idealize.ShloMosaic Idealize.ShloMosaic.ValueIdx
open Idealize.ShloMosaic.TcCoe Cert.KernelIdeal Cert.KernelIdeal.Gen Cert.KernelIdeal.Value

variable {F : FTy → Type} [FloatOps F]
variable (m : (ℓ : Loc nD τ sig) → Buf (Elt F) ℓ) (c : Dev nD)

/-- The point of a pair and a batch element. -/
def pt (p : Fin 6) (b : Fin 2) : Fin cfg0.N := ⟨2 * p.val + b.val, by
  rw [show cfg0.N = 12 from N_0]; have := p.isLt; have := b.isLt; omega⟩

/-- Entry `i` of batch element `b`. -/
def grow (b : Fin 2) (i : Fin 2048) : Fin 4096 := ⟨2048 * b.val + i.val, by have := b.isLt; have := i.isLt; omega⟩

/-- Column `l` of pair `p`. -/
def gcol (p : Fin 6) (l : Fin 128) : Fin 768 := ⟨128 * p.val + l.val, by have := p.isLt; have := l.isLt; omega⟩

/-- The contents that point `t` left in the first four results' windows and the two gains'. -/
def cq (t : Fin cfg0.N) : FVec F S2048x128 .bf16 := (outsAt0 m c t.val t.isLt).1
def ck (t : Fin cfg0.N) : FVec F S2048x128 .bf16 := (outsAt0 m c t.val t.isLt).2.1
def cv (t : Fin cfg0.N) : FVec F S2048x128 .bf16 := (outsAt0 m c t.val t.isLt).2.2.1
def cb (t : Fin cfg0.N) : FVec F S2x256x768 .f32 := (outsAt0 m c t.val t.isLt).2.2.2.1
def cgq (t : Fin cfg0.N) : FVec F S1x128 .f32 := (outsAt0 m c t.val t.isLt).2.2.2.2.1
def cgk (t : Fin cfg0.N) : FVec F S1x128 .f32 := (outsAt0 m c t.val t.isLt).2.2.2.2.2

theorem final7 (b : Fin 2) (i : Fin 2048) (p : Fin 6) (l : Fin 128) :
    ((dats m 0 c).arrAt 7 cfg0.N : FVec F S4096x768 .bf16) (ix2 (grow b i) (gcol p l)) = cq m c (pt p b) (ix2 i l) := by
  have hf : ∀ t : Fin cfg0.N, (cfg0.win 7).flush t = true := by
    intro t; rcases fin_N0 t with rfl | rfl | rfl | rfl | rfl | rfl | rfl | rfl | rfl | rfl | rfl | rfl <;> decide
  have hi : ∀ t : Fin cfg0.N, win0_7.index t 0 = t.val % 2 ∧ win0_7.index t 1 = t.val / 2 := by
    intro t; rcases fin_N0 t with rfl | rfl | rfl | rfl | rfl | rfl | rfl | rfl | rfl | rfl | rfl | rfl <;> decide
  have h := congrFun (blocks7 m c (pt p b) (hf _)) (ix2 i l)
  rw [View.read_apply, flushed7] at h
  refine Eq.trans ?_ h
  show ((dats m 0 c).arrAt 7 cfg0.N : FVec F S4096x768 .bf16) _ = ((dats m 0 c).arrAt 7 cfg0.N : FVec F S4096x768 .bf16) _
  congr 1
  funext a
  apply Fin.ext
  have hb := b.isLt
  match a with
  | ⟨0, _⟩ =>
    show 2048 * b.val + i.val = win0_7.index (pt p b) 0 * 2048 + 1 * i.val
    rw [(hi _).1]; show _ = (2 * p.val + b.val) % 2 * 2048 + _; omega
  | ⟨1, _⟩ =>
    show 128 * p.val + l.val = win0_7.index (pt p b) 1 * 128 + 1 * l.val
    rw [(hi _).2]; show _ = (2 * p.val + b.val) / 2 * 128 + _; omega

theorem final8 (b : Fin 2) (i : Fin 2048) (p : Fin 6) (l : Fin 128) :
    ((dats m 0 c).arrAt 8 cfg0.N : FVec F S4096x768 .bf16) (ix2 (grow b i) (gcol p l)) = ck m c (pt p b) (ix2 i l) := by
  have hf : ∀ t : Fin cfg0.N, (cfg0.win 8).flush t = true := by
    intro t; rcases fin_N0 t with rfl | rfl | rfl | rfl | rfl | rfl | rfl | rfl | rfl | rfl | rfl | rfl <;> decide
  have hi : ∀ t : Fin cfg0.N, win0_8.index t 0 = t.val % 2 ∧ win0_8.index t 1 = t.val / 2 := by
    intro t; rcases fin_N0 t with rfl | rfl | rfl | rfl | rfl | rfl | rfl | rfl | rfl | rfl | rfl | rfl <;> decide
  have h := congrFun (blocks8 m c (pt p b) (hf _)) (ix2 i l)
  rw [View.read_apply, flushed8] at h
  refine Eq.trans ?_ h
  show ((dats m 0 c).arrAt 8 cfg0.N : FVec F S4096x768 .bf16) _ = ((dats m 0 c).arrAt 8 cfg0.N : FVec F S4096x768 .bf16) _
  congr 1
  funext a
  apply Fin.ext
  have hb := b.isLt
  match a with
  | ⟨0, _⟩ =>
    show 2048 * b.val + i.val = win0_8.index (pt p b) 0 * 2048 + 1 * i.val
    rw [(hi _).1]; show _ = (2 * p.val + b.val) % 2 * 2048 + _; omega
  | ⟨1, _⟩ =>
    show 128 * p.val + l.val = win0_8.index (pt p b) 1 * 128 + 1 * l.val
    rw [(hi _).2]; show _ = (2 * p.val + b.val) / 2 * 128 + _; omega

theorem final9 (b : Fin 2) (i : Fin 2048) (p : Fin 6) (l : Fin 128) :
    ((dats m 0 c).arrAt 9 cfg0.N : FVec F S4096x768 .bf16) (ix2 (grow b i) (gcol p l)) = cv m c (pt p b) (ix2 i l) := by
  have hf : ∀ t : Fin cfg0.N, (cfg0.win 9).flush t = true := by
    intro t; rcases fin_N0 t with rfl | rfl | rfl | rfl | rfl | rfl | rfl | rfl | rfl | rfl | rfl | rfl <;> decide
  have hi : ∀ t : Fin cfg0.N, win0_9.index t 0 = t.val % 2 ∧ win0_9.index t 1 = t.val / 2 := by
    intro t; rcases fin_N0 t with rfl | rfl | rfl | rfl | rfl | rfl | rfl | rfl | rfl | rfl | rfl | rfl <;> decide
  have h := congrFun (blocks9 m c (pt p b) (hf _)) (ix2 i l)
  rw [View.read_apply, flushed9] at h
  refine Eq.trans ?_ h
  show ((dats m 0 c).arrAt 9 cfg0.N : FVec F S4096x768 .bf16) _ = ((dats m 0 c).arrAt 9 cfg0.N : FVec F S4096x768 .bf16) _
  congr 1
  funext a
  apply Fin.ext
  have hb := b.isLt
  match a with
  | ⟨0, _⟩ =>
    show 2048 * b.val + i.val = win0_9.index (pt p b) 0 * 2048 + 1 * i.val
    rw [(hi _).1]; show _ = (2 * p.val + b.val) % 2 * 2048 + _; omega
  | ⟨1, _⟩ =>
    show 128 * p.val + l.val = win0_9.index (pt p b) 1 * 128 + 1 * l.val
    rw [(hi _).2]; show _ = (2 * p.val + b.val) / 2 * 128 + _; omega

theorem flush10 (t : Fin cfg0.N) : (cfg0.win 10).flush t = true ↔ t.val % 2 = 1 := by
  rcases fin_N0 t with rfl | rfl | rfl | rfl | rfl | rfl | rfl | rfl | rfl | rfl | rfl | rfl <;> decide

theorem index10 (t : Fin cfg0.N) : win0_10.index t 0 = t.val / 2 ∧ win0_10.index t 1 = 0 ∧ win0_10.index t 2 = 0 := by
  rcases fin_N0 t with rfl | rfl | rfl | rfl | rfl | rfl | rfl | rfl | rfl | rfl | rfl | rfl <;> decide

theorem disjoint10 (t t' : Fin cfg0.N) (h : (cfg0.win 10).flush t = true) (h' : (cfg0.win 10).flush t' = true) (hne : t ≠ t') :
    Disjoint ((cfg0.win 10).blk t).view.set ((cfg0.win 10).blk t').view.set :=
  (cfg0.win 10).disjoint_blk fun e => hne (Fin.ext (by
    have e0 : win0_10.index t 0 = win0_10.index t' 0 := congrFun e 0
    rw [(index10 t).1, (index10 t').1] at e0
    have := (flush10 t).mp h
    have := (flush10 t').mp h'
    omega))

theorem final10 (p : Fin 6) (u : Fin 2) (r : Fin 256) (cc : Fin 768) :
    ((dats m 0 c).arrAt 10 cfg0.N : FVec F S12x256x768 .f32)
      (ix3 ⟨2 * p.val + u.val, by have := p.isLt; have := u.isLt; omega⟩ r cc) = cb m c (pt p 1) (ix3 u r cc) := by
  have h := congrFun ((dats m 0 c).read_blk_arrAt_eq_flushed 10 disjoint10 cfg0.N (pt p 1) (pt p 1).isLt
    ((flush10 _).mpr (by show (2 * p.val + 1) % 2 = 1; omega))) (ix3 u r cc)
  rw [View.read_apply, flushed10] at h
  refine Eq.trans ?_ h
  show ((dats m 0 c).arrAt 10 cfg0.N : FVec F S12x256x768 .f32) _ = ((dats m 0 c).arrAt 10 cfg0.N : FVec F S12x256x768 .f32) _
  congr 1
  funext a
  apply Fin.ext
  match a with
  | ⟨0, _⟩ =>
    show 2 * p.val + u.val = win0_10.index (pt p 1) 0 * 2 + 1 * u.val
    rw [(index10 _).1]; show _ = (2 * p.val + 1) / 2 * 2 + _; omega
  | ⟨1, _⟩ => show r.val = win0_10.index (pt p 1) 1 * 256 + 1 * r.val; rw [(index10 _).2.1]; omega
  | ⟨2, _⟩ => show cc.val = win0_10.index (pt p 1) 2 * 768 + 1 * cc.val; rw [(index10 _).2.2]; omega

theorem flush11 (t : Fin cfg0.N) : (cfg0.win 11).flush t = true ↔ t.val = 11 := by
  rcases fin_N0 t with rfl | rfl | rfl | rfl | rfl | rfl | rfl | rfl | rfl | rfl | rfl | rfl <;> decide

theorem final11 (l : Fin 128) :
    ((dats m 0 c).arrAt 11 cfg0.N : FVec F S1x128 .f32) (ix2 0 l) = cgq m c (pt 5 1) (ix2 0 l) := by
  have hi : win0_11.index (pt 5 1) 0 = 0 ∧ win0_11.index (pt 5 1) 1 = 0 := by decide
  have h := congrFun ((dats m 0 c).read_blk_arrAt_eq_flushed 11 (fun t t' h h' hne => absurd
      (Fin.ext (((flush11 t).mp h).trans ((flush11 t').mp h').symm)) hne) cfg0.N (pt 5 1) (pt 5 1).isLt
    ((flush11 _).mpr rfl)) (ix2 0 l)
  rw [View.read_apply, flushed11] at h
  refine Eq.trans ?_ h
  show ((dats m 0 c).arrAt 11 cfg0.N : FVec F S1x128 .f32) _ = ((dats m 0 c).arrAt 11 cfg0.N : FVec F S1x128 .f32) _
  congr 1
  funext a
  apply Fin.ext
  match a with
  | ⟨0, _⟩ => show 0 = win0_11.index (pt 5 1) 0 * 1 + 1 * 0; rw [hi.1]
  | ⟨1, _⟩ => show l.val = win0_11.index (pt 5 1) 1 * 128 + 1 * l.val; rw [hi.2]; omega

theorem flush12 (t : Fin cfg0.N) : (cfg0.win 12).flush t = true ↔ t.val = 11 := by
  rcases fin_N0 t with rfl | rfl | rfl | rfl | rfl | rfl | rfl | rfl | rfl | rfl | rfl | rfl <;> decide

theorem final12 (l : Fin 128) :
    ((dats m 0 c).arrAt 12 cfg0.N : FVec F S1x128 .f32) (ix2 0 l) = cgk m c (pt 5 1) (ix2 0 l) := by
  have hi : win0_12.index (pt 5 1) 0 = 0 ∧ win0_12.index (pt 5 1) 1 = 0 := by decide
  have h := congrFun ((dats m 0 c).read_blk_arrAt_eq_flushed 12 (fun t t' h h' hne => absurd
      (Fin.ext (((flush12 t).mp h).trans ((flush12 t').mp h').symm)) hne) cfg0.N (pt 5 1) (pt 5 1).isLt
    ((flush12 _).mpr rfl)) (ix2 0 l)
  rw [View.read_apply, flushed12] at h
  refine Eq.trans ?_ h
  show ((dats m 0 c).arrAt 12 cfg0.N : FVec F S1x128 .f32) _ = ((dats m 0 c).arrAt 12 cfg0.N : FVec F S1x128 .f32) _
  congr 1
  funext a
  apply Fin.ext
  match a with
  | ⟨0, _⟩ => show 0 = win0_12.index (pt 5 1) 0 * 1 + 1 * 0; rw [hi.1]
  | ⟨1, _⟩ => show l.val = win0_12.index (pt 5 1) 1 * 128 + 1 * l.val; rw [hi.2]; omega

end AttK
-- ==== Proof.PointRead.lean ====
/-
  What the body leaves at one grid point, over the extended reals: the gradients of one batch element's pair of heads.
-/
module

public import proofs.«01_k».proof.Proof.NormRead

@[expose] public section

noncomputable section

namespace Att.Seq

open Finset (range)

/-- The gradient of the bias at head `t`, in the layout of the bias block: the query's row within its block of 256, and the
    key's column counted from 512 rows before the block. -/
def db (A : Seq) (t r cc : ℕ) : ℝ :=
  ∑ j ∈ range 8, if 512 ≤ 256 * j + cc then A.ds t (256 * j + r) (256 * j + cc - 512) else 0

end Att.Seq

namespace AttK

open Idealize.ShloMosaic hiding ix0 ix1 ix2 ix3 ix4 ix5
open Idealize.ShloMosaic.ValueIdx Cert.KernelIdeal Cert.KernelIdeal.Gen
open scoped BigOperators
open Finset (range)

/-! ## Rectangles at an index -/

theorem rd_rows {α : Type} (n o : ℕ) (h : o + n ≤ 2048) (X : S2048x128.Idx → α) (i : Fin n) (l : Fin 128) :
    rd (rows n o h) X (ix2 i l) = X (ix2 ⟨o + i.val, by omega⟩ l) :=
  congrArg X (funext fun a => match a with
    | ⟨0, _⟩ => Fin.ext (by show o + 1 * i.val = o + i.val; omega)
    | ⟨1, _⟩ => Fin.ext (by show 0 + 1 * l.val = l.val; omega))

theorem rd_blk {α : Type} (t w c : ℕ) (ht : t < 2) (h : c + w ≤ 768) (X : S2x256x768.Idx → α) (u : Fin 1) (i : Fin 256) (l : Fin w) :
    rd (blk t w c ht h) X (ix3 u i l) = X (ix3 ⟨t, ht⟩ i ⟨c + l.val, by omega⟩) :=
  congrArg X (funext fun a => match a with
    | ⟨0, _⟩ => Fin.ext (by show t + 1 * u.val = t; omega)
    | ⟨1, _⟩ => Fin.ext (by show 0 + 1 * i.val = i.val; omega)
    | ⟨2, _⟩ => Fin.ext (by show c + 1 * l.val = c + l.val; omega))

theorem rows_overlay {α : Type} (n o : ℕ) (h : o + n ≤ 2048) (X : S2048x128.Idx → α) (G : (M n 128).Idx → α) (a : Fin 2048) (l : Fin 128) :
    (rows n o h).overlay X G (ix2 a l) = if hr : o ≤ a.val ∧ a.val < o + n then G (ix2 ⟨a.val - o, by omega⟩ l) else X (ix2 a l) := by
  split_ifs with hr
  · have e : (rows n o h).emb (ix2 (⟨a.val - o, by omega⟩ : Fin n) l) = ix2 a l := funext fun b => match b with
      | ⟨0, _⟩ => Fin.ext (by show o + 1 * (a.val - o) = a.val; omega)
      | ⟨1, _⟩ => Fin.ext (by show 0 + 1 * l.val = l.val; omega)
    rw [← e]; exact Rect.overlay_emb _ _ _ _
  · refine Rect.overlay_of_not_mem _ _ _ fun hm => hr ?_
    have := Rect.mem_set_unit.mp hm (0 : Fin 2)
    exact this

theorem blk_overlay {α : Type} (t w c : ℕ) (ht : t < 2) (h : c + w ≤ 768) (X : S2x256x768.Idx → α) (G : (M1 256 w).Idx → α)
    (u : Fin 2) (r : Fin 256) (cc : Fin 768) :
    (blk t w c ht h).overlay X G (ix3 u r cc) =
      if hr : u.val = t ∧ c ≤ cc.val ∧ cc.val < c + w then G (ix3 0 r ⟨cc.val - c, by omega⟩) else X (ix3 u r cc) := by
  split_ifs with hr
  · have e : (blk t w c ht h).emb (ix3 (0 : Fin 1) r (⟨cc.val - c, by omega⟩ : Fin w)) = ix3 u r cc := funext fun b => match b with
      | ⟨0, _⟩ => Fin.ext (by show t + 1 * 0 = u.val; omega)
      | ⟨1, _⟩ => Fin.ext (by show 0 + 1 * r.val = r.val; omega)
      | ⟨2, _⟩ => Fin.ext (by show c + 1 * (cc.val - c) = cc.val; omega)
    rw [← e]; exact Rect.overlay_emb _ _ _ _
  · refine Rect.overlay_of_not_mem _ _ _ fun hm => hr ?_
    have h0 := Rect.mem_set_unit.mp hm (0 : Fin 3)
    have h2 := Rect.mem_set_unit.mp hm (2 : Fin 3)
    change t ≤ u.val ∧ u.val < t + 1 at h0
    change c ≤ cc.val ∧ cc.val < c + w at h2
    exact ⟨by omega, h2⟩

variable [Facts]

/-- A point's blocks hold the pair's part of a batch element. -/
structure Holds (A : Att.Seq) (X0 X1 X2 X3 : FVec Ideal S2048x128 .bf16) (X4 X5 : FVec Ideal S1x128 .f32) (X6 : FVec Ideal S2x256x768 .f32) :
    Prop where
  q : Is X0 A.q
  k : Is X1 A.k
  v : Is X2 A.v
  o : Is X3 A.o
  gq : ∀ l : Fin 128, X4 (ix2 0 l) = ((A.gq (l.val % 64) : ℝ) : EReal)
  gk : ∀ l : Fin 128, X5 (ix2 0 l) = ((A.gk (l.val % 64) : ℝ) : EReal)
  b : ∀ (t : Fin 2) (j : ℕ) (r : Fin 256) (cc : Fin 768), j < 8 → 512 ≤ 256 * j + cc.val →
    X6 (ix3 t r cc) = if Att.Valid (256 * j + r.val) (256 * j + cc.val - 512) then
      ((A.bias t.val (256 * j + r.val) (256 * j + cc.val - 512) : ℝ) : EReal) else ⊥

/-- The windows' places. -/
structure Ok (j : ℕ) (W : Win) : Prop where
  lt : j < 8
  r0 : W.r0 = 256 * j
  kw : W.k0 + W.w = W.r0 + 256
  low : W.k0 = 0 ∨ W.k0 + 512 = W.r0
  c0 : W.k0 + 512 = W.r0 + W.c0

theorem Ok.inside {j : ℕ} {W : Win} (h : Ok j W) {i k : ℕ} (hi : i < 256) (hv : Att.Valid (W.r0 + i) k) : W.k0 ≤ k ∧ k < W.k0 + W.w := by
  obtain ⟨h1, h2⟩ := hv
  have := h.kw; have := h.low; have := h.r0
  omega

variable {A : Att.Seq} {X0 X1 X2 X3 : FVec Ideal S2048x128 .bf16} {X4 X5 : FVec Ideal S1x128 .f32} {X6 : FVec Ideal S2x256x768 .f32}

theorem qsOf_is (H : Holds A X0 X1 X2 X3 X4 X5 X6) : Is (qsOf X0 X4) (fun i l => A.qn i l * (1 / 8)) := fun i l => by
  unfold qsOf
  rw [shapeCast_id, shapeCast_id]
  exact scale_is _ _ lit8 (nrmv_is (x := extf .f32 X0 bitsLt_bf16_f32) H.q H.gq) i l

theorem knOf_is (H : Holds A X0 X1 X2 X3 X4 X5 X6) : Is (knOf X1 X5) A.kn := fun i l => by
  unfold knOf
  rw [shapeCast_id, shapeCast_id]
  exact nrmv_is (x := extf .f32 X1 bitsLt_bf16_f32) H.k H.gk i l

section window
variable {j : ℕ} {W : Win} (ok : Ok j W) (H : Holds A X0 X1 X2 X3 X4 X5 X6)
include ok H

theorem score_apply {t : ℕ} (ht : t < 2) {mk : IVec S1x128 1} (hm : Half mk t) (i : Fin 256) (c : Fin W.w) :
    score W.w mk (rd (rows 256 W.r0 W.hr) (inp X0 X1 X2 X3 X4 X5 X6).qs) (rd (rows W.w W.k0 W.hk) (inp X0 X1 X2 X3 X4 X5 X6).kn)
      (rd (blk t W.w W.c0 ht W.hc) (inp X0 X1 X2 X3 X4 X5 X6).b) (ix2 i c) =
      if Att.Valid (W.r0 + i.val) (W.k0 + c.val) then ((A.sc t (W.r0 + i.val) (W.k0 + c.val) : ℝ) : EReal) else ⊥ := by
  unfold score
  rw [addf_apply]
  refine (congrArg (_ + ·) ((shapeCast_1ab_ab_apply _ _ i c).trans (rd_blk t W.w W.c0 ht W.hc X6 0 i c))).trans ?_
  refine (congrArg (· + _) (dotl_apply W.w ht hm (X := fun i l => A.qn (W.r0 + i) l * (1 / 8)) (Y := fun c l => A.kn (W.k0 + c) l)
      (fun i l => by rw [rd_rows]; exact qsOf_is H _ l) (fun i l => by rw [rd_rows]; exact knOf_is H _ l) i c)).trans ?_
  have hc0 := ok.c0; have hr0 := ok.r0; have hw := W.hc
  have hb := H.b ⟨t, ht⟩ j i ⟨W.c0 + c.val, by omega⟩ ok.lt (by show 512 ≤ 256 * j + (W.c0 + c.val); omega)
  have e1 : 256 * j + i.val = W.r0 + i.val := by omega
  have e2 : 256 * j + (W.c0 + c.val) - 512 = W.k0 + c.val := by omega
  simp only [e1, e2] at hb
  refine (congrArg (_ + ·) hb).trans ?_
  split_ifs
  · rw [← EReal.coe_add]
    refine congrArg _ ?_
    unfold Att.Seq.sc
    rw [Finset.sum_mul]
    refine congrArg (· + _) (Finset.sum_congr rfl fun d _ => by ring)
  · exact EReal.add_bot _

theorem prW_apply {t : ℕ} (ht : t < 2) {mk : IVec S1x128 1} (hm : Half mk t) (i : Fin 256) (c : Fin W.w) :
    prW (inp X0 X1 X2 X3 X4 X5 X6) W t ht mk (ix2 i c) = ((A.pr t (W.r0 + i.val) (W.k0 + c.val) : ℝ) : EReal) := by
  unfold prW
  have hkw := ok.kw; have hl := ok.low; have hr0 := ok.r0
  have hself : ∃ c0 : Fin W.w, Att.Valid (W.r0 + i.val) (W.k0 + c0.val) :=
    ⟨⟨W.r0 + i.val - W.k0, by omega⟩, by
      show Att.Valid _ (W.k0 + (W.r0 + i.val - W.k0))
      rw [show W.k0 + (W.r0 + i.val - W.k0) = W.r0 + i.val by omega]; exact Att.Seq.valid_self _⟩
  refine (soft_apply W.w (S := fun i c => A.sc t (W.r0 + i) (W.k0 + c)) (V := fun i c => Att.Valid (W.r0 + i) (W.k0 + c))
    (score_apply ok H ht hm) i hself c).trans ?_
  have hN := W.hk
  have e := Att.sum_window (fun k => A.wt t (W.r0 + i.val) k) W.k0 W.w 2048 hN
    (fun k _ hn => A.wt_of_not _ _ _ fun hv => hn (ok.inside i.isLt hv))
  unfold Att.Seq.pr Att.Seq.tot
  rw [← e]
  rfl

theorem dsW_apply {t : ℕ} (ht : t < 2) {mk : IVec S1x128 1} (hm : Half mk t) (i : Fin 256) (c : Fin W.w) :
    dsW (inp X0 X1 X2 X3 X4 X5 X6) W t ht mk (ix2 i c) = ((A.ds t (W.r0 + i.val) (W.k0 + c.val) : ℝ) : EReal) := by
  unfold dsW
  have hd : ∀ (i : Fin 256) (c : Fin W.w),
      dotl W.w mk (rd (rows 256 W.r0 W.hr) (inp X0 X1 X2 X3 X4 X5 X6).o) (rd (rows W.w W.k0 W.hk) (inp X0 X1 X2 X3 X4 X5 X6).v) (ix2 i c)
        = ((A.dp t (W.r0 + i.val) (W.k0 + c.val) : ℝ) : EReal) := fun i c =>
    dotl_apply W.w ht hm (X := fun i l => A.o (W.r0 + i) l) (Y := fun c l => A.v (W.k0 + c) l)
      (fun i l => by rw [rd_rows]; exact H.o _ l) (fun i l => by rw [rd_rows]; exact H.v _ l) i c
  refine (dsv_apply W.w (P := fun i c => A.pr t (W.r0 + i) (W.k0 + c)) (D := fun i c => A.dp t (W.r0 + i) (W.k0 + c))
    (prW_apply ok H ht hm) hd i c).trans ?_
  have hN := W.hk
  have e := Att.sum_window (fun k => A.pr t (W.r0 + i.val) k * A.dp t (W.r0 + i.val) k) W.k0 W.w 2048 hN
    (fun k _ hn => by rw [A.pr_of_not _ _ _ fun hv => hn (ok.inside i.isLt hv), zero_mul])
  unfold Att.Seq.ds
  rw [← e]

theorem stepQ_apply (old : FVec Ideal S2048x128 .f32) (a : Fin 2048) (l : Fin 128) :
    stepQ (inp X0 X1 X2 X3 X4 X5 X6) W old (ix2 a l) =
      if W.r0 ≤ a.val ∧ a.val < W.r0 + 256 then ((A.dqn a.val l.val : ℝ) : EReal) else old (ix2 a l) := by
  unfold stepQ
  rw [rows_overlay]
  split_ifs with hr
  · refine (dqv_apply W.w (K := fun c l => A.kn (W.k0 + c) l) (D := fun t i c => A.ds t (W.r0 + i) (W.k0 + c))
      (fun i l => by rw [rd_rows]; exact knOf_is H _ l) (dsW_apply ok H (by decide) half0) (dsW_apply ok H (by decide) half1) _ l).trans ?_
    refine congrArg _ ?_
    unfold Att.Seq.dqn
    refine congrArg (· * _) ?_
    have hN := W.hk
    rw [← Att.sum_window (fun k => A.ds (l.val / 64) a.val k * A.kn k l.val) W.k0 W.w 2048 hN (fun k _ hn => by
      have ea : a.val = W.r0 + (a.val - W.r0) := by omega
      rw [A.ds_of_not _ _ _ fun hv => hn (ok.inside (i := a.val - W.r0) (by omega) (ea ▸ hv)), zero_mul])]
    refine Finset.sum_congr rfl fun c _ => ?_
    show A.ds _ (W.r0 + (a.val - W.r0)) _ * _ = _
    rw [show W.r0 + (a.val - W.r0) = a.val by omega]
  · rfl

/-- A window adds its 256 query rows' part to every row: the parts outside the window are zero. -/
theorem acc_apply (D : ℕ → ℕ → ℕ → ℝ) (hD : ∀ t i k, ¬ Att.Valid i k → D t i k = 0) (X : ℕ → ℕ → ℝ)
    {x : FVec Ideal (M 256 128) .bf16} {d0 d1 : FVec Ideal (M 256 W.w) .f32}
    (hx : ∀ i l, x (ix2 i l) = ((X (W.r0 + i.val) l.val : ℝ) : EReal))
    (h0 : ∀ i c, d0 (ix2 i c) = ((D 0 (W.r0 + i.val) (W.k0 + c.val) : ℝ) : EReal))
    (h1 : ∀ i c, d1 (ix2 i c) = ((D 1 (W.r0 + i.val) (W.k0 + c.val) : ℝ) : EReal))
    (old : FVec Ideal S2048x128 .f32) (a : Fin 2048) (l : Fin 128) :
    (rows W.w W.k0 W.hk).overlay old (accv W.w x d0 d1 (rd (rows W.w W.k0 W.hk) old)) (ix2 a l) =
      old (ix2 a l) + ((∑ i ∈ range 256, D (l.val / 64) (W.r0 + i) a.val * X (W.r0 + i) l.val : ℝ) : EReal) := by
  rw [rows_overlay]
  split_ifs with hr
  · refine (accv_apply W.w (X := fun i l => X (W.r0 + i) l) (D := fun t i c => D t (W.r0 + i) (W.k0 + c)) hx h0 h1 _ _ _).trans ?_
    rw [rd_rows]
    have ea : W.k0 + (a.val - W.k0) = a.val := by omega
    simp only [ea]
  · rw [Finset.sum_eq_zero fun i hi => by
      rw [hD _ _ _ fun hv => hr (ok.inside (Finset.mem_range.1 hi) hv), zero_mul]]
    exact (add_zero _).symm

theorem stepK_apply (old : FVec Ideal S2048x128 .f32) (a : Fin 2048) (l : Fin 128) :
    stepK (inp X0 X1 X2 X3 X4 X5 X6) W old (ix2 a l) =
      old (ix2 a l) + ((∑ i ∈ range 256, A.ds (l.val / 64) (W.r0 + i) a.val * (A.qn (W.r0 + i) l.val * (1 / 8)) : ℝ) : EReal) :=
  acc_apply ok H A.ds A.ds_of_not (fun i l => A.qn i l * (1 / 8)) (fun i l => by rw [rd_rows]; exact qsOf_is H _ l)
    (dsW_apply ok H (by decide) half0) (dsW_apply ok H (by decide) half1) old a l

theorem stepV_apply (old : FVec Ideal S2048x128 .f32) (a : Fin 2048) (l : Fin 128) :
    stepV (inp X0 X1 X2 X3 X4 X5 X6) W old (ix2 a l) =
      old (ix2 a l) + ((∑ i ∈ range 256, A.pr (l.val / 64) (W.r0 + i) a.val * A.o (W.r0 + i) l.val : ℝ) : EReal) :=
  acc_apply ok H A.pr A.pr_of_not A.o (fun i l => by rw [rd_rows]; exact H.o _ l)
    (prW_apply ok H (by decide) half0) (prW_apply ok H (by decide) half1) old a l

theorem stepB_apply (old : FVec Ideal S2x256x768 .f32) (u : Fin 2) (r : Fin 256) (cc : Fin 768) :
    stepB1 (inp X0 X1 X2 X3 X4 X5 X6) W (stepB0 (inp X0 X1 X2 X3 X4 X5 X6) W old) (ix3 u r cc) =
      old (ix3 u r cc) + ((if 512 ≤ 256 * j + cc.val then A.ds u.val (256 * j + r.val) (256 * j + cc.val - 512) else 0 : ℝ) : EReal) := by
  have hc0 := ok.c0; have hr0 := ok.r0; have hkw := ok.kw; have hl := ok.low
  have hcc := cc.isLt
  rw [stepB1_stepB0, blk_overlay]
  unfold stepB0
  split_ifs with h1 h2 h2
  · refine (dbv_apply W.w _ _ 0 r _).trans ?_
    rw [rd_blk]
    refine (congrArg (_ + ·) (dsW_apply ok H (by decide) half1 r _)).trans ?_
    have e1 : W.c0 + (cc.val - W.c0) = cc.val := by omega
    have e2 : W.k0 + (cc.val - W.c0) = 256 * j + cc.val - 512 := by omega
    have e3 : (⟨1, by decide⟩ : Fin 2) = u := Fin.ext h1.1.symm
    simp only [e1, e2, e3, hr0, h1.1]
  · omega
  · rw [blk_overlay, dif_pos ⟨by omega, by omega, by omega⟩]
    refine (dbv_apply W.w _ _ 0 r _).trans ?_
    rw [rd_blk]
    refine (congrArg (_ + ·) (dsW_apply ok H (by decide) half0 r _)).trans ?_
    have e0 : u.val = 0 := by omega
    have e1 : W.c0 + (cc.val - W.c0) = cc.val := by omega
    have e2 : W.k0 + (cc.val - W.c0) = 256 * j + cc.val - 512 := by omega
    have e3 : (⟨0, by decide⟩ : Fin 2) = u := Fin.ext e0.symm
    simp only [e1, e2, e3, hr0, e0]
  · rw [blk_overlay, dif_neg (by omega)]
    exact (add_zero _).symm

end window

end AttK
-- ==== Proof.PointAll.lean ====
/-
  The eight windows together: what one grid point leaves in each result, over the extended reals.
-/
module

public import proofs.«01_k».proof.Proof.PointRead

@[expose] public section

noncomputable section

namespace Att

open Finset (range)

/-- A sum over the rows, block by block. -/
theorem sum_blocks (f : ℕ → ℝ) (n : ℕ) : ∑ i ∈ range (256 * n), f i = ∑ j ∈ range n, ∑ i ∈ range 256, f (256 * j + i) := by
  induction n with
  | zero => rfl
  | succ n ih => rw [Nat.mul_succ, Finset.sum_range_add, ih, Finset.sum_range_succ _ n]

end Att

namespace AttK

open Idealize.ShloMosaic hiding ix0 ix1 ix2 ix3 ix4 ix5
open Idealize.ShloMosaic.ValueIdx Cert.KernelIdeal Cert.KernelIdeal.Gen
open scoped BigOperators
open Finset (range)

theorem ok0 : Ok 0 win0 := ⟨by decide, rfl, rfl, .inl rfl, rfl⟩
theorem ok1 : Ok 1 win1 := ⟨by decide, rfl, rfl, .inl rfl, rfl⟩
theorem ok2 : Ok 2 win2 := ⟨by decide, rfl, rfl, .inr rfl, rfl⟩
theorem ok3 : Ok 3 win3 := ⟨by decide, rfl, rfl, .inr rfl, rfl⟩
theorem ok4 : Ok 4 win4 := ⟨by decide, rfl, rfl, .inr rfl, rfl⟩
theorem ok5 : Ok 5 win5 := ⟨by decide, rfl, rfl, .inr rfl, rfl⟩
theorem ok6 : Ok 6 win6 := ⟨by decide, rfl, rfl, .inr rfl, rfl⟩
theorem ok7 : Ok 7 win7 := ⟨by decide, rfl, rfl, .inr rfl, rfl⟩

variable [Facts]
variable {A : Att.Seq} {X0 X1 X2 X3 : FVec Ideal S2048x128 .bf16} {X4 X5 : FVec Ideal S1x128 .f32} {X6 : FVec Ideal S2x256x768 .f32}
variable (H : Holds A X0 X1 X2 X3 X4 X5 X6)
include H

theorem allQ_is (z : FVec Ideal S2048x128 .f32) : Is (allQ (inp X0 X1 X2 X3 X4 X5 X6) wins z) A.dqn := fun a l => by
  show stepQ _ win7 (stepQ _ win6 (stepQ _ win5 (stepQ _ win4 (stepQ _ win3 (stepQ _ win2 (stepQ _ win1 (stepQ _ win0 z))))))) (ix2 a l) = _
  have ha := a.isLt
  rw [stepQ_apply ok7 H]; split_ifs with h7
  · rfl
  rw [stepQ_apply ok6 H]; split_ifs with h6
  · rfl
  rw [stepQ_apply ok5 H]; split_ifs with h5
  · rfl
  rw [stepQ_apply ok4 H]; split_ifs with h4
  · rfl
  rw [stepQ_apply ok3 H]; split_ifs with h3
  · rfl
  rw [stepQ_apply ok2 H]; split_ifs with h2
  · rfl
  rw [stepQ_apply ok1 H]; split_ifs with h1
  · rfl
  rw [stepQ_apply ok0 H]; split_ifs with h0
  · rfl
  simp only [win0, win1, win2, win3, win4, win5, win6, win7] at h0 h1 h2 h3 h4 h5 h6 h7
  omega

theorem zero2048_apply (a : Fin 2048) (l : Fin 128) : (zero2048 : FVec Ideal S2048x128 .f32) (ix2 a l) = ((0 : ℝ) : EReal) := by
  unfold zero2048; rw [shapeCast_id, broadcast_apply]; exact lit0

theorem allK_is : Is (allK (inp X0 X1 X2 X3 X4 X5 X6) wins zero2048) A.dkn := fun a l => by
  show stepK _ win7 (stepK _ win6 (stepK _ win5 (stepK _ win4 (stepK _ win3 (stepK _ win2 (stepK _ win1 (stepK _ win0 zero2048))))))) (ix2 a l) = _
  rw [stepK_apply ok7 H, stepK_apply ok6 H, stepK_apply ok5 H, stepK_apply ok4 H, stepK_apply ok3 H, stepK_apply ok2 H, stepK_apply ok1 H,
    stepK_apply ok0 H, zero2048_apply H]
  simp only [← EReal.coe_add]
  refine congrArg _ ?_
  unfold Att.Seq.dkn
  have e : (range 2048) = range (256 * 8) := rfl
  rw [Finset.sum_mul, e, Att.sum_blocks _ 8]
  simp only [Finset.sum_range_succ _ 7, Finset.sum_range_succ _ 6, Finset.sum_range_succ _ 5, Finset.sum_range_succ _ 4,
    Finset.sum_range_succ _ 3, Finset.sum_range_succ _ 2, Finset.sum_range_succ _ 1, Finset.sum_range_succ _ 0, Finset.sum_range_zero,
    mul_assoc]
  rfl

theorem allV_is : Is (allV (inp X0 X1 X2 X3 X4 X5 X6) wins zero2048) A.dv := fun a l => by
  show stepV _ win7 (stepV _ win6 (stepV _ win5 (stepV _ win4 (stepV _ win3 (stepV _ win2 (stepV _ win1 (stepV _ win0 zero2048))))))) (ix2 a l) = _
  rw [stepV_apply ok7 H, stepV_apply ok6 H, stepV_apply ok5 H, stepV_apply ok4 H, stepV_apply ok3 H, stepV_apply ok2 H, stepV_apply ok1 H,
    stepV_apply ok0 H, zero2048_apply H]
  simp only [← EReal.coe_add]
  refine congrArg _ ?_
  unfold Att.Seq.dv
  have e : (range 2048) = range (256 * 8) := rfl
  rw [e, Att.sum_blocks _ 8]
  simp only [Finset.sum_range_succ _ 7, Finset.sum_range_succ _ 6, Finset.sum_range_succ _ 5, Finset.sum_range_succ _ 4,
    Finset.sum_range_succ _ 3, Finset.sum_range_succ _ 2, Finset.sum_range_succ _ 1, Finset.sum_range_succ _ 0, Finset.sum_range_zero]
  rfl

theorem allB_apply (old : FVec Ideal S2x256x768 .f32) (u : Fin 2) (r : Fin 256) (cc : Fin 768) :
    allB (inp X0 X1 X2 X3 X4 X5 X6) wins old (ix3 u r cc) = old (ix3 u r cc) + ((A.db u.val r.val cc.val : ℝ) : EReal) := by
  show stepB1 _ win7 (stepB0 _ win7 (stepB1 _ win6 (stepB0 _ win6 (stepB1 _ win5 (stepB0 _ win5 (stepB1 _ win4 (stepB0 _ win4
    (stepB1 _ win3 (stepB0 _ win3 (stepB1 _ win2 (stepB0 _ win2 (stepB1 _ win1 (stepB0 _ win1 (stepB1 _ win0 (stepB0 _ win0 old)))))))))))))))
    (ix3 u r cc) = _
  rw [stepB_apply ok7 H, stepB_apply ok6 H, stepB_apply ok5 H, stepB_apply ok4 H, stepB_apply ok3 H, stepB_apply ok2 H, stepB_apply ok1 H,
    stepB_apply ok0 H]
  simp only [add_assoc, ← EReal.coe_add]
  refine congrArg (fun x : ℝ => old (ix3 u r cc) + (x : EReal)) ?_
  unfold Att.Seq.db
  simp only [Finset.sum_range_succ _ 7, Finset.sum_range_succ _ 6, Finset.sum_range_succ _ 5, Finset.sum_range_succ _ 4,
    Finset.sum_range_succ _ 3, Finset.sum_range_succ _ 2, Finset.sum_range_succ _ 1, Finset.sum_range_succ _ 0, Finset.sum_range_zero,
    zero_add, add_assoc]

theorem outQ_is (z : FVec Ideal S2048x128 .f32) : Is (outQ (inp X0 X1 X2 X3 X4 X5 X6) X0 X4 z) A.dq := fun a l =>
  nbwdv_is (x := extf .f32 X0 bitsLt_bf16_f32) H.q (allQ_is H z) (by rw [shapeCast_id]; exact H.gq) a l

theorem outK_is : Is (outK (inp X0 X1 X2 X3 X4 X5 X6) X1 X5) A.dk := fun a l =>
  nbwdv_is (x := extf .f32 X1 bitsLt_bf16_f32) H.k (allK_is H) (by rw [shapeCast_id]; exact H.gk) a l

theorem outV_is : Is (outV (inp X0 X1 X2 X3 X4 X5 X6)) A.dv := fun a l => allV_is H a l

theorem outGq_apply (z : FVec Ideal S2048x128 .f32) (old : FVec Ideal S1x128 .f32) (u : Fin 1) (l : Fin 128) :
    outGq (inp X0 X1 X2 X3 X4 X5 X6) X0 z old (ix2 u l) = old (ix2 u l) + ((A.dgq l.val : ℝ) : EReal) := by
  unfold outGq
  rw [addf_apply, shapeCast_id, dgv_apply (x := extf .f32 X0 bitsLt_bf16_f32) H.q (allQ_is H z)]
  rfl

theorem outGk_apply (old : FVec Ideal S1x128 .f32) (u : Fin 1) (l : Fin 128) :
    outGk (inp X0 X1 X2 X3 X4 X5 X6) X1 old (ix2 u l) = old (ix2 u l) + ((A.dgk l.val : ℝ) : EReal) := by
  unfold outGk
  rw [addf_apply, shapeCast_id, dgv_apply (x := extf .f32 X1 bitsLt_bf16_f32) H.k (allK_is H)]
  rfl

end AttK
-- ==== Proof.Grid.lean ====
/-
  The kernel's six results, over the extended reals, at arguments that are real numbers.
-/
module

public import proofs.«01_k».proof.Proof.Final
public import proofs.«01_k».proof.Proof.Args
public import proofs.«01_k».proof.Proof.PointAll

@[expose] public section

noncomputable section

namespace Att

theorem rel_shift (j r k : ℕ) (h : 512 ≤ 256 * j + k) : rel (r + 512) k = rel (256 * j + r) (256 * j + k - 512) := by
  unfold rel; omega

theorem valid_shift (j r k : ℕ) (h : 512 ≤ 256 * j + k) : Valid (r + 512) k ↔ Valid (256 * j + r) (256 * j + k - 512) := by
  unfold Valid; omega

theorem Seq.db_loc (A : Seq) (p t r k : ℕ) : (A.loc p).db t r k = A.db (2 * p + t) r k := by
  unfold Seq.db; simp only [Seq.ds_loc]

end Att

namespace AttK

open Idealize.ShloMosaic hiding ix0 ix1 ix2 ix3 ix4 ix5
open Idealize.ShloMosaic.ValueIdx Idealize.ShloMosaic.TcCoe Cert.KernelIdeal Cert.KernelIdeal.Gen
open scoped BigOperators
open Finset (range)

variable {m : (ℓ : Loc nD τ sig) → Buf (Elt Ideal) ℓ} {c : Dev nD} {D : Att.Arr}
variable (R : Reads D (m ((c : Thread nD τ).loc main_arg0)) (m ((c : Thread nD τ).loc main_arg1)) (m ((c : Thread nD τ).loc main_arg2))
  (m ((c : Thread nD τ).loc main_arg3)) (m ((c : Thread nD τ).loc main_arg4)))

/-- What point `t` works on. -/
abbrev at_ (D : Att.Arr) (t : ℕ) : Att.Seq := (D.seq (t % 2)).loc (t / 2)

include R

theorem holds (t : Fin cfg0.N) : Holds (at_ D t.val) (bq m c t) (bk m c t) (bv m c t) (bo m c t) (bgq m c t) (bgk m c t) (bb m c t) where
  q i l := by
    rw [bq_apply]; refine (R.z _ _).trans (congrArg (fun x : ℝ => (x : EReal)) ?_)
    show D.z (2048 * (t.val % 2) + i.val) (128 * 0 + (128 * (t.val / 2) + l.val)) = D.z (2048 * (t.val % 2) + i.val) (128 * (t.val / 2) + l.val)
    congr 1; omega
  k i l := by
    rw [bk_apply]; refine (R.z _ _).trans (congrArg (fun x : ℝ => (x : EReal)) ?_)
    show D.z (2048 * (t.val % 2) + i.val) (128 * 6 + (128 * (t.val / 2) + l.val)) = D.z (2048 * (t.val % 2) + i.val) (768 + (128 * (t.val / 2) + l.val))
    congr 1
  v i l := by
    rw [bv_apply]; refine (R.z _ _).trans (congrArg (fun x : ℝ => (x : EReal)) ?_)
    show D.z (2048 * (t.val % 2) + i.val) (128 * 12 + (128 * (t.val / 2) + l.val)) = D.z (2048 * (t.val % 2) + i.val) (1536 + (128 * (t.val / 2) + l.val))
    congr 1
  o i l := by
    rw [bo_apply]; refine (R.d _ _).trans (congrArg (fun x : ℝ => (x : EReal)) ?_)
    show D.d (2048 * (t.val % 2) + i.val) (128 * 0 + (128 * (t.val / 2) + l.val)) = D.d (2048 * (t.val % 2) + i.val) (128 * (t.val / 2) + l.val)
    congr 1; omega
  gq l := by rw [bgq_apply]; exact R.gq _
  gk l := by rw [bgk_apply]; exact R.gk _
  b u j r cc _ h := by
    rw [bb_apply, hostBias_apply]
    by_cases hv : Att.Valid (r.val + 512) cc.val
    · rw [if_pos hv, if_pos ((Att.valid_shift j _ _ h).mp hv)]
      refine (R.rb _ _).trans (congrArg (fun x : ℝ => (x : EReal)) ?_)
      show D.rb (2 * (t.val / 2) + u.val) (Att.rel (r.val + 512) cc.val) = D.rb (2 * (t.val / 2) + u.val) (Att.rel (256 * j + r.val) (256 * j + cc.val - 512))
      rw [Att.rel_shift j _ _ h]
    · rw [if_neg hv, if_neg (fun h' => hv ((Att.valid_shift j _ _ h).mpr h'))]
      exact litNegInf

theorem kernel_dq (b : Fin 2) (i : Fin 2048) (p : Fin 6) (l : Fin 128) :
    ((dats m 0 c).arrAt 7 cfg0.N : FVec Ideal S4096x768 .bf16) (ix2 (grow b i) (gcol p l)) = (((D.seq b.val).dq i.val (128 * p.val + l.val) : ℝ) : EReal) := by
  have hb := b.isLt
  rw [final7]; unfold cq; rw [out_q]; unfold pin
  refine (outQ_is (holds R (pt p b)) unset i l).trans (congrArg (fun x : ℝ => (x : EReal)) ?_)
  rw [Att.Seq.dq_loc, show (pt p b).val % 2 = b.val by show (2 * p.val + b.val) % 2 = _; omega, show (pt p b).val / 2 = p.val by show (2 * p.val + b.val) / 2 = _; omega]

theorem kernel_dk (b : Fin 2) (i : Fin 2048) (p : Fin 6) (l : Fin 128) :
    ((dats m 0 c).arrAt 8 cfg0.N : FVec Ideal S4096x768 .bf16) (ix2 (grow b i) (gcol p l)) = (((D.seq b.val).dk i.val (128 * p.val + l.val) : ℝ) : EReal) := by
  have hb := b.isLt
  rw [final8]; unfold ck; rw [out_k]; unfold pin
  refine (outK_is (holds R (pt p b)) i l).trans (congrArg (fun x : ℝ => (x : EReal)) ?_)
  rw [Att.Seq.dk_loc, show (pt p b).val % 2 = b.val by show (2 * p.val + b.val) % 2 = _; omega, show (pt p b).val / 2 = p.val by show (2 * p.val + b.val) / 2 = _; omega]

theorem kernel_dv (b : Fin 2) (i : Fin 2048) (p : Fin 6) (l : Fin 128) :
    ((dats m 0 c).arrAt 9 cfg0.N : FVec Ideal S4096x768 .bf16) (ix2 (grow b i) (gcol p l)) = (((D.seq b.val).dv i.val (128 * p.val + l.val) : ℝ) : EReal) := by
  have hb := b.isLt
  rw [final9]; unfold cv; rw [out_v]; unfold pin
  refine (outV_is (holds R (pt p b)) i l).trans (congrArg (fun x : ℝ => (x : EReal)) ?_)
  rw [Att.Seq.dv_loc, show (pt p b).val % 2 = b.val by show (2 * p.val + b.val) % 2 = _; omega, show (pt p b).val / 2 = p.val by show (2 * p.val + b.val) / 2 = _; omega]

/-- The bias gradient of a head: both batch elements' contributions. -/
theorem kernel_db (p : Fin 6) (u : Fin 2) (r : Fin 256) (cc : Fin 768) :
    ((dats m 0 c).arrAt 10 cfg0.N : FVec Ideal S12x256x768 .f32)
      (ix3 ⟨2 * p.val + u.val, by have := p.isLt; have := u.isLt; omega⟩ r cc)
    = (((D.seq 0).db (2 * p.val + u.val) r.val cc.val + (D.seq 1).db (2 * p.val + u.val) r.val cc.val : ℝ) : EReal) := by
  have z : (zeroB : FVec Ideal S2x256x768 .f32) (ix3 u r cc) = ((0 : ℝ) : EReal) := by
    unfold zeroB; rw [broadcast_apply]; exact lit0
  rw [final10]; unfold cb
  rw [out_b_odd m c (pt p 1) (by show ¬ (2 * p.val + 1) % 2 = 0; omega)]
  unfold pin
  rw [allB_apply (holds R (pt p 1))]
  have e := congrFun (out_b_even m c (pt p 0) (by show (2 * p.val + 0) % 2 = 0; omega)) (ix3 u r cc)
  refine (congrArg (· + _) (show (outsAt0 m c ((pt p 1).val - 1) (prev_lt (pt p 1))).2.2.2.1 (ix3 u r cc) = _ from e)).trans ?_
  unfold pin
  rw [allB_apply (holds R (pt p 0)), z, Att.Seq.db_loc, Att.Seq.db_loc,
    show (pt p 0).val % 2 = 0 by show (2 * p.val + 0) % 2 = 0; omega, show (pt p 0).val / 2 = p.val by show (2 * p.val + 0) / 2 = _; omega,
    show (pt p 1).val % 2 = 1 by show (2 * p.val + 1) % 2 = 1; omega, show (pt p 1).val / 2 = p.val by show (2 * p.val + 1) / 2 = _; omega,
    ← EReal.coe_add, ← EReal.coe_add, zero_add]

theorem cgq_sum (l : Fin 128) : ∀ (n : ℕ) (hn : n < cfg0.N),
    (outsAt0 m c n hn).2.2.2.2.1 (ix2 0 l) = ((∑ s ∈ range (n + 1), (at_ D s).dgq l.val : ℝ) : EReal)
  | 0, hn => by
    have z : (zeroG : FVec Ideal S1x128 .f32) (ix2 0 l) = ((0 : ℝ) : EReal) := by
      unfold zeroG; rw [broadcast_apply]; exact lit0
    refine (congrFun (out_gq_zero m c ⟨0, hn⟩ rfl) (ix2 0 l)).trans ?_
    unfold pin
    rw [outGq_apply (holds R ⟨0, hn⟩), z, ← EReal.coe_add]
    simp
  | n + 1, hn => by
    have ih := cgq_sum l n (Nat.lt_of_succ_lt hn)
    refine (congrFun (out_gq_pos m c ⟨n + 1, hn⟩ (Nat.succ_ne_zero n)) (ix2 0 l)).trans ?_
    unfold pin
    rw [outGq_apply (holds R ⟨n + 1, hn⟩), Finset.sum_range_succ _ (n + 1), EReal.coe_add]
    exact congrArg (· + _) ih

theorem cgk_sum (l : Fin 128) : ∀ (n : ℕ) (hn : n < cfg0.N),
    (outsAt0 m c n hn).2.2.2.2.2 (ix2 0 l) = ((∑ s ∈ range (n + 1), (at_ D s).dgk l.val : ℝ) : EReal)
  | 0, hn => by
    have z : (zeroG : FVec Ideal S1x128 .f32) (ix2 0 l) = ((0 : ℝ) : EReal) := by
      unfold zeroG; rw [broadcast_apply]; exact lit0
    refine (congrFun (out_gk_zero m c ⟨0, hn⟩ rfl) (ix2 0 l)).trans ?_
    unfold pin
    rw [outGk_apply (holds R ⟨0, hn⟩), z, ← EReal.coe_add]
    simp
  | n + 1, hn => by
    have ih := cgk_sum l n (Nat.lt_of_succ_lt hn)
    refine (congrFun (out_gk_pos m c ⟨n + 1, hn⟩ (Nat.succ_ne_zero n)) (ix2 0 l)).trans ?_
    unfold pin
    rw [outGk_apply (holds R ⟨n + 1, hn⟩), Finset.sum_range_succ _ (n + 1), EReal.coe_add]
    exact congrArg (· + _) ih

theorem kernel_dgq (l : Fin 128) : ((dats m 0 c).arrAt 11 cfg0.N : FVec Ideal S1x128 .f32) (ix2 0 l)
    = ((∑ p ∈ range 6, ((D.seq 0).dgq (128 * p + l.val) + (D.seq 1).dgq (128 * p + l.val)) : ℝ) : EReal) := by
  rw [final11]
  refine (cgq_sum R l 11 _).trans (congrArg (fun x : ℝ => (x : EReal)) ?_)
  simp only [Finset.sum_range_succ, Finset.sum_range_zero, Att.Seq.dgq_loc]
  norm_num
  ring

theorem kernel_dgk (l : Fin 128) : ((dats m 0 c).arrAt 12 cfg0.N : FVec Ideal S1x128 .f32) (ix2 0 l)
    = ((∑ p ∈ range 6, ((D.seq 0).dgk (128 * p + l.val) + (D.seq 1).dgk (128 * p + l.val)) : ℝ) : EReal) := by
  rw [final12]
  refine (cgk_sum R l 11 _).trans (congrArg (fun x : ℝ => (x : EReal)) ?_)
  simp only [Finset.sum_range_succ, Finset.sum_range_zero, Att.Seq.dgk_loc]
  norm_num
  ring

end AttK
-- ==== Proof.RefNorm.lean ====
/-
  The reference's forward lines up to the normalised queries and keys.
-/
module

public import proofs.«01_k».proof.Proof.RefBase
public import proofs.«01_k».proof.Proof.NormRead

@[expose] public section

noncomputable section

namespace Att

theorem gsum_head (f : ℕ → ℝ) (h d : ℕ) (hd : d < 64) : gsum f (64 * h + d) = gsum f (64 * h) := by
  unfold gsum; rw [show (64 * h + d) / 64 = 64 * h / 64 by omega]
theorem rr_head (x : ℕ → ℝ) (h d : ℕ) (hd : d < 64) : rr x (64 * h + d) = rr x (64 * h) := by
  unfold rr; rw [gsum_head _ h d hd]

/-- The mean square that the normalisation takes the root of. -/
def marg (x : ℕ → ℝ) (c : ℕ) : ℝ := gsum (fun e => x e * x e) c * (1 / 64) + eps

theorem marg_pos (x : ℕ → ℝ) (c : ℕ) : 0 < marg x c := arg_pos x c

end Att

namespace AttR

open Idealize.ShloMosaic hiding ix0 ix1 ix2 ix3 ix4 ix5
open Idealize.ShloMosaic.ValueIdx Cert.ReferenceIdeal Cert.ReferenceIdeal.Gen Cert.ReferenceIdeal.Read
open scoped BigOperators
open Finset (range)
open Att (gsum rr xhat nrm nbwd marg)

variable {D : Att.Arr} {x0 : FVec Ideal S4096x2560 .bf16} {x1 : FVec Ideal S4096x1024 .bf16} {x2 x3 : FVec Ideal S1x64 .f32} {x4 : FVec Ideal S12x192 .f32}
variable (R : AttK.Reads D x0 x1 x2 x3 x4)

section
include R

theorem r0 : Re (s := S4096x2560) (val_main_v0 (F := Ideal) x0) (fun i => D.z (i 0).val (i 1).val) := fun i => by
  show x0 i = _; rw [show i = ix2 (i 0) (i 1) from funext fun a => by match a with | ⟨0, _⟩ => rfl | ⟨1, _⟩ => rfl]; exact R.z _ _
theorem r4 : Re (s := S4096x1024) (val_main_v4 (F := Ideal) x1) (fun i => D.d (i 0).val (i 1).val) := fun i => by
  show x1 i = _; rw [show i = ix2 (i 0) (i 1) from funext fun a => by match a with | ⟨0, _⟩ => rfl | ⟨1, _⟩ => rfl]; exact R.d _ _
theorem r1 : Re (s := S4096x768) (val_main_v1 (F := Ideal) x0) (fun i => D.z (i 0).val (i 1).val) := (r0 R).lay (idx := idx_main_v1) (val_main_v1_apply (F := Ideal) x0) fun _ => rfl
theorem r2 : Re (s := S4096x768) (val_main_v2 (F := Ideal) x0) (fun i => D.z (i 0).val (768 + (i 1).val)) := (r0 R).lay (idx := idx_main_v2) (val_main_v2_apply (F := Ideal) x0) fun _ => rfl
theorem r3 : Re (s := S4096x768) (val_main_v3 (F := Ideal) x0) (fun i => D.z (i 0).val (1536 + (i 1).val)) := (r0 R).lay (idx := idx_main_v3) (val_main_v3_apply (F := Ideal) x0) fun _ => rfl
theorem r5 : Re (s := S4096x768) (val_main_v5 (F := Ideal) x1) (fun i => D.d (i 0).val (i 1).val) := (r4 R).lay (idx := idx_main_v5) (val_main_v5_apply (F := Ideal) x1) fun _ => rfl

/-! ## The gains, one row for each head -/

theorem r15 : Re (s := S1x128) (val_main_v15 (F := Ideal) x2) (fun i => D.gq ((i 1).val % 64)) := fun i => by
  rw [show i = ix2 0 (i 1) from funext fun a => by match a with | ⟨0, _⟩ => exact Fin.ext (Nat.lt_one_iff.mp (i 0).isLt) | ⟨1, _⟩ => rfl]
  exact (AttK.twice_apply x2 concatenates_S1x64_S1x64_S1x128_d1 (i 1)).trans (R.gq _)
theorem r17 : Re (s := S1x2x64) (val_main_v17 (F := Ideal) x2) (fun i => D.gq (i 2).val) := (r15 R).lay (idx := idx_main_v17) (val_main_v17_apply (F := Ideal) x2)
  (fun i => by have h0 : (i 0).val < 1 := (i 0).isLt; have h1 : (i 1).val < 2 := (i 1).isLt; have h2 : (i 2).val < 64 := (i 2).isLt
               show D.gq ((((i 0).val * 2 + (i 1).val) * 64 + (i 2).val) % 128 % 64) = D.gq (i 2).val
               congr 1; omega)
theorem r18 : Re (s := S6x2x64) (val_main_v18 (F := Ideal) x2) (fun i => D.gq (i 2).val) := (r17 R).lay (idx := idx_main_v18) (val_main_v18_apply (F := Ideal) x2) fun _ => rfl
theorem r19 : Re (s := S12x64) (val_main_v19 (F := Ideal) x2) (fun i => D.gq (i 1).val) := (r18 R).lay (idx := idx_main_v19) (val_main_v19_apply (F := Ideal) x2)
  (fun i => by have h0 : (i 0).val < 12 := (i 0).isLt; have h1 : (i 1).val < 64 := (i 1).isLt
               show D.gq (((i 0).val * 64 + (i 1).val) % 64) = D.gq (i 1).val
               congr 1; omega)

theorem r16 : Re (s := S1x128) (val_main_v16 (F := Ideal) x3) (fun i => D.gk ((i 1).val % 64)) := fun i => by
  rw [show i = ix2 0 (i 1) from funext fun a => by match a with | ⟨0, _⟩ => exact Fin.ext (Nat.lt_one_iff.mp (i 0).isLt) | ⟨1, _⟩ => rfl]
  exact (AttK.twice_apply x3 concatenates_S1x64_S1x64_S1x128_d1 (i 1)).trans (R.gk _)
theorem r20 : Re (s := S1x2x64) (val_main_v20 (F := Ideal) x3) (fun i => D.gk (i 2).val) := (r16 R).lay (idx := idx_main_v20) (val_main_v20_apply (F := Ideal) x3)
  (fun i => by have h0 : (i 0).val < 1 := (i 0).isLt; have h1 : (i 1).val < 2 := (i 1).isLt; have h2 : (i 2).val < 64 := (i 2).isLt
               show D.gk ((((i 0).val * 2 + (i 1).val) * 64 + (i 2).val) % 128 % 64) = D.gk (i 2).val
               congr 1; omega)
theorem r21 : Re (s := S6x2x64) (val_main_v21 (F := Ideal) x3) (fun i => D.gk (i 2).val) := (r20 R).lay (idx := idx_main_v21) (val_main_v21_apply (F := Ideal) x3) fun _ => rfl
theorem r22 : Re (s := S12x64) (val_main_v22 (F := Ideal) x3) (fun i => D.gk (i 1).val) := (r21 R).lay (idx := idx_main_v22) (val_main_v22_apply (F := Ideal) x3)
  (fun i => by have h0 : (i 0).val < 12 := (i 0).isLt; have h1 : (i 1).val < 64 := (i 1).isLt
               show D.gk (((i 0).val * 64 + (i 1).val) % 64) = D.gk (i 1).val
               congr 1; omega)

/-! ## The normalised queries -/

theorem r23 : Re (s := S4096x12x64) (val_main_v23 (F := Ideal) x0) (fun i => (D.z (i 0).val) (64 * (i 1).val + (i 2).val)) :=
  (r1 R).lay (idx := idx_main_v23) (val_main_v23_apply (F := Ideal) x0) (fun i => by have h0 : (i 0).val < 4096 := (i 0).isLt; have h1 : (i 1).val < 12 := (i 1).isLt; have h2 : (i 2).val < 64 := (i 2).isLt; show D.z ((((i 0).val * 12 + (i 1).val) * 64 + (i 2).val) / 768) (((((i 0).val * 12 + (i 1).val) * 64 + (i 2).val) % 768)) = D.z ((i 0).val) ((64 * (i 1).val + (i 2).val)); rw [show (((i 0).val * 12 + (i 1).val) * 64 + (i 2).val) / 768 = (i 0).val by omega, show (((i 0).val * 12 + (i 1).val) * 64 + (i 2).val) % 768 = 64 * (i 1).val + (i 2).val by omega])
theorem r25 : Re (s := S4096x12) (val_main_v25 (F := Ideal) x0) (fun i => gsum (fun e => (D.z (i 0).val) e * (D.z (i 0).val) e) (64 * (i 1).val)) :=
  (((r23 R).mul (r23 R)).sum (idx := idx_main_v25) (val_main_v25_apply x0) AttK.lit0 fun i k => rfl).to fun i => by
    show _ = gsum _ _
    unfold gsum
    rw [show 64 * (i 1).val / 64 = (i 1).val by omega]
theorem r26 : Re (s := S4096x12x1) (val_main_v26 (F := Ideal) x0) (fun i => gsum (fun e => (D.z (i 0).val) e * (D.z (i 0).val) e) (64 * (i 1).val)) :=
  (r25 R).lay (idx := idx_main_v26) (val_main_v26_apply (F := Ideal) x0) fun _ => rfl
omit R in
theorem r27 : Re (s := S4096x12x1) (val_main_v27 (F := Ideal)) (fun _ => 64) := fun _ => lit64'
omit R in
theorem r29 : Re (s := S4096x12x1) (val_main_v29 (F := Ideal)) (fun _ => Att.eps) := fun _ => AttK.litEps
omit R in
theorem r33 : Re (s := S4096x12x1) (val_main_v33 (F := Ideal)) (fun _ => -(1 / 2)) := fun _ => litHalf
theorem r30 : Re (s := S4096x12x1) (val_main_v30 (F := Ideal) x0) (fun i => marg (D.z (i 0).val) (64 * (i 1).val)) :=
  ((r26 R).div r27 (fun _ => by norm_num)).add r29
theorem r31 : Re (s := S4096x12x1) (val_main_v31 (F := Ideal) x0) (fun i => rr (D.z (i 0).val) (64 * (i 1).val)) :=
  Re.to ((r30 R).rsqrt fun _ => Att.marg_pos _ _) fun _ => rfl
theorem r34 : Re (s := S4096x12x1) (val_main_v34 (F := Ideal) x0)
    (fun i => -(1 / 2) * (rr (D.z (i 0).val) (64 * (i 1).val) * (1 / marg (D.z (i 0).val) (64 * (i 1).val)))) :=
  r33.mul ((r31 R).div (r30 R) fun _ => (Att.marg_pos _ _).ne')
theorem r35 : Re (s := S4096x12x64) (val_main_v35 (F := Ideal) x0) (fun i => rr (D.z (i 0).val) (64 * (i 1).val)) :=
  (r31 R).lay (idx := idx_main_v35) (val_main_v35_apply (F := Ideal) x0) fun _ => rfl
theorem r36 : Re (s := S4096x12x64) (val_main_v36 (F := Ideal) x0) (fun i => xhat (D.z (i 0).val) (64 * (i 1).val + (i 2).val)) :=
  ((r23 R).mul (r35 R)).to fun i => by
    have h2 : (i 2).val < 64 := (i 2).isLt
    unfold xhat; rw [Att.rr_head _ _ _ h2]
theorem r37 : Re (s := S1x12x64) (val_main_v37 (F := Ideal) x2) (fun i => D.gq (i 2).val) := (r19 R).lay (idx := idx_main_v37) (val_main_v37_apply (F := Ideal) x2) fun _ => rfl
theorem r38 : Re (s := S4096x12x64) (val_main_v38 (F := Ideal) x2) (fun i => D.gq (i 2).val) := (r37 R).lay (idx := idx_main_v38) (val_main_v38_apply (F := Ideal) x2) fun _ => rfl
theorem r39 : Re (s := S4096x12x64) (val_main_v39 (F := Ideal) x0 x2) (fun i => nrm D.gq (D.z (i 0).val) (64 * (i 1).val + (i 2).val)) :=
  ((r36 R).mul (r38 R)).to fun i => by
    have h2 : (i 2).val < 64 := (i 2).isLt
    unfold nrm; rw [show (64 * (i 1).val + (i 2).val) % 64 = (i 2).val by omega]
theorem r40 : Re (s := S2x2048x12x64) (val_main_v40 (F := Ideal) x0 x2) (fun i => (D.seq (i 0).val).qn (i 1).val (64 * (i 2).val + (i 3).val)) :=
  (r39 R).lay (idx := idx_main_v40) (val_main_v40_apply (F := Ideal) x0 x2) (fun i => by have h0 : (i 0).val < 2 := (i 0).isLt; have h1 : (i 1).val < 2048 := (i 1).isLt; have h2 : (i 2).val < 12 := (i 2).isLt; have h3 : (i 3).val < 64 := (i 3).isLt; show nrm D.gq (D.z (((((i 0).val * 2048 + (i 1).val) * 12 + (i 2).val) * 64 + (i 3).val) / 768)) (64 * (((((i 0).val * 2048 + (i 1).val) * 12 + (i 2).val) * 64 + (i 3).val) / 64 % 12) + (((((i 0).val * 2048 + (i 1).val) * 12 + (i 2).val) * 64 + (i 3).val) % 64)) = nrm D.gq (D.z (2048 * (i 0).val + (i 1).val)) (64 * (i 2).val + (i 3).val); rw [show ((((i 0).val * 2048 + (i 1).val) * 12 + (i 2).val) * 64 + (i 3).val) / 768 = 2048 * (i 0).val + (i 1).val by omega, show ((((i 0).val * 2048 + (i 1).val) * 12 + (i 2).val) * 64 + (i 3).val) / 64 % 12 = (i 2).val by omega, show ((((i 0).val * 2048 + (i 1).val) * 12 + (i 2).val) * 64 + (i 3).val) % 64 = (i 3).val by omega])

/-! ## The normalised keys -/

theorem r41 : Re (s := S4096x12x64) (val_main_v41 (F := Ideal) x0) (fun i => (fun e => D.z (i 0).val (768 + e)) (64 * (i 1).val + (i 2).val)) :=
  (r2 R).lay (idx := idx_main_v41) (val_main_v41_apply (F := Ideal) x0) (fun i => by have h0 : (i 0).val < 4096 := (i 0).isLt; have h1 : (i 1).val < 12 := (i 1).isLt; have h2 : (i 2).val < 64 := (i 2).isLt; show D.z ((((i 0).val * 12 + (i 1).val) * 64 + (i 2).val) / 768) (768 + ((((i 0).val * 12 + (i 1).val) * 64 + (i 2).val) % 768)) = D.z ((i 0).val) (768 + (64 * (i 1).val + (i 2).val)); rw [show (((i 0).val * 12 + (i 1).val) * 64 + (i 2).val) / 768 = (i 0).val by omega, show (((i 0).val * 12 + (i 1).val) * 64 + (i 2).val) % 768 = 64 * (i 1).val + (i 2).val by omega])
theorem r43 : Re (s := S4096x12) (val_main_v43 (F := Ideal) x0) (fun i => gsum (fun e => (fun e => D.z (i 0).val (768 + e)) e * (fun e => D.z (i 0).val (768 + e)) e) (64 * (i 1).val)) :=
  (((r41 R).mul (r41 R)).sum (idx := idx_main_v43) (val_main_v43_apply x0) AttK.lit0 fun i k => rfl).to fun i => by
    show _ = gsum _ _
    unfold gsum
    rw [show 64 * (i 1).val / 64 = (i 1).val by omega]
theorem r44 : Re (s := S4096x12x1) (val_main_v44 (F := Ideal) x0) (fun i => gsum (fun e => (fun e => D.z (i 0).val (768 + e)) e * (fun e => D.z (i 0).val (768 + e)) e) (64 * (i 1).val)) :=
  (r43 R).lay (idx := idx_main_v44) (val_main_v44_apply (F := Ideal) x0) fun _ => rfl
omit R in
theorem r45 : Re (s := S4096x12x1) (val_main_v45 (F := Ideal)) (fun _ => 64) := fun _ => lit64'
omit R in
theorem r47 : Re (s := S4096x12x1) (val_main_v47 (F := Ideal)) (fun _ => Att.eps) := fun _ => AttK.litEps
omit R in
theorem r51 : Re (s := S4096x12x1) (val_main_v51 (F := Ideal)) (fun _ => -(1 / 2)) := fun _ => litHalf
theorem r48 : Re (s := S4096x12x1) (val_main_v48 (F := Ideal) x0) (fun i => marg (fun e => D.z (i 0).val (768 + e)) (64 * (i 1).val)) :=
  ((r44 R).div r45 (fun _ => by norm_num)).add r47
theorem r49 : Re (s := S4096x12x1) (val_main_v49 (F := Ideal) x0) (fun i => rr (fun e => D.z (i 0).val (768 + e)) (64 * (i 1).val)) :=
  Re.to ((r48 R).rsqrt fun _ => Att.marg_pos _ _) fun _ => rfl
theorem r52 : Re (s := S4096x12x1) (val_main_v52 (F := Ideal) x0)
    (fun i => -(1 / 2) * (rr (fun e => D.z (i 0).val (768 + e)) (64 * (i 1).val) * (1 / marg (fun e => D.z (i 0).val (768 + e)) (64 * (i 1).val)))) :=
  r51.mul ((r49 R).div (r48 R) fun _ => (Att.marg_pos _ _).ne')
theorem r53 : Re (s := S4096x12x64) (val_main_v53 (F := Ideal) x0) (fun i => rr (fun e => D.z (i 0).val (768 + e)) (64 * (i 1).val)) :=
  (r49 R).lay (idx := idx_main_v53) (val_main_v53_apply (F := Ideal) x0) fun _ => rfl
theorem r54 : Re (s := S4096x12x64) (val_main_v54 (F := Ideal) x0) (fun i => xhat (fun e => D.z (i 0).val (768 + e)) (64 * (i 1).val + (i 2).val)) :=
  ((r41 R).mul (r53 R)).to fun i => by
    have h2 : (i 2).val < 64 := (i 2).isLt
    unfold xhat; rw [Att.rr_head _ _ _ h2]
theorem r55 : Re (s := S1x12x64) (val_main_v55 (F := Ideal) x3) (fun i => D.gk (i 2).val) := (r22 R).lay (idx := idx_main_v55) (val_main_v55_apply (F := Ideal) x3) fun _ => rfl
theorem r56 : Re (s := S4096x12x64) (val_main_v56 (F := Ideal) x3) (fun i => D.gk (i 2).val) := (r55 R).lay (idx := idx_main_v56) (val_main_v56_apply (F := Ideal) x3) fun _ => rfl
theorem r57 : Re (s := S4096x12x64) (val_main_v57 (F := Ideal) x0 x3) (fun i => nrm D.gk (fun e => D.z (i 0).val (768 + e)) (64 * (i 1).val + (i 2).val)) :=
  ((r54 R).mul (r56 R)).to fun i => by
    have h2 : (i 2).val < 64 := (i 2).isLt
    unfold nrm; rw [show (64 * (i 1).val + (i 2).val) % 64 = (i 2).val by omega]
theorem r58 : Re (s := S2x2048x12x64) (val_main_v58 (F := Ideal) x0 x3) (fun i => (D.seq (i 0).val).kn (i 1).val (64 * (i 2).val + (i 3).val)) :=
  (r57 R).lay (idx := idx_main_v58) (val_main_v58_apply (F := Ideal) x0 x3) (fun i => by have h0 : (i 0).val < 2 := (i 0).isLt; have h1 : (i 1).val < 2048 := (i 1).isLt; have h2 : (i 2).val < 12 := (i 2).isLt; have h3 : (i 3).val < 64 := (i 3).isLt; show nrm D.gk (fun e => D.z (((((i 0).val * 2048 + (i 1).val) * 12 + (i 2).val) * 64 + (i 3).val) / 768) (768 + e)) (64 * (((((i 0).val * 2048 + (i 1).val) * 12 + (i 2).val) * 64 + (i 3).val) / 64 % 12) + (((((i 0).val * 2048 + (i 1).val) * 12 + (i 2).val) * 64 + (i 3).val) % 64)) = nrm D.gk (fun e => D.z (2048 * (i 0).val + (i 1).val) (768 + e)) (64 * (i 2).val + (i 3).val); rw [show ((((i 0).val * 2048 + (i 1).val) * 12 + (i 2).val) * 64 + (i 3).val) / 768 = 2048 * (i 0).val + (i 1).val by omega, show ((((i 0).val * 2048 + (i 1).val) * 12 + (i 2).val) * 64 + (i 3).val) / 64 % 12 = (i 2).val by omega, show ((((i 0).val * 2048 + (i 1).val) * 12 + (i 2).val) * 64 + (i 3).val) % 64 = (i 3).val by omega])

end

end AttR
-- ==== Proof.RefAttn.lean ====
/-
  The reference's attention and its gradient: scores, probabilities, and the cotangents of the values and of the normalised
  queries and keys.
-/
module

public import proofs.«01_k».proof.Proof.RefNorm
public import proofs.«01_k».proof.Proof.Prep
public import Idealize.ShloMosaic.Lib.Pointwise

@[expose] public section

noncomputable section

namespace Att.Seq

variable (A : Att.Seq)

/-- The softmax's gradient with every weight scaled by a common positive factor `W`, written without probabilities. -/
theorem ds_scaled (h i k : ℕ) (hi : i < 2048) (W : ℝ) (hW : 0 < W) :
    (A.dp h i k * (1 / (A.tot h i * W)) + -∑ k' ∈ Finset.range 2048,
      A.dp h i k' * (1 * (1 / (A.tot h i * W * (A.tot h i * W)))) * (A.wt h i k' * W)) * (A.wt h i k * W) = A.ds h i k := by
  have ht := (A.tot_pos h i hi).ne'
  have hw := hW.ne'
  have e : ∑ k' ∈ Finset.range 2048, A.dp h i k' * (1 * (1 / (A.tot h i * W * (A.tot h i * W)))) * (A.wt h i k' * W)
      = (∑ k' ∈ Finset.range 2048, A.pr h i k' * A.dp h i k') * (1 / (A.tot h i * W)) := by
    rw [Finset.sum_mul]
    refine Finset.sum_congr rfl fun k' _ => ?_
    unfold pr; field_simp
  rw [e]
  unfold ds
  generalize ∑ k' ∈ Finset.range 2048, A.pr h i k' * A.dp h i k' = S
  unfold pr; field_simp; ring

theorem pr_scaled (h i k : ℕ) (hi : i < 2048) (W : ℝ) (hW : 0 < W) :
    A.wt h i k * W * (1 / (A.tot h i * W)) = A.pr h i k := by
  have ht := (A.tot_pos h i hi).ne'
  have hw := hW.ne'
  unfold pr; field_simp

end Att.Seq

namespace AttR

open Idealize.ShloMosaic hiding ix0 ix1 ix2 ix3 ix4 ix5
open Idealize.ShloMosaic.ValueIdx Cert.ReferenceIdeal Cert.ReferenceIdeal.Gen Cert.ReferenceIdeal.Read
open scoped BigOperators
open Finset (range)
open Att (gsum rr xhat nrm nbwd marg)

variable {D : Att.Arr} {x0 : FVec Ideal S4096x2560 .bf16} {x1 : FVec Ideal S4096x1024 .bf16} {x2 x3 : FVec Ideal S1x64 .f32} {x4 : FVec Ideal S12x192 .f32}

/-! ## The band -/

theorem band (i : S2048x2048.Idx) : val_main_v77 (F := Ideal) i = if Att.Valid (i 0).val (i 1).val then 1#1 else 0#1 := by
  have h0 : (i 0).val < 2048 := (i 0).isLt
  have h1 : (i 1).val < 2048 := (i 1).isLt
  have e : val_main_v66 (F := Ideal) i = IntOp.subi (IntOp.divsi .host (BitVec.ofNat 32 (i 0).val) 64#32) (IntOp.divsi .host (BitVec.ofNat 32 (i 1).val) 64#32) := rfl
  show AttK.bandw (val_main_v66 (F := Ideal) i) = _
  refine AttK.bandw_eq _ _ ?_
  have e1 := AttK.chunk_toInt (i 0).val (by omega)
  have e2 := AttK.chunk_toInt (i 1).val (by omega)
  have e4 : (val_main_v66 (F := Ideal) i).toInt = ((i 0).val / 64 : ℕ) - ((i 1).val / 64 : ℕ) := by
    rw [e]
    show (_ - _ : BitVec 32).toInt = _
    rw [BitVec.toInt_sub, e1, e2]; simp only [Int.bmod]; split_ifs <;> omega
  rw [e4]; unfold Att.Valid; omega

theorem band4 (i : S2x12x2048x2048.Idx) : val_main_v78_1 (F := Ideal) i = if Att.Valid (i 2).val (i 3).val then 1#1 else 0#1 :=
  (val_main_v78_1_apply (F := Ideal) i).trans (band _)

variable (R : AttK.Reads D x0 x1 x2 x3 x4)

section
include R

/-! ## The bias -/

theorem r14 : Re (s := S12x2048x2048) (val_main_v14 (F := Ideal) x4) (fun i => D.rb (i 0).val (Att.rel (i 1).val (i 2).val)) := fun i => by
  have h1 : (i 1).val < 2048 := (i 1).isLt
  have h2 : (i 2).val < 2048 := (i 2).isLt
  have ei : i = ix3 (i 0) (i 1) (i 2) := funext fun a => by match a with | ⟨0, _⟩ => rfl | ⟨1, _⟩ => rfl | ⟨2, _⟩ => rfl
  rw [ei]
  unfold val_main_v14
  refine (AttK.rowsTake_apply (H := 12) (N := 192) (R := 2048) (C := 2048) (by decide) _ x4 _ (i 0) (i 1) (i 2)).trans ?_
  refine (R.rb _ _).trans ?_
  refine congrArg (fun n : ℕ => ((D.rb (i 0).val n : ℝ) : EReal)) ?_
  show min _ (192 - 1) = _
  have el := Att.rel_lt (i 1).val (i 2).val
  have ec : val_main_call1_v0 (F := Ideal) (ix3 (i 1) (i 2) ⟨0, Nat.one_pos⟩)
      = AttK.relw (IntOp.subi (BitVec.ofNat 32 (i 1).val) (BitVec.ofNat 32 (i 2).val)) := (val_main_call1_v0_apply (F := Ideal) _).trans rfl
  rw [ec]
  have er := AttK.relw_eq (IntOp.subi (BitVec.ofNat 32 (i 1).val) (BitVec.ofNat 32 (i 2).val)) (i 1).val (i 2).val (by
    show (_ - _ : BitVec 32).toInt = _
    rw [BitVec.toInt_sub, AttK.toInt_ofNat _ (by omega), AttK.toInt_ofNat _ (by omega)]; simp only [Int.bmod]; split_ifs <;> omega)
  rw [er]
  exact min_eq_left (Nat.le_of_lt_succ el)

theorem r70 : Re (s := S1x12x2048x2048) (val_main_v70 (F := Ideal) x4) (fun i => D.rb (i 1).val (Att.rel (i 2).val (i 3).val)) :=
  (r14 R).lay (idx := idx_main_v70) (val_main_v70_apply (F := Ideal) x4) fun _ => rfl
theorem r71 : Re (s := S2x12x2048x2048) (val_main_v71 (F := Ideal) x4) (fun i => D.rb (i 1).val (Att.rel (i 2).val (i 3).val)) :=
  (r70 R).lay (idx := idx_main_v71) (val_main_v71_apply (F := Ideal) x4) fun _ => rfl

/-! ## The scores -/

theorem r67 : Re (s := S2x12x2048x2048) (val_main_v67 (F := Ideal) x0 x2 x3)
    (fun i => ∑ d ∈ range 64, (D.seq (i 0).val).qn (i 2).val (64 * (i 1).val + d) * (D.seq (i 0).val).kn (i 3).val (64 * (i 1).val + d)) :=
  (r40 R).dot (r58 R) (lidx := lidx_main_v67) (ridx := ridx_main_v67) (val_main_v67_apply x0 x2 x3) fun i k => rfl
omit R in
theorem r68 : Re (s := S2x12x2048x2048) (val_main_v68 (F := Ideal)) (fun _ => 1 / 8) := fun _ => AttK.lit8
theorem r72 : Re (s := S2x12x2048x2048) (val_main_v72 (F := Ideal) x0 x2 x3 x4) (fun i => (D.seq (i 0).val).sc (i 1).val (i 2).val (i 3).val) :=
  (((r67 R).mul r68).add (r71 R)).to fun _ => rfl

theorem v78 (i : S2x12x2048x2048.Idx) : val_main_v78_0 (F := Ideal) x0 x2 x3 x4 i
    = if Att.Valid (i 2).val (i 3).val then (((D.seq (i 0).val).sc (i 1).val (i 2).val (i 3).val : ℝ) : EReal) else ⊥ := by
  rw [val_main_v78_0_apply, band4]
  split_ifs with hv
  · exact (if_pos rfl).trans (r72 R i)
  · exact (if_neg (by decide)).trans ((val_main_call2_v2_apply (F := Ideal) i).trans AttK.litNegInf)

omit R in
theorem v79_sup (j : S2x12x2048.Idx) : val_main_v79 (F := Ideal) x0 x2 x3 x4 j
    = (Finset.univ : Finset (Fin 2048)).sup (fun k => (val_main_v78_0 (F := Ideal) x0 x2 x3 x4 (idx_main_v100 j k) : EReal)) := by
  unfold val_main_v79
  refine (Host.reduce_eq_fold (max : EReal → EReal → EReal) _ _ _ _ j).trans ?_
  refine (Shape.ReducesTo.fold_fiber_r4_a3 (n0 := 2) (n1 := 12) (n2 := 2048) (n3 := 2048) reducesTo_S2x12x2048x2048_S2x12x2048_d3 j (max : EReal → EReal → EReal) _ _).trans ?_
  have e : ∀ k : Fin 2048, (ix4 (j 0) (j 1) (j 2) k : S2x12x2048x2048.Idx) = idx_main_v100 j k := fun k =>
    funext fun a => by match a with | ⟨0, _⟩ => rfl | ⟨1, _⟩ => rfl | ⟨2, _⟩ => rfl | ⟨3, _⟩ => rfl
  have l : (val_main_cst_16 (F := Ideal)) (Shape.Idx.first h_S_) = (⊥ : EReal) := AttK.litNegInf
  rw [l]
  refine (congrArg (fun g : Fin 2048 → EReal => (Finset.univ : Finset (Fin 2048)).fold max ⊥ g) (funext fun k =>
    congrArg (val_main_v78_0 (F := Ideal) x0 x2 x3 x4) (e k))).trans rfl

theorem v79_real (j : S2x12x2048.Idx) : ∃ M : ℝ, val_main_v79 (F := Ideal) x0 x2 x3 x4 j = ((M : ℝ) : EReal) := by
  have h2 : (j 2).val < 2048 := (j 2).isLt
  refine ⟨(val_main_v79 (F := Ideal) x0 x2 x3 x4 j).toReal, (EReal.coe_toReal ?_ ?_).symm⟩
  · rw [v79_sup]
    refine ne_of_lt ((Finset.sup_lt_iff bot_lt_top).2 fun k _ => ?_)
    rw [v78 R]; split_ifs
    · exact EReal.coe_lt_top _
    · exact bot_lt_top
  · rw [v79_sup]
    refine ne_of_gt (lt_of_lt_of_le ?_ (Finset.le_sup (f := fun k : Fin 2048 => (val_main_v78_0 (F := Ideal) x0 x2 x3 x4 (idx_main_v100 j k) : EReal))
      (Finset.mem_univ (⟨(j 2).val, h2⟩ : Fin 2048))))
    rw [v78 R, if_pos (Att.Seq.valid_self _)]
    exact EReal.bot_lt_coe _

/-- The weights, up to a common positive factor of the row. -/
theorem r99 : ∃ W : ℕ → ℕ → ℕ → ℝ, (∀ b h q, 0 < W b h q) ∧ Re (s := S2x12x2048x2048) (val_main_v99 (F := Ideal) x0 x2 x3 x4)
    (fun i => (D.seq (i 0).val).wt (i 1).val (i 2).val (i 3).val * W (i 0).val (i 1).val (i 2).val) := by
  choose M hM using v79_real R
  let J (b h q : ℕ) : S2x12x2048.Idx := ix3 (⟨b % 2, Nat.mod_lt _ (by decide)⟩ : Fin 2) (⟨h % 12, Nat.mod_lt _ (by decide)⟩ : Fin 12) (⟨q % 2048, Nat.mod_lt _ (by decide)⟩ : Fin 2048)
  refine ⟨fun b h q => Real.exp (-M (J b h q)), fun _ _ _ => Real.exp_pos _, fun i => ?_⟩
  have h0 : (i 0).val < 2 := (i 0).isLt
  have h1 : (i 1).val < 12 := (i 1).isLt
  have h2 : (i 2).val < 2048 := (i 2).isLt
  have eJ : idx_main_v96 (idx_main_v97 i) = J (i 0).val (i 1).val (i 2).val := funext fun a => by
    match a with
    | ⟨0, _⟩ => exact Fin.ext (Nat.mod_eq_of_lt h0).symm
    | ⟨1, _⟩ => exact Fin.ext (Nat.mod_eq_of_lt h1).symm
    | ⟨2, _⟩ => exact Fin.ext (Nat.mod_eq_of_lt h2).symm
  have em : val_main_v97 (F := Ideal) x0 x2 x3 x4 i = ((M (J (i 0).val (i 1).val (i 2).val) : ℝ) : EReal) := by
    rw [val_main_v97_apply, val_main_v96_apply, eJ, val_main_v86_apply, val_main_v85_apply]
    show max (FloatOps.ofBits .f32 0xFF800000#32 : Ideal .f32) _ = _
    rw [AttK.litNegInf]
    exact (max_eq_right bot_le).trans (hM _)
  rw [val_main_v99_apply, val_main_v98_apply, v78 R, em]
  show Ideal.exp ((if _ then _ else _ : EReal) - _) = (((D.seq (i 0).val).wt (i 1).val (i 2).val (i 3).val * Real.exp (-M (J (i 0).val (i 1).val (i 2).val)) : ℝ) : EReal)
  unfold Att.Seq.wt
  split_ifs with hv
  · rw [← EReal.coe_sub, Ideal.exp_coe, sub_eq_add_neg, Real.exp_add]
  · rw [EReal.bot_sub]
    show (0 : EReal) = _
    rw [zero_mul, EReal.coe_zero]

/-! ## Values and cotangents -/

theorem r59 : Re (s := S2x2048x12x64) (val_main_v59 (F := Ideal) x0) (fun i => (D.seq (i 0).val).v (i 1).val (64 * (i 2).val + (i 3).val)) :=
  (r3 R).lay (idx := idx_main_v59) (val_main_v59_apply (F := Ideal) x0) (fun i => by have h0 : (i 0).val < 2 := (i 0).isLt; have h1 : (i 1).val < 2048 := (i 1).isLt; have h2 : (i 2).val < 12 := (i 2).isLt; have h3 : (i 3).val < 64 := (i 3).isLt; show D.z (((((i 0).val * 2048 + (i 1).val) * 12 + (i 2).val) * 64 + (i 3).val) / 768) (1536 + (((((i 0).val * 2048 + (i 1).val) * 12 + (i 2).val) * 64 + (i 3).val) % 768)) = D.z (2048 * (i 0).val + (i 1).val) (1536 + (64 * (i 2).val + (i 3).val)); rw [show ((((i 0).val * 2048 + (i 1).val) * 12 + (i 2).val) * 64 + (i 3).val) / 768 = 2048 * (i 0).val + (i 1).val by omega, show ((((i 0).val * 2048 + (i 1).val) * 12 + (i 2).val) * 64 + (i 3).val) % 768 = 64 * (i 2).val + (i 3).val by omega])
theorem r110 : Re (s := S2x2048x12x64) (val_main_v110 (F := Ideal) x1) (fun i => (D.seq (i 0).val).o (i 1).val (64 * (i 2).val + (i 3).val)) :=
  (r5 R).lay (idx := idx_main_v110) (val_main_v110_apply (F := Ideal) x1) (fun i => by have h0 : (i 0).val < 2 := (i 0).isLt; have h1 : (i 1).val < 2048 := (i 1).isLt; have h2 : (i 2).val < 12 := (i 2).isLt; have h3 : (i 3).val < 64 := (i 3).isLt; show D.d (((((i 0).val * 2048 + (i 1).val) * 12 + (i 2).val) * 64 + (i 3).val) / 768) (((((i 0).val * 2048 + (i 1).val) * 12 + (i 2).val) * 64 + (i 3).val) % 768) = D.d (2048 * (i 0).val + (i 1).val) (64 * (i 2).val + (i 3).val); rw [show ((((i 0).val * 2048 + (i 1).val) * 12 + (i 2).val) * 64 + (i 3).val) / 768 = 2048 * (i 0).val + (i 1).val by omega, show ((((i 0).val * 2048 + (i 1).val) * 12 + (i 2).val) * 64 + (i 3).val) % 768 = 64 * (i 2).val + (i 3).val by omega])
theorem r111 : Re (s := S2x12x64x2048) (val_main_v111 (F := Ideal) x1) (fun i => (D.seq (i 0).val).o (i 3).val (64 * (i 1).val + (i 2).val)) :=
  (r110 R).lay (idx := idx_main_v111) (val_main_v111_apply (F := Ideal) x1) fun _ => rfl
theorem r112 : Re (s := S2x12x2048x2048) (val_main_v112 (F := Ideal) x0 x1) (fun i => (D.seq (i 0).val).dp (i 1).val (i 2).val (i 3).val) :=
  ((r111 R).dot (r59 R) (lidx := lidx_main_v112) (ridx := ridx_main_v112) (val_main_v112_apply x0 x1) fun i k => rfl).to fun _ => rfl

/-! ## The softmax and its gradient -/

section weights

variable {W : ℕ → ℕ → ℕ → ℝ} (hW : ∀ b h q, 0 < W b h q) (r99 : Re (s := S2x12x2048x2048) (val_main_v99 (F := Ideal) x0 x2 x3 x4)
    (fun i => (D.seq (i 0).val).wt (i 1).val (i 2).val (i 3).val * W (i 0).val (i 1).val (i 2).val))
omit R
include r99

theorem r100 : Re (s := S2x12x2048) (val_main_v100 (F := Ideal) x0 x2 x3 x4) (fun i => (D.seq (i 0).val).tot (i 1).val (i 2).val * W (i 0).val (i 1).val (i 2).val) :=
  (r99.sum (idx := idx_main_v100) (val_main_v100_apply x0 x2 x3 x4) AttK.lit0 fun i k => rfl).to fun i => by unfold Att.Seq.tot; rw [Finset.sum_mul]
theorem r101 : Re (s := S2x12x2048x1) (val_main_v101 (F := Ideal) x0 x2 x3 x4) (fun i => (D.seq (i 0).val).tot (i 1).val (i 2).val * W (i 0).val (i 1).val (i 2).val) :=
  (r100 r99).lay (idx := idx_main_v101) (val_main_v101_apply (F := Ideal) x0 x2 x3 x4) fun _ => rfl
theorem r102 : Re (s := S2x12x2048x2048) (val_main_v102 (F := Ideal) x0 x2 x3 x4) (fun i => (D.seq (i 0).val).tot (i 1).val (i 2).val * W (i 0).val (i 1).val (i 2).val) :=
  (r101 r99).lay (idx := idx_main_v102) (val_main_v102_apply (F := Ideal) x0 x2 x3 x4) fun _ => rfl
theorem r121 : Re (s := S2x12x2048x2048) (val_main_v121 (F := Ideal) x0 x2 x3 x4) (fun i => (D.seq (i 0).val).tot (i 1).val (i 2).val * W (i 0).val (i 1).val (i 2).val) :=
  (r101 r99).lay (idx := idx_main_v121) (val_main_v121_apply (F := Ideal) x0 x2 x3 x4) fun _ => rfl
include hW
theorem r103 : Re (s := S2x12x2048x2048) (val_main_v103 (F := Ideal) x0 x2 x3 x4) (fun i => (D.seq (i 0).val).pr (i 1).val (i 2).val (i 3).val) :=
  Re.to (r99.div (r102 r99) fun i => (mul_pos (Att.Seq.tot_pos _ _ _ (i 2).isLt) (hW _ _ _)).ne') fun i => Att.Seq.pr_scaled _ _ _ _ (i 2).isLt _ (hW _ _ _)
theorem r106 : Re (s := S2x12x2048x1) (val_main_v106 (F := Ideal) x0 x2 x3 x4) (fun i => 1 * (1 / ((D.seq (i 0).val).tot (i 1).val (i 2).val * W (i 0).val (i 1).val (i 2).val * ((D.seq (i 0).val).tot (i 1).val (i 2).val * W (i 0).val (i 1).val (i 2).val)))) :=
  Re.div (x := val_main_v105 (F := Ideal)) (f := fun _ => 1) (fun _ => AttK.lit1) ((r101 r99).mul (r101 r99)) fun i => (mul_pos (mul_pos (Att.Seq.tot_pos _ _ _ (i 2).isLt) (hW _ _ _)) (mul_pos (Att.Seq.tot_pos _ _ _ (i 2).isLt) (hW _ _ _))).ne'
theorem r115 : Re (s := S2x12x2048x2048) (val_main_v115 (F := Ideal) x0 x2 x3 x4) (fun i => 1 * (1 / ((D.seq (i 0).val).tot (i 1).val (i 2).val * W (i 0).val (i 1).val (i 2).val * ((D.seq (i 0).val).tot (i 1).val (i 2).val * W (i 0).val (i 1).val (i 2).val)))) :=
  (r106 hW r99).lay (idx := idx_main_v115) (val_main_v115_apply (F := Ideal) x0 x2 x3 x4) fun _ => rfl
include R
theorem r117 : Re (s := S2x12x2048x2048) (val_main_v117 (F := Ideal) x0 x1 x2 x3 x4) (fun i => (D.seq (i 0).val).dp (i 1).val (i 2).val (i 3).val * (1 * (1 / ((D.seq (i 0).val).tot (i 1).val (i 2).val * W (i 0).val (i 1).val (i 2).val * ((D.seq (i 0).val).tot (i 1).val (i 2).val * W (i 0).val (i 1).val (i 2).val)))) * ((D.seq (i 0).val).wt (i 1).val (i 2).val (i 3).val * W (i 0).val (i 1).val (i 2).val)) :=
  ((r112 R).mul (r115 hW r99)).mul r99
theorem r118 : Re (s := S2x12x2048) (val_main_v118 (F := Ideal) x0 x1 x2 x3 x4) (fun i => ∑ k ∈ range 2048, (D.seq (i 0).val).dp (i 1).val (i 2).val k * (1 * (1 / ((D.seq (i 0).val).tot (i 1).val (i 2).val * W (i 0).val (i 1).val (i 2).val * ((D.seq (i 0).val).tot (i 1).val (i 2).val * W (i 0).val (i 1).val (i 2).val)))) * ((D.seq (i 0).val).wt (i 1).val (i 2).val k * W (i 0).val (i 1).val (i 2).val)) :=
  (r117 R hW r99).sum (idx := idx_main_v118) (val_main_v118_apply x0 x1 x2 x3 x4) AttK.lit0 fun i k => rfl
theorem r119 : Re (s := S2x12x2048x1) (val_main_v119 (F := Ideal) x0 x1 x2 x3 x4) (fun i => ∑ k ∈ range 2048, (D.seq (i 0).val).dp (i 1).val (i 2).val k * (1 * (1 / ((D.seq (i 0).val).tot (i 1).val (i 2).val * W (i 0).val (i 1).val (i 2).val * ((D.seq (i 0).val).tot (i 1).val (i 2).val * W (i 0).val (i 1).val (i 2).val)))) * ((D.seq (i 0).val).wt (i 1).val (i 2).val k * W (i 0).val (i 1).val (i 2).val)) :=
  (r118 R hW r99).lay (idx := idx_main_v119) (val_main_v119_apply (F := Ideal) x0 x1 x2 x3 x4) (fun i => by have h0 : (i 0).val < 2 := (i 0).isLt; have h1 : (i 1).val < 12 := (i 1).isLt; have h2 : (i 2).val < 2048 := (i 2).isLt; have h3 : (i 3).val < 1 := (i 3).isLt; show ∑ k ∈ range 2048, (D.seq (((((((i 0).val * 12 + (i 1).val) * 2048 + (i 2).val) * 1 + (i 3).val) / 24576)))).dp (((((((i 0).val * 12 + (i 1).val) * 2048 + (i 2).val) * 1 + (i 3).val) / 2048 % 12))) (((((((i 0).val * 12 + (i 1).val) * 2048 + (i 2).val) * 1 + (i 3).val) % 2048))) k * (1 * (1 / ((D.seq (((((((i 0).val * 12 + (i 1).val) * 2048 + (i 2).val) * 1 + (i 3).val) / 24576)))).tot (((((((i 0).val * 12 + (i 1).val) * 2048 + (i 2).val) * 1 + (i 3).val) / 2048 % 12))) (((((((i 0).val * 12 + (i 1).val) * 2048 + (i 2).val) * 1 + (i 3).val) % 2048))) * W (((((((i 0).val * 12 + (i 1).val) * 2048 + (i 2).val) * 1 + (i 3).val) / 24576))) (((((((i 0).val * 12 + (i 1).val) * 2048 + (i 2).val) * 1 + (i 3).val) / 2048 % 12))) (((((((i 0).val * 12 + (i 1).val) * 2048 + (i 2).val) * 1 + (i 3).val) % 2048))) * ((D.seq (((((((i 0).val * 12 + (i 1).val) * 2048 + (i 2).val) * 1 + (i 3).val) / 24576)))).tot (((((((i 0).val * 12 + (i 1).val) * 2048 + (i 2).val) * 1 + (i 3).val) / 2048 % 12))) (((((((i 0).val * 12 + (i 1).val) * 2048 + (i 2).val) * 1 + (i 3).val) % 2048))) * W (((((((i 0).val * 12 + (i 1).val) * 2048 + (i 2).val) * 1 + (i 3).val) / 24576))) (((((((i 0).val * 12 + (i 1).val) * 2048 + (i 2).val) * 1 + (i 3).val) / 2048 % 12))) (((((((i 0).val * 12 + (i 1).val) * 2048 + (i 2).val) * 1 + (i 3).val) % 2048))))))) * ((D.seq (((((((i 0).val * 12 + (i 1).val) * 2048 + (i 2).val) * 1 + (i 3).val) / 24576)))).wt (((((((i 0).val * 12 + (i 1).val) * 2048 + (i 2).val) * 1 + (i 3).val) / 2048 % 12))) (((((((i 0).val * 12 + (i 1).val) * 2048 + (i 2).val) * 1 + (i 3).val) % 2048))) k * W (((((((i 0).val * 12 + (i 1).val) * 2048 + (i 2).val) * 1 + (i 3).val) / 24576))) (((((((i 0).val * 12 + (i 1).val) * 2048 + (i 2).val) * 1 + (i 3).val) / 2048 % 12))) (((((((i 0).val * 12 + (i 1).val) * 2048 + (i 2).val) * 1 + (i 3).val) % 2048)))) = ∑ k ∈ range 2048, (D.seq ((((i 0).val)))).dp ((((i 1).val))) ((((i 2).val))) k * (1 * (1 / ((D.seq ((((i 0).val)))).tot ((((i 1).val))) ((((i 2).val))) * W ((((i 0).val))) ((((i 1).val))) ((((i 2).val))) * ((D.seq ((((i 0).val)))).tot ((((i 1).val))) ((((i 2).val))) * W ((((i 0).val))) ((((i 1).val))) ((((i 2).val))))))) * ((D.seq ((((i 0).val)))).wt ((((i 1).val))) ((((i 2).val))) k * W ((((i 0).val))) ((((i 1).val))) ((((i 2).val)))); rw [show ((((i 0).val * 12 + (i 1).val) * 2048 + (i 2).val) * 1 + (i 3).val) / 24576 = (i 0).val by omega, show ((((i 0).val * 12 + (i 1).val) * 2048 + (i 2).val) * 1 + (i 3).val) / 2048 % 12 = (i 1).val by omega, show ((((i 0).val * 12 + (i 1).val) * 2048 + (i 2).val) * 1 + (i 3).val) % 2048 = (i 2).val by omega])
theorem r123 : Re (s := S2x12x2048) (val_main_v123 (F := Ideal) x0 x1 x2 x3 x4) (fun i => -∑ k ∈ range 2048, (D.seq (i 0).val).dp (i 1).val (i 2).val k * (1 * (1 / ((D.seq (i 0).val).tot (i 1).val (i 2).val * W (i 0).val (i 1).val (i 2).val * ((D.seq (i 0).val).tot (i 1).val (i 2).val * W (i 0).val (i 1).val (i 2).val)))) * ((D.seq (i 0).val).wt (i 1).val (i 2).val k * W (i 0).val (i 1).val (i 2).val)) :=
  (((r119 R hW r99).neg).sum (idx := idx_main_v123) (val_main_v123_apply x0 x1 x2 x3 x4) AttK.lit0 (G := fun i _ => -∑ k ∈ range 2048, (D.seq (i 0).val).dp (i 1).val (i 2).val k * (1 * (1 / ((D.seq (i 0).val).tot (i 1).val (i 2).val * W (i 0).val (i 1).val (i 2).val * ((D.seq (i 0).val).tot (i 1).val (i 2).val * W (i 0).val (i 1).val (i 2).val)))) * ((D.seq (i 0).val).wt (i 1).val (i 2).val k * W (i 0).val (i 1).val (i 2).val)) fun i k => rfl).to fun i => by rw [Finset.sum_range_one]
theorem r124 : Re (s := S2x12x2048x2048) (val_main_v124 (F := Ideal) x0 x1 x2 x3 x4) (fun i => -∑ k ∈ range 2048, (D.seq (i 0).val).dp (i 1).val (i 2).val k * (1 * (1 / ((D.seq (i 0).val).tot (i 1).val (i 2).val * W (i 0).val (i 1).val (i 2).val * ((D.seq (i 0).val).tot (i 1).val (i 2).val * W (i 0).val (i 1).val (i 2).val)))) * ((D.seq (i 0).val).wt (i 1).val (i 2).val k * W (i 0).val (i 1).val (i 2).val)) :=
  (r123 R hW r99).lay (idx := idx_main_v124) (val_main_v124_apply (F := Ideal) x0 x1 x2 x3 x4) fun _ => rfl
theorem r126 : Re (s := S2x12x2048x2048) (val_main_v126 (F := Ideal) x0 x1 x2 x3 x4) (fun i => (D.seq (i 0).val).ds (i 1).val (i 2).val (i 3).val) :=
  ((((r112 R).div (r121 r99) fun i => (mul_pos (Att.Seq.tot_pos _ _ _ (i 2).isLt) (hW _ _ _)).ne').add (r124 R hW r99)).mul r99).to
    fun i => Att.Seq.ds_scaled _ _ _ _ (i 2).isLt _ (hW _ _ _)

end weights

theorem r103' : Re (s := S2x12x2048x2048) (val_main_v103 (F := Ideal) x0 x2 x3 x4) (fun i => (D.seq (i 0).val).pr (i 1).val (i 2).val (i 3).val) := by
  obtain ⟨W, hW, h⟩ := r99 R
  exact r103 hW h

/-- The gradient of the scores. -/
theorem r127 : Re (s := S2x12x2048x2048) (val_main_v127 (F := Ideal) x0 x1 x2 x3 x4) (fun i => (D.seq (i 0).val).ds (i 1).val (i 2).val (i 3).val) := fun i => by
  obtain ⟨W, hW, h⟩ := r99 R
  rw [val_main_v127_apply, band4]
  split_ifs with hv
  · exact (if_pos rfl).trans (r126 R hW h i)
  · show _ = (((D.seq (i 0).val).ds (i 1).val (i 2).val (i 3).val : ℝ) : EReal)
    rw [Att.Seq.ds_of_not _ _ _ _ hv]
    exact (if_neg (by decide)).trans ((val_main_call3_v0_apply (F := Ideal) i).trans AttK.lit0)

/-- The gradient of the values. -/
theorem r113 : Re (s := S2x12x64x2048) (val_main_v113 (F := Ideal) x0 x1 x2 x3 x4) (fun i => (D.seq (i 0).val).dv (i 3).val (64 * (i 1).val + (i 2).val)) :=
  ((r111 R).dot (r103' R) (lidx := lidx_main_v113) (ridx := ridx_main_v113) (val_main_v113_apply x0 x1 x2 x3 x4) (G := fun i q => (D.seq (i 0).val).o q (64 * (i 1).val + (i 2).val) * (D.seq (i 0).val).pr (i 1).val q (i 3).val) fun i k => rfl).to fun i => by
    have h2 : (i 2).val < 64 := (i 2).isLt
    unfold Att.Seq.dv
    rw [show (64 * (i 1).val + (i 2).val) / 64 = (i 1).val by omega]
    exact Finset.sum_congr rfl fun k _ => mul_comm _ _
theorem r114 : Re (s := S2x2048x12x64) (val_main_v114 (F := Ideal) x0 x1 x2 x3 x4) (fun i => (D.seq (i 0).val).dv (i 1).val (64 * (i 2).val + (i 3).val)) :=
  (r113 R).lay (idx := idx_main_v114) (val_main_v114_apply (F := Ideal) x0 x1 x2 x3 x4) fun _ => rfl
theorem r137 : Re (s := S4096x768) (val_main_v137 (F := Ideal) x0 x1 x2 x3 x4) (fun i => (D.seq ((i 0).val / 2048)).dv ((i 0).val % 2048) (i 1).val) :=
  (r114 R).lay (idx := idx_main_v137) (val_main_v137_apply (F := Ideal) x0 x1 x2 x3 x4) (fun i => by have h0 : (i 0).val < 4096 := (i 0).isLt; have h1 : (i 1).val < 768 := (i 1).isLt; show (D.seq (((i 0).val * 768 + (i 1).val) / 1572864)).dv (((i 0).val * 768 + (i 1).val) / 768 % 2048) (64 * (((i 0).val * 768 + (i 1).val) / 64 % 12) + (((i 0).val * 768 + (i 1).val) % 64)) = (D.seq ((i 0).val / 2048)).dv ((i 0).val % 2048) (i 1).val; rw [show ((i 0).val * 768 + (i 1).val) / 1572864 = (i 0).val / 2048 by omega, show ((i 0).val * 768 + (i 1).val) / 768 % 2048 = (i 0).val % 2048 by omega, show ((i 0).val * 768 + (i 1).val) / 64 % 12 = (i 1).val / 64 by omega, show ((i 0).val * 768 + (i 1).val) % 64 = (i 1).val % 64 by omega, show 64 * ((i 1).val / 64) + (i 1).val % 64 = (i 1).val by omega])

/-- The gradient of the bias, summed over the batch. -/
theorem r128 : Re (s := S12x2048x2048) (val_main_v128 (F := Ideal) x0 x1 x2 x3 x4) (fun i => (D.seq 0).ds (i 0).val (i 1).val (i 2).val + (D.seq 1).ds (i 0).val (i 1).val (i 2).val) :=
  ((r127 R).sum (idx := idx_main_v128) (val_main_v128_apply x0 x1 x2 x3 x4) AttK.lit0 (G := fun i b => (D.seq b).ds (i 0).val (i 1).val (i 2).val) fun i k => rfl).to fun i => by
    rw [Finset.sum_range_succ, Finset.sum_range_one]
theorem r129 : Re (s := S1x12x2048x2048) (val_main_v129 (F := Ideal) x0 x1 x2 x3 x4) (fun i => (D.seq 0).ds (i 1).val (i 2).val (i 3).val + (D.seq 1).ds (i 1).val (i 2).val (i 3).val) :=
  (r128 R).lay (idx := idx_main_v129) (val_main_v129_apply (F := Ideal) x0 x1 x2 x3 x4) (fun i => by have h0 : (i 0).val < 1 := (i 0).isLt; have h1 : (i 1).val < 12 := (i 1).isLt; have h2 : (i 2).val < 2048 := (i 2).isLt; have h3 : (i 3).val < 2048 := (i 3).isLt; show (D.seq 0).ds (((((i 0).val * 12 + (i 1).val) * 2048 + (i 2).val) * 2048 + (i 3).val) / 4194304) (((((i 0).val * 12 + (i 1).val) * 2048 + (i 2).val) * 2048 + (i 3).val) / 2048 % 2048) (((((i 0).val * 12 + (i 1).val) * 2048 + (i 2).val) * 2048 + (i 3).val) % 2048) + (D.seq 1).ds (((((i 0).val * 12 + (i 1).val) * 2048 + (i 2).val) * 2048 + (i 3).val) / 4194304) (((((i 0).val * 12 + (i 1).val) * 2048 + (i 2).val) * 2048 + (i 3).val) / 2048 % 2048) (((((i 0).val * 12 + (i 1).val) * 2048 + (i 2).val) * 2048 + (i 3).val) % 2048) = (D.seq 0).ds ((i 1).val) ((i 2).val) ((i 3).val) + (D.seq 1).ds ((i 1).val) ((i 2).val) ((i 3).val); rw [show ((((i 0).val * 12 + (i 1).val) * 2048 + (i 2).val) * 2048 + (i 3).val) / 4194304 = (i 1).val by omega, show ((((i 0).val * 12 + (i 1).val) * 2048 + (i 2).val) * 2048 + (i 3).val) / 2048 % 2048 = (i 2).val by omega, show ((((i 0).val * 12 + (i 1).val) * 2048 + (i 2).val) * 2048 + (i 3).val) % 2048 = (i 3).val by omega])
theorem r130 : Re (s := S12x2048x2048) (val_main_v130 (F := Ideal) x0 x1 x2 x3 x4) (fun i => (D.seq 0).ds (i 0).val (i 1).val (i 2).val + (D.seq 1).ds (i 0).val (i 1).val (i 2).val) :=
  ((r129 R).sum (idx := idx_main_v130) (val_main_v130_apply x0 x1 x2 x3 x4) AttK.lit0 (G := fun i _ => (D.seq 0).ds (i 0).val (i 1).val (i 2).val + (D.seq 1).ds (i 0).val (i 1).val (i 2).val) fun i k => rfl).to fun i => by rw [Finset.sum_range_one]

/-! ## The normalised queries' and keys' cotangents -/

omit R in
theorem r131 : Re (s := S2x12x2048x2048) (val_main_v131 (F := Ideal)) (fun _ => 1 / 8) := fun _ => AttK.lit8
theorem r132 : Re (s := S2x12x2048x2048) (val_main_v132 (F := Ideal) x0 x1 x2 x3 x4) (fun i => (D.seq (i 0).val).ds (i 1).val (i 2).val (i 3).val * (1 / 8)) :=
  (r127 R).mul r131
theorem r133 : Re (s := S2x12x2048x64) (val_main_v133 (F := Ideal) x0 x1 x2 x3 x4) (fun i => (D.seq (i 0).val).dkn (i 2).val (64 * (i 1).val + (i 3).val)) :=
  ((r132 R).dot (r40 R) (lidx := lidx_main_v133) (ridx := ridx_main_v133) (val_main_v133_apply x0 x1 x2 x3 x4) (G := fun i q => (D.seq (i 0).val).ds (i 1).val q (i 2).val * (1 / 8) * (D.seq (i 0).val).qn q (64 * (i 1).val + (i 3).val)) fun i k => rfl).to fun i => by
    have h3 : (i 3).val < 64 := (i 3).isLt
    unfold Att.Seq.dkn
    rw [show (64 * (i 1).val + (i 3).val) / 64 = (i 1).val by omega, Finset.sum_mul]
    exact Finset.sum_congr rfl fun k _ => mul_right_comm _ _ _
theorem r135 : Re (s := S2x12x2048x64) (val_main_v135 (F := Ideal) x0 x1 x2 x3 x4) (fun i => (D.seq (i 0).val).dqn (i 2).val (64 * (i 1).val + (i 3).val)) :=
  ((r132 R).dot (r58 R) (lidx := lidx_main_v135) (ridx := ridx_main_v135) (val_main_v135_apply x0 x1 x2 x3 x4) (G := fun i q => (D.seq (i 0).val).ds (i 1).val (i 2).val q * (1 / 8) * (D.seq (i 0).val).kn q (64 * (i 1).val + (i 3).val)) fun i k => rfl).to fun i => by
    have h3 : (i 3).val < 64 := (i 3).isLt
    unfold Att.Seq.dqn
    rw [show (64 * (i 1).val + (i 3).val) / 64 = (i 1).val by omega, Finset.sum_mul]
    exact Finset.sum_congr rfl fun k _ => mul_right_comm _ _ _
theorem r134 : Re (s := S2x2048x12x64) (val_main_v134 (F := Ideal) x0 x1 x2 x3 x4) (fun i => (D.seq (i 0).val).dkn (i 1).val (64 * (i 2).val + (i 3).val)) :=
  (r133 R).lay (idx := idx_main_v134) (val_main_v134_apply (F := Ideal) x0 x1 x2 x3 x4) fun _ => rfl
theorem r136 : Re (s := S2x2048x12x64) (val_main_v136 (F := Ideal) x0 x1 x2 x3 x4) (fun i => (D.seq (i 0).val).dqn (i 1).val (64 * (i 2).val + (i 3).val)) :=
  (r135 R).lay (idx := idx_main_v136) (val_main_v136_apply (F := Ideal) x0 x1 x2 x3 x4) fun _ => rfl

end

end AttR
-- ==== Proof.RefBwd.lean ====
/-
  The reference's last lines: the gradient of the normalisation, the gains' gradients, and the bias's gradient in blocks.
-/
module

public import proofs.«01_k».proof.Proof.RefAttn
public import proofs.«01_k».proof.Proof.Grid
public import Idealize.ShloMosaic.Lib.KernelVsHost

@[expose] public section

noncomputable section

namespace Att

open scoped BigOperators

theorem rr_sq (x : ℕ → ℝ) (c : ℕ) : 1 / marg x c = rr x c * rr x c := by
  have h : rr x c = (Real.sqrt (marg x c))⁻¹ := rfl
  rw [h, ← mul_inv, Real.mul_self_sqrt (marg_pos x c).le, one_div]

/-- The gradient of the normalisation, as differentiating the square root gives it. -/
theorem nbwd_eq (g x dy : ℕ → ℝ) (h d : ℕ) (hd : d < 64) :
    dy (64 * h + d) * g d * rr x (64 * h)
      + x (64 * h + d) * ((∑ e ∈ Finset.range 64, x (64 * h + e) * (dy (64 * h + e) * g e)) * (-(1 / 2) * (rr x (64 * h) * (1 / marg x (64 * h)))) * (1 / 64))
      + (∑ e ∈ Finset.range 64, x (64 * h + e) * (dy (64 * h + e) * g e)) * (-(1 / 2) * (rr x (64 * h) * (1 / marg x (64 * h)))) * (1 / 64) * x (64 * h + d)
    = nbwd g x dy (64 * h + d) := by
  have e : gsum (fun e => dy e * g (e % 64) * xhat x e) (64 * h + d)
      = (∑ e ∈ Finset.range 64, x (64 * h + e) * (dy (64 * h + e) * g e)) * rr x (64 * h) := by
    rw [gsum_head _ _ _ hd]; unfold gsum
    rw [Finset.sum_mul, show 64 * h / 64 = h by omega]
    refine Finset.sum_congr rfl fun k hk => ?_
    have hk' := Finset.mem_range.1 hk
    show dy (64 * h + k) * g ((64 * h + k) % 64) * (x (64 * h + k) * rr x (64 * h + k)) = _
    rw [rr_head _ _ _ hk', show (64 * h + k) % 64 = k by omega]; ring
  unfold nbwd
  rw [e, rr_sq, show (64 * h + d) % 64 = d by omega]
  unfold xhat
  rw [rr_head _ _ _ hd]
  ring

theorem Arr.seq_q (D : Arr) (t : ℕ) : (D.seq (t / 2048)).q (t % 2048) = D.z t := funext fun c => by
  show D.z (2048 * (t / 2048) + t % 2048) c = _; rw [Nat.div_add_mod]
theorem Arr.seq_k (D : Arr) (t : ℕ) : (D.seq (t / 2048)).k (t % 2048) = fun e => D.z t (768 + e) := funext fun c => by
  show D.z (2048 * (t / 2048) + t % 2048) _ = _; rw [Nat.div_add_mod]

/-- A sum over the tokens is the sum over the batch of the sums over the sequence. -/
theorem sum_tokens (f : ℕ → ℕ → ℝ) : ∑ t ∈ Finset.range 4096, f (t / 2048) (t % 2048) = ∑ i ∈ Finset.range 2048, f 0 i + ∑ i ∈ Finset.range 2048, f 1 i := by
  rw [show 4096 = 2048 + 2048 from rfl, Finset.sum_range_add]
  refine congrArg₂ (· + ·) (Finset.sum_congr rfl fun i hi => ?_) (Finset.sum_congr rfl fun i hi => ?_)
  · have := Finset.mem_range.1 hi; rw [show i / 2048 = 0 by omega, show i % 2048 = i by omega]
  · have := Finset.mem_range.1 hi; rw [show (2048 + i) / 2048 = 1 by omega, show (2048 + i) % 2048 = i by omega]

/-- The scores' gradient summed over the batch, with 512 columns of zeros before it. -/
def Arr.padded (D : Arr) (h q e : ℕ) : ℝ := if 512 ≤ e then (D.seq 0).ds h q (e - 512) + (D.seq 1).ds h q (e - 512) else 0

theorem Arr.padded_sum (D : Arr) (h r e : ℕ) :
    0 + D.padded h (256 * 0 + r) (256 * 0 + e) + D.padded h (256 * 1 + r) (256 * 1 + e) + D.padded h (256 * 2 + r) (256 * 2 + e)
      + D.padded h (256 * 3 + r) (256 * 3 + e) + D.padded h (256 * 4 + r) (256 * 4 + e) + D.padded h (256 * 5 + r) (256 * 5 + e)
      + D.padded h (256 * 6 + r) (256 * 6 + e) + D.padded h (256 * 7 + r) (256 * 7 + e) = (D.seq 0).db h r e + (D.seq 1).db h r e := by
  unfold Seq.db
  rw [← Finset.sum_add_distrib]
  have e1 : ∀ j ∈ Finset.range 8, ((if 512 ≤ 256 * j + e then (D.seq 0).ds h (256 * j + r) (256 * j + e - 512) else 0)
      + (if 512 ≤ 256 * j + e then (D.seq 1).ds h (256 * j + r) (256 * j + e - 512) else 0)) = D.padded h (256 * j + r) (256 * j + e) := fun j _ => by
    unfold Arr.padded; split_ifs
    · rfl
    · exact add_zero 0
  rw [Finset.sum_congr rfl e1]
  simp only [Finset.sum_range_succ, Finset.sum_range_zero]

end Att

namespace AttR

open Idealize.ShloMosaic hiding ix0 ix1 ix2 ix3 ix4 ix5
open Idealize.ShloMosaic.ValueIdx Cert.ReferenceIdeal Cert.ReferenceIdeal.Gen Cert.ReferenceIdeal.Read
open scoped BigOperators
open Finset (range)
open Att (gsum rr xhat nrm nbwd marg)

variable {D : Att.Arr} {x0 : FVec Ideal S4096x2560 .bf16} {x1 : FVec Ideal S4096x1024 .bf16} {x2 x3 : FVec Ideal S1x64 .f32} {x4 : FVec Ideal S12x192 .f32}
variable (R : AttK.Reads D x0 x1 x2 x3 x4)

section
include R

/-! ## The keys -/

theorem r138 : Re (s := S4096x12x64) (val_main_v138 (F := Ideal) x0 x1 x2 x3 x4) (fun i => (D.seq ((i 0).val / 2048)).dkn ((i 0).val % 2048) (64 * (i 1).val + (i 2).val)) :=
  (r134 R).lay (idx := idx_main_v138) (val_main_v138_apply (F := Ideal) x0 x1 x2 x3 x4) (fun i => by have h0 : (i 0).val < 4096 := (i 0).isLt; have h1 : (i 1).val < 12 := (i 1).isLt; have h2 : (i 2).val < 64 := (i 2).isLt; show (D.seq (((((i 0).val * 12 + (i 1).val) * 64 + (i 2).val) / 1572864))).dkn (((((i 0).val * 12 + (i 1).val) * 64 + (i 2).val) / 768 % 2048)) (64 * ((((i 0).val * 12 + (i 1).val) * 64 + (i 2).val) / 64 % 12) + ((((i 0).val * 12 + (i 1).val) * 64 + (i 2).val) % 64)) = (D.seq (((i 0).val / 2048))).dkn (((i 0).val % 2048)) (64 * ((i 1).val) + ((i 2).val)); rw [show (((i 0).val * 12 + (i 1).val) * 64 + (i 2).val) / 1572864 = (i 0).val / 2048 by omega, show (((i 0).val * 12 + (i 1).val) * 64 + (i 2).val) / 768 % 2048 = (i 0).val % 2048 by omega, show (((i 0).val * 12 + (i 1).val) * 64 + (i 2).val) / 64 % 12 = (i 1).val by omega, show (((i 0).val * 12 + (i 1).val) * 64 + (i 2).val) % 64 = (i 2).val by omega])
theorem r139 : Re (s := S4096x12x64) (val_main_v139 (F := Ideal) x0 x1 x2 x3 x4) (fun i => (D.seq ((i 0).val / 2048)).dkn ((i 0).val % 2048) (64 * (i 1).val + (i 2).val) * xhat ((D.seq ((i 0).val / 2048)).k ((i 0).val % 2048)) (64 * (i 1).val + (i 2).val)) :=
  ((r54 R).mul (r138 R)).to fun i => by rw [Att.Arr.seq_k]; exact mul_comm _ _
theorem r140 : Re (s := S12x64) (val_main_v140 (F := Ideal) x0 x1 x2 x3 x4) (fun i => (D.seq 0).dgk (64 * (i 0).val + (i 1).val) + (D.seq 1).dgk (64 * (i 0).val + (i 1).val)) :=
  ((r139 R).sum (idx := idx_main_v140) (val_main_v140_apply x0 x1 x2 x3 x4) AttK.lit0 (G := fun i t => (D.seq (t / 2048)).dkn (t % 2048) (64 * (i 0).val + (i 1).val) * xhat ((D.seq (t / 2048)).k (t % 2048)) (64 * (i 0).val + (i 1).val)) fun i k => rfl).to
    fun i => Att.sum_tokens (fun b i' => (D.seq b).dkn i' (64 * (i 0).val + (i 1).val) * xhat ((D.seq b).k i') (64 * (i 0).val + (i 1).val))
theorem r141 : Re (s := S1x12x64) (val_main_v141 (F := Ideal) x0 x1 x2 x3 x4) (fun i => (D.seq 0).dgk (64 * (i 1).val + (i 2).val) + (D.seq 1).dgk (64 * (i 1).val + (i 2).val)) :=
  (r140 R).lay (idx := idx_main_v141) (val_main_v141_apply (F := Ideal) x0 x1 x2 x3 x4) (fun i => by have h0 : (i 0).val < 1 := (i 0).isLt; have h1 : (i 1).val < 12 := (i 1).isLt; have h2 : (i 2).val < 64 := (i 2).isLt; show (D.seq 0).dgk (64 * ((((i 0).val * 12 + (i 1).val) * 64 + (i 2).val) / 64) + ((((i 0).val * 12 + (i 1).val) * 64 + (i 2).val) % 64)) + (D.seq 1).dgk (64 * ((((i 0).val * 12 + (i 1).val) * 64 + (i 2).val) / 64) + ((((i 0).val * 12 + (i 1).val) * 64 + (i 2).val) % 64)) = (D.seq 0).dgk (64 * ((i 1).val) + ((i 2).val)) + (D.seq 1).dgk (64 * ((i 1).val) + ((i 2).val)); rw [show (((i 0).val * 12 + (i 1).val) * 64 + (i 2).val) / 64 = (i 1).val by omega, show (((i 0).val * 12 + (i 1).val) * 64 + (i 2).val) % 64 = (i 2).val by omega])
theorem r144 : Re (s := S12x64) (val_main_v144 (F := Ideal) x0 x1 x2 x3 x4) (fun i => (D.seq 0).dgk (64 * (i 0).val + (i 1).val) + (D.seq 1).dgk (64 * (i 0).val + (i 1).val)) :=
  ((r141 R).sum (idx := idx_main_v144) (val_main_v144_apply x0 x1 x2 x3 x4) AttK.lit0 (G := fun i _ => (D.seq 0).dgk (64 * (i 0).val + (i 1).val) + (D.seq 1).dgk (64 * (i 0).val + (i 1).val)) fun i k => rfl).to fun i => Finset.sum_range_one _
theorem r142 : Re (s := S4096x12x64) (val_main_v142 (F := Ideal) x3) (fun i => D.gk (i 2).val) :=
  (r55 R).lay (idx := idx_main_v142) (val_main_v142_apply (F := Ideal) x3) fun _ => rfl
theorem r143 : Re (s := S4096x12x64) (val_main_v143 (F := Ideal) x0 x1 x2 x3 x4) (fun i => (D.seq ((i 0).val / 2048)).dkn ((i 0).val % 2048) (64 * (i 1).val + (i 2).val) * D.gk (i 2).val) :=
  (r138 R).mul (r142 R)
theorem r146 : Re (s := S4096x12) (val_main_v146 (F := Ideal) x0 x1 x2 x3 x4) (fun i => (∑ e ∈ range 64, (fun e => D.z (i 0).val (768 + e)) (64 * (i 1).val + e) * ((D.seq ((i 0).val / 2048)).dkn ((i 0).val % 2048) (64 * (i 1).val + e) * D.gk e))) :=
  ((r41 R).mul (r143 R)).sum (idx := idx_main_v146) (val_main_v146_apply x0 x1 x2 x3 x4) AttK.lit0 fun i k => rfl
theorem r147 : Re (s := S4096x12x1) (val_main_v147 (F := Ideal) x0 x1 x2 x3 x4) (fun i => (∑ e ∈ range 64, (fun e => D.z (i 0).val (768 + e)) (64 * (i 1).val + e) * ((D.seq ((i 0).val / 2048)).dkn ((i 0).val % 2048) (64 * (i 1).val + e) * D.gk e))) :=
  (r146 R).lay (idx := idx_main_v147) (val_main_v147_apply (F := Ideal) x0 x1 x2 x3 x4) (fun i => by have h0 : (i 0).val < 4096 := (i 0).isLt; have h1 : (i 1).val < 12 := (i 1).isLt; have h2 : (i 2).val < 1 := (i 2).isLt; show (∑ e ∈ range 64, (fun e => D.z ((((i 0).val * 12 + (i 1).val) * 1 + (i 2).val) / 12) (768 + e)) (64 * ((((i 0).val * 12 + (i 1).val) * 1 + (i 2).val) % 12) + e) * ((D.seq (((((i 0).val * 12 + (i 1).val) * 1 + (i 2).val) / 12) / 2048)).dkn (((((i 0).val * 12 + (i 1).val) * 1 + (i 2).val) / 12) % 2048) (64 * ((((i 0).val * 12 + (i 1).val) * 1 + (i 2).val) % 12) + e) * D.gk e)) = (∑ e ∈ range 64, (fun e => D.z ((i 0).val) (768 + e)) (64 * ((i 1).val) + e) * ((D.seq (((i 0).val) / 2048)).dkn (((i 0).val) % 2048) (64 * ((i 1).val) + e) * D.gk e)); rw [show (((i 0).val * 12 + (i 1).val) * 1 + (i 2).val) / 12 = (i 0).val by omega, show (((i 0).val * 12 + (i 1).val) * 1 + (i 2).val) % 12 = (i 1).val by omega])
theorem r148 : Re (s := S4096x12x64) (val_main_v148 (F := Ideal) x0) (fun i => rr (fun e => D.z (i 0).val (768 + e)) (64 * (i 1).val)) :=
  (r49 R).lay (idx := idx_main_v148) (val_main_v148_apply (F := Ideal) x0) fun _ => rfl
theorem r150 : Re (s := S4096x12x1) (val_main_v150 (F := Ideal) x0 x1 x2 x3 x4) (fun i => (∑ e ∈ range 64, (fun e => D.z (i 0).val (768 + e)) (64 * (i 1).val + e) * ((D.seq ((i 0).val / 2048)).dkn ((i 0).val % 2048) (64 * (i 1).val + e) * D.gk e)) * (-(1 / 2) * (rr (fun e => D.z (i 0).val (768 + e)) (64 * (i 1).val) * (1 / marg (fun e => D.z (i 0).val (768 + e)) (64 * (i 1).val))))) :=
  (r147 R).mul (r52 R)
theorem r152 : Re (s := S4096x12x1) (val_main_v152 (F := Ideal) x0 x1 x2 x3 x4) (fun i => (∑ e ∈ range 64, (fun e => D.z (i 0).val (768 + e)) (64 * (i 1).val + e) * ((D.seq ((i 0).val / 2048)).dkn ((i 0).val % 2048) (64 * (i 1).val + e) * D.gk e)) * (-(1 / 2) * (rr (fun e => D.z (i 0).val (768 + e)) (64 * (i 1).val) * (1 / marg (fun e => D.z (i 0).val (768 + e)) (64 * (i 1).val)))) * (1 / 64)) :=
  Re.div (y := val_main_v151 (F := Ideal)) (g := fun _ => 64) (r150 R) (fun _ => lit64') fun _ => by norm_num
theorem r153 : Re (s := S4096x12) (val_main_v153 (F := Ideal) x0 x1 x2 x3 x4) (fun i => (∑ e ∈ range 64, (fun e => D.z (i 0).val (768 + e)) (64 * (i 1).val + e) * ((D.seq ((i 0).val / 2048)).dkn ((i 0).val % 2048) (64 * (i 1).val + e) * D.gk e)) * (-(1 / 2) * (rr (fun e => D.z (i 0).val (768 + e)) (64 * (i 1).val) * (1 / marg (fun e => D.z (i 0).val (768 + e)) (64 * (i 1).val)))) * (1 / 64)) :=
  ((r152 R).sum (idx := idx_main_v153) (val_main_v153_apply x0 x1 x2 x3 x4) AttK.lit0 (G := fun i _ => (∑ e ∈ range 64, (fun e => D.z (i 0).val (768 + e)) (64 * (i 1).val + e) * ((D.seq ((i 0).val / 2048)).dkn ((i 0).val % 2048) (64 * (i 1).val + e) * D.gk e)) * (-(1 / 2) * (rr (fun e => D.z (i 0).val (768 + e)) (64 * (i 1).val) * (1 / marg (fun e => D.z (i 0).val (768 + e)) (64 * (i 1).val)))) * (1 / 64)) fun i k => rfl).to fun i => Finset.sum_range_one _
theorem r154 : Re (s := S4096x12x64) (val_main_v154 (F := Ideal) x0 x1 x2 x3 x4) (fun i => (∑ e ∈ range 64, (fun e => D.z (i 0).val (768 + e)) (64 * (i 1).val + e) * ((D.seq ((i 0).val / 2048)).dkn ((i 0).val % 2048) (64 * (i 1).val + e) * D.gk e)) * (-(1 / 2) * (rr (fun e => D.z (i 0).val (768 + e)) (64 * (i 1).val) * (1 / marg (fun e => D.z (i 0).val (768 + e)) (64 * (i 1).val)))) * (1 / 64)) :=
  (r153 R).lay (idx := idx_main_v154) (val_main_v154_apply (F := Ideal) x0 x1 x2 x3 x4) fun _ => rfl
theorem r149 : Re (s := S4096x12x64) (val_main_v149 (F := Ideal) x0 x1 x2 x3 x4) (fun i => (D.seq ((i 0).val / 2048)).dkn ((i 0).val % 2048) (64 * (i 1).val + (i 2).val) * D.gk (i 2).val * rr (fun e => D.z (i 0).val (768 + e)) (64 * (i 1).val)) :=
  (r143 R).mul (r148 R)
theorem r155 : Re (s := S4096x12x64) (val_main_v155 (F := Ideal) x0 x1 x2 x3 x4) (fun i => (fun e => D.z (i 0).val (768 + e)) (64 * (i 1).val + (i 2).val) * ((∑ e ∈ range 64, (fun e => D.z (i 0).val (768 + e)) (64 * (i 1).val + e) * ((D.seq ((i 0).val / 2048)).dkn ((i 0).val % 2048) (64 * (i 1).val + e) * D.gk e)) * (-(1 / 2) * (rr (fun e => D.z (i 0).val (768 + e)) (64 * (i 1).val) * (1 / marg (fun e => D.z (i 0).val (768 + e)) (64 * (i 1).val)))) * (1 / 64))) :=
  (r41 R).mul (r154 R)
theorem r156 : Re (s := S4096x12x64) (val_main_v156 (F := Ideal) x0 x1 x2 x3 x4) (fun i => (D.seq ((i 0).val / 2048)).dkn ((i 0).val % 2048) (64 * (i 1).val + (i 2).val) * D.gk (i 2).val * rr (fun e => D.z (i 0).val (768 + e)) (64 * (i 1).val) + (fun e => D.z (i 0).val (768 + e)) (64 * (i 1).val + (i 2).val) * ((∑ e ∈ range 64, (fun e => D.z (i 0).val (768 + e)) (64 * (i 1).val + e) * ((D.seq ((i 0).val / 2048)).dkn ((i 0).val % 2048) (64 * (i 1).val + e) * D.gk e)) * (-(1 / 2) * (rr (fun e => D.z (i 0).val (768 + e)) (64 * (i 1).val) * (1 / marg (fun e => D.z (i 0).val (768 + e)) (64 * (i 1).val)))) * (1 / 64))) :=
  (r149 R).add (r155 R)
theorem r157 : Re (s := S4096x12x64) (val_main_v157 (F := Ideal) x0 x1 x2 x3 x4) (fun i => (∑ e ∈ range 64, (fun e => D.z (i 0).val (768 + e)) (64 * (i 1).val + e) * ((D.seq ((i 0).val / 2048)).dkn ((i 0).val % 2048) (64 * (i 1).val + e) * D.gk e)) * (-(1 / 2) * (rr (fun e => D.z (i 0).val (768 + e)) (64 * (i 1).val) * (1 / marg (fun e => D.z (i 0).val (768 + e)) (64 * (i 1).val)))) * (1 / 64) * (fun e => D.z (i 0).val (768 + e)) (64 * (i 1).val + (i 2).val)) :=
  (r154 R).mul (r41 R)
theorem r158 : Re (s := S4096x12x64) (val_main_v158 (F := Ideal) x0 x1 x2 x3 x4) (fun i => (D.seq ((i 0).val / 2048)).dk ((i 0).val % 2048) (64 * (i 1).val + (i 2).val)) :=
  Re.to ((r156 R).add (r157 R)) fun i => by
    unfold Att.Seq.dk
    rw [Att.Arr.seq_k]
    exact Att.nbwd_eq D.gk (fun e => D.z (i 0).val (768 + e)) ((D.seq ((i 0).val / 2048)).dkn ((i 0).val % 2048)) (i 1).val (i 2).val (i 2).isLt
theorem r159 : Re (s := S4096x768) (val_main_v159 (F := Ideal) x0 x1 x2 x3 x4) (fun i => (D.seq ((i 0).val / 2048)).dk ((i 0).val % 2048) (i 1).val) :=
  (r158 R).lay (idx := idx_main_v159) (val_main_v159_apply (F := Ideal) x0 x1 x2 x3 x4) (fun i => by have h0 : (i 0).val < 4096 := (i 0).isLt; have h1 : (i 1).val < 768 := (i 1).isLt; show (D.seq ((((i 0).val * 768 + (i 1).val) / 768) / 2048)).dk ((((i 0).val * 768 + (i 1).val) / 768) % 2048) (64 * (((i 0).val * 768 + (i 1).val) / 64 % 12) + (((i 0).val * 768 + (i 1).val) % 64)) = (D.seq ((i 0).val / 2048)).dk ((i 0).val % 2048) (i 1).val; rw [show ((i 0).val * 768 + (i 1).val) / 768 = (i 0).val by omega, show ((i 0).val * 768 + (i 1).val) / 64 % 12 = (i 1).val / 64 by omega, show ((i 0).val * 768 + (i 1).val) % 64 = (i 1).val % 64 by omega, show 64 * ((i 1).val / 64) + (i 1).val % 64 = (i 1).val by omega])
theorem r182 : Re (s := S6x2x64) (val_main_v182 (F := Ideal) x0 x1 x2 x3 x4) (fun i => (D.seq 0).dgk (64 * (2 * (i 0).val + (i 1).val) + (i 2).val) + (D.seq 1).dgk (64 * (2 * (i 0).val + (i 1).val) + (i 2).val)) :=
  (r144 R).lay (idx := idx_main_v182) (val_main_v182_apply (F := Ideal) x0 x1 x2 x3 x4) (fun i => by have h0 : (i 0).val < 6 := (i 0).isLt; have h1 : (i 1).val < 2 := (i 1).isLt; have h2 : (i 2).val < 64 := (i 2).isLt; show (D.seq 0).dgk (64 * (((((i 0).val * 2 + (i 1).val) * 64 + (i 2).val) / 64)) + ((((i 0).val * 2 + (i 1).val) * 64 + (i 2).val) % 64)) + (D.seq 1).dgk (64 * (((((i 0).val * 2 + (i 1).val) * 64 + (i 2).val) / 64)) + ((((i 0).val * 2 + (i 1).val) * 64 + (i 2).val) % 64)) = (D.seq 0).dgk (64 * ((2 * (i 0).val + (i 1).val)) + ((i 2).val)) + (D.seq 1).dgk (64 * ((2 * (i 0).val + (i 1).val)) + ((i 2).val)); rw [show (((i 0).val * 2 + (i 1).val) * 64 + (i 2).val) / 64 = 2 * (i 0).val + (i 1).val by omega, show (((i 0).val * 2 + (i 1).val) * 64 + (i 2).val) % 64 = (i 2).val by omega])
theorem r183 : Re (s := S2x64) (val_main_v183 (F := Ideal) x0 x1 x2 x3 x4) (fun i => ∑ p ∈ range 6, ((D.seq 0).dgk (64 * (2 * p + (i 0).val) + (i 1).val) + (D.seq 1).dgk (64 * (2 * p + (i 0).val) + (i 1).val))) :=
  (r182 R).sum (idx := idx_main_v183) (val_main_v183_apply x0 x1 x2 x3 x4) AttK.lit0 fun i k => rfl
theorem r184 : Re (s := S1x2x64) (val_main_v184 (F := Ideal) x0 x1 x2 x3 x4) (fun i => ∑ p ∈ range 6, ((D.seq 0).dgk (64 * (2 * p + (i 1).val) + (i 2).val) + (D.seq 1).dgk (64 * (2 * p + (i 1).val) + (i 2).val))) :=
  (r183 R).lay (idx := idx_main_v184) (val_main_v184_apply (F := Ideal) x0 x1 x2 x3 x4) fun _ => rfl
theorem r185 : Re (s := S1x128) (val_main_v185 (F := Ideal) x0 x1 x2 x3 x4) (fun i => ∑ p ∈ range 6, ((D.seq 0).dgk (128 * p + (i 1).val) + (D.seq 1).dgk (128 * p + (i 1).val))) :=
  (r184 R).lay (idx := idx_main_v185) (val_main_v185_apply (F := Ideal) x0 x1 x2 x3 x4) fun i => by
    have h0 : (i 0).val < 1 := (i 0).isLt
    have h1 : (i 1).val < 128 := (i 1).isLt
    refine Finset.sum_congr rfl fun p _ => ?_
    show (D.seq 0).dgk (64 * (2 * p + ((i 0).val * 128 + (i 1).val) / 64 % 2) + ((i 0).val * 128 + (i 1).val) % 64) + (D.seq 1).dgk (64 * (2 * p + ((i 0).val * 128 + (i 1).val) / 64 % 2) + ((i 0).val * 128 + (i 1).val) % 64) = _
    rw [show 64 * (2 * p + ((i 0).val * 128 + (i 1).val) / 64 % 2) + ((i 0).val * 128 + (i 1).val) % 64 = 128 * p + (i 1).val by omega]

/-! ## The queries -/

theorem r160 : Re (s := S4096x12x64) (val_main_v160 (F := Ideal) x0 x1 x2 x3 x4) (fun i => (D.seq ((i 0).val / 2048)).dqn ((i 0).val % 2048) (64 * (i 1).val + (i 2).val)) :=
  (r136 R).lay (idx := idx_main_v160) (val_main_v160_apply (F := Ideal) x0 x1 x2 x3 x4) (fun i => by have h0 : (i 0).val < 4096 := (i 0).isLt; have h1 : (i 1).val < 12 := (i 1).isLt; have h2 : (i 2).val < 64 := (i 2).isLt; show (D.seq (((((i 0).val * 12 + (i 1).val) * 64 + (i 2).val) / 1572864))).dqn (((((i 0).val * 12 + (i 1).val) * 64 + (i 2).val) / 768 % 2048)) (64 * ((((i 0).val * 12 + (i 1).val) * 64 + (i 2).val) / 64 % 12) + ((((i 0).val * 12 + (i 1).val) * 64 + (i 2).val) % 64)) = (D.seq (((i 0).val / 2048))).dqn (((i 0).val % 2048)) (64 * ((i 1).val) + ((i 2).val)); rw [show (((i 0).val * 12 + (i 1).val) * 64 + (i 2).val) / 1572864 = (i 0).val / 2048 by omega, show (((i 0).val * 12 + (i 1).val) * 64 + (i 2).val) / 768 % 2048 = (i 0).val % 2048 by omega, show (((i 0).val * 12 + (i 1).val) * 64 + (i 2).val) / 64 % 12 = (i 1).val by omega, show (((i 0).val * 12 + (i 1).val) * 64 + (i 2).val) % 64 = (i 2).val by omega])
theorem r161 : Re (s := S4096x12x64) (val_main_v161 (F := Ideal) x0 x1 x2 x3 x4) (fun i => (D.seq ((i 0).val / 2048)).dqn ((i 0).val % 2048) (64 * (i 1).val + (i 2).val) * xhat ((D.seq ((i 0).val / 2048)).q ((i 0).val % 2048)) (64 * (i 1).val + (i 2).val)) :=
  ((r36 R).mul (r160 R)).to fun i => by rw [Att.Arr.seq_q]; exact mul_comm _ _
theorem r162 : Re (s := S12x64) (val_main_v162 (F := Ideal) x0 x1 x2 x3 x4) (fun i => (D.seq 0).dgq (64 * (i 0).val + (i 1).val) + (D.seq 1).dgq (64 * (i 0).val + (i 1).val)) :=
  ((r161 R).sum (idx := idx_main_v162) (val_main_v162_apply x0 x1 x2 x3 x4) AttK.lit0 (G := fun i t => (D.seq (t / 2048)).dqn (t % 2048) (64 * (i 0).val + (i 1).val) * xhat ((D.seq (t / 2048)).q (t % 2048)) (64 * (i 0).val + (i 1).val)) fun i k => rfl).to
    fun i => Att.sum_tokens (fun b i' => (D.seq b).dqn i' (64 * (i 0).val + (i 1).val) * xhat ((D.seq b).q i') (64 * (i 0).val + (i 1).val))
theorem r163 : Re (s := S1x12x64) (val_main_v163 (F := Ideal) x0 x1 x2 x3 x4) (fun i => (D.seq 0).dgq (64 * (i 1).val + (i 2).val) + (D.seq 1).dgq (64 * (i 1).val + (i 2).val)) :=
  (r162 R).lay (idx := idx_main_v163) (val_main_v163_apply (F := Ideal) x0 x1 x2 x3 x4) (fun i => by have h0 : (i 0).val < 1 := (i 0).isLt; have h1 : (i 1).val < 12 := (i 1).isLt; have h2 : (i 2).val < 64 := (i 2).isLt; show (D.seq 0).dgq (64 * ((((i 0).val * 12 + (i 1).val) * 64 + (i 2).val) / 64) + ((((i 0).val * 12 + (i 1).val) * 64 + (i 2).val) % 64)) + (D.seq 1).dgq (64 * ((((i 0).val * 12 + (i 1).val) * 64 + (i 2).val) / 64) + ((((i 0).val * 12 + (i 1).val) * 64 + (i 2).val) % 64)) = (D.seq 0).dgq (64 * ((i 1).val) + ((i 2).val)) + (D.seq 1).dgq (64 * ((i 1).val) + ((i 2).val)); rw [show (((i 0).val * 12 + (i 1).val) * 64 + (i 2).val) / 64 = (i 1).val by omega, show (((i 0).val * 12 + (i 1).val) * 64 + (i 2).val) % 64 = (i 2).val by omega])
theorem r166 : Re (s := S12x64) (val_main_v166 (F := Ideal) x0 x1 x2 x3 x4) (fun i => (D.seq 0).dgq (64 * (i 0).val + (i 1).val) + (D.seq 1).dgq (64 * (i 0).val + (i 1).val)) :=
  ((r163 R).sum (idx := idx_main_v166) (val_main_v166_apply x0 x1 x2 x3 x4) AttK.lit0 (G := fun i _ => (D.seq 0).dgq (64 * (i 0).val + (i 1).val) + (D.seq 1).dgq (64 * (i 0).val + (i 1).val)) fun i k => rfl).to fun i => Finset.sum_range_one _
theorem r164 : Re (s := S4096x12x64) (val_main_v164 (F := Ideal) x2) (fun i => D.gq (i 2).val) :=
  (r37 R).lay (idx := idx_main_v164) (val_main_v164_apply (F := Ideal) x2) fun _ => rfl
theorem r165 : Re (s := S4096x12x64) (val_main_v165 (F := Ideal) x0 x1 x2 x3 x4) (fun i => (D.seq ((i 0).val / 2048)).dqn ((i 0).val % 2048) (64 * (i 1).val + (i 2).val) * D.gq (i 2).val) :=
  (r160 R).mul (r164 R)
theorem r168 : Re (s := S4096x12) (val_main_v168 (F := Ideal) x0 x1 x2 x3 x4) (fun i => (∑ e ∈ range 64, (D.z (i 0).val) (64 * (i 1).val + e) * ((D.seq ((i 0).val / 2048)).dqn ((i 0).val % 2048) (64 * (i 1).val + e) * D.gq e))) :=
  ((r23 R).mul (r165 R)).sum (idx := idx_main_v168) (val_main_v168_apply x0 x1 x2 x3 x4) AttK.lit0 fun i k => rfl
theorem r169 : Re (s := S4096x12x1) (val_main_v169 (F := Ideal) x0 x1 x2 x3 x4) (fun i => (∑ e ∈ range 64, (D.z (i 0).val) (64 * (i 1).val + e) * ((D.seq ((i 0).val / 2048)).dqn ((i 0).val % 2048) (64 * (i 1).val + e) * D.gq e))) :=
  (r168 R).lay (idx := idx_main_v169) (val_main_v169_apply (F := Ideal) x0 x1 x2 x3 x4) (fun i => by have h0 : (i 0).val < 4096 := (i 0).isLt; have h1 : (i 1).val < 12 := (i 1).isLt; have h2 : (i 2).val < 1 := (i 2).isLt; show (∑ e ∈ range 64, (D.z ((((i 0).val * 12 + (i 1).val) * 1 + (i 2).val) / 12)) (64 * ((((i 0).val * 12 + (i 1).val) * 1 + (i 2).val) % 12) + e) * ((D.seq (((((i 0).val * 12 + (i 1).val) * 1 + (i 2).val) / 12) / 2048)).dqn (((((i 0).val * 12 + (i 1).val) * 1 + (i 2).val) / 12) % 2048) (64 * ((((i 0).val * 12 + (i 1).val) * 1 + (i 2).val) % 12) + e) * D.gq e)) = (∑ e ∈ range 64, (D.z ((i 0).val)) (64 * ((i 1).val) + e) * ((D.seq (((i 0).val) / 2048)).dqn (((i 0).val) % 2048) (64 * ((i 1).val) + e) * D.gq e)); rw [show (((i 0).val * 12 + (i 1).val) * 1 + (i 2).val) / 12 = (i 0).val by omega, show (((i 0).val * 12 + (i 1).val) * 1 + (i 2).val) % 12 = (i 1).val by omega])
theorem r170 : Re (s := S4096x12x64) (val_main_v170 (F := Ideal) x0) (fun i => rr (D.z (i 0).val) (64 * (i 1).val)) :=
  (r31 R).lay (idx := idx_main_v170) (val_main_v170_apply (F := Ideal) x0) fun _ => rfl
theorem r172 : Re (s := S4096x12x1) (val_main_v172 (F := Ideal) x0 x1 x2 x3 x4) (fun i => (∑ e ∈ range 64, (D.z (i 0).val) (64 * (i 1).val + e) * ((D.seq ((i 0).val / 2048)).dqn ((i 0).val % 2048) (64 * (i 1).val + e) * D.gq e)) * (-(1 / 2) * (rr (D.z (i 0).val) (64 * (i 1).val) * (1 / marg (D.z (i 0).val) (64 * (i 1).val))))) :=
  (r169 R).mul (r34 R)
theorem r174 : Re (s := S4096x12x1) (val_main_v174 (F := Ideal) x0 x1 x2 x3 x4) (fun i => (∑ e ∈ range 64, (D.z (i 0).val) (64 * (i 1).val + e) * ((D.seq ((i 0).val / 2048)).dqn ((i 0).val % 2048) (64 * (i 1).val + e) * D.gq e)) * (-(1 / 2) * (rr (D.z (i 0).val) (64 * (i 1).val) * (1 / marg (D.z (i 0).val) (64 * (i 1).val)))) * (1 / 64)) :=
  Re.div (y := val_main_v173 (F := Ideal)) (g := fun _ => 64) (r172 R) (fun _ => lit64') fun _ => by norm_num
theorem r175 : Re (s := S4096x12) (val_main_v175 (F := Ideal) x0 x1 x2 x3 x4) (fun i => (∑ e ∈ range 64, (D.z (i 0).val) (64 * (i 1).val + e) * ((D.seq ((i 0).val / 2048)).dqn ((i 0).val % 2048) (64 * (i 1).val + e) * D.gq e)) * (-(1 / 2) * (rr (D.z (i 0).val) (64 * (i 1).val) * (1 / marg (D.z (i 0).val) (64 * (i 1).val)))) * (1 / 64)) :=
  ((r174 R).sum (idx := idx_main_v175) (val_main_v175_apply x0 x1 x2 x3 x4) AttK.lit0 (G := fun i _ => (∑ e ∈ range 64, (D.z (i 0).val) (64 * (i 1).val + e) * ((D.seq ((i 0).val / 2048)).dqn ((i 0).val % 2048) (64 * (i 1).val + e) * D.gq e)) * (-(1 / 2) * (rr (D.z (i 0).val) (64 * (i 1).val) * (1 / marg (D.z (i 0).val) (64 * (i 1).val)))) * (1 / 64)) fun i k => rfl).to fun i => Finset.sum_range_one _
theorem r176 : Re (s := S4096x12x64) (val_main_v176 (F := Ideal) x0 x1 x2 x3 x4) (fun i => (∑ e ∈ range 64, (D.z (i 0).val) (64 * (i 1).val + e) * ((D.seq ((i 0).val / 2048)).dqn ((i 0).val % 2048) (64 * (i 1).val + e) * D.gq e)) * (-(1 / 2) * (rr (D.z (i 0).val) (64 * (i 1).val) * (1 / marg (D.z (i 0).val) (64 * (i 1).val)))) * (1 / 64)) :=
  (r175 R).lay (idx := idx_main_v176) (val_main_v176_apply (F := Ideal) x0 x1 x2 x3 x4) fun _ => rfl
theorem r171 : Re (s := S4096x12x64) (val_main_v171 (F := Ideal) x0 x1 x2 x3 x4) (fun i => (D.seq ((i 0).val / 2048)).dqn ((i 0).val % 2048) (64 * (i 1).val + (i 2).val) * D.gq (i 2).val * rr (D.z (i 0).val) (64 * (i 1).val)) :=
  (r165 R).mul (r170 R)
theorem r177 : Re (s := S4096x12x64) (val_main_v177 (F := Ideal) x0 x1 x2 x3 x4) (fun i => (D.z (i 0).val) (64 * (i 1).val + (i 2).val) * ((∑ e ∈ range 64, (D.z (i 0).val) (64 * (i 1).val + e) * ((D.seq ((i 0).val / 2048)).dqn ((i 0).val % 2048) (64 * (i 1).val + e) * D.gq e)) * (-(1 / 2) * (rr (D.z (i 0).val) (64 * (i 1).val) * (1 / marg (D.z (i 0).val) (64 * (i 1).val)))) * (1 / 64))) :=
  (r23 R).mul (r176 R)
theorem r178 : Re (s := S4096x12x64) (val_main_v178 (F := Ideal) x0 x1 x2 x3 x4) (fun i => (D.seq ((i 0).val / 2048)).dqn ((i 0).val % 2048) (64 * (i 1).val + (i 2).val) * D.gq (i 2).val * rr (D.z (i 0).val) (64 * (i 1).val) + (D.z (i 0).val) (64 * (i 1).val + (i 2).val) * ((∑ e ∈ range 64, (D.z (i 0).val) (64 * (i 1).val + e) * ((D.seq ((i 0).val / 2048)).dqn ((i 0).val % 2048) (64 * (i 1).val + e) * D.gq e)) * (-(1 / 2) * (rr (D.z (i 0).val) (64 * (i 1).val) * (1 / marg (D.z (i 0).val) (64 * (i 1).val)))) * (1 / 64))) :=
  (r171 R).add (r177 R)
theorem r179 : Re (s := S4096x12x64) (val_main_v179 (F := Ideal) x0 x1 x2 x3 x4) (fun i => (∑ e ∈ range 64, (D.z (i 0).val) (64 * (i 1).val + e) * ((D.seq ((i 0).val / 2048)).dqn ((i 0).val % 2048) (64 * (i 1).val + e) * D.gq e)) * (-(1 / 2) * (rr (D.z (i 0).val) (64 * (i 1).val) * (1 / marg (D.z (i 0).val) (64 * (i 1).val)))) * (1 / 64) * (D.z (i 0).val) (64 * (i 1).val + (i 2).val)) :=
  (r176 R).mul (r23 R)
theorem r180 : Re (s := S4096x12x64) (val_main_v180 (F := Ideal) x0 x1 x2 x3 x4) (fun i => (D.seq ((i 0).val / 2048)).dq ((i 0).val % 2048) (64 * (i 1).val + (i 2).val)) :=
  Re.to ((r178 R).add (r179 R)) fun i => by
    unfold Att.Seq.dq
    rw [Att.Arr.seq_q]
    exact Att.nbwd_eq D.gq (D.z (i 0).val) ((D.seq ((i 0).val / 2048)).dqn ((i 0).val % 2048)) (i 1).val (i 2).val (i 2).isLt
theorem r181 : Re (s := S4096x768) (val_main_v181 (F := Ideal) x0 x1 x2 x3 x4) (fun i => (D.seq ((i 0).val / 2048)).dq ((i 0).val % 2048) (i 1).val) :=
  (r180 R).lay (idx := idx_main_v181) (val_main_v181_apply (F := Ideal) x0 x1 x2 x3 x4) (fun i => by have h0 : (i 0).val < 4096 := (i 0).isLt; have h1 : (i 1).val < 768 := (i 1).isLt; show (D.seq ((((i 0).val * 768 + (i 1).val) / 768) / 2048)).dq ((((i 0).val * 768 + (i 1).val) / 768) % 2048) (64 * (((i 0).val * 768 + (i 1).val) / 64 % 12) + (((i 0).val * 768 + (i 1).val) % 64)) = (D.seq ((i 0).val / 2048)).dq ((i 0).val % 2048) (i 1).val; rw [show ((i 0).val * 768 + (i 1).val) / 768 = (i 0).val by omega, show ((i 0).val * 768 + (i 1).val) / 64 % 12 = (i 1).val / 64 by omega, show ((i 0).val * 768 + (i 1).val) % 64 = (i 1).val % 64 by omega, show 64 * ((i 1).val / 64) + (i 1).val % 64 = (i 1).val by omega])
theorem r186 : Re (s := S6x2x64) (val_main_v186 (F := Ideal) x0 x1 x2 x3 x4) (fun i => (D.seq 0).dgq (64 * (2 * (i 0).val + (i 1).val) + (i 2).val) + (D.seq 1).dgq (64 * (2 * (i 0).val + (i 1).val) + (i 2).val)) :=
  (r166 R).lay (idx := idx_main_v186) (val_main_v186_apply (F := Ideal) x0 x1 x2 x3 x4) (fun i => by have h0 : (i 0).val < 6 := (i 0).isLt; have h1 : (i 1).val < 2 := (i 1).isLt; have h2 : (i 2).val < 64 := (i 2).isLt; show (D.seq 0).dgq (64 * (((((i 0).val * 2 + (i 1).val) * 64 + (i 2).val) / 64)) + ((((i 0).val * 2 + (i 1).val) * 64 + (i 2).val) % 64)) + (D.seq 1).dgq (64 * (((((i 0).val * 2 + (i 1).val) * 64 + (i 2).val) / 64)) + ((((i 0).val * 2 + (i 1).val) * 64 + (i 2).val) % 64)) = (D.seq 0).dgq (64 * ((2 * (i 0).val + (i 1).val)) + ((i 2).val)) + (D.seq 1).dgq (64 * ((2 * (i 0).val + (i 1).val)) + ((i 2).val)); rw [show (((i 0).val * 2 + (i 1).val) * 64 + (i 2).val) / 64 = 2 * (i 0).val + (i 1).val by omega, show (((i 0).val * 2 + (i 1).val) * 64 + (i 2).val) % 64 = (i 2).val by omega])
theorem r187 : Re (s := S2x64) (val_main_v187 (F := Ideal) x0 x1 x2 x3 x4) (fun i => ∑ p ∈ range 6, ((D.seq 0).dgq (64 * (2 * p + (i 0).val) + (i 1).val) + (D.seq 1).dgq (64 * (2 * p + (i 0).val) + (i 1).val))) :=
  (r186 R).sum (idx := idx_main_v187) (val_main_v187_apply x0 x1 x2 x3 x4) AttK.lit0 fun i k => rfl
theorem r188 : Re (s := S1x2x64) (val_main_v188 (F := Ideal) x0 x1 x2 x3 x4) (fun i => ∑ p ∈ range 6, ((D.seq 0).dgq (64 * (2 * p + (i 1).val) + (i 2).val) + (D.seq 1).dgq (64 * (2 * p + (i 1).val) + (i 2).val))) :=
  (r187 R).lay (idx := idx_main_v188) (val_main_v188_apply (F := Ideal) x0 x1 x2 x3 x4) fun _ => rfl
theorem r189 : Re (s := S1x128) (val_main_v189 (F := Ideal) x0 x1 x2 x3 x4) (fun i => ∑ p ∈ range 6, ((D.seq 0).dgq (128 * p + (i 1).val) + (D.seq 1).dgq (128 * p + (i 1).val))) :=
  (r188 R).lay (idx := idx_main_v189) (val_main_v189_apply (F := Ideal) x0 x1 x2 x3 x4) fun i => by
    have h0 : (i 0).val < 1 := (i 0).isLt
    have h1 : (i 1).val < 128 := (i 1).isLt
    refine Finset.sum_congr rfl fun p _ => ?_
    show (D.seq 0).dgq (64 * (2 * p + ((i 0).val * 128 + (i 1).val) / 64 % 2) + ((i 0).val * 128 + (i 1).val) % 64) + (D.seq 1).dgq (64 * (2 * p + ((i 0).val * 128 + (i 1).val) / 64 % 2) + ((i 0).val * 128 + (i 1).val) % 64) = _
    rw [show 64 * (2 * p + ((i 0).val * 128 + (i 1).val) / 64 % 2) + ((i 0).val * 128 + (i 1).val) % 64 = 128 * p + (i 1).val by omega]

/-! ## The bias -/

theorem r190 : Re (s := S12x2048x2560) (val_main_v190 (F := Ideal) x0 x1 x2 x3 x4) (fun i => D.padded (i 0).val (i 1).val (i 2).val) := fun i => by
  have h2 : (i 2).val < 2560 := (i 2).isLt
  unfold val_main_v190
  by_cases h : 512 ≤ (i 2).val
  · refine (pad_apply_of_inside _ _ _ _ _ _ _ i (ix3 (⟨(i 0).val, (i 0).isLt⟩ : Fin 12) (⟨(i 1).val, (i 1).isLt⟩ : Fin 2048) (⟨(i 2).val - 512, by omega⟩ : Fin 2048) : S12x2048x2048.Idx) fun a => ?_).trans ?_
    · match a with
      | ⟨0, _⟩ => show (i 0).val = 0 + (i 0).val * 1; omega
      | ⟨1, _⟩ => show (i 1).val = 0 + (i 1).val * 1; omega
      | ⟨2, _⟩ => show (i 2).val = 512 + ((i 2).val - 512) * 1; omega
    · refine (r130 R _).trans (congrArg (fun x : ℝ => (x : EReal)) ?_)
      show _ = D.padded (i 0).val (i 1).val (i 2).val
      unfold Att.Arr.padded
      rw [if_pos h]
  · refine (pad_apply_of_not_inside _ _ _ _ _ _ _ i (2 : Fin 3) (fun hh => h hh.1)).trans ?_
    show ((BitVec.toInt (0#32) : ℝ) : EReal) = ((D.padded (i 0).val (i 1).val (i 2).val : ℝ) : EReal)
    unfold Att.Arr.padded
    rw [if_neg h]; simp
theorem r191 : Re (s := S12x8x256x2560) (val_main_v191 (F := Ideal) x0 x1 x2 x3 x4) (fun i => D.padded (i 0).val (256 * (i 1).val + (i 2).val) (i 3).val) :=
  (r190 R).lay (idx := idx_main_v191) (val_main_v191_apply (F := Ideal) x0 x1 x2 x3 x4) (fun i => by have h0 : (i 0).val < 12 := (i 0).isLt; have h1 : (i 1).val < 8 := (i 1).isLt; have h2 : (i 2).val < 256 := (i 2).isLt; have h3 : (i 3).val < 2560 := (i 3).isLt; show D.padded (((((i 0).val * 8 + (i 1).val) * 256 + (i 2).val) * 2560 + (i 3).val) / 5242880) ((((((i 0).val * 8 + (i 1).val) * 256 + (i 2).val) * 2560 + (i 3).val) / 2560 % 2048)) (((((i 0).val * 8 + (i 1).val) * 256 + (i 2).val) * 2560 + (i 3).val) % 2560) = D.padded ((i 0).val) ((256 * (i 1).val + (i 2).val)) ((i 3).val); rw [show ((((i 0).val * 8 + (i 1).val) * 256 + (i 2).val) * 2560 + (i 3).val) / 5242880 = (i 0).val by omega, show ((((i 0).val * 8 + (i 1).val) * 256 + (i 2).val) * 2560 + (i 3).val) / 2560 % 2048 = 256 * (i 1).val + (i 2).val by omega, show ((((i 0).val * 8 + (i 1).val) * 256 + (i 2).val) * 2560 + (i 3).val) % 2560 = (i 3).val by omega])
theorem r192 : Re (s := S12x1x256x768) (val_main_v192 (F := Ideal) x0 x1 x2 x3 x4) (fun i => D.padded (i 0).val (256 * 0 + (i 2).val) (256 * 0 + (i 3).val)) :=
  (r191 R).lay (idx := idx_main_v192) (val_main_v192_apply (F := Ideal) x0 x1 x2 x3 x4) fun i => by
    have h1 : (i 1).val < 1 := (i 1).isLt
    show D.padded (i 0).val (256 * ((i 1).val) + (i 2).val) ((i 3).val) = D.padded (i 0).val (256 * 0 + (i 2).val) (256 * 0 + (i 3).val)
    exact congrArg₂ (D.padded (i 0).val) (by omega) (by omega)
theorem r193 : Re (s := S12x256x768) (val_main_v193 (F := Ideal) x0 x1 x2 x3 x4) (fun i => D.padded (i 0).val (256 * 0 + (i 1).val) (256 * 0 + (i 2).val)) :=
  (r192 R).lay (idx := idx_main_v193) (val_main_v193_apply (F := Ideal) x0 x1 x2 x3 x4) fun i => by
    have h0 : (i 0).val < 12 := (i 0).isLt; have h1 : (i 1).val < 256 := (i 1).isLt; have h2 : (i 2).val < 768 := (i 2).isLt
    show D.padded ((((i 0).val * 256 + (i 1).val) * 768 + (i 2).val) / 196608) (256 * 0 + (((i 0).val * 256 + (i 1).val) * 768 + (i 2).val) / 768 % 256) (256 * 0 + (((i 0).val * 256 + (i 1).val) * 768 + (i 2).val) % 768) = D.padded (i 0).val (256 * 0 + (i 1).val) (256 * 0 + (i 2).val)
    rw [show (((i 0).val * 256 + (i 1).val) * 768 + (i 2).val) / 196608 = (i 0).val by omega, show (((i 0).val * 256 + (i 1).val) * 768 + (i 2).val) / 768 % 256 = (i 1).val by omega, show (((i 0).val * 256 + (i 1).val) * 768 + (i 2).val) % 768 = (i 2).val by omega]
theorem r196 : Re (s := S12x1x256x768) (val_main_v196 (F := Ideal) x0 x1 x2 x3 x4) (fun i => D.padded (i 0).val (256 * 1 + (i 2).val) (256 * 1 + (i 3).val)) :=
  (r191 R).lay (idx := idx_main_v196) (val_main_v196_apply (F := Ideal) x0 x1 x2 x3 x4) fun i => by
    have h1 : (i 1).val < 1 := (i 1).isLt
    show D.padded (i 0).val (256 * (1 + (i 1).val) + (i 2).val) (256 + (i 3).val) = D.padded (i 0).val (256 * 1 + (i 2).val) (256 * 1 + (i 3).val)
    exact congrArg₂ (D.padded (i 0).val) (by omega) (by omega)
theorem r197 : Re (s := S12x256x768) (val_main_v197 (F := Ideal) x0 x1 x2 x3 x4) (fun i => D.padded (i 0).val (256 * 1 + (i 1).val) (256 * 1 + (i 2).val)) :=
  (r196 R).lay (idx := idx_main_v197) (val_main_v197_apply (F := Ideal) x0 x1 x2 x3 x4) fun i => by
    have h0 : (i 0).val < 12 := (i 0).isLt; have h1 : (i 1).val < 256 := (i 1).isLt; have h2 : (i 2).val < 768 := (i 2).isLt
    show D.padded ((((i 0).val * 256 + (i 1).val) * 768 + (i 2).val) / 196608) (256 * 1 + (((i 0).val * 256 + (i 1).val) * 768 + (i 2).val) / 768 % 256) (256 * 1 + (((i 0).val * 256 + (i 1).val) * 768 + (i 2).val) % 768) = D.padded (i 0).val (256 * 1 + (i 1).val) (256 * 1 + (i 2).val)
    rw [show (((i 0).val * 256 + (i 1).val) * 768 + (i 2).val) / 196608 = (i 0).val by omega, show (((i 0).val * 256 + (i 1).val) * 768 + (i 2).val) / 768 % 256 = (i 1).val by omega, show (((i 0).val * 256 + (i 1).val) * 768 + (i 2).val) % 768 = (i 2).val by omega]
theorem r199 : Re (s := S12x1x256x768) (val_main_v199 (F := Ideal) x0 x1 x2 x3 x4) (fun i => D.padded (i 0).val (256 * 2 + (i 2).val) (256 * 2 + (i 3).val)) :=
  (r191 R).lay (idx := idx_main_v199) (val_main_v199_apply (F := Ideal) x0 x1 x2 x3 x4) fun i => by
    have h1 : (i 1).val < 1 := (i 1).isLt
    show D.padded (i 0).val (256 * (2 + (i 1).val) + (i 2).val) (512 + (i 3).val) = D.padded (i 0).val (256 * 2 + (i 2).val) (256 * 2 + (i 3).val)
    exact congrArg₂ (D.padded (i 0).val) (by omega) (by omega)
theorem r200 : Re (s := S12x256x768) (val_main_v200 (F := Ideal) x0 x1 x2 x3 x4) (fun i => D.padded (i 0).val (256 * 2 + (i 1).val) (256 * 2 + (i 2).val)) :=
  (r199 R).lay (idx := idx_main_v200) (val_main_v200_apply (F := Ideal) x0 x1 x2 x3 x4) fun i => by
    have h0 : (i 0).val < 12 := (i 0).isLt; have h1 : (i 1).val < 256 := (i 1).isLt; have h2 : (i 2).val < 768 := (i 2).isLt
    show D.padded ((((i 0).val * 256 + (i 1).val) * 768 + (i 2).val) / 196608) (256 * 2 + (((i 0).val * 256 + (i 1).val) * 768 + (i 2).val) / 768 % 256) (256 * 2 + (((i 0).val * 256 + (i 1).val) * 768 + (i 2).val) % 768) = D.padded (i 0).val (256 * 2 + (i 1).val) (256 * 2 + (i 2).val)
    rw [show (((i 0).val * 256 + (i 1).val) * 768 + (i 2).val) / 196608 = (i 0).val by omega, show (((i 0).val * 256 + (i 1).val) * 768 + (i 2).val) / 768 % 256 = (i 1).val by omega, show (((i 0).val * 256 + (i 1).val) * 768 + (i 2).val) % 768 = (i 2).val by omega]
theorem r202 : Re (s := S12x1x256x768) (val_main_v202 (F := Ideal) x0 x1 x2 x3 x4) (fun i => D.padded (i 0).val (256 * 3 + (i 2).val) (256 * 3 + (i 3).val)) :=
  (r191 R).lay (idx := idx_main_v202) (val_main_v202_apply (F := Ideal) x0 x1 x2 x3 x4) fun i => by
    have h1 : (i 1).val < 1 := (i 1).isLt
    show D.padded (i 0).val (256 * (3 + (i 1).val) + (i 2).val) (768 + (i 3).val) = D.padded (i 0).val (256 * 3 + (i 2).val) (256 * 3 + (i 3).val)
    exact congrArg₂ (D.padded (i 0).val) (by omega) (by omega)
theorem r203 : Re (s := S12x256x768) (val_main_v203 (F := Ideal) x0 x1 x2 x3 x4) (fun i => D.padded (i 0).val (256 * 3 + (i 1).val) (256 * 3 + (i 2).val)) :=
  (r202 R).lay (idx := idx_main_v203) (val_main_v203_apply (F := Ideal) x0 x1 x2 x3 x4) fun i => by
    have h0 : (i 0).val < 12 := (i 0).isLt; have h1 : (i 1).val < 256 := (i 1).isLt; have h2 : (i 2).val < 768 := (i 2).isLt
    show D.padded ((((i 0).val * 256 + (i 1).val) * 768 + (i 2).val) / 196608) (256 * 3 + (((i 0).val * 256 + (i 1).val) * 768 + (i 2).val) / 768 % 256) (256 * 3 + (((i 0).val * 256 + (i 1).val) * 768 + (i 2).val) % 768) = D.padded (i 0).val (256 * 3 + (i 1).val) (256 * 3 + (i 2).val)
    rw [show (((i 0).val * 256 + (i 1).val) * 768 + (i 2).val) / 196608 = (i 0).val by omega, show (((i 0).val * 256 + (i 1).val) * 768 + (i 2).val) / 768 % 256 = (i 1).val by omega, show (((i 0).val * 256 + (i 1).val) * 768 + (i 2).val) % 768 = (i 2).val by omega]
theorem r205 : Re (s := S12x1x256x768) (val_main_v205 (F := Ideal) x0 x1 x2 x3 x4) (fun i => D.padded (i 0).val (256 * 4 + (i 2).val) (256 * 4 + (i 3).val)) :=
  (r191 R).lay (idx := idx_main_v205) (val_main_v205_apply (F := Ideal) x0 x1 x2 x3 x4) fun i => by
    have h1 : (i 1).val < 1 := (i 1).isLt
    show D.padded (i 0).val (256 * (4 + (i 1).val) + (i 2).val) (1024 + (i 3).val) = D.padded (i 0).val (256 * 4 + (i 2).val) (256 * 4 + (i 3).val)
    exact congrArg₂ (D.padded (i 0).val) (by omega) (by omega)
theorem r206 : Re (s := S12x256x768) (val_main_v206 (F := Ideal) x0 x1 x2 x3 x4) (fun i => D.padded (i 0).val (256 * 4 + (i 1).val) (256 * 4 + (i 2).val)) :=
  (r205 R).lay (idx := idx_main_v206) (val_main_v206_apply (F := Ideal) x0 x1 x2 x3 x4) fun i => by
    have h0 : (i 0).val < 12 := (i 0).isLt; have h1 : (i 1).val < 256 := (i 1).isLt; have h2 : (i 2).val < 768 := (i 2).isLt
    show D.padded ((((i 0).val * 256 + (i 1).val) * 768 + (i 2).val) / 196608) (256 * 4 + (((i 0).val * 256 + (i 1).val) * 768 + (i 2).val) / 768 % 256) (256 * 4 + (((i 0).val * 256 + (i 1).val) * 768 + (i 2).val) % 768) = D.padded (i 0).val (256 * 4 + (i 1).val) (256 * 4 + (i 2).val)
    rw [show (((i 0).val * 256 + (i 1).val) * 768 + (i 2).val) / 196608 = (i 0).val by omega, show (((i 0).val * 256 + (i 1).val) * 768 + (i 2).val) / 768 % 256 = (i 1).val by omega, show (((i 0).val * 256 + (i 1).val) * 768 + (i 2).val) % 768 = (i 2).val by omega]
theorem r208 : Re (s := S12x1x256x768) (val_main_v208 (F := Ideal) x0 x1 x2 x3 x4) (fun i => D.padded (i 0).val (256 * 5 + (i 2).val) (256 * 5 + (i 3).val)) :=
  (r191 R).lay (idx := idx_main_v208) (val_main_v208_apply (F := Ideal) x0 x1 x2 x3 x4) fun i => by
    have h1 : (i 1).val < 1 := (i 1).isLt
    show D.padded (i 0).val (256 * (5 + (i 1).val) + (i 2).val) (1280 + (i 3).val) = D.padded (i 0).val (256 * 5 + (i 2).val) (256 * 5 + (i 3).val)
    exact congrArg₂ (D.padded (i 0).val) (by omega) (by omega)
theorem r209 : Re (s := S12x256x768) (val_main_v209 (F := Ideal) x0 x1 x2 x3 x4) (fun i => D.padded (i 0).val (256 * 5 + (i 1).val) (256 * 5 + (i 2).val)) :=
  (r208 R).lay (idx := idx_main_v209) (val_main_v209_apply (F := Ideal) x0 x1 x2 x3 x4) fun i => by
    have h0 : (i 0).val < 12 := (i 0).isLt; have h1 : (i 1).val < 256 := (i 1).isLt; have h2 : (i 2).val < 768 := (i 2).isLt
    show D.padded ((((i 0).val * 256 + (i 1).val) * 768 + (i 2).val) / 196608) (256 * 5 + (((i 0).val * 256 + (i 1).val) * 768 + (i 2).val) / 768 % 256) (256 * 5 + (((i 0).val * 256 + (i 1).val) * 768 + (i 2).val) % 768) = D.padded (i 0).val (256 * 5 + (i 1).val) (256 * 5 + (i 2).val)
    rw [show (((i 0).val * 256 + (i 1).val) * 768 + (i 2).val) / 196608 = (i 0).val by omega, show (((i 0).val * 256 + (i 1).val) * 768 + (i 2).val) / 768 % 256 = (i 1).val by omega, show (((i 0).val * 256 + (i 1).val) * 768 + (i 2).val) % 768 = (i 2).val by omega]
theorem r211 : Re (s := S12x1x256x768) (val_main_v211 (F := Ideal) x0 x1 x2 x3 x4) (fun i => D.padded (i 0).val (256 * 6 + (i 2).val) (256 * 6 + (i 3).val)) :=
  (r191 R).lay (idx := idx_main_v211) (val_main_v211_apply (F := Ideal) x0 x1 x2 x3 x4) fun i => by
    have h1 : (i 1).val < 1 := (i 1).isLt
    show D.padded (i 0).val (256 * (6 + (i 1).val) + (i 2).val) (1536 + (i 3).val) = D.padded (i 0).val (256 * 6 + (i 2).val) (256 * 6 + (i 3).val)
    exact congrArg₂ (D.padded (i 0).val) (by omega) (by omega)
theorem r212 : Re (s := S12x256x768) (val_main_v212 (F := Ideal) x0 x1 x2 x3 x4) (fun i => D.padded (i 0).val (256 * 6 + (i 1).val) (256 * 6 + (i 2).val)) :=
  (r211 R).lay (idx := idx_main_v212) (val_main_v212_apply (F := Ideal) x0 x1 x2 x3 x4) fun i => by
    have h0 : (i 0).val < 12 := (i 0).isLt; have h1 : (i 1).val < 256 := (i 1).isLt; have h2 : (i 2).val < 768 := (i 2).isLt
    show D.padded ((((i 0).val * 256 + (i 1).val) * 768 + (i 2).val) / 196608) (256 * 6 + (((i 0).val * 256 + (i 1).val) * 768 + (i 2).val) / 768 % 256) (256 * 6 + (((i 0).val * 256 + (i 1).val) * 768 + (i 2).val) % 768) = D.padded (i 0).val (256 * 6 + (i 1).val) (256 * 6 + (i 2).val)
    rw [show (((i 0).val * 256 + (i 1).val) * 768 + (i 2).val) / 196608 = (i 0).val by omega, show (((i 0).val * 256 + (i 1).val) * 768 + (i 2).val) / 768 % 256 = (i 1).val by omega, show (((i 0).val * 256 + (i 1).val) * 768 + (i 2).val) % 768 = (i 2).val by omega]
theorem r214 : Re (s := S12x1x256x768) (val_main_v214 (F := Ideal) x0 x1 x2 x3 x4) (fun i => D.padded (i 0).val (256 * 7 + (i 2).val) (256 * 7 + (i 3).val)) :=
  (r191 R).lay (idx := idx_main_v214) (val_main_v214_apply (F := Ideal) x0 x1 x2 x3 x4) fun i => by
    have h1 : (i 1).val < 1 := (i 1).isLt
    show D.padded (i 0).val (256 * (7 + (i 1).val) + (i 2).val) (1792 + (i 3).val) = D.padded (i 0).val (256 * 7 + (i 2).val) (256 * 7 + (i 3).val)
    exact congrArg₂ (D.padded (i 0).val) (by omega) (by omega)
theorem r215 : Re (s := S12x256x768) (val_main_v215 (F := Ideal) x0 x1 x2 x3 x4) (fun i => D.padded (i 0).val (256 * 7 + (i 1).val) (256 * 7 + (i 2).val)) :=
  (r214 R).lay (idx := idx_main_v215) (val_main_v215_apply (F := Ideal) x0 x1 x2 x3 x4) fun i => by
    have h0 : (i 0).val < 12 := (i 0).isLt; have h1 : (i 1).val < 256 := (i 1).isLt; have h2 : (i 2).val < 768 := (i 2).isLt
    show D.padded ((((i 0).val * 256 + (i 1).val) * 768 + (i 2).val) / 196608) (256 * 7 + (((i 0).val * 256 + (i 1).val) * 768 + (i 2).val) / 768 % 256) (256 * 7 + (((i 0).val * 256 + (i 1).val) * 768 + (i 2).val) % 768) = D.padded (i 0).val (256 * 7 + (i 1).val) (256 * 7 + (i 2).val)
    rw [show (((i 0).val * 256 + (i 1).val) * 768 + (i 2).val) / 196608 = (i 0).val by omega, show (((i 0).val * 256 + (i 1).val) * 768 + (i 2).val) / 768 % 256 = (i 1).val by omega, show (((i 0).val * 256 + (i 1).val) * 768 + (i 2).val) % 768 = (i 2).val by omega]
omit R in
theorem r194 : Re (s := S12x256x768) (val_main_v194 (F := Ideal)) (fun _ => 0) := fun _ => AttK.lit0
theorem r195 : Re (s := S12x256x768) (val_main_v195 (F := Ideal) x0 x1 x2 x3 x4) (fun i => 0 + D.padded (i 0).val (256 * 0 + (i 1).val) (256 * 0 + (i 2).val)) := r194.add (r193 R)
theorem r198 : Re (s := S12x256x768) (val_main_v198 (F := Ideal) x0 x1 x2 x3 x4) (fun i => 0 + D.padded (i 0).val (256 * 0 + (i 1).val) (256 * 0 + (i 2).val) + D.padded (i 0).val (256 * 1 + (i 1).val) (256 * 1 + (i 2).val)) := (r195 R).add (r197 R)
theorem r201 : Re (s := S12x256x768) (val_main_v201 (F := Ideal) x0 x1 x2 x3 x4) (fun i => 0 + D.padded (i 0).val (256 * 0 + (i 1).val) (256 * 0 + (i 2).val) + D.padded (i 0).val (256 * 1 + (i 1).val) (256 * 1 + (i 2).val) + D.padded (i 0).val (256 * 2 + (i 1).val) (256 * 2 + (i 2).val)) := (r198 R).add (r200 R)
theorem r204 : Re (s := S12x256x768) (val_main_v204 (F := Ideal) x0 x1 x2 x3 x4) (fun i => 0 + D.padded (i 0).val (256 * 0 + (i 1).val) (256 * 0 + (i 2).val) + D.padded (i 0).val (256 * 1 + (i 1).val) (256 * 1 + (i 2).val) + D.padded (i 0).val (256 * 2 + (i 1).val) (256 * 2 + (i 2).val) + D.padded (i 0).val (256 * 3 + (i 1).val) (256 * 3 + (i 2).val)) := (r201 R).add (r203 R)
theorem r207 : Re (s := S12x256x768) (val_main_v207 (F := Ideal) x0 x1 x2 x3 x4) (fun i => 0 + D.padded (i 0).val (256 * 0 + (i 1).val) (256 * 0 + (i 2).val) + D.padded (i 0).val (256 * 1 + (i 1).val) (256 * 1 + (i 2).val) + D.padded (i 0).val (256 * 2 + (i 1).val) (256 * 2 + (i 2).val) + D.padded (i 0).val (256 * 3 + (i 1).val) (256 * 3 + (i 2).val) + D.padded (i 0).val (256 * 4 + (i 1).val) (256 * 4 + (i 2).val)) := (r204 R).add (r206 R)
theorem r210 : Re (s := S12x256x768) (val_main_v210 (F := Ideal) x0 x1 x2 x3 x4) (fun i => 0 + D.padded (i 0).val (256 * 0 + (i 1).val) (256 * 0 + (i 2).val) + D.padded (i 0).val (256 * 1 + (i 1).val) (256 * 1 + (i 2).val) + D.padded (i 0).val (256 * 2 + (i 1).val) (256 * 2 + (i 2).val) + D.padded (i 0).val (256 * 3 + (i 1).val) (256 * 3 + (i 2).val) + D.padded (i 0).val (256 * 4 + (i 1).val) (256 * 4 + (i 2).val) + D.padded (i 0).val (256 * 5 + (i 1).val) (256 * 5 + (i 2).val)) := (r207 R).add (r209 R)
theorem r213 : Re (s := S12x256x768) (val_main_v213 (F := Ideal) x0 x1 x2 x3 x4) (fun i => 0 + D.padded (i 0).val (256 * 0 + (i 1).val) (256 * 0 + (i 2).val) + D.padded (i 0).val (256 * 1 + (i 1).val) (256 * 1 + (i 2).val) + D.padded (i 0).val (256 * 2 + (i 1).val) (256 * 2 + (i 2).val) + D.padded (i 0).val (256 * 3 + (i 1).val) (256 * 3 + (i 2).val) + D.padded (i 0).val (256 * 4 + (i 1).val) (256 * 4 + (i 2).val) + D.padded (i 0).val (256 * 5 + (i 1).val) (256 * 5 + (i 2).val) + D.padded (i 0).val (256 * 6 + (i 1).val) (256 * 6 + (i 2).val)) := (r210 R).add (r212 R)
/-- The bias's gradient, one block of rows for each head, the query blocks summed. -/
theorem r216 : Re (s := S12x256x768) (val_main_v216 (F := Ideal) x0 x1 x2 x3 x4) (fun i => (D.seq 0).db (i 0).val (i 1).val (i 2).val + (D.seq 1).db (i 0).val (i 1).val (i 2).val) :=
  Re.to ((r213 R).add (r215 R))
    fun i => Att.Arr.padded_sum D (i 0).val (i 1).val (i 2).val

end

end AttR
-- ==== Proof.Equal.lean ====
/-
  The equation: each array that the kernel returns is the array that the reference returns.
-/
module

public import proofs.«01_k».proof.Proof.Grid
public import proofs.«01_k».proof.Proof.RefBwd

@[expose] public section

noncomputable section

namespace AttE

open Idealize.ShloMosaic hiding ix0 ix1 ix2 ix3 ix4 ix5
open Idealize.ShloMosaic.ValueIdx Idealize.ShloMosaic.TcCoe Cert.KernelIdeal Cert.KernelIdeal.Gen AttK
open Cert.ReferenceIdeal.Read (val_main_v181 val_main_v159 val_main_v137 val_main_v216 val_main_v189 val_main_v185 val_main_v217 val_main_v218 val_main_v219)
open scoped BigOperators
open Finset (range)

/-- An array of the shape of `dq` is known from its entries at the rows of each sequence and the columns of each pair. -/
theorem by_blocks {x y : S4096x768.Idx → EReal} (f : ℕ → ℕ → ℕ → ℝ)
    (hx : ∀ (b : Fin 2) (i : Fin 2048) (p : Fin 6) (l : Fin 128), x (ix2 (grow b i) (gcol p l)) = ((f b.val i.val (128 * p.val + l.val) : ℝ) : EReal))
    (hy : ∀ i : S4096x768.Idx, y i = ((f ((i 0).val / 2048) ((i 0).val % 2048) (i 1).val : ℝ) : EReal)) : x = y := by
  funext i
  have h0 : (i 0).val < 4096 := (i 0).isLt
  have h1 : (i 1).val < 768 := (i 1).isLt
  have e : i = ix2 (grow ⟨(i 0).val / 2048, by omega⟩ ⟨(i 0).val % 2048, by omega⟩) (gcol ⟨(i 1).val / 128, by omega⟩ ⟨(i 1).val % 128, by omega⟩) := by
    funext a
    match a with
    | 0 => exact Fin.ext (show (i 0).val = 2048 * ((i 0).val / 2048) + (i 0).val % 2048 by omega)
    | 1 => exact Fin.ext (show (i 1).val = 128 * ((i 1).val / 128) + (i 1).val % 128 by omega)
  rw [hy i, e, hx]
  show ((f ((i 0).val / 2048) ((i 0).val % 2048) (128 * ((i 1).val / 128) + (i 1).val % 128) : ℝ) : EReal)
    = ((f ((2048 * ((i 0).val / 2048) + (i 0).val % 2048) / 2048) ((2048 * ((i 0).val / 2048) + (i 0).val % 2048) % 2048) (128 * ((i 1).val / 128) + (i 1).val % 128) : ℝ) : EReal)
  rw [show 2048 * ((i 0).val / 2048) + (i 0).val % 2048 = (i 0).val by omega]

/-- The same for the bias's gradient: head `2p + u` of pair `p`. -/
theorem by_heads {x y : S12x256x768.Idx → EReal} (f : ℕ → ℕ → ℕ → ℝ)
    (hx : ∀ (p : Fin 6) (u : Fin 2) (r : Fin 256) (k : Fin 768), x (ix3 (⟨2 * p.val + u.val, by have := p.isLt; have := u.isLt; omega⟩ : Fin 12) r k) = ((f (2 * p.val + u.val) r.val k.val : ℝ) : EReal))
    (hy : ∀ i : S12x256x768.Idx, y i = ((f (i 0).val (i 1).val (i 2).val : ℝ) : EReal)) : x = y := by
  funext i
  have h0 : (i 0).val < 12 := (i 0).isLt
  have e : i = ix3 (⟨2 * ((i 0).val / 2) + (i 0).val % 2, by omega⟩ : Fin 12) (⟨(i 1).val, (i 1).isLt⟩ : Fin 256) (⟨(i 2).val, (i 2).isLt⟩ : Fin 768) := by
    funext a
    match a with
    | 0 => exact Fin.ext (show (i 0).val = 2 * ((i 0).val / 2) + (i 0).val % 2 by omega)
    | 1 => rfl
    | 2 => rfl
  have h := hx ⟨(i 0).val / 2, by omega⟩ ⟨(i 0).val % 2, by omega⟩ ⟨(i 1).val, (i 1).isLt⟩ ⟨(i 2).val, (i 2).isLt⟩
  rw [hy i]
  refine (congrArg x e).trans (h.trans ?_)
  show ((f (2 * ((i 0).val / 2) + (i 0).val % 2) (i 1).val (i 2).val : ℝ) : EReal) = _
  rw [show 2 * ((i 0).val / 2) + (i 0).val % 2 = (i 0).val by omega]

/-- The same for the gains' gradients. -/
theorem by_lanes {x y : S1x128.Idx → EReal} (f : ℕ → ℝ) (hx : ∀ l : Fin 128, x (ix2 (0 : Fin 1) l) = ((f l.val : ℝ) : EReal))
    (hy : ∀ i : S1x128.Idx, y i = ((f (i 1).val : ℝ) : EReal)) : x = y := by
  funext i
  have e : i = ix2 (0 : Fin 1) (⟨(i 1).val, (i 1).isLt⟩ : Fin 128) := by
    funext a
    match a with
    | 0 => exact Fin.ext (show (i 0).val = 0 by have h : (i 0).val < 1 := (i 0).isLt; omega)
    | 1 => rfl
  rw [hy i]
  exact (congrArg x e).trans (hx ⟨(i 1).val, (i 1).isLt⟩)

variable {m : (ℓ : Loc nD τ sig) → Buf (Elt Ideal) ℓ} {c : Dev nD} {D : Att.Arr}
variable (R : Reads D (m ((c : Thread nD τ).loc main_arg0)) (m ((c : Thread nD τ).loc main_arg1)) (m ((c : Thread nD τ).loc main_arg2))
  (m ((c : Thread nD τ).loc main_arg3)) (m ((c : Thread nD τ).loc main_arg4)))

include R

theorem eq_dq : ((dats m 0 c).arrAt 7 cfg0.N : FVec Ideal S4096x768 .bf16)
    = val_main_v217 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  by_blocks (fun b => (D.seq b).dq) (kernel_dq R) (AttR.r181 R)
theorem eq_dk : ((dats m 0 c).arrAt 8 cfg0.N : FVec Ideal S4096x768 .bf16)
    = val_main_v218 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  by_blocks (fun b => (D.seq b).dk) (kernel_dk R) (AttR.r159 R)
theorem eq_dv : ((dats m 0 c).arrAt 9 cfg0.N : FVec Ideal S4096x768 .bf16)
    = val_main_v219 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  by_blocks (fun b => (D.seq b).dv) (kernel_dv R) (AttR.r137 R)
theorem eq_db : ((dats m 0 c).arrAt 10 cfg0.N : FVec Ideal S12x256x768 .f32)
    = val_main_v216 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  by_heads (fun h r k => (D.seq 0).db h r k + (D.seq 1).db h r k) (kernel_db R) (AttR.r216 R)
theorem eq_dgq : ((dats m 0 c).arrAt 11 cfg0.N : FVec Ideal S1x128 .f32)
    = val_main_v189 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  by_lanes (fun l => ∑ p ∈ range 6, ((D.seq 0).dgq (128 * p + l) + (D.seq 1).dgq (128 * p + l))) (kernel_dgq R) (AttR.r189 R)
theorem eq_dgk : ((dats m 0 c).arrAt 12 cfg0.N : FVec Ideal S1x128 .f32)
    = val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  by_lanes (fun l => ∑ p ∈ range 6, ((D.seq 0).dgk (128 * p + l) + (D.seq 1).dgk (128 * p + l))) (kernel_dgk R) (AttR.r185 R)

end AttE
-- ==== Proof.FfnPoint.lean ====
/-
  What a grid point of the feed-forward layer's backward half computes from its 256 rows.
-/
module

public import proofs.«01_k».proof.Proof.FfnModel
public import proofs.«01_k».proof.Proof.Gen.Kernel2Ideal.Skeleton

@[expose] public section

noncomputable section

namespace FfnB

open Idealize.ShloMosaic hiding ix0 ix1 ix2 ix3 ix4 ix5
open Idealize.ShloMosaic.ValueIdx Idealize.ShloMosaic.TcCoe Cert.Kernel2Ideal Cert.Kernel2Ideal.Gen
open Ffn (Is)
open Finset (range)

variable {A : Arr}

section
variable {v3 : FVec Ideal S256x1024 .bf16} {v4 : FVec Ideal S2816x1024 .bf16} {v6 v9 : FVec Ideal S256x2816 .bf16}

theorem p3 (h3 : Is v3 A.C) (h4 : Is v4 A.wd) : Is (k0_pay3 (F := Ideal) v3 v4) A.dact := fun r f => Ffn.nt_is h3 h4 r f

theorem p4 (h6 : Is v6 A.gate) : Is (k0_pay4 (F := Ideal) v6) A.gate := fun r f => by
  unfold k0_pay4; rw [shapeCast_id]; exact h6 r f

theorem p5 (h6 : Is v6 A.gate) : Is (k0_pay5 (F := Ideal) v6) A.sg := fun r f => by
  have e : k0_pay5 (F := Ideal) v6 (ix2 r f) = (FloatOps.ofBits .f32 0x3F000000#32 : Ideal .f32)
      * Ideal.tanh ((FloatOps.ofBits .f32 0x3F000000#32 : Ideal .f32) * k0_pay4 (F := Ideal) v6 (ix2 r f)) + (FloatOps.ofBits .f32 0x3F000000#32 : Ideal .f32) := rfl
  rw [e, Ffn.litHalf, p4 h6, ← EReal.coe_mul, Ideal.tanh_coe, ← EReal.coe_mul, ← EReal.coe_add, Ffn.sig_real]
  rfl

theorem p6 (h3 : Is v3 A.C) (h4 : Is v4 A.wd) (h6 : Is v6 A.gate) (h9 : Is v9 A.up) : Is (k0_pay6 (F := Ideal) v3 v4 v6 v9) A.dgate := fun r f => by
  have e : k0_pay6 (F := Ideal) v3 v4 v6 v9 (ix2 r f) = k0_pay3 (F := Ideal) v3 v4 (ix2 r f) * k0_pay4 (F := Ideal) v9 (ix2 r f)
      * k0_pay5 (F := Ideal) v6 (ix2 r f) * ((FloatOps.ofBits .f32 0x3F800000#32 : Ideal .f32) + k0_pay4 (F := Ideal) v6 (ix2 r f)
      * ((FloatOps.ofBits .f32 0x3F800000#32 : Ideal .f32) - k0_pay5 (F := Ideal) v6 (ix2 r f))) := rfl
  have e9 : k0_pay4 (F := Ideal) v9 (ix2 r f) = ((A.up r f : ℝ) : EReal) := by
    unfold k0_pay4; rw [shapeCast_id]; exact h9 r f
  rw [e, AttK.lit1, p3 h3 h4, e9, p5 h6, p4 h6, ← EReal.coe_mul, ← EReal.coe_mul, ← EReal.coe_sub, ← EReal.coe_mul, ← EReal.coe_add, ← EReal.coe_mul]
  rfl

theorem p7 (h3 : Is v3 A.C) (h4 : Is v4 A.wd) (h6 : Is v6 A.gate) : Is (k0_pay7 (F := Ideal) v3 v4 v6) A.dup := fun r f => by
  have e : k0_pay7 (F := Ideal) v3 v4 v6 (ix2 r f) = k0_pay3 (F := Ideal) v3 v4 (ix2 r f) * k0_pay4 (F := Ideal) v6 (ix2 r f)
      * k0_pay5 (F := Ideal) v6 (ix2 r f) := rfl
  rw [e, p3 h3 h4, p5 h6, p4 h6, ← EReal.coe_mul, ← EReal.coe_mul]
  rfl

end

section
variable {v27 v30 : FVec Ideal S256x2816 .bf16} {v33 v35 : FVec Ideal S2816x1024 .bf16} {v38 : FVec Ideal S256x1024 .f32} {v49 v56 : FVec Ideal S1x1024 .f32}
  {v59 v72 : FVec Ideal S256x1024 .bf16} {v74 : FVec Ideal S1024x1024 .bf16}

theorem p8 (h27 : Is v27 A.dgate) (h30 : Is v30 A.dup) (h33 : Is v33 A.wg) (h35 : Is v35 A.wu) : Is (k0_pay8 (F := Ideal) v27 v30 v33 v35) A.dh := fun r l => by
  unfold k0_pay8
  rw [addf_apply]
  refine (congrArg₂ (fun p q : EReal => p + q) (Ffn.nn_is h27 h33 r l) (Ffn.nn_is h30 h35 r l)).trans ?_
  rw [← EReal.coe_add]; rfl

theorem p9 (h38 : Is v38 A.X) (r : Fin 256) (u : Fin 1) : k0_pay9 (F := Ideal) v38 (ix2 r u) = ((A.rr r.val : ℝ) : EReal) := by
  have e : k0_pay9 (F := Ideal) v38 (ix2 r u) = Ideal.rsqrt (Ideal.div (AttK.rowsum 256 1024 (mulf v38 v38) (ix2 r u))
      (FloatOps.ofBits .f32 0x44800000#32 : Ideal .f32) + (FloatOps.ofBits .f32 0x358637BD#32 : Ideal .f32)) := rfl
  rw [e, Ffn.row_is (X := fun i k => A.X i k * A.X i k) (fun i k => by rw [mulf_apply, h38, ← EReal.coe_mul]) r u, Ffn.lit1024, AttK.litEps,
    Ideal.div_coe (by norm_num), ← EReal.coe_mul, ← EReal.coe_add, Ideal.rsqrt_coe]
  have p := A.arg_pos r.val
  unfold Arr.arg at p
  rw [if_neg (not_lt.mpr p.le), if_neg p.ne']
  rfl

theorem p10 (h38 : Is v38 A.X) : Is (k0_pay10 (F := Ideal) v38) A.xh := fun r l => by
  unfold k0_pay10
  rw [mulf_apply, AttK.bCol_apply 256 1024, p9 h38, h38, ← EReal.coe_mul]; rfl

theorem p11 (h27 : Is v27 A.dgate) (h30 : Is v30 A.dup) (h33 : Is v33 A.wg) (h35 : Is v35 A.wu) (h38 : Is v38 A.X) (s : ℝ) (l : Fin 1024)
    (h49 : v49 (ix2 0 l) = ((s : ℝ) : EReal)) :
    k0_pay11 (F := Ideal) v27 v30 v33 v35 v38 v49 (ix2 0 l) = ((s + A.dgain 256 l.val : ℝ) : EReal) := by
  unfold k0_pay11
  rw [addf_apply, shapeCast_id, h49, shapeCast_a_1a_apply]
  refine (congrArg (fun q : EReal => (s : EReal) + q) (Ideal.reduceAdd_r2_a0 reduces_S256x1024_S1024 _ (ix1 l))).trans ?_
  rw [EReal.coe_add]
  refine congrArg (fun q : EReal => (s : EReal) + q) ?_
  unfold Arr.dgain
  rw [← AttK.coe_sum_fin 256 (fun i => A.dh i l.val * A.xh i l.val)]
  refine Finset.sum_congr rfl fun i _ => ?_
  exact (mulf_apply _ _ _).trans ((congrArg₂ (fun p q : EReal => p * q) (p8 h27 h30 h33 h35 i l) (p10 h38 i l)).trans (EReal.coe_mul _ _).symm)

theorem p12 (h27 : Is v27 A.dgate) (h30 : Is v30 A.dup) (h33 : Is v33 A.wg) (h35 : Is v35 A.wu) (h38 : Is v38 A.X)
    (h56 : ∀ l : Fin 1024, v56 (ix2 0 l) = ((A.g l.val : ℝ) : EReal)) (h59 : Is v59 A.C) :
    Is (k0_pay12 (F := Ideal) v27 v30 v33 v35 v38 v56 v59) A.dx := fun r l => by
  have ed : Is (mulf (k0_pay8 (F := Ideal) v27 v30 v33 v35) (broadcastTo S256x1024 v56 broadcasts_S1x1024_S256x1024)) A.dxh := fun r l => by
    rw [mulf_apply, AttK.bRow_apply 256 1024, p8 h27 h30 h33 h35, h56, ← EReal.coe_mul]; rfl
  have ex := p10 (A := A) h38
  have e9 := p9 (A := A) h38 r 0
  unfold k0_pay12
  revert ed ex e9
  generalize mulf (k0_pay8 (F := Ideal) v27 v30 v33 v35) (broadcastTo S256x1024 v56 broadcasts_S1x1024_S256x1024) = d
  generalize k0_pay10 (F := Ideal) v38 = x
  generalize k0_pay9 (F := Ideal) v38 = q
  intro ed ex e9
  rw [truncf_apply, addf_apply, mulf_apply, AttK.bCol_apply 256 1024, subf_apply, mulf_apply, AttK.bCol_apply 256 1024, e9, ed, ex]
  have er : Ideal.div (AttK.rowsum 256 1024 (mulf d x) (ix2 r 0)) (FloatOps.ofBits .f32 0x44800000#32 : Ideal .f32)
      = (((∑ k ∈ range 1024, A.dxh r.val k * A.xh r.val k) * (1 / 1024) : ℝ) : EReal) := by
    rw [Ffn.row_is (X := fun i k => A.dxh i k * A.xh i k) (fun i k => by rw [mulf_apply, ed, ex, ← EReal.coe_mul]) r 0, Ffn.lit1024,
      Ideal.div_coe (by norm_num), ← EReal.coe_mul]
  refine (congrArg₂ (fun (p s : EReal) => p + ((A.rr r.val : ℝ) : EReal) * (((A.dxh r.val l.val : ℝ) : EReal) - ((A.xh r.val l.val : ℝ) : EReal) * s)) (h59 r l) er).trans ?_
  rw [← EReal.coe_mul, ← EReal.coe_sub, ← EReal.coe_mul, ← EReal.coe_add]
  rfl

theorem p1 (h72 : Is v72 A.dx) (h74 : Is v74 A.wo) : Is (k0_pay1 (F := Ideal) v72 v74) A.dcat := fun r o => Ffn.nt_is h72 h74 r o

theorem p2 (l : Fin 1024) : k0_pay2 (F := Ideal) (ix2 0 l) = ((0 : ℝ) : EReal) := AttK.lit0

end

end FfnB
-- ==== Proof.FfnCase.lean ====
/-
  The five blocks that a grid point of the feed-forward layer's backward half leaves, as the body's own expressions of the blocks it reads.
-/
module

public import proofs.«01_k».proof.Proof.FfnBase
public import proofs.«01_k».proof.Proof.Gen.Kernel2Ideal.Value

@[expose] public section

noncomputable section

namespace FfnB

open Idealize.ShloMosaic hiding ix0 ix1 ix2 ix3 ix4 ix5
open Idealize.ShloMosaic.ValueIdx Idealize.ShloMosaic.TcCoe Cert.Kernel2Ideal Cert.Kernel2Ideal.Gen Cert.Kernel2Ideal.Value

variable (m : (ℓ : Loc nD τ sig) → Buf (Elt Ideal) ℓ) (c : Dev nD)

abbrev o9 (t : Fin cfg0.N) : FVec Ideal S256x2816 .bf16 := k0_pay6 (F := Ideal) (iblk m c 0 t) (iblk m c 1 t) (iblk m c 2 t) (iblk m c 3 t)
abbrev o10 (t : Fin cfg0.N) : FVec Ideal S256x2816 .bf16 := k0_pay7 (F := Ideal) (iblk m c 0 t) (iblk m c 1 t) (iblk m c 2 t)
abbrev o11 (t : Fin cfg0.N) : FVec Ideal S256x1024 .bf16 :=
  k0_pay12 (F := Ideal) (o9 m c t) (o10 m c t) (iblk m c 4 t) (iblk m c 5 t) (iblk m c 6 t) (iblk m c 7 t) (iblk m c 0 t)
abbrev o12 (t : Fin cfg0.N) : FVec Ideal S256x1024 .bf16 := k0_pay1 (F := Ideal) (o11 m c t) (iblk m c 8 t)
abbrev o13 (t : Fin cfg0.N) (acc : FVec Ideal S1x1024 .f32) : FVec Ideal S1x1024 .f32 :=
  k0_pay11 (F := Ideal) (o9 m c t) (o10 m c t) (iblk m c 4 t) (iblk m c 5 t) (iblk m c 6 t) acc

theorem a9 (t : Fin cfg0.N) (h0 : t.val % 16 = 0) : (outsAt0 m c t.val t.isLt).1 = o9 m c t := by
  rw [outsAt0_A m c t h0]; dsimp only; frame_out
theorem a10 (t : Fin cfg0.N) (h0 : t.val % 16 = 0) : (outsAt0 m c t.val t.isLt).2.1 = o10 m c t := by
  rw [outsAt0_A m c t h0]; dsimp only; frame_out
theorem a11 (t : Fin cfg0.N) (h0 : t.val % 16 = 0) : (outsAt0 m c t.val t.isLt).2.2.1 = o11 m c t := by
  rw [outsAt0_A m c t h0]; dsimp only; frame_out
theorem a12 (t : Fin cfg0.N) (h0 : t.val % 16 = 0) : (outsAt0 m c t.val t.isLt).2.2.2.1 = o12 m c t := by
  rw [outsAt0_A m c t h0]; dsimp only; frame_out
theorem a13 (t : Fin cfg0.N) (h0 : t.val % 16 = 0) : (outsAt0 m c t.val t.isLt).2.2.2.2 = o13 m c t (k0_pay2 (F := Ideal)) := by
  rw [outsAt0_A m c t h0]; dsimp only; frame_out

theorem b9 (t : Fin cfg0.N) (h0 : ¬t.val % 16 = 0) : (outsAt0 m c t.val t.isLt).1 = o9 m c t := by
  rw [outsAt0_B m c t h0]; dsimp only; frame_out
theorem b10 (t : Fin cfg0.N) (h0 : ¬t.val % 16 = 0) : (outsAt0 m c t.val t.isLt).2.1 = o10 m c t := by
  rw [outsAt0_B m c t h0]; dsimp only; frame_out
theorem b11 (t : Fin cfg0.N) (h0 : ¬t.val % 16 = 0) : (outsAt0 m c t.val t.isLt).2.2.1 = o11 m c t := by
  rw [outsAt0_B m c t h0]; dsimp only; frame_out
theorem b12 (t : Fin cfg0.N) (h0 : ¬t.val % 16 = 0) : (outsAt0 m c t.val t.isLt).2.2.2.1 = o12 m c t := by
  rw [outsAt0_B m c t h0]; dsimp only; frame_out
theorem b13 (t : Fin cfg0.N) (h0 : ¬t.val % 16 = 0) : (outsAt0 m c t.val t.isLt).2.2.2.2
    = o13 m c t (outsAt0 m c (t.val - 1) (Nat.lt_of_le_of_lt (Nat.sub_le _ _) t.isLt)).2.2.2.2 := by
  rw [outsAt0_B m c t h0]; dsimp only; frame_out

end FfnB
-- ==== Proof.FfnRun.lean ====
/-
  The result arrays of the feed-forward layer's backward half: each block's rows are those of the real gradients, and the gain's gradient
  gathers the rows of all the blocks.
-/
module

public import proofs.«01_k».proof.Proof.FfnPoint
public import proofs.«01_k».proof.Proof.FfnCase
public import proofs.«01_k».proof.Proof.FfnRef
public import Idealize.ShloMosaic.Lib.StableHlo.RunRead

@[expose] public section

noncomputable section

namespace FfnB

open Idealize.ShloMosaic hiding ix0 ix1 ix2 ix3 ix4 ix5
open Idealize.ShloMosaic.ValueIdx Idealize.ShloMosaic.TcCoe Cert.Kernel2Ideal Cert.Kernel2Ideal.Gen Cert.Kernel2Ideal.Value
open Ffn (Is)
open Finset (range)

variable (m : (ℓ : Loc nD τ sig) → Buf (Elt Ideal) ℓ) (c : Dev nD)

/-- Row `r` of point `t`'s block. -/
def row (t : Fin 16) (r : Fin 256) : Fin 4096 := ⟨256 * t.val + r.val, by omega⟩

def pt (t : Fin 16) : Fin cfg0.N := ⟨t.val, lt_of_lt_of_eq t.isLt N_0.symm⟩

/-- The device's arguments hold the real numbers of `A`. -/
abbrev Holds (A : Arr) : Prop :=
  Reads A (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-! ## The gate's and the up product that the host lines prepare -/

theorem V_gate : V m c main_v14 = Cert.Reference2Ideal.Read.val_main_v27 (F := Ideal)
    (Cert.Reference2Ideal.Read.val_main_v21 (F := Ideal) (m ((c : Thread nD τ).loc main_arg1)) (m ((c : Thread nD τ).loc main_arg2)))
    (m ((c : Thread nD τ).loc main_arg3)) := by
  unfold V
  simp only [hostOps0]
  after_results_simp
  rfl
theorem V_up : V m c main_v17 = Cert.Reference2Ideal.Read.val_main_v27 (F := Ideal)
    (Cert.Reference2Ideal.Read.val_main_v21 (F := Ideal) (m ((c : Thread nD τ).loc main_arg1)) (m ((c : Thread nD τ).loc main_arg2)))
    (m ((c : Thread nD τ).loc main_arg4)) := by
  unfold V
  simp only [hostOps0]
  after_results_simp
  rfl

/-- A row product of the normalised stream. -/
theorem lin_is {A : Arr} {h : FVec Ideal S4096x1024 .bf16} {w : FVec Ideal S2816x1024 .bf16} {H W : ℕ → ℕ → ℝ}
    (hh : AttR.Re (s := S4096x1024) h (fun i => H (i 0).val (i 1).val)) (hw : Is w W) :
    Is (a := 4096) (b := 2816) (Cert.Reference2Ideal.Read.val_main_v27 (F := Ideal) h w) (fun i f => ∑ k ∈ range 1024, H i k * W f k) := fun i f =>
  (AttR.Re.dot hh (re_of_is hw) (lidx := Cert.Reference2Ideal.Read.lidx_main_v27) (ridx := Cert.Reference2Ideal.Read.ridx_main_v27)
    (Cert.Reference2Ideal.Read.val_main_v27_apply h w) (G := fun i k => H (i 0).val k * W (i 1).val k) fun i k => rfl) (ix2 i f)

variable {A : Arr} (R : Holds m c A)

/-! ## The blocks that a point reads -/

theorem blk0 (t : Fin 16) (r : Fin 256) (l : Fin 1024) : (iblk m c 0 (pt t) : FVec Ideal S256x1024 .bf16) (ix2 r l)
    = (V m c main_arg0 : FVec Ideal (AttK.M 4096 1024) .bf16) (ix2 (row t r) l) := by
  have hi : ∀ t : Fin 16, win0_0.index (pt t) 0 = t.val ∧ win0_0.index (pt t) 1 = 0 := by decide
  unfold iblk
  rw [View.read_apply]
  show V m c main_arg0 _ = V m c main_arg0 _
  congr 1
  funext a
  apply Fin.ext
  match a with
  | ⟨0, _⟩ => show win0_0.index (pt t) 0 * 256 + 1 * r.val = 256 * t.val + r.val; rw [(hi t).1]; omega
  | ⟨1, _⟩ => show win0_0.index (pt t) 1 * 1024 + 1 * l.val = l.val; rw [(hi t).2]; omega

theorem blk1 (t : Fin 16) (r : Fin 2816) (l : Fin 1024) : (iblk m c 1 (pt t) : FVec Ideal S2816x1024 .bf16) (ix2 r l)
    = (V m c main_arg5 : FVec Ideal (AttK.M 2816 1024) .bf16) (ix2 r l) := by
  have hi : ∀ t : Fin 16, win0_1.index (pt t) 0 = 0 ∧ win0_1.index (pt t) 1 = 0 := by decide
  unfold iblk
  rw [View.read_apply]
  show V m c main_arg5 _ = V m c main_arg5 _
  congr 1
  funext a
  apply Fin.ext
  match a with
  | ⟨0, _⟩ => show win0_1.index (pt t) 0 * 2816 + 1 * r.val = r.val; rw [(hi t).1]; omega
  | ⟨1, _⟩ => show win0_1.index (pt t) 1 * 1024 + 1 * l.val = l.val; rw [(hi t).2]; omega

theorem blk2 (t : Fin 16) (r : Fin 256) (l : Fin 2816) : (iblk m c 2 (pt t) : FVec Ideal S256x2816 .bf16) (ix2 r l)
    = (V m c main_v14 : FVec Ideal (AttK.M 4096 2816) .bf16) (ix2 (row t r) l) := by
  have hi : ∀ t : Fin 16, win0_2.index (pt t) 0 = t.val ∧ win0_2.index (pt t) 1 = 0 := by decide
  unfold iblk
  rw [View.read_apply]
  show V m c main_v14 _ = V m c main_v14 _
  congr 1
  funext a
  apply Fin.ext
  match a with
  | ⟨0, _⟩ => show win0_2.index (pt t) 0 * 256 + 1 * r.val = 256 * t.val + r.val; rw [(hi t).1]; omega
  | ⟨1, _⟩ => show win0_2.index (pt t) 1 * 2816 + 1 * l.val = l.val; rw [(hi t).2]; omega

theorem blk3 (t : Fin 16) (r : Fin 256) (l : Fin 2816) : (iblk m c 3 (pt t) : FVec Ideal S256x2816 .bf16) (ix2 r l)
    = (V m c main_v17 : FVec Ideal (AttK.M 4096 2816) .bf16) (ix2 (row t r) l) := by
  have hi : ∀ t : Fin 16, win0_3.index (pt t) 0 = t.val ∧ win0_3.index (pt t) 1 = 0 := by decide
  unfold iblk
  rw [View.read_apply]
  show V m c main_v17 _ = V m c main_v17 _
  congr 1
  funext a
  apply Fin.ext
  match a with
  | ⟨0, _⟩ => show win0_3.index (pt t) 0 * 256 + 1 * r.val = 256 * t.val + r.val; rw [(hi t).1]; omega
  | ⟨1, _⟩ => show win0_3.index (pt t) 1 * 2816 + 1 * l.val = l.val; rw [(hi t).2]; omega

theorem blk4 (t : Fin 16) (r : Fin 2816) (l : Fin 1024) : (iblk m c 4 (pt t) : FVec Ideal S2816x1024 .bf16) (ix2 r l)
    = (V m c main_arg3 : FVec Ideal (AttK.M 2816 1024) .bf16) (ix2 r l) := by
  have hi : ∀ t : Fin 16, win0_4.index (pt t) 0 = 0 ∧ win0_4.index (pt t) 1 = 0 := by decide
  unfold iblk
  rw [View.read_apply]
  show V m c main_arg3 _ = V m c main_arg3 _
  congr 1
  funext a
  apply Fin.ext
  match a with
  | ⟨0, _⟩ => show win0_4.index (pt t) 0 * 2816 + 1 * r.val = r.val; rw [(hi t).1]; omega
  | ⟨1, _⟩ => show win0_4.index (pt t) 1 * 1024 + 1 * l.val = l.val; rw [(hi t).2]; omega

theorem blk5 (t : Fin 16) (r : Fin 2816) (l : Fin 1024) : (iblk m c 5 (pt t) : FVec Ideal S2816x1024 .bf16) (ix2 r l)
    = (V m c main_arg4 : FVec Ideal (AttK.M 2816 1024) .bf16) (ix2 r l) := by
  have hi : ∀ t : Fin 16, win0_5.index (pt t) 0 = 0 ∧ win0_5.index (pt t) 1 = 0 := by decide
  unfold iblk
  rw [View.read_apply]
  show V m c main_arg4 _ = V m c main_arg4 _
  congr 1
  funext a
  apply Fin.ext
  match a with
  | ⟨0, _⟩ => show win0_5.index (pt t) 0 * 2816 + 1 * r.val = r.val; rw [(hi t).1]; omega
  | ⟨1, _⟩ => show win0_5.index (pt t) 1 * 1024 + 1 * l.val = l.val; rw [(hi t).2]; omega

theorem blk6 (t : Fin 16) (r : Fin 256) (l : Fin 1024) : (iblk m c 6 (pt t) : FVec Ideal S256x1024 .f32) (ix2 r l)
    = (V m c main_arg1 : FVec Ideal (AttK.M 4096 1024) .f32) (ix2 (row t r) l) := by
  have hi : ∀ t : Fin 16, win0_6.index (pt t) 0 = t.val ∧ win0_6.index (pt t) 1 = 0 := by decide
  unfold iblk
  rw [View.read_apply]
  show V m c main_arg1 _ = V m c main_arg1 _
  congr 1
  funext a
  apply Fin.ext
  match a with
  | ⟨0, _⟩ => show win0_6.index (pt t) 0 * 256 + 1 * r.val = 256 * t.val + r.val; rw [(hi t).1]; omega
  | ⟨1, _⟩ => show win0_6.index (pt t) 1 * 1024 + 1 * l.val = l.val; rw [(hi t).2]; omega

theorem blk7 (t : Fin 16) (r : Fin 1) (l : Fin 1024) : (iblk m c 7 (pt t) : FVec Ideal S1x1024 .f32) (ix2 r l)
    = (V m c main_arg2 : FVec Ideal (AttK.M 1 1024) .f32) (ix2 r l) := by
  have hi : ∀ t : Fin 16, win0_7.index (pt t) 0 = 0 ∧ win0_7.index (pt t) 1 = 0 := by decide
  unfold iblk
  rw [View.read_apply]
  show V m c main_arg2 _ = V m c main_arg2 _
  congr 1
  funext a
  apply Fin.ext
  match a with
  | ⟨0, _⟩ => show win0_7.index (pt t) 0 * 1 + 1 * r.val = r.val; rw [(hi t).1]; omega
  | ⟨1, _⟩ => show win0_7.index (pt t) 1 * 1024 + 1 * l.val = l.val; rw [(hi t).2]; omega

theorem blk8 (t : Fin 16) (r : Fin 1024) (l : Fin 1024) : (iblk m c 8 (pt t) : FVec Ideal S1024x1024 .bf16) (ix2 r l)
    = (V m c main_arg6 : FVec Ideal (AttK.M 1024 1024) .bf16) (ix2 r l) := by
  have hi : ∀ t : Fin 16, win0_8.index (pt t) 0 = 0 ∧ win0_8.index (pt t) 1 = 0 := by decide
  unfold iblk
  rw [View.read_apply]
  show V m c main_arg6 _ = V m c main_arg6 _
  congr 1
  funext a
  apply Fin.ext
  match a with
  | ⟨0, _⟩ => show win0_8.index (pt t) 0 * 1024 + 1 * r.val = r.val; rw [(hi t).1]; omega
  | ⟨1, _⟩ => show win0_8.index (pt t) 1 * 1024 + 1 * l.val = l.val; rw [(hi t).2]; omega

section
include R

theorem is0 (t : Fin 16) : Is (a := 256) (b := 1024) (iblk m c 0 (pt t) : FVec Ideal S256x1024 .bf16) (A.shift (256 * t.val)).C := fun r l => by
  refine (blk0 m c t r l).trans ?_
  rw [V_main_arg0]
  exact R.C (row t r) l
theorem is1 (t : Fin 16) : Is (a := 2816) (b := 1024) (iblk m c 1 (pt t) : FVec Ideal S2816x1024 .bf16) (A.shift (256 * t.val)).wd := fun r l => by
  refine (blk1 m c t r l).trans ?_
  rw [V_main_arg5]
  exact R.wd r l
theorem is2 (t : Fin 16) : Is (a := 256) (b := 2816) (iblk m c 2 (pt t) : FVec Ideal S256x2816 .bf16) (A.shift (256 * t.val)).gate := fun r l => by
  refine (blk2 m c t r l).trans ?_
  rw [V_gate]
  exact lin_is (A := A) (r21 R) R.wg (row t r) l
theorem is3 (t : Fin 16) : Is (a := 256) (b := 2816) (iblk m c 3 (pt t) : FVec Ideal S256x2816 .bf16) (A.shift (256 * t.val)).up := fun r l => by
  refine (blk3 m c t r l).trans ?_
  rw [V_up]
  exact lin_is (A := A) (r21 R) R.wu (row t r) l
theorem is4 (t : Fin 16) : Is (a := 2816) (b := 1024) (iblk m c 4 (pt t) : FVec Ideal S2816x1024 .bf16) (A.shift (256 * t.val)).wg := fun r l => by
  refine (blk4 m c t r l).trans ?_
  rw [V_main_arg3]
  exact R.wg r l
theorem is5 (t : Fin 16) : Is (a := 2816) (b := 1024) (iblk m c 5 (pt t) : FVec Ideal S2816x1024 .bf16) (A.shift (256 * t.val)).wu := fun r l => by
  refine (blk5 m c t r l).trans ?_
  rw [V_main_arg4]
  exact R.wu r l
theorem is6 (t : Fin 16) : Is (a := 256) (b := 1024) (iblk m c 6 (pt t) : FVec Ideal S256x1024 .f32) (A.shift (256 * t.val)).X := fun r l => by
  refine (blk6 m c t r l).trans ?_
  rw [V_main_arg1]
  exact R.X (row t r) l
theorem is7 (t : Fin 16) (l : Fin 1024) : (iblk m c 7 (pt t) : FVec Ideal S1x1024 .f32) (ix2 0 l) = (((A.shift (256 * t.val)).g l.val : ℝ) : EReal) := by
  refine (blk7 m c t 0 l).trans ?_
  rw [V_main_arg2]
  exact R.g l
theorem is8 (t : Fin 16) : Is (a := 1024) (b := 1024) (iblk m c 8 (pt t) : FVec Ideal S1024x1024 .bf16) (A.shift (256 * t.val)).wo := fun r l => by
  refine (blk8 m c t r l).trans ?_
  rw [V_main_arg6]
  exact R.wo r l

/-! ## What a point computes -/

theorem o9_is (t : Fin 16) : Is (a := 256) (b := 2816) (o9 m c (pt t)) (A.shift (256 * t.val)).dgate := p6 (is0 m c R t) (is1 m c R t) (is2 m c R t) (is3 m c R t)
theorem o10_is (t : Fin 16) : Is (a := 256) (b := 2816) (o10 m c (pt t)) (A.shift (256 * t.val)).dup := p7 (is0 m c R t) (is1 m c R t) (is2 m c R t)
theorem o11_is (t : Fin 16) : Is (a := 256) (b := 1024) (o11 m c (pt t)) (A.shift (256 * t.val)).dx :=
  p12 (o9_is m c R t) (o10_is m c R t) (is4 m c R t) (is5 m c R t) (is6 m c R t) (is7 m c R t) (is0 m c R t)
theorem o12_is (t : Fin 16) : Is (a := 256) (b := 1024) (o12 m c (pt t)) (A.shift (256 * t.val)).dcat := p1 (o11_is m c R t) (is8 m c R t)
theorem o13_is (t : Fin 16) (acc : FVec Ideal S1x1024 .f32) (s : ℝ) (l : Fin 1024) (h : acc (ix2 0 l) = (s : EReal)) :
    o13 m c (pt t) acc (ix2 0 l) = ((s + (A.shift (256 * t.val)).dgain 256 l.val : ℝ) : EReal) :=
  p11 (o9_is m c R t) (o10_is m c R t) (is4 m c R t) (is5 m c R t) (is6 m c R t) s l h

end

theorem out9 (t : Fin cfg0.N) : (outsAt0 m c t.val t.isLt).1 = o9 m c t := by
  by_cases h : t.val % 16 = 0
  · exact a9 m c t h
  · exact b9 m c t h
theorem out10 (t : Fin cfg0.N) : (outsAt0 m c t.val t.isLt).2.1 = o10 m c t := by
  by_cases h : t.val % 16 = 0
  · exact a10 m c t h
  · exact b10 m c t h
theorem out11 (t : Fin cfg0.N) : (outsAt0 m c t.val t.isLt).2.2.1 = o11 m c t := by
  by_cases h : t.val % 16 = 0
  · exact a11 m c t h
  · exact b11 m c t h
theorem out12 (t : Fin cfg0.N) : (outsAt0 m c t.val t.isLt).2.2.2.1 = o12 m c t := by
  by_cases h : t.val % 16 = 0
  · exact a12 m c t h
  · exact b12 m c t h

/-! ## The arrays -/

theorem row_split (i : Fin 4096) : ∃ t r, i = row t r :=
  ⟨⟨i.val / 256, by omega⟩, ⟨i.val % 256, Nat.mod_lt _ (by norm_num)⟩, Fin.ext (by show i.val = 256 * (i.val / 256) + i.val % 256; omega)⟩

section
include R

theorem final9 : Is (a := 4096) (b := 2816) ((dats m 0 c).arrAt 9 cfg0.N : FVec Ideal S4096x2816 .bf16) A.dgate := fun i l => by
  obtain ⟨t, r, rfl⟩ := row_split i
  have hf : ∀ t : Fin 16, (cfg0.win 9).flush (pt t) = true := by decide
  have hi : ∀ t : Fin 16, win0_9.index (pt t) 0 = t.val ∧ win0_9.index (pt t) 1 = 0 := by decide
  have h := congrFun (blocks9 m c (pt t) (hf t)) (ix2 r l)
  rw [View.read_apply, flushed9, out9] at h
  refine Eq.trans (Eq.trans ?_ h) (o9_is m c R t r l)
  show ((dats m 0 c).arrAt 9 cfg0.N : FVec Ideal S4096x2816 .bf16) _ = ((dats m 0 c).arrAt 9 cfg0.N : FVec Ideal S4096x2816 .bf16) _
  congr 1
  funext a
  apply Fin.ext
  match a with
  | ⟨0, _⟩ => show 256 * t.val + r.val = win0_9.index (pt t) 0 * 256 + 1 * r.val; rw [(hi t).1]; omega
  | ⟨1, _⟩ => show l.val = win0_9.index (pt t) 1 * 2816 + 1 * l.val; rw [(hi t).2]; omega

theorem final10 : Is (a := 4096) (b := 2816) ((dats m 0 c).arrAt 10 cfg0.N : FVec Ideal S4096x2816 .bf16) A.dup := fun i l => by
  obtain ⟨t, r, rfl⟩ := row_split i
  have hf : ∀ t : Fin 16, (cfg0.win 10).flush (pt t) = true := by decide
  have hi : ∀ t : Fin 16, win0_10.index (pt t) 0 = t.val ∧ win0_10.index (pt t) 1 = 0 := by decide
  have h := congrFun (blocks10 m c (pt t) (hf t)) (ix2 r l)
  rw [View.read_apply, flushed10, out10] at h
  refine Eq.trans (Eq.trans ?_ h) (o10_is m c R t r l)
  show ((dats m 0 c).arrAt 10 cfg0.N : FVec Ideal S4096x2816 .bf16) _ = ((dats m 0 c).arrAt 10 cfg0.N : FVec Ideal S4096x2816 .bf16) _
  congr 1
  funext a
  apply Fin.ext
  match a with
  | ⟨0, _⟩ => show 256 * t.val + r.val = win0_10.index (pt t) 0 * 256 + 1 * r.val; rw [(hi t).1]; omega
  | ⟨1, _⟩ => show l.val = win0_10.index (pt t) 1 * 2816 + 1 * l.val; rw [(hi t).2]; omega

theorem final11 : Is (a := 4096) (b := 1024) ((dats m 0 c).arrAt 11 cfg0.N : FVec Ideal S4096x1024 .bf16) A.dx := fun i l => by
  obtain ⟨t, r, rfl⟩ := row_split i
  have hf : ∀ t : Fin 16, (cfg0.win 11).flush (pt t) = true := by decide
  have hi : ∀ t : Fin 16, win0_11.index (pt t) 0 = t.val ∧ win0_11.index (pt t) 1 = 0 := by decide
  have h := congrFun (blocks11 m c (pt t) (hf t)) (ix2 r l)
  rw [View.read_apply, flushed11, out11] at h
  refine Eq.trans (Eq.trans ?_ h) (o11_is m c R t r l)
  show ((dats m 0 c).arrAt 11 cfg0.N : FVec Ideal S4096x1024 .bf16) _ = ((dats m 0 c).arrAt 11 cfg0.N : FVec Ideal S4096x1024 .bf16) _
  congr 1
  funext a
  apply Fin.ext
  match a with
  | ⟨0, _⟩ => show 256 * t.val + r.val = win0_11.index (pt t) 0 * 256 + 1 * r.val; rw [(hi t).1]; omega
  | ⟨1, _⟩ => show l.val = win0_11.index (pt t) 1 * 1024 + 1 * l.val; rw [(hi t).2]; omega

theorem final12 : Is (a := 4096) (b := 1024) ((dats m 0 c).arrAt 12 cfg0.N : FVec Ideal S4096x1024 .bf16) A.dcat := fun i l => by
  obtain ⟨t, r, rfl⟩ := row_split i
  have hf : ∀ t : Fin 16, (cfg0.win 12).flush (pt t) = true := by decide
  have hi : ∀ t : Fin 16, win0_12.index (pt t) 0 = t.val ∧ win0_12.index (pt t) 1 = 0 := by decide
  have h := congrFun (blocks12 m c (pt t) (hf t)) (ix2 r l)
  rw [View.read_apply, flushed12, out12] at h
  refine Eq.trans (Eq.trans ?_ h) (o12_is m c R t r l)
  show ((dats m 0 c).arrAt 12 cfg0.N : FVec Ideal S4096x1024 .bf16) _ = ((dats m 0 c).arrAt 12 cfg0.N : FVec Ideal S4096x1024 .bf16) _
  congr 1
  funext a
  apply Fin.ext
  match a with
  | ⟨0, _⟩ => show 256 * t.val + r.val = win0_12.index (pt t) 0 * 256 + 1 * r.val; rw [(hi t).1]; omega
  | ⟨1, _⟩ => show l.val = win0_12.index (pt t) 1 * 1024 + 1 * l.val; rw [(hi t).2]; omega

/-- The gain's gradient after the first points. -/
theorem acc13 (l : Fin 1024) (n : ℕ) (hn : n < 16) :
    (outsAt0 m c (pt ⟨n, hn⟩).val (pt ⟨n, hn⟩).isLt).2.2.2.2 (ix2 0 l) = ((A.dgain (256 * n + 256) l.val : ℝ) : EReal) := by
  induction n with
  | zero =>
    rw [a13 m c (pt ⟨0, hn⟩) rfl]
    refine (o13_is m c R ⟨0, hn⟩ _ 0 l (p2 l)).trans (congrArg (fun r : ℝ => (r : EReal)) ?_)
    rw [Arr.dgain_add]
    exact congrArg (· + _) (Finset.sum_range_zero _).symm
  | succ n ih =>
    have h0 : ¬(pt ⟨n + 1, hn⟩).val % 16 = 0 := by show ¬(n + 1) % 16 = 0; omega
    rw [b13 m c (pt ⟨n + 1, hn⟩) h0]
    refine (o13_is m c R ⟨n + 1, hn⟩ _ _ l (ih (by omega))).trans (congrArg (fun r : ℝ => (r : EReal)) ?_)
    rw [Arr.dgain_add A (256 * (n + 1)), show 256 * n + 256 = 256 * (n + 1) by omega]

omit R in
theorem flush13 (t : Fin cfg0.N) : (cfg0.win 13).flush t = true ↔ t.val = 15 := by
  have h : ∀ t : Fin 16, (cfg0.win 13).flush (pt t) = true ↔ t.val = 15 := by decide
  exact h ⟨t.val, lt_of_lt_of_eq t.isLt N_0⟩

theorem final13 (l : Fin 1024) : ((dats m 0 c).arrAt 13 cfg0.N : FVec Ideal S1x1024 .f32) (ix2 0 l) = ((A.dgain 4096 l.val : ℝ) : EReal) := by
  have hi : win0_13.index (pt 15) 0 = 0 ∧ win0_13.index (pt 15) 1 = 0 := by decide
  have h := congrFun ((dats m 0 c).read_blk_arrAt_eq_flushed 13 (fun t t' h h' hne => absurd
      (Fin.ext (((flush13 t).mp h).trans ((flush13 t').mp h').symm)) hne) cfg0.N (pt 15) (pt 15).isLt
    ((flush13 _).mpr rfl)) (ix2 0 l)
  rw [View.read_apply, flushed13] at h
  refine Eq.trans (Eq.trans ?_ h) (acc13 m c R l 15 (by norm_num))
  show ((dats m 0 c).arrAt 13 cfg0.N : FVec Ideal S1x1024 .f32) _ = ((dats m 0 c).arrAt 13 cfg0.N : FVec Ideal S1x1024 .f32) _
  congr 1
  funext a
  apply Fin.ext
  match a with
  | ⟨0, _⟩ => show 0 = win0_13.index (pt 15) 0 * 1 + 1 * 0; rw [hi.1]
  | ⟨1, _⟩ => show l.val = win0_13.index (pt 15) 1 * 1024 + 1 * l.val; rw [hi.2]; omega

/-! ## Kernel and reference -/

theorem eq9 : ((dats m 0 c).arrAt 9 cfg0.N : FVec Ideal S4096x2816 .bf16) = Cert.Reference2Ideal.Read.val_main_v56 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := funext fun i =>
  (re_of_is (final9 m c R) i).trans (r56 R i).symm
theorem eq10 : ((dats m 0 c).arrAt 10 cfg0.N : FVec Ideal S4096x2816 .bf16) = Cert.Reference2Ideal.Read.val_main_v57 (F := Ideal)
    (m ((c : Thread nD τ).loc main_arg0)) (m ((c : Thread nD τ).loc main_arg1)) (m ((c : Thread nD τ).loc main_arg2)) (m ((c : Thread nD τ).loc main_arg3)) (m ((c : Thread nD τ).loc main_arg5)) := funext fun i =>
  (re_of_is (final10 m c R) i).trans (r57 R i).symm
theorem eq11 : ((dats m 0 c).arrAt 11 cfg0.N : FVec Ideal S4096x1024 .bf16) = Cert.Reference2Ideal.Read.val_main_v58 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := funext fun i =>
  (re_of_is (final11 m c R) i).trans (r58 R i).symm
theorem eq12 : ((dats m 0 c).arrAt 12 cfg0.N : FVec Ideal S4096x1024 .bf16) = Cert.Reference2Ideal.Read.val_main_v59 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := funext fun i =>
  (re_of_is (final12 m c R) i).trans (r59 R i).symm
theorem eq13 : ((dats m 0 c).arrAt 13 cfg0.N : FVec Ideal S1x1024 .f32) = Cert.Reference2Ideal.Read.val_main_v36 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := funext fun i => by
  refine Eq.trans ?_ (r36 R i).symm
  rw [show i = ix2 0 (i 1) from funext fun a => by match a with | ⟨0, _⟩ => exact Fin.ext (Nat.lt_one_iff.mp (i 0).isLt) | ⟨1, _⟩ => rfl]
  exact final13 m c R (i 1)

end

end FfnB
-- ==== Proof.GradW.lean ====
/-
  The three weight gradients of the feed-forward half, entry by entry: a grid point computes 256 rows of each, and every entry is
  the sum over the 4096 tokens that the reference's product is.
-/
module

public import proofs.«01_k».proof.Proof.FfnBase
public import proofs.«01_k».proof.Proof.Gen.Kernel3Ideal.Value
public import proofs.«01_k».proof.Proof.Gen.Reference3Ideal.Read

@[expose] public section

noncomputable section

namespace GradW

open Idealize.ShloMosaic hiding ix0 ix1 ix2 ix3 ix4 ix5
open Idealize.ShloMosaic.ValueIdx Idealize.ShloMosaic.TcCoe Cert.Kernel3Ideal Cert.Kernel3Ideal.Gen Cert.Kernel3Ideal.Value
open scoped BigOperators

/-! ## What a point computes -/

theorem pay1 (x0 : FVec Ideal S4096x1024 .bf16) (x1 : FVec Ideal S4096x256 .bf16) (r : Fin 256) (l : Fin 1024) :
    k0_pay1 (F := Ideal) x0 x1 (ix2 r l) = ∑ j : Fin 4096, x1 (ix2 j r) * x0 (ix2 j l) := Ffn.tn_zero x1 x0 r l
theorem pay2 (x0 : FVec Ideal S4096x1024 .bf16) (x1 : FVec Ideal S4096x256 .bf16) (r : Fin 256) (l : Fin 1024) :
    k0_pay2 (F := Ideal) x0 x1 (ix2 r l) = ∑ j : Fin 4096, x1 (ix2 j r) * x0 (ix2 j l) := Ffn.tn_zero x1 x0 r l
theorem pay3 (x1 : FVec Ideal S4096x256 .bf16) (x0 : FVec Ideal S4096x1024 .bf16) (r : Fin 256) (l : Fin 1024) :
    k0_pay3 (F := Ideal) x1 x0 (ix2 r l) = ∑ j : Fin 4096, x1 (ix2 j r) * x0 (ix2 j l) := Ffn.tn_zero x1 x0 r l

variable (x0 x1 x2 : FVec Ideal S4096x256 .bf16) (x3 x4 : FVec Ideal S4096x1024 .bf16)

theorem out5 : out0_5 (F := Ideal) x0 x1 x2 x3 x4 = k0_pay1 (F := Ideal) x3 x0 := by
  unfold out0_5
  rw [View.canon_cons_unit_lit _ _ _ (by decide), View.ld_unit_lit _ _ (by decide), View.ld_unit_lit _ _ (by decide)]
theorem out6 : out0_6 (F := Ideal) x0 x1 x2 x3 x4 = k0_pay2 (F := Ideal) x3 x1 := by
  unfold out0_6
  rw [View.canon_cons_unit_lit _ _ _ (by decide), View.ld_unit_lit _ _ (by decide), View.ld_unit_lit _ _ (by decide)]
theorem out7 : out0_7 (F := Ideal) x0 x1 x2 x3 x4 = k0_pay3 (F := Ideal) x2 x4 := by
  unfold out0_7
  rw [View.canon_cons_unit_lit _ _ _ (by decide), View.ld_unit_lit _ _ (by decide), View.ld_unit_lit _ _ (by decide)]

/-! ## The blocks that a point reads -/

variable (m : (ℓ : Loc nD τ sig) → Buf (Elt Ideal) ℓ) (c : Dev nD)

/-- Row `r` of point `t`'s block. -/
def row (t : Fin 11) (r : Fin 256) : Fin 2816 := ⟨256 * t.val + r.val, by omega⟩

def pt (t : Fin 11) : Fin cfg0.N := ⟨t.val, lt_of_lt_of_eq t.isLt N_0.symm⟩

theorem blk0 (t : Fin 11) (j : Fin 4096) (r : Fin 256) : (iblk m c 0 (pt t) : FVec Ideal S4096x256 .bf16) (ix2 j r)
    = m ((c : Thread nD τ).loc main_arg0) (ix2 j (row t r)) := by
  have hi : ∀ t : Fin 11, win0_0.index (pt t) 0 = 0 ∧ win0_0.index (pt t) 1 = t.val := by decide
  unfold iblk
  rw [View.read_apply]
  show V m c main_arg0 _ = m ((c : Thread nD τ).loc main_arg0) _
  rw [V_main_arg0]
  congr 1
  funext a
  apply Fin.ext
  match a with
  | ⟨0, _⟩ => show win0_0.index (pt t) 0 * 4096 + 1 * j.val = j.val; rw [(hi t).1]; omega
  | ⟨1, _⟩ => show win0_0.index (pt t) 1 * 256 + 1 * r.val = 256 * t.val + r.val; rw [(hi t).2]; omega

theorem blk1 (t : Fin 11) (j : Fin 4096) (r : Fin 256) : (iblk m c 1 (pt t) : FVec Ideal S4096x256 .bf16) (ix2 j r)
    = m ((c : Thread nD τ).loc main_arg1) (ix2 j (row t r)) := by
  have hi : ∀ t : Fin 11, win0_1.index (pt t) 0 = 0 ∧ win0_1.index (pt t) 1 = t.val := by decide
  unfold iblk
  rw [View.read_apply]
  show V m c main_arg1 _ = m ((c : Thread nD τ).loc main_arg1) _
  rw [V_main_arg1]
  congr 1
  funext a
  apply Fin.ext
  match a with
  | ⟨0, _⟩ => show win0_1.index (pt t) 0 * 4096 + 1 * j.val = j.val; rw [(hi t).1]; omega
  | ⟨1, _⟩ => show win0_1.index (pt t) 1 * 256 + 1 * r.val = 256 * t.val + r.val; rw [(hi t).2]; omega

theorem blk2 (t : Fin 11) (j : Fin 4096) (r : Fin 256) : (iblk m c 2 (pt t) : FVec Ideal S4096x256 .bf16) (ix2 j r)
    = m ((c : Thread nD τ).loc main_arg3) (ix2 j (row t r)) := by
  have hi : ∀ t : Fin 11, win0_2.index (pt t) 0 = 0 ∧ win0_2.index (pt t) 1 = t.val := by decide
  unfold iblk
  rw [View.read_apply]
  show V m c main_arg3 _ = m ((c : Thread nD τ).loc main_arg3) _
  rw [V_main_arg3]
  congr 1
  funext a
  apply Fin.ext
  match a with
  | ⟨0, _⟩ => show win0_2.index (pt t) 0 * 4096 + 1 * j.val = j.val; rw [(hi t).1]; omega
  | ⟨1, _⟩ => show win0_2.index (pt t) 1 * 256 + 1 * r.val = 256 * t.val + r.val; rw [(hi t).2]; omega

theorem blk3 (t : Fin 11) (j : Fin 4096) (l : Fin 1024) : (iblk m c 3 (pt t) : FVec Ideal S4096x1024 .bf16) (ix2 j l)
    = m ((c : Thread nD τ).loc main_arg2) (ix2 j l) := by
  have hi : ∀ t : Fin 11, win0_3.index (pt t) 0 = 0 ∧ win0_3.index (pt t) 1 = 0 := by decide
  unfold iblk
  rw [View.read_apply]
  show V m c main_arg2 _ = m ((c : Thread nD τ).loc main_arg2) _
  rw [V_main_arg2]
  congr 1
  funext a
  apply Fin.ext
  match a with
  | ⟨0, _⟩ => show win0_3.index (pt t) 0 * 4096 + 1 * j.val = j.val; rw [(hi t).1]; omega
  | ⟨1, _⟩ => show win0_3.index (pt t) 1 * 1024 + 1 * l.val = l.val; rw [(hi t).2]; omega

theorem blk4 (t : Fin 11) (j : Fin 4096) (l : Fin 1024) : (iblk m c 4 (pt t) : FVec Ideal S4096x1024 .bf16) (ix2 j l)
    = m ((c : Thread nD τ).loc main_arg4) (ix2 j l) := by
  have hi : ∀ t : Fin 11, win0_4.index (pt t) 0 = 0 ∧ win0_4.index (pt t) 1 = 0 := by decide
  unfold iblk
  rw [View.read_apply]
  show V m c main_arg4 _ = m ((c : Thread nD τ).loc main_arg4) _
  rw [V_main_arg4]
  congr 1
  funext a
  apply Fin.ext
  match a with
  | ⟨0, _⟩ => show win0_4.index (pt t) 0 * 4096 + 1 * j.val = j.val; rw [(hi t).1]; omega
  | ⟨1, _⟩ => show win0_4.index (pt t) 1 * 1024 + 1 * l.val = l.val; rw [(hi t).2]; omega

/-! ## The result arrays -/

/-- An entry of a weight gradient. -/
def entry (x : FVec Ideal S4096x2816 .bf16) (y : FVec Ideal S4096x1024 .bf16) : FVec Ideal S2816x1024 .bf16 :=
  fun i => ∑ j : Fin 4096, x (ix2 j (i 0)) * y (ix2 j (i 1))

theorem rows (X Y : FVec Ideal S2816x1024 .bf16) (h : ∀ (t : Fin 11) (r : Fin 256) (l : Fin 1024), X (ix2 (row t r) l) = Y (ix2 (row t r) l)) : X = Y :=
  funext fun i => by
    have h0 : (i 0).val < 2816 := (i 0).isLt
    have e : i = ix2 (row ⟨(i 0).val / 256, by omega⟩ ⟨(i 0).val % 256, Nat.mod_lt _ (by decide)⟩) (i 1) := funext fun a => by
      match a with
      | ⟨0, _⟩ => exact Fin.ext (by show (i 0).val = 256 * ((i 0).val / 256) + (i 0).val % 256; omega)
      | ⟨1, _⟩ => rfl
    rw [e]; exact h _ _ _

theorem final5 : ((dats m 0 c).arrAt 5 cfg0.N : FVec Ideal S2816x1024 .bf16)
    = entry (m ((c : Thread nD τ).loc main_arg0)) (m ((c : Thread nD τ).loc main_arg2)) := rows _ _ fun t r l => by
  have hf : ∀ t : Fin 11, (cfg0.win 5).flush (pt t) = true := by decide
  have hi : ∀ t : Fin 11, win0_5.index (pt t) 0 = t.val ∧ win0_5.index (pt t) 1 = 0 := by decide
  have h := congrFun (blocks5 m c (pt t) (hf t)) (ix2 r l)
  rw [View.read_apply, flushed5, out5] at h
  refine Eq.trans (Eq.trans ?_ h) ((pay1 _ _ r l).trans (Finset.sum_congr rfl fun j _ => ?_))
  · show ((dats m 0 c).arrAt 5 cfg0.N : FVec Ideal S2816x1024 .bf16) _ = ((dats m 0 c).arrAt 5 cfg0.N : FVec Ideal S2816x1024 .bf16) _
    congr 1
    funext a
    apply Fin.ext
    match a with
    | ⟨0, _⟩ => show 256 * t.val + r.val = win0_5.index (pt t) 0 * 256 + 1 * r.val; rw [(hi t).1]; omega
    | ⟨1, _⟩ => show l.val = win0_5.index (pt t) 1 * 1024 + 1 * l.val; rw [(hi t).2]; omega
  · rw [blk0, blk3]

theorem final6 : ((dats m 0 c).arrAt 6 cfg0.N : FVec Ideal S2816x1024 .bf16)
    = entry (m ((c : Thread nD τ).loc main_arg1)) (m ((c : Thread nD τ).loc main_arg2)) := rows _ _ fun t r l => by
  have hf : ∀ t : Fin 11, (cfg0.win 6).flush (pt t) = true := by decide
  have hi : ∀ t : Fin 11, win0_6.index (pt t) 0 = t.val ∧ win0_6.index (pt t) 1 = 0 := by decide
  have h := congrFun (blocks6 m c (pt t) (hf t)) (ix2 r l)
  rw [View.read_apply, flushed6, out6] at h
  refine Eq.trans (Eq.trans ?_ h) ((pay2 _ _ r l).trans (Finset.sum_congr rfl fun j _ => ?_))
  · show ((dats m 0 c).arrAt 6 cfg0.N : FVec Ideal S2816x1024 .bf16) _ = ((dats m 0 c).arrAt 6 cfg0.N : FVec Ideal S2816x1024 .bf16) _
    congr 1
    funext a
    apply Fin.ext
    match a with
    | ⟨0, _⟩ => show 256 * t.val + r.val = win0_6.index (pt t) 0 * 256 + 1 * r.val; rw [(hi t).1]; omega
    | ⟨1, _⟩ => show l.val = win0_6.index (pt t) 1 * 1024 + 1 * l.val; rw [(hi t).2]; omega
  · rw [blk1, blk3]

theorem final7 : ((dats m 0 c).arrAt 7 cfg0.N : FVec Ideal S2816x1024 .bf16)
    = entry (m ((c : Thread nD τ).loc main_arg3)) (m ((c : Thread nD τ).loc main_arg4)) := rows _ _ fun t r l => by
  have hf : ∀ t : Fin 11, (cfg0.win 7).flush (pt t) = true := by decide
  have hi : ∀ t : Fin 11, win0_7.index (pt t) 0 = t.val ∧ win0_7.index (pt t) 1 = 0 := by decide
  have h := congrFun (blocks7 m c (pt t) (hf t)) (ix2 r l)
  rw [View.read_apply, flushed7, out7] at h
  refine Eq.trans (Eq.trans ?_ h) ((pay3 _ _ r l).trans (Finset.sum_congr rfl fun j _ => ?_))
  · show ((dats m 0 c).arrAt 7 cfg0.N : FVec Ideal S2816x1024 .bf16) _ = ((dats m 0 c).arrAt 7 cfg0.N : FVec Ideal S2816x1024 .bf16) _
    congr 1
    funext a
    apply Fin.ext
    match a with
    | ⟨0, _⟩ => show 256 * t.val + r.val = win0_7.index (pt t) 0 * 256 + 1 * r.val; rw [(hi t).1]; omega
    | ⟨1, _⟩ => show l.val = win0_7.index (pt t) 1 * 1024 + 1 * l.val; rw [(hi t).2]; omega
  · rw [blk2, blk4]

/-! ## The reference -/

section
open Cert.Reference3Ideal.Read

theorem ref19 (x0 : FVec Ideal S4096x2816 .bf16) (x2 : FVec Ideal S4096x1024 .bf16) : val_main_v19 (F := Ideal) x0 x2 = entry x0 x2 :=
  funext fun i => by
    rw [val_main_v19_apply, val_main_v8_apply, val_main_v7_apply, val_main_v6_apply]
    refine Finset.sum_congr rfl fun j _ => ?_
    rw [val_main_v5_apply, val_main_v0_apply]
    exact congrArg₂ (· * ·) (congrArg x0 (Ffn.split2 _)) (congrArg x2 (Ffn.split2 _))
theorem ref20 (x1 : FVec Ideal S4096x2816 .bf16) (x2 : FVec Ideal S4096x1024 .bf16) : val_main_v20 (F := Ideal) x1 x2 = entry x1 x2 :=
  funext fun i => by
    rw [val_main_v20_apply, val_main_v14_apply, val_main_v13_apply, val_main_v12_apply]
    refine Finset.sum_congr rfl fun j _ => ?_
    rw [val_main_v11_apply, val_main_v0_apply]
    exact congrArg₂ (· * ·) (congrArg x1 (Ffn.split2 _)) (congrArg x2 (Ffn.split2 _))
theorem ref21 (x3 : FVec Ideal S4096x2816 .bf16) (x4 : FVec Ideal S4096x1024 .bf16) : val_main_v21 (F := Ideal) x3 x4 = entry x3 x4 :=
  funext fun i => by
    rw [val_main_v21_apply, val_main_v18_apply, val_main_v17_apply]
    refine Finset.sum_congr rfl fun j _ => ?_
    rw [val_main_v16_apply, val_main_v1_apply]
    exact (mul_comm _ _).trans (congrArg₂ (· * ·) (congrArg x3 (Ffn.split2 _)) (congrArg x4 (Ffn.split2 _)))

end

end GradW
-- ==== Proof.FfnFwd.lean ====
/-
  The forward half of the feed-forward layer: a grid point computes 256 rows of the five results, each row from its own row of the
  normalised stream, and the reference computes every row alike.
-/
module

public import proofs.«01_k».proof.Proof.FfnBase
public import proofs.«01_k».proof.Proof.Gen.Kernel4Ideal.Value
public import proofs.«01_k».proof.Proof.Gen.Reference4Ideal.Read
public import Idealize.ShloMosaic.Lib.StableHlo.RunRead

@[expose] public section

noncomputable section

namespace FfnF

open Idealize.ShloMosaic hiding ix0 ix1 ix2 ix3 ix4 ix5
open Idealize.ShloMosaic.ValueIdx Idealize.ShloMosaic.TcCoe Cert.Kernel4Ideal Cert.Kernel4Ideal.Gen Cert.Kernel4Ideal.Value
open scoped BigOperators

/-! ## One row of the layer -/

abbrev W := FVec Ideal S2816x1024 .bf16

/-- The product with a gate's or an up matrix's rows. -/
def lin (h : Fin 1024 → EReal) (w : W) (f : Fin 2816) : EReal := ∑ k : Fin 1024, h k * w (ix2 f k)

/-- The gated activation. -/
def act (h : Fin 1024 → EReal) (wg wu : W) (f : Fin 2816) : EReal :=
  lin h wg f * Ideal.div ((1 : ℝ) : EReal) (((1 : ℝ) : EReal) + Ideal.exp (-lin h wg f)) * lin h wu f

/-- The stream after the layer. -/
def x2 (h x : Fin 1024 → EReal) (wg wu wd : W) (l : Fin 1024) : EReal := x l + ∑ f : Fin 2816, act h wg wu f * wd (ix2 f l)

/-- The reciprocal root of a row's mean square. -/
def rr (x : Fin 1024 → EReal) : EReal :=
  Ideal.rsqrt (Ideal.div (∑ k : Fin 1024, x k * x k) (FloatOps.ofBits .f32 0x44800000#32 : Ideal .f32) + (FloatOps.ofBits .f32 0x358637BD#32 : Ideal .f32))

/-- The stream after the layer, normalised. -/
def hn (h x : Fin 1024 → EReal) (wg wu wd : W) (g : FVec Ideal S1x1024 .f32) (l : Fin 1024) : EReal :=
  x2 h x wg wu wd l * rr (x2 h x wg wu wd) * g (ix2 0 l)

/-! ## What a point computes -/

theorem pay2 (v0 : FVec Ideal S256x1024 .bf16) : k0_pay2 (F := Ideal) v0 = v0 := shapeCast_id _ _

theorem pay3 (v0 : FVec Ideal S256x1024 .bf16) (w : W) (r : Fin 256) (f : Fin 2816) :
    k0_pay3 (F := Ideal) v0 w (ix2 r f) = lin (fun k => v0 (ix2 r k)) w f := by
  unfold k0_pay3; rw [pay2]; exact Ffn.nt_zero v0 w r f
theorem pay4 (v0 : FVec Ideal S256x1024 .bf16) (w : W) (r : Fin 256) (f : Fin 2816) :
    k0_pay4 (F := Ideal) v0 w (ix2 r f) = lin (fun k => v0 (ix2 r k)) w f := by
  unfold k0_pay4; rw [pay2]; exact Ffn.nt_zero v0 w r f
theorem pay5 (v0 : FVec Ideal S256x1024 .bf16) (w : W) (r : Fin 256) (f : Fin 2816) :
    k0_pay5 (F := Ideal) v0 w (ix2 r f) = lin (fun k => v0 (ix2 r k)) w f := pay3 v0 w r f
theorem pay6 (v0 : FVec Ideal S256x1024 .bf16) (w : W) (r : Fin 256) (f : Fin 2816) :
    k0_pay6 (F := Ideal) v0 w (ix2 r f) = lin (fun k => v0 (ix2 r k)) w f := pay4 v0 w r f

theorem pay7 (v0 : FVec Ideal S256x1024 .bf16) (wg wu : W) (r : Fin 256) (f : Fin 2816) :
    k0_pay7 (F := Ideal) v0 wg wu (ix2 r f) = act (fun k => v0 (ix2 r k)) wg wu f := by
  have e : k0_pay7 (F := Ideal) v0 wg wu (ix2 r f) = k0_pay3 (F := Ideal) v0 wg (ix2 r f) * ((FloatOps.ofBits .f32 0x3F000000#32 : Ideal .f32)
      * Ideal.tanh ((FloatOps.ofBits .f32 0x3F000000#32 : Ideal .f32) * k0_pay3 (F := Ideal) v0 wg (ix2 r f)) + (FloatOps.ofBits .f32 0x3F000000#32 : Ideal .f32))
      * k0_pay4 (F := Ideal) v0 wu (ix2 r f) := rfl
  rw [e, Ffn.litHalf, Ffn.sig, pay3, pay4]; rfl

theorem pay8 (v0 : FVec Ideal S256x1024 .bf16) (wg wu : W) (x : FVec Ideal S256x1024 .f32) (wd : W) (r : Fin 256) (l : Fin 1024) :
    k0_pay8 (F := Ideal) v0 wg wu x wd (ix2 r l) = x2 (fun k => v0 (ix2 r k)) (fun k => x (ix2 r k)) wg wu wd l := by
  unfold k0_pay8
  rw [addf_apply]
  refine congrArg (x (ix2 r l) + ·) ((Ffn.nn_zero (k0_pay7 (F := Ideal) v0 wg wu) wd r l).trans (Finset.sum_congr rfl fun f _ => ?_))
  rw [pay7]

theorem pay9 (v0 : FVec Ideal S256x1024 .bf16) (wg wu : W) (x : FVec Ideal S256x1024 .f32) (wd : W) (r : Fin 256) :
    k0_pay9 (F := Ideal) v0 wg wu x wd (ix2 r 0) = ∑ k : Fin 1024, x2 (fun k => v0 (ix2 r k)) (fun k => x (ix2 r k)) wg wu wd k
      * x2 (fun k => v0 (ix2 r k)) (fun k => x (ix2 r k)) wg wu wd k := by
  refine (AttK.rowsum_apply 256 1024 (mulf (k0_pay8 (F := Ideal) v0 wg wu x wd) (k0_pay8 (F := Ideal) v0 wg wu x wd)) r 0).trans ?_
  refine Finset.sum_congr rfl fun k _ => ?_
  rw [mulf_apply, pay8]

theorem pay1 (v0 : FVec Ideal S256x1024 .bf16) (wg wu : W) (x : FVec Ideal S256x1024 .f32) (wd : W) (g : FVec Ideal S1x1024 .f32) (r : Fin 256) (l : Fin 1024) :
    k0_pay1 (F := Ideal) (k0_pay8 (F := Ideal) v0 wg wu x wd) (k0_pay9 (F := Ideal) v0 wg wu x wd) (Scalar.ofBits .f32 0x44800000#32) g (ix2 r l)
      = hn (fun k => v0 (ix2 r k)) (fun k => x (ix2 r k)) wg wu wd g l := by
  have e9 := pay9 v0 wg wu x wd r
  have e8 := pay8 v0 wg wu x wd r l
  revert e9 e8
  generalize k0_pay8 (F := Ideal) v0 wg wu x wd = a
  generalize k0_pay9 (F := Ideal) v0 wg wu x wd = b
  intro e9 e8
  unfold k0_pay1
  rw [truncf_apply, mulf_apply, mulf_apply, AttK.bRow_apply 256 1024, AttK.bCol_apply 256 1024, rsqrt_apply, addf_apply, e8]
  refine congrArg (· * g (ix2 0 l)) (congrArg (x2 _ _ wg wu wd l * ·) ?_)
  show Ideal.rsqrt (Ideal.div (b (ix2 r 0)) _ + _) = _
  rw [e9]; rfl

section
variable (x0 : FVec Ideal S256x1024 .bf16) (x1 x2 x3 : W) (x4 : FVec Ideal S256x1024 .f32) (x5 : FVec Ideal S1x1024 .f32)

theorem out6 : out0_6 (F := Ideal) x0 x1 x2 x3 x4 x5 = k0_pay5 (F := Ideal) x0 x1 := by
  unfold out0_6
  rw [View.canon_cons_unit_lit _ _ _ (by decide)]
  simp (disch := decide) only [View.ld_unit_lit]
theorem out7 : out0_7 (F := Ideal) x0 x1 x2 x3 x4 x5 = k0_pay6 (F := Ideal) x0 x2 := by
  unfold out0_7
  rw [View.canon_cons_unit_lit _ _ _ (by decide)]
  simp (disch := decide) only [View.ld_unit_lit]
theorem out8 : out0_8 (F := Ideal) x0 x1 x2 x3 x4 x5 = k0_pay7 (F := Ideal) x0 x1 x2 := by
  unfold out0_8
  rw [View.canon_cons_unit_lit _ _ _ (by decide)]
  simp (disch := decide) only [View.ld_unit_lit]
theorem out9 : out0_9 (F := Ideal) x0 x1 x2 x3 x4 x5 = k0_pay8 (F := Ideal) x0 x1 x2 x4 x3 := by
  unfold out0_9
  rw [View.canon_cons_unit_lit _ _ _ (by decide)]
  simp (disch := decide) only [View.ld_unit_lit]
theorem out10 : out0_10 (F := Ideal) x0 x1 x2 x3 x4 x5 = k0_pay1 (F := Ideal) (k0_pay8 (F := Ideal) x0 x1 x2 x4 x3) (k0_pay9 (F := Ideal) x0 x1 x2 x4 x3) (Scalar.ofBits .f32 0x44800000#32) x5 := by
  unfold out0_10
  rw [View.canon_cons_unit_lit _ _ _ (by decide)]
  simp (disch := decide) only [View.ld_unit_lit]

end

/-! ## The blocks that a point reads -/

variable (m : (ℓ : Loc nD τ sig) → Buf (Elt Ideal) ℓ) (c : Dev nD)

/-- Row `r` of point `t`'s block. -/
def row (t : Fin 16) (r : Fin 256) : Fin 4096 := ⟨256 * t.val + r.val, by omega⟩

def pt (t : Fin 16) : Fin cfg0.N := ⟨t.val, lt_of_lt_of_eq t.isLt N_0.symm⟩

/-- The normalised stream that the host lines prepare: the reference's own lines. -/
theorem V_h : V m c main_v12 = Cert.Reference4Ideal.Read.val_main_v11 (F := Ideal) (m ((c : Thread nD τ).loc main_arg0)) (m ((c : Thread nD τ).loc main_arg1)) := by
  unfold V
  simp only [hostOps0]
  after_results_simp
  rfl

theorem blk0 (t : Fin 16) (r : Fin 256) (l : Fin 1024) : (iblk m c 0 (pt t) : FVec Ideal S256x1024 .bf16) (ix2 r l)
    = Cert.Reference4Ideal.Read.val_main_v11 (F := Ideal) (m ((c : Thread nD τ).loc main_arg0)) (m ((c : Thread nD τ).loc main_arg1)) (ix2 (row t r) l) := by
  have hi : ∀ t : Fin 16, win0_0.index (pt t) 0 = t.val ∧ win0_0.index (pt t) 1 = 0 := by decide
  unfold iblk
  rw [View.read_apply]
  show V m c main_v12 _ = _
  rw [V_h]
  congr 1
  funext a
  apply Fin.ext
  match a with
  | ⟨0, _⟩ => show win0_0.index (pt t) 0 * 256 + 1 * r.val = 256 * t.val + r.val; rw [(hi t).1]; omega
  | ⟨1, _⟩ => show win0_0.index (pt t) 1 * 1024 + 1 * l.val = l.val; rw [(hi t).2]; omega

theorem blk1 (t : Fin 16) (r : Fin 2816) (l : Fin 1024) : (iblk m c 1 (pt t) : FVec Ideal S2816x1024 .bf16) (ix2 r l)
    = m ((c : Thread nD τ).loc main_arg3) (ix2 r l) := by
  have hi : ∀ t : Fin 16, win0_1.index (pt t) 0 = 0 ∧ win0_1.index (pt t) 1 = 0 := by decide
  unfold iblk
  rw [View.read_apply]
  show V m c main_arg3 _ = _
  rw [V_main_arg3]
  congr 1
  funext a
  apply Fin.ext
  match a with
  | ⟨0, _⟩ => show win0_1.index (pt t) 0 * 2816 + 1 * r.val = r.val; rw [(hi t).1]; omega
  | ⟨1, _⟩ => show win0_1.index (pt t) 1 * 1024 + 1 * l.val = l.val; rw [(hi t).2]; omega

theorem blk2 (t : Fin 16) (r : Fin 2816) (l : Fin 1024) : (iblk m c 2 (pt t) : FVec Ideal S2816x1024 .bf16) (ix2 r l)
    = m ((c : Thread nD τ).loc main_arg4) (ix2 r l) := by
  have hi : ∀ t : Fin 16, win0_2.index (pt t) 0 = 0 ∧ win0_2.index (pt t) 1 = 0 := by decide
  unfold iblk
  rw [View.read_apply]
  show V m c main_arg4 _ = _
  rw [V_main_arg4]
  congr 1
  funext a
  apply Fin.ext
  match a with
  | ⟨0, _⟩ => show win0_2.index (pt t) 0 * 2816 + 1 * r.val = r.val; rw [(hi t).1]; omega
  | ⟨1, _⟩ => show win0_2.index (pt t) 1 * 1024 + 1 * l.val = l.val; rw [(hi t).2]; omega

theorem blk3 (t : Fin 16) (r : Fin 2816) (l : Fin 1024) : (iblk m c 3 (pt t) : FVec Ideal S2816x1024 .bf16) (ix2 r l)
    = m ((c : Thread nD τ).loc main_arg5) (ix2 r l) := by
  have hi : ∀ t : Fin 16, win0_3.index (pt t) 0 = 0 ∧ win0_3.index (pt t) 1 = 0 := by decide
  unfold iblk
  rw [View.read_apply]
  show V m c main_arg5 _ = _
  rw [V_main_arg5]
  congr 1
  funext a
  apply Fin.ext
  match a with
  | ⟨0, _⟩ => show win0_3.index (pt t) 0 * 2816 + 1 * r.val = r.val; rw [(hi t).1]; omega
  | ⟨1, _⟩ => show win0_3.index (pt t) 1 * 1024 + 1 * l.val = l.val; rw [(hi t).2]; omega

theorem blk4 (t : Fin 16) (r : Fin 256) (l : Fin 1024) : (iblk m c 4 (pt t) : FVec Ideal S256x1024 .f32) (ix2 r l)
    = m ((c : Thread nD τ).loc main_arg0) (ix2 (row t r) l) := by
  have hi : ∀ t : Fin 16, win0_4.index (pt t) 0 = t.val ∧ win0_4.index (pt t) 1 = 0 := by decide
  unfold iblk
  rw [View.read_apply]
  show V m c main_arg0 _ = _
  rw [V_main_arg0]
  congr 1
  funext a
  apply Fin.ext
  match a with
  | ⟨0, _⟩ => show win0_4.index (pt t) 0 * 256 + 1 * r.val = 256 * t.val + r.val; rw [(hi t).1]; omega
  | ⟨1, _⟩ => show win0_4.index (pt t) 1 * 1024 + 1 * l.val = l.val; rw [(hi t).2]; omega

theorem blk5 (t : Fin 16) (r : Fin 1) (l : Fin 1024) : (iblk m c 5 (pt t) : FVec Ideal S1x1024 .f32) (ix2 r l)
    = m ((c : Thread nD τ).loc main_arg2) (ix2 r l) := by
  have hi : ∀ t : Fin 16, win0_5.index (pt t) 0 = 0 ∧ win0_5.index (pt t) 1 = 0 := by decide
  unfold iblk
  rw [View.read_apply]
  show V m c main_arg2 _ = _
  rw [V_main_arg2]
  congr 1
  funext a
  apply Fin.ext
  match a with
  | ⟨0, _⟩ => show win0_5.index (pt t) 0 * 1 + 1 * r.val = r.val; rw [(hi t).1]; omega
  | ⟨1, _⟩ => show win0_5.index (pt t) 1 * 1024 + 1 * l.val = l.val; rw [(hi t).2]; omega

theorem all1 (t : Fin 16) : (iblk m c 1 (pt t) : W) = m ((c : Thread nD τ).loc main_arg3) := funext fun i => by
  rw [Ffn.split2 i]; exact blk1 m c t _ _
theorem all2 (t : Fin 16) : (iblk m c 2 (pt t) : W) = m ((c : Thread nD τ).loc main_arg4) := funext fun i => by
  rw [Ffn.split2 i]; exact blk2 m c t _ _
theorem all3 (t : Fin 16) : (iblk m c 3 (pt t) : W) = m ((c : Thread nD τ).loc main_arg5) := funext fun i => by
  rw [Ffn.split2 i]; exact blk3 m c t _ _
theorem all5 (t : Fin 16) : (iblk m c 5 (pt t) : FVec Ideal S1x1024 .f32) = m ((c : Thread nD τ).loc main_arg2) := funext fun i => by
  rw [Ffn.split2 i]; exact blk5 m c t _ _
theorem row0 (t : Fin 16) (r : Fin 256) : (fun k => (iblk m c 0 (pt t) : FVec Ideal S256x1024 .bf16) (ix2 r k))
    = fun k => Cert.Reference4Ideal.Read.val_main_v11 (F := Ideal) (m ((c : Thread nD τ).loc main_arg0)) (m ((c : Thread nD τ).loc main_arg1)) (ix2 (row t r) k) := funext fun k => blk0 m c t r k
theorem row4 (t : Fin 16) (r : Fin 256) : (fun k => (iblk m c 4 (pt t) : FVec Ideal S256x1024 .f32) (ix2 r k))
    = fun k => m ((c : Thread nD τ).loc main_arg0) (ix2 (row t r) k) := funext fun k => blk4 m c t r k

/-! ## The result arrays -/

theorem rows {n : ℕ} {φ : FTy} (X Y : FVec Ideal (AttK.M 4096 n) φ) (h : ∀ (t : Fin 16) (r : Fin 256) (l : Fin n), X (ix2 (row t r) l) = Y (ix2 (row t r) l)) : X = Y :=
  funext fun i => by
    have h0 : (i 0).val < 4096 := (i 0).isLt
    have e : i = ix2 (row ⟨(i 0).val / 256, by omega⟩ ⟨(i 0).val % 256, Nat.mod_lt _ (by decide)⟩) (i 1) := funext fun a => by
      match a with
      | ⟨0, _⟩ => exact Fin.ext (by show (i 0).val = 256 * ((i 0).val / 256) + (i 0).val % 256; omega)
      | ⟨1, _⟩ => rfl
    rw [e]; exact h _ _ _

/-- Every row of the normalised stream. -/
def hrow (x0 : FVec Ideal S4096x1024 .f32) (x1 : FVec Ideal S1x1024 .f32) (i : Fin 4096) (k : Fin 1024) : EReal :=
  Cert.Reference4Ideal.Read.val_main_v11 (F := Ideal) x0 x1 (ix2 i k)

def arrLin (x0 : FVec Ideal S4096x1024 .f32) (x1 : FVec Ideal S1x1024 .f32) (w : W) : FVec Ideal S4096x2816 .bf16 := fun i => lin (hrow x0 x1 (i 0)) w (i 1)
def arrAct (x0 : FVec Ideal S4096x1024 .f32) (x1 : FVec Ideal S1x1024 .f32) (wg wu : W) : FVec Ideal S4096x2816 .bf16 :=
  fun i => act (hrow x0 x1 (i 0)) wg wu (i 1)
def arrX2 (x0 : FVec Ideal S4096x1024 .f32) (x1 : FVec Ideal S1x1024 .f32) (wg wu wd : W) : FVec Ideal S4096x1024 .f32 :=
  fun i => x2 (hrow x0 x1 (i 0)) (fun k => x0 (ix2 (i 0) k)) wg wu wd (i 1)
def arrHn (x0 : FVec Ideal S4096x1024 .f32) (x1 g : FVec Ideal S1x1024 .f32) (wg wu wd : W) : FVec Ideal S4096x1024 .bf16 :=
  fun i => hn (hrow x0 x1 (i 0)) (fun k => x0 (ix2 (i 0) k)) wg wu wd g (i 1)

theorem final6 : ((dats m 0 c).arrAt 6 cfg0.N : FVec Ideal S4096x2816 .bf16)
    = arrLin (m ((c : Thread nD τ).loc main_arg0)) (m ((c : Thread nD τ).loc main_arg1)) (m ((c : Thread nD τ).loc main_arg3)) := rows _ _ fun t r l => by
  have hf : ∀ t : Fin 16, (cfg0.win 6).flush (pt t) = true := by decide
  have hi : ∀ t : Fin 16, win0_6.index (pt t) 0 = t.val ∧ win0_6.index (pt t) 1 = 0 := by decide
  have h := congrFun (blocks6 m c (pt t) (hf t)) (ix2 r l)
  rw [View.read_apply, flushed6, out6] at h
  refine Eq.trans (Eq.trans ?_ h) ((pay5 _ _ r l).trans ?_)
  · show ((dats m 0 c).arrAt 6 cfg0.N : FVec Ideal S4096x2816 .bf16) _ = ((dats m 0 c).arrAt 6 cfg0.N : FVec Ideal S4096x2816 .bf16) _
    congr 1
    funext a
    apply Fin.ext
    match a with
    | ⟨0, _⟩ => show 256 * t.val + r.val = win0_6.index (pt t) 0 * 256 + 1 * r.val; rw [(hi t).1]; omega
    | ⟨1, _⟩ => show l.val = win0_6.index (pt t) 1 * 2816 + 1 * l.val; rw [(hi t).2]; omega
  · rw [row0 m c t r, all1 m c t]; rfl

theorem final7 : ((dats m 0 c).arrAt 7 cfg0.N : FVec Ideal S4096x2816 .bf16)
    = arrLin (m ((c : Thread nD τ).loc main_arg0)) (m ((c : Thread nD τ).loc main_arg1)) (m ((c : Thread nD τ).loc main_arg4)) := rows _ _ fun t r l => by
  have hf : ∀ t : Fin 16, (cfg0.win 7).flush (pt t) = true := by decide
  have hi : ∀ t : Fin 16, win0_7.index (pt t) 0 = t.val ∧ win0_7.index (pt t) 1 = 0 := by decide
  have h := congrFun (blocks7 m c (pt t) (hf t)) (ix2 r l)
  rw [View.read_apply, flushed7, out7] at h
  refine Eq.trans (Eq.trans ?_ h) ((pay6 _ _ r l).trans ?_)
  · show ((dats m 0 c).arrAt 7 cfg0.N : FVec Ideal S4096x2816 .bf16) _ = ((dats m 0 c).arrAt 7 cfg0.N : FVec Ideal S4096x2816 .bf16) _
    congr 1
    funext a
    apply Fin.ext
    match a with
    | ⟨0, _⟩ => show 256 * t.val + r.val = win0_7.index (pt t) 0 * 256 + 1 * r.val; rw [(hi t).1]; omega
    | ⟨1, _⟩ => show l.val = win0_7.index (pt t) 1 * 2816 + 1 * l.val; rw [(hi t).2]; omega
  · rw [row0 m c t r, all2 m c t]; rfl

theorem final8 : ((dats m 0 c).arrAt 8 cfg0.N : FVec Ideal S4096x2816 .bf16)
    = arrAct (m ((c : Thread nD τ).loc main_arg0)) (m ((c : Thread nD τ).loc main_arg1)) (m ((c : Thread nD τ).loc main_arg3)) (m ((c : Thread nD τ).loc main_arg4)) := rows _ _ fun t r l => by
  have hf : ∀ t : Fin 16, (cfg0.win 8).flush (pt t) = true := by decide
  have hi : ∀ t : Fin 16, win0_8.index (pt t) 0 = t.val ∧ win0_8.index (pt t) 1 = 0 := by decide
  have h := congrFun (blocks8 m c (pt t) (hf t)) (ix2 r l)
  rw [View.read_apply, flushed8, out8] at h
  refine Eq.trans (Eq.trans ?_ h) ((pay7 _ _ _ r l).trans ?_)
  · show ((dats m 0 c).arrAt 8 cfg0.N : FVec Ideal S4096x2816 .bf16) _ = ((dats m 0 c).arrAt 8 cfg0.N : FVec Ideal S4096x2816 .bf16) _
    congr 1
    funext a
    apply Fin.ext
    match a with
    | ⟨0, _⟩ => show 256 * t.val + r.val = win0_8.index (pt t) 0 * 256 + 1 * r.val; rw [(hi t).1]; omega
    | ⟨1, _⟩ => show l.val = win0_8.index (pt t) 1 * 2816 + 1 * l.val; rw [(hi t).2]; omega
  · rw [row0 m c t r, all1 m c t, all2 m c t]; rfl

theorem final9 : ((dats m 0 c).arrAt 9 cfg0.N : FVec Ideal S4096x1024 .f32)
    = arrX2 (m ((c : Thread nD τ).loc main_arg0)) (m ((c : Thread nD τ).loc main_arg1)) (m ((c : Thread nD τ).loc main_arg3)) (m ((c : Thread nD τ).loc main_arg4)) (m ((c : Thread nD τ).loc main_arg5)) := rows _ _ fun t r l => by
  have hf : ∀ t : Fin 16, (cfg0.win 9).flush (pt t) = true := by decide
  have hi : ∀ t : Fin 16, win0_9.index (pt t) 0 = t.val ∧ win0_9.index (pt t) 1 = 0 := by decide
  have h := congrFun (blocks9 m c (pt t) (hf t)) (ix2 r l)
  rw [View.read_apply, flushed9, out9] at h
  refine Eq.trans (Eq.trans ?_ h) ((pay8 _ _ _ _ _ r l).trans ?_)
  · show ((dats m 0 c).arrAt 9 cfg0.N : FVec Ideal S4096x1024 .f32) _ = ((dats m 0 c).arrAt 9 cfg0.N : FVec Ideal S4096x1024 .f32) _
    congr 1
    funext a
    apply Fin.ext
    match a with
    | ⟨0, _⟩ => show 256 * t.val + r.val = win0_9.index (pt t) 0 * 256 + 1 * r.val; rw [(hi t).1]; omega
    | ⟨1, _⟩ => show l.val = win0_9.index (pt t) 1 * 1024 + 1 * l.val; rw [(hi t).2]; omega
  · rw [row0 m c t r, row4 m c t r, all1 m c t, all2 m c t, all3 m c t]; rfl

theorem final10 : ((dats m 0 c).arrAt 10 cfg0.N : FVec Ideal S4096x1024 .bf16)
    = arrHn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := rows _ _ fun t r l => by
  have hf : ∀ t : Fin 16, (cfg0.win 10).flush (pt t) = true := by decide
  have hi : ∀ t : Fin 16, win0_10.index (pt t) 0 = t.val ∧ win0_10.index (pt t) 1 = 0 := by decide
  have h := congrFun (blocks10 m c (pt t) (hf t)) (ix2 r l)
  rw [View.read_apply, flushed10, out10] at h
  refine Eq.trans (Eq.trans ?_ h) ((pay1 _ _ _ _ _ _ r l).trans ?_)
  · show ((dats m 0 c).arrAt 10 cfg0.N : FVec Ideal S4096x1024 .bf16) _ = ((dats m 0 c).arrAt 10 cfg0.N : FVec Ideal S4096x1024 .bf16) _
    congr 1
    funext a
    apply Fin.ext
    match a with
    | ⟨0, _⟩ => show 256 * t.val + r.val = win0_10.index (pt t) 0 * 256 + 1 * r.val; rw [(hi t).1]; omega
    | ⟨1, _⟩ => show l.val = win0_10.index (pt t) 1 * 1024 + 1 * l.val; rw [(hi t).2]; omega
  · rw [row0 m c t r, row4 m c t r, all1 m c t, all2 m c t, all3 m c t, all5 m c t]; rfl

/-! ## The reference -/

section
open Cert.Reference4Ideal.Read

variable (x0 : FVec Ideal S4096x1024 .f32) (x1 g : FVec Ideal S1x1024 .f32) (wg wu wd : W)

theorem ref14 (i : S4096x2816.Idx) : val_main_v14 (F := Ideal) x0 x1 wg i = lin (hrow x0 x1 (i 0)) wg (i 1) := by
  rw [val_main_v14_apply]
  refine Finset.sum_congr rfl fun k _ => ?_
  rw [val_main_v13_apply, val_main_v12_apply]
  exact congrArg₂ (· * ·) (congrArg (val_main_v11 (F := Ideal) x0 x1) (Ffn.split2 _)) (congrArg wg (Ffn.split2 _))
theorem ref17 (i : S4096x2816.Idx) : val_main_v17 (F := Ideal) x0 x1 wu i = lin (hrow x0 x1 (i 0)) wu (i 1) := by
  rw [val_main_v17_apply]
  refine Finset.sum_congr rfl fun k _ => ?_
  rw [val_main_v16_apply, val_main_v15_apply]
  exact congrArg₂ (· * ·) (congrArg (val_main_v11 (F := Ideal) x0 x1) (Ffn.split2 _)) (congrArg wu (Ffn.split2 _))

theorem ref5 (i : S4096x2816.Idx) : val_main_call0_v5 (F := Ideal) x0 x1 wg i
    = Ideal.div ((1 : ℝ) : EReal) (((1 : ℝ) : EReal) + Ideal.exp (-val_main_v14 (F := Ideal) x0 x1 wg i)) := by
  rw [val_main_call0_v5_apply, val_main_call0_v4_apply, val_main_call0_v3_apply, val_main_call0_v2_apply, val_main_call0_v1_apply,
    val_main_call0_v0_apply]
  show Ideal.div (FloatOps.ofBits .f32 0x3F800000#32 : Ideal .f32) ((FloatOps.ofBits .f32 0x3F800000#32 : Ideal .f32)
    + Ideal.exp (-val_main_v14 (F := Ideal) x0 x1 wg i)) = _
  rw [AttK.lit1]

theorem ref19 (i : S4096x2816.Idx) : val_main_v19 (F := Ideal) x0 x1 wg wu i = act (hrow x0 x1 (i 0)) wg wu (i 1) := by
  rw [val_main_v19_apply, val_main_v18_apply, ref5, ref14, ref17]; rfl

theorem ref22 (i : S4096x1024.Idx) : val_main_v22 (F := Ideal) x0 x1 wg wu wd i
    = x2 (hrow x0 x1 (i 0)) (fun k => x0 (ix2 (i 0) k)) wg wu wd (i 1) := by
  rw [val_main_v22_apply, val_main_v21_apply]
  refine congrArg₂ (· + ·) (congrArg x0 (Ffn.split2 i)) (Finset.sum_congr rfl fun k _ => ?_)
  rw [ref19, val_main_v20_apply]
  exact congrArg (act (hrow x0 x1 (i 0)) wg wu k * ·) (congrArg wd (Ffn.split2 _))

theorem ref33 (i : S4096x1.Idx) : val_main_v33 (F := Ideal) x0 x1 wg wu wd i = rr (x2 (hrow x0 x1 (i 0)) (fun k => x0 (ix2 (i 0) k)) wg wu wd) := by
  have e : ∑ k : Fin 1024, val_main_v26 (F := Ideal) x0 x1 wg wu wd (idx_main_v27 (idx_main_v28 i) k)
      = ∑ k : Fin 1024, x2 (hrow x0 x1 (i 0)) (fun k => x0 (ix2 (i 0) k)) wg wu wd k * x2 (hrow x0 x1 (i 0)) (fun k => x0 (ix2 (i 0) k)) wg wu wd k :=
    Finset.sum_congr rfl fun k _ => by rw [val_main_v26_apply, ref22]; rfl
  rw [val_main_v33_apply, val_main_v32_apply, val_main_v31_apply, val_main_v30_apply, val_main_v29_apply, val_main_v28_apply, val_main_v27_apply, e,
    val_main_cst_2_apply, AttK.lit0, EReal.coe_zero, zero_add]
  rfl

theorem eq6 : val_main_v23 (F := Ideal) x0 x1 wg = arrLin x0 x1 wg := funext fun i => (val_main_v23_apply ..).trans (ref14 x0 x1 wg i)
theorem eq7 : val_main_v24 (F := Ideal) x0 x1 wu = arrLin x0 x1 wu := funext fun i => (val_main_v24_apply ..).trans (ref17 x0 x1 wu i)
theorem eq8 : val_main_v25 (F := Ideal) x0 x1 wg wu = arrAct x0 x1 wg wu := funext fun i => (val_main_v25_apply ..).trans (ref19 x0 x1 wg wu i)
theorem eq9 : val_main_v22 (F := Ideal) x0 x1 wg wu wd = arrX2 x0 x1 wg wu wd := funext fun i => ref22 x0 x1 wg wu wd i
theorem eq10 : val_main_v38 (F := Ideal) x0 x1 g wg wu wd = arrHn x0 x1 g wg wu wd := funext fun i => by
  rw [val_main_v38_apply, val_main_v37_apply, val_main_v36_apply, val_main_v35_apply, val_main_v34_apply, ref22, ref33]
  refine congrArg₂ (· * ·) rfl (congrArg g (Ffn.split2 _))

end

end FfnF
-- ==== Proof.GradWo.lean ====
/-
  The gradient of the attention's output weight, entry by entry: a grid point computes 512 rows of it, and every entry is the sum over
  the 4096 tokens that the reference's product is.
-/
module

public import proofs.«01_k».proof.Proof.FfnBase
public import proofs.«01_k».proof.Proof.Gen.Kernel5Ideal.Value
public import proofs.«01_k».proof.Proof.Gen.Reference5Ideal.Read

@[expose] public section

noncomputable section

namespace GradWo

open Idealize.ShloMosaic hiding ix0 ix1 ix2 ix3 ix4 ix5
open Idealize.ShloMosaic.ValueIdx Idealize.ShloMosaic.TcCoe Cert.Kernel5Ideal Cert.Kernel5Ideal.Gen Cert.Kernel5Ideal.Value
open scoped BigOperators

theorem pay1 (x : FVec Ideal S4096x512 .bf16) (y : FVec Ideal S4096x1024 .bf16) (r : Fin 512) (l : Fin 1024) :
    k0_pay1 (F := Ideal) x y (ix2 r l) = ∑ j : Fin 4096, x (ix2 j r) * y (ix2 j l) := Ffn.tn_zero x y r l

theorem out2 (x0 : FVec Ideal S4096x512 .bf16) (x1 : FVec Ideal S4096x1024 .bf16) : out0_2 (F := Ideal) x0 x1 = k0_pay1 (F := Ideal) x0 x1 := by
  unfold out0_2
  rw [View.canon_cons_unit_lit _ _ _ (by decide), View.ld_unit_lit _ _ (by decide), View.ld_unit_lit _ _ (by decide)]

variable (m : (ℓ : Loc nD τ sig) → Buf (Elt Ideal) ℓ) (c : Dev nD)

/-- Row `r` of point `t`'s block. -/
def row (t : Fin 2) (r : Fin 512) : Fin 1024 := ⟨512 * t.val + r.val, by omega⟩

def pt (t : Fin 2) : Fin cfg0.N := ⟨t.val, lt_of_lt_of_eq t.isLt N_0.symm⟩

theorem blk0 (t : Fin 2) (j : Fin 4096) (r : Fin 512) : (iblk m c 0 (pt t) : FVec Ideal S4096x512 .bf16) (ix2 j r)
    = m ((c : Thread nD τ).loc main_arg0) (ix2 j (row t r)) := by
  have hi : ∀ t : Fin 2, win0_0.index (pt t) 0 = 0 ∧ win0_0.index (pt t) 1 = t.val := by decide
  unfold iblk
  rw [View.read_apply]
  show V m c main_arg0 _ = m ((c : Thread nD τ).loc main_arg0) _
  rw [V_main_arg0]
  congr 1
  funext a
  apply Fin.ext
  match a with
  | ⟨0, _⟩ => show win0_0.index (pt t) 0 * 4096 + 1 * j.val = j.val; rw [(hi t).1]; omega
  | ⟨1, _⟩ => show win0_0.index (pt t) 1 * 512 + 1 * r.val = 512 * t.val + r.val; rw [(hi t).2]; omega

theorem blk1 (t : Fin 2) (j : Fin 4096) (l : Fin 1024) : (iblk m c 1 (pt t) : FVec Ideal S4096x1024 .bf16) (ix2 j l)
    = m ((c : Thread nD τ).loc main_arg1) (ix2 j l) := by
  have hi : ∀ t : Fin 2, win0_1.index (pt t) 0 = 0 ∧ win0_1.index (pt t) 1 = 0 := by decide
  unfold iblk
  rw [View.read_apply]
  show V m c main_arg1 _ = m ((c : Thread nD τ).loc main_arg1) _
  rw [V_main_arg1]
  congr 1
  funext a
  apply Fin.ext
  match a with
  | ⟨0, _⟩ => show win0_1.index (pt t) 0 * 4096 + 1 * j.val = j.val; rw [(hi t).1]; omega
  | ⟨1, _⟩ => show win0_1.index (pt t) 1 * 1024 + 1 * l.val = l.val; rw [(hi t).2]; omega

/-- An entry of the gradient. -/
def entry (x y : FVec Ideal S4096x1024 .bf16) : FVec Ideal S1024x1024 .bf16 := fun i => ∑ j : Fin 4096, x (ix2 j (i 0)) * y (ix2 j (i 1))

theorem rows (X Y : FVec Ideal S1024x1024 .bf16) (h : ∀ (t : Fin 2) (r : Fin 512) (l : Fin 1024), X (ix2 (row t r) l) = Y (ix2 (row t r) l)) : X = Y :=
  funext fun i => by
    have h0 : (i 0).val < 1024 := (i 0).isLt
    have e : i = ix2 (row ⟨(i 0).val / 512, by omega⟩ ⟨(i 0).val % 512, Nat.mod_lt _ (by decide)⟩) (i 1) := funext fun a => by
      match a with
      | ⟨0, _⟩ => exact Fin.ext (by show (i 0).val = 512 * ((i 0).val / 512) + (i 0).val % 512; omega)
      | ⟨1, _⟩ => rfl
    rw [e]; exact h _ _ _

theorem final2 : ((dats m 0 c).arrAt 2 cfg0.N : FVec Ideal S1024x1024 .bf16)
    = entry (m ((c : Thread nD τ).loc main_arg0)) (m ((c : Thread nD τ).loc main_arg1)) := rows _ _ fun t r l => by
  have hf : ∀ t : Fin 2, (cfg0.win 2).flush (pt t) = true := by decide
  have hi : ∀ t : Fin 2, win0_2.index (pt t) 0 = t.val ∧ win0_2.index (pt t) 1 = 0 := by decide
  have h := congrFun (blocks2 m c (pt t) (hf t)) (ix2 r l)
  rw [View.read_apply, flushed2, out2] at h
  refine Eq.trans (Eq.trans ?_ h) ((pay1 _ _ r l).trans (Finset.sum_congr rfl fun j _ => ?_))
  · show ((dats m 0 c).arrAt 2 cfg0.N : FVec Ideal S1024x1024 .bf16) _ = ((dats m 0 c).arrAt 2 cfg0.N : FVec Ideal S1024x1024 .bf16) _
    congr 1
    funext a
    apply Fin.ext
    match a with
    | ⟨0, _⟩ => show 512 * t.val + r.val = win0_2.index (pt t) 0 * 512 + 1 * r.val; rw [(hi t).1]; omega
    | ⟨1, _⟩ => show l.val = win0_2.index (pt t) 1 * 1024 + 1 * l.val; rw [(hi t).2]; omega
  · rw [blk0, blk1]

section
open Cert.Reference5Ideal.Read

theorem ref6 (x0 x1 : FVec Ideal S4096x1024 .bf16) : val_main_v6 (F := Ideal) x0 x1 = entry x0 x1 :=
  funext fun i => by
    rw [val_main_v6_apply, val_main_v5_apply, val_main_v4_apply]
    refine Finset.sum_congr rfl fun j _ => ?_
    rw [val_main_v3_apply, val_main_v0_apply]
    exact (mul_comm _ _).trans (congrArg₂ (· * ·) (congrArg x0 (Ffn.split2 _)) (congrArg x1 (Ffn.split2 _)))

end

end GradWo
-- ==== Proof.FfnLastCase.lean ====
/-
  The blocks that a grid point of the last feed-forward layer's forward half leaves, as the body's own expressions of the blocks it reads.
-/
module

public import proofs.«01_k».proof.Proof.FfnBase
public import proofs.«01_k».proof.Proof.Gen.Kernel6Ideal.Value
public import Idealize.ShloMosaic.Lib.Pipeline.ReadBack

@[expose] public section

noncomputable section

namespace FfnL

open Idealize.ShloMosaic hiding ix0 ix1 ix2 ix3 ix4 ix5
open Idealize.ShloMosaic.ValueIdx Idealize.ShloMosaic.TcCoe Cert.Kernel6Ideal Cert.Kernel6Ideal.Gen Cert.Kernel6Ideal.Value

variable (m : (ℓ : Loc nD τ sig) → Buf (Elt Ideal) ℓ) (c : Dev nD)

abbrev o6 (t : Fin cfg0.N) : FVec Ideal S256x2816 .bf16 := k0_pay8 (F := Ideal) (iblk m c 0 t) (iblk m c 1 t)
abbrev o7 (t : Fin cfg0.N) : FVec Ideal S256x2816 .bf16 := k0_pay9 (F := Ideal) (iblk m c 0 t) (iblk m c 2 t)
abbrev o8 (t : Fin cfg0.N) : FVec Ideal S256x2816 .bf16 := k0_pay10 (F := Ideal) (iblk m c 0 t) (iblk m c 1 t) (iblk m c 2 t)
/-- The stream after the layer. -/
abbrev oy (t : Fin cfg0.N) : FVec Ideal S256x1024 .f32 :=
  k0_pay11 (F := Ideal) (iblk m c 0 t) (iblk m c 1 t) (iblk m c 2 t) (iblk m c 4 t) (iblk m c 3 t)
abbrev o9 (t : Fin cfg0.N) : FVec Ideal S256x1024 .bf16 := k0_pay2 (F := Ideal) (oy m c t) (iblk m c 5 t)
/-- The squared errors gathered so far, column by column. -/
abbrev osq (t : Fin cfg0.N) (acc : FVec Ideal S1x1024 .f32) : FVec Ideal S1x1024 .f32 := k0_pay3 (F := Ideal) (oy m c t) (iblk m c 5 t) acc

theorem a6 (t : Fin cfg0.N) (h0 : t.val % 16 = 0) (h1 : ¬t.val % 16 = 15) : (outsAt0 m c t.val t.isLt).1 = o6 m c t := by
  rw [outsAt0_A m c t h0 h1]; dsimp only; frame_out
theorem a7 (t : Fin cfg0.N) (h0 : t.val % 16 = 0) (h1 : ¬t.val % 16 = 15) : (outsAt0 m c t.val t.isLt).2.1 = o7 m c t := by
  rw [outsAt0_A m c t h0 h1]; dsimp only; frame_out
theorem a8 (t : Fin cfg0.N) (h0 : t.val % 16 = 0) (h1 : ¬t.val % 16 = 15) : (outsAt0 m c t.val t.isLt).2.2.1 = o8 m c t := by
  rw [outsAt0_A m c t h0 h1]; dsimp only; frame_out
theorem a9 (t : Fin cfg0.N) (h0 : t.val % 16 = 0) (h1 : ¬t.val % 16 = 15) : (outsAt0 m c t.val t.isLt).2.2.2.1 = o9 m c t := by
  rw [outsAt0_A m c t h0 h1]; dsimp only; frame_out
theorem a11 (t : Fin cfg0.N) (h0 : t.val % 16 = 0) (h1 : ¬t.val % 16 = 15) : (outsAt0 m c t.val t.isLt).2.2.2.2.2
    = osq m c t (k0_pay12 (F := Ideal)) := by
  rw [outsAt0_A m c t h0 h1]; dsimp only; frame_out
theorem b6 (t : Fin cfg0.N) (h0 : ¬t.val % 16 = 0) (h1 : ¬t.val % 16 = 15) : (outsAt0 m c t.val t.isLt).1 = o6 m c t := by
  rw [outsAt0_B m c t h0 h1]; dsimp only; frame_out
theorem b7 (t : Fin cfg0.N) (h0 : ¬t.val % 16 = 0) (h1 : ¬t.val % 16 = 15) : (outsAt0 m c t.val t.isLt).2.1 = o7 m c t := by
  rw [outsAt0_B m c t h0 h1]; dsimp only; frame_out
theorem b8 (t : Fin cfg0.N) (h0 : ¬t.val % 16 = 0) (h1 : ¬t.val % 16 = 15) : (outsAt0 m c t.val t.isLt).2.2.1 = o8 m c t := by
  rw [outsAt0_B m c t h0 h1]; dsimp only; frame_out
theorem b9 (t : Fin cfg0.N) (h0 : ¬t.val % 16 = 0) (h1 : ¬t.val % 16 = 15) : (outsAt0 m c t.val t.isLt).2.2.2.1 = o9 m c t := by
  rw [outsAt0_B m c t h0 h1]; dsimp only; frame_out
theorem b11 (t : Fin cfg0.N) (h0 : ¬t.val % 16 = 0) (h1 : ¬t.val % 16 = 15) : (outsAt0 m c t.val t.isLt).2.2.2.2.2
    = osq m c t (outsAt0 m c (t.val - 1) (Nat.lt_of_le_of_lt (Nat.sub_le _ _) t.isLt)).2.2.2.2.2 := by
  rw [outsAt0_B m c t h0 h1]; dsimp only; frame_out; rw [read_unread_whole]
theorem c6 (t : Fin cfg0.N) (h0 : ¬t.val % 16 = 0) (h1 : t.val % 16 = 15) : (outsAt0 m c t.val t.isLt).1 = o6 m c t := by
  rw [outsAt0_C m c t h0 h1]; dsimp only; frame_out
theorem c7 (t : Fin cfg0.N) (h0 : ¬t.val % 16 = 0) (h1 : t.val % 16 = 15) : (outsAt0 m c t.val t.isLt).2.1 = o7 m c t := by
  rw [outsAt0_C m c t h0 h1]; dsimp only; frame_out
theorem c8 (t : Fin cfg0.N) (h0 : ¬t.val % 16 = 0) (h1 : t.val % 16 = 15) : (outsAt0 m c t.val t.isLt).2.2.1 = o8 m c t := by
  rw [outsAt0_C m c t h0 h1]; dsimp only; frame_out
theorem c9 (t : Fin cfg0.N) (h0 : ¬t.val % 16 = 0) (h1 : t.val % 16 = 15) : (outsAt0 m c t.val t.isLt).2.2.2.1 = o9 m c t := by
  rw [outsAt0_C m c t h0 h1]; dsimp only; frame_out
theorem c11 (t : Fin cfg0.N) (h0 : ¬t.val % 16 = 0) (h1 : t.val % 16 = 15) : (outsAt0 m c t.val t.isLt).2.2.2.2.2
    = osq m c t (outsAt0 m c (t.val - 1) (Nat.lt_of_le_of_lt (Nat.sub_le _ _) t.isLt)).2.2.2.2.2 := by
  rw [outsAt0_C m c t h0 h1]; dsimp only; frame_out; rw [read_unread_whole]
theorem c10 (t : Fin cfg0.N) (h0 : ¬t.val % 16 = 0) (h1 : t.val % 16 = 15) : (outsAt0 m c t.val t.isLt).2.2.2.2.1
    = k0_pay4 (F := Ideal) (osq m c t (outsAt0 m c (t.val - 1) (Nat.lt_of_le_of_lt (Nat.sub_le _ _) t.isLt)).2.2.2.2.2) := by
  rw [outsAt0_C m c t h0 h1]; dsimp only; frame_out; rw [read_unread_whole]

theorem e6 (t : Fin cfg0.N) : (outsAt0 m c t.val t.isLt).1 = o6 m c t := by
  by_cases h0 : t.val % 16 = 0
  · exact a6 m c t h0 (by omega)
  · by_cases h1 : t.val % 16 = 15
    · exact c6 m c t h0 h1
    · exact b6 m c t h0 h1
theorem e7 (t : Fin cfg0.N) : (outsAt0 m c t.val t.isLt).2.1 = o7 m c t := by
  by_cases h0 : t.val % 16 = 0
  · exact a7 m c t h0 (by omega)
  · by_cases h1 : t.val % 16 = 15
    · exact c7 m c t h0 h1
    · exact b7 m c t h0 h1
theorem e8 (t : Fin cfg0.N) : (outsAt0 m c t.val t.isLt).2.2.1 = o8 m c t := by
  by_cases h0 : t.val % 16 = 0
  · exact a8 m c t h0 (by omega)
  · by_cases h1 : t.val % 16 = 15
    · exact c8 m c t h0 h1
    · exact b8 m c t h0 h1
theorem e9 (t : Fin cfg0.N) : (outsAt0 m c t.val t.isLt).2.2.2.1 = o9 m c t := by
  by_cases h0 : t.val % 16 = 0
  · exact a9 m c t h0 (by omega)
  · by_cases h1 : t.val % 16 = 15
    · exact c9 m c t h0 h1
    · exact b9 m c t h0 h1

end FfnL
-- ==== Proof.FfnLast.lean ====
/-
  The last feed-forward layer's forward half with the loss: a grid point computes 256 rows of the gate, of the up projection, of the
  activation and of the gradient that the loss sends back, and gathers the squared errors of its rows; the last point turns what was
  gathered into the loss.  Every entry is what the reference computes: a nonnegative real number may be taken out of a sum of extended
  reals, and a sum may be taken in any order.
-/
module

public import proofs.«01_k».proof.Proof.FfnFwd
public import proofs.«01_k».proof.Proof.FfnLastCase
public import proofs.«01_k».proof.Proof.Gen.Reference6Ideal.Read
public import Idealize.ShloMosaic.Lib.StableHlo.RunRead

@[expose] public section

noncomputable section

namespace FfnL

open Idealize.ShloMosaic hiding ix0 ix1 ix2 ix3 ix4 ix5
open Idealize.ShloMosaic.ValueIdx Idealize.ShloMosaic.TcCoe Cert.Kernel6Ideal Cert.Kernel6Ideal.Gen Cert.Kernel6Ideal.Value
open scoped BigOperators

/-! ## Numbers and sums -/

theorem lit10 : (FloatOps.ofBits .f32 0x3A800000#32 : Ideal .f32) = ((1 / 1024 : ℝ) : EReal) := by
  simp [Ideal.ofBits, Ideal.ieee, -EReal.coe_mul]; norm_num
theorem lit11 : (FloatOps.ofBits .f32 0x3A000000#32 : Ideal .f32) = ((1 / 2048 : ℝ) : EReal) := by
  simp [Ideal.ofBits, Ideal.ieee, -EReal.coe_mul]; norm_num
theorem litTwo : (FloatOps.ofBits .f32 0x40000000#32 : Ideal .f32) = ((2 : ℝ) : EReal) := by
  simp [Ideal.ofBits, Ideal.ieee, -EReal.coe_mul]; norm_num

/-- A nonnegative real number goes into a sum of extended reals. -/
theorem mul_sum {ι : Type} (a : ℝ) (ha : 0 ≤ a) (s : Finset ι) (f : ι → EReal) : (a : EReal) * ∑ i ∈ s, f i = ∑ i ∈ s, (a : EReal) * f i := by
  classical
  induction s using Finset.induction_on with
  | empty => rw [Finset.sum_empty, Finset.sum_empty, mul_zero]
  | insert i s hi ih =>
    rw [Finset.sum_insert hi, Finset.sum_insert hi, EReal.left_distrib_of_nonneg_of_ne_top (EReal.coe_nonneg.mpr ha) (EReal.coe_ne_top a), ih]

/-- A sum over the 4096 rows, block of 256 by block of 256. -/
theorem sum_rows (f : Fin 4096 → EReal) : ∑ i : Fin 4096, f i = ∑ t : Fin 16, ∑ r : Fin 256, f (FfnF.row t r) := by
  rw [← Fintype.sum_prod_type (fun p : Fin 16 × Fin 256 => f (FfnF.row p.1 p.2))]
  refine (Equiv.sum_comp (finProdFinEquiv (m := 16) (n := 256)) f).symm.trans (Finset.sum_congr rfl fun p _ => congrArg f (Fin.ext ?_))
  show p.2.val + 256 * p.1.val = 256 * p.1.val + p.2.val
  omega

/-! ## What a point computes -/

abbrev W := FVec Ideal S2816x1024 .bf16

theorem pay5 (v0 : FVec Ideal S256x1024 .bf16) : k0_pay5 (F := Ideal) v0 = v0 := shapeCast_id _ _
theorem pay6 (v0 : FVec Ideal S256x1024 .bf16) (w : W) (r : Fin 256) (f : Fin 2816) :
    k0_pay6 (F := Ideal) v0 w (ix2 r f) = FfnF.lin (fun k => v0 (ix2 r k)) w f := by
  unfold k0_pay6; rw [pay5]; exact Ffn.nt_zero v0 w r f
theorem pay7 (v0 : FVec Ideal S256x1024 .bf16) (w : W) (r : Fin 256) (f : Fin 2816) :
    k0_pay7 (F := Ideal) v0 w (ix2 r f) = FfnF.lin (fun k => v0 (ix2 r k)) w f := by
  unfold k0_pay7; rw [pay5]; exact Ffn.nt_zero v0 w r f
theorem pay8 (v0 : FVec Ideal S256x1024 .bf16) (w : W) (r : Fin 256) (f : Fin 2816) :
    k0_pay8 (F := Ideal) v0 w (ix2 r f) = FfnF.lin (fun k => v0 (ix2 r k)) w f := pay6 v0 w r f
theorem pay9 (v0 : FVec Ideal S256x1024 .bf16) (w : W) (r : Fin 256) (f : Fin 2816) :
    k0_pay9 (F := Ideal) v0 w (ix2 r f) = FfnF.lin (fun k => v0 (ix2 r k)) w f := pay7 v0 w r f
theorem pay10 (v0 : FVec Ideal S256x1024 .bf16) (wg wu : W) (r : Fin 256) (f : Fin 2816) :
    k0_pay10 (F := Ideal) v0 wg wu (ix2 r f) = FfnF.act (fun k => v0 (ix2 r k)) wg wu f := by
  have e : k0_pay10 (F := Ideal) v0 wg wu (ix2 r f) = k0_pay6 (F := Ideal) v0 wg (ix2 r f) * ((FloatOps.ofBits .f32 0x3F000000#32 : Ideal .f32)
      * Ideal.tanh ((FloatOps.ofBits .f32 0x3F000000#32 : Ideal .f32) * k0_pay6 (F := Ideal) v0 wg (ix2 r f)) + (FloatOps.ofBits .f32 0x3F000000#32 : Ideal .f32))
      * k0_pay7 (F := Ideal) v0 wu (ix2 r f) := rfl
  rw [e, Ffn.litHalf, Ffn.sig, pay6, pay7]; rfl
theorem pay11 (v0 : FVec Ideal S256x1024 .bf16) (wg wu : W) (x : FVec Ideal S256x1024 .f32) (wd : W) (r : Fin 256) (l : Fin 1024) :
    k0_pay11 (F := Ideal) v0 wg wu x wd (ix2 r l) = FfnF.x2 (fun k => v0 (ix2 r k)) (fun k => x (ix2 r k)) wg wu wd l := by
  unfold k0_pay11
  rw [addf_apply]
  refine congrArg (x (ix2 r l) + ·) ((Ffn.nn_zero (k0_pay10 (F := Ideal) v0 wg wu) wd r l).trans (Finset.sum_congr rfl fun f _ => ?_))
  rw [pay10]

theorem pay2 (y t : FVec Ideal S256x1024 .f32) (r : Fin 256) (l : Fin 1024) :
    k0_pay2 (F := Ideal) y t (ix2 r l) = (y (ix2 r l) - t (ix2 r l)) * ((1 / 1024 : ℝ) : EReal) := by
  show (y (ix2 r l) - t (ix2 r l)) * (FloatOps.ofBits .f32 0x3A800000#32 : Ideal .f32) = _
  rw [lit10]

theorem pay3 (y t : FVec Ideal S256x1024 .f32) (acc : FVec Ideal S1x1024 .f32) (l : Fin 1024) :
    k0_pay3 (F := Ideal) y t acc (ix2 0 l)
      = acc (ix2 0 l) + ∑ r : Fin 256, (y (ix2 r l) - t (ix2 r l)) * (y (ix2 r l) - t (ix2 r l)) := by
  unfold k0_pay3
  rw [shapeCast_id, addf_apply, shapeCast_a_1a_apply]
  exact congrArg (acc (ix2 0 l) + ·) (Ideal.reduceAdd_r2_a0 reduces_S256x1024_S1024 _ (ix1 l))

theorem pay12 (l : Fin 1024) : k0_pay12 (F := Ideal) (ix2 0 l) = 0 := by
  unfold k0_pay12
  rw [shapeCast_id]
  show (FloatOps.ofBits .f32 0x00000000#32 : Ideal .f32) = 0
  rw [AttK.lit0, EReal.coe_zero]

/-- One number in every entry of a matrix. -/
theorem spread (x : FVec Ideal S1x1 .f32) (i : Fin 8) (j : Fin 128) : broadcastTo S8x128 x broadcasts_S1x1_S8x128 (ix2 i j) = x (ix2 0 0) := by
  refine congrArg x (funext fun a => ?_)
  match a with
  | ⟨0, _⟩ => exact Fin.ext (by simp [ix2])
  | ⟨1, _⟩ => exact Fin.ext (by simp [ix2])

theorem pay4 (v : FVec Ideal S1x1024 .f32) (i : Fin 8) (j : Fin 128) :
    k0_pay4 (F := Ideal) v (ix2 i j) = (∑ l : Fin 1024, v (ix2 0 l)) * ((1 / 2048 : ℝ) : EReal) := by
  unfold k0_pay4
  rw [spread, shapeCast_id, mulf_apply]
  exact congrArg₂ (· * ·) (AttK.rowsum_apply 1 1024 v 0 0) lit11

/-! ## The blocks that a point reads -/

variable (m : (ℓ : Loc nD τ sig) → Buf (Elt Ideal) ℓ) (c : Dev nD)

def pt (t : Fin 16) : Fin cfg0.N := ⟨t.val, lt_of_lt_of_eq t.isLt N_0.symm⟩

/-- The normalised stream that the host lines prepare: the reference's own lines. -/
theorem V_h : V m c main_v12 = Cert.Reference4Ideal.Read.val_main_v11 (F := Ideal) (m ((c : Thread nD τ).loc main_arg0)) (m ((c : Thread nD τ).loc main_arg1)) := by
  unfold V
  simp only [hostOps0]
  after_results_simp
  rfl

theorem blk0 (t : Fin 16) (r : Fin 256) (l : Fin 1024) : (iblk m c 0 (pt t) : FVec Ideal S256x1024 .bf16) (ix2 r l)
    = Cert.Reference4Ideal.Read.val_main_v11 (F := Ideal) (m ((c : Thread nD τ).loc main_arg0)) (m ((c : Thread nD τ).loc main_arg1)) (ix2 (FfnF.row t r) l) := by
  have hi : ∀ t : Fin 16, win0_0.index (pt t) 0 = t.val ∧ win0_0.index (pt t) 1 = 0 := by decide
  unfold iblk
  rw [View.read_apply]
  show V m c main_v12 _ = _
  rw [V_h]
  congr 1
  funext a
  apply Fin.ext
  match a with
  | ⟨0, _⟩ => show win0_0.index (pt t) 0 * 256 + 1 * r.val = 256 * t.val + r.val; rw [(hi t).1]; omega
  | ⟨1, _⟩ => show win0_0.index (pt t) 1 * 1024 + 1 * l.val = l.val; rw [(hi t).2]; omega

theorem blk1 (t : Fin 16) (r : Fin 2816) (l : Fin 1024) : (iblk m c 1 (pt t) : FVec Ideal S2816x1024 .bf16) (ix2 r l)
    = m ((c : Thread nD τ).loc main_arg3) (ix2 r l) := by
  have hi : ∀ t : Fin 16, win0_1.index (pt t) 0 = 0 ∧ win0_1.index (pt t) 1 = 0 := by decide
  unfold iblk
  rw [View.read_apply]
  show V m c main_arg3 _ = _
  rw [V_main_arg3]
  congr 1
  funext a
  apply Fin.ext
  match a with
  | ⟨0, _⟩ => show win0_1.index (pt t) 0 * 2816 + 1 * r.val = r.val; rw [(hi t).1]; omega
  | ⟨1, _⟩ => show win0_1.index (pt t) 1 * 1024 + 1 * l.val = l.val; rw [(hi t).2]; omega

theorem blk2 (t : Fin 16) (r : Fin 2816) (l : Fin 1024) : (iblk m c 2 (pt t) : FVec Ideal S2816x1024 .bf16) (ix2 r l)
    = m ((c : Thread nD τ).loc main_arg4) (ix2 r l) := by
  have hi : ∀ t : Fin 16, win0_2.index (pt t) 0 = 0 ∧ win0_2.index (pt t) 1 = 0 := by decide
  unfold iblk
  rw [View.read_apply]
  show V m c main_arg4 _ = _
  rw [V_main_arg4]
  congr 1
  funext a
  apply Fin.ext
  match a with
  | ⟨0, _⟩ => show win0_2.index (pt t) 0 * 2816 + 1 * r.val = r.val; rw [(hi t).1]; omega
  | ⟨1, _⟩ => show win0_2.index (pt t) 1 * 1024 + 1 * l.val = l.val; rw [(hi t).2]; omega

theorem blk3 (t : Fin 16) (r : Fin 2816) (l : Fin 1024) : (iblk m c 3 (pt t) : FVec Ideal S2816x1024 .bf16) (ix2 r l)
    = m ((c : Thread nD τ).loc main_arg5) (ix2 r l) := by
  have hi : ∀ t : Fin 16, win0_3.index (pt t) 0 = 0 ∧ win0_3.index (pt t) 1 = 0 := by decide
  unfold iblk
  rw [View.read_apply]
  show V m c main_arg5 _ = _
  rw [V_main_arg5]
  congr 1
  funext a
  apply Fin.ext
  match a with
  | ⟨0, _⟩ => show win0_3.index (pt t) 0 * 2816 + 1 * r.val = r.val; rw [(hi t).1]; omega
  | ⟨1, _⟩ => show win0_3.index (pt t) 1 * 1024 + 1 * l.val = l.val; rw [(hi t).2]; omega

theorem blk4 (t : Fin 16) (r : Fin 256) (l : Fin 1024) : (iblk m c 4 (pt t) : FVec Ideal S256x1024 .f32) (ix2 r l)
    = m ((c : Thread nD τ).loc main_arg0) (ix2 (FfnF.row t r) l) := by
  have hi : ∀ t : Fin 16, win0_4.index (pt t) 0 = t.val ∧ win0_4.index (pt t) 1 = 0 := by decide
  unfold iblk
  rw [View.read_apply]
  show V m c main_arg0 _ = _
  rw [V_main_arg0]
  congr 1
  funext a
  apply Fin.ext
  match a with
  | ⟨0, _⟩ => show win0_4.index (pt t) 0 * 256 + 1 * r.val = 256 * t.val + r.val; rw [(hi t).1]; omega
  | ⟨1, _⟩ => show win0_4.index (pt t) 1 * 1024 + 1 * l.val = l.val; rw [(hi t).2]; omega

theorem blk5 (t : Fin 16) (r : Fin 256) (l : Fin 1024) : (iblk m c 5 (pt t) : FVec Ideal S256x1024 .f32) (ix2 r l)
    = m ((c : Thread nD τ).loc main_arg2) (ix2 (FfnF.row t r) l) := by
  have hi : ∀ t : Fin 16, win0_5.index (pt t) 0 = t.val ∧ win0_5.index (pt t) 1 = 0 := by decide
  unfold iblk
  rw [View.read_apply]
  show V m c main_arg2 _ = _
  rw [V_main_arg2]
  congr 1
  funext a
  apply Fin.ext
  match a with
  | ⟨0, _⟩ => show win0_5.index (pt t) 0 * 256 + 1 * r.val = 256 * t.val + r.val; rw [(hi t).1]; omega
  | ⟨1, _⟩ => show win0_5.index (pt t) 1 * 1024 + 1 * l.val = l.val; rw [(hi t).2]; omega

theorem all1 (t : Fin 16) : (iblk m c 1 (pt t) : W) = m ((c : Thread nD τ).loc main_arg3) := funext fun i => by
  rw [Ffn.split2 i]; exact blk1 m c t _ _
theorem all2 (t : Fin 16) : (iblk m c 2 (pt t) : W) = m ((c : Thread nD τ).loc main_arg4) := funext fun i => by
  rw [Ffn.split2 i]; exact blk2 m c t _ _
theorem all3 (t : Fin 16) : (iblk m c 3 (pt t) : W) = m ((c : Thread nD τ).loc main_arg5) := funext fun i => by
  rw [Ffn.split2 i]; exact blk3 m c t _ _
theorem row0 (t : Fin 16) (r : Fin 256) : (fun k => (iblk m c 0 (pt t) : FVec Ideal S256x1024 .bf16) (ix2 r k))
    = FfnF.hrow (m ((c : Thread nD τ).loc main_arg0)) (m ((c : Thread nD τ).loc main_arg1)) (FfnF.row t r) := funext fun k => blk0 m c t r k
theorem row4 (t : Fin 16) (r : Fin 256) : (fun k => (iblk m c 4 (pt t) : FVec Ideal S256x1024 .f32) (ix2 r k))
    = fun k => m ((c : Thread nD τ).loc main_arg0) (ix2 (FfnF.row t r) k) := funext fun k => blk4 m c t r k

/-! ## The result arrays -/

/-- The stream's error against the target, entry by entry. -/
def err (x : FVec Ideal S4096x1024 .f32) (g : FVec Ideal S1x1024 .f32) (y : FVec Ideal S4096x1024 .f32) (wg wu wd : W) (i : Fin 4096) (l : Fin 1024) : EReal :=
  FfnF.x2 (FfnF.hrow x g i) (fun k => x (ix2 i k)) wg wu wd l - y (ix2 i l)

/-- The gradient that the loss sends back. -/
def arrDy (x : FVec Ideal S4096x1024 .f32) (g : FVec Ideal S1x1024 .f32) (y : FVec Ideal S4096x1024 .f32) (wg wu wd : W) : FVec Ideal S4096x1024 .bf16 :=
  fun i => err x g y wg wu wd (i 0) (i 1) * ((1 / 1024 : ℝ) : EReal)

/-- The loss. -/
def loss (x : FVec Ideal S4096x1024 .f32) (g : FVec Ideal S1x1024 .f32) (y : FVec Ideal S4096x1024 .f32) (wg wu wd : W) : EReal :=
  (∑ l : Fin 1024, ∑ t : Fin 16, ∑ r : Fin 256, err x g y wg wu wd (FfnF.row t r) l * err x g y wg wu wd (FfnF.row t r) l) * ((1 / 2048 : ℝ) : EReal)

/-- The error at a point. -/
theorem err_at (t : Fin 16) (r : Fin 256) (l : Fin 1024) : oy m c (pt t) (ix2 r l) - (iblk m c 5 (pt t) : FVec Ideal S256x1024 .f32) (ix2 r l)
    = err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (FfnF.row t r) l := by
  unfold oy
  rw [pay11, row0, row4, all1, all2, all3, blk5]; rfl

theorem final6 : ((dats m 0 c).arrAt 6 cfg0.N : FVec Ideal S4096x2816 .bf16)
    = FfnF.arrLin (m ((c : Thread nD τ).loc main_arg0)) (m ((c : Thread nD τ).loc main_arg1)) (m ((c : Thread nD τ).loc main_arg3)) := FfnF.rows _ _ fun t r l => by
  have hf : ∀ t : Fin 16, (cfg0.win 6).flush (pt t) = true := by decide
  have hi : ∀ t : Fin 16, win0_6.index (pt t) 0 = t.val ∧ win0_6.index (pt t) 1 = 0 := by decide
  have h := congrFun (blocks6 m c (pt t) (hf t)) (ix2 r l)
  rw [View.read_apply, flushed6, e6] at h
  refine Eq.trans (Eq.trans ?_ h) ((pay8 _ _ r l).trans ?_)
  · show ((dats m 0 c).arrAt 6 cfg0.N : FVec Ideal S4096x2816 .bf16) _ = ((dats m 0 c).arrAt 6 cfg0.N : FVec Ideal S4096x2816 .bf16) _
    congr 1
    funext a
    apply Fin.ext
    match a with
    | ⟨0, _⟩ => show 256 * t.val + r.val = win0_6.index (pt t) 0 * 256 + 1 * r.val; rw [(hi t).1]; omega
    | ⟨1, _⟩ => show l.val = win0_6.index (pt t) 1 * 2816 + 1 * l.val; rw [(hi t).2]; omega
  · rw [row0 m c t r, all1 m c t]; rfl

theorem final7 : ((dats m 0 c).arrAt 7 cfg0.N : FVec Ideal S4096x2816 .bf16)
    = FfnF.arrLin (m ((c : Thread nD τ).loc main_arg0)) (m ((c : Thread nD τ).loc main_arg1)) (m ((c : Thread nD τ).loc main_arg4)) := FfnF.rows _ _ fun t r l => by
  have hf : ∀ t : Fin 16, (cfg0.win 7).flush (pt t) = true := by decide
  have hi : ∀ t : Fin 16, win0_7.index (pt t) 0 = t.val ∧ win0_7.index (pt t) 1 = 0 := by decide
  have h := congrFun (blocks7 m c (pt t) (hf t)) (ix2 r l)
  rw [View.read_apply, flushed7, e7] at h
  refine Eq.trans (Eq.trans ?_ h) ((pay9 _ _ r l).trans ?_)
  · show ((dats m 0 c).arrAt 7 cfg0.N : FVec Ideal S4096x2816 .bf16) _ = ((dats m 0 c).arrAt 7 cfg0.N : FVec Ideal S4096x2816 .bf16) _
    congr 1
    funext a
    apply Fin.ext
    match a with
    | ⟨0, _⟩ => show 256 * t.val + r.val = win0_7.index (pt t) 0 * 256 + 1 * r.val; rw [(hi t).1]; omega
    | ⟨1, _⟩ => show l.val = win0_7.index (pt t) 1 * 2816 + 1 * l.val; rw [(hi t).2]; omega
  · rw [row0 m c t r, all2 m c t]; rfl

theorem final8 : ((dats m 0 c).arrAt 8 cfg0.N : FVec Ideal S4096x2816 .bf16)
    = FfnF.arrAct (m ((c : Thread nD τ).loc main_arg0)) (m ((c : Thread nD τ).loc main_arg1)) (m ((c : Thread nD τ).loc main_arg3)) (m ((c : Thread nD τ).loc main_arg4)) := FfnF.rows _ _ fun t r l => by
  have hf : ∀ t : Fin 16, (cfg0.win 8).flush (pt t) = true := by decide
  have hi : ∀ t : Fin 16, win0_8.index (pt t) 0 = t.val ∧ win0_8.index (pt t) 1 = 0 := by decide
  have h := congrFun (blocks8 m c (pt t) (hf t)) (ix2 r l)
  rw [View.read_apply, flushed8, e8] at h
  refine Eq.trans (Eq.trans ?_ h) ((pay10 _ _ _ r l).trans ?_)
  · show ((dats m 0 c).arrAt 8 cfg0.N : FVec Ideal S4096x2816 .bf16) _ = ((dats m 0 c).arrAt 8 cfg0.N : FVec Ideal S4096x2816 .bf16) _
    congr 1
    funext a
    apply Fin.ext
    match a with
    | ⟨0, _⟩ => show 256 * t.val + r.val = win0_8.index (pt t) 0 * 256 + 1 * r.val; rw [(hi t).1]; omega
    | ⟨1, _⟩ => show l.val = win0_8.index (pt t) 1 * 2816 + 1 * l.val; rw [(hi t).2]; omega
  · rw [row0 m c t r, all1 m c t, all2 m c t]; rfl

theorem final9 : ((dats m 0 c).arrAt 9 cfg0.N : FVec Ideal S4096x1024 .bf16)
    = arrDy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := FfnF.rows _ _ fun t r l => by
  have hf : ∀ t : Fin 16, (cfg0.win 9).flush (pt t) = true := by decide
  have hi : ∀ t : Fin 16, win0_9.index (pt t) 0 = t.val ∧ win0_9.index (pt t) 1 = 0 := by decide
  have h := congrFun (blocks9 m c (pt t) (hf t)) (ix2 r l)
  rw [View.read_apply, flushed9, e9] at h
  refine Eq.trans (Eq.trans ?_ h) ((pay2 _ _ r l).trans ?_)
  · show ((dats m 0 c).arrAt 9 cfg0.N : FVec Ideal S4096x1024 .bf16) _ = ((dats m 0 c).arrAt 9 cfg0.N : FVec Ideal S4096x1024 .bf16) _
    congr 1
    funext a
    apply Fin.ext
    match a with
    | ⟨0, _⟩ => show 256 * t.val + r.val = win0_9.index (pt t) 0 * 256 + 1 * r.val; rw [(hi t).1]; omega
    | ⟨1, _⟩ => show l.val = win0_9.index (pt t) 1 * 1024 + 1 * l.val; rw [(hi t).2]; omega
  · rw [err_at m c t r l]; rfl

/-- The squared errors of one block of rows. -/
def part (t : Fin 16) (l : Fin 1024) : EReal := ∑ r : Fin 256,
  err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (FfnF.row t r) l
    * err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (FfnF.row t r) l

theorem osq_at (t : Fin 16) (acc : FVec Ideal S1x1024 .f32) (l : Fin 1024) : osq m c (pt t) acc (ix2 0 l) = acc (ix2 0 l) + part m c t l := by
  unfold osq
  rw [pay3]
  refine congrArg (acc (ix2 0 l) + ·) (Finset.sum_congr rfl fun r _ => ?_)
  rw [err_at]

/-- The squared errors gathered after the first points. -/
theorem acc11 (l : Fin 1024) (n : ℕ) (hn : n < 16) : (outsAt0 m c (pt ⟨n, hn⟩).val (pt ⟨n, hn⟩).isLt).2.2.2.2.2 (ix2 0 l)
    = ∑ t : Fin (n + 1), part m c ⟨t.val, lt_of_lt_of_le t.isLt hn⟩ l := by
  induction n with
  | zero =>
    rw [a11 m c (pt ⟨0, hn⟩) rfl (by show ¬0 % 16 = 15; decide), osq_at, pay12, zero_add, Fin.sum_univ_one]
    rfl
  | succ n ih =>
    have h0 : ¬(pt ⟨n + 1, hn⟩).val % 16 = 0 := by show ¬(n + 1) % 16 = 0; omega
    rw [Fin.sum_univ_castSucc]
    by_cases h1 : (pt ⟨n + 1, hn⟩).val % 16 = 15
    · rw [c11 m c (pt ⟨n + 1, hn⟩) h0 h1, osq_at]
      exact congrArg (· + part m c ⟨n + 1, hn⟩ l) (ih (by omega))
    · rw [b11 m c (pt ⟨n + 1, hn⟩) h0 h1, osq_at]
      exact congrArg (· + part m c ⟨n + 1, hn⟩ l) (ih (by omega))

/-- The loss block is written back once, by the last point. -/
theorem arr10 : ((dats m 0 c).arrAt 10 cfg0.N : FVec Ideal S8x128 .f32) = (outsAt0 m c (pt 15).val (pt 15).isLt).2.2.2.2.1 :=
  (Cert.Kernel6Ideal.Value.final10 m c).trans ((G10_last m c).trans (congrArg (·.2.2.2.2.1) (outsAt0_sweep m c 15 _).symm))

theorem final10 : ((dats m 0 c).arrAt 10 cfg0.N : FVec Ideal S8x128 .f32)
    = fun _ => loss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := funext fun i => by
  have e := c10 m c (pt 15) (by decide) (by decide)
  rw [← c11 m c (pt 15) (by decide) (by decide)] at e
  rw [arr10, e]
  refine (congrArg (k0_pay4 (F := Ideal) _) (Ffn.split2 i)).trans ((pay4 _ (i 0) (i 1)).trans ?_)
  exact congrArg (· * ((1 / 2048 : ℝ) : EReal)) (Finset.sum_congr rfl fun l _ => acc11 m c l 15 (by norm_num))

/-! ## The reference -/

section
open Cert.Reference6Ideal.Read

variable (x : FVec Ideal S4096x1024 .f32) (g : FVec Ideal S1x1024 .f32) (y : FVec Ideal S4096x1024 .f32) (wg wu wd : W)

theorem same14 : val_main_v14 (F := Ideal) x g wg = Cert.Reference4Ideal.Read.val_main_v14 (F := Ideal) x g wg := rfl
theorem same17 : val_main_v17 (F := Ideal) x g wu = Cert.Reference4Ideal.Read.val_main_v17 (F := Ideal) x g wu := rfl
theorem same19 : val_main_v19 (F := Ideal) x g wg wu = Cert.Reference4Ideal.Read.val_main_v19 (F := Ideal) x g wg wu := rfl
theorem same22 : val_main_v22 (F := Ideal) x g wg wu wd = Cert.Reference4Ideal.Read.val_main_v22 (F := Ideal) x g wg wu wd := rfl

theorem ref23 (i : S4096x1024.Idx) : val_main_v23 (F := Ideal) x g y wg wu wd i = err x g y wg wu wd (i 0) (i 1) := by
  rw [val_main_v23_apply, same22, FfnF.ref22]
  exact congrArg (fun z : EReal => FfnF.x2 (FfnF.hrow x g (i 0)) (fun k => x (ix2 (i 0) k)) wg wu wd (i 1) - z) (congrArg y (Ffn.split2 i))

theorem eq6 : val_main_v38 (F := Ideal) x g wg = FfnF.arrLin x g wg := funext fun i => by
  rw [val_main_v38_apply, same14]; exact FfnF.ref14 x g wg i
theorem eq7 : val_main_v39 (F := Ideal) x g wu = FfnF.arrLin x g wu := funext fun i => by
  rw [val_main_v39_apply, same17]; exact FfnF.ref17 x g wu i
theorem eq8 : val_main_v40 (F := Ideal) x g wg wu = FfnF.arrAct x g wg wu := funext fun i => by
  rw [val_main_v40_apply, same19]; exact FfnF.ref19 x g wg wu i

/-- The factor that the mean and the half put on an error, and the two of the square's derivative. -/
theorem scale (e : EReal) : Ideal.div (((1 / 2 : ℝ) : EReal) * ((1 : ℝ) : EReal)) ((1024 : ℝ) : EReal) * (((2 : ℝ) : EReal) * e) = e * ((1 / 1024 : ℝ) : EReal) := by
  rw [Ideal.div_coe (by norm_num), ← mul_assoc, ← EReal.coe_mul, ← EReal.coe_mul, ← EReal.coe_mul, mul_comm]
  congr 2
  norm_num

theorem eq9 : val_main_v41 (F := Ideal) x g y wg wu wd = arrDy x g y wg wu wd := funext fun i => by
  rw [val_main_v41_apply, val_main_v37_apply, val_main_v36_apply, val_main_v35_apply, val_main_v34_apply, val_main_v33_apply, val_main_v32_apply,
    val_main_v26_apply, val_main_v25_apply, val_main_cst_2_apply, val_main_cst_7_apply, val_main_cst_8_apply, val_main_cst_9_apply, ref23,
    Ffn.litHalf, Ffn.lit1024, AttK.lit1, litTwo]
  exact scale _

/-- The mean of a row's squared errors. -/
theorem ref29 (j : Cert.Reference6Ideal.S4096.Idx) : val_main_v29 (F := Ideal) x g y wg wu wd j
    = ((1 / 1024 : ℝ) : EReal) * ∑ k : Fin 1024, err x g y wg wu wd (j 0) k * err x g y wg wu wd (j 0) k := by
  rw [val_main_v29_apply, val_main_v28_apply, val_main_v27_apply, val_main_cst_3_apply, val_main_cst_4_apply, AttK.lit0, Ffn.lit1024, EReal.coe_zero, zero_add]
  refine (Ideal.div_coe (by norm_num) _).trans ((mul_comm _ _).trans (congrArg (((1 / 1024 : ℝ) : EReal) * ·) (Finset.sum_congr rfl fun k _ => ?_)))
  rw [val_main_v24_apply, ref23]; rfl

/-- A sum over a vector's places. -/
theorem sum_vec (f : Fin 4096 → EReal) : ∑ j : Cert.Reference6Ideal.S4096.Idx, f (j 0) = ∑ i : Fin 4096, f i :=
  Fintype.sum_bijective (fun j : Cert.Reference6Ideal.S4096.Idx => (j 0 : Fin 4096))
    ⟨fun a b h => funext fun d => by
        match d with
        | ⟨0, _⟩ => exact h, fun i => ⟨ix1 i, rfl⟩⟩ _ _ fun _ => rfl

theorem eq10 : val_main_v42 (F := Ideal) x g y wg wu wd = fun _ => loss x g y wg wu wd := funext fun i => by
  rw [val_main_v42_apply, val_main_v31_apply, val_main_v30_apply, val_main_cst_5_apply, val_main_cst_6_apply, AttK.lit0, Ffn.litHalf, EReal.coe_zero, zero_add,
    Finset.sum_congr rfl fun j _ => ref29 x g y wg wu wd j,
    sum_vec fun i => ((1 / 1024 : ℝ) : EReal) * ∑ k : Fin 1024, err x g y wg wu wd i k * err x g y wg wu wd i k,
    ← mul_sum (1 / 1024) (by norm_num), Finset.sum_comm, Finset.sum_congr rfl fun l _ => sum_rows fun i => err x g y wg wu wd i l * err x g y wg wu wd i l]
  show ((1 / 2 : ℝ) : EReal) * (((1 / 1024 : ℝ) : EReal) * _) = _
  rw [← mul_assoc, ← EReal.coe_mul, mul_comm]
  exact congrArg (_ * ·) (congrArg (fun r : ℝ => (r : EReal)) (by norm_num))

end

end FfnL
-- ==== Proof.InProj.lean ====
/-
  The input projection of the attention half: a grid point multiplies 1024 rows of the normalised stream by 1280 rows of the weight, and
  every entry is the sum over the 1024 features that the reference's product is.
-/
module

public import proofs.«01_k».proof.Proof.FfnBase
public import proofs.«01_k».proof.Proof.Gen.Kernel7Ideal.Value
public import proofs.«01_k».proof.Proof.Gen.Reference7Ideal.Read
public import Idealize.ShloMosaic.Lib.StableHlo.RunRead

@[expose] public section

noncomputable section

namespace InProj

open Idealize.ShloMosaic hiding ix0 ix1 ix2 ix3 ix4 ix5
open Idealize.ShloMosaic.ValueIdx Idealize.ShloMosaic.TcCoe Cert.Kernel7Ideal Cert.Kernel7Ideal.Gen Cert.Kernel7Ideal.Value
open scoped BigOperators

theorem pay1 (x : FVec Ideal S1024x1024 .bf16) (w : FVec Ideal S1280x1024 .bf16) (r : Fin 1024) (l : Fin 1280) :
    k0_pay1 (F := Ideal) x w (ix2 r l) = ∑ k : Fin 1024, x (ix2 r k) * w (ix2 l k) := by
  unfold k0_pay1; rw [shapeCast_id]; exact Ffn.nt_zero x w r l

theorem out2 (x0 : FVec Ideal S1024x1024 .bf16) (x1 : FVec Ideal S1280x1024 .bf16) : out0_2 (F := Ideal) x0 x1 = k0_pay1 (F := Ideal) x0 x1 := by
  unfold out0_2
  rw [View.canon_cons_unit_lit _ _ _ (by decide)]
  simp (disch := decide) only [View.ld_unit_lit]

variable (m : (ℓ : Loc nD τ sig) → Buf (Elt Ideal) ℓ) (c : Dev nD)

/-- Row `r` of a point's block of the stream. -/
def row (a : Fin 4) (r : Fin 1024) : Fin 4096 := ⟨1024 * a.val + r.val, by omega⟩

/-- Row `l` of a point's block of the weight. -/
def col (b : Fin 2) (l : Fin 1280) : Fin 2560 := ⟨1280 * b.val + l.val, by omega⟩

def pt (b : Fin 2) (a : Fin 4) : Fin cfg0.N := ⟨4 * b.val + a.val, lt_of_lt_of_eq (by omega : 4 * b.val + a.val < 8) N_0.symm⟩

/-- The normalised stream that the host lines prepare: the reference's own lines. -/
theorem V_h : V m c main_v12 = Cert.Reference7Ideal.Read.val_main_v11 (F := Ideal) (m ((c : Thread nD τ).loc main_arg0)) (m ((c : Thread nD τ).loc main_arg1)) := by
  unfold V
  simp only [hostOps0]
  after_results_simp
  rfl

theorem blk0 (b : Fin 2) (a : Fin 4) (r : Fin 1024) (k : Fin 1024) : (iblk m c 0 (pt b a) : FVec Ideal S1024x1024 .bf16) (ix2 r k)
    = Cert.Reference7Ideal.Read.val_main_v11 (F := Ideal) (m ((c : Thread nD τ).loc main_arg0)) (m ((c : Thread nD τ).loc main_arg1)) (ix2 (row a r) k) := by
  have hi : ∀ (b : Fin 2) (a : Fin 4), win0_0.index (pt b a) 0 = a.val ∧ win0_0.index (pt b a) 1 = 0 := by decide
  unfold iblk
  rw [View.read_apply]
  show V m c main_v12 _ = _
  rw [V_h]
  congr 1
  funext d
  apply Fin.ext
  match d with
  | ⟨0, _⟩ => show win0_0.index (pt b a) 0 * 1024 + 1 * r.val = 1024 * a.val + r.val; rw [(hi b a).1]; omega
  | ⟨1, _⟩ => show win0_0.index (pt b a) 1 * 1024 + 1 * k.val = k.val; rw [(hi b a).2]; omega

theorem blk1 (b : Fin 2) (a : Fin 4) (l : Fin 1280) (k : Fin 1024) : (iblk m c 1 (pt b a) : FVec Ideal S1280x1024 .bf16) (ix2 l k)
    = m ((c : Thread nD τ).loc main_arg2) (ix2 (col b l) k) := by
  have hi : ∀ (b : Fin 2) (a : Fin 4), win0_1.index (pt b a) 0 = b.val ∧ win0_1.index (pt b a) 1 = 0 := by decide
  unfold iblk
  rw [View.read_apply]
  show V m c main_arg2 _ = _
  rw [V_main_arg2]
  congr 1
  funext d
  apply Fin.ext
  match d with
  | ⟨0, _⟩ => show win0_1.index (pt b a) 0 * 1280 + 1 * l.val = 1280 * b.val + l.val; rw [(hi b a).1]; omega
  | ⟨1, _⟩ => show win0_1.index (pt b a) 1 * 1024 + 1 * k.val = k.val; rw [(hi b a).2]; omega

/-- An entry of the projection. -/
def entry (x0 : FVec Ideal S4096x1024 .f32) (x1 : FVec Ideal S1x1024 .f32) (w : FVec Ideal S2560x1024 .bf16) : FVec Ideal S4096x2560 .bf16 := fun i =>
  ∑ k : Fin 1024, Cert.Reference7Ideal.Read.val_main_v11 (F := Ideal) x0 x1 (ix2 (i 0) k) * w (ix2 (i 1) k)

theorem tiles (X Y : FVec Ideal S4096x2560 .bf16) (h : ∀ (b : Fin 2) (a : Fin 4) (r : Fin 1024) (l : Fin 1280), X (ix2 (row a r) (col b l)) = Y (ix2 (row a r) (col b l))) : X = Y :=
  funext fun i => by
    have h0 : (i 0).val < 4096 := (i 0).isLt
    have h1 : (i 1).val < 2560 := (i 1).isLt
    have e : i = ix2 (row ⟨(i 0).val / 1024, by omega⟩ ⟨(i 0).val % 1024, Nat.mod_lt _ (by decide)⟩)
        (col ⟨(i 1).val / 1280, by omega⟩ ⟨(i 1).val % 1280, Nat.mod_lt _ (by decide)⟩) := funext fun d => by
      match d with
      | ⟨0, _⟩ => exact Fin.ext (by show (i 0).val = 1024 * ((i 0).val / 1024) + (i 0).val % 1024; omega)
      | ⟨1, _⟩ => exact Fin.ext (by show (i 1).val = 1280 * ((i 1).val / 1280) + (i 1).val % 1280; omega)
    rw [e]; exact h _ _ _ _

theorem final2 : ((dats m 0 c).arrAt 2 cfg0.N : FVec Ideal S4096x2560 .bf16)
    = entry (m ((c : Thread nD τ).loc main_arg0)) (m ((c : Thread nD τ).loc main_arg1)) (m ((c : Thread nD τ).loc main_arg2)) := tiles _ _ fun b a r l => by
  have hf : ∀ (b : Fin 2) (a : Fin 4), (cfg0.win 2).flush (pt b a) = true := by decide
  have hi : ∀ (b : Fin 2) (a : Fin 4), win0_2.index (pt b a) 0 = a.val ∧ win0_2.index (pt b a) 1 = b.val := by decide
  have h := congrFun (blocks2 m c (pt b a) (hf b a)) (ix2 r l)
  rw [View.read_apply, flushed2, out2] at h
  refine Eq.trans (Eq.trans ?_ h) ((pay1 _ _ r l).trans (Finset.sum_congr rfl fun k _ => ?_))
  · show ((dats m 0 c).arrAt 2 cfg0.N : FVec Ideal S4096x2560 .bf16) _ = ((dats m 0 c).arrAt 2 cfg0.N : FVec Ideal S4096x2560 .bf16) _
    congr 1
    funext d
    apply Fin.ext
    match d with
    | ⟨0, _⟩ => show 1024 * a.val + r.val = win0_2.index (pt b a) 0 * 1024 + 1 * r.val; rw [(hi b a).1]; omega
    | ⟨1, _⟩ => show 1280 * b.val + l.val = win0_2.index (pt b a) 1 * 1280 + 1 * l.val; rw [(hi b a).2]; omega
  · rw [blk0, blk1]

section
open Cert.Reference7Ideal.Read

theorem ref15 (x0 : FVec Ideal S4096x1024 .f32) (x1 : FVec Ideal S1x1024 .f32) (w : FVec Ideal S2560x1024 .bf16) :
    val_main_v15 (F := Ideal) x0 x1 w = entry x0 x1 w :=
  funext fun i => by
    rw [val_main_v15_apply, val_main_v14_apply]
    refine Finset.sum_congr rfl fun k _ => ?_
    rw [val_main_v13_apply, val_main_v12_apply]
    exact congrArg₂ (· * ·) (congrArg (val_main_v11 (F := Ideal) x0 x1) (Ffn.split2 _)) (congrArg w (Ffn.split2 _))

end

end InProj
-- ==== Proof.OutProj.lean ====
/-
  The output projection of the attention half with the normalisation after it: a grid point computes 512 rows of the stream and of the
  normalised stream, and every row is the row that the reference computes.
-/
module

public import proofs.«01_k».proof.Proof.FfnBase
public import proofs.«01_k».proof.Proof.Gen.Kernel8Ideal.Value
public import proofs.«01_k».proof.Proof.Gen.Reference8Ideal.Read

@[expose] public section

noncomputable section

namespace OutProj

open Idealize.ShloMosaic hiding ix0 ix1 ix2 ix3 ix4 ix5
open Idealize.ShloMosaic.ValueIdx Idealize.ShloMosaic.TcCoe Cert.Kernel8Ideal Cert.Kernel8Ideal.Gen Cert.Kernel8Ideal.Value
open scoped BigOperators

/-! ## One row -/

/-- The stream after the projection. -/
def mid (o x : Fin 1024 → EReal) (w : FVec Ideal S1024x1024 .bf16) (l : Fin 1024) : EReal := x l + ∑ k : Fin 1024, o k * w (ix2 k l)

/-- The reciprocal root of a row's mean square. -/
def rr (x : Fin 1024 → EReal) : EReal :=
  Ideal.rsqrt (Ideal.div (∑ k : Fin 1024, x k * x k) (FloatOps.ofBits .f32 0x44800000#32 : Ideal .f32) + (FloatOps.ofBits .f32 0x358637BD#32 : Ideal .f32))

/-- The stream after the projection, normalised. -/
def hn (o x : Fin 1024 → EReal) (w : FVec Ideal S1024x1024 .bf16) (g : FVec Ideal S1x1024 .f32) (l : Fin 1024) : EReal :=
  mid o x w l * rr (mid o x w) * g (ix2 0 l)

/-! ## What a point computes -/

theorem pay1 (x : FVec Ideal S512x1024 .f32) (o : FVec Ideal S512x1024 .bf16) (w : FVec Ideal S1024x1024 .bf16) (r : Fin 512) (l : Fin 1024) :
    k0_pay1 (F := Ideal) x o w (ix2 r l) = mid (fun k => o (ix2 r k)) (fun k => x (ix2 r k)) w l := by
  unfold k0_pay1
  rw [addf_apply]
  exact congrArg (x (ix2 r l) + ·) (Ffn.nn_zero o w r l)

theorem square (x : FVec Ideal S512x1024 .f32) (o : FVec Ideal S512x1024 .bf16) (w : FVec Ideal S1024x1024 .bf16) (r : Fin 512) (k : Fin 1024) :
    mulf (k0_pay1 (F := Ideal) x o w) (k0_pay1 (F := Ideal) x o w) (ix2 r k)
      = mid (fun k => o (ix2 r k)) (fun k => x (ix2 r k)) w k * mid (fun k => o (ix2 r k)) (fun k => x (ix2 r k)) w k := by
  rw [mulf_apply, pay1]

theorem pay2 (x : FVec Ideal S512x1024 .f32) (o : FVec Ideal S512x1024 .bf16) (w : FVec Ideal S1024x1024 .bf16) (g : FVec Ideal S1x1024 .f32) (r : Fin 512) (l : Fin 1024) :
    k0_pay2 (F := Ideal) x o w g (ix2 r l) = hn (fun k => o (ix2 r k)) (fun k => x (ix2 r k)) w g l := by
  have e9 := (AttK.rowsum_apply 512 1024 (mulf (k0_pay1 (F := Ideal) x o w) (k0_pay1 (F := Ideal) x o w)) r 0).trans
    (Finset.sum_congr rfl fun k _ => square x o w r k)
  have e8 := pay1 x o w r l
  unfold k0_pay2
  revert e9 e8
  generalize k0_pay1 (F := Ideal) x o w = a
  intro e9 e8
  rw [truncf_apply, mulf_apply, mulf_apply, AttK.bRow_apply 512 1024, AttK.bCol_apply 512 1024, rsqrt_apply, addf_apply, e8]
  refine congrArg (· * g (ix2 0 l)) (congrArg (mid _ _ w l * ·) ?_)
  exact congrArg (fun z => Ideal.rsqrt (Ideal.div z (FloatOps.ofBits .f32 0x44800000#32 : Ideal .f32) + (FloatOps.ofBits .f32 0x358637BD#32 : Ideal .f32))) e9

section
variable (x0 : FVec Ideal S512x1024 .bf16) (x1 : FVec Ideal S1024x1024 .bf16) (x2 : FVec Ideal S512x1024 .f32) (x3 : FVec Ideal S1x1024 .f32)

theorem out4 : out0_4 (F := Ideal) x0 x1 x2 x3 = k0_pay1 (F := Ideal) x2 x0 x1 := by
  unfold out0_4
  rw [View.canon_cons_unit_lit _ _ _ (by decide)]
  simp (disch := decide) only [View.ld_unit_lit]
theorem out5 : out0_5 (F := Ideal) x0 x1 x2 x3 = k0_pay2 (F := Ideal) x2 x0 x1 x3 := by
  unfold out0_5
  rw [View.canon_cons_unit_lit _ _ _ (by decide)]
  simp (disch := decide) only [View.ld_unit_lit]

end

/-! ## The blocks that a point reads -/

variable (m : (ℓ : Loc nD τ sig) → Buf (Elt Ideal) ℓ) (c : Dev nD)

/-- Row `r` of point `t`'s block. -/
def row (t : Fin 8) (r : Fin 512) : Fin 4096 := ⟨512 * t.val + r.val, by omega⟩

def pt (t : Fin 8) : Fin cfg0.N := ⟨t.val, lt_of_lt_of_eq t.isLt N_0.symm⟩

theorem blk0 (t : Fin 8) (r : Fin 512) (l : Fin 1024) : (iblk m c 0 (pt t) : FVec Ideal S512x1024 .bf16) (ix2 r l)
    = m ((c : Thread nD τ).loc main_arg0) (ix2 (row t r) l) := by
  have hi : ∀ t : Fin 8, win0_0.index (pt t) 0 = t.val ∧ win0_0.index (pt t) 1 = 0 := by decide
  unfold iblk
  rw [View.read_apply]
  show V m c main_arg0 _ = m ((c : Thread nD τ).loc main_arg0) _
  rw [V_main_arg0]
  congr 1
  funext a
  apply Fin.ext
  match a with
  | ⟨0, _⟩ => show win0_0.index (pt t) 0 * 512 + 1 * r.val = 512 * t.val + r.val; rw [(hi t).1]; omega
  | ⟨1, _⟩ => show win0_0.index (pt t) 1 * 1024 + 1 * l.val = l.val; rw [(hi t).2]; omega

theorem blk1 (t : Fin 8) (r : Fin 1024) (l : Fin 1024) : (iblk m c 1 (pt t) : FVec Ideal S1024x1024 .bf16) (ix2 r l)
    = m ((c : Thread nD τ).loc main_arg1) (ix2 r l) := by
  have hi : ∀ t : Fin 8, win0_1.index (pt t) 0 = 0 ∧ win0_1.index (pt t) 1 = 0 := by decide
  unfold iblk
  rw [View.read_apply]
  show V m c main_arg1 _ = m ((c : Thread nD τ).loc main_arg1) _
  rw [V_main_arg1]
  congr 1
  funext a
  apply Fin.ext
  match a with
  | ⟨0, _⟩ => show win0_1.index (pt t) 0 * 1024 + 1 * r.val = r.val; rw [(hi t).1]; omega
  | ⟨1, _⟩ => show win0_1.index (pt t) 1 * 1024 + 1 * l.val = l.val; rw [(hi t).2]; omega

theorem blk2 (t : Fin 8) (r : Fin 512) (l : Fin 1024) : (iblk m c 2 (pt t) : FVec Ideal S512x1024 .f32) (ix2 r l)
    = m ((c : Thread nD τ).loc main_arg2) (ix2 (row t r) l) := by
  have hi : ∀ t : Fin 8, win0_2.index (pt t) 0 = t.val ∧ win0_2.index (pt t) 1 = 0 := by decide
  unfold iblk
  rw [View.read_apply]
  show V m c main_arg2 _ = m ((c : Thread nD τ).loc main_arg2) _
  rw [V_main_arg2]
  congr 1
  funext a
  apply Fin.ext
  match a with
  | ⟨0, _⟩ => show win0_2.index (pt t) 0 * 512 + 1 * r.val = 512 * t.val + r.val; rw [(hi t).1]; omega
  | ⟨1, _⟩ => show win0_2.index (pt t) 1 * 1024 + 1 * l.val = l.val; rw [(hi t).2]; omega

theorem blk3 (t : Fin 8) (r : Fin 1) (l : Fin 1024) : (iblk m c 3 (pt t) : FVec Ideal S1x1024 .f32) (ix2 r l)
    = m ((c : Thread nD τ).loc main_arg3) (ix2 r l) := by
  have hi : ∀ t : Fin 8, win0_3.index (pt t) 0 = 0 ∧ win0_3.index (pt t) 1 = 0 := by decide
  unfold iblk
  rw [View.read_apply]
  show V m c main_arg3 _ = m ((c : Thread nD τ).loc main_arg3) _
  rw [V_main_arg3]
  congr 1
  funext a
  apply Fin.ext
  match a with
  | ⟨0, _⟩ => show win0_3.index (pt t) 0 * 1 + 1 * r.val = r.val; rw [(hi t).1]; omega
  | ⟨1, _⟩ => show win0_3.index (pt t) 1 * 1024 + 1 * l.val = l.val; rw [(hi t).2]; omega

theorem all1 (t : Fin 8) : (iblk m c 1 (pt t) : FVec Ideal S1024x1024 .bf16) = m ((c : Thread nD τ).loc main_arg1) := funext fun i => by
  rw [Ffn.split2 i]; exact blk1 m c t _ _
theorem all3 (t : Fin 8) : (iblk m c 3 (pt t) : FVec Ideal S1x1024 .f32) = m ((c : Thread nD τ).loc main_arg3) := funext fun i => by
  rw [Ffn.split2 i]; exact blk3 m c t _ _
theorem row0 (t : Fin 8) (r : Fin 512) : (fun k => (iblk m c 0 (pt t) : FVec Ideal S512x1024 .bf16) (ix2 r k))
    = fun k => m ((c : Thread nD τ).loc main_arg0) (ix2 (row t r) k) := funext fun k => blk0 m c t r k
theorem row2 (t : Fin 8) (r : Fin 512) : (fun k => (iblk m c 2 (pt t) : FVec Ideal S512x1024 .f32) (ix2 r k))
    = fun k => m ((c : Thread nD τ).loc main_arg2) (ix2 (row t r) k) := funext fun k => blk2 m c t r k

/-! ## The result arrays -/

theorem rows {φ : FTy} (X Y : FVec Ideal S4096x1024 φ) (h : ∀ (t : Fin 8) (r : Fin 512) (l : Fin 1024), X (ix2 (row t r) l) = Y (ix2 (row t r) l)) : X = Y :=
  funext fun i => by
    have h0 : (i 0).val < 4096 := (i 0).isLt
    have e : i = ix2 (row ⟨(i 0).val / 512, by omega⟩ ⟨(i 0).val % 512, Nat.mod_lt _ (by decide)⟩) (i 1) := funext fun a => by
      match a with
      | ⟨0, _⟩ => exact Fin.ext (by show (i 0).val = 512 * ((i 0).val / 512) + (i 0).val % 512; omega)
      | ⟨1, _⟩ => rfl
    rw [e]; exact h _ _ _

def arrMid (o : FVec Ideal S4096x1024 .bf16) (w : FVec Ideal S1024x1024 .bf16) (x : FVec Ideal S4096x1024 .f32) : FVec Ideal S4096x1024 .f32 :=
  fun i => mid (fun k => o (ix2 (i 0) k)) (fun k => x (ix2 (i 0) k)) w (i 1)
def arrHn (o : FVec Ideal S4096x1024 .bf16) (w : FVec Ideal S1024x1024 .bf16) (x : FVec Ideal S4096x1024 .f32) (g : FVec Ideal S1x1024 .f32) : FVec Ideal S4096x1024 .bf16 :=
  fun i => hn (fun k => o (ix2 (i 0) k)) (fun k => x (ix2 (i 0) k)) w g (i 1)

theorem final4 : ((dats m 0 c).arrAt 4 cfg0.N : FVec Ideal S4096x1024 .f32)
    = arrMid (m ((c : Thread nD τ).loc main_arg0)) (m ((c : Thread nD τ).loc main_arg1)) (m ((c : Thread nD τ).loc main_arg2)) := rows _ _ fun t r l => by
  have hf : ∀ t : Fin 8, (cfg0.win 4).flush (pt t) = true := by decide
  have hi : ∀ t : Fin 8, win0_4.index (pt t) 0 = t.val ∧ win0_4.index (pt t) 1 = 0 := by decide
  have h := congrFun (blocks4 m c (pt t) (hf t)) (ix2 r l)
  rw [View.read_apply, flushed4, out4] at h
  refine Eq.trans (Eq.trans ?_ h) ((pay1 _ _ _ r l).trans ?_)
  · show ((dats m 0 c).arrAt 4 cfg0.N : FVec Ideal S4096x1024 .f32) _ = ((dats m 0 c).arrAt 4 cfg0.N : FVec Ideal S4096x1024 .f32) _
    congr 1
    funext a
    apply Fin.ext
    match a with
    | ⟨0, _⟩ => show 512 * t.val + r.val = win0_4.index (pt t) 0 * 512 + 1 * r.val; rw [(hi t).1]; omega
    | ⟨1, _⟩ => show l.val = win0_4.index (pt t) 1 * 1024 + 1 * l.val; rw [(hi t).2]; omega
  · rw [row0 m c t r, row2 m c t r, all1 m c t]; rfl

theorem final5 : ((dats m 0 c).arrAt 5 cfg0.N : FVec Ideal S4096x1024 .bf16)
    = arrHn (m ((c : Thread nD τ).loc main_arg0)) (m ((c : Thread nD τ).loc main_arg1)) (m ((c : Thread nD τ).loc main_arg2)) (m ((c : Thread nD τ).loc main_arg3)) := rows _ _ fun t r l => by
  have hf : ∀ t : Fin 8, (cfg0.win 5).flush (pt t) = true := by decide
  have hi : ∀ t : Fin 8, win0_5.index (pt t) 0 = t.val ∧ win0_5.index (pt t) 1 = 0 := by decide
  have h := congrFun (blocks5 m c (pt t) (hf t)) (ix2 r l)
  rw [View.read_apply, flushed5, out5] at h
  refine Eq.trans (Eq.trans ?_ h) ((pay2 _ _ _ _ r l).trans ?_)
  · show ((dats m 0 c).arrAt 5 cfg0.N : FVec Ideal S4096x1024 .bf16) _ = ((dats m 0 c).arrAt 5 cfg0.N : FVec Ideal S4096x1024 .bf16) _
    congr 1
    funext a
    apply Fin.ext
    match a with
    | ⟨0, _⟩ => show 512 * t.val + r.val = win0_5.index (pt t) 0 * 512 + 1 * r.val; rw [(hi t).1]; omega
    | ⟨1, _⟩ => show l.val = win0_5.index (pt t) 1 * 1024 + 1 * l.val; rw [(hi t).2]; omega
  · rw [row0 m c t r, row2 m c t r, all1 m c t, all3 m c t]; rfl

/-! ## The reference -/

section
open Cert.Reference8Ideal.Read

variable (o : FVec Ideal S4096x1024 .bf16) (w : FVec Ideal S1024x1024 .bf16) (x : FVec Ideal S4096x1024 .f32) (g : FVec Ideal S1x1024 .f32)

theorem ref3 (i : S4096x1024.Idx) : val_main_v3 (F := Ideal) o w x i = mid (fun k => o (ix2 (i 0) k)) (fun k => x (ix2 (i 0) k)) w (i 1) := by
  rw [val_main_v3_apply, val_main_v2_apply]
  refine congrArg₂ (· + ·) (congrArg x (Ffn.split2 i)) (Finset.sum_congr rfl fun k _ => ?_)
  rw [val_main_v0_apply, val_main_v1_apply]
  exact congrArg₂ (· * ·) (congrArg o (Ffn.split2 _)) (congrArg w (Ffn.split2 _))

theorem ref11 (i : Cert.Reference8Ideal.S4096x1.Idx) : val_main_v11 (F := Ideal) o w x i = rr (mid (fun k => o (ix2 (i 0) k)) (fun k => x (ix2 (i 0) k)) w) := by
  have e : ∑ k : Fin 1024, val_main_v4 (F := Ideal) o w x (idx_main_v5 (idx_main_v6 i) k)
      = ∑ k : Fin 1024, mid (fun k => o (ix2 (i 0) k)) (fun k => x (ix2 (i 0) k)) w k * mid (fun k => o (ix2 (i 0) k)) (fun k => x (ix2 (i 0) k)) w k :=
    Finset.sum_congr rfl fun k _ => by rw [val_main_v4_apply, ref3]; rfl
  rw [val_main_v11_apply, val_main_v10_apply, val_main_v9_apply, val_main_v8_apply, val_main_v7_apply, val_main_v6_apply, val_main_v5_apply, e,
    val_main_cst_apply, AttK.lit0, EReal.coe_zero, zero_add]
  rfl

theorem eq4 : val_main_v3 (F := Ideal) o w x = arrMid o w x := funext fun i => ref3 o w x i
theorem eq5 : val_main_v16 (F := Ideal) o w x g = arrHn o w x g := funext fun i => by
  rw [val_main_v16_apply, val_main_v15_apply, val_main_v14_apply, val_main_v13_apply, val_main_v12_apply, ref3, ref11]
  refine congrArg₂ (· * ·) rfl (congrArg g (Ffn.split2 _))

end

end OutProj
-- ==== Proof.GradWin.lean ====
/-
  The gradient of the input projection's weight: the ten grid points take the columns of the four gradients that the attention half
  returns, 256 columns at a time, and each computes 256 rows of the weight's gradient.  Every entry is the sum over the 4096 tokens that
  the reference's product with the joined gradients is.
-/
module

public import proofs.«01_k».proof.Proof.FfnBase
public import proofs.«01_k».proof.Proof.Gen.Kernel9Ideal.Value
public import proofs.«01_k».proof.Proof.Gen.Reference9Ideal.Read
public import Idealize.ShloMosaic.Lib.Pipeline.Value

@[expose] public section

noncomputable section

namespace GradWin

open Idealize.ShloMosaic hiding ix0 ix1 ix2 ix3 ix4 ix5
open Idealize.ShloMosaic.ValueIdx Idealize.ShloMosaic.TcCoe Cert.Kernel9Ideal Cert.Kernel9Ideal.Gen Cert.Kernel9Ideal.Value
open scoped BigOperators

/-! ## The gradients joined -/

section
variable (x0 x1 x2 : FVec Ideal S4096x768 .bf16) (x3 : FVec Ideal S4096x256 .bf16)

/-- The four gradients, side by side. -/
abbrev join : FVec Ideal (AttK.M 4096 2560) .bf16 := Cert.Reference9Ideal.Read.val_main_v1 (F := Ideal) x0 x1 x2 x3

theorem join0 (j : Fin 4096) (q : Fin 768) : join x0 x1 x2 x3 (ix2 j ⟨0 + q.val, by omega⟩) = x0 (ix2 j q) := by
  unfold join Cert.Reference9Ideal.Read.val_main_v1
  exact concatenate_apply_piece (t := Cert.Reference9Ideal.S4096x2560) 1 _ _ (ix2 j ⟨0 + q.val, by omega⟩) 0 (by show 0 < 4; decide) _ x0 rfl rfl 0 (by rfl) (ix2 j q)
    (fun b hb => by
      match b with
      | ⟨0, _⟩ => rfl
      | ⟨1, _⟩ => exact absurd rfl hb)
    rfl
theorem join1 (j : Fin 4096) (q : Fin 768) : join x0 x1 x2 x3 (ix2 j ⟨768 + q.val, by omega⟩) = x1 (ix2 j q) := by
  unfold join Cert.Reference9Ideal.Read.val_main_v1
  exact concatenate_apply_piece (t := Cert.Reference9Ideal.S4096x2560) 1 _ _ (ix2 j ⟨768 + q.val, by omega⟩) 1 (by show 1 < 4; decide) _ x1 rfl rfl 768 (by rfl) (ix2 j q)
    (fun b hb => by
      match b with
      | ⟨0, _⟩ => rfl
      | ⟨1, _⟩ => exact absurd rfl hb)
    rfl
theorem join2 (j : Fin 4096) (q : Fin 768) : join x0 x1 x2 x3 (ix2 j ⟨1536 + q.val, by omega⟩) = x2 (ix2 j q) := by
  unfold join Cert.Reference9Ideal.Read.val_main_v1
  exact concatenate_apply_piece (t := Cert.Reference9Ideal.S4096x2560) 1 _ _ (ix2 j ⟨1536 + q.val, by omega⟩) 2 (by show 2 < 4; decide) _ x2 rfl rfl 1536 (by rfl) (ix2 j q)
    (fun b hb => by
      match b with
      | ⟨0, _⟩ => rfl
      | ⟨1, _⟩ => exact absurd rfl hb)
    rfl
theorem join3 (j : Fin 4096) (q : Fin 256) : join x0 x1 x2 x3 (ix2 j ⟨2304 + q.val, by omega⟩) = x3 (ix2 j q) := by
  unfold join Cert.Reference9Ideal.Read.val_main_v1
  exact concatenate_apply_piece (t := Cert.Reference9Ideal.S4096x2560) 1 _ _ (ix2 j ⟨2304 + q.val, by omega⟩) 3 (by show 3 < 4; decide) _ x3 rfl rfl 2304 (by rfl) (ix2 j q)
    (fun b hb => by
      match b with
      | ⟨0, _⟩ => rfl
      | ⟨1, _⟩ => exact absurd rfl hb)
    rfl

end

/-! ## What a point computes -/

/-- An entry of a block's gradient. -/
def blockEntry (x : FVec Ideal S4096x256 .bf16) (y : FVec Ideal S4096x1024 .bf16) (r : Fin 256) (l : Fin 1024) : EReal := ∑ j : Fin 4096, x (ix2 j r) * y (ix2 j l)

theorem pay1 (x : FVec Ideal S4096x256 .bf16) (y : FVec Ideal S4096x1024 .bf16) (r : Fin 256) (l : Fin 1024) :
    k0_pay1 (F := Ideal) x y (ix2 r l) = blockEntry x y r l := Ffn.tn_zero x y r l
theorem pay2 (x : FVec Ideal S4096x256 .bf16) (y : FVec Ideal S4096x1024 .bf16) (r : Fin 256) (l : Fin 1024) :
    k0_pay2 (F := Ideal) x y (ix2 r l) = blockEntry x y r l := Ffn.tn_zero x y r l
theorem pay3 (x : FVec Ideal S4096x256 .bf16) (y : FVec Ideal S4096x1024 .bf16) (r : Fin 256) (l : Fin 1024) :
    k0_pay3 (F := Ideal) x y (ix2 r l) = blockEntry x y r l := Ffn.tn_zero x y r l
theorem pay4 (x : FVec Ideal S4096x256 .bf16) (y : FVec Ideal S4096x1024 .bf16) (r : Fin 256) (l : Fin 1024) :
    k0_pay4 (F := Ideal) x y (ix2 r l) = blockEntry x y r l := Ffn.tn_zero x y r l

variable (m : (ℓ : Loc nD τ sig) → Buf (Elt Ideal) ℓ) (c : Dev nD)

/-- Row `r` of point `t`'s block. -/
def row (t : Fin 10) (r : Fin 256) : Fin 2560 := ⟨256 * t.val + r.val, by omega⟩

def pt (t : Fin 10) : Fin cfg0.N := ⟨t.val, lt_of_lt_of_eq t.isLt N_0.symm⟩

theorem caseA (t : Fin cfg0.N) (h0 : t.val < 3) : outsAt0 m c t.val t.isLt = k0_pay1 (F := Ideal) (iblk m c 0 t) (iblk m c 4 t) := by
  rw [outsAt0_A m c t (by omega) (by omega) (by omega) (by omega)]; frame_out
theorem caseB (t : Fin cfg0.N) (h0 : 3 ≤ t.val) (h1 : t.val < 6) : outsAt0 m c t.val t.isLt = k0_pay2 (F := Ideal) (iblk m c 1 t) (iblk m c 4 t) := by
  rw [outsAt0_B m c t (by omega) (by omega) (by omega) (by omega)]; frame_out
theorem caseC (t : Fin cfg0.N) (h0 : 6 ≤ t.val) (h1 : t.val < 9) : outsAt0 m c t.val t.isLt = k0_pay3 (F := Ideal) (iblk m c 2 t) (iblk m c 4 t) := by
  rw [outsAt0_C m c t (by omega) (by omega) (by omega) (by omega)]; frame_out
theorem caseD (t : Fin cfg0.N) (h0 : t.val = 9) : outsAt0 m c t.val t.isLt = k0_pay4 (F := Ideal) (iblk m c 3 t) (iblk m c 4 t) := by
  rw [outsAt0_D m c t (by omega) (by omega) (by omega) (by omega)]; frame_out

theorem blk0 (t : Fin 10) (h : t.val < 3) (j : Fin 4096) (r : Fin 256) : (iblk m c 0 (pt t) : FVec Ideal S4096x256 .bf16) (ix2 j r)
    = join (m ((c : Thread nD τ).loc main_arg0)) (m ((c : Thread nD τ).loc main_arg1)) (m ((c : Thread nD τ).loc main_arg2)) (m ((c : Thread nD τ).loc main_arg3)) (ix2 j (row t r)) := by
  have hi : ∀ t : Fin 10, t.val < 3 → win0_0.index (pt t) 0 = 0 ∧ win0_0.index (pt t) 1 = t.val := by decide
  have e : row t r = ⟨0 + (256 * (t.val) + r.val), by omega⟩ := Fin.ext (by show 256 * t.val + r.val = 0 + (256 * (t.val) + r.val); omega)
  rw [e]
  refine Eq.trans ?_ (join0 _ _ _ _ j ⟨256 * (t.val) + r.val, by omega⟩).symm
  unfold iblk
  rw [View.read_apply]
  show V m c main_arg0 _ = m ((c : Thread nD τ).loc main_arg0) _
  rw [V_main_arg0]
  congr 1
  funext a
  apply Fin.ext
  match a with
  | ⟨0, _⟩ => show win0_0.index (pt t) 0 * 4096 + 1 * j.val = j.val; rw [(hi t h).1]; omega
  | ⟨1, _⟩ => show win0_0.index (pt t) 1 * 256 + 1 * r.val = 256 * (t.val) + r.val; rw [(hi t h).2]; omega

theorem blk1 (t : Fin 10) (h0 : 3 ≤ t.val) (h : t.val < 6) (j : Fin 4096) (r : Fin 256) : (iblk m c 1 (pt t) : FVec Ideal S4096x256 .bf16) (ix2 j r)
    = join (m ((c : Thread nD τ).loc main_arg0)) (m ((c : Thread nD τ).loc main_arg1)) (m ((c : Thread nD τ).loc main_arg2)) (m ((c : Thread nD τ).loc main_arg3)) (ix2 j (row t r)) := by
  have hi : ∀ t : Fin 10, 3 ≤ t.val → t.val < 6 → win0_1.index (pt t) 0 = 0 ∧ win0_1.index (pt t) 1 = t.val - 3 := by decide
  have e : row t r = ⟨768 + (256 * (t.val - 3) + r.val), by omega⟩ := Fin.ext (by show 256 * t.val + r.val = 768 + (256 * (t.val - 3) + r.val); omega)
  rw [e]
  refine Eq.trans ?_ (join1 _ _ _ _ j ⟨256 * (t.val - 3) + r.val, by omega⟩).symm
  unfold iblk
  rw [View.read_apply]
  show V m c main_arg1 _ = m ((c : Thread nD τ).loc main_arg1) _
  rw [V_main_arg1]
  congr 1
  funext a
  apply Fin.ext
  match a with
  | ⟨0, _⟩ => show win0_1.index (pt t) 0 * 4096 + 1 * j.val = j.val; rw [(hi t h0 h).1]; omega
  | ⟨1, _⟩ => show win0_1.index (pt t) 1 * 256 + 1 * r.val = 256 * (t.val - 3) + r.val; rw [(hi t h0 h).2]; omega

theorem blk2 (t : Fin 10) (h0 : 6 ≤ t.val) (h : t.val < 9) (j : Fin 4096) (r : Fin 256) : (iblk m c 2 (pt t) : FVec Ideal S4096x256 .bf16) (ix2 j r)
    = join (m ((c : Thread nD τ).loc main_arg0)) (m ((c : Thread nD τ).loc main_arg1)) (m ((c : Thread nD τ).loc main_arg2)) (m ((c : Thread nD τ).loc main_arg3)) (ix2 j (row t r)) := by
  have hi : ∀ t : Fin 10, 6 ≤ t.val → t.val < 9 → win0_2.index (pt t) 0 = 0 ∧ win0_2.index (pt t) 1 = t.val - 6 := by decide
  have e : row t r = ⟨1536 + (256 * (t.val - 6) + r.val), by omega⟩ := Fin.ext (by show 256 * t.val + r.val = 1536 + (256 * (t.val - 6) + r.val); omega)
  rw [e]
  refine Eq.trans ?_ (join2 _ _ _ _ j ⟨256 * (t.val - 6) + r.val, by omega⟩).symm
  unfold iblk
  rw [View.read_apply]
  show V m c main_arg2 _ = m ((c : Thread nD τ).loc main_arg2) _
  rw [V_main_arg2]
  congr 1
  funext a
  apply Fin.ext
  match a with
  | ⟨0, _⟩ => show win0_2.index (pt t) 0 * 4096 + 1 * j.val = j.val; rw [(hi t h0 h).1]; omega
  | ⟨1, _⟩ => show win0_2.index (pt t) 1 * 256 + 1 * r.val = 256 * (t.val - 6) + r.val; rw [(hi t h0 h).2]; omega

theorem blk3 (t : Fin 10) (h : t.val = 9) (j : Fin 4096) (r : Fin 256) : (iblk m c 3 (pt t) : FVec Ideal S4096x256 .bf16) (ix2 j r)
    = join (m ((c : Thread nD τ).loc main_arg0)) (m ((c : Thread nD τ).loc main_arg1)) (m ((c : Thread nD τ).loc main_arg2)) (m ((c : Thread nD τ).loc main_arg3)) (ix2 j (row t r)) := by
  have hi : ∀ t : Fin 10, win0_3.index (pt t) 0 = 0 ∧ win0_3.index (pt t) 1 = 0 := by decide
  have e : row t r = ⟨2304 + r.val, by omega⟩ := Fin.ext (by show 256 * t.val + r.val = 2304 + r.val; omega)
  rw [e]
  refine Eq.trans ?_ (join3 _ _ _ _ j r).symm
  unfold iblk
  rw [View.read_apply]
  show V m c main_arg3 _ = m ((c : Thread nD τ).loc main_arg3) _
  rw [V_main_arg3]
  congr 1
  funext a
  apply Fin.ext
  match a with
  | ⟨0, _⟩ => show win0_3.index (pt t) 0 * 4096 + 1 * j.val = j.val; rw [(hi t).1]; omega
  | ⟨1, _⟩ => show win0_3.index (pt t) 1 * 256 + 1 * r.val = r.val; rw [(hi t).2]; omega

theorem blk4 (t : Fin 10) (j : Fin 4096) (l : Fin 1024) : (iblk m c 4 (pt t) : FVec Ideal S4096x1024 .bf16) (ix2 j l)
    = m ((c : Thread nD τ).loc main_arg4) (ix2 j l) := by
  have hi : ∀ t : Fin 10, win0_4.index (pt t) 0 = 0 ∧ win0_4.index (pt t) 1 = 0 := by decide
  unfold iblk
  rw [View.read_apply]
  show V m c main_arg4 _ = m ((c : Thread nD τ).loc main_arg4) _
  rw [V_main_arg4]
  congr 1
  funext a
  apply Fin.ext
  match a with
  | ⟨0, _⟩ => show win0_4.index (pt t) 0 * 4096 + 1 * j.val = j.val; rw [(hi t).1]; omega
  | ⟨1, _⟩ => show win0_4.index (pt t) 1 * 1024 + 1 * l.val = l.val; rw [(hi t).2]; omega

/-- An entry of the gradient. -/
def entry (x0 x1 x2 : FVec Ideal S4096x768 .bf16) (x3 : FVec Ideal S4096x256 .bf16) (y : FVec Ideal S4096x1024 .bf16) : FVec Ideal S2560x1024 .bf16 :=
  fun i => ∑ j : Fin 4096, join x0 x1 x2 x3 (ix2 j (i 0)) * y (ix2 j (i 1))

/-- What a point leaves in its block. -/
theorem point (t : Fin 10) (r : Fin 256) (l : Fin 1024) : (outsAt0 m c (pt t).val (pt t).isLt : FVec Ideal S256x1024 .bf16) (ix2 r l)
    = entry (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) l) := by
  have h9 : t.val < 10 := t.isLt
  by_cases h3 : t.val < 3
  · rw [caseA m c (pt t) h3]
    exact (pay1 _ _ r l).trans (Finset.sum_congr rfl fun j _ => by rw [blk0 m c t h3, blk4])
  by_cases h6 : t.val < 6
  · rw [caseB m c (pt t) (Nat.not_lt.mp h3) h6]
    exact (pay2 _ _ r l).trans (Finset.sum_congr rfl fun j _ => by rw [blk1 m c t (Nat.not_lt.mp h3) h6, blk4])
  by_cases h8 : t.val < 9
  · rw [caseC m c (pt t) (Nat.not_lt.mp h6) h8]
    exact (pay3 _ _ r l).trans (Finset.sum_congr rfl fun j _ => by rw [blk2 m c t (Nat.not_lt.mp h6) h8, blk4])
  have e : t.val = 9 := by omega
  rw [caseD m c (pt t) e]
  exact (pay4 _ _ r l).trans (Finset.sum_congr rfl fun j _ => by rw [blk3 m c t e, blk4])

theorem rows (X Y : FVec Ideal S2560x1024 .bf16) (h : ∀ (t : Fin 10) (r : Fin 256) (l : Fin 1024), X (ix2 (row t r) l) = Y (ix2 (row t r) l)) : X = Y :=
  funext fun i => by
    have h0 : (i 0).val < 2560 := (i 0).isLt
    have e : i = ix2 (row ⟨(i 0).val / 256, by omega⟩ ⟨(i 0).val % 256, Nat.mod_lt _ (by decide)⟩) (i 1) := funext fun a => by
      match a with
      | ⟨0, _⟩ => exact Fin.ext (by show (i 0).val = 256 * ((i 0).val / 256) + (i 0).val % 256; omega)
      | ⟨1, _⟩ => rfl
    rw [e]; exact h _ _ _

theorem final5 : ((dats m 0 c).arrAt 5 cfg0.N : FVec Ideal S2560x1024 .bf16)
    = entry (m ((c : Thread nD τ).loc main_arg0)) (m ((c : Thread nD τ).loc main_arg1)) (m ((c : Thread nD τ).loc main_arg2)) (m ((c : Thread nD τ).loc main_arg3)) (m ((c : Thread nD τ).loc main_arg4)) := rows _ _ fun t r l => by
  have hf : ∀ t : Fin 10, (cfg0.win 5).flush (pt t) = true := by decide
  have hi : ∀ t : Fin 10, win0_5.index (pt t) 0 = t.val ∧ win0_5.index (pt t) 1 = 0 := by decide
  have h := congrFun (blocks5 m c (pt t) (hf t)) (ix2 r l)
  rw [View.read_apply, flushed5] at h
  refine Eq.trans (Eq.trans ?_ h) (point m c t r l)
  show ((dats m 0 c).arrAt 5 cfg0.N : FVec Ideal S2560x1024 .bf16) _ = ((dats m 0 c).arrAt 5 cfg0.N : FVec Ideal S2560x1024 .bf16) _
  congr 1
  funext a
  apply Fin.ext
  match a with
  | ⟨0, _⟩ => show 256 * t.val + r.val = win0_5.index (pt t) 0 * 256 + 1 * r.val; rw [(hi t).1]; omega
  | ⟨1, _⟩ => show l.val = win0_5.index (pt t) 1 * 1024 + 1 * l.val; rw [(hi t).2]; omega

section
open Cert.Reference9Ideal.Read

theorem ref9 (x0 x1 x2 : FVec Ideal S4096x768 .bf16) (x3 : FVec Ideal S4096x256 .bf16) (y : FVec Ideal S4096x1024 .bf16) :
    val_main_v9 (F := Ideal) x0 x1 x2 x3 y = entry x0 x1 x2 x3 y := funext fun i => by
  rw [val_main_v9_apply, val_main_v8_apply, val_main_v7_apply, val_main_v6_apply]
  refine Finset.sum_congr rfl fun j _ => ?_
  rw [val_main_v2_apply, val_main_v0_apply]
  exact congrArg₂ (· * ·) (congrArg (join x0 x1 x2 x3) (Ffn.split2 _)) (congrArg y (Ffn.split2 _))

end

end GradWin
-- ==== Proof.NormBwdModel.lean ====
/-
  The backward half of an input projection over the extended reals: from the cotangents of the projection and of the stream, the weight, the
  stream and the normalisation's gain to the gradients, row by row; that the two ways of differentiating the reciprocal root agree, with no
  entry supposed finite; and how 512 rows of arrays give the gradients.
-/
module

public import proofs.«01_k».proof.Proof.FfnRef

@[expose] public section

noncomputable section

namespace NormB

open Finset (range)
open Idealize.ShloMosaic (Ideal)

/-- The arguments: the projection's cotangent, of `n` columns, the weight, the stream's cotangent, the stream and the gain. -/
structure Arr where
  n : ℕ
  D : ℕ → ℕ → EReal
  W : ℕ → ℕ → EReal
  C : ℕ → ℕ → EReal
  X : ℕ → ℕ → EReal
  g : ℕ → EReal

/-! ## Sums of extended reals -/

/-- A positive real factor comes out of a sum. -/
theorem sum_mul_real (f : ℕ → EReal) {r : ℝ} (hr : 0 ≤ r) (n : ℕ) : ∑ k ∈ range n, f k * (r : EReal) = (∑ k ∈ range n, f k) * (r : EReal) := by
  induction n with
  | zero => simp
  | succ n ih =>
    rw [Finset.sum_range_succ, Finset.sum_range_succ, ih, EReal.right_distrib_of_nonneg_of_ne_top (EReal.coe_nonneg.mpr hr) (EReal.coe_ne_top r)]

/-- Twice a product by a real number. -/
theorem twice (s : EReal) (a : ℝ) : s * (a : EReal) + s * (a : EReal) = s * ((a + a : ℝ) : EReal) := by
  have pos (b : ℝ) (h : 0 ≤ b) : s * (b : EReal) + s * (b : EReal) = s * ((b + b : ℝ) : EReal) := by
    rw [EReal.coe_add, EReal.left_distrib_of_nonneg (EReal.coe_nonneg.mpr h) (EReal.coe_nonneg.mpr h)]
  rcases le_total 0 a with h | h
  · exact pos a h
  · induction s with
    | bot =>
      rcases h.lt_or_eq with h | h
      · rw [EReal.bot_mul_coe_of_neg h, EReal.bot_mul_coe_of_neg (add_neg h h)]; rfl
      · subst h; simp
    | top =>
      rcases h.lt_or_eq with h | h
      · rw [EReal.top_mul_coe_of_neg h, EReal.top_mul_coe_of_neg (add_neg h h)]; rfl
      · subst h; simp
    | coe s => rw [← EReal.coe_mul, ← EReal.coe_mul, ← EReal.coe_add, mul_add]

theorem square_nonneg (x : EReal) : 0 ≤ x * x := by
  induction x with
  | bot => simp
  | top => simp
  | coe x => rw [← EReal.coe_mul]; exact EReal.coe_nonneg.mpr (mul_self_nonneg x)

namespace Arr
variable (A : Arr)

/-- The mean square of a row, with the small constant. -/
def arg (i : ℕ) : EReal := (∑ k ∈ range 1024, A.X i k * A.X i k) * ((1 / 1024 : ℝ) : EReal) + ((Att.eps : ℝ) : EReal)
def rr (i : ℕ) : EReal := Ideal.rsqrt (A.arg i)
def xh (i l : ℕ) : EReal := A.X i l * A.rr i
/-- The cotangent of the normalised stream. -/
def dh (i l : ℕ) : EReal := ∑ p ∈ range A.n, A.D i p * A.W p l
/-- The gain's gradient over the first rows. -/
def dgain (s l : ℕ) : EReal := ∑ i ∈ range s, A.dh i l * A.xh i l
/-- The bias's gradient over the first rows. -/
def dbias (s p : ℕ) : EReal := ∑ i ∈ range s, A.D i p
def dxh (i l : ℕ) : EReal := A.dh i l * A.g l
def dx (i l : ℕ) : EReal := A.C i l + A.rr i * (A.dxh i l - A.xh i l * ((∑ k ∈ range 1024, A.dxh i k * A.xh i k) * ((1 / 1024 : ℝ) : EReal)))

/-- The rows from `s` on. -/
def shift (s : ℕ) : Arr := { A with D := fun i => A.D (s + i), C := fun i => A.C (s + i), X := fun i => A.X (s + i) }

theorem dgain_add (s t l : ℕ) : A.dgain (s + t) l = A.dgain s l + (A.shift s).dgain t l := Finset.sum_range_add _ s t
theorem dbias_add (s t p : ℕ) : A.dbias (s + t) p = A.dbias s p + (A.shift s).dbias t p := Finset.sum_range_add _ s t

/-- A row's mean square is infinite, or it is a positive real number and so is every entry of the row. -/
theorem arg_cases (i : ℕ) : A.arg i = ⊤ ∨ (∃ v : ℝ, 0 < v ∧ A.arg i = (v : EReal)) ∧ ∀ k < 1024, ∃ x : ℝ, A.X i k = (x : EReal) := by
  by_cases h : ∀ k < 1024, ∃ x : ℝ, A.X i k = (x : EReal)
  · right
    refine ⟨?_, h⟩
    have e : ∑ k ∈ range 1024, A.X i k * A.X i k = ((∑ k ∈ range 1024, (A.X i k).toReal * (A.X i k).toReal : ℝ) : EReal) := by
      rw [← AttK.coe_sum_fin 1024 fun k => (A.X i k).toReal * (A.X i k).toReal, ← Fin.sum_univ_eq_sum_range (fun k => A.X i k * A.X i k)]
      refine Finset.sum_congr rfl fun k _ => ?_
      obtain ⟨x, hx⟩ := h k.val k.isLt
      rw [hx, EReal.toReal_coe, EReal.coe_mul]
    refine ⟨(∑ k ∈ range 1024, (A.X i k).toReal * (A.X i k).toReal) * (1 / 1024) + Att.eps, ?_, ?_⟩
    · exact add_pos_of_nonneg_of_pos (mul_nonneg (Finset.sum_nonneg fun _ _ => mul_self_nonneg _) (by norm_num)) Att.eps_pos
    · unfold arg; rw [e, ← EReal.coe_mul, ← EReal.coe_add]
  · left
    push Not at h
    obtain ⟨k, hk, hx⟩ := h
    have ek : A.X i k * A.X i k = ⊤ := by
      cases e : A.X i k with
      | bot => simp
      | top => simp
      | coe x => exact absurd e (hx x)
    have es : ∑ k ∈ range 1024, A.X i k * A.X i k = ⊤ := by
      refine top_le_iff.mp (ek ▸ ?_)
      exact Finset.single_le_sum (f := fun k => A.X i k * A.X i k) (fun _ _ => square_nonneg _) (Finset.mem_range.mpr hk)
    unfold arg
    rw [es, EReal.top_mul_coe_of_pos (by norm_num), EReal.top_add_coe]

/-- The gradient of the mean square, of a row. -/
def dms (i : ℕ) : EReal := (∑ k ∈ range 1024, A.X i k * A.dxh i k) * (((-(1 / 2) : ℝ) : EReal) * Ideal.div (A.rr i) (A.arg i)) * ((1 / 1024 : ℝ) : EReal)

/-- Differentiating the reciprocal root gives the normalisation's gradient. -/
theorem dx_eq (i l : ℕ) (hl : l < 1024) : A.C i l + (A.dxh i l * A.rr i + A.X i l * A.dms i + A.dms i * A.X i l) = A.dx i l := by
  rcases A.arg_cases i with h | ⟨⟨v, hv, h⟩, hx⟩
  · have r0 : A.rr i = 0 := by unfold rr; rw [h, Ideal.rsqrt_top]
    have d0 : Ideal.div (0 : EReal) ⊤ = 0 := by unfold Ideal.div; rw [if_neg (by simp), zero_mul]
    have m0 : A.dms i = 0 := by unfold dms; rw [r0, h, d0, mul_zero, mul_zero, zero_mul]
    unfold dx
    rw [m0, r0]
    simp
  · obtain ⟨x, ex⟩ := hx l hl
    have er : A.rr i = (((Real.sqrt v)⁻¹ : ℝ) : EReal) := by
      unfold rr; rw [h, Ideal.rsqrt_coe, if_neg (not_lt.mpr hv.le), if_neg hv.ne']
    have q : 1 / v = (Real.sqrt v)⁻¹ * (Real.sqrt v)⁻¹ := by rw [← mul_inv, Real.mul_self_sqrt hv.le, one_div]
    have r0 : 0 ≤ (Real.sqrt v)⁻¹ := inv_nonneg.mpr (Real.sqrt_nonneg v)
    have es : ∑ k ∈ range 1024, A.dxh i k * A.xh i k = (∑ k ∈ range 1024, A.X i k * A.dxh i k) * A.rr i := by
      rw [er, ← sum_mul_real _ r0]
      refine Finset.sum_congr rfl fun k _ => ?_
      unfold xh
      rw [er, ← mul_assoc, mul_comm (A.dxh i k)]
    unfold dx dms
    rw [es]
    unfold xh
    rw [er, h, Ideal.div_coe hv.ne', q, ex]
    generalize (Real.sqrt v)⁻¹ = r at *
    generalize (∑ k ∈ range 1024, A.X i k * A.dxh i k) = s
    generalize A.dxh i l = d
    refine congrArg (A.C i l + ·) ?_
    have e1 : s * (((-(1 / 2) : ℝ) : EReal) * ((r : EReal) * ((r * r : ℝ) : EReal))) * ((1 / 1024 : ℝ) : EReal) = s * ((-(1 / 2) * (r * (r * r)) * (1 / 1024) : ℝ) : EReal) := by
      rw [← EReal.coe_mul, ← EReal.coe_mul, mul_assoc, ← EReal.coe_mul]
    have e2 : (x : EReal) * (s * ((-(1 / 2) * (r * (r * r)) * (1 / 1024) : ℝ) : EReal)) = s * ((-(1 / 2) * (r * (r * r)) * (1 / 1024) * x : ℝ) : EReal) := by
      rw [mul_comm, mul_assoc, ← EReal.coe_mul]
    have e3 : (x : EReal) * (r : EReal) * (s * (r : EReal) * ((1 / 1024 : ℝ) : EReal)) = s * ((x * r * (r * (1 / 1024)) : ℝ) : EReal) := by
      rw [mul_assoc s, mul_left_comm, EReal.coe_mul (x * r), EReal.coe_mul x, EReal.coe_mul r]
    rw [e1, mul_comm _ (x : EReal), e2, e3, add_assoc, twice, sub_eq_add_neg, EReal.left_distrib_of_nonneg_of_ne_top (EReal.coe_nonneg.mpr r0) (EReal.coe_ne_top r),
      mul_comm d, mul_neg, mul_left_comm (r : EReal) s, ← EReal.coe_mul, ← mul_neg, ← EReal.coe_neg]
    refine congrArg (fun t : ℝ => (r : EReal) * d + s * (t : EReal)) ?_
    ring

end Arr

open Idealize.ShloMosaic hiding ix0 ix1 ix2 ix3 ix4 ix5
open Idealize.ShloMosaic.ValueIdx
open AttK (M)

/-! ## Arrays and their entries -/

/-- The array's entries are those of a matrix. -/
def Is {a b : ℕ} (x : (M a b).Idx → EReal) (X : ℕ → ℕ → EReal) : Prop := ∀ i l, x (ix2 i l) = X i.val l.val

/-- The entries of an array of rows, and zero outside of it. -/
def entry {a b : ℕ} (x : (M a b).Idx → EReal) (i l : ℕ) : EReal :=
  if h : i < a ∧ l < b then x (ix2 (⟨i, h.1⟩ : Fin a) (⟨l, h.2⟩ : Fin b)) else 0

theorem entry_is {a b : ℕ} (x : (M a b).Idx → EReal) : Is x (entry x) := fun i l => by
  unfold entry; rw [dif_pos ⟨i.isLt, l.isLt⟩]

/-- The array's entries are given by a function of the index. -/
def Re {s : Shape} (x : s.Idx → EReal) (f : s.Idx → EReal) : Prop := ∀ i, x i = f i

theorem re_of_is {a b : ℕ} {x : (M a b).Idx → EReal} {X : ℕ → ℕ → EReal} (h : Is x X) : Re x (fun i => X (i 0).val (i 1).val) := fun i => by
  rw [Ffn.split2 i]; exact h _ _

section
variable {s t : Shape} {x y : s.Idx → EReal} {f g : s.Idx → EReal}

theorem Re.to (h : Re x f) (e : ∀ i, f i = g i) : Re x g := fun i => (h i).trans (e i)
theorem Re.lay (h : Re x f) {y : t.Idx → EReal} {idx : t.Idx → s.Idx} (ha : ∀ i, y i = x (idx i)) {g : t.Idx → EReal} (e : ∀ i, f (idx i) = g i) : Re y g :=
  fun i => (ha i).trans ((h _).trans (e i))
theorem Re.mul (hx : Re x f) (hy : Re y g) : Re (fun i => x i * y i) (fun i => f i * g i) := fun i => congrArg₂ (fun p q : EReal => p * q) (hx i) (hy i)
theorem Re.add (hx : Re x f) (hy : Re y g) : Re (fun i => x i + y i) (fun i => f i + g i) := fun i => congrArg₂ (fun p q : EReal => p + q) (hx i) (hy i)
theorem Re.div (hx : Re x f) (hy : Re y g) : Re (fun i => Ideal.div (x i) (y i)) (fun i => Ideal.div (f i) (g i)) := fun i => congrArg₂ Ideal.div (hx i) (hy i)
theorem Re.divK (hx : Re x f) (hy : Re y (fun _ => ((1024 : ℝ) : EReal))) : Re (fun i => Ideal.div (x i) (y i)) (fun i => f i * ((1 / 1024 : ℝ) : EReal)) :=
  fun i => (congrArg₂ Ideal.div (hx i) (hy i)).trans (Ideal.div_coe (by norm_num) _)
theorem Re.rsqrt (hx : Re x f) : Re (fun i => Ideal.rsqrt (x i)) (fun i => Ideal.rsqrt (f i)) := fun i => congrArg Ideal.rsqrt (hx i)

/-- A sum over one axis. -/
theorem Re.sum {n : ℕ} (hx : Re x f) {y : t.Idx → EReal} {z : EReal} {idx : t.Idx → Fin n → s.Idx} (ha : ∀ i, y i = z + ∑ k : Fin n, x (idx i k))
    (hz : z = 0) {G : t.Idx → ℕ → EReal} (e : ∀ i (k : Fin n), f (idx i k) = G i k.val) : Re y (fun i => ∑ k ∈ range n, G i k) := fun i => by
  show y i = ∑ k ∈ range n, G i k
  rw [ha i, hz, zero_add, ← Fin.sum_univ_eq_sum_range (G i)]
  exact Finset.sum_congr rfl fun k _ => (hx _).trans (e i k)

/-- A product over one contracted axis. -/
theorem Re.dot {n : ℕ} {u : Shape} {w : u.Idx → EReal} {g : u.Idx → EReal} (hx : Re x f) (hw : Re w g)
    {y : t.Idx → EReal} {lidx : t.Idx → Fin n → s.Idx} {ridx : t.Idx → Fin n → u.Idx}
    (ha : ∀ i, y i = ∑ k : Fin n, x (lidx i k) * w (ridx i k)) {G : t.Idx → ℕ → EReal} (e : ∀ i (k : Fin n), f (lidx i k) * g (ridx i k) = G i k.val) :
    Re y (fun i => ∑ k ∈ range n, G i k) := fun i => by
  show y i = ∑ k ∈ range n, G i k
  rw [ha i, ← Fin.sum_univ_eq_sum_range (G i)]
  exact Finset.sum_congr rfl fun k _ => (congrArg₂ (fun p q : EReal => p * q) (hx _) (hw _)).trans (e i k)

end

/-! ## A block of rows -/

variable {A : Arr}

/-- A product of two matrices. -/
theorem nn_is {a b k : ℕ} {φ₁ φ₂ : FTy} {X Y : ℕ → ℕ → EReal} {x : FVec Ideal (M a k) φ₁} {y : FVec Ideal (M k b) φ₂} (hx : Is x X) (hy : Is y Y) :
    Is (matmul (DotDims.plain a k b) none x y (constant (M a b) .f32 0x00000000#32)) (fun i l => ∑ j ∈ range k, X i j * Y j l) := fun i l => by
  show _ = ∑ j ∈ range k, X i.val j * Y j l.val
  rw [Ffn.nn_zero, ← Fin.sum_univ_eq_sum_range (fun j => X i.val j * Y j l.val)]
  exact Finset.sum_congr rfl fun j _ => congrArg₂ (fun p q : EReal => p * q) (hx i j) (hy j l)

/-- The sum of each row. -/
theorem row_is {X : ℕ → ℕ → EReal} {x : FVec Ideal (M 512 1024) .f32} (hx : Is x X) (r : Fin 512) (u : Fin 1) :
    AttK.rowsum 512 1024 x (ix2 r u) = ∑ j ∈ range 1024, X r.val j := by
  rw [AttK.rowsum_apply, ← Fin.sum_univ_eq_sum_range (fun j => X r.val j)]
  exact Finset.sum_congr rfl fun j _ => hx r j

/-- The sum of each column, onto a row that is there. -/
theorem col_is {b : ℕ} {X : ℕ → ℕ → EReal} {x : FVec Ideal (M 512 b) .f32} (hx : Is x X) (hr : (M 512 b).Reduces [0] ⟨1, ![b]⟩)
    (hc : (⟨1, ![b]⟩ : Shape).ShapeCasts (M 1 b)) {a : FVec Ideal (M 1 b) .f32} (s : EReal) (l : Fin b) (ha : a (ix2 0 l) = s) :
    addf a (shapeCast (M 1 b) (multiReduction .add [0] ⟨1, ![b]⟩ x 0x00000000#32 hr (.inl rfl) rfl) hc) (ix2 0 l) = s + ∑ i ∈ range 512, X i l.val := by
  rw [addf_apply, ha, shapeCast_a_1a_apply]
  refine (congrArg (fun q : EReal => s + q) (Ideal.reduceAdd_r2_a0 hr _ (ix1 l))).trans ?_
  refine congrArg (fun q : EReal => s + q) ?_
  rw [← Fin.sum_univ_eq_sum_range (fun i => X i l.val)]
  exact Finset.sum_congr rfl fun i _ => hx i l

/-- A row's reciprocal root of its mean square. -/
theorem rr_is {x : FVec Ideal (M 512 1024) .f32} (hx : Is x A.X) (r : Fin 512) (u : Fin 1) :
    Ideal.rsqrt (Ideal.div (AttK.rowsum 512 1024 (mulf x x) (ix2 r u)) (FloatOps.ofBits .f32 0x44800000#32 : Ideal .f32)
      + (FloatOps.ofBits .f32 0x358637BD#32 : Ideal .f32)) = A.rr r.val := by
  rw [row_is (X := fun i k => A.X i k * A.X i k) (fun i k => by rw [mulf_apply, hx]) r u, Ffn.lit1024, AttK.litEps, Ideal.div_coe (by norm_num)]
  rfl

/-- The stream times its row's factor. -/
theorem xh_is {x : FVec Ideal (M 512 1024) .f32} {q : FVec Ideal (M 512 1) .f32} (hx : Is x A.X) (hq : ∀ r : Fin 512, q (ix2 r 0) = A.rr r.val)
    (hb : (M 512 1).Broadcasts (M 512 1024)) : Is (mulf x (broadcastTo (M 512 1024) q hb)) A.xh := fun r l => by
  rw [mulf_apply, AttK.bCol_apply 512 1024, hq, hx]; rfl

/-- The cotangent times the gain. -/
theorem dxh_is {d : FVec Ideal (M 512 1024) .f32} {g : FVec Ideal (M 1 1024) .f32} (hd : Is d A.dh) (hg : ∀ l : Fin 1024, g (ix2 0 l) = A.g l.val)
    (hb : (M 1 1024).Broadcasts (M 512 1024)) : Is (mulf d (broadcastTo (M 512 1024) g hb)) A.dxh := fun r l => by
  rw [mulf_apply, AttK.bRow_apply 512 1024, hd, hg]; rfl

/-- The stream's gradient, from its parts. -/
theorem dx_is {d x e : FVec Ideal (M 512 1024) .f32} {q : FVec Ideal (M 512 1) .f32} (hd : Is d A.dxh) (hx : Is x A.xh) (he : Is e A.C)
    (hq : ∀ r : Fin 512, q (ix2 r 0) = A.rr r.val) (hb : (M 512 1).Broadcasts (M 512 1024)) :
    Is (addf e (mulf (broadcastTo (M 512 1024) q hb) (subf d (mulf x (broadcastTo (M 512 1024)
      (divf (AttK.rowsum 512 1024 (mulf d x)) (broadcast (M 512 1) (FloatOps.ofBits .f32 0x44800000#32 : Ideal .f32))) hb))))) A.dx := fun r l => by
  rw [addf_apply, mulf_apply, AttK.bCol_apply 512 1024, subf_apply, mulf_apply, AttK.bCol_apply 512 1024, hq, hd, hx, he]
  have er : Ideal.div (AttK.rowsum 512 1024 (mulf d x) (ix2 r 0)) (FloatOps.ofBits .f32 0x44800000#32 : Ideal .f32)
      = (∑ k ∈ range 1024, A.dxh r.val k * A.xh r.val k) * ((1 / 1024 : ℝ) : EReal) := by
    rw [row_is (X := fun i k => A.dxh i k * A.xh i k) (fun i k => by rw [mulf_apply, hd, hx]) r 0, Ffn.lit1024, Ideal.div_coe (by norm_num)]
  exact congrArg (fun (s : EReal) => A.C r.val l.val + A.rr r.val * (A.dxh r.val l.val - A.xh r.val l.val * s)) er

end NormB
-- ==== Proof.NormB0Point.lean ====
/-
  The blocks that a grid point of the first layer's input projection backwards leaves, and what they hold.
-/
module

public import proofs.«01_k».proof.Proof.NormBwdModel
public import proofs.«01_k».proof.Proof.Gen.Kernel10Ideal.Value

@[expose] public section

noncomputable section

namespace NormB0

open Idealize.ShloMosaic hiding ix0 ix1 ix2 ix3 ix4 ix5
open Idealize.ShloMosaic.ValueIdx Idealize.ShloMosaic.TcCoe Cert.Kernel10Ideal Cert.Kernel10Ideal.Gen Cert.Kernel10Ideal.Value
open NormB (Arr Is Re re_of_is)
open Finset (range)

variable {A : Arr}

section
variable {d : FVec Ideal S512x1024 .f32} {x : FVec Ideal S512x1024 .f32} {g a : FVec Ideal S1x1024 .f32} {e : FVec Ideal S512x1024 .bf16}

theorem p1 (hx : Is x A.X) (r : Fin 512) (u : Fin 1) : k0_pay1 (F := Ideal) x (ix2 r u) = (A.rr r.val) := NormB.rr_is hx r u

theorem p2 (hx : Is x A.X) : Is (k0_pay2 (F := Ideal) x) A.xh := NormB.xh_is hx (fun r => p1 hx r 0) _

theorem p3 (hd : Is d A.dh) (hx : Is x A.X) (s : EReal) (l : Fin 1024) (ha : a (ix2 0 l) = s) :
    k0_pay3 (F := Ideal) d x a (ix2 0 l) = (s + A.dgain 512 l.val) := by
  unfold k0_pay3
  rw [shapeCast_id]
  exact NormB.col_is (X := fun i l => A.dh i l * A.xh i l) (fun i l => by rw [mulf_apply, hd, p2 hx]) reduces_S512x1024_S1024
    shapeCasts_S1024_S1x1024 s l ha

theorem p4 (hd : Is d A.dh) (hx : Is x A.X) (hg : ∀ l : Fin 1024, g (ix2 0 l) = (A.g l.val)) (he : Is e A.C) :
    Is (k0_pay4 (F := Ideal) d x g e) A.dx := by
  unfold k0_pay4
  exact NormB.dx_is (e := extf .f32 e bitsLt_bf16_f32) (NormB.dxh_is hd hg broadcasts_S1x1024_S512x1024) (p2 hx) he (fun r => p1 hx r 0) broadcasts_S512x1_S512x1024

theorem p5 (l : Fin 1024) : k0_pay5 (F := Ideal) (ix2 0 l) = (0) := (AttK.lit0.trans EReal.coe_zero)

end

/-- The four pieces' products add up to the product of the pieces side by side. -/
theorem dh_split (n : A.n = 768 + 768 + 768 + 256) (i l : ℕ) : A.dh i l = ∑ p ∈ range 768, A.D i p * A.W p l + ∑ p ∈ range 768, A.D i (768 + p) * A.W (768 + p) l
    + ∑ p ∈ range 768, A.D i (1536 + p) * A.W (1536 + p) l + ∑ p ∈ range 256, A.D i (2304 + p) * A.W (2304 + p) l := by
  unfold Arr.dh
  rw [n, Finset.sum_range_add _ (768 + 768 + 768) 256, Finset.sum_range_add _ (768 + 768) 768, Finset.sum_range_add _ 768 768]

theorem p8 (n : A.n = 768 + 768 + 768 + 256) {x0 x1 x2 : FVec Ideal S512x768 .bf16} {x3 : FVec Ideal S512x256 .bf16} {w0 w1 w2 : FVec Ideal S768x1024 .bf16}
    {w3 : FVec Ideal S256x1024 .bf16} (h0 : Is x0 A.D) (k0 : Is w0 A.W) (h1 : Is x1 (fun i p => A.D i (768 + p))) (k1 : Is w1 (fun p => A.W (768 + p)))
    (h2 : Is x2 (fun i p => A.D i (1536 + p))) (k2 : Is w2 (fun p => A.W (1536 + p))) (h3 : Is x3 (fun i p => A.D i (2304 + p)))
    (k3 : Is w3 (fun p => A.W (2304 + p))) : Is (k0_pay8 (F := Ideal) x0 w0 x1 w1 x2 w2 x3 w3) A.dh := fun r l => by
  unfold k0_pay8
  rw [addf_apply, addf_apply, addf_apply, dh_split n]
  exact (congrArg₂ (fun p q : EReal => p + q) (congrArg₂ (fun p q : EReal => p + q) (congrArg₂ (fun p q : EReal => p + q) (NormB.nn_is h0 k0 r l)
    (NormB.nn_is h1 k1 r l)) (NormB.nn_is h2 k2 r l)) (NormB.nn_is h3 k3 r l))

variable (m : (ℓ : Loc nD τ sig) → Buf (Elt Ideal) ℓ) (c : Dev nD)

/-- The rows of the weight that a piece multiplies. -/
abbrev w0 (t : Fin cfg0.N) : FVec Ideal S768x1024 .bf16 := View.ld (iblk m c 4 t) (Rect.unit ![0, 0] ![768, 1024] inb_S2560x1024_S768x1024_0_0)
abbrev w1 (t : Fin cfg0.N) : FVec Ideal S768x1024 .bf16 := View.ld (iblk m c 4 t) (Rect.unit ![768, 0] ![768, 1024] inb_S2560x1024_S768x1024_768_0)
abbrev w2 (t : Fin cfg0.N) : FVec Ideal S768x1024 .bf16 := View.ld (iblk m c 4 t) (Rect.unit ![1536, 0] ![768, 1024] inb_S2560x1024_S768x1024_1536_0)
abbrev w3 (t : Fin cfg0.N) : FVec Ideal S256x1024 .bf16 := View.ld (iblk m c 4 t) (Rect.unit ![2304, 0] ![256, 1024] inb_S2560x1024_S256x1024_2304_0)
abbrev oh (t : Fin cfg0.N) : FVec Ideal S512x1024 .f32 :=
  k0_pay8 (F := Ideal) (iblk m c 0 t) (w0 m c t) (iblk m c 1 t) (w1 m c t) (iblk m c 2 t) (w2 m c t) (iblk m c 3 t) (w3 m c t)
abbrev ox (t : Fin cfg0.N) : FVec Ideal S512x1024 .f32 := k0_pay4 (F := Ideal) (oh m c t) (iblk m c 5 t) (iblk m c 6 t) (iblk m c 7 t)
abbrev og (t : Fin cfg0.N) (acc : FVec Ideal S1x1024 .f32) : FVec Ideal S1x1024 .f32 := k0_pay3 (F := Ideal) (oh m c t) (iblk m c 5 t) acc

theorem ax (t : Fin cfg0.N) (h0 : t.val % 8 = 0) : (outsAt0 m c t.val t.isLt).1 = ox m c t := by
  rw [outsAt0_A m c t h0]; dsimp only; frame_out; rfl
theorem bx (t : Fin cfg0.N) (h0 : ¬t.val % 8 = 0) : (outsAt0 m c t.val t.isLt).1 = ox m c t := by
  rw [outsAt0_B m c t h0]; dsimp only; frame_out; rfl
theorem out_x (t : Fin cfg0.N) : (outsAt0 m c t.val t.isLt).1 = ox m c t := by
  by_cases h : t.val % 8 = 0
  · exact ax m c t h
  · exact bx m c t h
theorem ag (t : Fin cfg0.N) (h0 : t.val % 8 = 0) : (outsAt0 m c t.val t.isLt).2.1 = og m c t (k0_pay5 (F := Ideal)) := by
  rw [outsAt0_A m c t h0]; dsimp only; frame_out; rfl
theorem bg (t : Fin cfg0.N) (h0 : ¬t.val % 8 = 0) : (outsAt0 m c t.val t.isLt).2.1 = og m c t (outsAt0 m c (t.val - 1) (Nat.lt_of_le_of_lt (Nat.sub_le _ _) t.isLt)).2.1 := by
  rw [outsAt0_B m c t h0]; dsimp only; frame_out; rfl

end NormB0
-- ==== Proof.NormB0Ref.lean ====
/-
  The reference of the first layer's input projection backwards, line by line: every array of its derivative holds the entries of the model.
-/
module

public import proofs.«01_k».proof.Proof.GradWin
public import proofs.«01_k».proof.Proof.NormBwdModel
public import proofs.«01_k».proof.Proof.Gen.Reference10Ideal.Read

@[expose] public section

noncomputable section

namespace NormB0

open Idealize.ShloMosaic hiding ix0 ix1 ix2 ix3 ix4 ix5
open Idealize.ShloMosaic.ValueIdx Cert.Reference10Ideal Cert.Reference10Ideal.Gen Cert.Reference10Ideal.Read
open NormB (Arr Is Re re_of_is entry entry_is)
open scoped BigOperators
open Finset (range)

/-- The arguments hold the entries of `A`. -/
structure Reads (A : Arr) (x0 x1 x2 : FVec Ideal S4096x768 .bf16) (x3 : FVec Ideal S4096x256 .bf16) (x4 : FVec Ideal S2560x1024 .bf16) (x5 : FVec Ideal S4096x1024 .f32)
  (x6 : FVec Ideal S1x1024 .f32) (x7 : FVec Ideal S4096x1024 .bf16) : Prop where
  n : A.n = 2560
  D : Is (GradWin.join x0 x1 x2 x3) A.D
  W : Is x4 A.W
  X : Is x5 A.X
  g : ∀ l : Fin 1024, x6 (ix2 0 l) = (A.g l.val)
  C : Is x7 A.C

/-- The matrices that the arguments hold. -/
def arr (x0 x1 x2 : FVec Ideal S4096x768 .bf16) (x3 : FVec Ideal S4096x256 .bf16) (x4 : FVec Ideal S2560x1024 .bf16) (x5 : FVec Ideal S4096x1024 .f32)
  (x6 : FVec Ideal S1x1024 .f32) (x7 : FVec Ideal S4096x1024 .bf16) : Arr where
  n := 2560
  D := entry (a := 4096) (b := 2560) (GradWin.join x0 x1 x2 x3)
  W := entry (a := 2560) (b := 1024) x4
  C := entry (a := 4096) (b := 1024) x7
  X := entry (a := 4096) (b := 1024) x5
  g := entry (a := 1) (b := 1024) x6 0

theorem reads (x0 x1 x2 : FVec Ideal S4096x768 .bf16) (x3 : FVec Ideal S4096x256 .bf16) (x4 : FVec Ideal S2560x1024 .bf16) (x5 : FVec Ideal S4096x1024 .f32)
  (x6 : FVec Ideal S1x1024 .f32) (x7 : FVec Ideal S4096x1024 .bf16) : Reads (arr x0 x1 x2 x3 x4 x5 x6 x7) x0 x1 x2 x3 x4 x5 x6 x7 :=
  ⟨rfl, entry_is _, entry_is _, entry_is _, fun l => entry_is (a := 1) (b := 1024) x6 0 l, entry_is _⟩

variable {A : Arr} {x0 x1 x2 : FVec Ideal S4096x768 .bf16} {x3 : FVec Ideal S4096x256 .bf16} {x4 : FVec Ideal S2560x1024 .bf16} {x5 : FVec Ideal S4096x1024 .f32}
  {x6 : FVec Ideal S1x1024 .f32} {x7 : FVec Ideal S4096x1024 .bf16} (R : Reads A x0 x1 x2 x3 x4 x5 x6 x7)

section
include R

theorem rX : Re (s := S4096x1024) x5 (fun i => A.X (i 0).val (i 1).val) := re_of_is R.X
theorem rg : Re (s := S1x1024) x6 (fun i => A.g (i 1).val) := fun i => by
  rw [show i = ix2 0 (i 1) from funext fun a => by match a with | ⟨0, _⟩ => exact Fin.ext (Nat.lt_one_iff.mp (i 0).isLt) | ⟨1, _⟩ => rfl]
  exact R.g _
theorem rC : Re (s := S4096x1024) (val_main_v40 (F := Ideal) x7) (fun i => A.C (i 0).val (i 1).val) := re_of_is R.C
theorem rD : Re (s := S4096x2560) (val_main_v3 (F := Ideal) x0 x1 x2 x3) (fun i => A.D (i 0).val (i 1).val) := re_of_is R.D
theorem rW0 : Re (s := S2560x1024) (val_main_v0 (F := Ideal) x4) (fun i => A.W (i 0).val (i 1).val) := re_of_is R.W
theorem rW : Re (s := S1024x2560) (val_main_v1 (F := Ideal) x4) (fun i => A.W (i 1).val (i 0).val) :=
  (rW0 R).lay (idx := idx_main_v1) (val_main_v1_apply (F := Ideal) x4) fun _ => rfl

/-! ## The normalised stream -/

theorem r_ss : Re (s := S4096) (val_main_v5 (F := Ideal) x5) (fun i => ∑ k ∈ range 1024, A.X (i 0).val k * A.X (i 0).val k) :=
  ((rX R).mul (rX R)).sum (idx := idx_main_v5) (val_main_v5_apply x5) (AttK.lit0.trans EReal.coe_zero) fun i k => rfl
theorem r_ssr : Re (s := S4096x1) (val_main_v6 (F := Ideal) x5) (fun i => ∑ k ∈ range 1024, A.X (i 0).val k * A.X (i 0).val k) :=
  (r_ss R).lay (idx := idx_main_v6) (val_main_v6_apply (F := Ideal) x5) fun _ => rfl
omit R in
theorem r_k : Re (s := S4096x1) (val_main_v7 (F := Ideal)) (fun _ => ((1024 : ℝ) : EReal)) := fun _ => Ffn.lit1024
omit R in
theorem r_eps : Re (s := S4096x1) (val_main_v9 (F := Ideal)) (fun _ => ((Att.eps : ℝ) : EReal)) := fun _ => AttK.litEps
omit R in
theorem r_half : Re (s := S4096x1) (val_main_v13 (F := Ideal)) (fun _ => ((-(1 / 2) : ℝ) : EReal)) := fun _ => AttR.litHalf
theorem r_arg : Re (s := S4096x1) (val_main_v10 (F := Ideal) x5) (fun i => A.arg (i 0).val) := ((r_ssr R).divK r_k).add r_eps
theorem r_rr : Re (s := S4096x1) (val_main_v11 (F := Ideal) x5) (fun i => A.rr (i 0).val) := (r_arg R).rsqrt
theorem r_f : Re (s := S4096x1) (val_main_v14 (F := Ideal) x5) (fun i => ((-(1 / 2) : ℝ) : EReal) * Ideal.div (A.rr (i 0).val) (A.arg (i 0).val)) :=
  r_half.mul ((r_rr R).div (r_arg R))
theorem r_rb : Re (s := S4096x1024) (val_main_v15 (F := Ideal) x5) (fun i => A.rr (i 0).val) :=
  (r_rr R).lay (idx := idx_main_v15) (val_main_v15_apply (F := Ideal) x5) fun _ => rfl
theorem r_xh : Re (s := S4096x1024) (val_main_v16 (F := Ideal) x5) (fun i => A.xh (i 0).val (i 1).val) := (rX R).mul (r_rb R)

/-! ## Through the projection -/

theorem r_dh : Re (s := S4096x1024) (val_main_v20 (F := Ideal) x0 x1 x2 x3 x4) (fun i => A.dh (i 0).val (i 1).val) :=
  ((rD R).dot (rW R) (lidx := lidx_main_v20) (ridx := ridx_main_v20) (val_main_v20_apply x0 x1 x2 x3 x4)
    (G := fun i p => A.D (i 0).val p * A.W p (i 1).val) fun i k => rfl).to fun i => by unfold Arr.dh; rw [R.n]
theorem r_gs : Re (s := S1024) (val_main_v22 (F := Ideal) x0 x1 x2 x3 x4 x5) (fun i => A.dgain 4096 (i 0).val) :=
  (((r_xh R).mul (r_dh R)).sum (idx := idx_main_v22) (val_main_v22_apply x0 x1 x2 x3 x4 x5) (AttK.lit0.trans EReal.coe_zero)
    (G := fun i k => A.dh k (i 0).val * A.xh k (i 0).val) fun i k => mul_comm _ _).to fun _ => rfl
theorem r_g : Re (s := S1x1024) (val_main_v23 (F := Ideal) x0 x1 x2 x3 x4 x5) (fun i => A.dgain 4096 (i 1).val) :=
  (r_gs R).lay (idx := idx_main_v23) (val_main_v23_apply (F := Ideal) x0 x1 x2 x3 x4 x5) fun i => by
    have h0 : (i 0).val < 1 := (i 0).isLt
    show A.dgain 4096 ((i 0).val * 1024 + (i 1).val) = _
    rw [show (i 0).val * 1024 + (i 1).val = (i 1).val by omega]

/-! ## Through the normalisation -/

theorem r_gb : Re (s := S4096x1024) (val_main_v24 (F := Ideal) x6) (fun i => A.g (i 1).val) :=
  (rg R).lay (idx := idx_main_v24) (val_main_v24_apply (F := Ideal) x6) fun _ => rfl
theorem r_dxh : Re (s := S4096x1024) (val_main_v25 (F := Ideal) x0 x1 x2 x3 x4 x6) (fun i => A.dxh (i 0).val (i 1).val) := (r_dh R).mul (r_gb R)
theorem r_xs : Re (s := S4096) (val_main_v27 (F := Ideal) x0 x1 x2 x3 x4 x5 x6) (fun i => ∑ k ∈ range 1024, A.X (i 0).val k * A.dxh (i 0).val k) :=
  ((rX R).mul (r_dxh R)).sum (idx := idx_main_v27) (val_main_v27_apply x0 x1 x2 x3 x4 x5 x6) (AttK.lit0.trans EReal.coe_zero) fun i k => rfl
theorem r_xr : Re (s := S4096x1) (val_main_v28 (F := Ideal) x0 x1 x2 x3 x4 x5 x6) (fun i => ∑ k ∈ range 1024, A.X (i 0).val k * A.dxh (i 0).val k) :=
  (r_xs R).lay (idx := idx_main_v28) (val_main_v28_apply (F := Ideal) x0 x1 x2 x3 x4 x5 x6) fun i => by
    have h1 : (i 1).val < 1 := (i 1).isLt
    show ∑ k ∈ range 1024, A.X ((i 0).val * 1 + (i 1).val) k * A.dxh ((i 0).val * 1 + (i 1).val) k = _
    rw [show (i 0).val * 1 + (i 1).val = (i 0).val by omega]
theorem r_rb2 : Re (s := S4096x1024) (val_main_v29 (F := Ideal) x5) (fun i => A.rr (i 0).val) :=
  (r_rr R).lay (idx := idx_main_v29) (val_main_v29_apply (F := Ideal) x5) fun _ => rfl
omit R in
theorem r_k2 : Re (s := S4096x1) (val_main_v32 (F := Ideal)) (fun _ => ((1024 : ℝ) : EReal)) := fun _ => Ffn.lit1024
theorem r_dms : Re (s := S4096x1) (val_main_v33 (F := Ideal) x0 x1 x2 x3 x4 x5 x6) (fun i => A.dms (i 0).val) :=
  ((r_xr R).mul (r_f R)).divK r_k2
theorem r_ms : Re (s := S4096) (val_main_v34 (F := Ideal) x0 x1 x2 x3 x4 x5 x6) (fun i => A.dms (i 0).val) :=
  ((r_dms R).sum (idx := idx_main_v34) (val_main_v34_apply x0 x1 x2 x3 x4 x5 x6) (AttK.lit0.trans EReal.coe_zero) (G := fun i _ => A.dms (i 0).val) fun i k => rfl).to
    fun i => Finset.sum_range_one _
theorem r_mb : Re (s := S4096x1024) (val_main_v35 (F := Ideal) x0 x1 x2 x3 x4 x5 x6) (fun i => A.dms (i 0).val) :=
  (r_ms R).lay (idx := idx_main_v35) (val_main_v35_apply (F := Ideal) x0 x1 x2 x3 x4 x5 x6) fun _ => rfl
theorem r_dx : Re (s := S4096x1024) (val_main_v41 (F := Ideal) x0 x1 x2 x3 x4 x5 x6 x7) (fun i => A.dx (i 0).val (i 1).val) :=
  ((rC R).add ((((r_dxh R).mul (r_rb2 R)).add ((rX R).mul (r_mb R))).add ((r_mb R).mul (rX R)))).to fun i => A.dx_eq _ _ (i 1).isLt

end

end NormB0
-- ==== Proof.NormB0Run.lean ====
/-
  The result arrays of the first layer's input projection backwards: each block's rows are those of the model's gradients, and the sums over
  the rows gather the rows of all the blocks.
-/
module

public import proofs.«01_k».proof.Proof.NormB0Point
public import proofs.«01_k».proof.Proof.NormB0Ref

@[expose] public section

noncomputable section

namespace NormB0

open Idealize.ShloMosaic hiding ix0 ix1 ix2 ix3 ix4 ix5
open Idealize.ShloMosaic.ValueIdx Idealize.ShloMosaic.TcCoe Cert.Kernel10Ideal Cert.Kernel10Ideal.Gen Cert.Kernel10Ideal.Value
open NormB (Arr Is Re re_of_is)
open Finset (range)

variable (m : (ℓ : Loc nD τ sig) → Buf (Elt Ideal) ℓ) (c : Dev nD)

/-- Row `r` of point `t`'s block. -/
def row (t : Fin 8) (r : Fin 512) : Fin 4096 := ⟨512 * t.val + r.val, by omega⟩

def pt (t : Fin 8) : Fin cfg0.N := ⟨t.val, lt_of_lt_of_eq t.isLt N_0.symm⟩

/-- The device's arguments hold the entries of `A`. -/
abbrev Holds (A : Arr) : Prop :=
  Reads A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

variable {A : Arr} (R : Holds m c A)

/-! ## The blocks that a point reads -/

theorem blk0 (t : Fin 8) (r : Fin 512) (l : Fin 768) : (iblk m c 0 (pt t) : FVec Ideal S512x768 .bf16) (ix2 r l)
    = m ((c : Thread nD τ).loc main_arg0) (ix2 (row t r) l) := by
  have hi : ∀ t : Fin 8, win0_0.index (pt t) 0 = t.val ∧ win0_0.index (pt t) 1 = 0 := by decide
  unfold iblk
  rw [View.read_apply]
  show V m c main_arg0 _ = m ((c : Thread nD τ).loc main_arg0) _
  rw [V_main_arg0]
  congr 1
  funext a
  apply Fin.ext
  match a with
  | ⟨0, _⟩ => show win0_0.index (pt t) 0 * 512 + 1 * r.val = 512 * t.val + r.val; rw [(hi t).1]; omega
  | ⟨1, _⟩ => show win0_0.index (pt t) 1 * 768 + 1 * l.val = l.val; rw [(hi t).2]; omega

theorem blk1 (t : Fin 8) (r : Fin 512) (l : Fin 768) : (iblk m c 1 (pt t) : FVec Ideal S512x768 .bf16) (ix2 r l)
    = m ((c : Thread nD τ).loc main_arg1) (ix2 (row t r) l) := by
  have hi : ∀ t : Fin 8, win0_1.index (pt t) 0 = t.val ∧ win0_1.index (pt t) 1 = 0 := by decide
  unfold iblk
  rw [View.read_apply]
  show V m c main_arg1 _ = m ((c : Thread nD τ).loc main_arg1) _
  rw [V_main_arg1]
  congr 1
  funext a
  apply Fin.ext
  match a with
  | ⟨0, _⟩ => show win0_1.index (pt t) 0 * 512 + 1 * r.val = 512 * t.val + r.val; rw [(hi t).1]; omega
  | ⟨1, _⟩ => show win0_1.index (pt t) 1 * 768 + 1 * l.val = l.val; rw [(hi t).2]; omega

theorem blk2 (t : Fin 8) (r : Fin 512) (l : Fin 768) : (iblk m c 2 (pt t) : FVec Ideal S512x768 .bf16) (ix2 r l)
    = m ((c : Thread nD τ).loc main_arg2) (ix2 (row t r) l) := by
  have hi : ∀ t : Fin 8, win0_2.index (pt t) 0 = t.val ∧ win0_2.index (pt t) 1 = 0 := by decide
  unfold iblk
  rw [View.read_apply]
  show V m c main_arg2 _ = m ((c : Thread nD τ).loc main_arg2) _
  rw [V_main_arg2]
  congr 1
  funext a
  apply Fin.ext
  match a with
  | ⟨0, _⟩ => show win0_2.index (pt t) 0 * 512 + 1 * r.val = 512 * t.val + r.val; rw [(hi t).1]; omega
  | ⟨1, _⟩ => show win0_2.index (pt t) 1 * 768 + 1 * l.val = l.val; rw [(hi t).2]; omega

theorem blk3 (t : Fin 8) (r : Fin 512) (l : Fin 256) : (iblk m c 3 (pt t) : FVec Ideal S512x256 .bf16) (ix2 r l)
    = m ((c : Thread nD τ).loc main_arg3) (ix2 (row t r) l) := by
  have hi : ∀ t : Fin 8, win0_3.index (pt t) 0 = t.val ∧ win0_3.index (pt t) 1 = 0 := by decide
  unfold iblk
  rw [View.read_apply]
  show V m c main_arg3 _ = m ((c : Thread nD τ).loc main_arg3) _
  rw [V_main_arg3]
  congr 1
  funext a
  apply Fin.ext
  match a with
  | ⟨0, _⟩ => show win0_3.index (pt t) 0 * 512 + 1 * r.val = 512 * t.val + r.val; rw [(hi t).1]; omega
  | ⟨1, _⟩ => show win0_3.index (pt t) 1 * 256 + 1 * l.val = l.val; rw [(hi t).2]; omega

theorem blk4 (t : Fin 8) (r : Fin 2560) (l : Fin 1024) : (iblk m c 4 (pt t) : FVec Ideal S2560x1024 .bf16) (ix2 r l)
    = m ((c : Thread nD τ).loc main_arg4) (ix2 r l) := by
  have hi : ∀ t : Fin 8, win0_4.index (pt t) 0 = 0 ∧ win0_4.index (pt t) 1 = 0 := by decide
  unfold iblk
  rw [View.read_apply]
  show V m c main_arg4 _ = m ((c : Thread nD τ).loc main_arg4) _
  rw [V_main_arg4]
  congr 1
  funext a
  apply Fin.ext
  match a with
  | ⟨0, _⟩ => show win0_4.index (pt t) 0 * 2560 + 1 * r.val = r.val; rw [(hi t).1]; omega
  | ⟨1, _⟩ => show win0_4.index (pt t) 1 * 1024 + 1 * l.val = l.val; rw [(hi t).2]; omega

theorem blk5 (t : Fin 8) (r : Fin 512) (l : Fin 1024) : (iblk m c 5 (pt t) : FVec Ideal S512x1024 .f32) (ix2 r l)
    = m ((c : Thread nD τ).loc main_arg5) (ix2 (row t r) l) := by
  have hi : ∀ t : Fin 8, win0_5.index (pt t) 0 = t.val ∧ win0_5.index (pt t) 1 = 0 := by decide
  unfold iblk
  rw [View.read_apply]
  show V m c main_arg5 _ = m ((c : Thread nD τ).loc main_arg5) _
  rw [V_main_arg5]
  congr 1
  funext a
  apply Fin.ext
  match a with
  | ⟨0, _⟩ => show win0_5.index (pt t) 0 * 512 + 1 * r.val = 512 * t.val + r.val; rw [(hi t).1]; omega
  | ⟨1, _⟩ => show win0_5.index (pt t) 1 * 1024 + 1 * l.val = l.val; rw [(hi t).2]; omega

theorem blk6 (t : Fin 8) (r : Fin 1) (l : Fin 1024) : (iblk m c 6 (pt t) : FVec Ideal S1x1024 .f32) (ix2 r l)
    = m ((c : Thread nD τ).loc main_arg6) (ix2 r l) := by
  have hi : ∀ t : Fin 8, win0_6.index (pt t) 0 = 0 ∧ win0_6.index (pt t) 1 = 0 := by decide
  unfold iblk
  rw [View.read_apply]
  show V m c main_arg6 _ = m ((c : Thread nD τ).loc main_arg6) _
  rw [V_main_arg6]
  congr 1
  funext a
  apply Fin.ext
  match a with
  | ⟨0, _⟩ => show win0_6.index (pt t) 0 * 1 + 1 * r.val = r.val; rw [(hi t).1]; omega
  | ⟨1, _⟩ => show win0_6.index (pt t) 1 * 1024 + 1 * l.val = l.val; rw [(hi t).2]; omega

theorem blk7 (t : Fin 8) (r : Fin 512) (l : Fin 1024) : (iblk m c 7 (pt t) : FVec Ideal S512x1024 .bf16) (ix2 r l)
    = m ((c : Thread nD τ).loc main_arg7) (ix2 (row t r) l) := by
  have hi : ∀ t : Fin 8, win0_7.index (pt t) 0 = t.val ∧ win0_7.index (pt t) 1 = 0 := by decide
  unfold iblk
  rw [View.read_apply]
  show V m c main_arg7 _ = m ((c : Thread nD τ).loc main_arg7) _
  rw [V_main_arg7]
  congr 1
  funext a
  apply Fin.ext
  match a with
  | ⟨0, _⟩ => show win0_7.index (pt t) 0 * 512 + 1 * r.val = 512 * t.val + r.val; rw [(hi t).1]; omega
  | ⟨1, _⟩ => show win0_7.index (pt t) 1 * 1024 + 1 * l.val = l.val; rw [(hi t).2]; omega

section
include R

theorem is0 (t : Fin 8) : Is (a := 512) (b := 768) (iblk m c 0 (pt t) : FVec Ideal S512x768 .bf16) (A.shift (512 * t.val)).D := fun r p => by
  refine (blk0 m c t r p).trans ((GradWin.join0 (m ((c : Thread nD τ).loc main_arg0)) (m ((c : Thread nD τ).loc main_arg1)) (m ((c : Thread nD τ).loc main_arg2)) (m ((c : Thread nD τ).loc main_arg3)) (row t r) p).symm.trans ?_)
  refine (R.D (row t r) ⟨0 + p.val, by omega⟩).trans ?_
  show (A.D (512 * t.val + r.val) (0 + p.val)) = _
  rw [Nat.zero_add]; rfl
theorem is1 (t : Fin 8) : Is (a := 512) (b := 768) (iblk m c 1 (pt t) : FVec Ideal S512x768 .bf16) (fun i p => (A.shift (512 * t.val)).D i (768 + p)) := fun r p => by
  refine (blk1 m c t r p).trans ((GradWin.join1 (m ((c : Thread nD τ).loc main_arg0)) (m ((c : Thread nD τ).loc main_arg1)) (m ((c : Thread nD τ).loc main_arg2)) (m ((c : Thread nD τ).loc main_arg3)) (row t r) p).symm.trans ?_)
  exact R.D (row t r) ⟨768 + p.val, by omega⟩
theorem is2 (t : Fin 8) : Is (a := 512) (b := 768) (iblk m c 2 (pt t) : FVec Ideal S512x768 .bf16) (fun i p => (A.shift (512 * t.val)).D i (1536 + p)) := fun r p => by
  refine (blk2 m c t r p).trans ((GradWin.join2 (m ((c : Thread nD τ).loc main_arg0)) (m ((c : Thread nD τ).loc main_arg1)) (m ((c : Thread nD τ).loc main_arg2)) (m ((c : Thread nD τ).loc main_arg3)) (row t r) p).symm.trans ?_)
  exact R.D (row t r) ⟨1536 + p.val, by omega⟩
theorem is3 (t : Fin 8) : Is (a := 512) (b := 256) (iblk m c 3 (pt t) : FVec Ideal S512x256 .bf16) (fun i p => (A.shift (512 * t.val)).D i (2304 + p)) := fun r p => by
  refine (blk3 m c t r p).trans ((GradWin.join3 (m ((c : Thread nD τ).loc main_arg0)) (m ((c : Thread nD τ).loc main_arg1)) (m ((c : Thread nD τ).loc main_arg2)) (m ((c : Thread nD τ).loc main_arg3)) (row t r) p).symm.trans ?_)
  exact R.D (row t r) ⟨2304 + p.val, by omega⟩
theorem wis0 (t : Fin 8) : Is (a := 768) (b := 1024) (w0 m c (pt t)) (A.shift (512 * t.val)).W := fun p l => by
  refine Eq.trans ?_ ((blk4 m c t ⟨0 + p.val, by omega⟩ l).trans ((R.W ⟨0 + p.val, by omega⟩ l).trans ?_))
  · show (iblk m c 4 (pt t) : FVec Ideal S2560x1024 .bf16) _ = (iblk m c 4 (pt t) : FVec Ideal S2560x1024 .bf16) _
    congr 1
    funext a
    apply Fin.ext
    match a with
    | ⟨0, _⟩ => show 0 + 1 * p.val = 0 + p.val; omega
    | ⟨1, _⟩ => show 0 + 1 * l.val = l.val; omega
  · show (A.W (0 + p.val) l.val) = _
    rw [Nat.zero_add]; rfl
theorem wis1 (t : Fin 8) : Is (a := 768) (b := 1024) (w1 m c (pt t)) (fun p => (A.shift (512 * t.val)).W (768 + p)) := fun p l => by
  refine Eq.trans ?_ ((blk4 m c t ⟨768 + p.val, by omega⟩ l).trans ((R.W ⟨768 + p.val, by omega⟩ l).trans ?_))
  · show (iblk m c 4 (pt t) : FVec Ideal S2560x1024 .bf16) _ = (iblk m c 4 (pt t) : FVec Ideal S2560x1024 .bf16) _
    congr 1
    funext a
    apply Fin.ext
    match a with
    | ⟨0, _⟩ => show 768 + 1 * p.val = 768 + p.val; omega
    | ⟨1, _⟩ => show 0 + 1 * l.val = l.val; omega
  · rfl
theorem wis2 (t : Fin 8) : Is (a := 768) (b := 1024) (w2 m c (pt t)) (fun p => (A.shift (512 * t.val)).W (1536 + p)) := fun p l => by
  refine Eq.trans ?_ ((blk4 m c t ⟨1536 + p.val, by omega⟩ l).trans ((R.W ⟨1536 + p.val, by omega⟩ l).trans ?_))
  · show (iblk m c 4 (pt t) : FVec Ideal S2560x1024 .bf16) _ = (iblk m c 4 (pt t) : FVec Ideal S2560x1024 .bf16) _
    congr 1
    funext a
    apply Fin.ext
    match a with
    | ⟨0, _⟩ => show 1536 + 1 * p.val = 1536 + p.val; omega
    | ⟨1, _⟩ => show 0 + 1 * l.val = l.val; omega
  · rfl
theorem wis3 (t : Fin 8) : Is (a := 256) (b := 1024) (w3 m c (pt t)) (fun p => (A.shift (512 * t.val)).W (2304 + p)) := fun p l => by
  refine Eq.trans ?_ ((blk4 m c t ⟨2304 + p.val, by omega⟩ l).trans ((R.W ⟨2304 + p.val, by omega⟩ l).trans ?_))
  · show (iblk m c 4 (pt t) : FVec Ideal S2560x1024 .bf16) _ = (iblk m c 4 (pt t) : FVec Ideal S2560x1024 .bf16) _
    congr 1
    funext a
    apply Fin.ext
    match a with
    | ⟨0, _⟩ => show 2304 + 1 * p.val = 2304 + p.val; omega
    | ⟨1, _⟩ => show 0 + 1 * l.val = l.val; omega
  · rfl
theorem isX (t : Fin 8) : Is (a := 512) (b := 1024) (iblk m c 5 (pt t) : FVec Ideal S512x1024 .f32) (A.shift (512 * t.val)).X := fun r l =>
  (blk5 m c t r l).trans (R.X (row t r) l)
theorem isg (t : Fin 8) (l : Fin 1024) : (iblk m c 6 (pt t) : FVec Ideal S1x1024 .f32) (ix2 0 l) = ((A.shift (512 * t.val)).g l.val) :=
  (blk6 m c t 0 l).trans (R.g l)
theorem isC (t : Fin 8) : Is (a := 512) (b := 1024) (iblk m c 7 (pt t) : FVec Ideal S512x1024 .bf16) (A.shift (512 * t.val)).C := fun r l =>
  (blk7 m c t r l).trans (R.C (row t r) l)

/-! ## What a point computes -/

theorem oh_is (t : Fin 8) : Is (a := 512) (b := 1024) (oh m c (pt t)) (A.shift (512 * t.val)).dh :=
  p8 (A := (A.shift (512 * t.val))) R.n (is0 m c R t) (wis0 m c R t) (is1 m c R t) (wis1 m c R t) (is2 m c R t) (wis2 m c R t) (is3 m c R t) (wis3 m c R t)
theorem ox_is (t : Fin 8) : Is (a := 512) (b := 1024) (ox m c (pt t)) (A.shift (512 * t.val)).dx := p4 (oh_is m c R t) (isX m c R t) (isg m c R t) (isC m c R t)
theorem og_is (t : Fin 8) (acc : FVec Ideal S1x1024 .f32) (s : EReal) (l : Fin 1024) (h : acc (ix2 0 l) = s) :
    og m c (pt t) acc (ix2 0 l) = (s + (A.shift (512 * t.val)).dgain 512 l.val) := p3 (oh_is m c R t) (isX m c R t) s l h

/-! ## The arrays -/

omit R in
theorem row_split (i : Fin 4096) : ∃ t r, i = row t r :=
  ⟨⟨i.val / 512, by omega⟩, ⟨i.val % 512, Nat.mod_lt _ (by norm_num)⟩, Fin.ext (by show i.val = 512 * (i.val / 512) + i.val % 512; omega)⟩

theorem final_x : Is (a := 4096) (b := 1024) ((dats m 0 c).arrAt 8 cfg0.N : FVec Ideal S4096x1024 .f32) A.dx := fun i l => by
  obtain ⟨t, r, rfl⟩ := row_split i
  have hf : ∀ t : Fin 8, (cfg0.win 8).flush (pt t) = true := by decide
  have hi : ∀ t : Fin 8, win0_8.index (pt t) 0 = t.val ∧ win0_8.index (pt t) 1 = 0 := by decide
  have h := congrFun (blocks8 m c (pt t) (hf t)) (ix2 r l)
  rw [View.read_apply, flushed8, out_x] at h
  refine Eq.trans (Eq.trans ?_ h) (ox_is m c R t r l)
  show ((dats m 0 c).arrAt 8 cfg0.N : FVec Ideal S4096x1024 .f32) _ = ((dats m 0 c).arrAt 8 cfg0.N : FVec Ideal S4096x1024 .f32) _
  congr 1
  funext a
  apply Fin.ext
  match a with
  | ⟨0, _⟩ => show 512 * t.val + r.val = win0_8.index (pt t) 0 * 512 + 1 * r.val; rw [(hi t).1]; omega
  | ⟨1, _⟩ => show l.val = win0_8.index (pt t) 1 * 1024 + 1 * l.val; rw [(hi t).2]; omega

/-- The gain's gradient after the first points. -/
theorem acc_g (l : Fin 1024) (n : ℕ) (hn : n < 8) :
    (outsAt0 m c (pt ⟨n, hn⟩).val (pt ⟨n, hn⟩).isLt).2.1 (ix2 0 l) = (A.dgain (512 * n + 512) l.val) := by
  induction n with
  | zero =>
    rw [ag m c (pt ⟨0, hn⟩) rfl]
    refine (og_is m c R ⟨0, hn⟩ _ 0 l (p5 l)).trans ?_
    rw [Arr.dgain_add]
    exact congrArg (· + _) (Finset.sum_range_zero _).symm
  | succ n ih =>
    have h0 : ¬(pt ⟨n + 1, hn⟩).val % 8 = 0 := by show ¬(n + 1) % 8 = 0; omega
    rw [bg m c (pt ⟨n + 1, hn⟩) h0]
    refine (og_is m c R ⟨n + 1, hn⟩ _ _ l (ih (by omega))).trans ?_
    rw [Arr.dgain_add A (512 * (n + 1)), show 512 * n + 512 = 512 * (n + 1) by omega]

omit R in
theorem flush_g (t : Fin cfg0.N) : (cfg0.win 9).flush t = true ↔ t.val = 7 := by
  have h : ∀ t : Fin 8, (cfg0.win 9).flush (pt t) = true ↔ t.val = 7 := by decide
  exact h ⟨t.val, lt_of_lt_of_eq t.isLt N_0⟩

theorem final_g (l : Fin 1024) : ((dats m 0 c).arrAt 9 cfg0.N : FVec Ideal S1x1024 .f32) (ix2 0 l) = (A.dgain 4096 l.val) := by
  have hi : win0_9.index (pt 7) 0 = 0 ∧ win0_9.index (pt 7) 1 = 0 := by decide
  have h := congrFun ((dats m 0 c).read_blk_arrAt_eq_flushed 9 (fun t t' h h' hne => absurd
      (Fin.ext (((flush_g t).mp h).trans ((flush_g t').mp h').symm)) hne) cfg0.N (pt 7) (pt 7).isLt
    ((flush_g _).mpr rfl)) (ix2 0 l)
  rw [View.read_apply, flushed9] at h
  refine Eq.trans (Eq.trans ?_ h) (acc_g m c R l 7 (by norm_num))
  show ((dats m 0 c).arrAt 9 cfg0.N : FVec Ideal S1x1024 .f32) _ = ((dats m 0 c).arrAt 9 cfg0.N : FVec Ideal S1x1024 .f32) _
  congr 1
  funext a
  apply Fin.ext
  match a with
  | ⟨0, _⟩ => show 0 = win0_9.index (pt 7) 0 * 1 + 1 * 0; rw [hi.1]
  | ⟨1, _⟩ => show l.val = win0_9.index (pt 7) 1 * 1024 + 1 * l.val; rw [hi.2]; omega

/-! ## Kernel and reference -/

theorem eq_x : ((dats m 0 c).arrAt 8 cfg0.N : FVec Ideal S4096x1024 .f32) = Cert.Reference10Ideal.Read.val_main_v41 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := funext fun i =>
  (re_of_is (final_x m c R) i).trans (r_dx R i).symm
theorem eq_g : ((dats m 0 c).arrAt 9 cfg0.N : FVec Ideal S1x1024 .f32) = Cert.Reference10Ideal.Read.val_main_v23 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := funext fun i => by
  refine Eq.trans ?_ (r_g R i).symm
  rw [show i = ix2 0 (i 1) from funext fun a => by match a with | ⟨0, _⟩ => exact Fin.ext (Nat.lt_one_iff.mp (i 0).isLt) | ⟨1, _⟩ => rfl]
  exact final_g m c R (i 1)

end

end NormB0
-- ==== Proof.InProjB.lean ====
/-
  The second layer's input projection with its bias: a grid point multiplies 1024 rows of the normalised stream by 896 rows of the weight, and
  every entry is the sum over the 1024 features that the reference's product is, with the bias's entry added.
-/
module

public import proofs.«01_k».proof.Proof.FfnBase
public import proofs.«01_k».proof.Proof.Gen.Kernel11Ideal.Value
public import proofs.«01_k».proof.Proof.Gen.Reference11Ideal.Read
public import Idealize.ShloMosaic.Lib.StableHlo.RunRead

@[expose] public section

noncomputable section

namespace InProjB

open Idealize.ShloMosaic hiding ix0 ix1 ix2 ix3 ix4 ix5
open Idealize.ShloMosaic.ValueIdx Idealize.ShloMosaic.TcCoe Cert.Kernel11Ideal Cert.Kernel11Ideal.Gen Cert.Kernel11Ideal.Value
open scoped BigOperators

theorem pay1 (x : FVec Ideal S1024x1024 .bf16) (w : FVec Ideal S896x1024 .bf16) (b : FVec Ideal S1x896 .f32) (r : Fin 1024) (l : Fin 896) :
    k0_pay1 (F := Ideal) x w b (ix2 r l) = ∑ k : Fin 1024, x (ix2 r k) * w (ix2 l k) + b (ix2 0 l) := by
  unfold k0_pay1
  rw [shapeCast_id]
  exact congrArg₂ (fun p q : EReal => p + q) (Ffn.nt_zero x w r l) (AttK.bRow_apply 1024 896 _ b r l)

theorem out3 (x0 : FVec Ideal S1024x1024 .bf16) (x1 : FVec Ideal S896x1024 .bf16) (x2 : FVec Ideal S1x896 .f32) :
    out0_3 (F := Ideal) x0 x1 x2 = k0_pay1 (F := Ideal) x0 x1 x2 := by
  unfold out0_3
  rw [View.canon_cons_unit_lit _ _ _ (by decide)]
  simp (disch := decide) only [View.ld_unit_lit]

variable (m : (ℓ : Loc nD τ sig) → Buf (Elt Ideal) ℓ) (c : Dev nD)

/-- Row `r` of a point's block of the stream. -/
def row (a : Fin 4) (r : Fin 1024) : Fin 4096 := ⟨1024 * a.val + r.val, by omega⟩

/-- Row `l` of a point's block of the weight. -/
def col (b : Fin 2) (l : Fin 896) : Fin 1792 := ⟨896 * b.val + l.val, by omega⟩

def pt (b : Fin 2) (a : Fin 4) : Fin cfg0.N := ⟨4 * b.val + a.val, lt_of_lt_of_eq (by omega : 4 * b.val + a.val < 8) N_0.symm⟩

/-- The normalised stream that the host lines prepare: the reference's own lines. -/
theorem V_h : V m c main_v12 = Cert.Reference11Ideal.Read.val_main_v11 (F := Ideal) (m ((c : Thread nD τ).loc main_arg0)) (m ((c : Thread nD τ).loc main_arg1)) := by
  unfold V
  simp only [hostOps0]
  after_results_simp
  rfl

theorem blk0 (b : Fin 2) (a : Fin 4) (r : Fin 1024) (k : Fin 1024) : (iblk m c 0 (pt b a) : FVec Ideal S1024x1024 .bf16) (ix2 r k)
    = Cert.Reference11Ideal.Read.val_main_v11 (F := Ideal) (m ((c : Thread nD τ).loc main_arg0)) (m ((c : Thread nD τ).loc main_arg1)) (ix2 (row a r) k) := by
  have hi : ∀ (b : Fin 2) (a : Fin 4), win0_0.index (pt b a) 0 = a.val ∧ win0_0.index (pt b a) 1 = 0 := by decide
  unfold iblk
  rw [View.read_apply]
  show V m c main_v12 _ = _
  rw [V_h]
  congr 1
  funext d
  apply Fin.ext
  match d with
  | ⟨0, _⟩ => show win0_0.index (pt b a) 0 * 1024 + 1 * r.val = 1024 * a.val + r.val; rw [(hi b a).1]; omega
  | ⟨1, _⟩ => show win0_0.index (pt b a) 1 * 1024 + 1 * k.val = k.val; rw [(hi b a).2]; omega

theorem blk1 (b : Fin 2) (a : Fin 4) (l : Fin 896) (k : Fin 1024) : (iblk m c 1 (pt b a) : FVec Ideal S896x1024 .bf16) (ix2 l k)
    = m ((c : Thread nD τ).loc main_arg2) (ix2 (col b l) k) := by
  have hi : ∀ (b : Fin 2) (a : Fin 4), win0_1.index (pt b a) 0 = b.val ∧ win0_1.index (pt b a) 1 = 0 := by decide
  unfold iblk
  rw [View.read_apply]
  show V m c main_arg2 _ = _
  rw [V_main_arg2]
  congr 1
  funext d
  apply Fin.ext
  match d with
  | ⟨0, _⟩ => show win0_1.index (pt b a) 0 * 896 + 1 * l.val = 896 * b.val + l.val; rw [(hi b a).1]; omega
  | ⟨1, _⟩ => show win0_1.index (pt b a) 1 * 1024 + 1 * k.val = k.val; rw [(hi b a).2]; omega

theorem blk2 (b : Fin 2) (a : Fin 4) (l : Fin 896) : (iblk m c 2 (pt b a) : FVec Ideal S1x896 .f32) (ix2 0 l)
    = m ((c : Thread nD τ).loc main_arg3) (ix2 0 (col b l)) := by
  have hi : ∀ (b : Fin 2) (a : Fin 4), win0_2.index (pt b a) 0 = 0 ∧ win0_2.index (pt b a) 1 = b.val := by decide
  unfold iblk
  rw [View.read_apply]
  show V m c main_arg3 _ = _
  rw [V_main_arg3]
  congr 1
  funext d
  apply Fin.ext
  match d with
  | ⟨0, _⟩ => show win0_2.index (pt b a) 0 * 1 + 1 * 0 = 0; rw [(hi b a).1]
  | ⟨1, _⟩ => show win0_2.index (pt b a) 1 * 896 + 1 * l.val = 896 * b.val + l.val; rw [(hi b a).2]; omega

/-- An entry of the projection. -/
def entry (x0 : FVec Ideal S4096x1024 .f32) (x1 : FVec Ideal S1x1024 .f32) (w : FVec Ideal S1792x1024 .bf16) (b : FVec Ideal S1x1792 .f32) :
    FVec Ideal S4096x1792 .bf16 := fun i =>
  ∑ k : Fin 1024, Cert.Reference11Ideal.Read.val_main_v11 (F := Ideal) x0 x1 (ix2 (i 0) k) * w (ix2 (i 1) k) + b (ix2 0 (i 1))

theorem tiles (X Y : FVec Ideal S4096x1792 .bf16) (h : ∀ (b : Fin 2) (a : Fin 4) (r : Fin 1024) (l : Fin 896), X (ix2 (row a r) (col b l)) = Y (ix2 (row a r) (col b l))) : X = Y :=
  funext fun i => by
    have h0 : (i 0).val < 4096 := (i 0).isLt
    have h1 : (i 1).val < 1792 := (i 1).isLt
    have e : i = ix2 (row ⟨(i 0).val / 1024, by omega⟩ ⟨(i 0).val % 1024, Nat.mod_lt _ (by decide)⟩)
        (col ⟨(i 1).val / 896, by omega⟩ ⟨(i 1).val % 896, Nat.mod_lt _ (by decide)⟩) := funext fun d => by
      match d with
      | ⟨0, _⟩ => exact Fin.ext (by show (i 0).val = 1024 * ((i 0).val / 1024) + (i 0).val % 1024; omega)
      | ⟨1, _⟩ => exact Fin.ext (by show (i 1).val = 896 * ((i 1).val / 896) + (i 1).val % 896; omega)
    rw [e]; exact h _ _ _ _

theorem final3 : ((dats m 0 c).arrAt 3 cfg0.N : FVec Ideal S4096x1792 .bf16)
    = entry (m ((c : Thread nD τ).loc main_arg0)) (m ((c : Thread nD τ).loc main_arg1)) (m ((c : Thread nD τ).loc main_arg2)) (m ((c : Thread nD τ).loc main_arg3)) := tiles _ _ fun b a r l => by
  have hf : ∀ (b : Fin 2) (a : Fin 4), (cfg0.win 3).flush (pt b a) = true := by decide
  have hi : ∀ (b : Fin 2) (a : Fin 4), win0_3.index (pt b a) 0 = a.val ∧ win0_3.index (pt b a) 1 = b.val := by decide
  have h := congrFun (blocks3 m c (pt b a) (hf b a)) (ix2 r l)
  rw [View.read_apply, flushed3, out3] at h
  refine Eq.trans (Eq.trans ?_ h) ((pay1 _ _ _ r l).trans (congrArg₂ (fun p q : EReal => p + q) (Finset.sum_congr rfl fun k _ => ?_) (blk2 m c b a l)))
  · show ((dats m 0 c).arrAt 3 cfg0.N : FVec Ideal S4096x1792 .bf16) _ = ((dats m 0 c).arrAt 3 cfg0.N : FVec Ideal S4096x1792 .bf16) _
    congr 1
    funext d
    apply Fin.ext
    match d with
    | ⟨0, _⟩ => show 1024 * a.val + r.val = win0_3.index (pt b a) 0 * 1024 + 1 * r.val; rw [(hi b a).1]; omega
    | ⟨1, _⟩ => show 896 * b.val + l.val = win0_3.index (pt b a) 1 * 896 + 1 * l.val; rw [(hi b a).2]; omega
  · rw [blk0, blk1]

section
open Cert.Reference11Ideal.Read

theorem ref17 (x0 : FVec Ideal S4096x1024 .f32) (x1 : FVec Ideal S1x1024 .f32) (w : FVec Ideal S1792x1024 .bf16) (b : FVec Ideal S1x1792 .f32) :
    val_main_v17 (F := Ideal) x0 x1 w b = entry x0 x1 w b :=
  funext fun i => by
    rw [val_main_v17_apply, val_main_v16_apply, val_main_v14_apply, val_main_v15_apply]
    refine congrArg₂ (fun p q : EReal => p + q) (Finset.sum_congr rfl fun k _ => ?_) (congrArg b (Ffn.split2 _))
    rw [val_main_v13_apply, val_main_v12_apply]
    exact congrArg₂ (· * ·) (congrArg (val_main_v11 (F := Ideal) x0 x1) (Ffn.split2 _)) (congrArg w (Ffn.split2 _))

end

end InProjB
-- ==== Proof.NormB1Point.lean ====
/-
  The blocks that a grid point of the second layer's input projection backwards leaves, and what they hold.
-/
module

public import proofs.«01_k».proof.Proof.NormBwdModel
public import proofs.«01_k».proof.Proof.Gen.Kernel12Ideal.Value

@[expose] public section

noncomputable section

namespace NormB1

open Idealize.ShloMosaic hiding ix0 ix1 ix2 ix3 ix4 ix5
open Idealize.ShloMosaic.ValueIdx Idealize.ShloMosaic.TcCoe Cert.Kernel12Ideal Cert.Kernel12Ideal.Gen Cert.Kernel12Ideal.Value
open NormB (Arr Is Re re_of_is)
open Finset (range)

variable {A : Arr}

section
variable {d : FVec Ideal S512x1024 .f32} {x : FVec Ideal S512x1024 .f32} {g a : FVec Ideal S1x1024 .f32} {e : FVec Ideal S512x1024 .bf16}
  {z : FVec Ideal S512x1792 .bf16} {w : FVec Ideal S1792x1024 .bf16}

theorem p6 (hx : Is x A.X) (r : Fin 512) (u : Fin 1) : k0_pay6 (F := Ideal) x (ix2 r u) = (A.rr r.val) := NormB.rr_is hx r u

theorem p7 (hx : Is x A.X) : Is (k0_pay7 (F := Ideal) x) A.xh := NormB.xh_is hx (fun r => p6 hx r 0) _

theorem p5 (n : A.n = 1792) (hz : Is z A.D) (hw : Is w A.W) : Is (k0_pay5 (F := Ideal) z w) A.dh := fun r l => by
  unfold Arr.dh; rw [n]; exact NormB.nn_is hz hw r l

theorem p8 (n : A.n = 1792) (hz : Is z A.D) (hw : Is w A.W) (hx : Is x A.X) (s : EReal) (l : Fin 1024) (ha : a (ix2 0 l) = s) :
    k0_pay8 (F := Ideal) z w x a (ix2 0 l) = (s + A.dgain 512 l.val) := by
  unfold k0_pay8
  rw [shapeCast_id]
  exact NormB.col_is (X := fun i l => A.dh i l * A.xh i l) (fun i l => by rw [mulf_apply, p5 n hz hw, p7 hx]) reduces_S512x1024_S1024
    shapeCasts_S1024_S1x1024 s l ha

theorem p1 (n : A.n = 1792) (hz : Is z A.D) (hw : Is w A.W) (hx : Is x A.X) (hg : ∀ l : Fin 1024, g (ix2 0 l) = (A.g l.val)) (he : Is e A.C) :
    Is (k0_pay1 (F := Ideal) (k0_pay5 z w) (k0_pay6 x) (k0_pay7 x) g e) A.dx := by
  unfold k0_pay1
  exact NormB.dx_is (e := extf .f32 e bitsLt_bf16_f32) (NormB.dxh_is (p5 n hz hw) hg broadcasts_S1x1024_S512x1024) (p7 hx) he (fun r => p6 hx r 0)
    broadcasts_S512x1_S512x1024

theorem p2 (l : Fin 1024) : k0_pay2 (F := Ideal) (ix2 0 l) = (0) := (AttK.lit0.trans EReal.coe_zero)
theorem p3 (l : Fin 1792) : k0_pay3 (F := Ideal) (ix2 0 l) = (0) := (AttK.lit0.trans EReal.coe_zero)

theorem p4 (hz : Is z A.D) {b : FVec Ideal S1x1792 .f32} (s : EReal) (l : Fin 1792) (hb : b (ix2 0 l) = s) :
    k0_pay4 (F := Ideal) b z (ix2 0 l) = (s + A.dbias 512 l.val) := by
  unfold k0_pay4
  rw [shapeCast_id]
  exact NormB.col_is (x := extf .f32 z bitsLt_bf16_f32) hz reduces_S512x1792_S1792 shapeCasts_S1792_S1x1792 s l hb

end

variable (m : (ℓ : Loc nD τ sig) → Buf (Elt Ideal) ℓ) (c : Dev nD)

abbrev ox (t : Fin cfg0.N) : FVec Ideal S512x1024 .bf16 :=
  k0_pay1 (F := Ideal) (k0_pay5 (iblk m c 0 t) (iblk m c 1 t)) (k0_pay6 (iblk m c 2 t)) (k0_pay7 (iblk m c 2 t)) (iblk m c 3 t) (iblk m c 4 t)
abbrev og (t : Fin cfg0.N) (acc : FVec Ideal S1x1024 .f32) : FVec Ideal S1x1024 .f32 := k0_pay8 (F := Ideal) (iblk m c 0 t) (iblk m c 1 t) (iblk m c 2 t) acc
abbrev ob (t : Fin cfg0.N) (acc : FVec Ideal S1x1792 .f32) : FVec Ideal S1x1792 .f32 := k0_pay4 (F := Ideal) acc (iblk m c 0 t)

theorem ax (t : Fin cfg0.N) (h0 : t.val % 8 = 0) : (outsAt0 m c t.val t.isLt).1 = ox m c t := by
  rw [outsAt0_A m c t h0]; dsimp only; frame_out
theorem bx (t : Fin cfg0.N) (h0 : ¬t.val % 8 = 0) : (outsAt0 m c t.val t.isLt).1 = ox m c t := by
  rw [outsAt0_B m c t h0]; dsimp only; frame_out
theorem out_x (t : Fin cfg0.N) : (outsAt0 m c t.val t.isLt).1 = ox m c t := by
  by_cases h : t.val % 8 = 0
  · exact ax m c t h
  · exact bx m c t h
theorem ag (t : Fin cfg0.N) (h0 : t.val % 8 = 0) : (outsAt0 m c t.val t.isLt).2.1 = og m c t (k0_pay2 (F := Ideal)) := by
  rw [outsAt0_A m c t h0]; dsimp only; frame_out
theorem bg (t : Fin cfg0.N) (h0 : ¬t.val % 8 = 0) : (outsAt0 m c t.val t.isLt).2.1 = og m c t (outsAt0 m c (t.val - 1) (Nat.lt_of_le_of_lt (Nat.sub_le _ _) t.isLt)).2.1 := by
  rw [outsAt0_B m c t h0]; dsimp only; frame_out
theorem ab (t : Fin cfg0.N) (h0 : t.val % 8 = 0) : (outsAt0 m c t.val t.isLt).2.2 = ob m c t (k0_pay3 (F := Ideal)) := by
  rw [outsAt0_A m c t h0]; dsimp only; frame_out
theorem bb (t : Fin cfg0.N) (h0 : ¬t.val % 8 = 0) : (outsAt0 m c t.val t.isLt).2.2 = ob m c t (outsAt0 m c (t.val - 1) (Nat.lt_of_le_of_lt (Nat.sub_le _ _) t.isLt)).2.2 := by
  rw [outsAt0_B m c t h0]; dsimp only; frame_out

end NormB1
-- ==== Proof.NormB1Ref.lean ====
/-
  The reference of the second layer's input projection backwards, line by line: every array of its derivative holds the entries of the model.
-/
module

public import proofs.«01_k».proof.Proof.NormBwdModel
public import proofs.«01_k».proof.Proof.Gen.Reference12Ideal.Read

@[expose] public section

noncomputable section

namespace NormB1

open Idealize.ShloMosaic hiding ix0 ix1 ix2 ix3 ix4 ix5
open Idealize.ShloMosaic.ValueIdx Cert.Reference12Ideal Cert.Reference12Ideal.Gen Cert.Reference12Ideal.Read
open NormB (Arr Is Re re_of_is entry entry_is)
open scoped BigOperators
open Finset (range)

/-- The arguments hold the entries of `A`. -/
structure Reads (A : Arr) (x0 : FVec Ideal S4096x1792 .bf16) (x1 : FVec Ideal S1792x1024 .bf16) (x2 : FVec Ideal S4096x1024 .f32)
  (x3 : FVec Ideal S1x1024 .f32) (x4 : FVec Ideal S4096x1024 .bf16) : Prop where
  n : A.n = 1792
  D : Is x0 A.D
  W : Is x1 A.W
  X : Is x2 A.X
  g : ∀ l : Fin 1024, x3 (ix2 0 l) = (A.g l.val)
  C : Is x4 A.C

/-- The matrices that the arguments hold. -/
def arr (x0 : FVec Ideal S4096x1792 .bf16) (x1 : FVec Ideal S1792x1024 .bf16) (x2 : FVec Ideal S4096x1024 .f32)
  (x3 : FVec Ideal S1x1024 .f32) (x4 : FVec Ideal S4096x1024 .bf16) : Arr where
  n := 1792
  D := entry (a := 4096) (b := 1792) x0
  W := entry (a := 1792) (b := 1024) x1
  C := entry (a := 4096) (b := 1024) x4
  X := entry (a := 4096) (b := 1024) x2
  g := entry (a := 1) (b := 1024) x3 0

theorem reads (x0 : FVec Ideal S4096x1792 .bf16) (x1 : FVec Ideal S1792x1024 .bf16) (x2 : FVec Ideal S4096x1024 .f32)
  (x3 : FVec Ideal S1x1024 .f32) (x4 : FVec Ideal S4096x1024 .bf16) : Reads (arr x0 x1 x2 x3 x4) x0 x1 x2 x3 x4 :=
  ⟨rfl, entry_is _, entry_is _, entry_is _, fun l => entry_is (a := 1) (b := 1024) x3 0 l, entry_is _⟩

variable {A : Arr} {x0 : FVec Ideal S4096x1792 .bf16} {x1 : FVec Ideal S1792x1024 .bf16} {x2 : FVec Ideal S4096x1024 .f32}
  {x3 : FVec Ideal S1x1024 .f32} {x4 : FVec Ideal S4096x1024 .bf16} (R : Reads A x0 x1 x2 x3 x4)

section
include R

theorem rX : Re (s := S4096x1024) x2 (fun i => A.X (i 0).val (i 1).val) := re_of_is R.X
theorem rg : Re (s := S1x1024) x3 (fun i => A.g (i 1).val) := fun i => by
  rw [show i = ix2 0 (i 1) from funext fun a => by match a with | ⟨0, _⟩ => exact Fin.ext (Nat.lt_one_iff.mp (i 0).isLt) | ⟨1, _⟩ => rfl]
  exact R.g _
theorem rC : Re (s := S4096x1024) (val_main_v44 (F := Ideal) x4) (fun i => A.C (i 0).val (i 1).val) := re_of_is R.C
theorem rD : Re (s := S4096x1792) (val_main_v21 (F := Ideal) x0) (fun i => A.D (i 0).val (i 1).val) := re_of_is R.D
theorem rW0 : Re (s := S1792x1024) (val_main_v0 (F := Ideal) x1) (fun i => A.W (i 0).val (i 1).val) := re_of_is R.W
theorem rW : Re (s := S1024x1792) (val_main_v1 (F := Ideal) x1) (fun i => A.W (i 1).val (i 0).val) :=
  (rW0 R).lay (idx := idx_main_v1) (val_main_v1_apply (F := Ideal) x1) fun _ => rfl

/-! ## The normalised stream -/

theorem r_ss : Re (s := S4096) (val_main_v3 (F := Ideal) x2) (fun i => ∑ k ∈ range 1024, A.X (i 0).val k * A.X (i 0).val k) :=
  ((rX R).mul (rX R)).sum (idx := idx_main_v3) (val_main_v3_apply x2) (AttK.lit0.trans EReal.coe_zero) fun i k => rfl
theorem r_ssr : Re (s := S4096x1) (val_main_v4 (F := Ideal) x2) (fun i => ∑ k ∈ range 1024, A.X (i 0).val k * A.X (i 0).val k) :=
  (r_ss R).lay (idx := idx_main_v4) (val_main_v4_apply (F := Ideal) x2) fun _ => rfl
omit R in
theorem r_k : Re (s := S4096x1) (val_main_v5 (F := Ideal)) (fun _ => ((1024 : ℝ) : EReal)) := fun _ => Ffn.lit1024
omit R in
theorem r_eps : Re (s := S4096x1) (val_main_v7 (F := Ideal)) (fun _ => ((Att.eps : ℝ) : EReal)) := fun _ => AttK.litEps
omit R in
theorem r_half : Re (s := S4096x1) (val_main_v11 (F := Ideal)) (fun _ => ((-(1 / 2) : ℝ) : EReal)) := fun _ => AttR.litHalf
theorem r_arg : Re (s := S4096x1) (val_main_v8 (F := Ideal) x2) (fun i => A.arg (i 0).val) := ((r_ssr R).divK r_k).add r_eps
theorem r_rr : Re (s := S4096x1) (val_main_v9 (F := Ideal) x2) (fun i => A.rr (i 0).val) := (r_arg R).rsqrt
theorem r_f : Re (s := S4096x1) (val_main_v12 (F := Ideal) x2) (fun i => ((-(1 / 2) : ℝ) : EReal) * Ideal.div (A.rr (i 0).val) (A.arg (i 0).val)) :=
  r_half.mul ((r_rr R).div (r_arg R))
theorem r_rb : Re (s := S4096x1024) (val_main_v13 (F := Ideal) x2) (fun i => A.rr (i 0).val) :=
  (r_rr R).lay (idx := idx_main_v13) (val_main_v13_apply (F := Ideal) x2) fun _ => rfl
theorem r_xh : Re (s := S4096x1024) (val_main_v14 (F := Ideal) x2) (fun i => A.xh (i 0).val (i 1).val) := (rX R).mul (r_rb R)

/-! ## Through the projection -/

theorem r_dh : Re (s := S4096x1024) (val_main_v24 (F := Ideal) x0 x1) (fun i => A.dh (i 0).val (i 1).val) :=
  ((rD R).dot (rW R) (lidx := lidx_main_v24) (ridx := ridx_main_v24) (val_main_v24_apply x0 x1)
    (G := fun i p => A.D (i 0).val p * A.W p (i 1).val) fun i k => rfl).to fun i => by unfold Arr.dh; rw [R.n]
theorem r_gs : Re (s := S1024) (val_main_v26 (F := Ideal) x0 x1 x2) (fun i => A.dgain 4096 (i 0).val) :=
  (((r_xh R).mul (r_dh R)).sum (idx := idx_main_v26) (val_main_v26_apply x0 x1 x2) (AttK.lit0.trans EReal.coe_zero)
    (G := fun i k => A.dh k (i 0).val * A.xh k (i 0).val) fun i k => mul_comm _ _).to fun _ => rfl
theorem r_g : Re (s := S1x1024) (val_main_v27 (F := Ideal) x0 x1 x2) (fun i => A.dgain 4096 (i 1).val) :=
  (r_gs R).lay (idx := idx_main_v27) (val_main_v27_apply (F := Ideal) x0 x1 x2) fun i => by
    have h0 : (i 0).val < 1 := (i 0).isLt
    show A.dgain 4096 ((i 0).val * 1024 + (i 1).val) = _
    rw [show (i 0).val * 1024 + (i 1).val = (i 1).val by omega]
theorem r_bs : Re (s := S1792) (val_main_v22 (F := Ideal) x0) (fun i => A.dbias 4096 (i 0).val) :=
  ((rD R).sum (idx := idx_main_v22) (val_main_v22_apply x0) (AttK.lit0.trans EReal.coe_zero) (G := fun i k => A.D k (i 0).val) fun i k => rfl).to fun _ => rfl
theorem r_b : Re (s := S1x1792) (val_main_v23 (F := Ideal) x0) (fun i => A.dbias 4096 (i 1).val) :=
  (r_bs R).lay (idx := idx_main_v23) (val_main_v23_apply (F := Ideal) x0) fun i => by
    have h0 : (i 0).val < 1 := (i 0).isLt
    show A.dbias 4096 ((i 0).val * 1792 + (i 1).val) = _
    rw [show (i 0).val * 1792 + (i 1).val = (i 1).val by omega]

/-! ## Through the normalisation -/

theorem r_gb : Re (s := S4096x1024) (val_main_v28 (F := Ideal) x3) (fun i => A.g (i 1).val) :=
  (rg R).lay (idx := idx_main_v28) (val_main_v28_apply (F := Ideal) x3) fun _ => rfl
theorem r_dxh : Re (s := S4096x1024) (val_main_v29 (F := Ideal) x0 x1 x3) (fun i => A.dxh (i 0).val (i 1).val) := (r_dh R).mul (r_gb R)
theorem r_xs : Re (s := S4096) (val_main_v31 (F := Ideal) x0 x1 x2 x3) (fun i => ∑ k ∈ range 1024, A.X (i 0).val k * A.dxh (i 0).val k) :=
  ((rX R).mul (r_dxh R)).sum (idx := idx_main_v31) (val_main_v31_apply x0 x1 x2 x3) (AttK.lit0.trans EReal.coe_zero) fun i k => rfl
theorem r_xr : Re (s := S4096x1) (val_main_v32 (F := Ideal) x0 x1 x2 x3) (fun i => ∑ k ∈ range 1024, A.X (i 0).val k * A.dxh (i 0).val k) :=
  (r_xs R).lay (idx := idx_main_v32) (val_main_v32_apply (F := Ideal) x0 x1 x2 x3) fun i => by
    have h1 : (i 1).val < 1 := (i 1).isLt
    show ∑ k ∈ range 1024, A.X ((i 0).val * 1 + (i 1).val) k * A.dxh ((i 0).val * 1 + (i 1).val) k = _
    rw [show (i 0).val * 1 + (i 1).val = (i 0).val by omega]
theorem r_rb2 : Re (s := S4096x1024) (val_main_v33 (F := Ideal) x2) (fun i => A.rr (i 0).val) :=
  (r_rr R).lay (idx := idx_main_v33) (val_main_v33_apply (F := Ideal) x2) fun _ => rfl
omit R in
theorem r_k2 : Re (s := S4096x1) (val_main_v36 (F := Ideal)) (fun _ => ((1024 : ℝ) : EReal)) := fun _ => Ffn.lit1024
theorem r_dms : Re (s := S4096x1) (val_main_v37 (F := Ideal) x0 x1 x2 x3) (fun i => A.dms (i 0).val) :=
  ((r_xr R).mul (r_f R)).divK r_k2
theorem r_ms : Re (s := S4096) (val_main_v38 (F := Ideal) x0 x1 x2 x3) (fun i => A.dms (i 0).val) :=
  ((r_dms R).sum (idx := idx_main_v38) (val_main_v38_apply x0 x1 x2 x3) (AttK.lit0.trans EReal.coe_zero) (G := fun i _ => A.dms (i 0).val) fun i k => rfl).to
    fun i => Finset.sum_range_one _
theorem r_mb : Re (s := S4096x1024) (val_main_v39 (F := Ideal) x0 x1 x2 x3) (fun i => A.dms (i 0).val) :=
  (r_ms R).lay (idx := idx_main_v39) (val_main_v39_apply (F := Ideal) x0 x1 x2 x3) fun _ => rfl
theorem r_dx : Re (s := S4096x1024) (val_main_v45 (F := Ideal) x0 x1 x2 x3 x4) (fun i => A.dx (i 0).val (i 1).val) :=
  ((rC R).add ((((r_dxh R).mul (r_rb2 R)).add ((rX R).mul (r_mb R))).add ((r_mb R).mul (rX R)))).to fun i => A.dx_eq _ _ (i 1).isLt
theorem r_out : Re (s := S4096x1024) (val_main_v46 (F := Ideal) x0 x1 x2 x3 x4) (fun i => A.dx (i 0).val (i 1).val) := r_dx R

end

end NormB1
-- ==== Proof.NormB1Run.lean ====
/-
  The result arrays of the second layer's input projection backwards: each block's rows are those of the model's gradients, and the sums over
  the rows gather the rows of all the blocks.
-/
module

public import proofs.«01_k».proof.Proof.NormB1Point
public import proofs.«01_k».proof.Proof.NormB1Ref

@[expose] public section

noncomputable section

namespace NormB1

open Idealize.ShloMosaic hiding ix0 ix1 ix2 ix3 ix4 ix5
open Idealize.ShloMosaic.ValueIdx Idealize.ShloMosaic.TcCoe Cert.Kernel12Ideal Cert.Kernel12Ideal.Gen Cert.Kernel12Ideal.Value
open NormB (Arr Is Re re_of_is)
open Finset (range)

variable (m : (ℓ : Loc nD τ sig) → Buf (Elt Ideal) ℓ) (c : Dev nD)

/-- Row `r` of point `t`'s block. -/
def row (t : Fin 8) (r : Fin 512) : Fin 4096 := ⟨512 * t.val + r.val, by omega⟩

def pt (t : Fin 8) : Fin cfg0.N := ⟨t.val, lt_of_lt_of_eq t.isLt N_0.symm⟩

/-- The device's arguments hold the entries of `A`. -/
abbrev Holds (A : Arr) : Prop :=
  Reads A (m ((c : Thread nD τ).loc main_arg0)) (m ((c : Thread nD τ).loc main_arg1)) (m ((c : Thread nD τ).loc main_arg2)) (m ((c : Thread nD τ).loc main_arg3)) (m ((c : Thread nD τ).loc main_arg4))

variable {A : Arr} (R : Holds m c A)

/-! ## The blocks that a point reads -/

theorem blk0 (t : Fin 8) (r : Fin 512) (l : Fin 1792) : (iblk m c 0 (pt t) : FVec Ideal S512x1792 .bf16) (ix2 r l)
    = m ((c : Thread nD τ).loc main_arg0) (ix2 (row t r) l) := by
  have hi : ∀ t : Fin 8, win0_0.index (pt t) 0 = t.val ∧ win0_0.index (pt t) 1 = 0 := by decide
  unfold iblk
  rw [View.read_apply]
  show V m c main_arg0 _ = m ((c : Thread nD τ).loc main_arg0) _
  rw [V_main_arg0]
  congr 1
  funext a
  apply Fin.ext
  match a with
  | ⟨0, _⟩ => show win0_0.index (pt t) 0 * 512 + 1 * r.val = 512 * t.val + r.val; rw [(hi t).1]; omega
  | ⟨1, _⟩ => show win0_0.index (pt t) 1 * 1792 + 1 * l.val = l.val; rw [(hi t).2]; omega

theorem blk1 (t : Fin 8) (r : Fin 1792) (l : Fin 1024) : (iblk m c 1 (pt t) : FVec Ideal S1792x1024 .bf16) (ix2 r l)
    = m ((c : Thread nD τ).loc main_arg1) (ix2 r l) := by
  have hi : ∀ t : Fin 8, win0_1.index (pt t) 0 = 0 ∧ win0_1.index (pt t) 1 = 0 := by decide
  unfold iblk
  rw [View.read_apply]
  show V m c main_arg1 _ = m ((c : Thread nD τ).loc main_arg1) _
  rw [V_main_arg1]
  congr 1
  funext a
  apply Fin.ext
  match a with
  | ⟨0, _⟩ => show win0_1.index (pt t) 0 * 1792 + 1 * r.val = r.val; rw [(hi t).1]; omega
  | ⟨1, _⟩ => show win0_1.index (pt t) 1 * 1024 + 1 * l.val = l.val; rw [(hi t).2]; omega

theorem blk2 (t : Fin 8) (r : Fin 512) (l : Fin 1024) : (iblk m c 2 (pt t) : FVec Ideal S512x1024 .f32) (ix2 r l)
    = m ((c : Thread nD τ).loc main_arg2) (ix2 (row t r) l) := by
  have hi : ∀ t : Fin 8, win0_2.index (pt t) 0 = t.val ∧ win0_2.index (pt t) 1 = 0 := by decide
  unfold iblk
  rw [View.read_apply]
  show V m c main_arg2 _ = m ((c : Thread nD τ).loc main_arg2) _
  rw [V_main_arg2]
  congr 1
  funext a
  apply Fin.ext
  match a with
  | ⟨0, _⟩ => show win0_2.index (pt t) 0 * 512 + 1 * r.val = 512 * t.val + r.val; rw [(hi t).1]; omega
  | ⟨1, _⟩ => show win0_2.index (pt t) 1 * 1024 + 1 * l.val = l.val; rw [(hi t).2]; omega

theorem blk3 (t : Fin 8) (r : Fin 1) (l : Fin 1024) : (iblk m c 3 (pt t) : FVec Ideal S1x1024 .f32) (ix2 r l)
    = m ((c : Thread nD τ).loc main_arg3) (ix2 r l) := by
  have hi : ∀ t : Fin 8, win0_3.index (pt t) 0 = 0 ∧ win0_3.index (pt t) 1 = 0 := by decide
  unfold iblk
  rw [View.read_apply]
  show V m c main_arg3 _ = m ((c : Thread nD τ).loc main_arg3) _
  rw [V_main_arg3]
  congr 1
  funext a
  apply Fin.ext
  match a with
  | ⟨0, _⟩ => show win0_3.index (pt t) 0 * 1 + 1 * r.val = r.val; rw [(hi t).1]; omega
  | ⟨1, _⟩ => show win0_3.index (pt t) 1 * 1024 + 1 * l.val = l.val; rw [(hi t).2]; omega

theorem blk4 (t : Fin 8) (r : Fin 512) (l : Fin 1024) : (iblk m c 4 (pt t) : FVec Ideal S512x1024 .bf16) (ix2 r l)
    = m ((c : Thread nD τ).loc main_arg4) (ix2 (row t r) l) := by
  have hi : ∀ t : Fin 8, win0_4.index (pt t) 0 = t.val ∧ win0_4.index (pt t) 1 = 0 := by decide
  unfold iblk
  rw [View.read_apply]
  show V m c main_arg4 _ = m ((c : Thread nD τ).loc main_arg4) _
  rw [V_main_arg4]
  congr 1
  funext a
  apply Fin.ext
  match a with
  | ⟨0, _⟩ => show win0_4.index (pt t) 0 * 512 + 1 * r.val = 512 * t.val + r.val; rw [(hi t).1]; omega
  | ⟨1, _⟩ => show win0_4.index (pt t) 1 * 1024 + 1 * l.val = l.val; rw [(hi t).2]; omega

section
include R

theorem isD (t : Fin 8) : Is (a := 512) (b := 1792) (iblk m c 0 (pt t) : FVec Ideal S512x1792 .bf16) (A.shift (512 * t.val)).D := fun r l =>
  (blk0 m c t r l).trans (R.D (row t r) l)
theorem isW (t : Fin 8) : Is (a := 1792) (b := 1024) (iblk m c 1 (pt t) : FVec Ideal S1792x1024 .bf16) (A.shift (512 * t.val)).W := fun r l =>
  (blk1 m c t r l).trans (R.W r l)
theorem isX (t : Fin 8) : Is (a := 512) (b := 1024) (iblk m c 2 (pt t) : FVec Ideal S512x1024 .f32) (A.shift (512 * t.val)).X := fun r l =>
  (blk2 m c t r l).trans (R.X (row t r) l)
theorem isg (t : Fin 8) (l : Fin 1024) : (iblk m c 3 (pt t) : FVec Ideal S1x1024 .f32) (ix2 0 l) = ((A.shift (512 * t.val)).g l.val) :=
  (blk3 m c t 0 l).trans (R.g l)
theorem isC (t : Fin 8) : Is (a := 512) (b := 1024) (iblk m c 4 (pt t) : FVec Ideal S512x1024 .bf16) (A.shift (512 * t.val)).C := fun r l =>
  (blk4 m c t r l).trans (R.C (row t r) l)

/-! ## What a point computes -/

theorem ox_is (t : Fin 8) : Is (a := 512) (b := 1024) (ox m c (pt t)) (A.shift (512 * t.val)).dx :=
  p1 (A := (A.shift (512 * t.val))) R.n (isD m c R t) (isW m c R t) (isX m c R t) (isg m c R t) (isC m c R t)
theorem og_is (t : Fin 8) (acc : FVec Ideal S1x1024 .f32) (s : EReal) (l : Fin 1024) (h : acc (ix2 0 l) = s) :
    og m c (pt t) acc (ix2 0 l) = (s + (A.shift (512 * t.val)).dgain 512 l.val) := p8 (A := (A.shift (512 * t.val))) R.n (isD m c R t) (isW m c R t) (isX m c R t) s l h
theorem ob_is (t : Fin 8) (acc : FVec Ideal S1x1792 .f32) (s : EReal) (l : Fin 1792) (h : acc (ix2 0 l) = s) :
    ob m c (pt t) acc (ix2 0 l) = (s + (A.shift (512 * t.val)).dbias 512 l.val) := p4 (isD m c R t) s l h

/-! ## The arrays -/

omit R in
theorem row_split (i : Fin 4096) : ∃ t r, i = row t r :=
  ⟨⟨i.val / 512, by omega⟩, ⟨i.val % 512, Nat.mod_lt _ (by norm_num)⟩, Fin.ext (by show i.val = 512 * (i.val / 512) + i.val % 512; omega)⟩

theorem final_x : Is (a := 4096) (b := 1024) ((dats m 0 c).arrAt 5 cfg0.N : FVec Ideal S4096x1024 .bf16) A.dx := fun i l => by
  obtain ⟨t, r, rfl⟩ := row_split i
  have hf : ∀ t : Fin 8, (cfg0.win 5).flush (pt t) = true := by decide
  have hi : ∀ t : Fin 8, win0_5.index (pt t) 0 = t.val ∧ win0_5.index (pt t) 1 = 0 := by decide
  have h := congrFun (blocks5 m c (pt t) (hf t)) (ix2 r l)
  rw [View.read_apply, flushed5, out_x] at h
  refine Eq.trans (Eq.trans ?_ h) (ox_is m c R t r l)
  show ((dats m 0 c).arrAt 5 cfg0.N : FVec Ideal S4096x1024 .bf16) _ = ((dats m 0 c).arrAt 5 cfg0.N : FVec Ideal S4096x1024 .bf16) _
  congr 1
  funext a
  apply Fin.ext
  match a with
  | ⟨0, _⟩ => show 512 * t.val + r.val = win0_5.index (pt t) 0 * 512 + 1 * r.val; rw [(hi t).1]; omega
  | ⟨1, _⟩ => show l.val = win0_5.index (pt t) 1 * 1024 + 1 * l.val; rw [(hi t).2]; omega

/-- The gain's gradient after the first points. -/
theorem acc_g (l : Fin 1024) (n : ℕ) (hn : n < 8) :
    (outsAt0 m c (pt ⟨n, hn⟩).val (pt ⟨n, hn⟩).isLt).2.1 (ix2 0 l) = (A.dgain (512 * n + 512) l.val) := by
  induction n with
  | zero =>
    rw [ag m c (pt ⟨0, hn⟩) rfl]
    refine (og_is m c R ⟨0, hn⟩ _ 0 l (p2 l)).trans ?_
    rw [Arr.dgain_add]
    exact congrArg (· + _) (Finset.sum_range_zero _).symm
  | succ n ih =>
    have h0 : ¬(pt ⟨n + 1, hn⟩).val % 8 = 0 := by show ¬(n + 1) % 8 = 0; omega
    rw [bg m c (pt ⟨n + 1, hn⟩) h0]
    refine (og_is m c R ⟨n + 1, hn⟩ _ _ l (ih (by omega))).trans ?_
    rw [Arr.dgain_add A (512 * (n + 1)), show 512 * n + 512 = 512 * (n + 1) by omega]

omit R in
theorem flush_g (t : Fin cfg0.N) : (cfg0.win 6).flush t = true ↔ t.val = 7 := by
  have h : ∀ t : Fin 8, (cfg0.win 6).flush (pt t) = true ↔ t.val = 7 := by decide
  exact h ⟨t.val, lt_of_lt_of_eq t.isLt N_0⟩

theorem final_g (l : Fin 1024) : ((dats m 0 c).arrAt 6 cfg0.N : FVec Ideal S1x1024 .f32) (ix2 0 l) = (A.dgain 4096 l.val) := by
  have hi : win0_6.index (pt 7) 0 = 0 ∧ win0_6.index (pt 7) 1 = 0 := by decide
  have h := congrFun ((dats m 0 c).read_blk_arrAt_eq_flushed 6 (fun t t' h h' hne => absurd
      (Fin.ext (((flush_g t).mp h).trans ((flush_g t').mp h').symm)) hne) cfg0.N (pt 7) (pt 7).isLt
    ((flush_g _).mpr rfl)) (ix2 0 l)
  rw [View.read_apply, flushed6] at h
  refine Eq.trans (Eq.trans ?_ h) (acc_g m c R l 7 (by norm_num))
  show ((dats m 0 c).arrAt 6 cfg0.N : FVec Ideal S1x1024 .f32) _ = ((dats m 0 c).arrAt 6 cfg0.N : FVec Ideal S1x1024 .f32) _
  congr 1
  funext a
  apply Fin.ext
  match a with
  | ⟨0, _⟩ => show 0 = win0_6.index (pt 7) 0 * 1 + 1 * 0; rw [hi.1]
  | ⟨1, _⟩ => show l.val = win0_6.index (pt 7) 1 * 1024 + 1 * l.val; rw [hi.2]; omega

/-- The bias's gradient after the first points. -/
theorem acc_b (l : Fin 1792) (n : ℕ) (hn : n < 8) :
    (outsAt0 m c (pt ⟨n, hn⟩).val (pt ⟨n, hn⟩).isLt).2.2 (ix2 0 l) = (A.dbias (512 * n + 512) l.val) := by
  induction n with
  | zero =>
    rw [ab m c (pt ⟨0, hn⟩) rfl]
    refine (ob_is m c R ⟨0, hn⟩ _ 0 l (p3 l)).trans ?_
    rw [Arr.dbias_add]
    exact congrArg (· + _) (Finset.sum_range_zero _).symm
  | succ n ih =>
    have h0 : ¬(pt ⟨n + 1, hn⟩).val % 8 = 0 := by show ¬(n + 1) % 8 = 0; omega
    rw [bb m c (pt ⟨n + 1, hn⟩) h0]
    refine (ob_is m c R ⟨n + 1, hn⟩ _ _ l (ih (by omega))).trans ?_
    rw [Arr.dbias_add A (512 * (n + 1)), show 512 * n + 512 = 512 * (n + 1) by omega]

omit R in
theorem flush_b (t : Fin cfg0.N) : (cfg0.win 7).flush t = true ↔ t.val = 7 := by
  have h : ∀ t : Fin 8, (cfg0.win 7).flush (pt t) = true ↔ t.val = 7 := by decide
  exact h ⟨t.val, lt_of_lt_of_eq t.isLt N_0⟩

theorem final_b (l : Fin 1792) : ((dats m 0 c).arrAt 7 cfg0.N : FVec Ideal S1x1792 .f32) (ix2 0 l) = (A.dbias 4096 l.val) := by
  have hi : win0_7.index (pt 7) 0 = 0 ∧ win0_7.index (pt 7) 1 = 0 := by decide
  have h := congrFun ((dats m 0 c).read_blk_arrAt_eq_flushed 7 (fun t t' h h' hne => absurd
      (Fin.ext (((flush_b t).mp h).trans ((flush_b t').mp h').symm)) hne) cfg0.N (pt 7) (pt 7).isLt
    ((flush_b _).mpr rfl)) (ix2 0 l)
  rw [View.read_apply, flushed7] at h
  refine Eq.trans (Eq.trans ?_ h) (acc_b m c R l 7 (by norm_num))
  show ((dats m 0 c).arrAt 7 cfg0.N : FVec Ideal S1x1792 .f32) _ = ((dats m 0 c).arrAt 7 cfg0.N : FVec Ideal S1x1792 .f32) _
  congr 1
  funext a
  apply Fin.ext
  match a with
  | ⟨0, _⟩ => show 0 = win0_7.index (pt 7) 0 * 1 + 1 * 0; rw [hi.1]
  | ⟨1, _⟩ => show l.val = win0_7.index (pt 7) 1 * 1792 + 1 * l.val; rw [hi.2]; omega

/-! ## Kernel and reference -/

theorem eq_x : ((dats m 0 c).arrAt 5 cfg0.N : FVec Ideal S4096x1024 .bf16) = Cert.Reference12Ideal.Read.val_main_v46 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := funext fun i =>
  (re_of_is (final_x m c R) i).trans (r_out R i).symm
theorem eq_g : ((dats m 0 c).arrAt 6 cfg0.N : FVec Ideal S1x1024 .f32) = Cert.Reference12Ideal.Read.val_main_v27 (F := Ideal)
    (m ((c : Thread nD τ).loc main_arg0)) (m ((c : Thread nD τ).loc main_arg1)) (m ((c : Thread nD τ).loc main_arg2)) := funext fun i => by
  refine Eq.trans ?_ (r_g R i).symm
  rw [show i = ix2 0 (i 1) from funext fun a => by match a with | ⟨0, _⟩ => exact Fin.ext (Nat.lt_one_iff.mp (i 0).isLt) | ⟨1, _⟩ => rfl]
  exact final_g m c R (i 1)
theorem eq_b : ((dats m 0 c).arrAt 7 cfg0.N : FVec Ideal S1x1792 .f32) = Cert.Reference12Ideal.Read.val_main_v23 (F := Ideal)
    (m ((c : Thread nD τ).loc main_arg0)) := funext fun i => by
  refine Eq.trans ?_ (r_b R i).symm
  rw [show i = ix2 0 (i 1) from funext fun a => by match a with | ⟨0, _⟩ => exact Fin.ext (Nat.lt_one_iff.mp (i 0).isLt) | ⟨1, _⟩ => rfl]
  exact final_b m c R (i 1)

end

end NormB1
-- ==== Proof.GradWin1.lean ====
/-
  The gradient of the second layer's input projection weight, entry by entry: a grid point computes 256 rows of it, and every entry is the sum over
  the 4096 tokens that the reference's product is.
-/
module

public import proofs.«01_k».proof.Proof.FfnBase
public import proofs.«01_k».proof.Proof.Gen.Kernel13Ideal.Value
public import proofs.«01_k».proof.Proof.Gen.Reference13Ideal.Read

@[expose] public section

noncomputable section

namespace GradWin1

open Idealize.ShloMosaic hiding ix0 ix1 ix2 ix3 ix4 ix5
open Idealize.ShloMosaic.ValueIdx Idealize.ShloMosaic.TcCoe Cert.Kernel13Ideal Cert.Kernel13Ideal.Gen Cert.Kernel13Ideal.Value
open scoped BigOperators

theorem pay1 (x : FVec Ideal S4096x256 .bf16) (y : FVec Ideal S4096x1024 .bf16) (r : Fin 256) (l : Fin 1024) :
    k0_pay1 (F := Ideal) x y (ix2 r l) = ∑ j : Fin 4096, x (ix2 j r) * y (ix2 j l) := Ffn.tn_zero x y r l

theorem out2 (x0 : FVec Ideal S4096x256 .bf16) (x1 : FVec Ideal S4096x1024 .bf16) : out0_2 (F := Ideal) x0 x1 = k0_pay1 (F := Ideal) x0 x1 := by
  unfold out0_2
  rw [View.canon_cons_unit_lit _ _ _ (by decide), View.ld_unit_lit _ _ (by decide), View.ld_unit_lit _ _ (by decide)]

variable (m : (ℓ : Loc nD τ sig) → Buf (Elt Ideal) ℓ) (c : Dev nD)

/-- Row `r` of point `t`'s block. -/
def row (t : Fin 7) (r : Fin 256) : Fin 1792 := ⟨256 * t.val + r.val, by omega⟩

def pt (t : Fin 7) : Fin cfg0.N := ⟨t.val, lt_of_lt_of_eq t.isLt N_0.symm⟩

theorem blk0 (t : Fin 7) (j : Fin 4096) (r : Fin 256) : (iblk m c 0 (pt t) : FVec Ideal S4096x256 .bf16) (ix2 j r)
    = m ((c : Thread nD τ).loc main_arg0) (ix2 j (row t r)) := by
  have hi : ∀ t : Fin 7, win0_0.index (pt t) 0 = 0 ∧ win0_0.index (pt t) 1 = t.val := by decide
  unfold iblk
  rw [View.read_apply]
  show V m c main_arg0 _ = m ((c : Thread nD τ).loc main_arg0) _
  rw [V_main_arg0]
  congr 1
  funext a
  apply Fin.ext
  match a with
  | ⟨0, _⟩ => show win0_0.index (pt t) 0 * 4096 + 1 * j.val = j.val; rw [(hi t).1]; omega
  | ⟨1, _⟩ => show win0_0.index (pt t) 1 * 256 + 1 * r.val = 256 * t.val + r.val; rw [(hi t).2]; omega

theorem blk1 (t : Fin 7) (j : Fin 4096) (l : Fin 1024) : (iblk m c 1 (pt t) : FVec Ideal S4096x1024 .bf16) (ix2 j l)
    = m ((c : Thread nD τ).loc main_arg1) (ix2 j l) := by
  have hi : ∀ t : Fin 7, win0_1.index (pt t) 0 = 0 ∧ win0_1.index (pt t) 1 = 0 := by decide
  unfold iblk
  rw [View.read_apply]
  show V m c main_arg1 _ = m ((c : Thread nD τ).loc main_arg1) _
  rw [V_main_arg1]
  congr 1
  funext a
  apply Fin.ext
  match a with
  | ⟨0, _⟩ => show win0_1.index (pt t) 0 * 4096 + 1 * j.val = j.val; rw [(hi t).1]; omega
  | ⟨1, _⟩ => show win0_1.index (pt t) 1 * 1024 + 1 * l.val = l.val; rw [(hi t).2]; omega

/-- An entry of the gradient. -/
def entry (x : FVec Ideal S4096x1792 .bf16) (y : FVec Ideal S4096x1024 .bf16) : FVec Ideal S1792x1024 .bf16 := fun i => ∑ j : Fin 4096, x (ix2 j (i 0)) * y (ix2 j (i 1))

theorem rows (X Y : FVec Ideal S1792x1024 .bf16) (h : ∀ (t : Fin 7) (r : Fin 256) (l : Fin 1024), X (ix2 (row t r) l) = Y (ix2 (row t r) l)) : X = Y :=
  funext fun i => by
    have h0 : (i 0).val < 1792 := (i 0).isLt
    have e : i = ix2 (row ⟨(i 0).val / 256, by omega⟩ ⟨(i 0).val % 256, Nat.mod_lt _ (by decide)⟩) (i 1) := funext fun a => by
      match a with
      | ⟨0, _⟩ => exact Fin.ext (by show (i 0).val = 256 * ((i 0).val / 256) + (i 0).val % 256; omega)
      | ⟨1, _⟩ => rfl
    rw [e]; exact h _ _ _

theorem final2 : ((dats m 0 c).arrAt 2 cfg0.N : FVec Ideal S1792x1024 .bf16)
    = entry (m ((c : Thread nD τ).loc main_arg0)) (m ((c : Thread nD τ).loc main_arg1)) := rows _ _ fun t r l => by
  have hf : ∀ t : Fin 7, (cfg0.win 2).flush (pt t) = true := by decide
  have hi : ∀ t : Fin 7, win0_2.index (pt t) 0 = t.val ∧ win0_2.index (pt t) 1 = 0 := by decide
  have h := congrFun (blocks2 m c (pt t) (hf t)) (ix2 r l)
  rw [View.read_apply, flushed2, out2] at h
  refine Eq.trans (Eq.trans ?_ h) ((pay1 _ _ r l).trans (Finset.sum_congr rfl fun j _ => ?_))
  · show ((dats m 0 c).arrAt 2 cfg0.N : FVec Ideal S1792x1024 .bf16) _ = ((dats m 0 c).arrAt 2 cfg0.N : FVec Ideal S1792x1024 .bf16) _
    congr 1
    funext a
    apply Fin.ext
    match a with
    | ⟨0, _⟩ => show 256 * t.val + r.val = win0_2.index (pt t) 0 * 256 + 1 * r.val; rw [(hi t).1]; omega
    | ⟨1, _⟩ => show l.val = win0_2.index (pt t) 1 * 1024 + 1 * l.val; rw [(hi t).2]; omega
  · rw [blk0, blk1]

section
open Cert.Reference13Ideal.Read

theorem ref8 (x0 : FVec Ideal S4096x1792 .bf16) (x1 : FVec Ideal S4096x1024 .bf16) : val_main_v8 (F := Ideal) x0 x1 = entry x0 x1 :=
  funext fun i => by
    rw [val_main_v8_apply]
    show val_main_v7 (F := Ideal) x0 x1 i = _
    rw [val_main_v7_apply, val_main_v6_apply, val_main_v5_apply]
    refine Finset.sum_congr rfl fun j _ => ?_
    rw [val_main_v4_apply, val_main_v0_apply]
    exact congrArg₂ (· * ·) (congrArg x0 (Ffn.split2 _)) (congrArg x1 (Ffn.split2 _))

end

end GradWin1
-- ==== Proof.NormFirst.lean ====
/-
  The first layer's normalisation: a grid point normalises 512 rows of the stream, and every row is the row that the reference computes.
-/
module

public import proofs.«01_k».proof.Proof.OutProj
public import proofs.«01_k».proof.Proof.Gen.Kernel14Ideal.Value
public import proofs.«01_k».proof.Proof.Gen.Reference14Ideal.Read

@[expose] public section

noncomputable section

namespace NormFirst

open Idealize.ShloMosaic hiding ix0 ix1 ix2 ix3 ix4 ix5 mulf_apply addf_apply truncf_apply
open Idealize.ShloMosaic.ValueIdx Idealize.ShloMosaic.TcCoe Cert.Kernel14Ideal Cert.Kernel14Ideal.Gen Cert.Kernel14Ideal.Value
open OutProj (rr row rows)
open scoped BigOperators

theorem pay1 (x : FVec Ideal S512x1024 .f32) (g : FVec Ideal S1x1024 .f32) (r : Fin 512) (l : Fin 1024) :
    k0_pay1 (F := Ideal) x g (ix2 r l) = x (ix2 r l) * rr (fun k => x (ix2 r k)) * g (ix2 0 l) := by
  have e := (AttK.rowsum_apply 512 1024 (mulf x x) r 0).trans (Finset.sum_congr rfl fun k _ => mulf_apply x x (ix2 r k))
  unfold k0_pay1
  rw [truncf_apply, mulf_apply, mulf_apply, AttK.bRow_apply 512 1024, AttK.bCol_apply 512 1024, rsqrt_apply, addf_apply]
  refine congrArg (· * g (ix2 0 l)) (congrArg (x (ix2 r l) * ·) ?_)
  exact congrArg (fun z => Ideal.rsqrt (Ideal.div z (FloatOps.ofBits .f32 0x44800000#32 : Ideal .f32) + (FloatOps.ofBits .f32 0x358637BD#32 : Ideal .f32))) e

theorem out2 (x0 : FVec Ideal S512x1024 .f32) (x1 : FVec Ideal S1x1024 .f32) : out0_2 (F := Ideal) x0 x1 = k0_pay1 (F := Ideal) x0 x1 := by
  unfold out0_2
  rw [View.canon_cons_unit_lit _ _ _ (by decide)]
  simp (disch := decide) only [View.ld_unit_lit]

variable (m : (ℓ : Loc nD τ sig) → Buf (Elt Ideal) ℓ) (c : Dev nD)

def pt (t : Fin 8) : Fin cfg0.N := ⟨t.val, lt_of_lt_of_eq t.isLt N_0.symm⟩

theorem blk0 (t : Fin 8) (r : Fin 512) (l : Fin 1024) : (iblk m c 0 (pt t) : FVec Ideal S512x1024 .f32) (ix2 r l)
    = m ((c : Thread nD τ).loc main_arg0) (ix2 (row t r) l) := by
  have hi : ∀ t : Fin 8, win0_0.index (pt t) 0 = t.val ∧ win0_0.index (pt t) 1 = 0 := by decide
  unfold iblk
  rw [View.read_apply]
  show V m c main_arg0 _ = m ((c : Thread nD τ).loc main_arg0) _
  rw [V_main_arg0]
  congr 1
  funext a
  apply Fin.ext
  match a with
  | ⟨0, _⟩ => show win0_0.index (pt t) 0 * 512 + 1 * r.val = 512 * t.val + r.val; rw [(hi t).1]; omega
  | ⟨1, _⟩ => show win0_0.index (pt t) 1 * 1024 + 1 * l.val = l.val; rw [(hi t).2]; omega

theorem blk1 (t : Fin 8) (l : Fin 1024) : (iblk m c 1 (pt t) : FVec Ideal S1x1024 .f32) (ix2 0 l) = m ((c : Thread nD τ).loc main_arg1) (ix2 0 l) := by
  have hi : ∀ t : Fin 8, win0_1.index (pt t) 0 = 0 ∧ win0_1.index (pt t) 1 = 0 := by decide
  unfold iblk
  rw [View.read_apply]
  show V m c main_arg1 _ = m ((c : Thread nD τ).loc main_arg1) _
  rw [V_main_arg1]
  congr 1
  funext a
  apply Fin.ext
  match a with
  | ⟨0, _⟩ => show win0_1.index (pt t) 0 * 1 + 1 * 0 = 0; rw [(hi t).1]
  | ⟨1, _⟩ => show win0_1.index (pt t) 1 * 1024 + 1 * l.val = l.val; rw [(hi t).2]; omega

/-- The normalised stream. -/
def arr (x : FVec Ideal S4096x1024 .f32) (g : FVec Ideal S1x1024 .f32) : FVec Ideal S4096x1024 .bf16 :=
  fun i => x i * rr (fun k => x (ix2 (i 0) k)) * g (ix2 0 (i 1))

theorem final2 : ((dats m 0 c).arrAt 2 cfg0.N : FVec Ideal S4096x1024 .bf16)
    = arr (m ((c : Thread nD τ).loc main_arg0)) (m ((c : Thread nD τ).loc main_arg1)) := rows _ _ fun t r l => by
  have hf : ∀ t : Fin 8, (cfg0.win 2).flush (pt t) = true := by decide
  have hi : ∀ t : Fin 8, win0_2.index (pt t) 0 = t.val ∧ win0_2.index (pt t) 1 = 0 := by decide
  have h := congrFun (blocks2 m c (pt t) (hf t)) (ix2 r l)
  rw [View.read_apply, flushed2, out2] at h
  refine Eq.trans (Eq.trans ?_ h) ((pay1 _ _ r l).trans ?_)
  · show ((dats m 0 c).arrAt 2 cfg0.N : FVec Ideal S4096x1024 .bf16) _ = ((dats m 0 c).arrAt 2 cfg0.N : FVec Ideal S4096x1024 .bf16) _
    congr 1
    funext a
    apply Fin.ext
    match a with
    | ⟨0, _⟩ => show 512 * t.val + r.val = win0_2.index (pt t) 0 * 512 + 1 * r.val; rw [(hi t).1]; omega
    | ⟨1, _⟩ => show l.val = win0_2.index (pt t) 1 * 1024 + 1 * l.val; rw [(hi t).2]; omega
  · have e : (fun k => (iblk m c 0 (pt t) : FVec Ideal S512x1024 .f32) (ix2 r k)) = fun k => m ((c : Thread nD τ).loc main_arg0) (ix2 (row t r) k) :=
      funext fun k => blk0 m c t r k
    exact congrArg₂ (fun p q : EReal => p * q) (congrArg₂ (fun p q : EReal => p * q) (blk0 m c t r l) (congrArg rr e)) (blk1 m c t l)

section
open Cert.Reference14Ideal.Read

variable (x : FVec Ideal S4096x1024 .f32) (g : FVec Ideal S1x1024 .f32)

theorem ref7 (i : Cert.Reference14Ideal.S4096x1.Idx) : val_main_v7 (F := Ideal) x i = rr (fun k => x (ix2 (i 0) k)) := by
  have e : ∑ k : Fin 1024, val_main_v0 (F := Ideal) x (idx_main_v1 (idx_main_v2 i) k) = ∑ k : Fin 1024, x (ix2 (i 0) k) * x (ix2 (i 0) k) :=
    Finset.sum_congr rfl fun k _ => by rw [val_main_v0_apply]; exact congrArg₂ (· * ·) (congrArg x (Ffn.split2 _)) (congrArg x (Ffn.split2 _))
  rw [val_main_v7_apply, val_main_v6_apply, val_main_v5_apply, val_main_v4_apply, val_main_v3_apply, val_main_v2_apply, val_main_v1_apply, e,
    val_main_cst_apply, AttK.lit0, EReal.coe_zero, zero_add]
  rfl

theorem ref12 : val_main_v12 (F := Ideal) x g = arr x g := funext fun i => by
  rw [val_main_v12_apply, val_main_v11_apply, val_main_v10_apply, val_main_v9_apply, val_main_v8_apply, ref7]
  exact congrArg₂ (· * ·) rfl (congrArg g (Ffn.split2 _))

end

end NormFirst
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Reference2Ideal.Read
public import proofs.«01_k».proof.Proof.Gen.Reference2Ideal.Run
public import proofs.«01_k».proof.Proof.Gen.Reference3Ideal.Read
public import proofs.«01_k».proof.Proof.Gen.Reference3Ideal.Run
public import proofs.«01_k».proof.Proof.Gen.Reference4Ideal.Read
public import proofs.«01_k».proof.Proof.Gen.Reference4Ideal.Run
public import proofs.«01_k».proof.Proof.Gen.Pre_finite2
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Read
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Reference14Ideal.Run
public import proofs.«01_k».proof.Proof.Finite
public import proofs.«01_k».proof.Proof.FfnFinite
public import proofs.«01_k».proof.Proof.Equal
public import proofs.«01_k».proof.Proof.FfnRun
public import proofs.«01_k».proof.Proof.GradW
public import proofs.«01_k».proof.Proof.FfnFwd
public import proofs.«01_k».proof.Proof.GradWo
public import proofs.«01_k».proof.Proof.FfnLast
public import proofs.«01_k».proof.Proof.InProj
public import proofs.«01_k».proof.Proof.OutProj
public import proofs.«01_k».proof.Proof.GradWin
public import proofs.«01_k».proof.Proof.NormB0Run
public import proofs.«01_k».proof.Proof.InProjB
public import proofs.«01_k».proof.Proof.NormB1Run
public import proofs.«01_k».proof.Proof.GradWin1
public import proofs.«01_k».proof.Proof.NormFirst
public import Idealize.ShloMosaic.Adequacy
public import Idealize.ShloMosaic.Init

@[expose] public section

noncomputable section

namespace Cert.Proof

open Idealize.ShloMosaic Idealize.ShloMosaic.TcCoe Idealize.SL.Sem

/-- The reference's run, read at its arguments; it declares no semaphore. -/
theorem frame_reference : Cert.quiescent_ReferenceIdeal := by
  intro m ρ _
  exact (θ_run Cert.ReferenceIdeal.defs _ _).mono (fun r h => ⟨fun c => (h c).2.2.2.2.2.2, sem_eq_zero_of_no_sems (by decide) r.2⟩)
    (Cert.ReferenceIdeal.Value.run (F := Ideal) m ρ)

/-- What the kernel's six result arrays hold on device `c`. -/
abbrev Out (m : (ℓ : Loc Cert.KernelIdeal.nD Cert.KernelIdeal.τ Cert.KernelIdeal.sig) → Buf (Elt Ideal) ℓ) (c : Dev Cert.KernelIdeal.nD) :=
  Cert.KernelIdeal.Gen.dats m 0 c

/-- The two programs return the same six arrays. -/
theorem equation : Cert.algebraic_KernelIdeal_ReferenceIdeal_pre_finite := by
  intro m ρ m' ρ' hpre hargs
  refine ⟨fun c => (Out m c).arrAt 7 Cert.KernelIdeal.cfg0.N, fun c => (Out m c).arrAt 8 Cert.KernelIdeal.cfg0.N, fun c => (Out m c).arrAt 9 Cert.KernelIdeal.cfg0.N,
    fun c => (Out m c).arrAt 10 Cert.KernelIdeal.cfg0.N, fun c => (Out m c).arrAt 11 Cert.KernelIdeal.cfg0.N, fun c => (Out m c).arrAt 12 Cert.KernelIdeal.cfg0.N,
    Cert.KernelIdeal.Value.run_blocks (F := Ideal) m ρ, ?_⟩
  refine (θ_run Cert.ReferenceIdeal.defs _ _).mono (fun r h c => ?_) (Cert.ReferenceIdeal.Value.run (F := Ideal) m' ρ')
  obtain ⟨h0, h1, h2, h3, h4, h5, hk⟩ := h c
  obtain ⟨a0, a1, a2, a3, a4⟩ := hargs c
  have R := AttP.reads (hpre c)
  have w {X : Type} (f : FVec Ideal Cert.ReferenceIdeal.S4096x2560 .bf16 → FVec Ideal Cert.ReferenceIdeal.S4096x1024 .bf16 → FVec Ideal Cert.ReferenceIdeal.S1x64 .f32
      → FVec Ideal Cert.ReferenceIdeal.S1x64 .f32 → FVec Ideal Cert.ReferenceIdeal.S12x192 .f32 → X) :
      f (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
        = f (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
    rw [a0, a1, a2, a3, a4]
  exact ⟨h0.trans ((Cert.ReferenceIdeal.Read.val_main_v217_eq (StableHlo.launchContents m' c)).trans ((w fun y0 y1 y2 y3 y4 => Cert.ReferenceIdeal.Read.val_main_v217 (F := Ideal) y0 y1 y2 y3 y4).trans (AttE.eq_dq R).symm)),
    h1.trans ((Cert.ReferenceIdeal.Read.val_main_v218_eq (StableHlo.launchContents m' c)).trans ((w fun y0 y1 y2 y3 y4 => Cert.ReferenceIdeal.Read.val_main_v218 (F := Ideal) y0 y1 y2 y3 y4).trans (AttE.eq_dk R).symm)),
    h2.trans ((Cert.ReferenceIdeal.Read.val_main_v219_eq (StableHlo.launchContents m' c)).trans ((w fun y0 y1 y2 y3 y4 => Cert.ReferenceIdeal.Read.val_main_v219 (F := Ideal) y0 y1 y2 y3 y4).trans (AttE.eq_dv R).symm)),
    h3.trans ((Cert.ReferenceIdeal.Read.val_main_v216_eq (StableHlo.launchContents m' c)).trans ((w fun y0 y1 y2 y3 y4 => Cert.ReferenceIdeal.Read.val_main_v216 (F := Ideal) y0 y1 y2 y3 y4).trans (AttE.eq_db R).symm)),
    h4.trans ((Cert.ReferenceIdeal.Read.val_main_v189_eq (StableHlo.launchContents m' c)).trans ((w fun y0 y1 y2 y3 y4 => Cert.ReferenceIdeal.Read.val_main_v189 (F := Ideal) y0 y1 y2 y3 y4).trans (AttE.eq_dgq R).symm)),
    h5.trans ((Cert.ReferenceIdeal.Read.val_main_v185_eq (StableHlo.launchContents m' c)).trans ((w fun y0 y1 y2 y3 y4 => Cert.ReferenceIdeal.Read.val_main_v185 (F := Ideal) y0 y1 y2 y3 y4).trans (AttE.eq_dgk R).symm)), hk⟩

/-- The run of the feed-forward layer's reference, read at its arguments. -/
theorem frame_reference2 : Cert.quiescent_Reference2Ideal := by
  intro m ρ _
  exact (θ_run Cert.Reference2Ideal.defs _ _).mono (fun r h => ⟨fun c => (h c).2.2.2.2.2, sem_eq_zero_of_no_sems (by decide) r.2⟩)
    (Cert.Reference2Ideal.Value.run (F := Ideal) m ρ)

/-- The feed-forward layer's backward pass returns the reference's five arrays. -/
theorem equation2 : Cert.algebraic_Kernel2Ideal_Reference2Ideal_pre_finite2 := by
  intro m ρ m' ρ' hpre hargs
  refine ⟨fun c => (Cert.Kernel2Ideal.Gen.dats m 0 c).arrAt 9 Cert.Kernel2Ideal.cfg0.N, fun c => (Cert.Kernel2Ideal.Gen.dats m 0 c).arrAt 10 Cert.Kernel2Ideal.cfg0.N, fun c => (Cert.Kernel2Ideal.Gen.dats m 0 c).arrAt 11 Cert.Kernel2Ideal.cfg0.N, fun c => (Cert.Kernel2Ideal.Gen.dats m 0 c).arrAt 12 Cert.Kernel2Ideal.cfg0.N, fun c => (Cert.Kernel2Ideal.Gen.dats m 0 c).arrAt 13 Cert.Kernel2Ideal.cfg0.N,
    Cert.Kernel2Ideal.Value.run_blocks (F := Ideal) m ρ, ?_⟩
  refine (θ_run Cert.Reference2Ideal.defs _ _).mono (fun r h c => ?_) (Cert.Reference2Ideal.Value.run (F := Ideal) m' ρ')
  obtain ⟨h0, h1, h2, h3, h4, hk⟩ := h c
  obtain ⟨a0, a1, a2, a3, a4, a5, a6⟩ := hargs c
  have R : FfnB.Holds m c _ := FfnP.reads (hpre c)
  have w {X : Type} (f : FVec Ideal Cert.Reference2Ideal.S4096x1024 .bf16 → FVec Ideal Cert.Reference2Ideal.S4096x1024 .f32 → FVec Ideal Cert.Reference2Ideal.S1x1024 .f32 → FVec Ideal Cert.Reference2Ideal.S2816x1024 .bf16 → FVec Ideal Cert.Reference2Ideal.S2816x1024 .bf16 → FVec Ideal Cert.Reference2Ideal.S2816x1024 .bf16 → FVec Ideal Cert.Reference2Ideal.S1024x1024 .bf16 → X) := congr (congr (congr (congr (congr (congr (congrArg f a0) a1) a2) a3) a4) a5) a6
  exact ⟨h0.trans ((Cert.Reference2Ideal.Read.val_main_v56_eq m' c).trans ((w fun y0 y1 y2 y3 y4 y5 y6 => Cert.Reference2Ideal.Read.val_main_v56 (F := Ideal) y0 y1 y2 y3 y4 y5).trans (FfnB.eq9 m c R).symm)),
    h1.trans ((Cert.Reference2Ideal.Read.val_main_v57_eq _ _ _ _ _).trans ((w fun y0 y1 y2 y3 y4 y5 y6 => Cert.Reference2Ideal.Read.val_main_v57 (F := Ideal) y0 y1 y2 y3 y5).trans (FfnB.eq10 m c R).symm)),
    h2.trans ((Cert.Reference2Ideal.Read.val_main_v58_eq m' c).trans ((w fun y0 y1 y2 y3 y4 y5 y6 => Cert.Reference2Ideal.Read.val_main_v58 (F := Ideal) y0 y1 y2 y3 y4 y5).trans (FfnB.eq11 m c R).symm)),
    h3.trans ((Cert.Reference2Ideal.Read.val_main_v59_eq m' c).trans ((w fun y0 y1 y2 y3 y4 y5 y6 => Cert.Reference2Ideal.Read.val_main_v59 (F := Ideal) y0 y1 y2 y3 y4 y5 y6).trans (FfnB.eq12 m c R).symm)),
    h4.trans ((Cert.Reference2Ideal.Read.val_main_v36_eq m' c).trans ((w fun y0 y1 y2 y3 y4 y5 y6 => Cert.Reference2Ideal.Read.val_main_v36 (F := Ideal) y0 y1 y2 y3 y4 y5).trans (FfnB.eq13 m c R).symm)), hk⟩

/-- The run of the weight gradients' reference, read at its arguments. -/
theorem frame_reference3 : Cert.quiescent_Reference3Ideal := by
  intro m ρ _
  exact (θ_run Cert.Reference3Ideal.defs _ _).mono (fun r h => ⟨fun c => (h c).2.2.2, sem_eq_zero_of_no_sems (by decide) r.2⟩)
    (Cert.Reference3Ideal.Value.run (F := Ideal) m ρ)

/-- The weight gradients are the reference's three arrays. -/
theorem equation3 : Cert.algebraic_Kernel3Ideal_Reference3Ideal := by
  intro m ρ m' ρ' _ hargs
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N, fun c => (Cert.Kernel3Ideal.Gen.dats m 0 c).arrAt 7 Cert.Kernel3Ideal.cfg0.N,
    Cert.Kernel3Ideal.Value.run_blocks (F := Ideal) m ρ, ?_⟩
  refine (θ_run Cert.Reference3Ideal.defs _ _).mono (fun r h c => ?_) (Cert.Reference3Ideal.Value.run (F := Ideal) m' ρ')
  obtain ⟨h0, h1, h2, hk⟩ := h c
  obtain ⟨a0, a1, a2, a3, a4⟩ := hargs c
  have w {X : Type} (f : FVec Ideal Cert.Reference3Ideal.S4096x2816 .bf16 → FVec Ideal Cert.Reference3Ideal.S4096x2816 .bf16 → FVec Ideal Cert.Reference3Ideal.S4096x1024 .bf16 → FVec Ideal Cert.Reference3Ideal.S4096x2816 .bf16 → FVec Ideal Cert.Reference3Ideal.S4096x1024 .bf16 → X) := congr (congr (congr (congr (congrArg f a0) a1) a2) a3) a4
  exact ⟨h0.trans ((Cert.Reference3Ideal.Read.val_main_v19_eq _ _).trans ((w fun y0 y1 y2 y3 y4 => Cert.Reference3Ideal.Read.val_main_v19 (F := Ideal) y0 y2).trans ((GradW.ref19 _ _).trans (GradW.final5 m c).symm))),
    h1.trans ((Cert.Reference3Ideal.Read.val_main_v20_eq _ _).trans ((w fun y0 y1 y2 y3 y4 => Cert.Reference3Ideal.Read.val_main_v20 (F := Ideal) y1 y2).trans ((GradW.ref20 _ _).trans (GradW.final6 m c).symm))),
    h2.trans ((Cert.Reference3Ideal.Read.val_main_v21_eq _ _).trans ((w fun y0 y1 y2 y3 y4 => Cert.Reference3Ideal.Read.val_main_v21 (F := Ideal) y3 y4).trans ((GradW.ref21 _ _).trans (GradW.final7 m c).symm))), hk⟩

/-- The run of the forward pass's reference, read at its arguments. -/
theorem frame_reference4 : Cert.quiescent_Reference4Ideal := by
  intro m ρ _
  exact (θ_run Cert.Reference4Ideal.defs _ _).mono (fun r h => ⟨fun c => (h c).2.2.2.2.2, sem_eq_zero_of_no_sems (by decide) r.2⟩)
    (Cert.Reference4Ideal.Value.run (F := Ideal) m ρ)

/-- The feed-forward layer's forward pass returns the reference's five arrays. -/
theorem equation4 : Cert.algebraic_Kernel4Ideal_Reference4Ideal := by
  intro m ρ m' ρ' _ hargs
  refine ⟨fun c => (Cert.Kernel4Ideal.Gen.dats m 0 c).arrAt 6 Cert.Kernel4Ideal.cfg0.N, fun c => (Cert.Kernel4Ideal.Gen.dats m 0 c).arrAt 7 Cert.Kernel4Ideal.cfg0.N, fun c => (Cert.Kernel4Ideal.Gen.dats m 0 c).arrAt 8 Cert.Kernel4Ideal.cfg0.N, fun c => (Cert.Kernel4Ideal.Gen.dats m 0 c).arrAt 9 Cert.Kernel4Ideal.cfg0.N, fun c => (Cert.Kernel4Ideal.Gen.dats m 0 c).arrAt 10 Cert.Kernel4Ideal.cfg0.N,
    Cert.Kernel4Ideal.Value.run_blocks (F := Ideal) m ρ, ?_⟩
  refine (θ_run Cert.Reference4Ideal.defs _ _).mono (fun r h c => ?_) (Cert.Reference4Ideal.Value.run (F := Ideal) m' ρ')
  obtain ⟨h0, h1, h2, h3, h4, hk⟩ := h c
  obtain ⟨a0, a1, a2, a3, a4, a5⟩ := hargs c
  have w {X : Type} (f : FVec Ideal Cert.Reference4Ideal.S4096x1024 .f32 → FVec Ideal Cert.Reference4Ideal.S1x1024 .f32 → FVec Ideal Cert.Reference4Ideal.S1x1024 .f32 → FVec Ideal Cert.Reference4Ideal.S2816x1024 .bf16 → FVec Ideal Cert.Reference4Ideal.S2816x1024 .bf16 → FVec Ideal Cert.Reference4Ideal.S2816x1024 .bf16 → X) := congr (congr (congr (congr (congr (congrArg f a0) a1) a2) a3) a4) a5
  exact ⟨h0.trans ((Cert.Reference4Ideal.Read.val_main_v23_eq _ _ _).trans ((w fun y0 y1 y2 y3 y4 y5 => Cert.Reference4Ideal.Read.val_main_v23 (F := Ideal) y0 y1 y3).trans ((FfnF.eq6 _ _ _).trans (FfnF.final6 m c).symm))),
    h1.trans ((Cert.Reference4Ideal.Read.val_main_v24_eq _ _ _).trans ((w fun y0 y1 y2 y3 y4 y5 => Cert.Reference4Ideal.Read.val_main_v24 (F := Ideal) y0 y1 y4).trans ((FfnF.eq7 _ _ _).trans (FfnF.final7 m c).symm))),
    h2.trans ((Cert.Reference4Ideal.Read.val_main_v25_eq _ _ _ _).trans ((w fun y0 y1 y2 y3 y4 y5 => Cert.Reference4Ideal.Read.val_main_v25 (F := Ideal) y0 y1 y3 y4).trans ((FfnF.eq8 _ _ _ _).trans (FfnF.final8 m c).symm))),
    h3.trans ((Cert.Reference4Ideal.Read.val_main_v22_eq _ _ _ _ _).trans ((w fun y0 y1 y2 y3 y4 y5 => Cert.Reference4Ideal.Read.val_main_v22 (F := Ideal) y0 y1 y3 y4 y5).trans ((FfnF.eq9 _ _ _ _ _).trans (FfnF.final9 m c).symm))),
    h4.trans ((Cert.Reference4Ideal.Read.val_main_v38_eq m' c).trans ((w fun y0 y1 y2 y3 y4 y5 => Cert.Reference4Ideal.Read.val_main_v38 (F := Ideal) y0 y1 y2 y3 y4 y5).trans ((FfnF.eq10 _ _ _ _ _ _).trans (FfnF.final10 m c).symm))), hk⟩

/-- The run of the reference of the output projection's gradient, read at its arguments. -/
theorem frame_reference5 : Cert.quiescent_Reference5Ideal := by
  intro m ρ _
  exact (θ_run Cert.Reference5Ideal.defs _ _).mono (fun r h => ⟨fun c => (h c).2, sem_eq_zero_of_no_sems (by decide) r.2⟩)
    (Cert.Reference5Ideal.Value.run (F := Ideal) m ρ)

/-- The gradient of the output projection's weight is the reference's array. -/
theorem equation5 : Cert.algebraic_Kernel5Ideal_Reference5Ideal := by
  intro m ρ m' ρ' _ hargs
  refine ⟨fun c => (Cert.Kernel5Ideal.Gen.dats m 0 c).arrAt 2 Cert.Kernel5Ideal.cfg0.N,
    Cert.Kernel5Ideal.Value.run_blocks (F := Ideal) m ρ, ?_⟩
  refine (θ_run Cert.Reference5Ideal.defs _ _).mono (fun r h c => ?_) (Cert.Reference5Ideal.Value.run (F := Ideal) m' ρ')
  obtain ⟨h0, hk⟩ := h c
  obtain ⟨a0, a1⟩ := hargs c
  have w {X : Type} (f : FVec Ideal Cert.Reference5Ideal.S4096x1024 .bf16 → FVec Ideal Cert.Reference5Ideal.S4096x1024 .bf16 → X) := congr (congrArg f a0) a1
  exact ⟨h0.trans ((Cert.Reference5Ideal.Read.val_main_v6_eq _ _).trans ((w fun y0 y1 => Cert.Reference5Ideal.Read.val_main_v6 (F := Ideal) y0 y1).trans ((GradWo.ref6 _ _).trans (GradWo.final2 m c).symm))), hk⟩

/-- The run of the reference of the last layer's forward pass, read at its arguments. -/
theorem frame_reference6 : Cert.quiescent_Reference6Ideal := by
  intro m ρ _
  exact (θ_run Cert.Reference6Ideal.defs _ _).mono (fun r h => ⟨fun c => (h c).2.2.2.2.2, sem_eq_zero_of_no_sems (by decide) r.2⟩)
    (Cert.Reference6Ideal.Value.run (F := Ideal) m ρ)

/-- The last feed-forward layer with the loss returns the reference's five arrays. -/
theorem equation6 : Cert.algebraic_Kernel6Ideal_Reference6Ideal := by
  intro m ρ m' ρ' _ hargs
  refine ⟨fun c => (Cert.Kernel6Ideal.Gen.dats m 0 c).arrAt 6 Cert.Kernel6Ideal.cfg0.N, fun c => (Cert.Kernel6Ideal.Gen.dats m 0 c).arrAt 7 Cert.Kernel6Ideal.cfg0.N, fun c => (Cert.Kernel6Ideal.Gen.dats m 0 c).arrAt 8 Cert.Kernel6Ideal.cfg0.N, fun c => (Cert.Kernel6Ideal.Gen.dats m 0 c).arrAt 9 Cert.Kernel6Ideal.cfg0.N, fun c => (Cert.Kernel6Ideal.Gen.dats m 0 c).arrAt 10 Cert.Kernel6Ideal.cfg0.N,
    Cert.Kernel6Ideal.Value.run_blocks (F := Ideal) m ρ, ?_⟩
  refine (θ_run Cert.Reference6Ideal.defs _ _).mono (fun r h c => ?_) (Cert.Reference6Ideal.Value.run (F := Ideal) m' ρ')
  obtain ⟨h0, h1, h2, h3, h4, hk⟩ := h c
  obtain ⟨a0, a1, a2, a3, a4, a5⟩ := hargs c
  have w {X : Type} (f : FVec Ideal Cert.Reference6Ideal.S4096x1024 .f32 → FVec Ideal Cert.Reference6Ideal.S1x1024 .f32 → FVec Ideal Cert.Reference6Ideal.S4096x1024 .f32 → FVec Ideal Cert.Reference6Ideal.S2816x1024 .bf16 → FVec Ideal Cert.Reference6Ideal.S2816x1024 .bf16 → FVec Ideal Cert.Reference6Ideal.S2816x1024 .bf16 → X) := congr (congr (congr (congr (congr (congrArg f a0) a1) a2) a3) a4) a5
  exact ⟨h0.trans ((Cert.Reference6Ideal.Read.val_main_v38_eq _ _ _).trans ((w fun y0 y1 y2 y3 y4 y5 => Cert.Reference6Ideal.Read.val_main_v38 (F := Ideal) y0 y1 y3).trans ((FfnL.eq6 _ _ _).trans (FfnL.final6 m c).symm))),
    h1.trans ((Cert.Reference6Ideal.Read.val_main_v39_eq _ _ _).trans ((w fun y0 y1 y2 y3 y4 y5 => Cert.Reference6Ideal.Read.val_main_v39 (F := Ideal) y0 y1 y4).trans ((FfnL.eq7 _ _ _).trans (FfnL.final7 m c).symm))),
    h2.trans ((Cert.Reference6Ideal.Read.val_main_v40_eq _ _ _ _).trans ((w fun y0 y1 y2 y3 y4 y5 => Cert.Reference6Ideal.Read.val_main_v40 (F := Ideal) y0 y1 y3 y4).trans ((FfnL.eq8 _ _ _ _).trans (FfnL.final8 m c).symm))),
    h3.trans ((Cert.Reference6Ideal.Read.val_main_v41_eq _ _ _ _ _ _).trans ((w fun y0 y1 y2 y3 y4 y5 => Cert.Reference6Ideal.Read.val_main_v41 (F := Ideal) y0 y1 y2 y3 y4 y5).trans ((FfnL.eq9 _ _ _ _ _ _).trans (FfnL.final9 m c).symm))),
    h4.trans ((Cert.Reference6Ideal.Read.val_main_v42_eq m' c).trans ((w fun y0 y1 y2 y3 y4 y5 => Cert.Reference6Ideal.Read.val_main_v42 (F := Ideal) y0 y1 y2 y3 y4 y5).trans ((FfnL.eq10 _ _ _ _ _ _).trans (FfnL.final10 m c).symm))), hk⟩

/-- The run of the reference of the input projection, read at its arguments. -/
theorem frame_reference7 : Cert.quiescent_Reference7Ideal := by
  intro m ρ _
  exact (θ_run Cert.Reference7Ideal.defs _ _).mono (fun r h => ⟨fun c => (h c).2, sem_eq_zero_of_no_sems (by decide) r.2⟩)
    (Cert.Reference7Ideal.Value.run (F := Ideal) m ρ)

/-- The input projection returns the reference's array. -/
theorem equation7 : Cert.algebraic_Kernel7Ideal_Reference7Ideal := by
  intro m ρ m' ρ' _ hargs
  refine ⟨fun c => (Cert.Kernel7Ideal.Gen.dats m 0 c).arrAt 2 Cert.Kernel7Ideal.cfg0.N,
    Cert.Kernel7Ideal.Value.run_blocks (F := Ideal) m ρ, ?_⟩
  refine (θ_run Cert.Reference7Ideal.defs _ _).mono (fun r h c => ?_) (Cert.Reference7Ideal.Value.run (F := Ideal) m' ρ')
  obtain ⟨h0, hk⟩ := h c
  obtain ⟨a0, a1, a2⟩ := hargs c
  have w {X : Type} (f : FVec Ideal Cert.Reference7Ideal.S4096x1024 .f32 → FVec Ideal Cert.Reference7Ideal.S1x1024 .f32 → FVec Ideal Cert.Reference7Ideal.S2560x1024 .bf16 → X) := congr (congr (congrArg f a0) a1) a2
  exact ⟨h0.trans ((Cert.Reference7Ideal.Read.val_main_v15_eq _ _ _).trans ((w fun y0 y1 y2 => Cert.Reference7Ideal.Read.val_main_v15 (F := Ideal) y0 y1 y2).trans ((InProj.ref15 _ _ _).trans (InProj.final2 m c).symm))), hk⟩

/-- The run of the reference of the output projection, read at its arguments. -/
theorem frame_reference8 : Cert.quiescent_Reference8Ideal := by
  intro m ρ _
  exact (θ_run Cert.Reference8Ideal.defs _ _).mono (fun r h => ⟨fun c => (h c).2.2, sem_eq_zero_of_no_sems (by decide) r.2⟩)
    (Cert.Reference8Ideal.Value.run (F := Ideal) m ρ)

/-- The output projection with the norm after it returns the reference's two arrays. -/
theorem equation8 : Cert.algebraic_Kernel8Ideal_Reference8Ideal := by
  intro m ρ m' ρ' _ hargs
  refine ⟨fun c => (Cert.Kernel8Ideal.Gen.dats m 0 c).arrAt 4 Cert.Kernel8Ideal.cfg0.N, fun c => (Cert.Kernel8Ideal.Gen.dats m 0 c).arrAt 5 Cert.Kernel8Ideal.cfg0.N,
    Cert.Kernel8Ideal.Value.run_blocks (F := Ideal) m ρ, ?_⟩
  refine (θ_run Cert.Reference8Ideal.defs _ _).mono (fun r h c => ?_) (Cert.Reference8Ideal.Value.run (F := Ideal) m' ρ')
  obtain ⟨h0, h1, hk⟩ := h c
  obtain ⟨a0, a1, a2, a3⟩ := hargs c
  have w {X : Type} (f : FVec Ideal Cert.Reference8Ideal.S4096x1024 .bf16 → FVec Ideal Cert.Reference8Ideal.S1024x1024 .bf16 → FVec Ideal Cert.Reference8Ideal.S4096x1024 .f32 → FVec Ideal Cert.Reference8Ideal.S1x1024 .f32 → X) := congr (congr (congr (congrArg f a0) a1) a2) a3
  exact ⟨h0.trans ((Cert.Reference8Ideal.Read.val_main_v3_eq _ _ _).trans ((w fun y0 y1 y2 y3 => Cert.Reference8Ideal.Read.val_main_v3 (F := Ideal) y0 y1 y2).trans ((OutProj.eq4 _ _ _).trans (OutProj.final4 m c).symm))),
    h1.trans ((Cert.Reference8Ideal.Read.val_main_v16_eq _ _ _ _).trans ((w fun y0 y1 y2 y3 => Cert.Reference8Ideal.Read.val_main_v16 (F := Ideal) y0 y1 y2 y3).trans ((OutProj.eq5 _ _ _ _).trans (OutProj.final5 m c).symm))), hk⟩

/-- The run of the reference of the input projection's gradient, read at its arguments. -/
theorem frame_reference9 : Cert.quiescent_Reference9Ideal := by
  intro m ρ _
  exact (θ_run Cert.Reference9Ideal.defs _ _).mono (fun r h => ⟨fun c => (h c).2, sem_eq_zero_of_no_sems (by decide) r.2⟩)
    (Cert.Reference9Ideal.Value.run (F := Ideal) m ρ)

/-- The gradient of the input projection's weight is the reference's array. -/
theorem equation9 : Cert.algebraic_Kernel9Ideal_Reference9Ideal := by
  intro m ρ m' ρ' _ hargs
  refine ⟨fun c => (Cert.Kernel9Ideal.Gen.dats m 0 c).arrAt 5 Cert.Kernel9Ideal.cfg0.N,
    Cert.Kernel9Ideal.Value.run_blocks (F := Ideal) m ρ, ?_⟩
  refine (θ_run Cert.Reference9Ideal.defs _ _).mono (fun r h c => ?_) (Cert.Reference9Ideal.Value.run (F := Ideal) m' ρ')
  obtain ⟨h0, hk⟩ := h c
  obtain ⟨a0, a1, a2, a3, a4⟩ := hargs c
  have w {X : Type} (f : FVec Ideal Cert.Reference9Ideal.S4096x768 .bf16 → FVec Ideal Cert.Reference9Ideal.S4096x768 .bf16 → FVec Ideal Cert.Reference9Ideal.S4096x768 .bf16 → FVec Ideal Cert.Reference9Ideal.S4096x256 .bf16 → FVec Ideal Cert.Reference9Ideal.S4096x1024 .bf16 → X) := congr (congr (congr (congr (congrArg f a0) a1) a2) a3) a4
  exact ⟨h0.trans ((Cert.Reference9Ideal.Read.val_main_v9_eq _ _ _ _ _).trans ((w fun y0 y1 y2 y3 y4 => Cert.Reference9Ideal.Read.val_main_v9 (F := Ideal) y0 y1 y2 y3 y4).trans ((GradWin.ref9 _ _ _ _ _).trans (GradWin.final5 m c).symm))), hk⟩

/-- The run of the reference of the first layer's input projection backwards, read at its arguments. -/
theorem frame_reference10 : Cert.quiescent_Reference10Ideal := by
  intro m ρ _
  exact (θ_run Cert.Reference10Ideal.defs _ _).mono (fun r h => ⟨fun c => (h c).2.2, sem_eq_zero_of_no_sems (by decide) r.2⟩)
    (Cert.Reference10Ideal.Value.run (F := Ideal) m ρ)

/-- The first layer's input projection backwards returns the reference's two arrays. -/
theorem equation10 : Cert.algebraic_Kernel10Ideal_Reference10Ideal := by
  intro m ρ m' ρ' _ hargs
  refine ⟨fun c => (Cert.Kernel10Ideal.Gen.dats m 0 c).arrAt 8 Cert.Kernel10Ideal.cfg0.N, fun c => (Cert.Kernel10Ideal.Gen.dats m 0 c).arrAt 9 Cert.Kernel10Ideal.cfg0.N,
    (θ_run Cert.Kernel10Ideal.defs _ _).mono (fun r h c => ⟨(h c).1, (h c).2.1, (h c).2.2.2⟩) (Cert.Kernel10Ideal.Value.run_blocks (F := Ideal) m ρ), ?_⟩
  refine (θ_run Cert.Reference10Ideal.defs _ _).mono (fun r h c => ?_) (Cert.Reference10Ideal.Value.run (F := Ideal) m' ρ')
  obtain ⟨h0, h1, hk⟩ := h c
  obtain ⟨a0, a1, a2, a3, a4, a5, a6, a7⟩ := hargs c
  have R : NormB0.Holds m c _ := NormB0.reads _ _ _ _ _ _ _ _
  have w {X : Type} (f : FVec Ideal Cert.Reference10Ideal.S4096x768 .bf16 → FVec Ideal Cert.Reference10Ideal.S4096x768 .bf16 → FVec Ideal Cert.Reference10Ideal.S4096x768 .bf16 → FVec Ideal Cert.Reference10Ideal.S4096x256 .bf16 → FVec Ideal Cert.Reference10Ideal.S2560x1024 .bf16 → FVec Ideal Cert.Reference10Ideal.S4096x1024 .f32 → FVec Ideal Cert.Reference10Ideal.S1x1024 .f32 → FVec Ideal Cert.Reference10Ideal.S4096x1024 .bf16 → X) := congr (congr (congr (congr (congr (congr (congr (congrArg f a0) a1) a2) a3) a4) a5) a6) a7
  exact ⟨h0.trans ((Cert.Reference10Ideal.Read.val_main_v41_eq m' c).trans ((w fun y0 y1 y2 y3 y4 y5 y6 y7 => Cert.Reference10Ideal.Read.val_main_v41 (F := Ideal) y0 y1 y2 y3 y4 y5 y6 y7).trans (NormB0.eq_x m c R).symm)),
    h1.trans ((Cert.Reference10Ideal.Read.val_main_v23_eq _ _ _ _ _ _).trans ((w fun y0 y1 y2 y3 y4 y5 y6 y7 => Cert.Reference10Ideal.Read.val_main_v23 (F := Ideal) y0 y1 y2 y3 y4 y5).trans (NormB0.eq_g m c R).symm)), hk⟩

/-- The run of the reference of the second layer's input projection, read at its arguments. -/
theorem frame_reference11 : Cert.quiescent_Reference11Ideal := by
  intro m ρ _
  exact (θ_run Cert.Reference11Ideal.defs _ _).mono (fun r h => ⟨fun c => (h c).2, sem_eq_zero_of_no_sems (by decide) r.2⟩)
    (Cert.Reference11Ideal.Value.run (F := Ideal) m ρ)

/-- The second layer's input projection returns the reference's array. -/
theorem equation11 : Cert.algebraic_Kernel11Ideal_Reference11Ideal := by
  intro m ρ m' ρ' _ hargs
  refine ⟨fun c => (Cert.Kernel11Ideal.Gen.dats m 0 c).arrAt 3 Cert.Kernel11Ideal.cfg0.N,
    Cert.Kernel11Ideal.Value.run_blocks (F := Ideal) m ρ, ?_⟩
  refine (θ_run Cert.Reference11Ideal.defs _ _).mono (fun r h c => ?_) (Cert.Reference11Ideal.Value.run (F := Ideal) m' ρ')
  obtain ⟨h0, hk⟩ := h c
  obtain ⟨a0, a1, a2, a3⟩ := hargs c
  have w {X : Type} (f : FVec Ideal Cert.Reference11Ideal.S4096x1024 .f32 → FVec Ideal Cert.Reference11Ideal.S1x1024 .f32 → FVec Ideal Cert.Reference11Ideal.S1792x1024 .bf16 → FVec Ideal Cert.Reference11Ideal.S1x1792 .f32 → X) := congr (congr (congr (congrArg f a0) a1) a2) a3
  exact ⟨h0.trans ((Cert.Reference11Ideal.Read.val_main_v17_eq _ _ _ _).trans ((w fun y0 y1 y2 y3 => Cert.Reference11Ideal.Read.val_main_v17 (F := Ideal) y0 y1 y2 y3).trans ((InProjB.ref17 _ _ _ _).trans (InProjB.final3 m c).symm))), hk⟩

/-- The run of the reference of the second layer's input projection backwards, read at its arguments. -/
theorem frame_reference12 : Cert.quiescent_Reference12Ideal := by
  intro m ρ _
  exact (θ_run Cert.Reference12Ideal.defs _ _).mono (fun r h => ⟨fun c => (h c).2.2.2, sem_eq_zero_of_no_sems (by decide) r.2⟩)
    (Cert.Reference12Ideal.Value.run (F := Ideal) m ρ)

/-- The second layer's input projection backwards returns the reference's three arrays. -/
theorem equation12 : Cert.algebraic_Kernel12Ideal_Reference12Ideal := by
  intro m ρ m' ρ' _ hargs
  refine ⟨fun c => (Cert.Kernel12Ideal.Gen.dats m 0 c).arrAt 5 Cert.Kernel12Ideal.cfg0.N, fun c => (Cert.Kernel12Ideal.Gen.dats m 0 c).arrAt 6 Cert.Kernel12Ideal.cfg0.N, fun c => (Cert.Kernel12Ideal.Gen.dats m 0 c).arrAt 7 Cert.Kernel12Ideal.cfg0.N,
    Cert.Kernel12Ideal.Value.run_blocks (F := Ideal) m ρ, ?_⟩
  refine (θ_run Cert.Reference12Ideal.defs _ _).mono (fun r h c => ?_) (Cert.Reference12Ideal.Value.run (F := Ideal) m' ρ')
  obtain ⟨h0, h1, h2, hk⟩ := h c
  obtain ⟨a0, a1, a2, a3, a4⟩ := hargs c
  have R : NormB1.Holds m c _ := NormB1.reads _ _ _ _ _
  have w {X : Type} (f : FVec Ideal Cert.Reference12Ideal.S4096x1792 .bf16 → FVec Ideal Cert.Reference12Ideal.S1792x1024 .bf16 → FVec Ideal Cert.Reference12Ideal.S4096x1024 .f32 → FVec Ideal Cert.Reference12Ideal.S1x1024 .f32 → FVec Ideal Cert.Reference12Ideal.S4096x1024 .bf16 → X) := congr (congr (congr (congr (congrArg f a0) a1) a2) a3) a4
  exact ⟨h0.trans ((Cert.Reference12Ideal.Read.val_main_v46_eq m' c).trans ((w fun y0 y1 y2 y3 y4 => Cert.Reference12Ideal.Read.val_main_v46 (F := Ideal) y0 y1 y2 y3 y4).trans (NormB1.eq_x m c R).symm)),
    h1.trans ((Cert.Reference12Ideal.Read.val_main_v27_eq _ _ _).trans ((w fun y0 y1 y2 y3 y4 => Cert.Reference12Ideal.Read.val_main_v27 (F := Ideal) y0 y1 y2).trans (NormB1.eq_g m c R).symm)),
    h2.trans ((Cert.Reference12Ideal.Read.val_main_v23_eq _).trans ((w fun y0 y1 y2 y3 y4 => Cert.Reference12Ideal.Read.val_main_v23 (F := Ideal) y0).trans (NormB1.eq_b m c R).symm)), hk⟩

/-- The run of the reference of the second layer's input projection's gradient, read at its arguments. -/
theorem frame_reference13 : Cert.quiescent_Reference13Ideal := by
  intro m ρ _
  exact (θ_run Cert.Reference13Ideal.defs _ _).mono (fun r h => ⟨fun c => (h c).2, sem_eq_zero_of_no_sems (by decide) r.2⟩)
    (Cert.Reference13Ideal.Value.run (F := Ideal) m ρ)

/-- The gradient of the second layer's input projection weight is the reference's array. -/
theorem equation13 : Cert.algebraic_Kernel13Ideal_Reference13Ideal := by
  intro m ρ m' ρ' _ hargs
  refine ⟨fun c => (Cert.Kernel13Ideal.Gen.dats m 0 c).arrAt 2 Cert.Kernel13Ideal.cfg0.N,
    Cert.Kernel13Ideal.Value.run_blocks (F := Ideal) m ρ, ?_⟩
  refine (θ_run Cert.Reference13Ideal.defs _ _).mono (fun r h c => ?_) (Cert.Reference13Ideal.Value.run (F := Ideal) m' ρ')
  obtain ⟨h0, hk⟩ := h c
  obtain ⟨a0, a1⟩ := hargs c
  have w {X : Type} (f : FVec Ideal Cert.Reference13Ideal.S4096x1792 .bf16 → FVec Ideal Cert.Reference13Ideal.S4096x1024 .bf16 → X) := congr (congrArg f a0) a1
  exact ⟨h0.trans ((Cert.Reference13Ideal.Read.val_main_v8_eq _ _).trans ((w fun y0 y1 => Cert.Reference13Ideal.Read.val_main_v8 (F := Ideal) y0 y1).trans ((GradWin1.ref8 _ _).trans (GradWin1.final2 m c).symm))), hk⟩

/-- The run of the reference of the first normalisation, read at its arguments. -/
theorem frame_reference14 : Cert.quiescent_Reference14Ideal := by
  intro m ρ _
  exact (θ_run Cert.Reference14Ideal.defs _ _).mono (fun r h => ⟨fun c => (h c).2, sem_eq_zero_of_no_sems (by decide) r.2⟩)
    (Cert.Reference14Ideal.Value.run (F := Ideal) m ρ)

/-- The first normalisation returns the reference's array. -/
theorem equation14 : Cert.algebraic_Kernel14Ideal_Reference14Ideal := by
  intro m ρ m' ρ' _ hargs
  refine ⟨fun c => (Cert.Kernel14Ideal.Gen.dats m 0 c).arrAt 2 Cert.Kernel14Ideal.cfg0.N,
    Cert.Kernel14Ideal.Value.run_blocks (F := Ideal) m ρ, ?_⟩
  refine (θ_run Cert.Reference14Ideal.defs _ _).mono (fun r h c => ?_) (Cert.Reference14Ideal.Value.run (F := Ideal) m' ρ')
  obtain ⟨h0, hk⟩ := h c
  obtain ⟨a0, a1⟩ := hargs c
  have w {X : Type} (f : FVec Ideal Cert.Reference14Ideal.S4096x1024 .f32 → FVec Ideal Cert.Reference14Ideal.S1x1024 .f32 → X) := congr (congrArg f a0) a1
  exact ⟨h0.trans ((Cert.Reference14Ideal.Read.val_main_v12_eq _ _).trans ((w fun y0 y1 => Cert.Reference14Ideal.Read.val_main_v12 (F := Ideal) y0 y1).trans ((NormFirst.ref12 _ _).trans (NormFirst.final2 m c).symm))), hk⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Pre_finite.Gen.facts, Cert.Pre_finite2.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  trivial, equation, trivial, equation2, trivial, equation3, trivial, equation4,
  trivial, equation5, trivial, equation6, trivial, equation7, trivial, equation8, trivial, equation9,
  trivial, equation10, trivial, equation11, trivial, equation12, trivial, equation13, trivial, equation14⟩

end Cert.Proof

end
